-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.BufferStatement Cert.KernelIdeal.S2x2x54x2x512 Cert.KernelIdeal.S2x2x54x1x512
  ∧ IdealRules.bf16_pair.Statement Cert.KernelIdeal.S1x1x108x512 Cert.KernelIdeal.S1x1x54x512
  ∧ IdealRules.bf16_pair.Statement Cert.KernelIdeal.S1x1x54x2x512 Cert.KernelIdeal.S1x1x54x1x512
  ∧ IdealRules.bf16_pair.Statement Cert.KernelIdeal.S1x1x1x2x256 Cert.KernelIdeal.S1x1x1x1x256
  ∧ IdealRules.bf16_pair.Statement Cert.KernelIdeal.S2x256 Cert.KernelIdeal.S1x256

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x1x27648 : Shape := ⟨3, ![128, 1, 27648]⟩
abbrev S13824x2560 : Shape := ⟨2, ![13824, 2560]⟩
abbrev S216x2560 : Shape := ⟨2, ![216, 2560]⟩
abbrev S128x27648 : Shape := ⟨2, ![128, 27648]⟩
abbrev S128x2560 : Shape := ⟨2, ![128, 2560]⟩
abbrev S2x9x128x1536 : Shape := ⟨4, ![2, 9, 128, 1536]⟩
abbrev S9x128x3072 : Shape := ⟨3, ![9, 128, 3072]⟩
abbrev S6x2x1536x512 : Shape := ⟨4, ![6, 2, 1536, 512]⟩
abbrev S2x2x216x512 : Shape := ⟨4, ![2, 2, 216, 512]⟩
abbrev S2x2x54x512 : Shape := ⟨4, ![2, 2, 54, 512]⟩
abbrev S2x128x512 : Shape := ⟨3, ![2, 128, 512]⟩
abbrev S9 : Shape := ⟨1, ![9]⟩
abbrev S6 : Shape := ⟨1, ![6]⟩
abbrev S2 : Shape := ⟨1, ![2]⟩
abbrev S1 : Shape := ⟨1, ![1]⟩
abbrev S_ : Shape := ⟨0, ![]⟩
abbrev S1x1x216x512 : Shape := ⟨4, ![1, 1, 216, 512]⟩
abbrev S216x512 : Shape := ⟨2, ![216, 512]⟩
abbrev S1x1x128x1536 : Shape := ⟨4, ![1, 1, 128, 1536]⟩
abbrev S128x1536 : Shape := ⟨2, ![128, 1536]⟩
abbrev S1x1x1536x512 : Shape := ⟨4, ![1, 1, 1536, 512]⟩
abbrev S1536x512 : Shape := ⟨2, ![1536, 512]⟩
abbrev S108x512 : Shape := ⟨2, ![108, 512]⟩
abbrev S54x512 : Shape := ⟨2, ![54, 512]⟩
abbrev S1x1x108x512 : Shape := ⟨4, ![1, 1, 108, 512]⟩
abbrev S1x1x54x512 : Shape := ⟨4, ![1, 1, 54, 512]⟩
abbrev S128x128 : Shape := ⟨2, ![128, 128]⟩
abbrev S1x1x128x128 : Shape := ⟨4, ![1, 1, 128, 128]⟩
abbrev S128x128x1 : Shape := ⟨3, ![128, 128, 1]⟩
abbrev S1x128x128 : Shape := ⟨3, ![1, 128, 128]⟩
abbrev S1x128x256 : Shape := ⟨3, ![1, 128, 256]⟩
abbrev S128x256 : Shape := ⟨2, ![128, 256]⟩
abbrev S1x1x128x256 : Shape := ⟨4, ![1, 1, 128, 256]⟩
abbrev S32x256 : Shape := ⟨2, ![32, 256]⟩
abbrev S256x256 : Shape := ⟨2, ![256, 256]⟩
abbrev S1x1x1x256 : Shape := ⟨4, ![1, 1, 1, 256]⟩
abbrev S1x256 : Shape := ⟨2, ![1, 256]⟩
abbrev S2x256 : Shape := ⟨2, ![2, 256]⟩
abbrev S128x512 : Shape := ⟨2, ![128, 512]⟩
abbrev S1x128x512 : Shape := ⟨3, ![1, 128, 512]⟩

abbrev nBuf : Space → Nat
  | .hbm => 7
  | .vmem => 6
  | .smem => 0
  | _ => 0

abbrev bufTy : (tb : Table) → Fin (tcTables nBuf tb) → BufTy
  | .hbm, ⟨0, _⟩ => ⟨S128x1x27648, .bf16⟩
  | .hbm, ⟨1, _⟩ => ⟨S13824x2560, .i8⟩
  | .hbm, ⟨2, _⟩ => ⟨S216x2560, .bf16⟩
  | .hbm, ⟨3, _⟩ => ⟨S13824x2560, .i8⟩
  | .hbm, ⟨4, _⟩ => ⟨S216x2560, .bf16⟩
  | .hbm, ⟨5, _⟩ => ⟨S128x27648, .bf16⟩
  | .hbm, ⟨6, _⟩ => ⟨S128x2560, .bf16⟩
  | .local _ .vmem, ⟨0, _⟩ => ⟨S2x9x128x1536, .bf16⟩
  | .local _ .vmem, ⟨1, _⟩ => ⟨S9x128x3072, .bf16⟩
  | .local _ .vmem, ⟨2, _⟩ => ⟨S6x2x1536x512, .i8⟩
  | .local _ .vmem, ⟨3, _⟩ => ⟨S2x2x216x512, .bf16⟩
  | .local _ .vmem, ⟨4, _⟩ => ⟨S2x2x54x512, .i32⟩
  | .local _ .vmem, ⟨5, _⟩ => ⟨S2x128x512, .bf16⟩
  | _, _ => ⟨S128x1x27648, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩

abbrev nD : Nat := 1
abbrev τ : Topo := Topo.v7x

variable {F : FTy → Type} [BitOps F]

abbrev grid0 : Pipeline.Grid := .none

@[reducible] def k0_t1_loop : Scf.Loop 32 :=
  let c0_i32_254_r0 : BitVec 32 := 0#32
  let c9_i32_r0 : BitVec 32 := 9#32
  let v218_r0 : BitVec 32 := Scalar.addi c0_i32_254_r0 c9_i32_r0
  let c1_i32_255_r0 : BitVec 32 := 1#32
  ⟨c0_i32_254_r0, v218_r0, c1_i32_255_r0⟩
def k0_off1 (k0_t1 : Fin k0_t1_loop.trips) : Fin 1 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_298_r0 : BitVec 32 := 6#32
  let c0_i32_299_r0 : BitVec 32 := 0#32
  let v281_r0 : BitVec 1 := Scalar.cmpi .eq c6_i32_298_r0 c0_i32_299_r0
  let c1_i32_300_r0 : BitVec 32 := 1#32
  let v282_r0 : BitVec 32 := Scalar.select v281_r0 c1_i32_300_r0 c6_i32_298_r0
  let v283_r0 : BitVec 32 := Scalar.remsi v253_r0 v282_r0
  let c0_i32_302_r0 : BitVec 32 := 0#32
  let v285_r0 : BitVec 1 := Scalar.cmpi .slt v283_r0 c0_i32_302_r0
  let c0_i32_303_r0 : BitVec 32 := 0#32
  let v286_r0 : BitVec 1 := Scalar.cmpi .slt v282_r0 c0_i32_303_r0
  let v287_r0 : BitVec 1 := Scalar.xori v285_r0 v286_r0
  let c0_i32_301_r0 : BitVec 32 := 0#32
  let v284_r0 : BitVec 1 := Scalar.cmpi .ne v283_r0 c0_i32_301_r0
  let v288_r0 : BitVec 1 := Scalar.andi v287_r0 v284_r0
  let v289_r0 : BitVec 32 := Scalar.addi v283_r0 v282_r0
  let v290_r0 : BitVec 32 := Scalar.select v288_r0 v289_r0 v283_r0
  ![v290_r0.toNat]
def k0_off2 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_298_r0 : BitVec 32 := 6#32
  let c0_i32_299_r0 : BitVec 32 := 0#32
  let v281_r0 : BitVec 1 := Scalar.cmpi .eq c6_i32_298_r0 c0_i32_299_r0
  let c1_i32_300_r0 : BitVec 32 := 1#32
  let v282_r0 : BitVec 32 := Scalar.select v281_r0 c1_i32_300_r0 c6_i32_298_r0
  let v283_r0 : BitVec 32 := Scalar.remsi v253_r0 v282_r0
  let c0_i32_302_r0 : BitVec 32 := 0#32
  let v285_r0 : BitVec 1 := Scalar.cmpi .slt v283_r0 c0_i32_302_r0
  let c0_i32_303_r0 : BitVec 32 := 0#32
  let v286_r0 : BitVec 1 := Scalar.cmpi .slt v282_r0 c0_i32_303_r0
  let v287_r0 : BitVec 1 := Scalar.xori v285_r0 v286_r0
  let c0_i32_301_r0 : BitVec 32 := 0#32
  let v284_r0 : BitVec 1 := Scalar.cmpi .ne v283_r0 c0_i32_301_r0
  let v288_r0 : BitVec 1 := Scalar.andi v287_r0 v284_r0
  let v289_r0 : BitVec 32 := Scalar.addi v283_r0 v282_r0
  let v290_r0 : BitVec 32 := Scalar.select v288_r0 v289_r0 v283_r0
  let c0_i32_308_r0 : BitVec 32 := 0#32
  let c0_i32_309_r0 : BitVec 32 := 0#32
  let c0_i32_310_r0 : BitVec 32 := 0#32
  ![v290_r0.toNat, 0, 0, 0]
def k0_off3 (k0_t1 : Fin k0_t1_loop.trips) : Fin 2 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c9_i32_292_r0 : BitVec 32 := 9#32
  let c0_i32_293_r0 : BitVec 32 := 0#32
  let v271_r0 : BitVec 1 := Scalar.cmpi .eq c9_i32_292_r0 c0_i32_293_r0
  let c1_i32_294_r0 : BitVec 32 := 1#32
  let v272_r0 : BitVec 32 := Scalar.select v271_r0 c1_i32_294_r0 c9_i32_292_r0
  let v273_r0 : BitVec 32 := Scalar.remsi v253_r0 v272_r0
  let c0_i32_296_r0 : BitVec 32 := 0#32
  let v275_r0 : BitVec 1 := Scalar.cmpi .slt v273_r0 c0_i32_296_r0
  let c0_i32_297_r0 : BitVec 32 := 0#32
  let v276_r0 : BitVec 1 := Scalar.cmpi .slt v272_r0 c0_i32_297_r0
  let v277_r0 : BitVec 1 := Scalar.xori v275_r0 v276_r0
  let c0_i32_295_r0 : BitVec 32 := 0#32
  let v274_r0 : BitVec 1 := Scalar.cmpi .ne v273_r0 c0_i32_295_r0
  let v278_r0 : BitVec 1 := Scalar.andi v277_r0 v274_r0
  let v279_r0 : BitVec 32 := Scalar.addi v273_r0 v272_r0
  let v280_r0 : BitVec 32 := Scalar.select v278_r0 v279_r0 v273_r0
  let c1536_i32_304_r0 : BitVec 32 := 1536#32
  let v291_r0 : BitVec 32 := Scalar.muli v280_r0 c1536_i32_304_r0
  let c0_i32_286_r0 : BitVec 32 := 0#32
  let v255_r0 : BitVec 1 := Scalar.cmpi .sgt v253_r0 c0_i32_286_r0
  let v256_r0 : BitVec 32 := Scalar.extui v255_r0
  let c0_i32_287_r0 : BitVec 32 := 0#32
  let v257_r0 : BitVec 1 := Scalar.cmpi .slt v253_r0 c0_i32_287_r0
  let v258_r0 : BitVec 32 := Scalar.extui v257_r0
  let v259_r0 : BitVec 32 := Scalar.subi v256_r0 v258_r0
  let c9_i32_285_r0 : BitVec 32 := 9#32
  let c0_i32_288_r0 : BitVec 32 := 0#32
  let v260_r0 : BitVec 1 := Scalar.cmpi .sgt c9_i32_285_r0 c0_i32_288_r0
  let v261_r0 : BitVec 32 := Scalar.extui v260_r0
  let c0_i32_289_r0 : BitVec 32 := 0#32
  let v262_r0 : BitVec 1 := Scalar.cmpi .slt c9_i32_285_r0 c0_i32_289_r0
  let v263_r0 : BitVec 32 := Scalar.extui v262_r0
  let v264_r0 : BitVec 32 := Scalar.subi v261_r0 v263_r0
  let v265_r0 : BitVec 1 := Scalar.cmpi .ne v259_r0 v264_r0
  let v266_r0 : BitVec 32 := Scalar.remsi v253_r0 c9_i32_285_r0
  let c0_i32_290_r0 : BitVec 32 := 0#32
  let v267_r0 : BitVec 1 := Scalar.cmpi .ne v266_r0 c0_i32_290_r0
  let v268_r0 : BitVec 1 := Scalar.andi v265_r0 v267_r0
  let v254_r0 : BitVec 32 := Scalar.divsi v253_r0 c9_i32_285_r0
  let c1_i32_291_r0 : BitVec 32 := 1#32
  let v269_r0 : BitVec 32 := Scalar.subi v254_r0 c1_i32_291_r0
  let v270_r0 : BitVec 32 := Scalar.select v268_r0 v269_r0 v254_r0
  let c512_i32_305_r0 : BitVec 32 := 512#32
  let v292_r0 : BitVec 32 := Scalar.muli v270_r0 c512_i32_305_r0
  ![v291_r0.toNat, v292_r0.toNat]
def k0_off4 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_298_r0 : BitVec 32 := 6#32
  let c0_i32_299_r0 : BitVec 32 := 0#32
  let v281_r0 : BitVec 1 := Scalar.cmpi .eq c6_i32_298_r0 c0_i32_299_r0
  let c1_i32_300_r0 : BitVec 32 := 1#32
  let v282_r0 : BitVec 32 := Scalar.select v281_r0 c1_i32_300_r0 c6_i32_298_r0
  let v283_r0 : BitVec 32 := Scalar.remsi v253_r0 v282_r0
  let c0_i32_302_r0 : BitVec 32 := 0#32
  let v285_r0 : BitVec 1 := Scalar.cmpi .slt v283_r0 c0_i32_302_r0
  let c0_i32_303_r0 : BitVec 32 := 0#32
  let v286_r0 : BitVec 1 := Scalar.cmpi .slt v282_r0 c0_i32_303_r0
  let v287_r0 : BitVec 1 := Scalar.xori v285_r0 v286_r0
  let c0_i32_301_r0 : BitVec 32 := 0#32
  let v284_r0 : BitVec 1 := Scalar.cmpi .ne v283_r0 c0_i32_301_r0
  let v288_r0 : BitVec 1 := Scalar.andi v287_r0 v284_r0
  let v289_r0 : BitVec 32 := Scalar.addi v283_r0 v282_r0
  let v290_r0 : BitVec 32 := Scalar.select v288_r0 v289_r0 v283_r0
  let c1_i32_311_r0 : BitVec 32 := 1#32
  let c0_i32_312_r0 : BitVec 32 := 0#32
  let c0_i32_313_r0 : BitVec 32 := 0#32
  ![v290_r0.toNat, 1, 0, 0]
def k0_cond1 (k0_t1 : Fin k0_t1_loop.trips) : BitVec 1 :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_314_r0 : BitVec 32 := 6#32
  let v305_r0 : BitVec 32 := Scalar.addi v253_r0 c6_i32_314_r0
  let c1_i32_315_r0 : BitVec 32 := 1#32
  let v306_r0 : BitVec 32 := Scalar.subi v305_r0 c1_i32_315_r0
  let c45_i32_r0 : BitVec 32 := 45#32
  let v307_r0 : BitVec 1 := Scalar.cmpi .slt v306_r0 c45_i32_r0
  let v308_r0 : BitVec 32 := Scalar.extui v307_r0
  let c0_i32_316_r0 : BitVec 32 := 0#32
  let v309_r0 : BitVec 1 := Scalar.cmpi .ne v308_r0 c0_i32_316_r0
  v309_r0

def k0_off5 (k0_t1 : Fin k0_t1_loop.trips) : Fin 1 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_1367_r0 : BitVec 32 := 6#32
  let v3015_r0 : BitVec 32 := Scalar.addi v253_r0 c6_i32_1367_r0
  let c1_i32_1368_r0 : BitVec 32 := 1#32
  let v3016_r0 : BitVec 32 := Scalar.subi v3015_r0 c1_i32_1368_r0
  let c6_i32_1382_r0 : BitVec 32 := 6#32
  let c0_i32_1383_r0 : BitVec 32 := 0#32
  let v3044_r0 : BitVec 1 := Scalar.cmpi .eq c6_i32_1382_r0 c0_i32_1383_r0
  let c1_i32_1384_r0 : BitVec 32 := 1#32
  let v3045_r0 : BitVec 32 := Scalar.select v3044_r0 c1_i32_1384_r0 c6_i32_1382_r0
  let v3046_r0 : BitVec 32 := Scalar.remsi v3016_r0 v3045_r0
  let c0_i32_1386_r0 : BitVec 32 := 0#32
  let v3048_r0 : BitVec 1 := Scalar.cmpi .slt v3046_r0 c0_i32_1386_r0
  let c0_i32_1387_r0 : BitVec 32 := 0#32
  let v3049_r0 : BitVec 1 := Scalar.cmpi .slt v3045_r0 c0_i32_1387_r0
  let v3050_r0 : BitVec 1 := Scalar.xori v3048_r0 v3049_r0
  let c0_i32_1385_r0 : BitVec 32 := 0#32
  let v3047_r0 : BitVec 1 := Scalar.cmpi .ne v3046_r0 c0_i32_1385_r0
  let v3051_r0 : BitVec 1 := Scalar.andi v3050_r0 v3047_r0
  let v3052_r0 : BitVec 32 := Scalar.addi v3046_r0 v3045_r0
  let v3053_r0 : BitVec 32 := Scalar.select v3051_r0 v3052_r0 v3046_r0
  ![v3053_r0.toNat]
def k0_off6 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_1367_r0 : BitVec 32 := 6#32
  let v3015_r0 : BitVec 32 := Scalar.addi v253_r0 c6_i32_1367_r0
  let c1_i32_1368_r0 : BitVec 32 := 1#32
  let v3016_r0 : BitVec 32 := Scalar.subi v3015_r0 c1_i32_1368_r0
  let c6_i32_1382_r0 : BitVec 32 := 6#32
  let c0_i32_1383_r0 : BitVec 32 := 0#32
  let v3044_r0 : BitVec 1 := Scalar.cmpi .eq c6_i32_1382_r0 c0_i32_1383_r0
  let c1_i32_1384_r0 : BitVec 32 := 1#32
  let v3045_r0 : BitVec 32 := Scalar.select v3044_r0 c1_i32_1384_r0 c6_i32_1382_r0
  let v3046_r0 : BitVec 32 := Scalar.remsi v3016_r0 v3045_r0
  let c0_i32_1386_r0 : BitVec 32 := 0#32
  let v3048_r0 : BitVec 1 := Scalar.cmpi .slt v3046_r0 c0_i32_1386_r0
  let c0_i32_1387_r0 : BitVec 32 := 0#32
  let v3049_r0 : BitVec 1 := Scalar.cmpi .slt v3045_r0 c0_i32_1387_r0
  let v3050_r0 : BitVec 1 := Scalar.xori v3048_r0 v3049_r0
  let c0_i32_1385_r0 : BitVec 32 := 0#32
  let v3047_r0 : BitVec 1 := Scalar.cmpi .ne v3046_r0 c0_i32_1385_r0
  let v3051_r0 : BitVec 1 := Scalar.andi v3050_r0 v3047_r0
  let v3052_r0 : BitVec 32 := Scalar.addi v3046_r0 v3045_r0
  let v3053_r0 : BitVec 32 := Scalar.select v3051_r0 v3052_r0 v3046_r0
  let c0_i32_1392_r0 : BitVec 32 := 0#32
  let c0_i32_1393_r0 : BitVec 32 := 0#32
  let c0_i32_1394_r0 : BitVec 32 := 0#32
  ![v3053_r0.toNat, 0, 0, 0]
def k0_off7 (k0_t1 : Fin k0_t1_loop.trips) : Fin 2 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_1367_r0 : BitVec 32 := 6#32
  let v3015_r0 : BitVec 32 := Scalar.addi v253_r0 c6_i32_1367_r0
  let c1_i32_1368_r0 : BitVec 32 := 1#32
  let v3016_r0 : BitVec 32 := Scalar.subi v3015_r0 c1_i32_1368_r0
  let c9_i32_1376_r0 : BitVec 32 := 9#32
  let c0_i32_1377_r0 : BitVec 32 := 0#32
  let v3034_r0 : BitVec 1 := Scalar.cmpi .eq c9_i32_1376_r0 c0_i32_1377_r0
  let c1_i32_1378_r0 : BitVec 32 := 1#32
  let v3035_r0 : BitVec 32 := Scalar.select v3034_r0 c1_i32_1378_r0 c9_i32_1376_r0
  let v3036_r0 : BitVec 32 := Scalar.remsi v3016_r0 v3035_r0
  let c0_i32_1380_r0 : BitVec 32 := 0#32
  let v3038_r0 : BitVec 1 := Scalar.cmpi .slt v3036_r0 c0_i32_1380_r0
  let c0_i32_1381_r0 : BitVec 32 := 0#32
  let v3039_r0 : BitVec 1 := Scalar.cmpi .slt v3035_r0 c0_i32_1381_r0
  let v3040_r0 : BitVec 1 := Scalar.xori v3038_r0 v3039_r0
  let c0_i32_1379_r0 : BitVec 32 := 0#32
  let v3037_r0 : BitVec 1 := Scalar.cmpi .ne v3036_r0 c0_i32_1379_r0
  let v3041_r0 : BitVec 1 := Scalar.andi v3040_r0 v3037_r0
  let v3042_r0 : BitVec 32 := Scalar.addi v3036_r0 v3035_r0
  let v3043_r0 : BitVec 32 := Scalar.select v3041_r0 v3042_r0 v3036_r0
  let c1536_i32_1388_r0 : BitVec 32 := 1536#32
  let v3054_r0 : BitVec 32 := Scalar.muli v3043_r0 c1536_i32_1388_r0
  let c0_i32_1370_r0 : BitVec 32 := 0#32
  let v3018_r0 : BitVec 1 := Scalar.cmpi .sgt v3016_r0 c0_i32_1370_r0
  let v3019_r0 : BitVec 32 := Scalar.extui v3018_r0
  let c0_i32_1371_r0 : BitVec 32 := 0#32
  let v3020_r0 : BitVec 1 := Scalar.cmpi .slt v3016_r0 c0_i32_1371_r0
  let v3021_r0 : BitVec 32 := Scalar.extui v3020_r0
  let v3022_r0 : BitVec 32 := Scalar.subi v3019_r0 v3021_r0
  let c9_i32_1369_r0 : BitVec 32 := 9#32
  let c0_i32_1372_r0 : BitVec 32 := 0#32
  let v3023_r0 : BitVec 1 := Scalar.cmpi .sgt c9_i32_1369_r0 c0_i32_1372_r0
  let v3024_r0 : BitVec 32 := Scalar.extui v3023_r0
  let c0_i32_1373_r0 : BitVec 32 := 0#32
  let v3025_r0 : BitVec 1 := Scalar.cmpi .slt c9_i32_1369_r0 c0_i32_1373_r0
  let v3026_r0 : BitVec 32 := Scalar.extui v3025_r0
  let v3027_r0 : BitVec 32 := Scalar.subi v3024_r0 v3026_r0
  let v3028_r0 : BitVec 1 := Scalar.cmpi .ne v3022_r0 v3027_r0
  let v3029_r0 : BitVec 32 := Scalar.remsi v3016_r0 c9_i32_1369_r0
  let c0_i32_1374_r0 : BitVec 32 := 0#32
  let v3030_r0 : BitVec 1 := Scalar.cmpi .ne v3029_r0 c0_i32_1374_r0
  let v3031_r0 : BitVec 1 := Scalar.andi v3028_r0 v3030_r0
  let v3017_r0 : BitVec 32 := Scalar.divsi v3016_r0 c9_i32_1369_r0
  let c1_i32_1375_r0 : BitVec 32 := 1#32
  let v3032_r0 : BitVec 32 := Scalar.subi v3017_r0 c1_i32_1375_r0
  let v3033_r0 : BitVec 32 := Scalar.select v3031_r0 v3032_r0 v3017_r0
  let c512_i32_1389_r0 : BitVec 32 := 512#32
  let v3055_r0 : BitVec 32 := Scalar.muli v3033_r0 c512_i32_1389_r0
  ![v3054_r0.toNat, v3055_r0.toNat]
def k0_off8 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_1367_r0 : BitVec 32 := 6#32
  let v3015_r0 : BitVec 32 := Scalar.addi v253_r0 c6_i32_1367_r0
  let c1_i32_1368_r0 : BitVec 32 := 1#32
  let v3016_r0 : BitVec 32 := Scalar.subi v3015_r0 c1_i32_1368_r0
  let c6_i32_1382_r0 : BitVec 32 := 6#32
  let c0_i32_1383_r0 : BitVec 32 := 0#32
  let v3044_r0 : BitVec 1 := Scalar.cmpi .eq c6_i32_1382_r0 c0_i32_1383_r0
  let c1_i32_1384_r0 : BitVec 32 := 1#32
  let v3045_r0 : BitVec 32 := Scalar.select v3044_r0 c1_i32_1384_r0 c6_i32_1382_r0
  let v3046_r0 : BitVec 32 := Scalar.remsi v3016_r0 v3045_r0
  let c0_i32_1386_r0 : BitVec 32 := 0#32
  let v3048_r0 : BitVec 1 := Scalar.cmpi .slt v3046_r0 c0_i32_1386_r0
  let c0_i32_1387_r0 : BitVec 32 := 0#32
  let v3049_r0 : BitVec 1 := Scalar.cmpi .slt v3045_r0 c0_i32_1387_r0
  let v3050_r0 : BitVec 1 := Scalar.xori v3048_r0 v3049_r0
  let c0_i32_1385_r0 : BitVec 32 := 0#32
  let v3047_r0 : BitVec 1 := Scalar.cmpi .ne v3046_r0 c0_i32_1385_r0
  let v3051_r0 : BitVec 1 := Scalar.andi v3050_r0 v3047_r0
  let v3052_r0 : BitVec 32 := Scalar.addi v3046_r0 v3045_r0
  let v3053_r0 : BitVec 32 := Scalar.select v3051_r0 v3052_r0 v3046_r0
  let c1_i32_1395_r0 : BitVec 32 := 1#32
  let c0_i32_1396_r0 : BitVec 32 := 0#32
  let c0_i32_1397_r0 : BitVec 32 := 0#32
  ![v3053_r0.toNat, 1, 0, 0]
def k0_off9 (k0_t1 : Fin k0_t1_loop.trips) : Fin 1 → Nat :=
  let c0_i32_254_r0 : BitVec 32 := 0#32
  let c1_i32_255_r0 : BitVec 32 := 1#32
  let arg16_r0 : BitVec 32 := Scf.iv c0_i32_254_r0 c1_i32_255_r0 k0_t1
  ![arg16_r0.toNat]
def k0_off10 (k0_t1 : Fin k0_t1_loop.trips) : Fin 4 → Nat :=
  let c0_i32_321_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let c0_i32_322_r0 : BitVec 32 := 0#32
  let c0_i32_323_r0 : BitVec 32 := 0#32
  ![0, arg16_r0.toNat, 0, 0]
def k0_off11 (k0_t1 : Fin k0_t1_loop.trips) (c0_i32_318_r0 : BitVec 32) : Fin 2 → Nat :=
  let c0_i32_324_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let c1536_i32_317_r0 : BitVec 32 := 1536#32
  let v310_r0 : BitVec 32 := Scalar.muli arg16_r0 c1536_i32_317_r0
  let v311_r0 : BitVec 32 := Scalar.addi c0_i32_318_r0 v310_r0
  ![0, v311_r0.toNat]
def k0_off12 (k0_t1 : Fin k0_t1_loop.trips) : Fin 4 → Nat :=
  let c1_i32_325_r0 : BitVec 32 := 1#32
  let c0_i32_254_r0 : BitVec 32 := 0#32
  let c1_i32_255_r0 : BitVec 32 := 1#32
  let arg16_r0 : BitVec 32 := Scf.iv c0_i32_254_r0 c1_i32_255_r0 k0_t1
  let c0_i32_326_r0 : BitVec 32 := 0#32
  let c0_i32_327_r0 : BitVec 32 := 0#32
  ![1, arg16_r0.toNat, 0, 0]
def k0_off13 (k0_t1 : Fin k0_t1_loop.trips) : Fin 4 → Nat :=
  let c0_331_r0 : Index := 0#32
  let c0_i32_254_r0 : BitVec 32 := 0#32
  let c1_i32_255_r0 : BitVec 32 := 1#32
  let arg16_r0 : BitVec 32 := Scf.iv c0_i32_254_r0 c1_i32_255_r0 k0_t1
  let v329_r0 : Index := Scalar.indexCast arg16_r0
  let c0_332_r0 : Index := 0#32
  let c0_333_r0 : Index := 0#32
  ![0, v329_r0.toNat, 0, 0]
def k0_off14 (k0_t1 : Fin k0_t1_loop.trips) : Fin 4 → Nat :=
  let c1_334_r0 : Index := 1#32
  let c0_i32_254_r0 : BitVec 32 := 0#32
  let c1_i32_255_r0 : BitVec 32 := 1#32
  let arg16_r0 : BitVec 32 := Scf.iv c0_i32_254_r0 c1_i32_255_r0 k0_t1
  let v333_r0 : Index := Scalar.indexCast arg16_r0
  let c0_335_r0 : Index := 0#32
  let c0_336_r0 : Index := 0#32
  ![1, v333_r0.toNat, 0, 0]
def k0_off15 (k0_t1 : Fin k0_t1_loop.trips) : Fin 3 → Nat :=
  let c0_i32_254_r0 : BitVec 32 := 0#32
  let c1_i32_255_r0 : BitVec 32 := 1#32
  let arg16_r0 : BitVec 32 := Scf.iv c0_i32_254_r0 c1_i32_255_r0 k0_t1
  let v359_r0 : Index := Scalar.indexCast arg16_r0
  let c0_342_r0 : Index := 0#32
  let c0_343_r0 : Index := 0#32
  ![v359_r0.toNat, 0, 0]
def k0_off16 (k0_t1 : Fin k0_t1_loop.trips) : Fin 3 → Nat :=
  let c0_i32_254_r0 : BitVec 32 := 0#32
  let c1_i32_255_r0 : BitVec 32 := 1#32
  let arg16_r0 : BitVec 32 := Scf.iv c0_i32_254_r0 c1_i32_255_r0 k0_t1
  let v385_r0 : Index := Scalar.indexCast arg16_r0
  let c0_349_r0 : Index := 0#32
  let c128_r0 : Index := 128#32
  ![v385_r0.toNat, 0, 128]
def k0_off17 (k0_t1 : Fin k0_t1_loop.trips) : Fin 4 → Nat :=
  let c0_350_r0 : Index := 0#32
  let c0_i32_254_r0 : BitVec 32 := 0#32
  let c1_i32_255_r0 : BitVec 32 := 1#32
  let arg16_r0 : BitVec 32 := Scf.iv c0_i32_254_r0 c1_i32_255_r0 k0_t1
  let v389_r0 : Index := Scalar.indexCast arg16_r0
  let c0_351_r0 : Index := 0#32
  let c128_352_r0 : Index := 128#32
  ![0, v389_r0.toNat, 0, 128]
def k0_off18 (k0_t1 : Fin k0_t1_loop.trips) : Fin 4 → Nat :=
  let c1_353_r0 : Index := 1#32
  let c0_i32_254_r0 : BitVec 32 := 0#32
  let c1_i32_255_r0 : BitVec 32 := 1#32
  let arg16_r0 : BitVec 32 := Scf.iv c0_i32_254_r0 c1_i32_255_r0 k0_t1
  let v393_r0 : Index := Scalar.indexCast arg16_r0
  let c0_354_r0 : Index := 0#32
  let c128_355_r0 : Index := 128#32
  ![1, v393_r0.toNat, 0, 128]
def k0_off19 (k0_t1 : Fin k0_t1_loop.trips) : Fin 3 → Nat :=
  let c0_i32_254_r0 : BitVec 32 := 0#32
  let c1_i32_255_r0 : BitVec 32 := 1#32
  let arg16_r0 : BitVec 32 := Scf.iv c0_i32_254_r0 c1_i32_255_r0 k0_t1
  let v419_r0 : Index := Scalar.indexCast arg16_r0
  let c0_362_r0 : Index := 0#32
  let c256_363_r0 : Index := 256#32
  ![v419_r0.toNat, 0, 256]
def k0_off20 (k0_t1 : Fin k0_t1_loop.trips) : Fin 3 → Nat :=
  let c0_i32_254_r0 : BitVec 32 := 0#32
  let c1_i32_255_r0 : BitVec 32 := 1#32
  let arg16_r0 : BitVec 32 := Scf.iv c0_i32_254_r0 c1_i32_255_r0 k0_t1
  let v445_r0 : Index := Scalar.indexCast arg16_r0
  let c0_370_r0 : Index := 0#32
  let c384_r0 : Index := 384#32
  ![v445_r0.toNat, 0, 384]
def k0_off21 (k0_t1 : Fin k0_t1_loop.trips) : Fin 4 → Nat :=
  let c0_371_r0 : Index := 0#32
  let c0_i32_254_r0 : BitVec 32 := 0#32
  let c1_i32_255_r0 : BitVec 32 := 1#32
  let arg16_r0 : BitVec 32 := Scf.iv c0_i32_254_r0 c1_i32_255_r0 k0_t1
  let v449_r0 : Index := Scalar.indexCast arg16_r0
  let c0_372_r0 : Index := 0#32
  let c256_373_r0 : Index := 256#32
  ![0, v449_r0.toNat, 0, 256]
def k0_off22 (k0_t1 : Fin k0_t1_loop.trips) : Fin 4 → Nat :=
  let c1_374_r0 : Index := 1#32
  let c0_i32_254_r0 : BitVec 32 := 0#32
  let c1_i32_255_r0 : BitVec 32 := 1#32
  let arg16_r0 : BitVec 32 := Scf.iv c0_i32_254_r0 c1_i32_255_r0 k0_t1
  let v453_r0 : Index := Scalar.indexCast arg16_r0
  let c0_375_r0 : Index := 0#32
  let c256_376_r0 : Index := 256#32
  ![1, v453_r0.toNat, 0, 256]
def k0_off23 (k0_t1 : Fin k0_t1_loop.trips) : Fin 3 → Nat :=
  let c0_i32_254_r0 : BitVec 32 := 0#32
  let c1_i32_255_r0 : BitVec 32 := 1#32
  let arg16_r0 : BitVec 32 := Scf.iv c0_i32_254_r0 c1_i32_255_r0 k0_t1
  let v479_r0 : Index := Scalar.indexCast arg16_r0
  let c0_383_r0 : Index := 0#32
  let c512_r0 : Index := 512#32
  ![v479_r0.toNat, 0, 512]
def k0_off24 (k0_t1 : Fin k0_t1_loop.trips) : Fin 3 → Nat :=
  let c0_i32_254_r0 : BitVec 32 := 0#32
  let c1_i32_255_r0 : BitVec 32 := 1#32
  let arg16_r0 : BitVec 32 := Scf.iv c0_i32_254_r0 c1_i32_255_r0 k0_t1
  let v505_r0 : Index := Scalar.indexCast arg16_r0
  let c0_390_r0 : Index := 0#32
  let c640_r0 : Index := 640#32
  ![v505_r0.toNat, 0, 640]
def k0_off25 (k0_t1 : Fin k0_t1_loop.trips) : Fin 4 → Nat :=
  let c0_391_r0 : Index := 0#32
  let c0_i32_254_r0 : BitVec 32 := 0#32
  let c1_i32_255_r0 : BitVec 32 := 1#32
  let arg16_r0 : BitVec 32 := Scf.iv c0_i32_254_r0 c1_i32_255_r0 k0_t1
  let v509_r0 : Index := Scalar.indexCast arg16_r0
  let c0_392_r0 : Index := 0#32
  let c384_393_r0 : Index := 384#32
  ![0, v509_r0.toNat, 0, 384]
def k0_off26 (k0_t1 : Fin k0_t1_loop.trips) : Fin 4 → Nat :=
  let c1_394_r0 : Index := 1#32
  let c0_i32_254_r0 : BitVec 32 := 0#32
  let c1_i32_255_r0 : BitVec 32 := 1#32
  let arg16_r0 : BitVec 32 := Scf.iv c0_i32_254_r0 c1_i32_255_r0 k0_t1
  let v513_r0 : Index := Scalar.indexCast arg16_r0
  let c0_395_r0 : Index := 0#32
  let c384_396_r0 : Index := 384#32
  ![1, v513_r0.toNat, 0, 384]
def k0_off27 (k0_t1 : Fin k0_t1_loop.trips) : Fin 3 → Nat :=
  let c0_i32_254_r0 : BitVec 32 := 0#32
  let c1_i32_255_r0 : BitVec 32 := 1#32
  let arg16_r0 : BitVec 32 := Scf.iv c0_i32_254_r0 c1_i32_255_r0 k0_t1
  let v539_r0 : Index := Scalar.indexCast arg16_r0
  let c0_403_r0 : Index := 0#32
  let c768_r0 : Index := 768#32
  ![v539_r0.toNat, 0, 768]
def k0_off28 (k0_t1 : Fin k0_t1_loop.trips) : Fin 3 → Nat :=
  let c0_i32_254_r0 : BitVec 32 := 0#32
  let c1_i32_255_r0 : BitVec 32 := 1#32
  let arg16_r0 : BitVec 32 := Scf.iv c0_i32_254_r0 c1_i32_255_r0 k0_t1
  let v565_r0 : Index := Scalar.indexCast arg16_r0
  let c0_410_r0 : Index := 0#32
  let c896_r0 : Index := 896#32
  ![v565_r0.toNat, 0, 896]
def k0_off29 (k0_t1 : Fin k0_t1_loop.trips) : Fin 4 → Nat :=
  let c0_411_r0 : Index := 0#32
  let c0_i32_254_r0 : BitVec 32 := 0#32
  let c1_i32_255_r0 : BitVec 32 := 1#32
  let arg16_r0 : BitVec 32 := Scf.iv c0_i32_254_r0 c1_i32_255_r0 k0_t1
  let v569_r0 : Index := Scalar.indexCast arg16_r0
  let c0_412_r0 : Index := 0#32
  let c512_413_r0 : Index := 512#32
  ![0, v569_r0.toNat, 0, 512]
def k0_off30 (k0_t1 : Fin k0_t1_loop.trips) : Fin 4 → Nat :=
  let c1_414_r0 : Index := 1#32
  let c0_i32_254_r0 : BitVec 32 := 0#32
  let c1_i32_255_r0 : BitVec 32 := 1#32
  let arg16_r0 : BitVec 32 := Scf.iv c0_i32_254_r0 c1_i32_255_r0 k0_t1
  let v573_r0 : Index := Scalar.indexCast arg16_r0
  let c0_415_r0 : Index := 0#32
  let c512_416_r0 : Index := 512#32
  ![1, v573_r0.toNat, 0, 512]
def k0_off31 (k0_t1 : Fin k0_t1_loop.trips) : Fin 3 → Nat :=
  let c0_i32_254_r0 : BitVec 32 := 0#32
  let c1_i32_255_r0 : BitVec 32 := 1#32
  let arg16_r0 : BitVec 32 := Scf.iv c0_i32_254_r0 c1_i32_255_r0 k0_t1
  let v599_r0 : Index := Scalar.indexCast arg16_r0
  let c0_423_r0 : Index := 0#32
  let c1024_r0 : Index := 1024#32
  ![v599_r0.toNat, 0, 1024]
def k0_off32 (k0_t1 : Fin k0_t1_loop.trips) : Fin 3 → Nat :=
  let c0_i32_254_r0 : BitVec 32 := 0#32
  let c1_i32_255_r0 : BitVec 32 := 1#32
  let arg16_r0 : BitVec 32 := Scf.iv c0_i32_254_r0 c1_i32_255_r0 k0_t1
  let v625_r0 : Index := Scalar.indexCast arg16_r0
  let c0_430_r0 : Index := 0#32
  let c1152_r0 : Index := 1152#32
  ![v625_r0.toNat, 0, 1152]
def k0_off33 (k0_t1 : Fin k0_t1_loop.trips) : Fin 4 → Nat :=
  let c0_431_r0 : Index := 0#32
  let c0_i32_254_r0 : BitVec 32 := 0#32
  let c1_i32_255_r0 : BitVec 32 := 1#32
  let arg16_r0 : BitVec 32 := Scf.iv c0_i32_254_r0 c1_i32_255_r0 k0_t1
  let v629_r0 : Index := Scalar.indexCast arg16_r0
  let c0_432_r0 : Index := 0#32
  let c640_433_r0 : Index := 640#32
  ![0, v629_r0.toNat, 0, 640]
def k0_off34 (k0_t1 : Fin k0_t1_loop.trips) : Fin 4 → Nat :=
  let c1_434_r0 : Index := 1#32
  let c0_i32_254_r0 : BitVec 32 := 0#32
  let c1_i32_255_r0 : BitVec 32 := 1#32
  let arg16_r0 : BitVec 32 := Scf.iv c0_i32_254_r0 c1_i32_255_r0 k0_t1
  let v633_r0 : Index := Scalar.indexCast arg16_r0
  let c0_435_r0 : Index := 0#32
  let c640_436_r0 : Index := 640#32
  ![1, v633_r0.toNat, 0, 640]
def k0_off35 (k0_t1 : Fin k0_t1_loop.trips) : Fin 3 → Nat :=
  let c0_i32_254_r0 : BitVec 32 := 0#32
  let c1_i32_255_r0 : BitVec 32 := 1#32
  let arg16_r0 : BitVec 32 := Scf.iv c0_i32_254_r0 c1_i32_255_r0 k0_t1
  let v659_r0 : Index := Scalar.indexCast arg16_r0
  let c0_443_r0 : Index := 0#32
  let c1280_r0 : Index := 1280#32
  ![v659_r0.toNat, 0, 1280]
def k0_off36 (k0_t1 : Fin k0_t1_loop.trips) : Fin 3 → Nat :=
  let c0_i32_254_r0 : BitVec 32 := 0#32
  let c1_i32_255_r0 : BitVec 32 := 1#32
  let arg16_r0 : BitVec 32 := Scf.iv c0_i32_254_r0 c1_i32_255_r0 k0_t1
  let v685_r0 : Index := Scalar.indexCast arg16_r0
  let c0_450_r0 : Index := 0#32
  let c1408_r0 : Index := 1408#32
  ![v685_r0.toNat, 0, 1408]
def k0_off37 (k0_t1 : Fin k0_t1_loop.trips) : Fin 4 → Nat :=
  let c0_451_r0 : Index := 0#32
  let c0_i32_254_r0 : BitVec 32 := 0#32
  let c1_i32_255_r0 : BitVec 32 := 1#32
  let arg16_r0 : BitVec 32 := Scf.iv c0_i32_254_r0 c1_i32_255_r0 k0_t1
  let v689_r0 : Index := Scalar.indexCast arg16_r0
  let c0_452_r0 : Index := 0#32
  let c768_453_r0 : Index := 768#32
  ![0, v689_r0.toNat, 0, 768]
def k0_off38 (k0_t1 : Fin k0_t1_loop.trips) : Fin 4 → Nat :=
  let c1_454_r0 : Index := 1#32
  let c0_i32_254_r0 : BitVec 32 := 0#32
  let c1_i32_255_r0 : BitVec 32 := 1#32
  let arg16_r0 : BitVec 32 := Scf.iv c0_i32_254_r0 c1_i32_255_r0 k0_t1
  let v693_r0 : Index := Scalar.indexCast arg16_r0
  let c0_455_r0 : Index := 0#32
  let c768_456_r0 : Index := 768#32
  ![1, v693_r0.toNat, 0, 768]
def k0_off39 (k0_t1 : Fin k0_t1_loop.trips) : Fin 3 → Nat :=
  let c0_i32_254_r0 : BitVec 32 := 0#32
  let c1_i32_255_r0 : BitVec 32 := 1#32
  let arg16_r0 : BitVec 32 := Scf.iv c0_i32_254_r0 c1_i32_255_r0 k0_t1
  let v719_r0 : Index := Scalar.indexCast arg16_r0
  let c0_463_r0 : Index := 0#32
  let c1536_r0 : Index := 1536#32
  ![v719_r0.toNat, 0, 1536]
def k0_off40 (k0_t1 : Fin k0_t1_loop.trips) : Fin 3 → Nat :=
  let c0_i32_254_r0 : BitVec 32 := 0#32
  let c1_i32_255_r0 : BitVec 32 := 1#32
  let arg16_r0 : BitVec 32 := Scf.iv c0_i32_254_r0 c1_i32_255_r0 k0_t1
  let v745_r0 : Index := Scalar.indexCast arg16_r0
  let c0_470_r0 : Index := 0#32
  let c1664_r0 : Index := 1664#32
  ![v745_r0.toNat, 0, 1664]
def k0_off41 (k0_t1 : Fin k0_t1_loop.trips) : Fin 4 → Nat :=
  let c0_471_r0 : Index := 0#32
  let c0_i32_254_r0 : BitVec 32 := 0#32
  let c1_i32_255_r0 : BitVec 32 := 1#32
  let arg16_r0 : BitVec 32 := Scf.iv c0_i32_254_r0 c1_i32_255_r0 k0_t1
  let v749_r0 : Index := Scalar.indexCast arg16_r0
  let c0_472_r0 : Index := 0#32
  let c896_473_r0 : Index := 896#32
  ![0, v749_r0.toNat, 0, 896]
def k0_off42 (k0_t1 : Fin k0_t1_loop.trips) : Fin 4 → Nat :=
  let c1_474_r0 : Index := 1#32
  let c0_i32_254_r0 : BitVec 32 := 0#32
  let c1_i32_255_r0 : BitVec 32 := 1#32
  let arg16_r0 : BitVec 32 := Scf.iv c0_i32_254_r0 c1_i32_255_r0 k0_t1
  let v753_r0 : Index := Scalar.indexCast arg16_r0
  let c0_475_r0 : Index := 0#32
  let c896_476_r0 : Index := 896#32
  ![1, v753_r0.toNat, 0, 896]
def k0_off43 (k0_t1 : Fin k0_t1_loop.trips) : Fin 3 → Nat :=
  let c0_i32_254_r0 : BitVec 32 := 0#32
  let c1_i32_255_r0 : BitVec 32 := 1#32
  let arg16_r0 : BitVec 32 := Scf.iv c0_i32_254_r0 c1_i32_255_r0 k0_t1
  let v779_r0 : Index := Scalar.indexCast arg16_r0
  let c0_483_r0 : Index := 0#32
  let c1792_r0 : Index := 1792#32
  ![v779_r0.toNat, 0, 1792]
def k0_off44 (k0_t1 : Fin k0_t1_loop.trips) : Fin 3 → Nat :=
  let c0_i32_254_r0 : BitVec 32 := 0#32
  let c1_i32_255_r0 : BitVec 32 := 1#32
  let arg16_r0 : BitVec 32 := Scf.iv c0_i32_254_r0 c1_i32_255_r0 k0_t1
  let v805_r0 : Index := Scalar.indexCast arg16_r0
  let c0_490_r0 : Index := 0#32
  let c1920_r0 : Index := 1920#32
  ![v805_r0.toNat, 0, 1920]
def k0_off45 (k0_t1 : Fin k0_t1_loop.trips) : Fin 4 → Nat :=
  let c0_491_r0 : Index := 0#32
  let c0_i32_254_r0 : BitVec 32 := 0#32
  let c1_i32_255_r0 : BitVec 32 := 1#32
  let arg16_r0 : BitVec 32 := Scf.iv c0_i32_254_r0 c1_i32_255_r0 k0_t1
  let v809_r0 : Index := Scalar.indexCast arg16_r0
  let c0_492_r0 : Index := 0#32
  let c1024_493_r0 : Index := 1024#32
  ![0, v809_r0.toNat, 0, 1024]
def k0_off46 (k0_t1 : Fin k0_t1_loop.trips) : Fin 4 → Nat :=
  let c1_494_r0 : Index := 1#32
  let c0_i32_254_r0 : BitVec 32 := 0#32
  let c1_i32_255_r0 : BitVec 32 := 1#32
  let arg16_r0 : BitVec 32 := Scf.iv c0_i32_254_r0 c1_i32_255_r0 k0_t1
  let v813_r0 : Index := Scalar.indexCast arg16_r0
  let c0_495_r0 : Index := 0#32
  let c1024_496_r0 : Index := 1024#32
  ![1, v813_r0.toNat, 0, 1024]
def k0_off47 (k0_t1 : Fin k0_t1_loop.trips) : Fin 3 → Nat :=
  let c0_i32_254_r0 : BitVec 32 := 0#32
  let c1_i32_255_r0 : BitVec 32 := 1#32
  let arg16_r0 : BitVec 32 := Scf.iv c0_i32_254_r0 c1_i32_255_r0 k0_t1
  let v839_r0 : Index := Scalar.indexCast arg16_r0
  let c0_503_r0 : Index := 0#32
  let c2048_r0 : Index := 2048#32
  ![v839_r0.toNat, 0, 2048]
def k0_off48 (k0_t1 : Fin k0_t1_loop.trips) : Fin 3 → Nat :=
  let c0_i32_254_r0 : BitVec 32 := 0#32
  let c1_i32_255_r0 : BitVec 32 := 1#32
  let arg16_r0 : BitVec 32 := Scf.iv c0_i32_254_r0 c1_i32_255_r0 k0_t1
  let v865_r0 : Index := Scalar.indexCast arg16_r0
  let c0_510_r0 : Index := 0#32
  let c2176_r0 : Index := 2176#32
  ![v865_r0.toNat, 0, 2176]
def k0_off49 (k0_t1 : Fin k0_t1_loop.trips) : Fin 4 → Nat :=
  let c0_511_r0 : Index := 0#32
  let c0_i32_254_r0 : BitVec 32 := 0#32
  let c1_i32_255_r0 : BitVec 32 := 1#32
  let arg16_r0 : BitVec 32 := Scf.iv c0_i32_254_r0 c1_i32_255_r0 k0_t1
  let v869_r0 : Index := Scalar.indexCast arg16_r0
  let c0_512_r0 : Index := 0#32
  let c1152_513_r0 : Index := 1152#32
  ![0, v869_r0.toNat, 0, 1152]
def k0_off50 (k0_t1 : Fin k0_t1_loop.trips) : Fin 4 → Nat :=
  let c1_514_r0 : Index := 1#32
  let c0_i32_254_r0 : BitVec 32 := 0#32
  let c1_i32_255_r0 : BitVec 32 := 1#32
  let arg16_r0 : BitVec 32 := Scf.iv c0_i32_254_r0 c1_i32_255_r0 k0_t1
  let v873_r0 : Index := Scalar.indexCast arg16_r0
  let c0_515_r0 : Index := 0#32
  let c1152_516_r0 : Index := 1152#32
  ![1, v873_r0.toNat, 0, 1152]
def k0_off51 (k0_t1 : Fin k0_t1_loop.trips) : Fin 3 → Nat :=
  let c0_i32_254_r0 : BitVec 32 := 0#32
  let c1_i32_255_r0 : BitVec 32 := 1#32
  let arg16_r0 : BitVec 32 := Scf.iv c0_i32_254_r0 c1_i32_255_r0 k0_t1
  let v899_r0 : Index := Scalar.indexCast arg16_r0
  let c0_523_r0 : Index := 0#32
  let c2304_r0 : Index := 2304#32
  ![v899_r0.toNat, 0, 2304]
def k0_off52 (k0_t1 : Fin k0_t1_loop.trips) : Fin 3 → Nat :=
  let c0_i32_254_r0 : BitVec 32 := 0#32
  let c1_i32_255_r0 : BitVec 32 := 1#32
  let arg16_r0 : BitVec 32 := Scf.iv c0_i32_254_r0 c1_i32_255_r0 k0_t1
  let v925_r0 : Index := Scalar.indexCast arg16_r0
  let c0_530_r0 : Index := 0#32
  let c2432_r0 : Index := 2432#32
  ![v925_r0.toNat, 0, 2432]
def k0_off53 (k0_t1 : Fin k0_t1_loop.trips) : Fin 4 → Nat :=
  let c0_531_r0 : Index := 0#32
  let c0_i32_254_r0 : BitVec 32 := 0#32
  let c1_i32_255_r0 : BitVec 32 := 1#32
  let arg16_r0 : BitVec 32 := Scf.iv c0_i32_254_r0 c1_i32_255_r0 k0_t1
  let v929_r0 : Index := Scalar.indexCast arg16_r0
  let c0_532_r0 : Index := 0#32
  let c1280_533_r0 : Index := 1280#32
  ![0, v929_r0.toNat, 0, 1280]
def k0_off54 (k0_t1 : Fin k0_t1_loop.trips) : Fin 4 → Nat :=
  let c1_534_r0 : Index := 1#32
  let c0_i32_254_r0 : BitVec 32 := 0#32
  let c1_i32_255_r0 : BitVec 32 := 1#32
  let arg16_r0 : BitVec 32 := Scf.iv c0_i32_254_r0 c1_i32_255_r0 k0_t1
  let v933_r0 : Index := Scalar.indexCast arg16_r0
  let c0_535_r0 : Index := 0#32
  let c1280_536_r0 : Index := 1280#32
  ![1, v933_r0.toNat, 0, 1280]
def k0_off55 (k0_t1 : Fin k0_t1_loop.trips) : Fin 3 → Nat :=
  let c0_i32_254_r0 : BitVec 32 := 0#32
  let c1_i32_255_r0 : BitVec 32 := 1#32
  let arg16_r0 : BitVec 32 := Scf.iv c0_i32_254_r0 c1_i32_255_r0 k0_t1
  let v959_r0 : Index := Scalar.indexCast arg16_r0
  let c0_543_r0 : Index := 0#32
  let c2560_r0 : Index := 2560#32
  ![v959_r0.toNat, 0, 2560]
def k0_off56 (k0_t1 : Fin k0_t1_loop.trips) : Fin 3 → Nat :=
  let c0_i32_254_r0 : BitVec 32 := 0#32
  let c1_i32_255_r0 : BitVec 32 := 1#32
  let arg16_r0 : BitVec 32 := Scf.iv c0_i32_254_r0 c1_i32_255_r0 k0_t1
  let v985_r0 : Index := Scalar.indexCast arg16_r0
  let c0_550_r0 : Index := 0#32
  let c2688_r0 : Index := 2688#32
  ![v985_r0.toNat, 0, 2688]
def k0_off57 (k0_t1 : Fin k0_t1_loop.trips) : Fin 4 → Nat :=
  let c0_551_r0 : Index := 0#32
  let c0_i32_254_r0 : BitVec 32 := 0#32
  let c1_i32_255_r0 : BitVec 32 := 1#32
  let arg16_r0 : BitVec 32 := Scf.iv c0_i32_254_r0 c1_i32_255_r0 k0_t1
  let v989_r0 : Index := Scalar.indexCast arg16_r0
  let c0_552_r0 : Index := 0#32
  let c1408_553_r0 : Index := 1408#32
  ![0, v989_r0.toNat, 0, 1408]
def k0_off58 (k0_t1 : Fin k0_t1_loop.trips) : Fin 4 → Nat :=
  let c1_554_r0 : Index := 1#32
  let c0_i32_254_r0 : BitVec 32 := 0#32
  let c1_i32_255_r0 : BitVec 32 := 1#32
  let arg16_r0 : BitVec 32 := Scf.iv c0_i32_254_r0 c1_i32_255_r0 k0_t1
  let v993_r0 : Index := Scalar.indexCast arg16_r0
  let c0_555_r0 : Index := 0#32
  let c1408_556_r0 : Index := 1408#32
  ![1, v993_r0.toNat, 0, 1408]
def k0_off59 (k0_t1 : Fin k0_t1_loop.trips) : Fin 3 → Nat :=
  let c0_i32_254_r0 : BitVec 32 := 0#32
  let c1_i32_255_r0 : BitVec 32 := 1#32
  let arg16_r0 : BitVec 32 := Scf.iv c0_i32_254_r0 c1_i32_255_r0 k0_t1
  let v1019_r0 : Index := Scalar.indexCast arg16_r0
  let c0_563_r0 : Index := 0#32
  let c2816_r0 : Index := 2816#32
  ![v1019_r0.toNat, 0, 2816]
def k0_off60 (k0_t1 : Fin k0_t1_loop.trips) : Fin 3 → Nat :=
  let c0_i32_254_r0 : BitVec 32 := 0#32
  let c1_i32_255_r0 : BitVec 32 := 1#32
  let arg16_r0 : BitVec 32 := Scf.iv c0_i32_254_r0 c1_i32_255_r0 k0_t1
  let v1045_r0 : Index := Scalar.indexCast arg16_r0
  let c0_570_r0 : Index := 0#32
  let c2944_r0 : Index := 2944#32
  ![v1045_r0.toNat, 0, 2944]
def k0_off61 (k0_t1 : Fin k0_t1_loop.trips) : Fin 3 → Nat :=
  let c0_i32_254_r0 : BitVec 32 := 0#32
  let c1_i32_255_r0 : BitVec 32 := 1#32
  let arg16_r0 : BitVec 32 := Scf.iv c0_i32_254_r0 c1_i32_255_r0 k0_t1
  let v1059_r0 : Index := Scalar.indexCast arg16_r0
  let c0_577_r0 : Index := 0#32
  let c0_578_r0 : Index := 0#32
  ![v1059_r0.toNat, 0, 0]
def k0_off62 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_571_r0 : BitVec 32 := 6#32
  let c0_i32_572_r0 : BitVec 32 := 0#32
  let v1049_r0 : BitVec 1 := Scalar.cmpi .eq c6_i32_571_r0 c0_i32_572_r0
  let c1_i32_573_r0 : BitVec 32 := 1#32
  let v1050_r0 : BitVec 32 := Scalar.select v1049_r0 c1_i32_573_r0 c6_i32_571_r0
  let v1051_r0 : BitVec 32 := Scalar.remsi v253_r0 v1050_r0
  let c0_i32_575_r0 : BitVec 32 := 0#32
  let v1053_r0 : BitVec 1 := Scalar.cmpi .slt v1051_r0 c0_i32_575_r0
  let c0_i32_576_r0 : BitVec 32 := 0#32
  let v1054_r0 : BitVec 1 := Scalar.cmpi .slt v1050_r0 c0_i32_576_r0
  let v1055_r0 : BitVec 1 := Scalar.xori v1053_r0 v1054_r0
  let c0_i32_574_r0 : BitVec 32 := 0#32
  let v1052_r0 : BitVec 1 := Scalar.cmpi .ne v1051_r0 c0_i32_574_r0
  let v1056_r0 : BitVec 1 := Scalar.andi v1055_r0 v1052_r0
  let v1057_r0 : BitVec 32 := Scalar.addi v1051_r0 v1050_r0
  let v1058_r0 : BitVec 32 := Scalar.select v1056_r0 v1057_r0 v1051_r0
  let v1062_r0 : Index := Scalar.indexCast v1058_r0
  let c0_579_r0 : Index := 0#32
  let c0_580_r0 : Index := 0#32
  let c0_581_r0 : Index := 0#32
  ![v1062_r0.toNat, 0, 0, 0]
def k0_off63 (k0_t1 : Fin k0_t1_loop.trips) (c0_i32_587_r0 : BitVec 32) : Fin 4 → Nat :=
  let c0_588_r0 : Index := 0#32
  let c0_589_r0 : Index := 0#32
  let c0_i32_254_r0 : BitVec 32 := 0#32
  let c1_i32_255_r0 : BitVec 32 := 1#32
  let arg16_r0 : BitVec 32 := Scf.iv c0_i32_254_r0 c1_i32_255_r0 k0_t1
  let c6_i32_586_r0 : BitVec 32 := 6#32
  let v1082_r0 : BitVec 32 := Scalar.muli arg16_r0 c6_i32_586_r0
  let v1083_r0 : BitVec 32 := Scalar.addi v1082_r0 c0_i32_587_r0
  let v1084_r0 : Index := Scalar.indexCast v1083_r0
  let c0_590_r0 : Index := 0#32
  ![0, 0, v1084_r0.toNat, 0]
def k0_off64 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_571_r0 : BitVec 32 := 6#32
  let c0_i32_572_r0 : BitVec 32 := 0#32
  let v1049_r0 : BitVec 1 := Scalar.cmpi .eq c6_i32_571_r0 c0_i32_572_r0
  let c1_i32_573_r0 : BitVec 32 := 1#32
  let v1050_r0 : BitVec 32 := Scalar.select v1049_r0 c1_i32_573_r0 c6_i32_571_r0
  let v1051_r0 : BitVec 32 := Scalar.remsi v253_r0 v1050_r0
  let c0_i32_575_r0 : BitVec 32 := 0#32
  let v1053_r0 : BitVec 1 := Scalar.cmpi .slt v1051_r0 c0_i32_575_r0
  let c0_i32_576_r0 : BitVec 32 := 0#32
  let v1054_r0 : BitVec 1 := Scalar.cmpi .slt v1050_r0 c0_i32_576_r0
  let v1055_r0 : BitVec 1 := Scalar.xori v1053_r0 v1054_r0
  let c0_i32_574_r0 : BitVec 32 := 0#32
  let v1052_r0 : BitVec 1 := Scalar.cmpi .ne v1051_r0 c0_i32_574_r0
  let v1056_r0 : BitVec 1 := Scalar.andi v1055_r0 v1052_r0
  let v1057_r0 : BitVec 32 := Scalar.addi v1051_r0 v1050_r0
  let v1058_r0 : BitVec 32 := Scalar.select v1056_r0 v1057_r0 v1051_r0
  let v1102_r0 : Index := Scalar.indexCast v1058_r0
  let c1_593_r0 : Index := 1#32
  let c0_594_r0 : Index := 0#32
  let c0_595_r0 : Index := 0#32
  ![v1102_r0.toNat, 1, 0, 0]
def k0_off65 (k0_t1 : Fin k0_t1_loop.trips) (c0_i32_603_r0 : BitVec 32) : Fin 4 → Nat :=
  let c1_604_r0 : Index := 1#32
  let c0_605_r0 : Index := 0#32
  let c0_i32_254_r0 : BitVec 32 := 0#32
  let c1_i32_255_r0 : BitVec 32 := 1#32
  let arg16_r0 : BitVec 32 := Scf.iv c0_i32_254_r0 c1_i32_255_r0 k0_t1
  let c6_i32_602_r0 : BitVec 32 := 6#32
  let v1122_r0 : BitVec 32 := Scalar.muli arg16_r0 c6_i32_602_r0
  let v1123_r0 : BitVec 32 := Scalar.addi v1122_r0 c0_i32_603_r0
  let v1124_r0 : Index := Scalar.indexCast v1123_r0
  let c0_606_r0 : Index := 0#32
  ![1, 0, v1124_r0.toNat, 0]
def k0_off66 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_571_r0 : BitVec 32 := 6#32
  let c0_i32_572_r0 : BitVec 32 := 0#32
  let v1049_r0 : BitVec 1 := Scalar.cmpi .eq c6_i32_571_r0 c0_i32_572_r0
  let c1_i32_573_r0 : BitVec 32 := 1#32
  let v1050_r0 : BitVec 32 := Scalar.select v1049_r0 c1_i32_573_r0 c6_i32_571_r0
  let v1051_r0 : BitVec 32 := Scalar.remsi v253_r0 v1050_r0
  let c0_i32_575_r0 : BitVec 32 := 0#32
  let v1053_r0 : BitVec 1 := Scalar.cmpi .slt v1051_r0 c0_i32_575_r0
  let c0_i32_576_r0 : BitVec 32 := 0#32
  let v1054_r0 : BitVec 1 := Scalar.cmpi .slt v1050_r0 c0_i32_576_r0
  let v1055_r0 : BitVec 1 := Scalar.xori v1053_r0 v1054_r0
  let c0_i32_574_r0 : BitVec 32 := 0#32
  let v1052_r0 : BitVec 1 := Scalar.cmpi .ne v1051_r0 c0_i32_574_r0
  let v1056_r0 : BitVec 1 := Scalar.andi v1055_r0 v1052_r0
  let v1057_r0 : BitVec 32 := Scalar.addi v1051_r0 v1050_r0
  let v1058_r0 : BitVec 32 := Scalar.select v1056_r0 v1057_r0 v1051_r0
  let v1142_r0 : Index := Scalar.indexCast v1058_r0
  let c0_609_r0 : Index := 0#32
  let c0_610_r0 : Index := 0#32
  let c256_611_r0 : Index := 256#32
  ![v1142_r0.toNat, 0, 0, 256]
def k0_off67 (k0_t1 : Fin k0_t1_loop.trips) (c0_i32_619_r0 : BitVec 32) : Fin 4 → Nat :=
  let c0_620_r0 : Index := 0#32
  let c0_621_r0 : Index := 0#32
  let c0_i32_254_r0 : BitVec 32 := 0#32
  let c1_i32_255_r0 : BitVec 32 := 1#32
  let arg16_r0 : BitVec 32 := Scf.iv c0_i32_254_r0 c1_i32_255_r0 k0_t1
  let c6_i32_618_r0 : BitVec 32 := 6#32
  let v1162_r0 : BitVec 32 := Scalar.muli arg16_r0 c6_i32_618_r0
  let v1163_r0 : BitVec 32 := Scalar.addi v1162_r0 c0_i32_619_r0
  let v1164_r0 : Index := Scalar.indexCast v1163_r0
  let c256_622_r0 : Index := 256#32
  ![0, 0, v1164_r0.toNat, 256]
def k0_off68 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_571_r0 : BitVec 32 := 6#32
  let c0_i32_572_r0 : BitVec 32 := 0#32
  let v1049_r0 : BitVec 1 := Scalar.cmpi .eq c6_i32_571_r0 c0_i32_572_r0
  let c1_i32_573_r0 : BitVec 32 := 1#32
  let v1050_r0 : BitVec 32 := Scalar.select v1049_r0 c1_i32_573_r0 c6_i32_571_r0
  let v1051_r0 : BitVec 32 := Scalar.remsi v253_r0 v1050_r0
  let c0_i32_575_r0 : BitVec 32 := 0#32
  let v1053_r0 : BitVec 1 := Scalar.cmpi .slt v1051_r0 c0_i32_575_r0
  let c0_i32_576_r0 : BitVec 32 := 0#32
  let v1054_r0 : BitVec 1 := Scalar.cmpi .slt v1050_r0 c0_i32_576_r0
  let v1055_r0 : BitVec 1 := Scalar.xori v1053_r0 v1054_r0
  let c0_i32_574_r0 : BitVec 32 := 0#32
  let v1052_r0 : BitVec 1 := Scalar.cmpi .ne v1051_r0 c0_i32_574_r0
  let v1056_r0 : BitVec 1 := Scalar.andi v1055_r0 v1052_r0
  let v1057_r0 : BitVec 32 := Scalar.addi v1051_r0 v1050_r0
  let v1058_r0 : BitVec 32 := Scalar.select v1056_r0 v1057_r0 v1051_r0
  let v1182_r0 : Index := Scalar.indexCast v1058_r0
  let c1_625_r0 : Index := 1#32
  let c0_626_r0 : Index := 0#32
  let c256_627_r0 : Index := 256#32
  ![v1182_r0.toNat, 1, 0, 256]
def k0_off69 (k0_t1 : Fin k0_t1_loop.trips) (c0_i32_635_r0 : BitVec 32) : Fin 4 → Nat :=
  let c1_636_r0 : Index := 1#32
  let c0_637_r0 : Index := 0#32
  let c0_i32_254_r0 : BitVec 32 := 0#32
  let c1_i32_255_r0 : BitVec 32 := 1#32
  let arg16_r0 : BitVec 32 := Scf.iv c0_i32_254_r0 c1_i32_255_r0 k0_t1
  let c6_i32_634_r0 : BitVec 32 := 6#32
  let v1202_r0 : BitVec 32 := Scalar.muli arg16_r0 c6_i32_634_r0
  let v1203_r0 : BitVec 32 := Scalar.addi v1202_r0 c0_i32_635_r0
  let v1204_r0 : Index := Scalar.indexCast v1203_r0
  let c256_638_r0 : Index := 256#32
  ![1, 0, v1204_r0.toNat, 256]
def k0_off70 (k0_t1 : Fin k0_t1_loop.trips) : Fin 3 → Nat :=
  let c0_i32_254_r0 : BitVec 32 := 0#32
  let c1_i32_255_r0 : BitVec 32 := 1#32
  let arg16_r0 : BitVec 32 := Scf.iv c0_i32_254_r0 c1_i32_255_r0 k0_t1
  let v1222_r0 : Index := Scalar.indexCast arg16_r0
  let c0_641_r0 : Index := 0#32
  let c256_642_r0 : Index := 256#32
  ![v1222_r0.toNat, 0, 256]
def k0_off71 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_571_r0 : BitVec 32 := 6#32
  let c0_i32_572_r0 : BitVec 32 := 0#32
  let v1049_r0 : BitVec 1 := Scalar.cmpi .eq c6_i32_571_r0 c0_i32_572_r0
  let c1_i32_573_r0 : BitVec 32 := 1#32
  let v1050_r0 : BitVec 32 := Scalar.select v1049_r0 c1_i32_573_r0 c6_i32_571_r0
  let v1051_r0 : BitVec 32 := Scalar.remsi v253_r0 v1050_r0
  let c0_i32_575_r0 : BitVec 32 := 0#32
  let v1053_r0 : BitVec 1 := Scalar.cmpi .slt v1051_r0 c0_i32_575_r0
  let c0_i32_576_r0 : BitVec 32 := 0#32
  let v1054_r0 : BitVec 1 := Scalar.cmpi .slt v1050_r0 c0_i32_576_r0
  let v1055_r0 : BitVec 1 := Scalar.xori v1053_r0 v1054_r0
  let c0_i32_574_r0 : BitVec 32 := 0#32
  let v1052_r0 : BitVec 1 := Scalar.cmpi .ne v1051_r0 c0_i32_574_r0
  let v1056_r0 : BitVec 1 := Scalar.andi v1055_r0 v1052_r0
  let v1057_r0 : BitVec 32 := Scalar.addi v1051_r0 v1050_r0
  let v1058_r0 : BitVec 32 := Scalar.select v1056_r0 v1057_r0 v1051_r0
  let v1225_r0 : Index := Scalar.indexCast v1058_r0
  let c0_643_r0 : Index := 0#32
  let c128_644_r0 : Index := 128#32
  let c0_645_r0 : Index := 0#32
  ![v1225_r0.toNat, 0, 128, 0]
def k0_off72 (k0_t1 : Fin k0_t1_loop.trips) (c0_i32_653_r0 : BitVec 32) : Fin 4 → Nat :=
  let c0_654_r0 : Index := 0#32
  let c1_655_r0 : Index := 1#32
  let c0_i32_254_r0 : BitVec 32 := 0#32
  let c1_i32_255_r0 : BitVec 32 := 1#32
  let arg16_r0 : BitVec 32 := Scf.iv c0_i32_254_r0 c1_i32_255_r0 k0_t1
  let c6_i32_652_r0 : BitVec 32 := 6#32
  let v1245_r0 : BitVec 32 := Scalar.muli arg16_r0 c6_i32_652_r0
  let v1246_r0 : BitVec 32 := Scalar.addi v1245_r0 c0_i32_653_r0
  let v1247_r0 : Index := Scalar.indexCast v1246_r0
  let c0_656_r0 : Index := 0#32
  ![0, 1, v1247_r0.toNat, 0]
def k0_off73 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_571_r0 : BitVec 32 := 6#32
  let c0_i32_572_r0 : BitVec 32 := 0#32
  let v1049_r0 : BitVec 1 := Scalar.cmpi .eq c6_i32_571_r0 c0_i32_572_r0
  let c1_i32_573_r0 : BitVec 32 := 1#32
  let v1050_r0 : BitVec 32 := Scalar.select v1049_r0 c1_i32_573_r0 c6_i32_571_r0
  let v1051_r0 : BitVec 32 := Scalar.remsi v253_r0 v1050_r0
  let c0_i32_575_r0 : BitVec 32 := 0#32
  let v1053_r0 : BitVec 1 := Scalar.cmpi .slt v1051_r0 c0_i32_575_r0
  let c0_i32_576_r0 : BitVec 32 := 0#32
  let v1054_r0 : BitVec 1 := Scalar.cmpi .slt v1050_r0 c0_i32_576_r0
  let v1055_r0 : BitVec 1 := Scalar.xori v1053_r0 v1054_r0
  let c0_i32_574_r0 : BitVec 32 := 0#32
  let v1052_r0 : BitVec 1 := Scalar.cmpi .ne v1051_r0 c0_i32_574_r0
  let v1056_r0 : BitVec 1 := Scalar.andi v1055_r0 v1052_r0
  let v1057_r0 : BitVec 32 := Scalar.addi v1051_r0 v1050_r0
  let v1058_r0 : BitVec 32 := Scalar.select v1056_r0 v1057_r0 v1051_r0
  let v1265_r0 : Index := Scalar.indexCast v1058_r0
  let c1_659_r0 : Index := 1#32
  let c128_660_r0 : Index := 128#32
  let c0_661_r0 : Index := 0#32
  ![v1265_r0.toNat, 1, 128, 0]
def k0_off74 (k0_t1 : Fin k0_t1_loop.trips) (c0_i32_669_r0 : BitVec 32) : Fin 4 → Nat :=
  let c1_670_r0 : Index := 1#32
  let c1_671_r0 : Index := 1#32
  let c0_i32_254_r0 : BitVec 32 := 0#32
  let c1_i32_255_r0 : BitVec 32 := 1#32
  let arg16_r0 : BitVec 32 := Scf.iv c0_i32_254_r0 c1_i32_255_r0 k0_t1
  let c6_i32_668_r0 : BitVec 32 := 6#32
  let v1285_r0 : BitVec 32 := Scalar.muli arg16_r0 c6_i32_668_r0
  let v1286_r0 : BitVec 32 := Scalar.addi v1285_r0 c0_i32_669_r0
  let v1287_r0 : Index := Scalar.indexCast v1286_r0
  let c0_672_r0 : Index := 0#32
  ![1, 1, v1287_r0.toNat, 0]
def k0_off75 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_571_r0 : BitVec 32 := 6#32
  let c0_i32_572_r0 : BitVec 32 := 0#32
  let v1049_r0 : BitVec 1 := Scalar.cmpi .eq c6_i32_571_r0 c0_i32_572_r0
  let c1_i32_573_r0 : BitVec 32 := 1#32
  let v1050_r0 : BitVec 32 := Scalar.select v1049_r0 c1_i32_573_r0 c6_i32_571_r0
  let v1051_r0 : BitVec 32 := Scalar.remsi v253_r0 v1050_r0
  let c0_i32_575_r0 : BitVec 32 := 0#32
  let v1053_r0 : BitVec 1 := Scalar.cmpi .slt v1051_r0 c0_i32_575_r0
  let c0_i32_576_r0 : BitVec 32 := 0#32
  let v1054_r0 : BitVec 1 := Scalar.cmpi .slt v1050_r0 c0_i32_576_r0
  let v1055_r0 : BitVec 1 := Scalar.xori v1053_r0 v1054_r0
  let c0_i32_574_r0 : BitVec 32 := 0#32
  let v1052_r0 : BitVec 1 := Scalar.cmpi .ne v1051_r0 c0_i32_574_r0
  let v1056_r0 : BitVec 1 := Scalar.andi v1055_r0 v1052_r0
  let v1057_r0 : BitVec 32 := Scalar.addi v1051_r0 v1050_r0
  let v1058_r0 : BitVec 32 := Scalar.select v1056_r0 v1057_r0 v1051_r0
  let v1305_r0 : Index := Scalar.indexCast v1058_r0
  let c0_675_r0 : Index := 0#32
  let c128_676_r0 : Index := 128#32
  let c256_677_r0 : Index := 256#32
  ![v1305_r0.toNat, 0, 128, 256]
def k0_off76 (k0_t1 : Fin k0_t1_loop.trips) (c0_i32_685_r0 : BitVec 32) : Fin 4 → Nat :=
  let c0_686_r0 : Index := 0#32
  let c1_687_r0 : Index := 1#32
  let c0_i32_254_r0 : BitVec 32 := 0#32
  let c1_i32_255_r0 : BitVec 32 := 1#32
  let arg16_r0 : BitVec 32 := Scf.iv c0_i32_254_r0 c1_i32_255_r0 k0_t1
  let c6_i32_684_r0 : BitVec 32 := 6#32
  let v1325_r0 : BitVec 32 := Scalar.muli arg16_r0 c6_i32_684_r0
  let v1326_r0 : BitVec 32 := Scalar.addi v1325_r0 c0_i32_685_r0
  let v1327_r0 : Index := Scalar.indexCast v1326_r0
  let c256_688_r0 : Index := 256#32
  ![0, 1, v1327_r0.toNat, 256]
def k0_off77 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_571_r0 : BitVec 32 := 6#32
  let c0_i32_572_r0 : BitVec 32 := 0#32
  let v1049_r0 : BitVec 1 := Scalar.cmpi .eq c6_i32_571_r0 c0_i32_572_r0
  let c1_i32_573_r0 : BitVec 32 := 1#32
  let v1050_r0 : BitVec 32 := Scalar.select v1049_r0 c1_i32_573_r0 c6_i32_571_r0
  let v1051_r0 : BitVec 32 := Scalar.remsi v253_r0 v1050_r0
  let c0_i32_575_r0 : BitVec 32 := 0#32
  let v1053_r0 : BitVec 1 := Scalar.cmpi .slt v1051_r0 c0_i32_575_r0
  let c0_i32_576_r0 : BitVec 32 := 0#32
  let v1054_r0 : BitVec 1 := Scalar.cmpi .slt v1050_r0 c0_i32_576_r0
  let v1055_r0 : BitVec 1 := Scalar.xori v1053_r0 v1054_r0
  let c0_i32_574_r0 : BitVec 32 := 0#32
  let v1052_r0 : BitVec 1 := Scalar.cmpi .ne v1051_r0 c0_i32_574_r0
  let v1056_r0 : BitVec 1 := Scalar.andi v1055_r0 v1052_r0
  let v1057_r0 : BitVec 32 := Scalar.addi v1051_r0 v1050_r0
  let v1058_r0 : BitVec 32 := Scalar.select v1056_r0 v1057_r0 v1051_r0
  let v1345_r0 : Index := Scalar.indexCast v1058_r0
  let c1_691_r0 : Index := 1#32
  let c128_692_r0 : Index := 128#32
  let c256_693_r0 : Index := 256#32
  ![v1345_r0.toNat, 1, 128, 256]
def k0_off78 (k0_t1 : Fin k0_t1_loop.trips) (c0_i32_701_r0 : BitVec 32) : Fin 4 → Nat :=
  let c1_702_r0 : Index := 1#32
  let c1_703_r0 : Index := 1#32
  let c0_i32_254_r0 : BitVec 32 := 0#32
  let c1_i32_255_r0 : BitVec 32 := 1#32
  let arg16_r0 : BitVec 32 := Scf.iv c0_i32_254_r0 c1_i32_255_r0 k0_t1
  let c6_i32_700_r0 : BitVec 32 := 6#32
  let v1365_r0 : BitVec 32 := Scalar.muli arg16_r0 c6_i32_700_r0
  let v1366_r0 : BitVec 32 := Scalar.addi v1365_r0 c0_i32_701_r0
  let v1367_r0 : Index := Scalar.indexCast v1366_r0
  let c256_704_r0 : Index := 256#32
  ![1, 1, v1367_r0.toNat, 256]
def k0_off79 (k0_t1 : Fin k0_t1_loop.trips) : Fin 3 → Nat :=
  let c0_i32_254_r0 : BitVec 32 := 0#32
  let c1_i32_255_r0 : BitVec 32 := 1#32
  let arg16_r0 : BitVec 32 := Scf.iv c0_i32_254_r0 c1_i32_255_r0 k0_t1
  let v1385_r0 : Index := Scalar.indexCast arg16_r0
  let c0_707_r0 : Index := 0#32
  let c512_708_r0 : Index := 512#32
  ![v1385_r0.toNat, 0, 512]
def k0_off80 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_571_r0 : BitVec 32 := 6#32
  let c0_i32_572_r0 : BitVec 32 := 0#32
  let v1049_r0 : BitVec 1 := Scalar.cmpi .eq c6_i32_571_r0 c0_i32_572_r0
  let c1_i32_573_r0 : BitVec 32 := 1#32
  let v1050_r0 : BitVec 32 := Scalar.select v1049_r0 c1_i32_573_r0 c6_i32_571_r0
  let v1051_r0 : BitVec 32 := Scalar.remsi v253_r0 v1050_r0
  let c0_i32_575_r0 : BitVec 32 := 0#32
  let v1053_r0 : BitVec 1 := Scalar.cmpi .slt v1051_r0 c0_i32_575_r0
  let c0_i32_576_r0 : BitVec 32 := 0#32
  let v1054_r0 : BitVec 1 := Scalar.cmpi .slt v1050_r0 c0_i32_576_r0
  let v1055_r0 : BitVec 1 := Scalar.xori v1053_r0 v1054_r0
  let c0_i32_574_r0 : BitVec 32 := 0#32
  let v1052_r0 : BitVec 1 := Scalar.cmpi .ne v1051_r0 c0_i32_574_r0
  let v1056_r0 : BitVec 1 := Scalar.andi v1055_r0 v1052_r0
  let v1057_r0 : BitVec 32 := Scalar.addi v1051_r0 v1050_r0
  let v1058_r0 : BitVec 32 := Scalar.select v1056_r0 v1057_r0 v1051_r0
  let v1388_r0 : Index := Scalar.indexCast v1058_r0
  let c0_709_r0 : Index := 0#32
  let c256_710_r0 : Index := 256#32
  let c0_711_r0 : Index := 0#32
  ![v1388_r0.toNat, 0, 256, 0]
def k0_off81 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_571_r0 : BitVec 32 := 6#32
  let c0_i32_572_r0 : BitVec 32 := 0#32
  let v1049_r0 : BitVec 1 := Scalar.cmpi .eq c6_i32_571_r0 c0_i32_572_r0
  let c1_i32_573_r0 : BitVec 32 := 1#32
  let v1050_r0 : BitVec 32 := Scalar.select v1049_r0 c1_i32_573_r0 c6_i32_571_r0
  let v1051_r0 : BitVec 32 := Scalar.remsi v253_r0 v1050_r0
  let c0_i32_575_r0 : BitVec 32 := 0#32
  let v1053_r0 : BitVec 1 := Scalar.cmpi .slt v1051_r0 c0_i32_575_r0
  let c0_i32_576_r0 : BitVec 32 := 0#32
  let v1054_r0 : BitVec 1 := Scalar.cmpi .slt v1050_r0 c0_i32_576_r0
  let v1055_r0 : BitVec 1 := Scalar.xori v1053_r0 v1054_r0
  let c0_i32_574_r0 : BitVec 32 := 0#32
  let v1052_r0 : BitVec 1 := Scalar.cmpi .ne v1051_r0 c0_i32_574_r0
  let v1056_r0 : BitVec 1 := Scalar.andi v1055_r0 v1052_r0
  let v1057_r0 : BitVec 32 := Scalar.addi v1051_r0 v1050_r0
  let v1058_r0 : BitVec 32 := Scalar.select v1056_r0 v1057_r0 v1051_r0
  let v1428_r0 : Index := Scalar.indexCast v1058_r0
  let c1_725_r0 : Index := 1#32
  let c256_726_r0 : Index := 256#32
  let c0_727_r0 : Index := 0#32
  ![v1428_r0.toNat, 1, 256, 0]
def k0_off82 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_571_r0 : BitVec 32 := 6#32
  let c0_i32_572_r0 : BitVec 32 := 0#32
  let v1049_r0 : BitVec 1 := Scalar.cmpi .eq c6_i32_571_r0 c0_i32_572_r0
  let c1_i32_573_r0 : BitVec 32 := 1#32
  let v1050_r0 : BitVec 32 := Scalar.select v1049_r0 c1_i32_573_r0 c6_i32_571_r0
  let v1051_r0 : BitVec 32 := Scalar.remsi v253_r0 v1050_r0
  let c0_i32_575_r0 : BitVec 32 := 0#32
  let v1053_r0 : BitVec 1 := Scalar.cmpi .slt v1051_r0 c0_i32_575_r0
  let c0_i32_576_r0 : BitVec 32 := 0#32
  let v1054_r0 : BitVec 1 := Scalar.cmpi .slt v1050_r0 c0_i32_576_r0
  let v1055_r0 : BitVec 1 := Scalar.xori v1053_r0 v1054_r0
  let c0_i32_574_r0 : BitVec 32 := 0#32
  let v1052_r0 : BitVec 1 := Scalar.cmpi .ne v1051_r0 c0_i32_574_r0
  let v1056_r0 : BitVec 1 := Scalar.andi v1055_r0 v1052_r0
  let v1057_r0 : BitVec 32 := Scalar.addi v1051_r0 v1050_r0
  let v1058_r0 : BitVec 32 := Scalar.select v1056_r0 v1057_r0 v1051_r0
  let v1468_r0 : Index := Scalar.indexCast v1058_r0
  let c0_741_r0 : Index := 0#32
  let c256_742_r0 : Index := 256#32
  let c256_743_r0 : Index := 256#32
  ![v1468_r0.toNat, 0, 256, 256]
def k0_off83 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_571_r0 : BitVec 32 := 6#32
  let c0_i32_572_r0 : BitVec 32 := 0#32
  let v1049_r0 : BitVec 1 := Scalar.cmpi .eq c6_i32_571_r0 c0_i32_572_r0
  let c1_i32_573_r0 : BitVec 32 := 1#32
  let v1050_r0 : BitVec 32 := Scalar.select v1049_r0 c1_i32_573_r0 c6_i32_571_r0
  let v1051_r0 : BitVec 32 := Scalar.remsi v253_r0 v1050_r0
  let c0_i32_575_r0 : BitVec 32 := 0#32
  let v1053_r0 : BitVec 1 := Scalar.cmpi .slt v1051_r0 c0_i32_575_r0
  let c0_i32_576_r0 : BitVec 32 := 0#32
  let v1054_r0 : BitVec 1 := Scalar.cmpi .slt v1050_r0 c0_i32_576_r0
  let v1055_r0 : BitVec 1 := Scalar.xori v1053_r0 v1054_r0
  let c0_i32_574_r0 : BitVec 32 := 0#32
  let v1052_r0 : BitVec 1 := Scalar.cmpi .ne v1051_r0 c0_i32_574_r0
  let v1056_r0 : BitVec 1 := Scalar.andi v1055_r0 v1052_r0
  let v1057_r0 : BitVec 32 := Scalar.addi v1051_r0 v1050_r0
  let v1058_r0 : BitVec 32 := Scalar.select v1056_r0 v1057_r0 v1051_r0
  let v1508_r0 : Index := Scalar.indexCast v1058_r0
  let c1_757_r0 : Index := 1#32
  let c256_758_r0 : Index := 256#32
  let c256_759_r0 : Index := 256#32
  ![v1508_r0.toNat, 1, 256, 256]
def k0_off84 (k0_t1 : Fin k0_t1_loop.trips) : Fin 3 → Nat :=
  let c0_i32_254_r0 : BitVec 32 := 0#32
  let c1_i32_255_r0 : BitVec 32 := 1#32
  let arg16_r0 : BitVec 32 := Scf.iv c0_i32_254_r0 c1_i32_255_r0 k0_t1
  let v1548_r0 : Index := Scalar.indexCast arg16_r0
  let c0_773_r0 : Index := 0#32
  let c768_774_r0 : Index := 768#32
  ![v1548_r0.toNat, 0, 768]
def k0_off85 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_571_r0 : BitVec 32 := 6#32
  let c0_i32_572_r0 : BitVec 32 := 0#32
  let v1049_r0 : BitVec 1 := Scalar.cmpi .eq c6_i32_571_r0 c0_i32_572_r0
  let c1_i32_573_r0 : BitVec 32 := 1#32
  let v1050_r0 : BitVec 32 := Scalar.select v1049_r0 c1_i32_573_r0 c6_i32_571_r0
  let v1051_r0 : BitVec 32 := Scalar.remsi v253_r0 v1050_r0
  let c0_i32_575_r0 : BitVec 32 := 0#32
  let v1053_r0 : BitVec 1 := Scalar.cmpi .slt v1051_r0 c0_i32_575_r0
  let c0_i32_576_r0 : BitVec 32 := 0#32
  let v1054_r0 : BitVec 1 := Scalar.cmpi .slt v1050_r0 c0_i32_576_r0
  let v1055_r0 : BitVec 1 := Scalar.xori v1053_r0 v1054_r0
  let c0_i32_574_r0 : BitVec 32 := 0#32
  let v1052_r0 : BitVec 1 := Scalar.cmpi .ne v1051_r0 c0_i32_574_r0
  let v1056_r0 : BitVec 1 := Scalar.andi v1055_r0 v1052_r0
  let v1057_r0 : BitVec 32 := Scalar.addi v1051_r0 v1050_r0
  let v1058_r0 : BitVec 32 := Scalar.select v1056_r0 v1057_r0 v1051_r0
  let v1551_r0 : Index := Scalar.indexCast v1058_r0
  let c0_775_r0 : Index := 0#32
  let c384_776_r0 : Index := 384#32
  let c0_777_r0 : Index := 0#32
  ![v1551_r0.toNat, 0, 384, 0]
def k0_off86 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_571_r0 : BitVec 32 := 6#32
  let c0_i32_572_r0 : BitVec 32 := 0#32
  let v1049_r0 : BitVec 1 := Scalar.cmpi .eq c6_i32_571_r0 c0_i32_572_r0
  let c1_i32_573_r0 : BitVec 32 := 1#32
  let v1050_r0 : BitVec 32 := Scalar.select v1049_r0 c1_i32_573_r0 c6_i32_571_r0
  let v1051_r0 : BitVec 32 := Scalar.remsi v253_r0 v1050_r0
  let c0_i32_575_r0 : BitVec 32 := 0#32
  let v1053_r0 : BitVec 1 := Scalar.cmpi .slt v1051_r0 c0_i32_575_r0
  let c0_i32_576_r0 : BitVec 32 := 0#32
  let v1054_r0 : BitVec 1 := Scalar.cmpi .slt v1050_r0 c0_i32_576_r0
  let v1055_r0 : BitVec 1 := Scalar.xori v1053_r0 v1054_r0
  let c0_i32_574_r0 : BitVec 32 := 0#32
  let v1052_r0 : BitVec 1 := Scalar.cmpi .ne v1051_r0 c0_i32_574_r0
  let v1056_r0 : BitVec 1 := Scalar.andi v1055_r0 v1052_r0
  let v1057_r0 : BitVec 32 := Scalar.addi v1051_r0 v1050_r0
  let v1058_r0 : BitVec 32 := Scalar.select v1056_r0 v1057_r0 v1051_r0
  let v1591_r0 : Index := Scalar.indexCast v1058_r0
  let c1_791_r0 : Index := 1#32
  let c384_792_r0 : Index := 384#32
  let c0_793_r0 : Index := 0#32
  ![v1591_r0.toNat, 1, 384, 0]
def k0_off87 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_571_r0 : BitVec 32 := 6#32
  let c0_i32_572_r0 : BitVec 32 := 0#32
  let v1049_r0 : BitVec 1 := Scalar.cmpi .eq c6_i32_571_r0 c0_i32_572_r0
  let c1_i32_573_r0 : BitVec 32 := 1#32
  let v1050_r0 : BitVec 32 := Scalar.select v1049_r0 c1_i32_573_r0 c6_i32_571_r0
  let v1051_r0 : BitVec 32 := Scalar.remsi v253_r0 v1050_r0
  let c0_i32_575_r0 : BitVec 32 := 0#32
  let v1053_r0 : BitVec 1 := Scalar.cmpi .slt v1051_r0 c0_i32_575_r0
  let c0_i32_576_r0 : BitVec 32 := 0#32
  let v1054_r0 : BitVec 1 := Scalar.cmpi .slt v1050_r0 c0_i32_576_r0
  let v1055_r0 : BitVec 1 := Scalar.xori v1053_r0 v1054_r0
  let c0_i32_574_r0 : BitVec 32 := 0#32
  let v1052_r0 : BitVec 1 := Scalar.cmpi .ne v1051_r0 c0_i32_574_r0
  let v1056_r0 : BitVec 1 := Scalar.andi v1055_r0 v1052_r0
  let v1057_r0 : BitVec 32 := Scalar.addi v1051_r0 v1050_r0
  let v1058_r0 : BitVec 32 := Scalar.select v1056_r0 v1057_r0 v1051_r0
  let v1631_r0 : Index := Scalar.indexCast v1058_r0
  let c0_807_r0 : Index := 0#32
  let c384_808_r0 : Index := 384#32
  let c256_809_r0 : Index := 256#32
  ![v1631_r0.toNat, 0, 384, 256]
def k0_off88 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_571_r0 : BitVec 32 := 6#32
  let c0_i32_572_r0 : BitVec 32 := 0#32
  let v1049_r0 : BitVec 1 := Scalar.cmpi .eq c6_i32_571_r0 c0_i32_572_r0
  let c1_i32_573_r0 : BitVec 32 := 1#32
  let v1050_r0 : BitVec 32 := Scalar.select v1049_r0 c1_i32_573_r0 c6_i32_571_r0
  let v1051_r0 : BitVec 32 := Scalar.remsi v253_r0 v1050_r0
  let c0_i32_575_r0 : BitVec 32 := 0#32
  let v1053_r0 : BitVec 1 := Scalar.cmpi .slt v1051_r0 c0_i32_575_r0
  let c0_i32_576_r0 : BitVec 32 := 0#32
  let v1054_r0 : BitVec 1 := Scalar.cmpi .slt v1050_r0 c0_i32_576_r0
  let v1055_r0 : BitVec 1 := Scalar.xori v1053_r0 v1054_r0
  let c0_i32_574_r0 : BitVec 32 := 0#32
  let v1052_r0 : BitVec 1 := Scalar.cmpi .ne v1051_r0 c0_i32_574_r0
  let v1056_r0 : BitVec 1 := Scalar.andi v1055_r0 v1052_r0
  let v1057_r0 : BitVec 32 := Scalar.addi v1051_r0 v1050_r0
  let v1058_r0 : BitVec 32 := Scalar.select v1056_r0 v1057_r0 v1051_r0
  let v1671_r0 : Index := Scalar.indexCast v1058_r0
  let c1_823_r0 : Index := 1#32
  let c384_824_r0 : Index := 384#32
  let c256_825_r0 : Index := 256#32
  ![v1671_r0.toNat, 1, 384, 256]
def k0_off89 (k0_t1 : Fin k0_t1_loop.trips) : Fin 3 → Nat :=
  let c0_i32_254_r0 : BitVec 32 := 0#32
  let c1_i32_255_r0 : BitVec 32 := 1#32
  let arg16_r0 : BitVec 32 := Scf.iv c0_i32_254_r0 c1_i32_255_r0 k0_t1
  let v1711_r0 : Index := Scalar.indexCast arg16_r0
  let c0_839_r0 : Index := 0#32
  let c1024_840_r0 : Index := 1024#32
  ![v1711_r0.toNat, 0, 1024]
def k0_off90 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_571_r0 : BitVec 32 := 6#32
  let c0_i32_572_r0 : BitVec 32 := 0#32
  let v1049_r0 : BitVec 1 := Scalar.cmpi .eq c6_i32_571_r0 c0_i32_572_r0
  let c1_i32_573_r0 : BitVec 32 := 1#32
  let v1050_r0 : BitVec 32 := Scalar.select v1049_r0 c1_i32_573_r0 c6_i32_571_r0
  let v1051_r0 : BitVec 32 := Scalar.remsi v253_r0 v1050_r0
  let c0_i32_575_r0 : BitVec 32 := 0#32
  let v1053_r0 : BitVec 1 := Scalar.cmpi .slt v1051_r0 c0_i32_575_r0
  let c0_i32_576_r0 : BitVec 32 := 0#32
  let v1054_r0 : BitVec 1 := Scalar.cmpi .slt v1050_r0 c0_i32_576_r0
  let v1055_r0 : BitVec 1 := Scalar.xori v1053_r0 v1054_r0
  let c0_i32_574_r0 : BitVec 32 := 0#32
  let v1052_r0 : BitVec 1 := Scalar.cmpi .ne v1051_r0 c0_i32_574_r0
  let v1056_r0 : BitVec 1 := Scalar.andi v1055_r0 v1052_r0
  let v1057_r0 : BitVec 32 := Scalar.addi v1051_r0 v1050_r0
  let v1058_r0 : BitVec 32 := Scalar.select v1056_r0 v1057_r0 v1051_r0
  let v1714_r0 : Index := Scalar.indexCast v1058_r0
  let c0_841_r0 : Index := 0#32
  let c512_842_r0 : Index := 512#32
  let c0_843_r0 : Index := 0#32
  ![v1714_r0.toNat, 0, 512, 0]
def k0_off91 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_571_r0 : BitVec 32 := 6#32
  let c0_i32_572_r0 : BitVec 32 := 0#32
  let v1049_r0 : BitVec 1 := Scalar.cmpi .eq c6_i32_571_r0 c0_i32_572_r0
  let c1_i32_573_r0 : BitVec 32 := 1#32
  let v1050_r0 : BitVec 32 := Scalar.select v1049_r0 c1_i32_573_r0 c6_i32_571_r0
  let v1051_r0 : BitVec 32 := Scalar.remsi v253_r0 v1050_r0
  let c0_i32_575_r0 : BitVec 32 := 0#32
  let v1053_r0 : BitVec 1 := Scalar.cmpi .slt v1051_r0 c0_i32_575_r0
  let c0_i32_576_r0 : BitVec 32 := 0#32
  let v1054_r0 : BitVec 1 := Scalar.cmpi .slt v1050_r0 c0_i32_576_r0
  let v1055_r0 : BitVec 1 := Scalar.xori v1053_r0 v1054_r0
  let c0_i32_574_r0 : BitVec 32 := 0#32
  let v1052_r0 : BitVec 1 := Scalar.cmpi .ne v1051_r0 c0_i32_574_r0
  let v1056_r0 : BitVec 1 := Scalar.andi v1055_r0 v1052_r0
  let v1057_r0 : BitVec 32 := Scalar.addi v1051_r0 v1050_r0
  let v1058_r0 : BitVec 32 := Scalar.select v1056_r0 v1057_r0 v1051_r0
  let v1754_r0 : Index := Scalar.indexCast v1058_r0
  let c1_857_r0 : Index := 1#32
  let c512_858_r0 : Index := 512#32
  let c0_859_r0 : Index := 0#32
  ![v1754_r0.toNat, 1, 512, 0]
def k0_off92 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_571_r0 : BitVec 32 := 6#32
  let c0_i32_572_r0 : BitVec 32 := 0#32
  let v1049_r0 : BitVec 1 := Scalar.cmpi .eq c6_i32_571_r0 c0_i32_572_r0
  let c1_i32_573_r0 : BitVec 32 := 1#32
  let v1050_r0 : BitVec 32 := Scalar.select v1049_r0 c1_i32_573_r0 c6_i32_571_r0
  let v1051_r0 : BitVec 32 := Scalar.remsi v253_r0 v1050_r0
  let c0_i32_575_r0 : BitVec 32 := 0#32
  let v1053_r0 : BitVec 1 := Scalar.cmpi .slt v1051_r0 c0_i32_575_r0
  let c0_i32_576_r0 : BitVec 32 := 0#32
  let v1054_r0 : BitVec 1 := Scalar.cmpi .slt v1050_r0 c0_i32_576_r0
  let v1055_r0 : BitVec 1 := Scalar.xori v1053_r0 v1054_r0
  let c0_i32_574_r0 : BitVec 32 := 0#32
  let v1052_r0 : BitVec 1 := Scalar.cmpi .ne v1051_r0 c0_i32_574_r0
  let v1056_r0 : BitVec 1 := Scalar.andi v1055_r0 v1052_r0
  let v1057_r0 : BitVec 32 := Scalar.addi v1051_r0 v1050_r0
  let v1058_r0 : BitVec 32 := Scalar.select v1056_r0 v1057_r0 v1051_r0
  let v1794_r0 : Index := Scalar.indexCast v1058_r0
  let c0_873_r0 : Index := 0#32
  let c512_874_r0 : Index := 512#32
  let c256_875_r0 : Index := 256#32
  ![v1794_r0.toNat, 0, 512, 256]
def k0_off93 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_571_r0 : BitVec 32 := 6#32
  let c0_i32_572_r0 : BitVec 32 := 0#32
  let v1049_r0 : BitVec 1 := Scalar.cmpi .eq c6_i32_571_r0 c0_i32_572_r0
  let c1_i32_573_r0 : BitVec 32 := 1#32
  let v1050_r0 : BitVec 32 := Scalar.select v1049_r0 c1_i32_573_r0 c6_i32_571_r0
  let v1051_r0 : BitVec 32 := Scalar.remsi v253_r0 v1050_r0
  let c0_i32_575_r0 : BitVec 32 := 0#32
  let v1053_r0 : BitVec 1 := Scalar.cmpi .slt v1051_r0 c0_i32_575_r0
  let c0_i32_576_r0 : BitVec 32 := 0#32
  let v1054_r0 : BitVec 1 := Scalar.cmpi .slt v1050_r0 c0_i32_576_r0
  let v1055_r0 : BitVec 1 := Scalar.xori v1053_r0 v1054_r0
  let c0_i32_574_r0 : BitVec 32 := 0#32
  let v1052_r0 : BitVec 1 := Scalar.cmpi .ne v1051_r0 c0_i32_574_r0
  let v1056_r0 : BitVec 1 := Scalar.andi v1055_r0 v1052_r0
  let v1057_r0 : BitVec 32 := Scalar.addi v1051_r0 v1050_r0
  let v1058_r0 : BitVec 32 := Scalar.select v1056_r0 v1057_r0 v1051_r0
  let v1834_r0 : Index := Scalar.indexCast v1058_r0
  let c1_889_r0 : Index := 1#32
  let c512_890_r0 : Index := 512#32
  let c256_891_r0 : Index := 256#32
  ![v1834_r0.toNat, 1, 512, 256]
def k0_off94 (k0_t1 : Fin k0_t1_loop.trips) : Fin 3 → Nat :=
  let c0_i32_254_r0 : BitVec 32 := 0#32
  let c1_i32_255_r0 : BitVec 32 := 1#32
  let arg16_r0 : BitVec 32 := Scf.iv c0_i32_254_r0 c1_i32_255_r0 k0_t1
  let v1874_r0 : Index := Scalar.indexCast arg16_r0
  let c0_905_r0 : Index := 0#32
  let c1280_906_r0 : Index := 1280#32
  ![v1874_r0.toNat, 0, 1280]
def k0_off95 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_571_r0 : BitVec 32 := 6#32
  let c0_i32_572_r0 : BitVec 32 := 0#32
  let v1049_r0 : BitVec 1 := Scalar.cmpi .eq c6_i32_571_r0 c0_i32_572_r0
  let c1_i32_573_r0 : BitVec 32 := 1#32
  let v1050_r0 : BitVec 32 := Scalar.select v1049_r0 c1_i32_573_r0 c6_i32_571_r0
  let v1051_r0 : BitVec 32 := Scalar.remsi v253_r0 v1050_r0
  let c0_i32_575_r0 : BitVec 32 := 0#32
  let v1053_r0 : BitVec 1 := Scalar.cmpi .slt v1051_r0 c0_i32_575_r0
  let c0_i32_576_r0 : BitVec 32 := 0#32
  let v1054_r0 : BitVec 1 := Scalar.cmpi .slt v1050_r0 c0_i32_576_r0
  let v1055_r0 : BitVec 1 := Scalar.xori v1053_r0 v1054_r0
  let c0_i32_574_r0 : BitVec 32 := 0#32
  let v1052_r0 : BitVec 1 := Scalar.cmpi .ne v1051_r0 c0_i32_574_r0
  let v1056_r0 : BitVec 1 := Scalar.andi v1055_r0 v1052_r0
  let v1057_r0 : BitVec 32 := Scalar.addi v1051_r0 v1050_r0
  let v1058_r0 : BitVec 32 := Scalar.select v1056_r0 v1057_r0 v1051_r0
  let v1877_r0 : Index := Scalar.indexCast v1058_r0
  let c0_907_r0 : Index := 0#32
  let c640_908_r0 : Index := 640#32
  let c0_909_r0 : Index := 0#32
  ![v1877_r0.toNat, 0, 640, 0]
def k0_off96 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_571_r0 : BitVec 32 := 6#32
  let c0_i32_572_r0 : BitVec 32 := 0#32
  let v1049_r0 : BitVec 1 := Scalar.cmpi .eq c6_i32_571_r0 c0_i32_572_r0
  let c1_i32_573_r0 : BitVec 32 := 1#32
  let v1050_r0 : BitVec 32 := Scalar.select v1049_r0 c1_i32_573_r0 c6_i32_571_r0
  let v1051_r0 : BitVec 32 := Scalar.remsi v253_r0 v1050_r0
  let c0_i32_575_r0 : BitVec 32 := 0#32
  let v1053_r0 : BitVec 1 := Scalar.cmpi .slt v1051_r0 c0_i32_575_r0
  let c0_i32_576_r0 : BitVec 32 := 0#32
  let v1054_r0 : BitVec 1 := Scalar.cmpi .slt v1050_r0 c0_i32_576_r0
  let v1055_r0 : BitVec 1 := Scalar.xori v1053_r0 v1054_r0
  let c0_i32_574_r0 : BitVec 32 := 0#32
  let v1052_r0 : BitVec 1 := Scalar.cmpi .ne v1051_r0 c0_i32_574_r0
  let v1056_r0 : BitVec 1 := Scalar.andi v1055_r0 v1052_r0
  let v1057_r0 : BitVec 32 := Scalar.addi v1051_r0 v1050_r0
  let v1058_r0 : BitVec 32 := Scalar.select v1056_r0 v1057_r0 v1051_r0
  let v1917_r0 : Index := Scalar.indexCast v1058_r0
  let c1_923_r0 : Index := 1#32
  let c640_924_r0 : Index := 640#32
  let c0_925_r0 : Index := 0#32
  ![v1917_r0.toNat, 1, 640, 0]
def k0_off97 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_571_r0 : BitVec 32 := 6#32
  let c0_i32_572_r0 : BitVec 32 := 0#32
  let v1049_r0 : BitVec 1 := Scalar.cmpi .eq c6_i32_571_r0 c0_i32_572_r0
  let c1_i32_573_r0 : BitVec 32 := 1#32
  let v1050_r0 : BitVec 32 := Scalar.select v1049_r0 c1_i32_573_r0 c6_i32_571_r0
  let v1051_r0 : BitVec 32 := Scalar.remsi v253_r0 v1050_r0
  let c0_i32_575_r0 : BitVec 32 := 0#32
  let v1053_r0 : BitVec 1 := Scalar.cmpi .slt v1051_r0 c0_i32_575_r0
  let c0_i32_576_r0 : BitVec 32 := 0#32
  let v1054_r0 : BitVec 1 := Scalar.cmpi .slt v1050_r0 c0_i32_576_r0
  let v1055_r0 : BitVec 1 := Scalar.xori v1053_r0 v1054_r0
  let c0_i32_574_r0 : BitVec 32 := 0#32
  let v1052_r0 : BitVec 1 := Scalar.cmpi .ne v1051_r0 c0_i32_574_r0
  let v1056_r0 : BitVec 1 := Scalar.andi v1055_r0 v1052_r0
  let v1057_r0 : BitVec 32 := Scalar.addi v1051_r0 v1050_r0
  let v1058_r0 : BitVec 32 := Scalar.select v1056_r0 v1057_r0 v1051_r0
  let v1957_r0 : Index := Scalar.indexCast v1058_r0
  let c0_939_r0 : Index := 0#32
  let c640_940_r0 : Index := 640#32
  let c256_941_r0 : Index := 256#32
  ![v1957_r0.toNat, 0, 640, 256]
def k0_off98 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_571_r0 : BitVec 32 := 6#32
  let c0_i32_572_r0 : BitVec 32 := 0#32
  let v1049_r0 : BitVec 1 := Scalar.cmpi .eq c6_i32_571_r0 c0_i32_572_r0
  let c1_i32_573_r0 : BitVec 32 := 1#32
  let v1050_r0 : BitVec 32 := Scalar.select v1049_r0 c1_i32_573_r0 c6_i32_571_r0
  let v1051_r0 : BitVec 32 := Scalar.remsi v253_r0 v1050_r0
  let c0_i32_575_r0 : BitVec 32 := 0#32
  let v1053_r0 : BitVec 1 := Scalar.cmpi .slt v1051_r0 c0_i32_575_r0
  let c0_i32_576_r0 : BitVec 32 := 0#32
  let v1054_r0 : BitVec 1 := Scalar.cmpi .slt v1050_r0 c0_i32_576_r0
  let v1055_r0 : BitVec 1 := Scalar.xori v1053_r0 v1054_r0
  let c0_i32_574_r0 : BitVec 32 := 0#32
  let v1052_r0 : BitVec 1 := Scalar.cmpi .ne v1051_r0 c0_i32_574_r0
  let v1056_r0 : BitVec 1 := Scalar.andi v1055_r0 v1052_r0
  let v1057_r0 : BitVec 32 := Scalar.addi v1051_r0 v1050_r0
  let v1058_r0 : BitVec 32 := Scalar.select v1056_r0 v1057_r0 v1051_r0
  let v1997_r0 : Index := Scalar.indexCast v1058_r0
  let c1_955_r0 : Index := 1#32
  let c640_956_r0 : Index := 640#32
  let c256_957_r0 : Index := 256#32
  ![v1997_r0.toNat, 1, 640, 256]
def k0_off99 (k0_t1 : Fin k0_t1_loop.trips) : Fin 3 → Nat :=
  let c0_i32_254_r0 : BitVec 32 := 0#32
  let c1_i32_255_r0 : BitVec 32 := 1#32
  let arg16_r0 : BitVec 32 := Scf.iv c0_i32_254_r0 c1_i32_255_r0 k0_t1
  let v2037_r0 : Index := Scalar.indexCast arg16_r0
  let c0_971_r0 : Index := 0#32
  let c1536_972_r0 : Index := 1536#32
  ![v2037_r0.toNat, 0, 1536]
def k0_off100 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_571_r0 : BitVec 32 := 6#32
  let c0_i32_572_r0 : BitVec 32 := 0#32
  let v1049_r0 : BitVec 1 := Scalar.cmpi .eq c6_i32_571_r0 c0_i32_572_r0
  let c1_i32_573_r0 : BitVec 32 := 1#32
  let v1050_r0 : BitVec 32 := Scalar.select v1049_r0 c1_i32_573_r0 c6_i32_571_r0
  let v1051_r0 : BitVec 32 := Scalar.remsi v253_r0 v1050_r0
  let c0_i32_575_r0 : BitVec 32 := 0#32
  let v1053_r0 : BitVec 1 := Scalar.cmpi .slt v1051_r0 c0_i32_575_r0
  let c0_i32_576_r0 : BitVec 32 := 0#32
  let v1054_r0 : BitVec 1 := Scalar.cmpi .slt v1050_r0 c0_i32_576_r0
  let v1055_r0 : BitVec 1 := Scalar.xori v1053_r0 v1054_r0
  let c0_i32_574_r0 : BitVec 32 := 0#32
  let v1052_r0 : BitVec 1 := Scalar.cmpi .ne v1051_r0 c0_i32_574_r0
  let v1056_r0 : BitVec 1 := Scalar.andi v1055_r0 v1052_r0
  let v1057_r0 : BitVec 32 := Scalar.addi v1051_r0 v1050_r0
  let v1058_r0 : BitVec 32 := Scalar.select v1056_r0 v1057_r0 v1051_r0
  let v2040_r0 : Index := Scalar.indexCast v1058_r0
  let c0_973_r0 : Index := 0#32
  let c768_974_r0 : Index := 768#32
  let c0_975_r0 : Index := 0#32
  ![v2040_r0.toNat, 0, 768, 0]
def k0_off101 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_571_r0 : BitVec 32 := 6#32
  let c0_i32_572_r0 : BitVec 32 := 0#32
  let v1049_r0 : BitVec 1 := Scalar.cmpi .eq c6_i32_571_r0 c0_i32_572_r0
  let c1_i32_573_r0 : BitVec 32 := 1#32
  let v1050_r0 : BitVec 32 := Scalar.select v1049_r0 c1_i32_573_r0 c6_i32_571_r0
  let v1051_r0 : BitVec 32 := Scalar.remsi v253_r0 v1050_r0
  let c0_i32_575_r0 : BitVec 32 := 0#32
  let v1053_r0 : BitVec 1 := Scalar.cmpi .slt v1051_r0 c0_i32_575_r0
  let c0_i32_576_r0 : BitVec 32 := 0#32
  let v1054_r0 : BitVec 1 := Scalar.cmpi .slt v1050_r0 c0_i32_576_r0
  let v1055_r0 : BitVec 1 := Scalar.xori v1053_r0 v1054_r0
  let c0_i32_574_r0 : BitVec 32 := 0#32
  let v1052_r0 : BitVec 1 := Scalar.cmpi .ne v1051_r0 c0_i32_574_r0
  let v1056_r0 : BitVec 1 := Scalar.andi v1055_r0 v1052_r0
  let v1057_r0 : BitVec 32 := Scalar.addi v1051_r0 v1050_r0
  let v1058_r0 : BitVec 32 := Scalar.select v1056_r0 v1057_r0 v1051_r0
  let v2080_r0 : Index := Scalar.indexCast v1058_r0
  let c1_989_r0 : Index := 1#32
  let c768_990_r0 : Index := 768#32
  let c0_991_r0 : Index := 0#32
  ![v2080_r0.toNat, 1, 768, 0]
def k0_off102 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_571_r0 : BitVec 32 := 6#32
  let c0_i32_572_r0 : BitVec 32 := 0#32
  let v1049_r0 : BitVec 1 := Scalar.cmpi .eq c6_i32_571_r0 c0_i32_572_r0
  let c1_i32_573_r0 : BitVec 32 := 1#32
  let v1050_r0 : BitVec 32 := Scalar.select v1049_r0 c1_i32_573_r0 c6_i32_571_r0
  let v1051_r0 : BitVec 32 := Scalar.remsi v253_r0 v1050_r0
  let c0_i32_575_r0 : BitVec 32 := 0#32
  let v1053_r0 : BitVec 1 := Scalar.cmpi .slt v1051_r0 c0_i32_575_r0
  let c0_i32_576_r0 : BitVec 32 := 0#32
  let v1054_r0 : BitVec 1 := Scalar.cmpi .slt v1050_r0 c0_i32_576_r0
  let v1055_r0 : BitVec 1 := Scalar.xori v1053_r0 v1054_r0
  let c0_i32_574_r0 : BitVec 32 := 0#32
  let v1052_r0 : BitVec 1 := Scalar.cmpi .ne v1051_r0 c0_i32_574_r0
  let v1056_r0 : BitVec 1 := Scalar.andi v1055_r0 v1052_r0
  let v1057_r0 : BitVec 32 := Scalar.addi v1051_r0 v1050_r0
  let v1058_r0 : BitVec 32 := Scalar.select v1056_r0 v1057_r0 v1051_r0
  let v2120_r0 : Index := Scalar.indexCast v1058_r0
  let c0_1005_r0 : Index := 0#32
  let c768_1006_r0 : Index := 768#32
  let c256_1007_r0 : Index := 256#32
  ![v2120_r0.toNat, 0, 768, 256]
def k0_off103 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_571_r0 : BitVec 32 := 6#32
  let c0_i32_572_r0 : BitVec 32 := 0#32
  let v1049_r0 : BitVec 1 := Scalar.cmpi .eq c6_i32_571_r0 c0_i32_572_r0
  let c1_i32_573_r0 : BitVec 32 := 1#32
  let v1050_r0 : BitVec 32 := Scalar.select v1049_r0 c1_i32_573_r0 c6_i32_571_r0
  let v1051_r0 : BitVec 32 := Scalar.remsi v253_r0 v1050_r0
  let c0_i32_575_r0 : BitVec 32 := 0#32
  let v1053_r0 : BitVec 1 := Scalar.cmpi .slt v1051_r0 c0_i32_575_r0
  let c0_i32_576_r0 : BitVec 32 := 0#32
  let v1054_r0 : BitVec 1 := Scalar.cmpi .slt v1050_r0 c0_i32_576_r0
  let v1055_r0 : BitVec 1 := Scalar.xori v1053_r0 v1054_r0
  let c0_i32_574_r0 : BitVec 32 := 0#32
  let v1052_r0 : BitVec 1 := Scalar.cmpi .ne v1051_r0 c0_i32_574_r0
  let v1056_r0 : BitVec 1 := Scalar.andi v1055_r0 v1052_r0
  let v1057_r0 : BitVec 32 := Scalar.addi v1051_r0 v1050_r0
  let v1058_r0 : BitVec 32 := Scalar.select v1056_r0 v1057_r0 v1051_r0
  let v2160_r0 : Index := Scalar.indexCast v1058_r0
  let c1_1021_r0 : Index := 1#32
  let c768_1022_r0 : Index := 768#32
  let c256_1023_r0 : Index := 256#32
  ![v2160_r0.toNat, 1, 768, 256]
def k0_off104 (k0_t1 : Fin k0_t1_loop.trips) : Fin 3 → Nat :=
  let c0_i32_254_r0 : BitVec 32 := 0#32
  let c1_i32_255_r0 : BitVec 32 := 1#32
  let arg16_r0 : BitVec 32 := Scf.iv c0_i32_254_r0 c1_i32_255_r0 k0_t1
  let v2200_r0 : Index := Scalar.indexCast arg16_r0
  let c0_1037_r0 : Index := 0#32
  let c1792_1038_r0 : Index := 1792#32
  ![v2200_r0.toNat, 0, 1792]
def k0_off105 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_571_r0 : BitVec 32 := 6#32
  let c0_i32_572_r0 : BitVec 32 := 0#32
  let v1049_r0 : BitVec 1 := Scalar.cmpi .eq c6_i32_571_r0 c0_i32_572_r0
  let c1_i32_573_r0 : BitVec 32 := 1#32
  let v1050_r0 : BitVec 32 := Scalar.select v1049_r0 c1_i32_573_r0 c6_i32_571_r0
  let v1051_r0 : BitVec 32 := Scalar.remsi v253_r0 v1050_r0
  let c0_i32_575_r0 : BitVec 32 := 0#32
  let v1053_r0 : BitVec 1 := Scalar.cmpi .slt v1051_r0 c0_i32_575_r0
  let c0_i32_576_r0 : BitVec 32 := 0#32
  let v1054_r0 : BitVec 1 := Scalar.cmpi .slt v1050_r0 c0_i32_576_r0
  let v1055_r0 : BitVec 1 := Scalar.xori v1053_r0 v1054_r0
  let c0_i32_574_r0 : BitVec 32 := 0#32
  let v1052_r0 : BitVec 1 := Scalar.cmpi .ne v1051_r0 c0_i32_574_r0
  let v1056_r0 : BitVec 1 := Scalar.andi v1055_r0 v1052_r0
  let v1057_r0 : BitVec 32 := Scalar.addi v1051_r0 v1050_r0
  let v1058_r0 : BitVec 32 := Scalar.select v1056_r0 v1057_r0 v1051_r0
  let v2203_r0 : Index := Scalar.indexCast v1058_r0
  let c0_1039_r0 : Index := 0#32
  let c896_1040_r0 : Index := 896#32
  let c0_1041_r0 : Index := 0#32
  ![v2203_r0.toNat, 0, 896, 0]
def k0_off106 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_571_r0 : BitVec 32 := 6#32
  let c0_i32_572_r0 : BitVec 32 := 0#32
  let v1049_r0 : BitVec 1 := Scalar.cmpi .eq c6_i32_571_r0 c0_i32_572_r0
  let c1_i32_573_r0 : BitVec 32 := 1#32
  let v1050_r0 : BitVec 32 := Scalar.select v1049_r0 c1_i32_573_r0 c6_i32_571_r0
  let v1051_r0 : BitVec 32 := Scalar.remsi v253_r0 v1050_r0
  let c0_i32_575_r0 : BitVec 32 := 0#32
  let v1053_r0 : BitVec 1 := Scalar.cmpi .slt v1051_r0 c0_i32_575_r0
  let c0_i32_576_r0 : BitVec 32 := 0#32
  let v1054_r0 : BitVec 1 := Scalar.cmpi .slt v1050_r0 c0_i32_576_r0
  let v1055_r0 : BitVec 1 := Scalar.xori v1053_r0 v1054_r0
  let c0_i32_574_r0 : BitVec 32 := 0#32
  let v1052_r0 : BitVec 1 := Scalar.cmpi .ne v1051_r0 c0_i32_574_r0
  let v1056_r0 : BitVec 1 := Scalar.andi v1055_r0 v1052_r0
  let v1057_r0 : BitVec 32 := Scalar.addi v1051_r0 v1050_r0
  let v1058_r0 : BitVec 32 := Scalar.select v1056_r0 v1057_r0 v1051_r0
  let v2243_r0 : Index := Scalar.indexCast v1058_r0
  let c1_1055_r0 : Index := 1#32
  let c896_1056_r0 : Index := 896#32
  let c0_1057_r0 : Index := 0#32
  ![v2243_r0.toNat, 1, 896, 0]
def k0_off107 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_571_r0 : BitVec 32 := 6#32
  let c0_i32_572_r0 : BitVec 32 := 0#32
  let v1049_r0 : BitVec 1 := Scalar.cmpi .eq c6_i32_571_r0 c0_i32_572_r0
  let c1_i32_573_r0 : BitVec 32 := 1#32
  let v1050_r0 : BitVec 32 := Scalar.select v1049_r0 c1_i32_573_r0 c6_i32_571_r0
  let v1051_r0 : BitVec 32 := Scalar.remsi v253_r0 v1050_r0
  let c0_i32_575_r0 : BitVec 32 := 0#32
  let v1053_r0 : BitVec 1 := Scalar.cmpi .slt v1051_r0 c0_i32_575_r0
  let c0_i32_576_r0 : BitVec 32 := 0#32
  let v1054_r0 : BitVec 1 := Scalar.cmpi .slt v1050_r0 c0_i32_576_r0
  let v1055_r0 : BitVec 1 := Scalar.xori v1053_r0 v1054_r0
  let c0_i32_574_r0 : BitVec 32 := 0#32
  let v1052_r0 : BitVec 1 := Scalar.cmpi .ne v1051_r0 c0_i32_574_r0
  let v1056_r0 : BitVec 1 := Scalar.andi v1055_r0 v1052_r0
  let v1057_r0 : BitVec 32 := Scalar.addi v1051_r0 v1050_r0
  let v1058_r0 : BitVec 32 := Scalar.select v1056_r0 v1057_r0 v1051_r0
  let v2283_r0 : Index := Scalar.indexCast v1058_r0
  let c0_1071_r0 : Index := 0#32
  let c896_1072_r0 : Index := 896#32
  let c256_1073_r0 : Index := 256#32
  ![v2283_r0.toNat, 0, 896, 256]
def k0_off108 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_571_r0 : BitVec 32 := 6#32
  let c0_i32_572_r0 : BitVec 32 := 0#32
  let v1049_r0 : BitVec 1 := Scalar.cmpi .eq c6_i32_571_r0 c0_i32_572_r0
  let c1_i32_573_r0 : BitVec 32 := 1#32
  let v1050_r0 : BitVec 32 := Scalar.select v1049_r0 c1_i32_573_r0 c6_i32_571_r0
  let v1051_r0 : BitVec 32 := Scalar.remsi v253_r0 v1050_r0
  let c0_i32_575_r0 : BitVec 32 := 0#32
  let v1053_r0 : BitVec 1 := Scalar.cmpi .slt v1051_r0 c0_i32_575_r0
  let c0_i32_576_r0 : BitVec 32 := 0#32
  let v1054_r0 : BitVec 1 := Scalar.cmpi .slt v1050_r0 c0_i32_576_r0
  let v1055_r0 : BitVec 1 := Scalar.xori v1053_r0 v1054_r0
  let c0_i32_574_r0 : BitVec 32 := 0#32
  let v1052_r0 : BitVec 1 := Scalar.cmpi .ne v1051_r0 c0_i32_574_r0
  let v1056_r0 : BitVec 1 := Scalar.andi v1055_r0 v1052_r0
  let v1057_r0 : BitVec 32 := Scalar.addi v1051_r0 v1050_r0
  let v1058_r0 : BitVec 32 := Scalar.select v1056_r0 v1057_r0 v1051_r0
  let v2323_r0 : Index := Scalar.indexCast v1058_r0
  let c1_1087_r0 : Index := 1#32
  let c896_1088_r0 : Index := 896#32
  let c256_1089_r0 : Index := 256#32
  ![v2323_r0.toNat, 1, 896, 256]
def k0_off109 (k0_t1 : Fin k0_t1_loop.trips) : Fin 3 → Nat :=
  let c0_i32_254_r0 : BitVec 32 := 0#32
  let c1_i32_255_r0 : BitVec 32 := 1#32
  let arg16_r0 : BitVec 32 := Scf.iv c0_i32_254_r0 c1_i32_255_r0 k0_t1
  let v2363_r0 : Index := Scalar.indexCast arg16_r0
  let c0_1103_r0 : Index := 0#32
  let c2048_1104_r0 : Index := 2048#32
  ![v2363_r0.toNat, 0, 2048]
def k0_off110 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_571_r0 : BitVec 32 := 6#32
  let c0_i32_572_r0 : BitVec 32 := 0#32
  let v1049_r0 : BitVec 1 := Scalar.cmpi .eq c6_i32_571_r0 c0_i32_572_r0
  let c1_i32_573_r0 : BitVec 32 := 1#32
  let v1050_r0 : BitVec 32 := Scalar.select v1049_r0 c1_i32_573_r0 c6_i32_571_r0
  let v1051_r0 : BitVec 32 := Scalar.remsi v253_r0 v1050_r0
  let c0_i32_575_r0 : BitVec 32 := 0#32
  let v1053_r0 : BitVec 1 := Scalar.cmpi .slt v1051_r0 c0_i32_575_r0
  let c0_i32_576_r0 : BitVec 32 := 0#32
  let v1054_r0 : BitVec 1 := Scalar.cmpi .slt v1050_r0 c0_i32_576_r0
  let v1055_r0 : BitVec 1 := Scalar.xori v1053_r0 v1054_r0
  let c0_i32_574_r0 : BitVec 32 := 0#32
  let v1052_r0 : BitVec 1 := Scalar.cmpi .ne v1051_r0 c0_i32_574_r0
  let v1056_r0 : BitVec 1 := Scalar.andi v1055_r0 v1052_r0
  let v1057_r0 : BitVec 32 := Scalar.addi v1051_r0 v1050_r0
  let v1058_r0 : BitVec 32 := Scalar.select v1056_r0 v1057_r0 v1051_r0
  let v2366_r0 : Index := Scalar.indexCast v1058_r0
  let c0_1105_r0 : Index := 0#32
  let c1024_1106_r0 : Index := 1024#32
  let c0_1107_r0 : Index := 0#32
  ![v2366_r0.toNat, 0, 1024, 0]
def k0_off111 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_571_r0 : BitVec 32 := 6#32
  let c0_i32_572_r0 : BitVec 32 := 0#32
  let v1049_r0 : BitVec 1 := Scalar.cmpi .eq c6_i32_571_r0 c0_i32_572_r0
  let c1_i32_573_r0 : BitVec 32 := 1#32
  let v1050_r0 : BitVec 32 := Scalar.select v1049_r0 c1_i32_573_r0 c6_i32_571_r0
  let v1051_r0 : BitVec 32 := Scalar.remsi v253_r0 v1050_r0
  let c0_i32_575_r0 : BitVec 32 := 0#32
  let v1053_r0 : BitVec 1 := Scalar.cmpi .slt v1051_r0 c0_i32_575_r0
  let c0_i32_576_r0 : BitVec 32 := 0#32
  let v1054_r0 : BitVec 1 := Scalar.cmpi .slt v1050_r0 c0_i32_576_r0
  let v1055_r0 : BitVec 1 := Scalar.xori v1053_r0 v1054_r0
  let c0_i32_574_r0 : BitVec 32 := 0#32
  let v1052_r0 : BitVec 1 := Scalar.cmpi .ne v1051_r0 c0_i32_574_r0
  let v1056_r0 : BitVec 1 := Scalar.andi v1055_r0 v1052_r0
  let v1057_r0 : BitVec 32 := Scalar.addi v1051_r0 v1050_r0
  let v1058_r0 : BitVec 32 := Scalar.select v1056_r0 v1057_r0 v1051_r0
  let v2406_r0 : Index := Scalar.indexCast v1058_r0
  let c1_1121_r0 : Index := 1#32
  let c1024_1122_r0 : Index := 1024#32
  let c0_1123_r0 : Index := 0#32
  ![v2406_r0.toNat, 1, 1024, 0]
def k0_off112 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_571_r0 : BitVec 32 := 6#32
  let c0_i32_572_r0 : BitVec 32 := 0#32
  let v1049_r0 : BitVec 1 := Scalar.cmpi .eq c6_i32_571_r0 c0_i32_572_r0
  let c1_i32_573_r0 : BitVec 32 := 1#32
  let v1050_r0 : BitVec 32 := Scalar.select v1049_r0 c1_i32_573_r0 c6_i32_571_r0
  let v1051_r0 : BitVec 32 := Scalar.remsi v253_r0 v1050_r0
  let c0_i32_575_r0 : BitVec 32 := 0#32
  let v1053_r0 : BitVec 1 := Scalar.cmpi .slt v1051_r0 c0_i32_575_r0
  let c0_i32_576_r0 : BitVec 32 := 0#32
  let v1054_r0 : BitVec 1 := Scalar.cmpi .slt v1050_r0 c0_i32_576_r0
  let v1055_r0 : BitVec 1 := Scalar.xori v1053_r0 v1054_r0
  let c0_i32_574_r0 : BitVec 32 := 0#32
  let v1052_r0 : BitVec 1 := Scalar.cmpi .ne v1051_r0 c0_i32_574_r0
  let v1056_r0 : BitVec 1 := Scalar.andi v1055_r0 v1052_r0
  let v1057_r0 : BitVec 32 := Scalar.addi v1051_r0 v1050_r0
  let v1058_r0 : BitVec 32 := Scalar.select v1056_r0 v1057_r0 v1051_r0
  let v2446_r0 : Index := Scalar.indexCast v1058_r0
  let c0_1137_r0 : Index := 0#32
  let c1024_1138_r0 : Index := 1024#32
  let c256_1139_r0 : Index := 256#32
  ![v2446_r0.toNat, 0, 1024, 256]
def k0_off113 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_571_r0 : BitVec 32 := 6#32
  let c0_i32_572_r0 : BitVec 32 := 0#32
  let v1049_r0 : BitVec 1 := Scalar.cmpi .eq c6_i32_571_r0 c0_i32_572_r0
  let c1_i32_573_r0 : BitVec 32 := 1#32
  let v1050_r0 : BitVec 32 := Scalar.select v1049_r0 c1_i32_573_r0 c6_i32_571_r0
  let v1051_r0 : BitVec 32 := Scalar.remsi v253_r0 v1050_r0
  let c0_i32_575_r0 : BitVec 32 := 0#32
  let v1053_r0 : BitVec 1 := Scalar.cmpi .slt v1051_r0 c0_i32_575_r0
  let c0_i32_576_r0 : BitVec 32 := 0#32
  let v1054_r0 : BitVec 1 := Scalar.cmpi .slt v1050_r0 c0_i32_576_r0
  let v1055_r0 : BitVec 1 := Scalar.xori v1053_r0 v1054_r0
  let c0_i32_574_r0 : BitVec 32 := 0#32
  let v1052_r0 : BitVec 1 := Scalar.cmpi .ne v1051_r0 c0_i32_574_r0
  let v1056_r0 : BitVec 1 := Scalar.andi v1055_r0 v1052_r0
  let v1057_r0 : BitVec 32 := Scalar.addi v1051_r0 v1050_r0
  let v1058_r0 : BitVec 32 := Scalar.select v1056_r0 v1057_r0 v1051_r0
  let v2486_r0 : Index := Scalar.indexCast v1058_r0
  let c1_1153_r0 : Index := 1#32
  let c1024_1154_r0 : Index := 1024#32
  let c256_1155_r0 : Index := 256#32
  ![v2486_r0.toNat, 1, 1024, 256]
def k0_off114 (k0_t1 : Fin k0_t1_loop.trips) : Fin 3 → Nat :=
  let c0_i32_254_r0 : BitVec 32 := 0#32
  let c1_i32_255_r0 : BitVec 32 := 1#32
  let arg16_r0 : BitVec 32 := Scf.iv c0_i32_254_r0 c1_i32_255_r0 k0_t1
  let v2526_r0 : Index := Scalar.indexCast arg16_r0
  let c0_1169_r0 : Index := 0#32
  let c2304_1170_r0 : Index := 2304#32
  ![v2526_r0.toNat, 0, 2304]
def k0_off115 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_571_r0 : BitVec 32 := 6#32
  let c0_i32_572_r0 : BitVec 32 := 0#32
  let v1049_r0 : BitVec 1 := Scalar.cmpi .eq c6_i32_571_r0 c0_i32_572_r0
  let c1_i32_573_r0 : BitVec 32 := 1#32
  let v1050_r0 : BitVec 32 := Scalar.select v1049_r0 c1_i32_573_r0 c6_i32_571_r0
  let v1051_r0 : BitVec 32 := Scalar.remsi v253_r0 v1050_r0
  let c0_i32_575_r0 : BitVec 32 := 0#32
  let v1053_r0 : BitVec 1 := Scalar.cmpi .slt v1051_r0 c0_i32_575_r0
  let c0_i32_576_r0 : BitVec 32 := 0#32
  let v1054_r0 : BitVec 1 := Scalar.cmpi .slt v1050_r0 c0_i32_576_r0
  let v1055_r0 : BitVec 1 := Scalar.xori v1053_r0 v1054_r0
  let c0_i32_574_r0 : BitVec 32 := 0#32
  let v1052_r0 : BitVec 1 := Scalar.cmpi .ne v1051_r0 c0_i32_574_r0
  let v1056_r0 : BitVec 1 := Scalar.andi v1055_r0 v1052_r0
  let v1057_r0 : BitVec 32 := Scalar.addi v1051_r0 v1050_r0
  let v1058_r0 : BitVec 32 := Scalar.select v1056_r0 v1057_r0 v1051_r0
  let v2529_r0 : Index := Scalar.indexCast v1058_r0
  let c0_1171_r0 : Index := 0#32
  let c1152_1172_r0 : Index := 1152#32
  let c0_1173_r0 : Index := 0#32
  ![v2529_r0.toNat, 0, 1152, 0]
def k0_off116 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_571_r0 : BitVec 32 := 6#32
  let c0_i32_572_r0 : BitVec 32 := 0#32
  let v1049_r0 : BitVec 1 := Scalar.cmpi .eq c6_i32_571_r0 c0_i32_572_r0
  let c1_i32_573_r0 : BitVec 32 := 1#32
  let v1050_r0 : BitVec 32 := Scalar.select v1049_r0 c1_i32_573_r0 c6_i32_571_r0
  let v1051_r0 : BitVec 32 := Scalar.remsi v253_r0 v1050_r0
  let c0_i32_575_r0 : BitVec 32 := 0#32
  let v1053_r0 : BitVec 1 := Scalar.cmpi .slt v1051_r0 c0_i32_575_r0
  let c0_i32_576_r0 : BitVec 32 := 0#32
  let v1054_r0 : BitVec 1 := Scalar.cmpi .slt v1050_r0 c0_i32_576_r0
  let v1055_r0 : BitVec 1 := Scalar.xori v1053_r0 v1054_r0
  let c0_i32_574_r0 : BitVec 32 := 0#32
  let v1052_r0 : BitVec 1 := Scalar.cmpi .ne v1051_r0 c0_i32_574_r0
  let v1056_r0 : BitVec 1 := Scalar.andi v1055_r0 v1052_r0
  let v1057_r0 : BitVec 32 := Scalar.addi v1051_r0 v1050_r0
  let v1058_r0 : BitVec 32 := Scalar.select v1056_r0 v1057_r0 v1051_r0
  let v2569_r0 : Index := Scalar.indexCast v1058_r0
  let c1_1187_r0 : Index := 1#32
  let c1152_1188_r0 : Index := 1152#32
  let c0_1189_r0 : Index := 0#32
  ![v2569_r0.toNat, 1, 1152, 0]
def k0_off117 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_571_r0 : BitVec 32 := 6#32
  let c0_i32_572_r0 : BitVec 32 := 0#32
  let v1049_r0 : BitVec 1 := Scalar.cmpi .eq c6_i32_571_r0 c0_i32_572_r0
  let c1_i32_573_r0 : BitVec 32 := 1#32
  let v1050_r0 : BitVec 32 := Scalar.select v1049_r0 c1_i32_573_r0 c6_i32_571_r0
  let v1051_r0 : BitVec 32 := Scalar.remsi v253_r0 v1050_r0
  let c0_i32_575_r0 : BitVec 32 := 0#32
  let v1053_r0 : BitVec 1 := Scalar.cmpi .slt v1051_r0 c0_i32_575_r0
  let c0_i32_576_r0 : BitVec 32 := 0#32
  let v1054_r0 : BitVec 1 := Scalar.cmpi .slt v1050_r0 c0_i32_576_r0
  let v1055_r0 : BitVec 1 := Scalar.xori v1053_r0 v1054_r0
  let c0_i32_574_r0 : BitVec 32 := 0#32
  let v1052_r0 : BitVec 1 := Scalar.cmpi .ne v1051_r0 c0_i32_574_r0
  let v1056_r0 : BitVec 1 := Scalar.andi v1055_r0 v1052_r0
  let v1057_r0 : BitVec 32 := Scalar.addi v1051_r0 v1050_r0
  let v1058_r0 : BitVec 32 := Scalar.select v1056_r0 v1057_r0 v1051_r0
  let v2609_r0 : Index := Scalar.indexCast v1058_r0
  let c0_1203_r0 : Index := 0#32
  let c1152_1204_r0 : Index := 1152#32
  let c256_1205_r0 : Index := 256#32
  ![v2609_r0.toNat, 0, 1152, 256]
def k0_off118 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_571_r0 : BitVec 32 := 6#32
  let c0_i32_572_r0 : BitVec 32 := 0#32
  let v1049_r0 : BitVec 1 := Scalar.cmpi .eq c6_i32_571_r0 c0_i32_572_r0
  let c1_i32_573_r0 : BitVec 32 := 1#32
  let v1050_r0 : BitVec 32 := Scalar.select v1049_r0 c1_i32_573_r0 c6_i32_571_r0
  let v1051_r0 : BitVec 32 := Scalar.remsi v253_r0 v1050_r0
  let c0_i32_575_r0 : BitVec 32 := 0#32
  let v1053_r0 : BitVec 1 := Scalar.cmpi .slt v1051_r0 c0_i32_575_r0
  let c0_i32_576_r0 : BitVec 32 := 0#32
  let v1054_r0 : BitVec 1 := Scalar.cmpi .slt v1050_r0 c0_i32_576_r0
  let v1055_r0 : BitVec 1 := Scalar.xori v1053_r0 v1054_r0
  let c0_i32_574_r0 : BitVec 32 := 0#32
  let v1052_r0 : BitVec 1 := Scalar.cmpi .ne v1051_r0 c0_i32_574_r0
  let v1056_r0 : BitVec 1 := Scalar.andi v1055_r0 v1052_r0
  let v1057_r0 : BitVec 32 := Scalar.addi v1051_r0 v1050_r0
  let v1058_r0 : BitVec 32 := Scalar.select v1056_r0 v1057_r0 v1051_r0
  let v2649_r0 : Index := Scalar.indexCast v1058_r0
  let c1_1219_r0 : Index := 1#32
  let c1152_1220_r0 : Index := 1152#32
  let c256_1221_r0 : Index := 256#32
  ![v2649_r0.toNat, 1, 1152, 256]
def k0_off119 (k0_t1 : Fin k0_t1_loop.trips) : Fin 3 → Nat :=
  let c0_i32_254_r0 : BitVec 32 := 0#32
  let c1_i32_255_r0 : BitVec 32 := 1#32
  let arg16_r0 : BitVec 32 := Scf.iv c0_i32_254_r0 c1_i32_255_r0 k0_t1
  let v2689_r0 : Index := Scalar.indexCast arg16_r0
  let c0_1235_r0 : Index := 0#32
  let c2560_1236_r0 : Index := 2560#32
  ![v2689_r0.toNat, 0, 2560]
def k0_off120 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_571_r0 : BitVec 32 := 6#32
  let c0_i32_572_r0 : BitVec 32 := 0#32
  let v1049_r0 : BitVec 1 := Scalar.cmpi .eq c6_i32_571_r0 c0_i32_572_r0
  let c1_i32_573_r0 : BitVec 32 := 1#32
  let v1050_r0 : BitVec 32 := Scalar.select v1049_r0 c1_i32_573_r0 c6_i32_571_r0
  let v1051_r0 : BitVec 32 := Scalar.remsi v253_r0 v1050_r0
  let c0_i32_575_r0 : BitVec 32 := 0#32
  let v1053_r0 : BitVec 1 := Scalar.cmpi .slt v1051_r0 c0_i32_575_r0
  let c0_i32_576_r0 : BitVec 32 := 0#32
  let v1054_r0 : BitVec 1 := Scalar.cmpi .slt v1050_r0 c0_i32_576_r0
  let v1055_r0 : BitVec 1 := Scalar.xori v1053_r0 v1054_r0
  let c0_i32_574_r0 : BitVec 32 := 0#32
  let v1052_r0 : BitVec 1 := Scalar.cmpi .ne v1051_r0 c0_i32_574_r0
  let v1056_r0 : BitVec 1 := Scalar.andi v1055_r0 v1052_r0
  let v1057_r0 : BitVec 32 := Scalar.addi v1051_r0 v1050_r0
  let v1058_r0 : BitVec 32 := Scalar.select v1056_r0 v1057_r0 v1051_r0
  let v2692_r0 : Index := Scalar.indexCast v1058_r0
  let c0_1237_r0 : Index := 0#32
  let c1280_1238_r0 : Index := 1280#32
  let c0_1239_r0 : Index := 0#32
  ![v2692_r0.toNat, 0, 1280, 0]
def k0_off121 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_571_r0 : BitVec 32 := 6#32
  let c0_i32_572_r0 : BitVec 32 := 0#32
  let v1049_r0 : BitVec 1 := Scalar.cmpi .eq c6_i32_571_r0 c0_i32_572_r0
  let c1_i32_573_r0 : BitVec 32 := 1#32
  let v1050_r0 : BitVec 32 := Scalar.select v1049_r0 c1_i32_573_r0 c6_i32_571_r0
  let v1051_r0 : BitVec 32 := Scalar.remsi v253_r0 v1050_r0
  let c0_i32_575_r0 : BitVec 32 := 0#32
  let v1053_r0 : BitVec 1 := Scalar.cmpi .slt v1051_r0 c0_i32_575_r0
  let c0_i32_576_r0 : BitVec 32 := 0#32
  let v1054_r0 : BitVec 1 := Scalar.cmpi .slt v1050_r0 c0_i32_576_r0
  let v1055_r0 : BitVec 1 := Scalar.xori v1053_r0 v1054_r0
  let c0_i32_574_r0 : BitVec 32 := 0#32
  let v1052_r0 : BitVec 1 := Scalar.cmpi .ne v1051_r0 c0_i32_574_r0
  let v1056_r0 : BitVec 1 := Scalar.andi v1055_r0 v1052_r0
  let v1057_r0 : BitVec 32 := Scalar.addi v1051_r0 v1050_r0
  let v1058_r0 : BitVec 32 := Scalar.select v1056_r0 v1057_r0 v1051_r0
  let v2732_r0 : Index := Scalar.indexCast v1058_r0
  let c1_1253_r0 : Index := 1#32
  let c1280_1254_r0 : Index := 1280#32
  let c0_1255_r0 : Index := 0#32
  ![v2732_r0.toNat, 1, 1280, 0]
def k0_off122 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_571_r0 : BitVec 32 := 6#32
  let c0_i32_572_r0 : BitVec 32 := 0#32
  let v1049_r0 : BitVec 1 := Scalar.cmpi .eq c6_i32_571_r0 c0_i32_572_r0
  let c1_i32_573_r0 : BitVec 32 := 1#32
  let v1050_r0 : BitVec 32 := Scalar.select v1049_r0 c1_i32_573_r0 c6_i32_571_r0
  let v1051_r0 : BitVec 32 := Scalar.remsi v253_r0 v1050_r0
  let c0_i32_575_r0 : BitVec 32 := 0#32
  let v1053_r0 : BitVec 1 := Scalar.cmpi .slt v1051_r0 c0_i32_575_r0
  let c0_i32_576_r0 : BitVec 32 := 0#32
  let v1054_r0 : BitVec 1 := Scalar.cmpi .slt v1050_r0 c0_i32_576_r0
  let v1055_r0 : BitVec 1 := Scalar.xori v1053_r0 v1054_r0
  let c0_i32_574_r0 : BitVec 32 := 0#32
  let v1052_r0 : BitVec 1 := Scalar.cmpi .ne v1051_r0 c0_i32_574_r0
  let v1056_r0 : BitVec 1 := Scalar.andi v1055_r0 v1052_r0
  let v1057_r0 : BitVec 32 := Scalar.addi v1051_r0 v1050_r0
  let v1058_r0 : BitVec 32 := Scalar.select v1056_r0 v1057_r0 v1051_r0
  let v2772_r0 : Index := Scalar.indexCast v1058_r0
  let c0_1269_r0 : Index := 0#32
  let c1280_1270_r0 : Index := 1280#32
  let c256_1271_r0 : Index := 256#32
  ![v2772_r0.toNat, 0, 1280, 256]
def k0_off123 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_571_r0 : BitVec 32 := 6#32
  let c0_i32_572_r0 : BitVec 32 := 0#32
  let v1049_r0 : BitVec 1 := Scalar.cmpi .eq c6_i32_571_r0 c0_i32_572_r0
  let c1_i32_573_r0 : BitVec 32 := 1#32
  let v1050_r0 : BitVec 32 := Scalar.select v1049_r0 c1_i32_573_r0 c6_i32_571_r0
  let v1051_r0 : BitVec 32 := Scalar.remsi v253_r0 v1050_r0
  let c0_i32_575_r0 : BitVec 32 := 0#32
  let v1053_r0 : BitVec 1 := Scalar.cmpi .slt v1051_r0 c0_i32_575_r0
  let c0_i32_576_r0 : BitVec 32 := 0#32
  let v1054_r0 : BitVec 1 := Scalar.cmpi .slt v1050_r0 c0_i32_576_r0
  let v1055_r0 : BitVec 1 := Scalar.xori v1053_r0 v1054_r0
  let c0_i32_574_r0 : BitVec 32 := 0#32
  let v1052_r0 : BitVec 1 := Scalar.cmpi .ne v1051_r0 c0_i32_574_r0
  let v1056_r0 : BitVec 1 := Scalar.andi v1055_r0 v1052_r0
  let v1057_r0 : BitVec 32 := Scalar.addi v1051_r0 v1050_r0
  let v1058_r0 : BitVec 32 := Scalar.select v1056_r0 v1057_r0 v1051_r0
  let v2812_r0 : Index := Scalar.indexCast v1058_r0
  let c1_1285_r0 : Index := 1#32
  let c1280_1286_r0 : Index := 1280#32
  let c256_1287_r0 : Index := 256#32
  ![v2812_r0.toNat, 1, 1280, 256]
def k0_off124 (k0_t1 : Fin k0_t1_loop.trips) : Fin 3 → Nat :=
  let c0_i32_254_r0 : BitVec 32 := 0#32
  let c1_i32_255_r0 : BitVec 32 := 1#32
  let arg16_r0 : BitVec 32 := Scf.iv c0_i32_254_r0 c1_i32_255_r0 k0_t1
  let v2852_r0 : Index := Scalar.indexCast arg16_r0
  let c0_1301_r0 : Index := 0#32
  let c2816_1302_r0 : Index := 2816#32
  ![v2852_r0.toNat, 0, 2816]
def k0_off125 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_571_r0 : BitVec 32 := 6#32
  let c0_i32_572_r0 : BitVec 32 := 0#32
  let v1049_r0 : BitVec 1 := Scalar.cmpi .eq c6_i32_571_r0 c0_i32_572_r0
  let c1_i32_573_r0 : BitVec 32 := 1#32
  let v1050_r0 : BitVec 32 := Scalar.select v1049_r0 c1_i32_573_r0 c6_i32_571_r0
  let v1051_r0 : BitVec 32 := Scalar.remsi v253_r0 v1050_r0
  let c0_i32_575_r0 : BitVec 32 := 0#32
  let v1053_r0 : BitVec 1 := Scalar.cmpi .slt v1051_r0 c0_i32_575_r0
  let c0_i32_576_r0 : BitVec 32 := 0#32
  let v1054_r0 : BitVec 1 := Scalar.cmpi .slt v1050_r0 c0_i32_576_r0
  let v1055_r0 : BitVec 1 := Scalar.xori v1053_r0 v1054_r0
  let c0_i32_574_r0 : BitVec 32 := 0#32
  let v1052_r0 : BitVec 1 := Scalar.cmpi .ne v1051_r0 c0_i32_574_r0
  let v1056_r0 : BitVec 1 := Scalar.andi v1055_r0 v1052_r0
  let v1057_r0 : BitVec 32 := Scalar.addi v1051_r0 v1050_r0
  let v1058_r0 : BitVec 32 := Scalar.select v1056_r0 v1057_r0 v1051_r0
  let v2855_r0 : Index := Scalar.indexCast v1058_r0
  let c0_1303_r0 : Index := 0#32
  let c1408_1304_r0 : Index := 1408#32
  let c0_1305_r0 : Index := 0#32
  ![v2855_r0.toNat, 0, 1408, 0]
def k0_off126 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_571_r0 : BitVec 32 := 6#32
  let c0_i32_572_r0 : BitVec 32 := 0#32
  let v1049_r0 : BitVec 1 := Scalar.cmpi .eq c6_i32_571_r0 c0_i32_572_r0
  let c1_i32_573_r0 : BitVec 32 := 1#32
  let v1050_r0 : BitVec 32 := Scalar.select v1049_r0 c1_i32_573_r0 c6_i32_571_r0
  let v1051_r0 : BitVec 32 := Scalar.remsi v253_r0 v1050_r0
  let c0_i32_575_r0 : BitVec 32 := 0#32
  let v1053_r0 : BitVec 1 := Scalar.cmpi .slt v1051_r0 c0_i32_575_r0
  let c0_i32_576_r0 : BitVec 32 := 0#32
  let v1054_r0 : BitVec 1 := Scalar.cmpi .slt v1050_r0 c0_i32_576_r0
  let v1055_r0 : BitVec 1 := Scalar.xori v1053_r0 v1054_r0
  let c0_i32_574_r0 : BitVec 32 := 0#32
  let v1052_r0 : BitVec 1 := Scalar.cmpi .ne v1051_r0 c0_i32_574_r0
  let v1056_r0 : BitVec 1 := Scalar.andi v1055_r0 v1052_r0
  let v1057_r0 : BitVec 32 := Scalar.addi v1051_r0 v1050_r0
  let v1058_r0 : BitVec 32 := Scalar.select v1056_r0 v1057_r0 v1051_r0
  let v2895_r0 : Index := Scalar.indexCast v1058_r0
  let c1_1319_r0 : Index := 1#32
  let c1408_1320_r0 : Index := 1408#32
  let c0_1321_r0 : Index := 0#32
  ![v2895_r0.toNat, 1, 1408, 0]
def k0_off127 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_571_r0 : BitVec 32 := 6#32
  let c0_i32_572_r0 : BitVec 32 := 0#32
  let v1049_r0 : BitVec 1 := Scalar.cmpi .eq c6_i32_571_r0 c0_i32_572_r0
  let c1_i32_573_r0 : BitVec 32 := 1#32
  let v1050_r0 : BitVec 32 := Scalar.select v1049_r0 c1_i32_573_r0 c6_i32_571_r0
  let v1051_r0 : BitVec 32 := Scalar.remsi v253_r0 v1050_r0
  let c0_i32_575_r0 : BitVec 32 := 0#32
  let v1053_r0 : BitVec 1 := Scalar.cmpi .slt v1051_r0 c0_i32_575_r0
  let c0_i32_576_r0 : BitVec 32 := 0#32
  let v1054_r0 : BitVec 1 := Scalar.cmpi .slt v1050_r0 c0_i32_576_r0
  let v1055_r0 : BitVec 1 := Scalar.xori v1053_r0 v1054_r0
  let c0_i32_574_r0 : BitVec 32 := 0#32
  let v1052_r0 : BitVec 1 := Scalar.cmpi .ne v1051_r0 c0_i32_574_r0
  let v1056_r0 : BitVec 1 := Scalar.andi v1055_r0 v1052_r0
  let v1057_r0 : BitVec 32 := Scalar.addi v1051_r0 v1050_r0
  let v1058_r0 : BitVec 32 := Scalar.select v1056_r0 v1057_r0 v1051_r0
  let v2935_r0 : Index := Scalar.indexCast v1058_r0
  let c0_1335_r0 : Index := 0#32
  let c1408_1336_r0 : Index := 1408#32
  let c256_1337_r0 : Index := 256#32
  ![v2935_r0.toNat, 0, 1408, 256]
def k0_off128 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_571_r0 : BitVec 32 := 6#32
  let c0_i32_572_r0 : BitVec 32 := 0#32
  let v1049_r0 : BitVec 1 := Scalar.cmpi .eq c6_i32_571_r0 c0_i32_572_r0
  let c1_i32_573_r0 : BitVec 32 := 1#32
  let v1050_r0 : BitVec 32 := Scalar.select v1049_r0 c1_i32_573_r0 c6_i32_571_r0
  let v1051_r0 : BitVec 32 := Scalar.remsi v253_r0 v1050_r0
  let c0_i32_575_r0 : BitVec 32 := 0#32
  let v1053_r0 : BitVec 1 := Scalar.cmpi .slt v1051_r0 c0_i32_575_r0
  let c0_i32_576_r0 : BitVec 32 := 0#32
  let v1054_r0 : BitVec 1 := Scalar.cmpi .slt v1050_r0 c0_i32_576_r0
  let v1055_r0 : BitVec 1 := Scalar.xori v1053_r0 v1054_r0
  let c0_i32_574_r0 : BitVec 32 := 0#32
  let v1052_r0 : BitVec 1 := Scalar.cmpi .ne v1051_r0 c0_i32_574_r0
  let v1056_r0 : BitVec 1 := Scalar.andi v1055_r0 v1052_r0
  let v1057_r0 : BitVec 32 := Scalar.addi v1051_r0 v1050_r0
  let v1058_r0 : BitVec 32 := Scalar.select v1056_r0 v1057_r0 v1051_r0
  let v2975_r0 : Index := Scalar.indexCast v1058_r0
  let c1_1351_r0 : Index := 1#32
  let c1408_1352_r0 : Index := 1408#32
  let c256_1353_r0 : Index := 256#32
  ![v2975_r0.toNat, 1, 1408, 256]
@[reducible] def k0_t2_loop : Scf.Loop 32 :=
  let c1_i32_269_r0 : BitVec 32 := 1#32
  let c4_i32_270_r0 : BitVec 32 := 4#32
  let v242_r0 : BitVec 32 := Scalar.addi c1_i32_269_r0 c4_i32_270_r0
  let c1_i32_271_r0 : BitVec 32 := 1#32
  ⟨c1_i32_269_r0, v242_r0, c1_i32_271_r0⟩
def k0_off129 (k0_t2 : Fin k0_t2_loop.trips) : Fin 1 → Nat :=
  let c1_i32_269_r0 : BitVec 32 := 1#32
  let c1_i32_271_r0 : BitVec 32 := 1#32
  let arg16_r0 : BitVec 32 := Scf.iv c1_i32_269_r0 c1_i32_271_r0 k0_t2
  let c2_i32_291_r0 : BitVec 32 := 2#32
  let c0_i32_292_r0 : BitVec 32 := 0#32
  let v264_r0 : BitVec 1 := Scalar.cmpi .eq c2_i32_291_r0 c0_i32_292_r0
  let c1_i32_293_r0 : BitVec 32 := 1#32
  let v265_r0 : BitVec 32 := Scalar.select v264_r0 c1_i32_293_r0 c2_i32_291_r0
  let v266_r0 : BitVec 32 := Scalar.remsi arg16_r0 v265_r0
  let c0_i32_295_r0 : BitVec 32 := 0#32
  let v268_r0 : BitVec 1 := Scalar.cmpi .slt v266_r0 c0_i32_295_r0
  let c0_i32_296_r0 : BitVec 32 := 0#32
  let v269_r0 : BitVec 1 := Scalar.cmpi .slt v265_r0 c0_i32_296_r0
  let v270_r0 : BitVec 1 := Scalar.xori v268_r0 v269_r0
  let c0_i32_294_r0 : BitVec 32 := 0#32
  let v267_r0 : BitVec 1 := Scalar.cmpi .ne v266_r0 c0_i32_294_r0
  let v271_r0 : BitVec 1 := Scalar.andi v270_r0 v267_r0
  let v272_r0 : BitVec 32 := Scalar.addi v266_r0 v265_r0
  let v273_r0 : BitVec 32 := Scalar.select v271_r0 v272_r0 v266_r0
  ![v273_r0.toNat]
def k0_off130 (k0_t2 : Fin k0_t2_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c2_i32_285_r0 : BitVec 32 := 2#32
  let c0_i32_286_r0 : BitVec 32 := 0#32
  let v254_r0 : BitVec 1 := Scalar.cmpi .eq c2_i32_285_r0 c0_i32_286_r0
  let c1_i32_287_r0 : BitVec 32 := 1#32
  let v255_r0 : BitVec 32 := Scalar.select v254_r0 c1_i32_287_r0 c2_i32_285_r0
  let v256_r0 : BitVec 32 := Scalar.remsi arg16_r0 v255_r0
  let c0_i32_289_r0 : BitVec 32 := 0#32
  let v258_r0 : BitVec 1 := Scalar.cmpi .slt v256_r0 c0_i32_289_r0
  let c0_i32_290_r0 : BitVec 32 := 0#32
  let v259_r0 : BitVec 1 := Scalar.cmpi .slt v255_r0 c0_i32_290_r0
  let v260_r0 : BitVec 1 := Scalar.xori v258_r0 v259_r0
  let c0_i32_288_r0 : BitVec 32 := 0#32
  let v257_r0 : BitVec 1 := Scalar.cmpi .ne v256_r0 c0_i32_288_r0
  let v261_r0 : BitVec 1 := Scalar.andi v260_r0 v257_r0
  let v262_r0 : BitVec 32 := Scalar.addi v256_r0 v255_r0
  let v263_r0 : BitVec 32 := Scalar.select v261_r0 v262_r0 v256_r0
  let c0_i32_310_r0 : BitVec 32 := 0#32
  let c0_i32_311_r0 : BitVec 32 := 0#32
  let c0_i32_312_r0 : BitVec 32 := 0#32
  ![v263_r0.toNat, 0, 0, 0]
def k0_off131 (k0_t2 : Fin k0_t2_loop.trips) : Fin 2 → Nat :=
  let c0_i32_313_r0 : BitVec 32 := 0#32
  let c1_i32_269_r0 : BitVec 32 := 1#32
  let c1_i32_271_r0 : BitVec 32 := 1#32
  let arg16_r0 : BitVec 32 := Scf.iv c1_i32_269_r0 c1_i32_271_r0 k0_t2
  let c512_i32_284_r0 : BitVec 32 := 512#32
  let v253_r0 : BitVec 32 := Scalar.muli arg16_r0 c512_i32_284_r0
  ![0, v253_r0.toNat]
def k0_off132 (k0_t2 : Fin k0_t2_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c2_i32_298_r0 : BitVec 32 := 2#32
  let c0_i32_299_r0 : BitVec 32 := 0#32
  let v275_r0 : BitVec 1 := Scalar.cmpi .eq c2_i32_298_r0 c0_i32_299_r0
  let c1_i32_300_r0 : BitVec 32 := 1#32
  let v276_r0 : BitVec 32 := Scalar.select v275_r0 c1_i32_300_r0 c2_i32_298_r0
  let v277_r0 : BitVec 32 := Scalar.remsi arg16_r0 v276_r0
  let c0_i32_302_r0 : BitVec 32 := 0#32
  let v279_r0 : BitVec 1 := Scalar.cmpi .slt v277_r0 c0_i32_302_r0
  let c0_i32_303_r0 : BitVec 32 := 0#32
  let v280_r0 : BitVec 1 := Scalar.cmpi .slt v276_r0 c0_i32_303_r0
  let v281_r0 : BitVec 1 := Scalar.xori v279_r0 v280_r0
  let c0_i32_301_r0 : BitVec 32 := 0#32
  let v278_r0 : BitVec 1 := Scalar.cmpi .ne v277_r0 c0_i32_301_r0
  let v282_r0 : BitVec 1 := Scalar.andi v281_r0 v278_r0
  let v283_r0 : BitVec 32 := Scalar.addi v277_r0 v276_r0
  let v284_r0 : BitVec 32 := Scalar.select v282_r0 v283_r0 v277_r0
  let c1_i32_314_r0 : BitVec 32 := 1#32
  let c0_i32_315_r0 : BitVec 32 := 0#32
  let c0_i32_316_r0 : BitVec 32 := 0#32
  ![v284_r0.toNat, 1, 0, 0]
def k0_off133 (k0_t2 : Fin k0_t2_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c2_i32_318_r0 : BitVec 32 := 2#32
  let c0_i32_319_r0 : BitVec 32 := 0#32
  let v305_r0 : BitVec 1 := Scalar.cmpi .eq c2_i32_318_r0 c0_i32_319_r0
  let c1_i32_320_r0 : BitVec 32 := 1#32
  let v306_r0 : BitVec 32 := Scalar.select v305_r0 c1_i32_320_r0 c2_i32_318_r0
  let v307_r0 : BitVec 32 := Scalar.remsi arg16_r0 v306_r0
  let c0_i32_322_r0 : BitVec 32 := 0#32
  let v309_r0 : BitVec 1 := Scalar.cmpi .slt v307_r0 c0_i32_322_r0
  let c0_i32_323_r0 : BitVec 32 := 0#32
  let v310_r0 : BitVec 1 := Scalar.cmpi .slt v306_r0 c0_i32_323_r0
  let v311_r0 : BitVec 1 := Scalar.xori v309_r0 v310_r0
  let c0_i32_321_r0 : BitVec 32 := 0#32
  let v308_r0 : BitVec 1 := Scalar.cmpi .ne v307_r0 c0_i32_321_r0
  let v312_r0 : BitVec 1 := Scalar.andi v311_r0 v308_r0
  let v313_r0 : BitVec 32 := Scalar.addi v307_r0 v306_r0
  let v314_r0 : BitVec 32 := Scalar.select v312_r0 v313_r0 v307_r0
  let c0_i32_324_r0 : BitVec 32 := 0#32
  let c0_i32_325_r0 : BitVec 32 := 0#32
  let c0_i32_326_r0 : BitVec 32 := 0#32
  ![v314_r0.toNat, 0, 0, 0]
def k0_off134 (k0_t2 : Fin k0_t2_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c2_i32_318_r0 : BitVec 32 := 2#32
  let c0_i32_319_r0 : BitVec 32 := 0#32
  let v305_r0 : BitVec 1 := Scalar.cmpi .eq c2_i32_318_r0 c0_i32_319_r0
  let c1_i32_320_r0 : BitVec 32 := 1#32
  let v306_r0 : BitVec 32 := Scalar.select v305_r0 c1_i32_320_r0 c2_i32_318_r0
  let v307_r0 : BitVec 32 := Scalar.remsi arg16_r0 v306_r0
  let c0_i32_322_r0 : BitVec 32 := 0#32
  let v309_r0 : BitVec 1 := Scalar.cmpi .slt v307_r0 c0_i32_322_r0
  let c0_i32_323_r0 : BitVec 32 := 0#32
  let v310_r0 : BitVec 1 := Scalar.cmpi .slt v306_r0 c0_i32_323_r0
  let v311_r0 : BitVec 1 := Scalar.xori v309_r0 v310_r0
  let c0_i32_321_r0 : BitVec 32 := 0#32
  let v308_r0 : BitVec 1 := Scalar.cmpi .ne v307_r0 c0_i32_321_r0
  let v312_r0 : BitVec 1 := Scalar.andi v311_r0 v308_r0
  let v313_r0 : BitVec 32 := Scalar.addi v307_r0 v306_r0
  let v314_r0 : BitVec 32 := Scalar.select v312_r0 v313_r0 v307_r0
  let c0_i32_329_r0 : BitVec 32 := 0#32
  let c0_i32_331_r0 : BitVec 32 := 0#32
  ![v314_r0.toNat, 0, 108, 0]
def k0_off135 (k0_t2 : Fin k0_t2_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c2_i32_346_r0 : BitVec 32 := 2#32
  let c0_i32_347_r0 : BitVec 32 := 0#32
  let v339_r0 : BitVec 1 := Scalar.cmpi .eq c2_i32_346_r0 c0_i32_347_r0
  let c1_i32_348_r0 : BitVec 32 := 1#32
  let v340_r0 : BitVec 32 := Scalar.select v339_r0 c1_i32_348_r0 c2_i32_346_r0
  let v341_r0 : BitVec 32 := Scalar.remsi arg16_r0 v340_r0
  let c0_i32_350_r0 : BitVec 32 := 0#32
  let v343_r0 : BitVec 1 := Scalar.cmpi .slt v341_r0 c0_i32_350_r0
  let c0_i32_351_r0 : BitVec 32 := 0#32
  let v344_r0 : BitVec 1 := Scalar.cmpi .slt v340_r0 c0_i32_351_r0
  let v345_r0 : BitVec 1 := Scalar.xori v343_r0 v344_r0
  let c0_i32_349_r0 : BitVec 32 := 0#32
  let v342_r0 : BitVec 1 := Scalar.cmpi .ne v341_r0 c0_i32_349_r0
  let v346_r0 : BitVec 1 := Scalar.andi v345_r0 v342_r0
  let v347_r0 : BitVec 32 := Scalar.addi v341_r0 v340_r0
  let v348_r0 : BitVec 32 := Scalar.select v346_r0 v347_r0 v341_r0
  let c1_i32_352_r0 : BitVec 32 := 1#32
  let c0_i32_353_r0 : BitVec 32 := 0#32
  let c0_i32_354_r0 : BitVec 32 := 0#32
  ![v348_r0.toNat, 1, 0, 0]
def k0_off136 (k0_t2 : Fin k0_t2_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c2_i32_346_r0 : BitVec 32 := 2#32
  let c0_i32_347_r0 : BitVec 32 := 0#32
  let v339_r0 : BitVec 1 := Scalar.cmpi .eq c2_i32_346_r0 c0_i32_347_r0
  let c1_i32_348_r0 : BitVec 32 := 1#32
  let v340_r0 : BitVec 32 := Scalar.select v339_r0 c1_i32_348_r0 c2_i32_346_r0
  let v341_r0 : BitVec 32 := Scalar.remsi arg16_r0 v340_r0
  let c0_i32_350_r0 : BitVec 32 := 0#32
  let v343_r0 : BitVec 1 := Scalar.cmpi .slt v341_r0 c0_i32_350_r0
  let c0_i32_351_r0 : BitVec 32 := 0#32
  let v344_r0 : BitVec 1 := Scalar.cmpi .slt v340_r0 c0_i32_351_r0
  let v345_r0 : BitVec 1 := Scalar.xori v343_r0 v344_r0
  let c0_i32_349_r0 : BitVec 32 := 0#32
  let v342_r0 : BitVec 1 := Scalar.cmpi .ne v341_r0 c0_i32_349_r0
  let v346_r0 : BitVec 1 := Scalar.andi v345_r0 v342_r0
  let v347_r0 : BitVec 32 := Scalar.addi v341_r0 v340_r0
  let v348_r0 : BitVec 32 := Scalar.select v346_r0 v347_r0 v341_r0
  let c1_i32_357_r0 : BitVec 32 := 1#32
  let c0_i32_359_r0 : BitVec 32 := 0#32
  ![v348_r0.toNat, 1, 108, 0]
def k0_cond2 (k0_t2 : Fin k0_t2_loop.trips) : BitVec 1 :=
  let c1_i32_269_r0 : BitVec 32 := 1#32
  let c1_i32_271_r0 : BitVec 32 := 1#32
  let arg16_r0 : BitVec 32 := Scf.iv c1_i32_269_r0 c1_i32_271_r0 k0_t2
  let c1_i32_374_r0 : BitVec 32 := 1#32
  let v373_r0 : BitVec 32 := Scalar.addi arg16_r0 c1_i32_374_r0
  let c5_i32_375_r0 : BitVec 32 := 5#32
  let v374_r0 : BitVec 1 := Scalar.cmpi .slt v373_r0 c5_i32_375_r0
  let v375_r0 : BitVec 32 := Scalar.extui v374_r0
  let c0_i32_376_r0 : BitVec 32 := 0#32
  let v376_r0 : BitVec 1 := Scalar.cmpi .ne v375_r0 c0_i32_376_r0
  v376_r0

def k0_off137 (k0_t2 : Fin k0_t2_loop.trips) : Fin 1 → Nat :=
  let c1_i32_269_r0 : BitVec 32 := 1#32
  let c1_i32_271_r0 : BitVec 32 := 1#32
  let arg16_r0 : BitVec 32 := Scf.iv c1_i32_269_r0 c1_i32_271_r0 k0_t2
  let c1_i32_416_r0 : BitVec 32 := 1#32
  let v447_r0 : BitVec 32 := Scalar.addi arg16_r0 c1_i32_416_r0
  let c2_i32_424_r0 : BitVec 32 := 2#32
  let c0_i32_425_r0 : BitVec 32 := 0#32
  let v459_r0 : BitVec 1 := Scalar.cmpi .eq c2_i32_424_r0 c0_i32_425_r0
  let c1_i32_426_r0 : BitVec 32 := 1#32
  let v460_r0 : BitVec 32 := Scalar.select v459_r0 c1_i32_426_r0 c2_i32_424_r0
  let v461_r0 : BitVec 32 := Scalar.remsi v447_r0 v460_r0
  let c0_i32_428_r0 : BitVec 32 := 0#32
  let v463_r0 : BitVec 1 := Scalar.cmpi .slt v461_r0 c0_i32_428_r0
  let c0_i32_429_r0 : BitVec 32 := 0#32
  let v464_r0 : BitVec 1 := Scalar.cmpi .slt v460_r0 c0_i32_429_r0
  let v465_r0 : BitVec 1 := Scalar.xori v463_r0 v464_r0
  let c0_i32_427_r0 : BitVec 32 := 0#32
  let v462_r0 : BitVec 1 := Scalar.cmpi .ne v461_r0 c0_i32_427_r0
  let v466_r0 : BitVec 1 := Scalar.andi v465_r0 v462_r0
  let v467_r0 : BitVec 32 := Scalar.addi v461_r0 v460_r0
  let v468_r0 : BitVec 32 := Scalar.select v466_r0 v467_r0 v461_r0
  ![v468_r0.toNat]
def k0_off138 (k0_t2 : Fin k0_t2_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c1_i32_416_r0 : BitVec 32 := 1#32
  let v447_r0 : BitVec 32 := Scalar.addi arg16_r0 c1_i32_416_r0
  let c2_i32_418_r0 : BitVec 32 := 2#32
  let c0_i32_419_r0 : BitVec 32 := 0#32
  let v449_r0 : BitVec 1 := Scalar.cmpi .eq c2_i32_418_r0 c0_i32_419_r0
  let c1_i32_420_r0 : BitVec 32 := 1#32
  let v450_r0 : BitVec 32 := Scalar.select v449_r0 c1_i32_420_r0 c2_i32_418_r0
  let v451_r0 : BitVec 32 := Scalar.remsi v447_r0 v450_r0
  let c0_i32_422_r0 : BitVec 32 := 0#32
  let v453_r0 : BitVec 1 := Scalar.cmpi .slt v451_r0 c0_i32_422_r0
  let c0_i32_423_r0 : BitVec 32 := 0#32
  let v454_r0 : BitVec 1 := Scalar.cmpi .slt v450_r0 c0_i32_423_r0
  let v455_r0 : BitVec 1 := Scalar.xori v453_r0 v454_r0
  let c0_i32_421_r0 : BitVec 32 := 0#32
  let v452_r0 : BitVec 1 := Scalar.cmpi .ne v451_r0 c0_i32_421_r0
  let v456_r0 : BitVec 1 := Scalar.andi v455_r0 v452_r0
  let v457_r0 : BitVec 32 := Scalar.addi v451_r0 v450_r0
  let v458_r0 : BitVec 32 := Scalar.select v456_r0 v457_r0 v451_r0
  let c0_i32_443_r0 : BitVec 32 := 0#32
  let c0_i32_444_r0 : BitVec 32 := 0#32
  let c0_i32_445_r0 : BitVec 32 := 0#32
  ![v458_r0.toNat, 0, 0, 0]
def k0_off139 (k0_t2 : Fin k0_t2_loop.trips) : Fin 2 → Nat :=
  let c0_i32_446_r0 : BitVec 32 := 0#32
  let c1_i32_269_r0 : BitVec 32 := 1#32
  let c1_i32_271_r0 : BitVec 32 := 1#32
  let arg16_r0 : BitVec 32 := Scf.iv c1_i32_269_r0 c1_i32_271_r0 k0_t2
  let c1_i32_416_r0 : BitVec 32 := 1#32
  let v447_r0 : BitVec 32 := Scalar.addi arg16_r0 c1_i32_416_r0
  let c512_i32_417_r0 : BitVec 32 := 512#32
  let v448_r0 : BitVec 32 := Scalar.muli v447_r0 c512_i32_417_r0
  ![0, v448_r0.toNat]
def k0_off140 (k0_t2 : Fin k0_t2_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c1_i32_416_r0 : BitVec 32 := 1#32
  let v447_r0 : BitVec 32 := Scalar.addi arg16_r0 c1_i32_416_r0
  let c2_i32_431_r0 : BitVec 32 := 2#32
  let c0_i32_432_r0 : BitVec 32 := 0#32
  let v470_r0 : BitVec 1 := Scalar.cmpi .eq c2_i32_431_r0 c0_i32_432_r0
  let c1_i32_433_r0 : BitVec 32 := 1#32
  let v471_r0 : BitVec 32 := Scalar.select v470_r0 c1_i32_433_r0 c2_i32_431_r0
  let v472_r0 : BitVec 32 := Scalar.remsi v447_r0 v471_r0
  let c0_i32_435_r0 : BitVec 32 := 0#32
  let v474_r0 : BitVec 1 := Scalar.cmpi .slt v472_r0 c0_i32_435_r0
  let c0_i32_436_r0 : BitVec 32 := 0#32
  let v475_r0 : BitVec 1 := Scalar.cmpi .slt v471_r0 c0_i32_436_r0
  let v476_r0 : BitVec 1 := Scalar.xori v474_r0 v475_r0
  let c0_i32_434_r0 : BitVec 32 := 0#32
  let v473_r0 : BitVec 1 := Scalar.cmpi .ne v472_r0 c0_i32_434_r0
  let v477_r0 : BitVec 1 := Scalar.andi v476_r0 v473_r0
  let v478_r0 : BitVec 32 := Scalar.addi v472_r0 v471_r0
  let v479_r0 : BitVec 32 := Scalar.select v477_r0 v478_r0 v472_r0
  let c1_i32_447_r0 : BitVec 32 := 1#32
  let c0_i32_448_r0 : BitVec 32 := 0#32
  let c0_i32_449_r0 : BitVec 32 := 0#32
  ![v479_r0.toNat, 1, 0, 0]
@[reducible] def k0_t3_loop : Scf.Loop 32 :=
  let c0_i32_378_r0 : BitVec 32 := 0#32
  let c9_i32_379_r0 : BitVec 32 := 9#32
  let v377_r0 : BitVec 32 := Scalar.addi c0_i32_378_r0 c9_i32_379_r0
  let c1_i32_380_r0 : BitVec 32 := 1#32
  ⟨c0_i32_378_r0, v377_r0, c1_i32_380_r0⟩
def k0_off141 (k0_t2 : Fin k0_t2_loop.trips) (k0_t3 : Fin k0_t3_loop.trips) : Fin 1 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_430_r0 : BitVec 32 := 6#32
  let c0_i32_431_r0 : BitVec 32 := 0#32
  let v476_r0 : BitVec 1 := Scalar.cmpi .eq c6_i32_430_r0 c0_i32_431_r0
  let c1_i32_432_r0 : BitVec 32 := 1#32
  let v477_r0 : BitVec 32 := Scalar.select v476_r0 c1_i32_432_r0 c6_i32_430_r0
  let v478_r0 : BitVec 32 := Scalar.remsi v448_r0 v477_r0
  let c0_i32_434_r0 : BitVec 32 := 0#32
  let v480_r0 : BitVec 1 := Scalar.cmpi .slt v478_r0 c0_i32_434_r0
  let c0_i32_435_r0 : BitVec 32 := 0#32
  let v481_r0 : BitVec 1 := Scalar.cmpi .slt v477_r0 c0_i32_435_r0
  let v482_r0 : BitVec 1 := Scalar.xori v480_r0 v481_r0
  let c0_i32_433_r0 : BitVec 32 := 0#32
  let v479_r0 : BitVec 1 := Scalar.cmpi .ne v478_r0 c0_i32_433_r0
  let v483_r0 : BitVec 1 := Scalar.andi v482_r0 v479_r0
  let v484_r0 : BitVec 32 := Scalar.addi v478_r0 v477_r0
  let v485_r0 : BitVec 32 := Scalar.select v483_r0 v484_r0 v478_r0
  ![v485_r0.toNat]
def k0_off142 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_430_r0 : BitVec 32 := 6#32
  let c0_i32_431_r0 : BitVec 32 := 0#32
  let v476_r0 : BitVec 1 := Scalar.cmpi .eq c6_i32_430_r0 c0_i32_431_r0
  let c1_i32_432_r0 : BitVec 32 := 1#32
  let v477_r0 : BitVec 32 := Scalar.select v476_r0 c1_i32_432_r0 c6_i32_430_r0
  let v478_r0 : BitVec 32 := Scalar.remsi v448_r0 v477_r0
  let c0_i32_434_r0 : BitVec 32 := 0#32
  let v480_r0 : BitVec 1 := Scalar.cmpi .slt v478_r0 c0_i32_434_r0
  let c0_i32_435_r0 : BitVec 32 := 0#32
  let v481_r0 : BitVec 1 := Scalar.cmpi .slt v477_r0 c0_i32_435_r0
  let v482_r0 : BitVec 1 := Scalar.xori v480_r0 v481_r0
  let c0_i32_433_r0 : BitVec 32 := 0#32
  let v479_r0 : BitVec 1 := Scalar.cmpi .ne v478_r0 c0_i32_433_r0
  let v483_r0 : BitVec 1 := Scalar.andi v482_r0 v479_r0
  let v484_r0 : BitVec 32 := Scalar.addi v478_r0 v477_r0
  let v485_r0 : BitVec 32 := Scalar.select v483_r0 v484_r0 v478_r0
  let c0_i32_440_r0 : BitVec 32 := 0#32
  let c0_i32_441_r0 : BitVec 32 := 0#32
  let c0_i32_442_r0 : BitVec 32 := 0#32
  ![v485_r0.toNat, 0, 0, 0]
def k0_off143 (k0_t2 : Fin k0_t2_loop.trips) (k0_t3 : Fin k0_t3_loop.trips) : Fin 2 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c9_i32_424_r0 : BitVec 32 := 9#32
  let c0_i32_425_r0 : BitVec 32 := 0#32
  let v466_r0 : BitVec 1 := Scalar.cmpi .eq c9_i32_424_r0 c0_i32_425_r0
  let c1_i32_426_r0 : BitVec 32 := 1#32
  let v467_r0 : BitVec 32 := Scalar.select v466_r0 c1_i32_426_r0 c9_i32_424_r0
  let v468_r0 : BitVec 32 := Scalar.remsi v448_r0 v467_r0
  let c0_i32_428_r0 : BitVec 32 := 0#32
  let v470_r0 : BitVec 1 := Scalar.cmpi .slt v468_r0 c0_i32_428_r0
  let c0_i32_429_r0 : BitVec 32 := 0#32
  let v471_r0 : BitVec 1 := Scalar.cmpi .slt v467_r0 c0_i32_429_r0
  let v472_r0 : BitVec 1 := Scalar.xori v470_r0 v471_r0
  let c0_i32_427_r0 : BitVec 32 := 0#32
  let v469_r0 : BitVec 1 := Scalar.cmpi .ne v468_r0 c0_i32_427_r0
  let v473_r0 : BitVec 1 := Scalar.andi v472_r0 v469_r0
  let v474_r0 : BitVec 32 := Scalar.addi v468_r0 v467_r0
  let v475_r0 : BitVec 32 := Scalar.select v473_r0 v474_r0 v468_r0
  let c1536_i32_436_r0 : BitVec 32 := 1536#32
  let v486_r0 : BitVec 32 := Scalar.muli v475_r0 c1536_i32_436_r0
  let c0_i32_418_r0 : BitVec 32 := 0#32
  let v450_r0 : BitVec 1 := Scalar.cmpi .sgt v448_r0 c0_i32_418_r0
  let v451_r0 : BitVec 32 := Scalar.extui v450_r0
  let c0_i32_419_r0 : BitVec 32 := 0#32
  let v452_r0 : BitVec 1 := Scalar.cmpi .slt v448_r0 c0_i32_419_r0
  let v453_r0 : BitVec 32 := Scalar.extui v452_r0
  let v454_r0 : BitVec 32 := Scalar.subi v451_r0 v453_r0
  let c9_i32_417_r0 : BitVec 32 := 9#32
  let c0_i32_420_r0 : BitVec 32 := 0#32
  let v455_r0 : BitVec 1 := Scalar.cmpi .sgt c9_i32_417_r0 c0_i32_420_r0
  let v456_r0 : BitVec 32 := Scalar.extui v455_r0
  let c0_i32_421_r0 : BitVec 32 := 0#32
  let v457_r0 : BitVec 1 := Scalar.cmpi .slt c9_i32_417_r0 c0_i32_421_r0
  let v458_r0 : BitVec 32 := Scalar.extui v457_r0
  let v459_r0 : BitVec 32 := Scalar.subi v456_r0 v458_r0
  let v460_r0 : BitVec 1 := Scalar.cmpi .ne v454_r0 v459_r0
  let v461_r0 : BitVec 32 := Scalar.remsi v448_r0 c9_i32_417_r0
  let c0_i32_422_r0 : BitVec 32 := 0#32
  let v462_r0 : BitVec 1 := Scalar.cmpi .ne v461_r0 c0_i32_422_r0
  let v463_r0 : BitVec 1 := Scalar.andi v460_r0 v462_r0
  let v449_r0 : BitVec 32 := Scalar.divsi v448_r0 c9_i32_417_r0
  let c1_i32_423_r0 : BitVec 32 := 1#32
  let v464_r0 : BitVec 32 := Scalar.subi v449_r0 c1_i32_423_r0
  let v465_r0 : BitVec 32 := Scalar.select v463_r0 v464_r0 v449_r0
  let c512_i32_437_r0 : BitVec 32 := 512#32
  let v487_r0 : BitVec 32 := Scalar.muli v465_r0 c512_i32_437_r0
  ![v486_r0.toNat, v487_r0.toNat]
def k0_off144 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_430_r0 : BitVec 32 := 6#32
  let c0_i32_431_r0 : BitVec 32 := 0#32
  let v476_r0 : BitVec 1 := Scalar.cmpi .eq c6_i32_430_r0 c0_i32_431_r0
  let c1_i32_432_r0 : BitVec 32 := 1#32
  let v477_r0 : BitVec 32 := Scalar.select v476_r0 c1_i32_432_r0 c6_i32_430_r0
  let v478_r0 : BitVec 32 := Scalar.remsi v448_r0 v477_r0
  let c0_i32_434_r0 : BitVec 32 := 0#32
  let v480_r0 : BitVec 1 := Scalar.cmpi .slt v478_r0 c0_i32_434_r0
  let c0_i32_435_r0 : BitVec 32 := 0#32
  let v481_r0 : BitVec 1 := Scalar.cmpi .slt v477_r0 c0_i32_435_r0
  let v482_r0 : BitVec 1 := Scalar.xori v480_r0 v481_r0
  let c0_i32_433_r0 : BitVec 32 := 0#32
  let v479_r0 : BitVec 1 := Scalar.cmpi .ne v478_r0 c0_i32_433_r0
  let v483_r0 : BitVec 1 := Scalar.andi v482_r0 v479_r0
  let v484_r0 : BitVec 32 := Scalar.addi v478_r0 v477_r0
  let v485_r0 : BitVec 32 := Scalar.select v483_r0 v484_r0 v478_r0
  let c1_i32_443_r0 : BitVec 32 := 1#32
  let c0_i32_444_r0 : BitVec 32 := 0#32
  let c0_i32_445_r0 : BitVec 32 := 0#32
  ![v485_r0.toNat, 1, 0, 0]
def k0_cond3 (k0_t2 : Fin k0_t2_loop.trips) (k0_t3 : Fin k0_t3_loop.trips) : BitVec 1 :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_446_r0 : BitVec 32 := 6#32
  let v500_r0 : BitVec 32 := Scalar.addi v448_r0 c6_i32_446_r0
  let c1_i32_447_r0 : BitVec 32 := 1#32
  let v501_r0 : BitVec 32 := Scalar.subi v500_r0 c1_i32_447_r0
  let c45_i32_r0 : BitVec 32 := 45#32
  let v502_r0 : BitVec 1 := Scalar.cmpi .slt v501_r0 c45_i32_r0
  let v503_r0 : BitVec 32 := Scalar.extui v502_r0
  let c0_i32_448_r0 : BitVec 32 := 0#32
  let v504_r0 : BitVec 1 := Scalar.cmpi .ne v503_r0 c0_i32_448_r0
  v504_r0

def k0_off145 (k0_t2 : Fin k0_t2_loop.trips) (k0_t3 : Fin k0_t3_loop.trips) : Fin 1 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_1229_r0 : BitVec 32 := 6#32
  let v2471_r0 : BitVec 32 := Scalar.addi v448_r0 c6_i32_1229_r0
  let c1_i32_1230_r0 : BitVec 32 := 1#32
  let v2472_r0 : BitVec 32 := Scalar.subi v2471_r0 c1_i32_1230_r0
  let c6_i32_1244_r0 : BitVec 32 := 6#32
  let c0_i32_1245_r0 : BitVec 32 := 0#32
  let v2500_r0 : BitVec 1 := Scalar.cmpi .eq c6_i32_1244_r0 c0_i32_1245_r0
  let c1_i32_1246_r0 : BitVec 32 := 1#32
  let v2501_r0 : BitVec 32 := Scalar.select v2500_r0 c1_i32_1246_r0 c6_i32_1244_r0
  let v2502_r0 : BitVec 32 := Scalar.remsi v2472_r0 v2501_r0
  let c0_i32_1248_r0 : BitVec 32 := 0#32
  let v2504_r0 : BitVec 1 := Scalar.cmpi .slt v2502_r0 c0_i32_1248_r0
  let c0_i32_1249_r0 : BitVec 32 := 0#32
  let v2505_r0 : BitVec 1 := Scalar.cmpi .slt v2501_r0 c0_i32_1249_r0
  let v2506_r0 : BitVec 1 := Scalar.xori v2504_r0 v2505_r0
  let c0_i32_1247_r0 : BitVec 32 := 0#32
  let v2503_r0 : BitVec 1 := Scalar.cmpi .ne v2502_r0 c0_i32_1247_r0
  let v2507_r0 : BitVec 1 := Scalar.andi v2506_r0 v2503_r0
  let v2508_r0 : BitVec 32 := Scalar.addi v2502_r0 v2501_r0
  let v2509_r0 : BitVec 32 := Scalar.select v2507_r0 v2508_r0 v2502_r0
  ![v2509_r0.toNat]
def k0_off146 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_1229_r0 : BitVec 32 := 6#32
  let v2471_r0 : BitVec 32 := Scalar.addi v448_r0 c6_i32_1229_r0
  let c1_i32_1230_r0 : BitVec 32 := 1#32
  let v2472_r0 : BitVec 32 := Scalar.subi v2471_r0 c1_i32_1230_r0
  let c6_i32_1244_r0 : BitVec 32 := 6#32
  let c0_i32_1245_r0 : BitVec 32 := 0#32
  let v2500_r0 : BitVec 1 := Scalar.cmpi .eq c6_i32_1244_r0 c0_i32_1245_r0
  let c1_i32_1246_r0 : BitVec 32 := 1#32
  let v2501_r0 : BitVec 32 := Scalar.select v2500_r0 c1_i32_1246_r0 c6_i32_1244_r0
  let v2502_r0 : BitVec 32 := Scalar.remsi v2472_r0 v2501_r0
  let c0_i32_1248_r0 : BitVec 32 := 0#32
  let v2504_r0 : BitVec 1 := Scalar.cmpi .slt v2502_r0 c0_i32_1248_r0
  let c0_i32_1249_r0 : BitVec 32 := 0#32
  let v2505_r0 : BitVec 1 := Scalar.cmpi .slt v2501_r0 c0_i32_1249_r0
  let v2506_r0 : BitVec 1 := Scalar.xori v2504_r0 v2505_r0
  let c0_i32_1247_r0 : BitVec 32 := 0#32
  let v2503_r0 : BitVec 1 := Scalar.cmpi .ne v2502_r0 c0_i32_1247_r0
  let v2507_r0 : BitVec 1 := Scalar.andi v2506_r0 v2503_r0
  let v2508_r0 : BitVec 32 := Scalar.addi v2502_r0 v2501_r0
  let v2509_r0 : BitVec 32 := Scalar.select v2507_r0 v2508_r0 v2502_r0
  let c0_i32_1254_r0 : BitVec 32 := 0#32
  let c0_i32_1255_r0 : BitVec 32 := 0#32
  let c0_i32_1256_r0 : BitVec 32 := 0#32
  ![v2509_r0.toNat, 0, 0, 0]
def k0_off147 (k0_t2 : Fin k0_t2_loop.trips) (k0_t3 : Fin k0_t3_loop.trips) : Fin 2 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_1229_r0 : BitVec 32 := 6#32
  let v2471_r0 : BitVec 32 := Scalar.addi v448_r0 c6_i32_1229_r0
  let c1_i32_1230_r0 : BitVec 32 := 1#32
  let v2472_r0 : BitVec 32 := Scalar.subi v2471_r0 c1_i32_1230_r0
  let c9_i32_1238_r0 : BitVec 32 := 9#32
  let c0_i32_1239_r0 : BitVec 32 := 0#32
  let v2490_r0 : BitVec 1 := Scalar.cmpi .eq c9_i32_1238_r0 c0_i32_1239_r0
  let c1_i32_1240_r0 : BitVec 32 := 1#32
  let v2491_r0 : BitVec 32 := Scalar.select v2490_r0 c1_i32_1240_r0 c9_i32_1238_r0
  let v2492_r0 : BitVec 32 := Scalar.remsi v2472_r0 v2491_r0
  let c0_i32_1242_r0 : BitVec 32 := 0#32
  let v2494_r0 : BitVec 1 := Scalar.cmpi .slt v2492_r0 c0_i32_1242_r0
  let c0_i32_1243_r0 : BitVec 32 := 0#32
  let v2495_r0 : BitVec 1 := Scalar.cmpi .slt v2491_r0 c0_i32_1243_r0
  let v2496_r0 : BitVec 1 := Scalar.xori v2494_r0 v2495_r0
  let c0_i32_1241_r0 : BitVec 32 := 0#32
  let v2493_r0 : BitVec 1 := Scalar.cmpi .ne v2492_r0 c0_i32_1241_r0
  let v2497_r0 : BitVec 1 := Scalar.andi v2496_r0 v2493_r0
  let v2498_r0 : BitVec 32 := Scalar.addi v2492_r0 v2491_r0
  let v2499_r0 : BitVec 32 := Scalar.select v2497_r0 v2498_r0 v2492_r0
  let c1536_i32_1250_r0 : BitVec 32 := 1536#32
  let v2510_r0 : BitVec 32 := Scalar.muli v2499_r0 c1536_i32_1250_r0
  let c0_i32_1232_r0 : BitVec 32 := 0#32
  let v2474_r0 : BitVec 1 := Scalar.cmpi .sgt v2472_r0 c0_i32_1232_r0
  let v2475_r0 : BitVec 32 := Scalar.extui v2474_r0
  let c0_i32_1233_r0 : BitVec 32 := 0#32
  let v2476_r0 : BitVec 1 := Scalar.cmpi .slt v2472_r0 c0_i32_1233_r0
  let v2477_r0 : BitVec 32 := Scalar.extui v2476_r0
  let v2478_r0 : BitVec 32 := Scalar.subi v2475_r0 v2477_r0
  let c9_i32_1231_r0 : BitVec 32 := 9#32
  let c0_i32_1234_r0 : BitVec 32 := 0#32
  let v2479_r0 : BitVec 1 := Scalar.cmpi .sgt c9_i32_1231_r0 c0_i32_1234_r0
  let v2480_r0 : BitVec 32 := Scalar.extui v2479_r0
  let c0_i32_1235_r0 : BitVec 32 := 0#32
  let v2481_r0 : BitVec 1 := Scalar.cmpi .slt c9_i32_1231_r0 c0_i32_1235_r0
  let v2482_r0 : BitVec 32 := Scalar.extui v2481_r0
  let v2483_r0 : BitVec 32 := Scalar.subi v2480_r0 v2482_r0
  let v2484_r0 : BitVec 1 := Scalar.cmpi .ne v2478_r0 v2483_r0
  let v2485_r0 : BitVec 32 := Scalar.remsi v2472_r0 c9_i32_1231_r0
  let c0_i32_1236_r0 : BitVec 32 := 0#32
  let v2486_r0 : BitVec 1 := Scalar.cmpi .ne v2485_r0 c0_i32_1236_r0
  let v2487_r0 : BitVec 1 := Scalar.andi v2484_r0 v2486_r0
  let v2473_r0 : BitVec 32 := Scalar.divsi v2472_r0 c9_i32_1231_r0
  let c1_i32_1237_r0 : BitVec 32 := 1#32
  let v2488_r0 : BitVec 32 := Scalar.subi v2473_r0 c1_i32_1237_r0
  let v2489_r0 : BitVec 32 := Scalar.select v2487_r0 v2488_r0 v2473_r0
  let c512_i32_1251_r0 : BitVec 32 := 512#32
  let v2511_r0 : BitVec 32 := Scalar.muli v2489_r0 c512_i32_1251_r0
  ![v2510_r0.toNat, v2511_r0.toNat]
def k0_off148 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_1229_r0 : BitVec 32 := 6#32
  let v2471_r0 : BitVec 32 := Scalar.addi v448_r0 c6_i32_1229_r0
  let c1_i32_1230_r0 : BitVec 32 := 1#32
  let v2472_r0 : BitVec 32 := Scalar.subi v2471_r0 c1_i32_1230_r0
  let c6_i32_1244_r0 : BitVec 32 := 6#32
  let c0_i32_1245_r0 : BitVec 32 := 0#32
  let v2500_r0 : BitVec 1 := Scalar.cmpi .eq c6_i32_1244_r0 c0_i32_1245_r0
  let c1_i32_1246_r0 : BitVec 32 := 1#32
  let v2501_r0 : BitVec 32 := Scalar.select v2500_r0 c1_i32_1246_r0 c6_i32_1244_r0
  let v2502_r0 : BitVec 32 := Scalar.remsi v2472_r0 v2501_r0
  let c0_i32_1248_r0 : BitVec 32 := 0#32
  let v2504_r0 : BitVec 1 := Scalar.cmpi .slt v2502_r0 c0_i32_1248_r0
  let c0_i32_1249_r0 : BitVec 32 := 0#32
  let v2505_r0 : BitVec 1 := Scalar.cmpi .slt v2501_r0 c0_i32_1249_r0
  let v2506_r0 : BitVec 1 := Scalar.xori v2504_r0 v2505_r0
  let c0_i32_1247_r0 : BitVec 32 := 0#32
  let v2503_r0 : BitVec 1 := Scalar.cmpi .ne v2502_r0 c0_i32_1247_r0
  let v2507_r0 : BitVec 1 := Scalar.andi v2506_r0 v2503_r0
  let v2508_r0 : BitVec 32 := Scalar.addi v2502_r0 v2501_r0
  let v2509_r0 : BitVec 32 := Scalar.select v2507_r0 v2508_r0 v2502_r0
  let c1_i32_1257_r0 : BitVec 32 := 1#32
  let c0_i32_1258_r0 : BitVec 32 := 0#32
  let c0_i32_1259_r0 : BitVec 32 := 0#32
  ![v2509_r0.toNat, 1, 0, 0]
def k0_off149 (k0_t3 : Fin k0_t3_loop.trips) : Fin 3 → Nat :=
  let c0_i32_378_r0 : BitVec 32 := 0#32
  let c1_i32_380_r0 : BitVec 32 := 1#32
  let arg17_r0 : BitVec 32 := Scf.iv c0_i32_378_r0 c1_i32_380_r0 k0_t3
  let v515_r0 : Index := Scalar.indexCast arg17_r0
  let c0_455_r0 : Index := 0#32
  let c0_456_r0 : Index := 0#32
  ![v515_r0.toNat, 0, 0]
def k0_off150 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_449_r0 : BitVec 32 := 6#32
  let c0_i32_450_r0 : BitVec 32 := 0#32
  let v505_r0 : BitVec 1 := Scalar.cmpi .eq c6_i32_449_r0 c0_i32_450_r0
  let c1_i32_451_r0 : BitVec 32 := 1#32
  let v506_r0 : BitVec 32 := Scalar.select v505_r0 c1_i32_451_r0 c6_i32_449_r0
  let v507_r0 : BitVec 32 := Scalar.remsi v448_r0 v506_r0
  let c0_i32_453_r0 : BitVec 32 := 0#32
  let v509_r0 : BitVec 1 := Scalar.cmpi .slt v507_r0 c0_i32_453_r0
  let c0_i32_454_r0 : BitVec 32 := 0#32
  let v510_r0 : BitVec 1 := Scalar.cmpi .slt v506_r0 c0_i32_454_r0
  let v511_r0 : BitVec 1 := Scalar.xori v509_r0 v510_r0
  let c0_i32_452_r0 : BitVec 32 := 0#32
  let v508_r0 : BitVec 1 := Scalar.cmpi .ne v507_r0 c0_i32_452_r0
  let v512_r0 : BitVec 1 := Scalar.andi v511_r0 v508_r0
  let v513_r0 : BitVec 32 := Scalar.addi v507_r0 v506_r0
  let v514_r0 : BitVec 32 := Scalar.select v512_r0 v513_r0 v507_r0
  let v518_r0 : Index := Scalar.indexCast v514_r0
  let c0_457_r0 : Index := 0#32
  let c0_458_r0 : Index := 0#32
  let c0_459_r0 : Index := 0#32
  ![v518_r0.toNat, 0, 0, 0]
def k0_off151 (k0_t3 : Fin k0_t3_loop.trips) (c0_i32_465_r0 : BitVec 32) : Fin 4 → Nat :=
  let c0_466_r0 : Index := 0#32
  let c0_467_r0 : Index := 0#32
  let c0_i32_378_r0 : BitVec 32 := 0#32
  let c1_i32_380_r0 : BitVec 32 := 1#32
  let arg17_r0 : BitVec 32 := Scf.iv c0_i32_378_r0 c1_i32_380_r0 k0_t3
  let c6_i32_464_r0 : BitVec 32 := 6#32
  let v538_r0 : BitVec 32 := Scalar.muli arg17_r0 c6_i32_464_r0
  let v539_r0 : BitVec 32 := Scalar.addi v538_r0 c0_i32_465_r0
  let v540_r0 : Index := Scalar.indexCast v539_r0
  let c0_468_r0 : Index := 0#32
  ![0, 0, v540_r0.toNat, 0]
def k0_off152 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_449_r0 : BitVec 32 := 6#32
  let c0_i32_450_r0 : BitVec 32 := 0#32
  let v505_r0 : BitVec 1 := Scalar.cmpi .eq c6_i32_449_r0 c0_i32_450_r0
  let c1_i32_451_r0 : BitVec 32 := 1#32
  let v506_r0 : BitVec 32 := Scalar.select v505_r0 c1_i32_451_r0 c6_i32_449_r0
  let v507_r0 : BitVec 32 := Scalar.remsi v448_r0 v506_r0
  let c0_i32_453_r0 : BitVec 32 := 0#32
  let v509_r0 : BitVec 1 := Scalar.cmpi .slt v507_r0 c0_i32_453_r0
  let c0_i32_454_r0 : BitVec 32 := 0#32
  let v510_r0 : BitVec 1 := Scalar.cmpi .slt v506_r0 c0_i32_454_r0
  let v511_r0 : BitVec 1 := Scalar.xori v509_r0 v510_r0
  let c0_i32_452_r0 : BitVec 32 := 0#32
  let v508_r0 : BitVec 1 := Scalar.cmpi .ne v507_r0 c0_i32_452_r0
  let v512_r0 : BitVec 1 := Scalar.andi v511_r0 v508_r0
  let v513_r0 : BitVec 32 := Scalar.addi v507_r0 v506_r0
  let v514_r0 : BitVec 32 := Scalar.select v512_r0 v513_r0 v507_r0
  let v558_r0 : Index := Scalar.indexCast v514_r0
  let c1_471_r0 : Index := 1#32
  let c0_472_r0 : Index := 0#32
  let c0_473_r0 : Index := 0#32
  ![v558_r0.toNat, 1, 0, 0]
def k0_off153 (k0_t3 : Fin k0_t3_loop.trips) (c0_i32_481_r0 : BitVec 32) : Fin 4 → Nat :=
  let c1_482_r0 : Index := 1#32
  let c0_483_r0 : Index := 0#32
  let c0_i32_378_r0 : BitVec 32 := 0#32
  let c1_i32_380_r0 : BitVec 32 := 1#32
  let arg17_r0 : BitVec 32 := Scf.iv c0_i32_378_r0 c1_i32_380_r0 k0_t3
  let c6_i32_480_r0 : BitVec 32 := 6#32
  let v578_r0 : BitVec 32 := Scalar.muli arg17_r0 c6_i32_480_r0
  let v579_r0 : BitVec 32 := Scalar.addi v578_r0 c0_i32_481_r0
  let v580_r0 : Index := Scalar.indexCast v579_r0
  let c0_484_r0 : Index := 0#32
  ![1, 0, v580_r0.toNat, 0]
def k0_off154 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_449_r0 : BitVec 32 := 6#32
  let c0_i32_450_r0 : BitVec 32 := 0#32
  let v505_r0 : BitVec 1 := Scalar.cmpi .eq c6_i32_449_r0 c0_i32_450_r0
  let c1_i32_451_r0 : BitVec 32 := 1#32
  let v506_r0 : BitVec 32 := Scalar.select v505_r0 c1_i32_451_r0 c6_i32_449_r0
  let v507_r0 : BitVec 32 := Scalar.remsi v448_r0 v506_r0
  let c0_i32_453_r0 : BitVec 32 := 0#32
  let v509_r0 : BitVec 1 := Scalar.cmpi .slt v507_r0 c0_i32_453_r0
  let c0_i32_454_r0 : BitVec 32 := 0#32
  let v510_r0 : BitVec 1 := Scalar.cmpi .slt v506_r0 c0_i32_454_r0
  let v511_r0 : BitVec 1 := Scalar.xori v509_r0 v510_r0
  let c0_i32_452_r0 : BitVec 32 := 0#32
  let v508_r0 : BitVec 1 := Scalar.cmpi .ne v507_r0 c0_i32_452_r0
  let v512_r0 : BitVec 1 := Scalar.andi v511_r0 v508_r0
  let v513_r0 : BitVec 32 := Scalar.addi v507_r0 v506_r0
  let v514_r0 : BitVec 32 := Scalar.select v512_r0 v513_r0 v507_r0
  let v598_r0 : Index := Scalar.indexCast v514_r0
  let c0_487_r0 : Index := 0#32
  let c0_488_r0 : Index := 0#32
  let c256_489_r0 : Index := 256#32
  ![v598_r0.toNat, 0, 0, 256]
def k0_off155 (k0_t3 : Fin k0_t3_loop.trips) (c0_i32_497_r0 : BitVec 32) : Fin 4 → Nat :=
  let c0_498_r0 : Index := 0#32
  let c0_499_r0 : Index := 0#32
  let c0_i32_378_r0 : BitVec 32 := 0#32
  let c1_i32_380_r0 : BitVec 32 := 1#32
  let arg17_r0 : BitVec 32 := Scf.iv c0_i32_378_r0 c1_i32_380_r0 k0_t3
  let c6_i32_496_r0 : BitVec 32 := 6#32
  let v618_r0 : BitVec 32 := Scalar.muli arg17_r0 c6_i32_496_r0
  let v619_r0 : BitVec 32 := Scalar.addi v618_r0 c0_i32_497_r0
  let v620_r0 : Index := Scalar.indexCast v619_r0
  let c256_500_r0 : Index := 256#32
  ![0, 0, v620_r0.toNat, 256]
def k0_off156 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_449_r0 : BitVec 32 := 6#32
  let c0_i32_450_r0 : BitVec 32 := 0#32
  let v505_r0 : BitVec 1 := Scalar.cmpi .eq c6_i32_449_r0 c0_i32_450_r0
  let c1_i32_451_r0 : BitVec 32 := 1#32
  let v506_r0 : BitVec 32 := Scalar.select v505_r0 c1_i32_451_r0 c6_i32_449_r0
  let v507_r0 : BitVec 32 := Scalar.remsi v448_r0 v506_r0
  let c0_i32_453_r0 : BitVec 32 := 0#32
  let v509_r0 : BitVec 1 := Scalar.cmpi .slt v507_r0 c0_i32_453_r0
  let c0_i32_454_r0 : BitVec 32 := 0#32
  let v510_r0 : BitVec 1 := Scalar.cmpi .slt v506_r0 c0_i32_454_r0
  let v511_r0 : BitVec 1 := Scalar.xori v509_r0 v510_r0
  let c0_i32_452_r0 : BitVec 32 := 0#32
  let v508_r0 : BitVec 1 := Scalar.cmpi .ne v507_r0 c0_i32_452_r0
  let v512_r0 : BitVec 1 := Scalar.andi v511_r0 v508_r0
  let v513_r0 : BitVec 32 := Scalar.addi v507_r0 v506_r0
  let v514_r0 : BitVec 32 := Scalar.select v512_r0 v513_r0 v507_r0
  let v638_r0 : Index := Scalar.indexCast v514_r0
  let c1_503_r0 : Index := 1#32
  let c0_504_r0 : Index := 0#32
  let c256_505_r0 : Index := 256#32
  ![v638_r0.toNat, 1, 0, 256]
def k0_off157 (k0_t3 : Fin k0_t3_loop.trips) (c0_i32_513_r0 : BitVec 32) : Fin 4 → Nat :=
  let c1_514_r0 : Index := 1#32
  let c0_515_r0 : Index := 0#32
  let c0_i32_378_r0 : BitVec 32 := 0#32
  let c1_i32_380_r0 : BitVec 32 := 1#32
  let arg17_r0 : BitVec 32 := Scf.iv c0_i32_378_r0 c1_i32_380_r0 k0_t3
  let c6_i32_512_r0 : BitVec 32 := 6#32
  let v658_r0 : BitVec 32 := Scalar.muli arg17_r0 c6_i32_512_r0
  let v659_r0 : BitVec 32 := Scalar.addi v658_r0 c0_i32_513_r0
  let v660_r0 : Index := Scalar.indexCast v659_r0
  let c256_516_r0 : Index := 256#32
  ![1, 0, v660_r0.toNat, 256]
def k0_off158 (k0_t3 : Fin k0_t3_loop.trips) : Fin 3 → Nat :=
  let c0_i32_378_r0 : BitVec 32 := 0#32
  let c1_i32_380_r0 : BitVec 32 := 1#32
  let arg17_r0 : BitVec 32 := Scf.iv c0_i32_378_r0 c1_i32_380_r0 k0_t3
  let v678_r0 : Index := Scalar.indexCast arg17_r0
  let c0_519_r0 : Index := 0#32
  let c256_520_r0 : Index := 256#32
  ![v678_r0.toNat, 0, 256]
def k0_off159 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_449_r0 : BitVec 32 := 6#32
  let c0_i32_450_r0 : BitVec 32 := 0#32
  let v505_r0 : BitVec 1 := Scalar.cmpi .eq c6_i32_449_r0 c0_i32_450_r0
  let c1_i32_451_r0 : BitVec 32 := 1#32
  let v506_r0 : BitVec 32 := Scalar.select v505_r0 c1_i32_451_r0 c6_i32_449_r0
  let v507_r0 : BitVec 32 := Scalar.remsi v448_r0 v506_r0
  let c0_i32_453_r0 : BitVec 32 := 0#32
  let v509_r0 : BitVec 1 := Scalar.cmpi .slt v507_r0 c0_i32_453_r0
  let c0_i32_454_r0 : BitVec 32 := 0#32
  let v510_r0 : BitVec 1 := Scalar.cmpi .slt v506_r0 c0_i32_454_r0
  let v511_r0 : BitVec 1 := Scalar.xori v509_r0 v510_r0
  let c0_i32_452_r0 : BitVec 32 := 0#32
  let v508_r0 : BitVec 1 := Scalar.cmpi .ne v507_r0 c0_i32_452_r0
  let v512_r0 : BitVec 1 := Scalar.andi v511_r0 v508_r0
  let v513_r0 : BitVec 32 := Scalar.addi v507_r0 v506_r0
  let v514_r0 : BitVec 32 := Scalar.select v512_r0 v513_r0 v507_r0
  let v681_r0 : Index := Scalar.indexCast v514_r0
  let c0_521_r0 : Index := 0#32
  let c128_r0 : Index := 128#32
  let c0_522_r0 : Index := 0#32
  ![v681_r0.toNat, 0, 128, 0]
def k0_off160 (k0_t3 : Fin k0_t3_loop.trips) (c0_i32_530_r0 : BitVec 32) : Fin 4 → Nat :=
  let c0_531_r0 : Index := 0#32
  let c1_532_r0 : Index := 1#32
  let c0_i32_378_r0 : BitVec 32 := 0#32
  let c1_i32_380_r0 : BitVec 32 := 1#32
  let arg17_r0 : BitVec 32 := Scf.iv c0_i32_378_r0 c1_i32_380_r0 k0_t3
  let c6_i32_529_r0 : BitVec 32 := 6#32
  let v701_r0 : BitVec 32 := Scalar.muli arg17_r0 c6_i32_529_r0
  let v702_r0 : BitVec 32 := Scalar.addi v701_r0 c0_i32_530_r0
  let v703_r0 : Index := Scalar.indexCast v702_r0
  let c0_533_r0 : Index := 0#32
  ![0, 1, v703_r0.toNat, 0]
def k0_off161 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_449_r0 : BitVec 32 := 6#32
  let c0_i32_450_r0 : BitVec 32 := 0#32
  let v505_r0 : BitVec 1 := Scalar.cmpi .eq c6_i32_449_r0 c0_i32_450_r0
  let c1_i32_451_r0 : BitVec 32 := 1#32
  let v506_r0 : BitVec 32 := Scalar.select v505_r0 c1_i32_451_r0 c6_i32_449_r0
  let v507_r0 : BitVec 32 := Scalar.remsi v448_r0 v506_r0
  let c0_i32_453_r0 : BitVec 32 := 0#32
  let v509_r0 : BitVec 1 := Scalar.cmpi .slt v507_r0 c0_i32_453_r0
  let c0_i32_454_r0 : BitVec 32 := 0#32
  let v510_r0 : BitVec 1 := Scalar.cmpi .slt v506_r0 c0_i32_454_r0
  let v511_r0 : BitVec 1 := Scalar.xori v509_r0 v510_r0
  let c0_i32_452_r0 : BitVec 32 := 0#32
  let v508_r0 : BitVec 1 := Scalar.cmpi .ne v507_r0 c0_i32_452_r0
  let v512_r0 : BitVec 1 := Scalar.andi v511_r0 v508_r0
  let v513_r0 : BitVec 32 := Scalar.addi v507_r0 v506_r0
  let v514_r0 : BitVec 32 := Scalar.select v512_r0 v513_r0 v507_r0
  let v721_r0 : Index := Scalar.indexCast v514_r0
  let c1_536_r0 : Index := 1#32
  let c128_537_r0 : Index := 128#32
  let c0_538_r0 : Index := 0#32
  ![v721_r0.toNat, 1, 128, 0]
def k0_off162 (k0_t3 : Fin k0_t3_loop.trips) (c0_i32_546_r0 : BitVec 32) : Fin 4 → Nat :=
  let c1_547_r0 : Index := 1#32
  let c1_548_r0 : Index := 1#32
  let c0_i32_378_r0 : BitVec 32 := 0#32
  let c1_i32_380_r0 : BitVec 32 := 1#32
  let arg17_r0 : BitVec 32 := Scf.iv c0_i32_378_r0 c1_i32_380_r0 k0_t3
  let c6_i32_545_r0 : BitVec 32 := 6#32
  let v741_r0 : BitVec 32 := Scalar.muli arg17_r0 c6_i32_545_r0
  let v742_r0 : BitVec 32 := Scalar.addi v741_r0 c0_i32_546_r0
  let v743_r0 : Index := Scalar.indexCast v742_r0
  let c0_549_r0 : Index := 0#32
  ![1, 1, v743_r0.toNat, 0]
def k0_off163 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_449_r0 : BitVec 32 := 6#32
  let c0_i32_450_r0 : BitVec 32 := 0#32
  let v505_r0 : BitVec 1 := Scalar.cmpi .eq c6_i32_449_r0 c0_i32_450_r0
  let c1_i32_451_r0 : BitVec 32 := 1#32
  let v506_r0 : BitVec 32 := Scalar.select v505_r0 c1_i32_451_r0 c6_i32_449_r0
  let v507_r0 : BitVec 32 := Scalar.remsi v448_r0 v506_r0
  let c0_i32_453_r0 : BitVec 32 := 0#32
  let v509_r0 : BitVec 1 := Scalar.cmpi .slt v507_r0 c0_i32_453_r0
  let c0_i32_454_r0 : BitVec 32 := 0#32
  let v510_r0 : BitVec 1 := Scalar.cmpi .slt v506_r0 c0_i32_454_r0
  let v511_r0 : BitVec 1 := Scalar.xori v509_r0 v510_r0
  let c0_i32_452_r0 : BitVec 32 := 0#32
  let v508_r0 : BitVec 1 := Scalar.cmpi .ne v507_r0 c0_i32_452_r0
  let v512_r0 : BitVec 1 := Scalar.andi v511_r0 v508_r0
  let v513_r0 : BitVec 32 := Scalar.addi v507_r0 v506_r0
  let v514_r0 : BitVec 32 := Scalar.select v512_r0 v513_r0 v507_r0
  let v761_r0 : Index := Scalar.indexCast v514_r0
  let c0_552_r0 : Index := 0#32
  let c128_553_r0 : Index := 128#32
  let c256_554_r0 : Index := 256#32
  ![v761_r0.toNat, 0, 128, 256]
def k0_off164 (k0_t3 : Fin k0_t3_loop.trips) (c0_i32_562_r0 : BitVec 32) : Fin 4 → Nat :=
  let c0_563_r0 : Index := 0#32
  let c1_564_r0 : Index := 1#32
  let c0_i32_378_r0 : BitVec 32 := 0#32
  let c1_i32_380_r0 : BitVec 32 := 1#32
  let arg17_r0 : BitVec 32 := Scf.iv c0_i32_378_r0 c1_i32_380_r0 k0_t3
  let c6_i32_561_r0 : BitVec 32 := 6#32
  let v781_r0 : BitVec 32 := Scalar.muli arg17_r0 c6_i32_561_r0
  let v782_r0 : BitVec 32 := Scalar.addi v781_r0 c0_i32_562_r0
  let v783_r0 : Index := Scalar.indexCast v782_r0
  let c256_565_r0 : Index := 256#32
  ![0, 1, v783_r0.toNat, 256]
def k0_off165 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_449_r0 : BitVec 32 := 6#32
  let c0_i32_450_r0 : BitVec 32 := 0#32
  let v505_r0 : BitVec 1 := Scalar.cmpi .eq c6_i32_449_r0 c0_i32_450_r0
  let c1_i32_451_r0 : BitVec 32 := 1#32
  let v506_r0 : BitVec 32 := Scalar.select v505_r0 c1_i32_451_r0 c6_i32_449_r0
  let v507_r0 : BitVec 32 := Scalar.remsi v448_r0 v506_r0
  let c0_i32_453_r0 : BitVec 32 := 0#32
  let v509_r0 : BitVec 1 := Scalar.cmpi .slt v507_r0 c0_i32_453_r0
  let c0_i32_454_r0 : BitVec 32 := 0#32
  let v510_r0 : BitVec 1 := Scalar.cmpi .slt v506_r0 c0_i32_454_r0
  let v511_r0 : BitVec 1 := Scalar.xori v509_r0 v510_r0
  let c0_i32_452_r0 : BitVec 32 := 0#32
  let v508_r0 : BitVec 1 := Scalar.cmpi .ne v507_r0 c0_i32_452_r0
  let v512_r0 : BitVec 1 := Scalar.andi v511_r0 v508_r0
  let v513_r0 : BitVec 32 := Scalar.addi v507_r0 v506_r0
  let v514_r0 : BitVec 32 := Scalar.select v512_r0 v513_r0 v507_r0
  let v801_r0 : Index := Scalar.indexCast v514_r0
  let c1_568_r0 : Index := 1#32
  let c128_569_r0 : Index := 128#32
  let c256_570_r0 : Index := 256#32
  ![v801_r0.toNat, 1, 128, 256]
def k0_off166 (k0_t3 : Fin k0_t3_loop.trips) (c0_i32_578_r0 : BitVec 32) : Fin 4 → Nat :=
  let c1_579_r0 : Index := 1#32
  let c1_580_r0 : Index := 1#32
  let c0_i32_378_r0 : BitVec 32 := 0#32
  let c1_i32_380_r0 : BitVec 32 := 1#32
  let arg17_r0 : BitVec 32 := Scf.iv c0_i32_378_r0 c1_i32_380_r0 k0_t3
  let c6_i32_577_r0 : BitVec 32 := 6#32
  let v821_r0 : BitVec 32 := Scalar.muli arg17_r0 c6_i32_577_r0
  let v822_r0 : BitVec 32 := Scalar.addi v821_r0 c0_i32_578_r0
  let v823_r0 : Index := Scalar.indexCast v822_r0
  let c256_581_r0 : Index := 256#32
  ![1, 1, v823_r0.toNat, 256]
def k0_off167 (k0_t3 : Fin k0_t3_loop.trips) : Fin 3 → Nat :=
  let c0_i32_378_r0 : BitVec 32 := 0#32
  let c1_i32_380_r0 : BitVec 32 := 1#32
  let arg17_r0 : BitVec 32 := Scf.iv c0_i32_378_r0 c1_i32_380_r0 k0_t3
  let v841_r0 : Index := Scalar.indexCast arg17_r0
  let c0_584_r0 : Index := 0#32
  let c512_r0 : Index := 512#32
  ![v841_r0.toNat, 0, 512]
def k0_off168 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_449_r0 : BitVec 32 := 6#32
  let c0_i32_450_r0 : BitVec 32 := 0#32
  let v505_r0 : BitVec 1 := Scalar.cmpi .eq c6_i32_449_r0 c0_i32_450_r0
  let c1_i32_451_r0 : BitVec 32 := 1#32
  let v506_r0 : BitVec 32 := Scalar.select v505_r0 c1_i32_451_r0 c6_i32_449_r0
  let v507_r0 : BitVec 32 := Scalar.remsi v448_r0 v506_r0
  let c0_i32_453_r0 : BitVec 32 := 0#32
  let v509_r0 : BitVec 1 := Scalar.cmpi .slt v507_r0 c0_i32_453_r0
  let c0_i32_454_r0 : BitVec 32 := 0#32
  let v510_r0 : BitVec 1 := Scalar.cmpi .slt v506_r0 c0_i32_454_r0
  let v511_r0 : BitVec 1 := Scalar.xori v509_r0 v510_r0
  let c0_i32_452_r0 : BitVec 32 := 0#32
  let v508_r0 : BitVec 1 := Scalar.cmpi .ne v507_r0 c0_i32_452_r0
  let v512_r0 : BitVec 1 := Scalar.andi v511_r0 v508_r0
  let v513_r0 : BitVec 32 := Scalar.addi v507_r0 v506_r0
  let v514_r0 : BitVec 32 := Scalar.select v512_r0 v513_r0 v507_r0
  let v844_r0 : Index := Scalar.indexCast v514_r0
  let c0_585_r0 : Index := 0#32
  let c256_586_r0 : Index := 256#32
  let c0_587_r0 : Index := 0#32
  ![v844_r0.toNat, 0, 256, 0]
def k0_off169 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_449_r0 : BitVec 32 := 6#32
  let c0_i32_450_r0 : BitVec 32 := 0#32
  let v505_r0 : BitVec 1 := Scalar.cmpi .eq c6_i32_449_r0 c0_i32_450_r0
  let c1_i32_451_r0 : BitVec 32 := 1#32
  let v506_r0 : BitVec 32 := Scalar.select v505_r0 c1_i32_451_r0 c6_i32_449_r0
  let v507_r0 : BitVec 32 := Scalar.remsi v448_r0 v506_r0
  let c0_i32_453_r0 : BitVec 32 := 0#32
  let v509_r0 : BitVec 1 := Scalar.cmpi .slt v507_r0 c0_i32_453_r0
  let c0_i32_454_r0 : BitVec 32 := 0#32
  let v510_r0 : BitVec 1 := Scalar.cmpi .slt v506_r0 c0_i32_454_r0
  let v511_r0 : BitVec 1 := Scalar.xori v509_r0 v510_r0
  let c0_i32_452_r0 : BitVec 32 := 0#32
  let v508_r0 : BitVec 1 := Scalar.cmpi .ne v507_r0 c0_i32_452_r0
  let v512_r0 : BitVec 1 := Scalar.andi v511_r0 v508_r0
  let v513_r0 : BitVec 32 := Scalar.addi v507_r0 v506_r0
  let v514_r0 : BitVec 32 := Scalar.select v512_r0 v513_r0 v507_r0
  let v884_r0 : Index := Scalar.indexCast v514_r0
  let c1_601_r0 : Index := 1#32
  let c256_602_r0 : Index := 256#32
  let c0_603_r0 : Index := 0#32
  ![v884_r0.toNat, 1, 256, 0]
def k0_off170 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_449_r0 : BitVec 32 := 6#32
  let c0_i32_450_r0 : BitVec 32 := 0#32
  let v505_r0 : BitVec 1 := Scalar.cmpi .eq c6_i32_449_r0 c0_i32_450_r0
  let c1_i32_451_r0 : BitVec 32 := 1#32
  let v506_r0 : BitVec 32 := Scalar.select v505_r0 c1_i32_451_r0 c6_i32_449_r0
  let v507_r0 : BitVec 32 := Scalar.remsi v448_r0 v506_r0
  let c0_i32_453_r0 : BitVec 32 := 0#32
  let v509_r0 : BitVec 1 := Scalar.cmpi .slt v507_r0 c0_i32_453_r0
  let c0_i32_454_r0 : BitVec 32 := 0#32
  let v510_r0 : BitVec 1 := Scalar.cmpi .slt v506_r0 c0_i32_454_r0
  let v511_r0 : BitVec 1 := Scalar.xori v509_r0 v510_r0
  let c0_i32_452_r0 : BitVec 32 := 0#32
  let v508_r0 : BitVec 1 := Scalar.cmpi .ne v507_r0 c0_i32_452_r0
  let v512_r0 : BitVec 1 := Scalar.andi v511_r0 v508_r0
  let v513_r0 : BitVec 32 := Scalar.addi v507_r0 v506_r0
  let v514_r0 : BitVec 32 := Scalar.select v512_r0 v513_r0 v507_r0
  let v924_r0 : Index := Scalar.indexCast v514_r0
  let c0_617_r0 : Index := 0#32
  let c256_618_r0 : Index := 256#32
  let c256_619_r0 : Index := 256#32
  ![v924_r0.toNat, 0, 256, 256]
def k0_off171 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_449_r0 : BitVec 32 := 6#32
  let c0_i32_450_r0 : BitVec 32 := 0#32
  let v505_r0 : BitVec 1 := Scalar.cmpi .eq c6_i32_449_r0 c0_i32_450_r0
  let c1_i32_451_r0 : BitVec 32 := 1#32
  let v506_r0 : BitVec 32 := Scalar.select v505_r0 c1_i32_451_r0 c6_i32_449_r0
  let v507_r0 : BitVec 32 := Scalar.remsi v448_r0 v506_r0
  let c0_i32_453_r0 : BitVec 32 := 0#32
  let v509_r0 : BitVec 1 := Scalar.cmpi .slt v507_r0 c0_i32_453_r0
  let c0_i32_454_r0 : BitVec 32 := 0#32
  let v510_r0 : BitVec 1 := Scalar.cmpi .slt v506_r0 c0_i32_454_r0
  let v511_r0 : BitVec 1 := Scalar.xori v509_r0 v510_r0
  let c0_i32_452_r0 : BitVec 32 := 0#32
  let v508_r0 : BitVec 1 := Scalar.cmpi .ne v507_r0 c0_i32_452_r0
  let v512_r0 : BitVec 1 := Scalar.andi v511_r0 v508_r0
  let v513_r0 : BitVec 32 := Scalar.addi v507_r0 v506_r0
  let v514_r0 : BitVec 32 := Scalar.select v512_r0 v513_r0 v507_r0
  let v964_r0 : Index := Scalar.indexCast v514_r0
  let c1_633_r0 : Index := 1#32
  let c256_634_r0 : Index := 256#32
  let c256_635_r0 : Index := 256#32
  ![v964_r0.toNat, 1, 256, 256]
def k0_off172 (k0_t3 : Fin k0_t3_loop.trips) : Fin 3 → Nat :=
  let c0_i32_378_r0 : BitVec 32 := 0#32
  let c1_i32_380_r0 : BitVec 32 := 1#32
  let arg17_r0 : BitVec 32 := Scf.iv c0_i32_378_r0 c1_i32_380_r0 k0_t3
  let v1004_r0 : Index := Scalar.indexCast arg17_r0
  let c0_649_r0 : Index := 0#32
  let c768_r0 : Index := 768#32
  ![v1004_r0.toNat, 0, 768]
def k0_off173 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_449_r0 : BitVec 32 := 6#32
  let c0_i32_450_r0 : BitVec 32 := 0#32
  let v505_r0 : BitVec 1 := Scalar.cmpi .eq c6_i32_449_r0 c0_i32_450_r0
  let c1_i32_451_r0 : BitVec 32 := 1#32
  let v506_r0 : BitVec 32 := Scalar.select v505_r0 c1_i32_451_r0 c6_i32_449_r0
  let v507_r0 : BitVec 32 := Scalar.remsi v448_r0 v506_r0
  let c0_i32_453_r0 : BitVec 32 := 0#32
  let v509_r0 : BitVec 1 := Scalar.cmpi .slt v507_r0 c0_i32_453_r0
  let c0_i32_454_r0 : BitVec 32 := 0#32
  let v510_r0 : BitVec 1 := Scalar.cmpi .slt v506_r0 c0_i32_454_r0
  let v511_r0 : BitVec 1 := Scalar.xori v509_r0 v510_r0
  let c0_i32_452_r0 : BitVec 32 := 0#32
  let v508_r0 : BitVec 1 := Scalar.cmpi .ne v507_r0 c0_i32_452_r0
  let v512_r0 : BitVec 1 := Scalar.andi v511_r0 v508_r0
  let v513_r0 : BitVec 32 := Scalar.addi v507_r0 v506_r0
  let v514_r0 : BitVec 32 := Scalar.select v512_r0 v513_r0 v507_r0
  let v1007_r0 : Index := Scalar.indexCast v514_r0
  let c0_650_r0 : Index := 0#32
  let c384_r0 : Index := 384#32
  let c0_651_r0 : Index := 0#32
  ![v1007_r0.toNat, 0, 384, 0]
def k0_off174 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_449_r0 : BitVec 32 := 6#32
  let c0_i32_450_r0 : BitVec 32 := 0#32
  let v505_r0 : BitVec 1 := Scalar.cmpi .eq c6_i32_449_r0 c0_i32_450_r0
  let c1_i32_451_r0 : BitVec 32 := 1#32
  let v506_r0 : BitVec 32 := Scalar.select v505_r0 c1_i32_451_r0 c6_i32_449_r0
  let v507_r0 : BitVec 32 := Scalar.remsi v448_r0 v506_r0
  let c0_i32_453_r0 : BitVec 32 := 0#32
  let v509_r0 : BitVec 1 := Scalar.cmpi .slt v507_r0 c0_i32_453_r0
  let c0_i32_454_r0 : BitVec 32 := 0#32
  let v510_r0 : BitVec 1 := Scalar.cmpi .slt v506_r0 c0_i32_454_r0
  let v511_r0 : BitVec 1 := Scalar.xori v509_r0 v510_r0
  let c0_i32_452_r0 : BitVec 32 := 0#32
  let v508_r0 : BitVec 1 := Scalar.cmpi .ne v507_r0 c0_i32_452_r0
  let v512_r0 : BitVec 1 := Scalar.andi v511_r0 v508_r0
  let v513_r0 : BitVec 32 := Scalar.addi v507_r0 v506_r0
  let v514_r0 : BitVec 32 := Scalar.select v512_r0 v513_r0 v507_r0
  let v1047_r0 : Index := Scalar.indexCast v514_r0
  let c1_665_r0 : Index := 1#32
  let c384_666_r0 : Index := 384#32
  let c0_667_r0 : Index := 0#32
  ![v1047_r0.toNat, 1, 384, 0]
def k0_off175 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_449_r0 : BitVec 32 := 6#32
  let c0_i32_450_r0 : BitVec 32 := 0#32
  let v505_r0 : BitVec 1 := Scalar.cmpi .eq c6_i32_449_r0 c0_i32_450_r0
  let c1_i32_451_r0 : BitVec 32 := 1#32
  let v506_r0 : BitVec 32 := Scalar.select v505_r0 c1_i32_451_r0 c6_i32_449_r0
  let v507_r0 : BitVec 32 := Scalar.remsi v448_r0 v506_r0
  let c0_i32_453_r0 : BitVec 32 := 0#32
  let v509_r0 : BitVec 1 := Scalar.cmpi .slt v507_r0 c0_i32_453_r0
  let c0_i32_454_r0 : BitVec 32 := 0#32
  let v510_r0 : BitVec 1 := Scalar.cmpi .slt v506_r0 c0_i32_454_r0
  let v511_r0 : BitVec 1 := Scalar.xori v509_r0 v510_r0
  let c0_i32_452_r0 : BitVec 32 := 0#32
  let v508_r0 : BitVec 1 := Scalar.cmpi .ne v507_r0 c0_i32_452_r0
  let v512_r0 : BitVec 1 := Scalar.andi v511_r0 v508_r0
  let v513_r0 : BitVec 32 := Scalar.addi v507_r0 v506_r0
  let v514_r0 : BitVec 32 := Scalar.select v512_r0 v513_r0 v507_r0
  let v1087_r0 : Index := Scalar.indexCast v514_r0
  let c0_681_r0 : Index := 0#32
  let c384_682_r0 : Index := 384#32
  let c256_683_r0 : Index := 256#32
  ![v1087_r0.toNat, 0, 384, 256]
def k0_off176 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_449_r0 : BitVec 32 := 6#32
  let c0_i32_450_r0 : BitVec 32 := 0#32
  let v505_r0 : BitVec 1 := Scalar.cmpi .eq c6_i32_449_r0 c0_i32_450_r0
  let c1_i32_451_r0 : BitVec 32 := 1#32
  let v506_r0 : BitVec 32 := Scalar.select v505_r0 c1_i32_451_r0 c6_i32_449_r0
  let v507_r0 : BitVec 32 := Scalar.remsi v448_r0 v506_r0
  let c0_i32_453_r0 : BitVec 32 := 0#32
  let v509_r0 : BitVec 1 := Scalar.cmpi .slt v507_r0 c0_i32_453_r0
  let c0_i32_454_r0 : BitVec 32 := 0#32
  let v510_r0 : BitVec 1 := Scalar.cmpi .slt v506_r0 c0_i32_454_r0
  let v511_r0 : BitVec 1 := Scalar.xori v509_r0 v510_r0
  let c0_i32_452_r0 : BitVec 32 := 0#32
  let v508_r0 : BitVec 1 := Scalar.cmpi .ne v507_r0 c0_i32_452_r0
  let v512_r0 : BitVec 1 := Scalar.andi v511_r0 v508_r0
  let v513_r0 : BitVec 32 := Scalar.addi v507_r0 v506_r0
  let v514_r0 : BitVec 32 := Scalar.select v512_r0 v513_r0 v507_r0
  let v1127_r0 : Index := Scalar.indexCast v514_r0
  let c1_697_r0 : Index := 1#32
  let c384_698_r0 : Index := 384#32
  let c256_699_r0 : Index := 256#32
  ![v1127_r0.toNat, 1, 384, 256]
def k0_off177 (k0_t3 : Fin k0_t3_loop.trips) : Fin 3 → Nat :=
  let c0_i32_378_r0 : BitVec 32 := 0#32
  let c1_i32_380_r0 : BitVec 32 := 1#32
  let arg17_r0 : BitVec 32 := Scf.iv c0_i32_378_r0 c1_i32_380_r0 k0_t3
  let v1167_r0 : Index := Scalar.indexCast arg17_r0
  let c0_713_r0 : Index := 0#32
  let c1024_r0 : Index := 1024#32
  ![v1167_r0.toNat, 0, 1024]
def k0_off178 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_449_r0 : BitVec 32 := 6#32
  let c0_i32_450_r0 : BitVec 32 := 0#32
  let v505_r0 : BitVec 1 := Scalar.cmpi .eq c6_i32_449_r0 c0_i32_450_r0
  let c1_i32_451_r0 : BitVec 32 := 1#32
  let v506_r0 : BitVec 32 := Scalar.select v505_r0 c1_i32_451_r0 c6_i32_449_r0
  let v507_r0 : BitVec 32 := Scalar.remsi v448_r0 v506_r0
  let c0_i32_453_r0 : BitVec 32 := 0#32
  let v509_r0 : BitVec 1 := Scalar.cmpi .slt v507_r0 c0_i32_453_r0
  let c0_i32_454_r0 : BitVec 32 := 0#32
  let v510_r0 : BitVec 1 := Scalar.cmpi .slt v506_r0 c0_i32_454_r0
  let v511_r0 : BitVec 1 := Scalar.xori v509_r0 v510_r0
  let c0_i32_452_r0 : BitVec 32 := 0#32
  let v508_r0 : BitVec 1 := Scalar.cmpi .ne v507_r0 c0_i32_452_r0
  let v512_r0 : BitVec 1 := Scalar.andi v511_r0 v508_r0
  let v513_r0 : BitVec 32 := Scalar.addi v507_r0 v506_r0
  let v514_r0 : BitVec 32 := Scalar.select v512_r0 v513_r0 v507_r0
  let v1170_r0 : Index := Scalar.indexCast v514_r0
  let c0_714_r0 : Index := 0#32
  let c512_715_r0 : Index := 512#32
  let c0_716_r0 : Index := 0#32
  ![v1170_r0.toNat, 0, 512, 0]
def k0_off179 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_449_r0 : BitVec 32 := 6#32
  let c0_i32_450_r0 : BitVec 32 := 0#32
  let v505_r0 : BitVec 1 := Scalar.cmpi .eq c6_i32_449_r0 c0_i32_450_r0
  let c1_i32_451_r0 : BitVec 32 := 1#32
  let v506_r0 : BitVec 32 := Scalar.select v505_r0 c1_i32_451_r0 c6_i32_449_r0
  let v507_r0 : BitVec 32 := Scalar.remsi v448_r0 v506_r0
  let c0_i32_453_r0 : BitVec 32 := 0#32
  let v509_r0 : BitVec 1 := Scalar.cmpi .slt v507_r0 c0_i32_453_r0
  let c0_i32_454_r0 : BitVec 32 := 0#32
  let v510_r0 : BitVec 1 := Scalar.cmpi .slt v506_r0 c0_i32_454_r0
  let v511_r0 : BitVec 1 := Scalar.xori v509_r0 v510_r0
  let c0_i32_452_r0 : BitVec 32 := 0#32
  let v508_r0 : BitVec 1 := Scalar.cmpi .ne v507_r0 c0_i32_452_r0
  let v512_r0 : BitVec 1 := Scalar.andi v511_r0 v508_r0
  let v513_r0 : BitVec 32 := Scalar.addi v507_r0 v506_r0
  let v514_r0 : BitVec 32 := Scalar.select v512_r0 v513_r0 v507_r0
  let v1210_r0 : Index := Scalar.indexCast v514_r0
  let c1_730_r0 : Index := 1#32
  let c512_731_r0 : Index := 512#32
  let c0_732_r0 : Index := 0#32
  ![v1210_r0.toNat, 1, 512, 0]
def k0_off180 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_449_r0 : BitVec 32 := 6#32
  let c0_i32_450_r0 : BitVec 32 := 0#32
  let v505_r0 : BitVec 1 := Scalar.cmpi .eq c6_i32_449_r0 c0_i32_450_r0
  let c1_i32_451_r0 : BitVec 32 := 1#32
  let v506_r0 : BitVec 32 := Scalar.select v505_r0 c1_i32_451_r0 c6_i32_449_r0
  let v507_r0 : BitVec 32 := Scalar.remsi v448_r0 v506_r0
  let c0_i32_453_r0 : BitVec 32 := 0#32
  let v509_r0 : BitVec 1 := Scalar.cmpi .slt v507_r0 c0_i32_453_r0
  let c0_i32_454_r0 : BitVec 32 := 0#32
  let v510_r0 : BitVec 1 := Scalar.cmpi .slt v506_r0 c0_i32_454_r0
  let v511_r0 : BitVec 1 := Scalar.xori v509_r0 v510_r0
  let c0_i32_452_r0 : BitVec 32 := 0#32
  let v508_r0 : BitVec 1 := Scalar.cmpi .ne v507_r0 c0_i32_452_r0
  let v512_r0 : BitVec 1 := Scalar.andi v511_r0 v508_r0
  let v513_r0 : BitVec 32 := Scalar.addi v507_r0 v506_r0
  let v514_r0 : BitVec 32 := Scalar.select v512_r0 v513_r0 v507_r0
  let v1250_r0 : Index := Scalar.indexCast v514_r0
  let c0_746_r0 : Index := 0#32
  let c512_747_r0 : Index := 512#32
  let c256_748_r0 : Index := 256#32
  ![v1250_r0.toNat, 0, 512, 256]
def k0_off181 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_449_r0 : BitVec 32 := 6#32
  let c0_i32_450_r0 : BitVec 32 := 0#32
  let v505_r0 : BitVec 1 := Scalar.cmpi .eq c6_i32_449_r0 c0_i32_450_r0
  let c1_i32_451_r0 : BitVec 32 := 1#32
  let v506_r0 : BitVec 32 := Scalar.select v505_r0 c1_i32_451_r0 c6_i32_449_r0
  let v507_r0 : BitVec 32 := Scalar.remsi v448_r0 v506_r0
  let c0_i32_453_r0 : BitVec 32 := 0#32
  let v509_r0 : BitVec 1 := Scalar.cmpi .slt v507_r0 c0_i32_453_r0
  let c0_i32_454_r0 : BitVec 32 := 0#32
  let v510_r0 : BitVec 1 := Scalar.cmpi .slt v506_r0 c0_i32_454_r0
  let v511_r0 : BitVec 1 := Scalar.xori v509_r0 v510_r0
  let c0_i32_452_r0 : BitVec 32 := 0#32
  let v508_r0 : BitVec 1 := Scalar.cmpi .ne v507_r0 c0_i32_452_r0
  let v512_r0 : BitVec 1 := Scalar.andi v511_r0 v508_r0
  let v513_r0 : BitVec 32 := Scalar.addi v507_r0 v506_r0
  let v514_r0 : BitVec 32 := Scalar.select v512_r0 v513_r0 v507_r0
  let v1290_r0 : Index := Scalar.indexCast v514_r0
  let c1_762_r0 : Index := 1#32
  let c512_763_r0 : Index := 512#32
  let c256_764_r0 : Index := 256#32
  ![v1290_r0.toNat, 1, 512, 256]
def k0_off182 (k0_t3 : Fin k0_t3_loop.trips) : Fin 3 → Nat :=
  let c0_i32_378_r0 : BitVec 32 := 0#32
  let c1_i32_380_r0 : BitVec 32 := 1#32
  let arg17_r0 : BitVec 32 := Scf.iv c0_i32_378_r0 c1_i32_380_r0 k0_t3
  let v1330_r0 : Index := Scalar.indexCast arg17_r0
  let c0_778_r0 : Index := 0#32
  let c1280_r0 : Index := 1280#32
  ![v1330_r0.toNat, 0, 1280]
def k0_off183 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_449_r0 : BitVec 32 := 6#32
  let c0_i32_450_r0 : BitVec 32 := 0#32
  let v505_r0 : BitVec 1 := Scalar.cmpi .eq c6_i32_449_r0 c0_i32_450_r0
  let c1_i32_451_r0 : BitVec 32 := 1#32
  let v506_r0 : BitVec 32 := Scalar.select v505_r0 c1_i32_451_r0 c6_i32_449_r0
  let v507_r0 : BitVec 32 := Scalar.remsi v448_r0 v506_r0
  let c0_i32_453_r0 : BitVec 32 := 0#32
  let v509_r0 : BitVec 1 := Scalar.cmpi .slt v507_r0 c0_i32_453_r0
  let c0_i32_454_r0 : BitVec 32 := 0#32
  let v510_r0 : BitVec 1 := Scalar.cmpi .slt v506_r0 c0_i32_454_r0
  let v511_r0 : BitVec 1 := Scalar.xori v509_r0 v510_r0
  let c0_i32_452_r0 : BitVec 32 := 0#32
  let v508_r0 : BitVec 1 := Scalar.cmpi .ne v507_r0 c0_i32_452_r0
  let v512_r0 : BitVec 1 := Scalar.andi v511_r0 v508_r0
  let v513_r0 : BitVec 32 := Scalar.addi v507_r0 v506_r0
  let v514_r0 : BitVec 32 := Scalar.select v512_r0 v513_r0 v507_r0
  let v1333_r0 : Index := Scalar.indexCast v514_r0
  let c0_779_r0 : Index := 0#32
  let c640_r0 : Index := 640#32
  let c0_780_r0 : Index := 0#32
  ![v1333_r0.toNat, 0, 640, 0]
def k0_off184 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_449_r0 : BitVec 32 := 6#32
  let c0_i32_450_r0 : BitVec 32 := 0#32
  let v505_r0 : BitVec 1 := Scalar.cmpi .eq c6_i32_449_r0 c0_i32_450_r0
  let c1_i32_451_r0 : BitVec 32 := 1#32
  let v506_r0 : BitVec 32 := Scalar.select v505_r0 c1_i32_451_r0 c6_i32_449_r0
  let v507_r0 : BitVec 32 := Scalar.remsi v448_r0 v506_r0
  let c0_i32_453_r0 : BitVec 32 := 0#32
  let v509_r0 : BitVec 1 := Scalar.cmpi .slt v507_r0 c0_i32_453_r0
  let c0_i32_454_r0 : BitVec 32 := 0#32
  let v510_r0 : BitVec 1 := Scalar.cmpi .slt v506_r0 c0_i32_454_r0
  let v511_r0 : BitVec 1 := Scalar.xori v509_r0 v510_r0
  let c0_i32_452_r0 : BitVec 32 := 0#32
  let v508_r0 : BitVec 1 := Scalar.cmpi .ne v507_r0 c0_i32_452_r0
  let v512_r0 : BitVec 1 := Scalar.andi v511_r0 v508_r0
  let v513_r0 : BitVec 32 := Scalar.addi v507_r0 v506_r0
  let v514_r0 : BitVec 32 := Scalar.select v512_r0 v513_r0 v507_r0
  let v1373_r0 : Index := Scalar.indexCast v514_r0
  let c1_794_r0 : Index := 1#32
  let c640_795_r0 : Index := 640#32
  let c0_796_r0 : Index := 0#32
  ![v1373_r0.toNat, 1, 640, 0]
def k0_off185 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_449_r0 : BitVec 32 := 6#32
  let c0_i32_450_r0 : BitVec 32 := 0#32
  let v505_r0 : BitVec 1 := Scalar.cmpi .eq c6_i32_449_r0 c0_i32_450_r0
  let c1_i32_451_r0 : BitVec 32 := 1#32
  let v506_r0 : BitVec 32 := Scalar.select v505_r0 c1_i32_451_r0 c6_i32_449_r0
  let v507_r0 : BitVec 32 := Scalar.remsi v448_r0 v506_r0
  let c0_i32_453_r0 : BitVec 32 := 0#32
  let v509_r0 : BitVec 1 := Scalar.cmpi .slt v507_r0 c0_i32_453_r0
  let c0_i32_454_r0 : BitVec 32 := 0#32
  let v510_r0 : BitVec 1 := Scalar.cmpi .slt v506_r0 c0_i32_454_r0
  let v511_r0 : BitVec 1 := Scalar.xori v509_r0 v510_r0
  let c0_i32_452_r0 : BitVec 32 := 0#32
  let v508_r0 : BitVec 1 := Scalar.cmpi .ne v507_r0 c0_i32_452_r0
  let v512_r0 : BitVec 1 := Scalar.andi v511_r0 v508_r0
  let v513_r0 : BitVec 32 := Scalar.addi v507_r0 v506_r0
  let v514_r0 : BitVec 32 := Scalar.select v512_r0 v513_r0 v507_r0
  let v1413_r0 : Index := Scalar.indexCast v514_r0
  let c0_810_r0 : Index := 0#32
  let c640_811_r0 : Index := 640#32
  let c256_812_r0 : Index := 256#32
  ![v1413_r0.toNat, 0, 640, 256]
def k0_off186 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_449_r0 : BitVec 32 := 6#32
  let c0_i32_450_r0 : BitVec 32 := 0#32
  let v505_r0 : BitVec 1 := Scalar.cmpi .eq c6_i32_449_r0 c0_i32_450_r0
  let c1_i32_451_r0 : BitVec 32 := 1#32
  let v506_r0 : BitVec 32 := Scalar.select v505_r0 c1_i32_451_r0 c6_i32_449_r0
  let v507_r0 : BitVec 32 := Scalar.remsi v448_r0 v506_r0
  let c0_i32_453_r0 : BitVec 32 := 0#32
  let v509_r0 : BitVec 1 := Scalar.cmpi .slt v507_r0 c0_i32_453_r0
  let c0_i32_454_r0 : BitVec 32 := 0#32
  let v510_r0 : BitVec 1 := Scalar.cmpi .slt v506_r0 c0_i32_454_r0
  let v511_r0 : BitVec 1 := Scalar.xori v509_r0 v510_r0
  let c0_i32_452_r0 : BitVec 32 := 0#32
  let v508_r0 : BitVec 1 := Scalar.cmpi .ne v507_r0 c0_i32_452_r0
  let v512_r0 : BitVec 1 := Scalar.andi v511_r0 v508_r0
  let v513_r0 : BitVec 32 := Scalar.addi v507_r0 v506_r0
  let v514_r0 : BitVec 32 := Scalar.select v512_r0 v513_r0 v507_r0
  let v1453_r0 : Index := Scalar.indexCast v514_r0
  let c1_826_r0 : Index := 1#32
  let c640_827_r0 : Index := 640#32
  let c256_828_r0 : Index := 256#32
  ![v1453_r0.toNat, 1, 640, 256]
def k0_off187 (k0_t3 : Fin k0_t3_loop.trips) : Fin 3 → Nat :=
  let c0_i32_378_r0 : BitVec 32 := 0#32
  let c1_i32_380_r0 : BitVec 32 := 1#32
  let arg17_r0 : BitVec 32 := Scf.iv c0_i32_378_r0 c1_i32_380_r0 k0_t3
  let v1493_r0 : Index := Scalar.indexCast arg17_r0
  let c0_842_r0 : Index := 0#32
  let c1536_r0 : Index := 1536#32
  ![v1493_r0.toNat, 0, 1536]
def k0_off188 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_449_r0 : BitVec 32 := 6#32
  let c0_i32_450_r0 : BitVec 32 := 0#32
  let v505_r0 : BitVec 1 := Scalar.cmpi .eq c6_i32_449_r0 c0_i32_450_r0
  let c1_i32_451_r0 : BitVec 32 := 1#32
  let v506_r0 : BitVec 32 := Scalar.select v505_r0 c1_i32_451_r0 c6_i32_449_r0
  let v507_r0 : BitVec 32 := Scalar.remsi v448_r0 v506_r0
  let c0_i32_453_r0 : BitVec 32 := 0#32
  let v509_r0 : BitVec 1 := Scalar.cmpi .slt v507_r0 c0_i32_453_r0
  let c0_i32_454_r0 : BitVec 32 := 0#32
  let v510_r0 : BitVec 1 := Scalar.cmpi .slt v506_r0 c0_i32_454_r0
  let v511_r0 : BitVec 1 := Scalar.xori v509_r0 v510_r0
  let c0_i32_452_r0 : BitVec 32 := 0#32
  let v508_r0 : BitVec 1 := Scalar.cmpi .ne v507_r0 c0_i32_452_r0
  let v512_r0 : BitVec 1 := Scalar.andi v511_r0 v508_r0
  let v513_r0 : BitVec 32 := Scalar.addi v507_r0 v506_r0
  let v514_r0 : BitVec 32 := Scalar.select v512_r0 v513_r0 v507_r0
  let v1496_r0 : Index := Scalar.indexCast v514_r0
  let c0_843_r0 : Index := 0#32
  let c768_844_r0 : Index := 768#32
  let c0_845_r0 : Index := 0#32
  ![v1496_r0.toNat, 0, 768, 0]
def k0_off189 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_449_r0 : BitVec 32 := 6#32
  let c0_i32_450_r0 : BitVec 32 := 0#32
  let v505_r0 : BitVec 1 := Scalar.cmpi .eq c6_i32_449_r0 c0_i32_450_r0
  let c1_i32_451_r0 : BitVec 32 := 1#32
  let v506_r0 : BitVec 32 := Scalar.select v505_r0 c1_i32_451_r0 c6_i32_449_r0
  let v507_r0 : BitVec 32 := Scalar.remsi v448_r0 v506_r0
  let c0_i32_453_r0 : BitVec 32 := 0#32
  let v509_r0 : BitVec 1 := Scalar.cmpi .slt v507_r0 c0_i32_453_r0
  let c0_i32_454_r0 : BitVec 32 := 0#32
  let v510_r0 : BitVec 1 := Scalar.cmpi .slt v506_r0 c0_i32_454_r0
  let v511_r0 : BitVec 1 := Scalar.xori v509_r0 v510_r0
  let c0_i32_452_r0 : BitVec 32 := 0#32
  let v508_r0 : BitVec 1 := Scalar.cmpi .ne v507_r0 c0_i32_452_r0
  let v512_r0 : BitVec 1 := Scalar.andi v511_r0 v508_r0
  let v513_r0 : BitVec 32 := Scalar.addi v507_r0 v506_r0
  let v514_r0 : BitVec 32 := Scalar.select v512_r0 v513_r0 v507_r0
  let v1536_r0 : Index := Scalar.indexCast v514_r0
  let c1_859_r0 : Index := 1#32
  let c768_860_r0 : Index := 768#32
  let c0_861_r0 : Index := 0#32
  ![v1536_r0.toNat, 1, 768, 0]
def k0_off190 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_449_r0 : BitVec 32 := 6#32
  let c0_i32_450_r0 : BitVec 32 := 0#32
  let v505_r0 : BitVec 1 := Scalar.cmpi .eq c6_i32_449_r0 c0_i32_450_r0
  let c1_i32_451_r0 : BitVec 32 := 1#32
  let v506_r0 : BitVec 32 := Scalar.select v505_r0 c1_i32_451_r0 c6_i32_449_r0
  let v507_r0 : BitVec 32 := Scalar.remsi v448_r0 v506_r0
  let c0_i32_453_r0 : BitVec 32 := 0#32
  let v509_r0 : BitVec 1 := Scalar.cmpi .slt v507_r0 c0_i32_453_r0
  let c0_i32_454_r0 : BitVec 32 := 0#32
  let v510_r0 : BitVec 1 := Scalar.cmpi .slt v506_r0 c0_i32_454_r0
  let v511_r0 : BitVec 1 := Scalar.xori v509_r0 v510_r0
  let c0_i32_452_r0 : BitVec 32 := 0#32
  let v508_r0 : BitVec 1 := Scalar.cmpi .ne v507_r0 c0_i32_452_r0
  let v512_r0 : BitVec 1 := Scalar.andi v511_r0 v508_r0
  let v513_r0 : BitVec 32 := Scalar.addi v507_r0 v506_r0
  let v514_r0 : BitVec 32 := Scalar.select v512_r0 v513_r0 v507_r0
  let v1576_r0 : Index := Scalar.indexCast v514_r0
  let c0_875_r0 : Index := 0#32
  let c768_876_r0 : Index := 768#32
  let c256_877_r0 : Index := 256#32
  ![v1576_r0.toNat, 0, 768, 256]
def k0_off191 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_449_r0 : BitVec 32 := 6#32
  let c0_i32_450_r0 : BitVec 32 := 0#32
  let v505_r0 : BitVec 1 := Scalar.cmpi .eq c6_i32_449_r0 c0_i32_450_r0
  let c1_i32_451_r0 : BitVec 32 := 1#32
  let v506_r0 : BitVec 32 := Scalar.select v505_r0 c1_i32_451_r0 c6_i32_449_r0
  let v507_r0 : BitVec 32 := Scalar.remsi v448_r0 v506_r0
  let c0_i32_453_r0 : BitVec 32 := 0#32
  let v509_r0 : BitVec 1 := Scalar.cmpi .slt v507_r0 c0_i32_453_r0
  let c0_i32_454_r0 : BitVec 32 := 0#32
  let v510_r0 : BitVec 1 := Scalar.cmpi .slt v506_r0 c0_i32_454_r0
  let v511_r0 : BitVec 1 := Scalar.xori v509_r0 v510_r0
  let c0_i32_452_r0 : BitVec 32 := 0#32
  let v508_r0 : BitVec 1 := Scalar.cmpi .ne v507_r0 c0_i32_452_r0
  let v512_r0 : BitVec 1 := Scalar.andi v511_r0 v508_r0
  let v513_r0 : BitVec 32 := Scalar.addi v507_r0 v506_r0
  let v514_r0 : BitVec 32 := Scalar.select v512_r0 v513_r0 v507_r0
  let v1616_r0 : Index := Scalar.indexCast v514_r0
  let c1_891_r0 : Index := 1#32
  let c768_892_r0 : Index := 768#32
  let c256_893_r0 : Index := 256#32
  ![v1616_r0.toNat, 1, 768, 256]
def k0_off192 (k0_t3 : Fin k0_t3_loop.trips) : Fin 3 → Nat :=
  let c0_i32_378_r0 : BitVec 32 := 0#32
  let c1_i32_380_r0 : BitVec 32 := 1#32
  let arg17_r0 : BitVec 32 := Scf.iv c0_i32_378_r0 c1_i32_380_r0 k0_t3
  let v1656_r0 : Index := Scalar.indexCast arg17_r0
  let c0_907_r0 : Index := 0#32
  let c1792_r0 : Index := 1792#32
  ![v1656_r0.toNat, 0, 1792]
def k0_off193 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_449_r0 : BitVec 32 := 6#32
  let c0_i32_450_r0 : BitVec 32 := 0#32
  let v505_r0 : BitVec 1 := Scalar.cmpi .eq c6_i32_449_r0 c0_i32_450_r0
  let c1_i32_451_r0 : BitVec 32 := 1#32
  let v506_r0 : BitVec 32 := Scalar.select v505_r0 c1_i32_451_r0 c6_i32_449_r0
  let v507_r0 : BitVec 32 := Scalar.remsi v448_r0 v506_r0
  let c0_i32_453_r0 : BitVec 32 := 0#32
  let v509_r0 : BitVec 1 := Scalar.cmpi .slt v507_r0 c0_i32_453_r0
  let c0_i32_454_r0 : BitVec 32 := 0#32
  let v510_r0 : BitVec 1 := Scalar.cmpi .slt v506_r0 c0_i32_454_r0
  let v511_r0 : BitVec 1 := Scalar.xori v509_r0 v510_r0
  let c0_i32_452_r0 : BitVec 32 := 0#32
  let v508_r0 : BitVec 1 := Scalar.cmpi .ne v507_r0 c0_i32_452_r0
  let v512_r0 : BitVec 1 := Scalar.andi v511_r0 v508_r0
  let v513_r0 : BitVec 32 := Scalar.addi v507_r0 v506_r0
  let v514_r0 : BitVec 32 := Scalar.select v512_r0 v513_r0 v507_r0
  let v1659_r0 : Index := Scalar.indexCast v514_r0
  let c0_908_r0 : Index := 0#32
  let c896_r0 : Index := 896#32
  let c0_909_r0 : Index := 0#32
  ![v1659_r0.toNat, 0, 896, 0]
def k0_off194 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_449_r0 : BitVec 32 := 6#32
  let c0_i32_450_r0 : BitVec 32 := 0#32
  let v505_r0 : BitVec 1 := Scalar.cmpi .eq c6_i32_449_r0 c0_i32_450_r0
  let c1_i32_451_r0 : BitVec 32 := 1#32
  let v506_r0 : BitVec 32 := Scalar.select v505_r0 c1_i32_451_r0 c6_i32_449_r0
  let v507_r0 : BitVec 32 := Scalar.remsi v448_r0 v506_r0
  let c0_i32_453_r0 : BitVec 32 := 0#32
  let v509_r0 : BitVec 1 := Scalar.cmpi .slt v507_r0 c0_i32_453_r0
  let c0_i32_454_r0 : BitVec 32 := 0#32
  let v510_r0 : BitVec 1 := Scalar.cmpi .slt v506_r0 c0_i32_454_r0
  let v511_r0 : BitVec 1 := Scalar.xori v509_r0 v510_r0
  let c0_i32_452_r0 : BitVec 32 := 0#32
  let v508_r0 : BitVec 1 := Scalar.cmpi .ne v507_r0 c0_i32_452_r0
  let v512_r0 : BitVec 1 := Scalar.andi v511_r0 v508_r0
  let v513_r0 : BitVec 32 := Scalar.addi v507_r0 v506_r0
  let v514_r0 : BitVec 32 := Scalar.select v512_r0 v513_r0 v507_r0
  let v1699_r0 : Index := Scalar.indexCast v514_r0
  let c1_923_r0 : Index := 1#32
  let c896_924_r0 : Index := 896#32
  let c0_925_r0 : Index := 0#32
  ![v1699_r0.toNat, 1, 896, 0]
def k0_off195 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_449_r0 : BitVec 32 := 6#32
  let c0_i32_450_r0 : BitVec 32 := 0#32
  let v505_r0 : BitVec 1 := Scalar.cmpi .eq c6_i32_449_r0 c0_i32_450_r0
  let c1_i32_451_r0 : BitVec 32 := 1#32
  let v506_r0 : BitVec 32 := Scalar.select v505_r0 c1_i32_451_r0 c6_i32_449_r0
  let v507_r0 : BitVec 32 := Scalar.remsi v448_r0 v506_r0
  let c0_i32_453_r0 : BitVec 32 := 0#32
  let v509_r0 : BitVec 1 := Scalar.cmpi .slt v507_r0 c0_i32_453_r0
  let c0_i32_454_r0 : BitVec 32 := 0#32
  let v510_r0 : BitVec 1 := Scalar.cmpi .slt v506_r0 c0_i32_454_r0
  let v511_r0 : BitVec 1 := Scalar.xori v509_r0 v510_r0
  let c0_i32_452_r0 : BitVec 32 := 0#32
  let v508_r0 : BitVec 1 := Scalar.cmpi .ne v507_r0 c0_i32_452_r0
  let v512_r0 : BitVec 1 := Scalar.andi v511_r0 v508_r0
  let v513_r0 : BitVec 32 := Scalar.addi v507_r0 v506_r0
  let v514_r0 : BitVec 32 := Scalar.select v512_r0 v513_r0 v507_r0
  let v1739_r0 : Index := Scalar.indexCast v514_r0
  let c0_939_r0 : Index := 0#32
  let c896_940_r0 : Index := 896#32
  let c256_941_r0 : Index := 256#32
  ![v1739_r0.toNat, 0, 896, 256]
def k0_off196 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_449_r0 : BitVec 32 := 6#32
  let c0_i32_450_r0 : BitVec 32 := 0#32
  let v505_r0 : BitVec 1 := Scalar.cmpi .eq c6_i32_449_r0 c0_i32_450_r0
  let c1_i32_451_r0 : BitVec 32 := 1#32
  let v506_r0 : BitVec 32 := Scalar.select v505_r0 c1_i32_451_r0 c6_i32_449_r0
  let v507_r0 : BitVec 32 := Scalar.remsi v448_r0 v506_r0
  let c0_i32_453_r0 : BitVec 32 := 0#32
  let v509_r0 : BitVec 1 := Scalar.cmpi .slt v507_r0 c0_i32_453_r0
  let c0_i32_454_r0 : BitVec 32 := 0#32
  let v510_r0 : BitVec 1 := Scalar.cmpi .slt v506_r0 c0_i32_454_r0
  let v511_r0 : BitVec 1 := Scalar.xori v509_r0 v510_r0
  let c0_i32_452_r0 : BitVec 32 := 0#32
  let v508_r0 : BitVec 1 := Scalar.cmpi .ne v507_r0 c0_i32_452_r0
  let v512_r0 : BitVec 1 := Scalar.andi v511_r0 v508_r0
  let v513_r0 : BitVec 32 := Scalar.addi v507_r0 v506_r0
  let v514_r0 : BitVec 32 := Scalar.select v512_r0 v513_r0 v507_r0
  let v1779_r0 : Index := Scalar.indexCast v514_r0
  let c1_955_r0 : Index := 1#32
  let c896_956_r0 : Index := 896#32
  let c256_957_r0 : Index := 256#32
  ![v1779_r0.toNat, 1, 896, 256]
def k0_off197 (k0_t3 : Fin k0_t3_loop.trips) : Fin 3 → Nat :=
  let c0_i32_378_r0 : BitVec 32 := 0#32
  let c1_i32_380_r0 : BitVec 32 := 1#32
  let arg17_r0 : BitVec 32 := Scf.iv c0_i32_378_r0 c1_i32_380_r0 k0_t3
  let v1819_r0 : Index := Scalar.indexCast arg17_r0
  let c0_971_r0 : Index := 0#32
  let c2048_r0 : Index := 2048#32
  ![v1819_r0.toNat, 0, 2048]
def k0_off198 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_449_r0 : BitVec 32 := 6#32
  let c0_i32_450_r0 : BitVec 32 := 0#32
  let v505_r0 : BitVec 1 := Scalar.cmpi .eq c6_i32_449_r0 c0_i32_450_r0
  let c1_i32_451_r0 : BitVec 32 := 1#32
  let v506_r0 : BitVec 32 := Scalar.select v505_r0 c1_i32_451_r0 c6_i32_449_r0
  let v507_r0 : BitVec 32 := Scalar.remsi v448_r0 v506_r0
  let c0_i32_453_r0 : BitVec 32 := 0#32
  let v509_r0 : BitVec 1 := Scalar.cmpi .slt v507_r0 c0_i32_453_r0
  let c0_i32_454_r0 : BitVec 32 := 0#32
  let v510_r0 : BitVec 1 := Scalar.cmpi .slt v506_r0 c0_i32_454_r0
  let v511_r0 : BitVec 1 := Scalar.xori v509_r0 v510_r0
  let c0_i32_452_r0 : BitVec 32 := 0#32
  let v508_r0 : BitVec 1 := Scalar.cmpi .ne v507_r0 c0_i32_452_r0
  let v512_r0 : BitVec 1 := Scalar.andi v511_r0 v508_r0
  let v513_r0 : BitVec 32 := Scalar.addi v507_r0 v506_r0
  let v514_r0 : BitVec 32 := Scalar.select v512_r0 v513_r0 v507_r0
  let v1822_r0 : Index := Scalar.indexCast v514_r0
  let c0_972_r0 : Index := 0#32
  let c1024_973_r0 : Index := 1024#32
  let c0_974_r0 : Index := 0#32
  ![v1822_r0.toNat, 0, 1024, 0]
def k0_off199 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_449_r0 : BitVec 32 := 6#32
  let c0_i32_450_r0 : BitVec 32 := 0#32
  let v505_r0 : BitVec 1 := Scalar.cmpi .eq c6_i32_449_r0 c0_i32_450_r0
  let c1_i32_451_r0 : BitVec 32 := 1#32
  let v506_r0 : BitVec 32 := Scalar.select v505_r0 c1_i32_451_r0 c6_i32_449_r0
  let v507_r0 : BitVec 32 := Scalar.remsi v448_r0 v506_r0
  let c0_i32_453_r0 : BitVec 32 := 0#32
  let v509_r0 : BitVec 1 := Scalar.cmpi .slt v507_r0 c0_i32_453_r0
  let c0_i32_454_r0 : BitVec 32 := 0#32
  let v510_r0 : BitVec 1 := Scalar.cmpi .slt v506_r0 c0_i32_454_r0
  let v511_r0 : BitVec 1 := Scalar.xori v509_r0 v510_r0
  let c0_i32_452_r0 : BitVec 32 := 0#32
  let v508_r0 : BitVec 1 := Scalar.cmpi .ne v507_r0 c0_i32_452_r0
  let v512_r0 : BitVec 1 := Scalar.andi v511_r0 v508_r0
  let v513_r0 : BitVec 32 := Scalar.addi v507_r0 v506_r0
  let v514_r0 : BitVec 32 := Scalar.select v512_r0 v513_r0 v507_r0
  let v1862_r0 : Index := Scalar.indexCast v514_r0
  let c1_988_r0 : Index := 1#32
  let c1024_989_r0 : Index := 1024#32
  let c0_990_r0 : Index := 0#32
  ![v1862_r0.toNat, 1, 1024, 0]
def k0_off200 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_449_r0 : BitVec 32 := 6#32
  let c0_i32_450_r0 : BitVec 32 := 0#32
  let v505_r0 : BitVec 1 := Scalar.cmpi .eq c6_i32_449_r0 c0_i32_450_r0
  let c1_i32_451_r0 : BitVec 32 := 1#32
  let v506_r0 : BitVec 32 := Scalar.select v505_r0 c1_i32_451_r0 c6_i32_449_r0
  let v507_r0 : BitVec 32 := Scalar.remsi v448_r0 v506_r0
  let c0_i32_453_r0 : BitVec 32 := 0#32
  let v509_r0 : BitVec 1 := Scalar.cmpi .slt v507_r0 c0_i32_453_r0
  let c0_i32_454_r0 : BitVec 32 := 0#32
  let v510_r0 : BitVec 1 := Scalar.cmpi .slt v506_r0 c0_i32_454_r0
  let v511_r0 : BitVec 1 := Scalar.xori v509_r0 v510_r0
  let c0_i32_452_r0 : BitVec 32 := 0#32
  let v508_r0 : BitVec 1 := Scalar.cmpi .ne v507_r0 c0_i32_452_r0
  let v512_r0 : BitVec 1 := Scalar.andi v511_r0 v508_r0
  let v513_r0 : BitVec 32 := Scalar.addi v507_r0 v506_r0
  let v514_r0 : BitVec 32 := Scalar.select v512_r0 v513_r0 v507_r0
  let v1902_r0 : Index := Scalar.indexCast v514_r0
  let c0_1004_r0 : Index := 0#32
  let c1024_1005_r0 : Index := 1024#32
  let c256_1006_r0 : Index := 256#32
  ![v1902_r0.toNat, 0, 1024, 256]
def k0_off201 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_449_r0 : BitVec 32 := 6#32
  let c0_i32_450_r0 : BitVec 32 := 0#32
  let v505_r0 : BitVec 1 := Scalar.cmpi .eq c6_i32_449_r0 c0_i32_450_r0
  let c1_i32_451_r0 : BitVec 32 := 1#32
  let v506_r0 : BitVec 32 := Scalar.select v505_r0 c1_i32_451_r0 c6_i32_449_r0
  let v507_r0 : BitVec 32 := Scalar.remsi v448_r0 v506_r0
  let c0_i32_453_r0 : BitVec 32 := 0#32
  let v509_r0 : BitVec 1 := Scalar.cmpi .slt v507_r0 c0_i32_453_r0
  let c0_i32_454_r0 : BitVec 32 := 0#32
  let v510_r0 : BitVec 1 := Scalar.cmpi .slt v506_r0 c0_i32_454_r0
  let v511_r0 : BitVec 1 := Scalar.xori v509_r0 v510_r0
  let c0_i32_452_r0 : BitVec 32 := 0#32
  let v508_r0 : BitVec 1 := Scalar.cmpi .ne v507_r0 c0_i32_452_r0
  let v512_r0 : BitVec 1 := Scalar.andi v511_r0 v508_r0
  let v513_r0 : BitVec 32 := Scalar.addi v507_r0 v506_r0
  let v514_r0 : BitVec 32 := Scalar.select v512_r0 v513_r0 v507_r0
  let v1942_r0 : Index := Scalar.indexCast v514_r0
  let c1_1020_r0 : Index := 1#32
  let c1024_1021_r0 : Index := 1024#32
  let c256_1022_r0 : Index := 256#32
  ![v1942_r0.toNat, 1, 1024, 256]
def k0_off202 (k0_t3 : Fin k0_t3_loop.trips) : Fin 3 → Nat :=
  let c0_i32_378_r0 : BitVec 32 := 0#32
  let c1_i32_380_r0 : BitVec 32 := 1#32
  let arg17_r0 : BitVec 32 := Scf.iv c0_i32_378_r0 c1_i32_380_r0 k0_t3
  let v1982_r0 : Index := Scalar.indexCast arg17_r0
  let c0_1036_r0 : Index := 0#32
  let c2304_r0 : Index := 2304#32
  ![v1982_r0.toNat, 0, 2304]
def k0_off203 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_449_r0 : BitVec 32 := 6#32
  let c0_i32_450_r0 : BitVec 32 := 0#32
  let v505_r0 : BitVec 1 := Scalar.cmpi .eq c6_i32_449_r0 c0_i32_450_r0
  let c1_i32_451_r0 : BitVec 32 := 1#32
  let v506_r0 : BitVec 32 := Scalar.select v505_r0 c1_i32_451_r0 c6_i32_449_r0
  let v507_r0 : BitVec 32 := Scalar.remsi v448_r0 v506_r0
  let c0_i32_453_r0 : BitVec 32 := 0#32
  let v509_r0 : BitVec 1 := Scalar.cmpi .slt v507_r0 c0_i32_453_r0
  let c0_i32_454_r0 : BitVec 32 := 0#32
  let v510_r0 : BitVec 1 := Scalar.cmpi .slt v506_r0 c0_i32_454_r0
  let v511_r0 : BitVec 1 := Scalar.xori v509_r0 v510_r0
  let c0_i32_452_r0 : BitVec 32 := 0#32
  let v508_r0 : BitVec 1 := Scalar.cmpi .ne v507_r0 c0_i32_452_r0
  let v512_r0 : BitVec 1 := Scalar.andi v511_r0 v508_r0
  let v513_r0 : BitVec 32 := Scalar.addi v507_r0 v506_r0
  let v514_r0 : BitVec 32 := Scalar.select v512_r0 v513_r0 v507_r0
  let v1985_r0 : Index := Scalar.indexCast v514_r0
  let c0_1037_r0 : Index := 0#32
  let c1152_r0 : Index := 1152#32
  let c0_1038_r0 : Index := 0#32
  ![v1985_r0.toNat, 0, 1152, 0]
def k0_off204 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_449_r0 : BitVec 32 := 6#32
  let c0_i32_450_r0 : BitVec 32 := 0#32
  let v505_r0 : BitVec 1 := Scalar.cmpi .eq c6_i32_449_r0 c0_i32_450_r0
  let c1_i32_451_r0 : BitVec 32 := 1#32
  let v506_r0 : BitVec 32 := Scalar.select v505_r0 c1_i32_451_r0 c6_i32_449_r0
  let v507_r0 : BitVec 32 := Scalar.remsi v448_r0 v506_r0
  let c0_i32_453_r0 : BitVec 32 := 0#32
  let v509_r0 : BitVec 1 := Scalar.cmpi .slt v507_r0 c0_i32_453_r0
  let c0_i32_454_r0 : BitVec 32 := 0#32
  let v510_r0 : BitVec 1 := Scalar.cmpi .slt v506_r0 c0_i32_454_r0
  let v511_r0 : BitVec 1 := Scalar.xori v509_r0 v510_r0
  let c0_i32_452_r0 : BitVec 32 := 0#32
  let v508_r0 : BitVec 1 := Scalar.cmpi .ne v507_r0 c0_i32_452_r0
  let v512_r0 : BitVec 1 := Scalar.andi v511_r0 v508_r0
  let v513_r0 : BitVec 32 := Scalar.addi v507_r0 v506_r0
  let v514_r0 : BitVec 32 := Scalar.select v512_r0 v513_r0 v507_r0
  let v2025_r0 : Index := Scalar.indexCast v514_r0
  let c1_1052_r0 : Index := 1#32
  let c1152_1053_r0 : Index := 1152#32
  let c0_1054_r0 : Index := 0#32
  ![v2025_r0.toNat, 1, 1152, 0]
def k0_off205 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_449_r0 : BitVec 32 := 6#32
  let c0_i32_450_r0 : BitVec 32 := 0#32
  let v505_r0 : BitVec 1 := Scalar.cmpi .eq c6_i32_449_r0 c0_i32_450_r0
  let c1_i32_451_r0 : BitVec 32 := 1#32
  let v506_r0 : BitVec 32 := Scalar.select v505_r0 c1_i32_451_r0 c6_i32_449_r0
  let v507_r0 : BitVec 32 := Scalar.remsi v448_r0 v506_r0
  let c0_i32_453_r0 : BitVec 32 := 0#32
  let v509_r0 : BitVec 1 := Scalar.cmpi .slt v507_r0 c0_i32_453_r0
  let c0_i32_454_r0 : BitVec 32 := 0#32
  let v510_r0 : BitVec 1 := Scalar.cmpi .slt v506_r0 c0_i32_454_r0
  let v511_r0 : BitVec 1 := Scalar.xori v509_r0 v510_r0
  let c0_i32_452_r0 : BitVec 32 := 0#32
  let v508_r0 : BitVec 1 := Scalar.cmpi .ne v507_r0 c0_i32_452_r0
  let v512_r0 : BitVec 1 := Scalar.andi v511_r0 v508_r0
  let v513_r0 : BitVec 32 := Scalar.addi v507_r0 v506_r0
  let v514_r0 : BitVec 32 := Scalar.select v512_r0 v513_r0 v507_r0
  let v2065_r0 : Index := Scalar.indexCast v514_r0
  let c0_1068_r0 : Index := 0#32
  let c1152_1069_r0 : Index := 1152#32
  let c256_1070_r0 : Index := 256#32
  ![v2065_r0.toNat, 0, 1152, 256]
def k0_off206 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_449_r0 : BitVec 32 := 6#32
  let c0_i32_450_r0 : BitVec 32 := 0#32
  let v505_r0 : BitVec 1 := Scalar.cmpi .eq c6_i32_449_r0 c0_i32_450_r0
  let c1_i32_451_r0 : BitVec 32 := 1#32
  let v506_r0 : BitVec 32 := Scalar.select v505_r0 c1_i32_451_r0 c6_i32_449_r0
  let v507_r0 : BitVec 32 := Scalar.remsi v448_r0 v506_r0
  let c0_i32_453_r0 : BitVec 32 := 0#32
  let v509_r0 : BitVec 1 := Scalar.cmpi .slt v507_r0 c0_i32_453_r0
  let c0_i32_454_r0 : BitVec 32 := 0#32
  let v510_r0 : BitVec 1 := Scalar.cmpi .slt v506_r0 c0_i32_454_r0
  let v511_r0 : BitVec 1 := Scalar.xori v509_r0 v510_r0
  let c0_i32_452_r0 : BitVec 32 := 0#32
  let v508_r0 : BitVec 1 := Scalar.cmpi .ne v507_r0 c0_i32_452_r0
  let v512_r0 : BitVec 1 := Scalar.andi v511_r0 v508_r0
  let v513_r0 : BitVec 32 := Scalar.addi v507_r0 v506_r0
  let v514_r0 : BitVec 32 := Scalar.select v512_r0 v513_r0 v507_r0
  let v2105_r0 : Index := Scalar.indexCast v514_r0
  let c1_1084_r0 : Index := 1#32
  let c1152_1085_r0 : Index := 1152#32
  let c256_1086_r0 : Index := 256#32
  ![v2105_r0.toNat, 1, 1152, 256]
def k0_off207 (k0_t3 : Fin k0_t3_loop.trips) : Fin 3 → Nat :=
  let c0_i32_378_r0 : BitVec 32 := 0#32
  let c1_i32_380_r0 : BitVec 32 := 1#32
  let arg17_r0 : BitVec 32 := Scf.iv c0_i32_378_r0 c1_i32_380_r0 k0_t3
  let v2145_r0 : Index := Scalar.indexCast arg17_r0
  let c0_1100_r0 : Index := 0#32
  let c2560_r0 : Index := 2560#32
  ![v2145_r0.toNat, 0, 2560]
def k0_off208 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_449_r0 : BitVec 32 := 6#32
  let c0_i32_450_r0 : BitVec 32 := 0#32
  let v505_r0 : BitVec 1 := Scalar.cmpi .eq c6_i32_449_r0 c0_i32_450_r0
  let c1_i32_451_r0 : BitVec 32 := 1#32
  let v506_r0 : BitVec 32 := Scalar.select v505_r0 c1_i32_451_r0 c6_i32_449_r0
  let v507_r0 : BitVec 32 := Scalar.remsi v448_r0 v506_r0
  let c0_i32_453_r0 : BitVec 32 := 0#32
  let v509_r0 : BitVec 1 := Scalar.cmpi .slt v507_r0 c0_i32_453_r0
  let c0_i32_454_r0 : BitVec 32 := 0#32
  let v510_r0 : BitVec 1 := Scalar.cmpi .slt v506_r0 c0_i32_454_r0
  let v511_r0 : BitVec 1 := Scalar.xori v509_r0 v510_r0
  let c0_i32_452_r0 : BitVec 32 := 0#32
  let v508_r0 : BitVec 1 := Scalar.cmpi .ne v507_r0 c0_i32_452_r0
  let v512_r0 : BitVec 1 := Scalar.andi v511_r0 v508_r0
  let v513_r0 : BitVec 32 := Scalar.addi v507_r0 v506_r0
  let v514_r0 : BitVec 32 := Scalar.select v512_r0 v513_r0 v507_r0
  let v2148_r0 : Index := Scalar.indexCast v514_r0
  let c0_1101_r0 : Index := 0#32
  let c1280_1102_r0 : Index := 1280#32
  let c0_1103_r0 : Index := 0#32
  ![v2148_r0.toNat, 0, 1280, 0]
def k0_off209 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_449_r0 : BitVec 32 := 6#32
  let c0_i32_450_r0 : BitVec 32 := 0#32
  let v505_r0 : BitVec 1 := Scalar.cmpi .eq c6_i32_449_r0 c0_i32_450_r0
  let c1_i32_451_r0 : BitVec 32 := 1#32
  let v506_r0 : BitVec 32 := Scalar.select v505_r0 c1_i32_451_r0 c6_i32_449_r0
  let v507_r0 : BitVec 32 := Scalar.remsi v448_r0 v506_r0
  let c0_i32_453_r0 : BitVec 32 := 0#32
  let v509_r0 : BitVec 1 := Scalar.cmpi .slt v507_r0 c0_i32_453_r0
  let c0_i32_454_r0 : BitVec 32 := 0#32
  let v510_r0 : BitVec 1 := Scalar.cmpi .slt v506_r0 c0_i32_454_r0
  let v511_r0 : BitVec 1 := Scalar.xori v509_r0 v510_r0
  let c0_i32_452_r0 : BitVec 32 := 0#32
  let v508_r0 : BitVec 1 := Scalar.cmpi .ne v507_r0 c0_i32_452_r0
  let v512_r0 : BitVec 1 := Scalar.andi v511_r0 v508_r0
  let v513_r0 : BitVec 32 := Scalar.addi v507_r0 v506_r0
  let v514_r0 : BitVec 32 := Scalar.select v512_r0 v513_r0 v507_r0
  let v2188_r0 : Index := Scalar.indexCast v514_r0
  let c1_1117_r0 : Index := 1#32
  let c1280_1118_r0 : Index := 1280#32
  let c0_1119_r0 : Index := 0#32
  ![v2188_r0.toNat, 1, 1280, 0]
def k0_off210 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_449_r0 : BitVec 32 := 6#32
  let c0_i32_450_r0 : BitVec 32 := 0#32
  let v505_r0 : BitVec 1 := Scalar.cmpi .eq c6_i32_449_r0 c0_i32_450_r0
  let c1_i32_451_r0 : BitVec 32 := 1#32
  let v506_r0 : BitVec 32 := Scalar.select v505_r0 c1_i32_451_r0 c6_i32_449_r0
  let v507_r0 : BitVec 32 := Scalar.remsi v448_r0 v506_r0
  let c0_i32_453_r0 : BitVec 32 := 0#32
  let v509_r0 : BitVec 1 := Scalar.cmpi .slt v507_r0 c0_i32_453_r0
  let c0_i32_454_r0 : BitVec 32 := 0#32
  let v510_r0 : BitVec 1 := Scalar.cmpi .slt v506_r0 c0_i32_454_r0
  let v511_r0 : BitVec 1 := Scalar.xori v509_r0 v510_r0
  let c0_i32_452_r0 : BitVec 32 := 0#32
  let v508_r0 : BitVec 1 := Scalar.cmpi .ne v507_r0 c0_i32_452_r0
  let v512_r0 : BitVec 1 := Scalar.andi v511_r0 v508_r0
  let v513_r0 : BitVec 32 := Scalar.addi v507_r0 v506_r0
  let v514_r0 : BitVec 32 := Scalar.select v512_r0 v513_r0 v507_r0
  let v2228_r0 : Index := Scalar.indexCast v514_r0
  let c0_1133_r0 : Index := 0#32
  let c1280_1134_r0 : Index := 1280#32
  let c256_1135_r0 : Index := 256#32
  ![v2228_r0.toNat, 0, 1280, 256]
def k0_off211 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_449_r0 : BitVec 32 := 6#32
  let c0_i32_450_r0 : BitVec 32 := 0#32
  let v505_r0 : BitVec 1 := Scalar.cmpi .eq c6_i32_449_r0 c0_i32_450_r0
  let c1_i32_451_r0 : BitVec 32 := 1#32
  let v506_r0 : BitVec 32 := Scalar.select v505_r0 c1_i32_451_r0 c6_i32_449_r0
  let v507_r0 : BitVec 32 := Scalar.remsi v448_r0 v506_r0
  let c0_i32_453_r0 : BitVec 32 := 0#32
  let v509_r0 : BitVec 1 := Scalar.cmpi .slt v507_r0 c0_i32_453_r0
  let c0_i32_454_r0 : BitVec 32 := 0#32
  let v510_r0 : BitVec 1 := Scalar.cmpi .slt v506_r0 c0_i32_454_r0
  let v511_r0 : BitVec 1 := Scalar.xori v509_r0 v510_r0
  let c0_i32_452_r0 : BitVec 32 := 0#32
  let v508_r0 : BitVec 1 := Scalar.cmpi .ne v507_r0 c0_i32_452_r0
  let v512_r0 : BitVec 1 := Scalar.andi v511_r0 v508_r0
  let v513_r0 : BitVec 32 := Scalar.addi v507_r0 v506_r0
  let v514_r0 : BitVec 32 := Scalar.select v512_r0 v513_r0 v507_r0
  let v2268_r0 : Index := Scalar.indexCast v514_r0
  let c1_1149_r0 : Index := 1#32
  let c1280_1150_r0 : Index := 1280#32
  let c256_1151_r0 : Index := 256#32
  ![v2268_r0.toNat, 1, 1280, 256]
def k0_off212 (k0_t3 : Fin k0_t3_loop.trips) : Fin 3 → Nat :=
  let c0_i32_378_r0 : BitVec 32 := 0#32
  let c1_i32_380_r0 : BitVec 32 := 1#32
  let arg17_r0 : BitVec 32 := Scf.iv c0_i32_378_r0 c1_i32_380_r0 k0_t3
  let v2308_r0 : Index := Scalar.indexCast arg17_r0
  let c0_1165_r0 : Index := 0#32
  let c2816_r0 : Index := 2816#32
  ![v2308_r0.toNat, 0, 2816]
def k0_off213 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_449_r0 : BitVec 32 := 6#32
  let c0_i32_450_r0 : BitVec 32 := 0#32
  let v505_r0 : BitVec 1 := Scalar.cmpi .eq c6_i32_449_r0 c0_i32_450_r0
  let c1_i32_451_r0 : BitVec 32 := 1#32
  let v506_r0 : BitVec 32 := Scalar.select v505_r0 c1_i32_451_r0 c6_i32_449_r0
  let v507_r0 : BitVec 32 := Scalar.remsi v448_r0 v506_r0
  let c0_i32_453_r0 : BitVec 32 := 0#32
  let v509_r0 : BitVec 1 := Scalar.cmpi .slt v507_r0 c0_i32_453_r0
  let c0_i32_454_r0 : BitVec 32 := 0#32
  let v510_r0 : BitVec 1 := Scalar.cmpi .slt v506_r0 c0_i32_454_r0
  let v511_r0 : BitVec 1 := Scalar.xori v509_r0 v510_r0
  let c0_i32_452_r0 : BitVec 32 := 0#32
  let v508_r0 : BitVec 1 := Scalar.cmpi .ne v507_r0 c0_i32_452_r0
  let v512_r0 : BitVec 1 := Scalar.andi v511_r0 v508_r0
  let v513_r0 : BitVec 32 := Scalar.addi v507_r0 v506_r0
  let v514_r0 : BitVec 32 := Scalar.select v512_r0 v513_r0 v507_r0
  let v2311_r0 : Index := Scalar.indexCast v514_r0
  let c0_1166_r0 : Index := 0#32
  let c1408_r0 : Index := 1408#32
  let c0_1167_r0 : Index := 0#32
  ![v2311_r0.toNat, 0, 1408, 0]
def k0_off214 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_449_r0 : BitVec 32 := 6#32
  let c0_i32_450_r0 : BitVec 32 := 0#32
  let v505_r0 : BitVec 1 := Scalar.cmpi .eq c6_i32_449_r0 c0_i32_450_r0
  let c1_i32_451_r0 : BitVec 32 := 1#32
  let v506_r0 : BitVec 32 := Scalar.select v505_r0 c1_i32_451_r0 c6_i32_449_r0
  let v507_r0 : BitVec 32 := Scalar.remsi v448_r0 v506_r0
  let c0_i32_453_r0 : BitVec 32 := 0#32
  let v509_r0 : BitVec 1 := Scalar.cmpi .slt v507_r0 c0_i32_453_r0
  let c0_i32_454_r0 : BitVec 32 := 0#32
  let v510_r0 : BitVec 1 := Scalar.cmpi .slt v506_r0 c0_i32_454_r0
  let v511_r0 : BitVec 1 := Scalar.xori v509_r0 v510_r0
  let c0_i32_452_r0 : BitVec 32 := 0#32
  let v508_r0 : BitVec 1 := Scalar.cmpi .ne v507_r0 c0_i32_452_r0
  let v512_r0 : BitVec 1 := Scalar.andi v511_r0 v508_r0
  let v513_r0 : BitVec 32 := Scalar.addi v507_r0 v506_r0
  let v514_r0 : BitVec 32 := Scalar.select v512_r0 v513_r0 v507_r0
  let v2351_r0 : Index := Scalar.indexCast v514_r0
  let c1_1181_r0 : Index := 1#32
  let c1408_1182_r0 : Index := 1408#32
  let c0_1183_r0 : Index := 0#32
  ![v2351_r0.toNat, 1, 1408, 0]
def k0_off215 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_449_r0 : BitVec 32 := 6#32
  let c0_i32_450_r0 : BitVec 32 := 0#32
  let v505_r0 : BitVec 1 := Scalar.cmpi .eq c6_i32_449_r0 c0_i32_450_r0
  let c1_i32_451_r0 : BitVec 32 := 1#32
  let v506_r0 : BitVec 32 := Scalar.select v505_r0 c1_i32_451_r0 c6_i32_449_r0
  let v507_r0 : BitVec 32 := Scalar.remsi v448_r0 v506_r0
  let c0_i32_453_r0 : BitVec 32 := 0#32
  let v509_r0 : BitVec 1 := Scalar.cmpi .slt v507_r0 c0_i32_453_r0
  let c0_i32_454_r0 : BitVec 32 := 0#32
  let v510_r0 : BitVec 1 := Scalar.cmpi .slt v506_r0 c0_i32_454_r0
  let v511_r0 : BitVec 1 := Scalar.xori v509_r0 v510_r0
  let c0_i32_452_r0 : BitVec 32 := 0#32
  let v508_r0 : BitVec 1 := Scalar.cmpi .ne v507_r0 c0_i32_452_r0
  let v512_r0 : BitVec 1 := Scalar.andi v511_r0 v508_r0
  let v513_r0 : BitVec 32 := Scalar.addi v507_r0 v506_r0
  let v514_r0 : BitVec 32 := Scalar.select v512_r0 v513_r0 v507_r0
  let v2391_r0 : Index := Scalar.indexCast v514_r0
  let c0_1197_r0 : Index := 0#32
  let c1408_1198_r0 : Index := 1408#32
  let c256_1199_r0 : Index := 256#32
  ![v2391_r0.toNat, 0, 1408, 256]
def k0_off216 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_449_r0 : BitVec 32 := 6#32
  let c0_i32_450_r0 : BitVec 32 := 0#32
  let v505_r0 : BitVec 1 := Scalar.cmpi .eq c6_i32_449_r0 c0_i32_450_r0
  let c1_i32_451_r0 : BitVec 32 := 1#32
  let v506_r0 : BitVec 32 := Scalar.select v505_r0 c1_i32_451_r0 c6_i32_449_r0
  let v507_r0 : BitVec 32 := Scalar.remsi v448_r0 v506_r0
  let c0_i32_453_r0 : BitVec 32 := 0#32
  let v509_r0 : BitVec 1 := Scalar.cmpi .slt v507_r0 c0_i32_453_r0
  let c0_i32_454_r0 : BitVec 32 := 0#32
  let v510_r0 : BitVec 1 := Scalar.cmpi .slt v506_r0 c0_i32_454_r0
  let v511_r0 : BitVec 1 := Scalar.xori v509_r0 v510_r0
  let c0_i32_452_r0 : BitVec 32 := 0#32
  let v508_r0 : BitVec 1 := Scalar.cmpi .ne v507_r0 c0_i32_452_r0
  let v512_r0 : BitVec 1 := Scalar.andi v511_r0 v508_r0
  let v513_r0 : BitVec 32 := Scalar.addi v507_r0 v506_r0
  let v514_r0 : BitVec 32 := Scalar.select v512_r0 v513_r0 v507_r0
  let v2431_r0 : Index := Scalar.indexCast v514_r0
  let c1_1213_r0 : Index := 1#32
  let c1408_1214_r0 : Index := 1408#32
  let c256_1215_r0 : Index := 256#32
  ![v2431_r0.toNat, 1, 1408, 256]
def k0_cond4 (k0_t2 : Fin k0_t2_loop.trips) : BitVec 1 :=
  let c1_i32_269_r0 : BitVec 32 := 1#32
  let c1_i32_271_r0 : BitVec 32 := 1#32
  let arg16_r0 : BitVec 32 := Scf.iv c1_i32_269_r0 c1_i32_271_r0 k0_t2
  let c2_i32_382_r0 : BitVec 32 := 2#32
  let v378_r0 : BitVec 1 := Scalar.cmpi .sge arg16_r0 c2_i32_382_r0
  let v379_r0 : BitVec 32 := Scalar.extui v378_r0
  let c0_i32_383_r0 : BitVec 32 := 0#32
  let v380_r0 : BitVec 1 := Scalar.cmpi .ne v379_r0 c0_i32_383_r0
  v380_r0

def k0_off217 (k0_t2 : Fin k0_t2_loop.trips) : Fin 1 → Nat :=
  let c1_i32_269_r0 : BitVec 32 := 1#32
  let c1_i32_271_r0 : BitVec 32 := 1#32
  let arg16_r0 : BitVec 32 := Scf.iv c1_i32_269_r0 c1_i32_271_r0 k0_t2
  let c2_i32_416_r0 : BitVec 32 := 2#32
  let v447_r0 : BitVec 32 := Scalar.subi arg16_r0 c2_i32_416_r0
  let c2_i32_424_r0 : BitVec 32 := 2#32
  let c0_i32_425_r0 : BitVec 32 := 0#32
  let v459_r0 : BitVec 1 := Scalar.cmpi .eq c2_i32_424_r0 c0_i32_425_r0
  let c1_i32_426_r0 : BitVec 32 := 1#32
  let v460_r0 : BitVec 32 := Scalar.select v459_r0 c1_i32_426_r0 c2_i32_424_r0
  let v461_r0 : BitVec 32 := Scalar.remsi v447_r0 v460_r0
  let c0_i32_428_r0 : BitVec 32 := 0#32
  let v463_r0 : BitVec 1 := Scalar.cmpi .slt v461_r0 c0_i32_428_r0
  let c0_i32_429_r0 : BitVec 32 := 0#32
  let v464_r0 : BitVec 1 := Scalar.cmpi .slt v460_r0 c0_i32_429_r0
  let v465_r0 : BitVec 1 := Scalar.xori v463_r0 v464_r0
  let c0_i32_427_r0 : BitVec 32 := 0#32
  let v462_r0 : BitVec 1 := Scalar.cmpi .ne v461_r0 c0_i32_427_r0
  let v466_r0 : BitVec 1 := Scalar.andi v465_r0 v462_r0
  let v467_r0 : BitVec 32 := Scalar.addi v461_r0 v460_r0
  let v468_r0 : BitVec 32 := Scalar.select v466_r0 v467_r0 v461_r0
  ![v468_r0.toNat]
def k0_off218 (k0_t2 : Fin k0_t2_loop.trips) : Fin 2 → Nat :=
  let c0_i32_430_r0 : BitVec 32 := 0#32
  let c1_i32_269_r0 : BitVec 32 := 1#32
  let c1_i32_271_r0 : BitVec 32 := 1#32
  let arg16_r0 : BitVec 32 := Scf.iv c1_i32_269_r0 c1_i32_271_r0 k0_t2
  let c2_i32_416_r0 : BitVec 32 := 2#32
  let v447_r0 : BitVec 32 := Scalar.subi arg16_r0 c2_i32_416_r0
  let c512_i32_423_r0 : BitVec 32 := 512#32
  let v458_r0 : BitVec 32 := Scalar.muli v447_r0 c512_i32_423_r0
  ![0, v458_r0.toNat]
def k0_off219 (k0_t2 : Fin k0_t2_loop.trips) : Fin 3 → Nat :=
  let c1_i32_269_r0 : BitVec 32 := 1#32
  let c1_i32_271_r0 : BitVec 32 := 1#32
  let arg16_r0 : BitVec 32 := Scf.iv c1_i32_269_r0 c1_i32_271_r0 k0_t2
  let c2_i32_416_r0 : BitVec 32 := 2#32
  let v447_r0 : BitVec 32 := Scalar.subi arg16_r0 c2_i32_416_r0
  let c2_i32_417_r0 : BitVec 32 := 2#32
  let c0_i32_418_r0 : BitVec 32 := 0#32
  let v448_r0 : BitVec 1 := Scalar.cmpi .eq c2_i32_417_r0 c0_i32_418_r0
  let c1_i32_419_r0 : BitVec 32 := 1#32
  let v449_r0 : BitVec 32 := Scalar.select v448_r0 c1_i32_419_r0 c2_i32_417_r0
  let v450_r0 : BitVec 32 := Scalar.remsi v447_r0 v449_r0
  let c0_i32_421_r0 : BitVec 32 := 0#32
  let v452_r0 : BitVec 1 := Scalar.cmpi .slt v450_r0 c0_i32_421_r0
  let c0_i32_422_r0 : BitVec 32 := 0#32
  let v453_r0 : BitVec 1 := Scalar.cmpi .slt v449_r0 c0_i32_422_r0
  let v454_r0 : BitVec 1 := Scalar.xori v452_r0 v453_r0
  let c0_i32_420_r0 : BitVec 32 := 0#32
  let v451_r0 : BitVec 1 := Scalar.cmpi .ne v450_r0 c0_i32_420_r0
  let v455_r0 : BitVec 1 := Scalar.andi v454_r0 v451_r0
  let v456_r0 : BitVec 32 := Scalar.addi v450_r0 v449_r0
  let v457_r0 : BitVec 32 := Scalar.select v455_r0 v456_r0 v450_r0
  let c0_i32_431_r0 : BitVec 32 := 0#32
  let c0_i32_432_r0 : BitVec 32 := 0#32
  ![v457_r0.toNat, 0, 0]
def k0_off220 (k0_t2 : Fin k0_t2_loop.trips) : Fin 3 → Nat :=
  let c1_i32_269_r0 : BitVec 32 := 1#32
  let c1_i32_271_r0 : BitVec 32 := 1#32
  let arg16_r0 : BitVec 32 := Scf.iv c1_i32_269_r0 c1_i32_271_r0 k0_t2
  let c2_i32_384_r0 : BitVec 32 := 2#32
  let c0_i32_385_r0 : BitVec 32 := 0#32
  let v387_r0 : BitVec 1 := Scalar.cmpi .eq c2_i32_384_r0 c0_i32_385_r0
  let c1_i32_386_r0 : BitVec 32 := 1#32
  let v388_r0 : BitVec 32 := Scalar.select v387_r0 c1_i32_386_r0 c2_i32_384_r0
  let v389_r0 : BitVec 32 := Scalar.remsi arg16_r0 v388_r0
  let c0_i32_388_r0 : BitVec 32 := 0#32
  let v391_r0 : BitVec 1 := Scalar.cmpi .slt v389_r0 c0_i32_388_r0
  let c0_i32_389_r0 : BitVec 32 := 0#32
  let v392_r0 : BitVec 1 := Scalar.cmpi .slt v388_r0 c0_i32_389_r0
  let v393_r0 : BitVec 1 := Scalar.xori v391_r0 v392_r0
  let c0_i32_387_r0 : BitVec 32 := 0#32
  let v390_r0 : BitVec 1 := Scalar.cmpi .ne v389_r0 c0_i32_387_r0
  let v394_r0 : BitVec 1 := Scalar.andi v393_r0 v390_r0
  let v395_r0 : BitVec 32 := Scalar.addi v389_r0 v388_r0
  let v396_r0 : BitVec 32 := Scalar.select v394_r0 v395_r0 v389_r0
  let v397_r0 : Index := Scalar.indexCast v396_r0
  let c0_390_r0 : Index := 0#32
  let c0_391_r0 : Index := 0#32
  ![v397_r0.toNat, 0, 0]
def k0_off221 (k0_t2 : Fin k0_t2_loop.trips) : Fin 3 → Nat :=
  let c1_i32_269_r0 : BitVec 32 := 1#32
  let c1_i32_271_r0 : BitVec 32 := 1#32
  let arg16_r0 : BitVec 32 := Scf.iv c1_i32_269_r0 c1_i32_271_r0 k0_t2
  let c2_i32_392_r0 : BitVec 32 := 2#32
  let c0_i32_393_r0 : BitVec 32 := 0#32
  let v407_r0 : BitVec 1 := Scalar.cmpi .eq c2_i32_392_r0 c0_i32_393_r0
  let c1_i32_394_r0 : BitVec 32 := 1#32
  let v408_r0 : BitVec 32 := Scalar.select v407_r0 c1_i32_394_r0 c2_i32_392_r0
  let v409_r0 : BitVec 32 := Scalar.remsi arg16_r0 v408_r0
  let c0_i32_396_r0 : BitVec 32 := 0#32
  let v411_r0 : BitVec 1 := Scalar.cmpi .slt v409_r0 c0_i32_396_r0
  let c0_i32_397_r0 : BitVec 32 := 0#32
  let v412_r0 : BitVec 1 := Scalar.cmpi .slt v408_r0 c0_i32_397_r0
  let v413_r0 : BitVec 1 := Scalar.xori v411_r0 v412_r0
  let c0_i32_395_r0 : BitVec 32 := 0#32
  let v410_r0 : BitVec 1 := Scalar.cmpi .ne v409_r0 c0_i32_395_r0
  let v414_r0 : BitVec 1 := Scalar.andi v413_r0 v410_r0
  let v415_r0 : BitVec 32 := Scalar.addi v409_r0 v408_r0
  let v416_r0 : BitVec 32 := Scalar.select v414_r0 v415_r0 v409_r0
  let v417_r0 : Index := Scalar.indexCast v416_r0
  let c0_398_r0 : Index := 0#32
  let c256_399_r0 : Index := 256#32
  ![v417_r0.toNat, 0, 256]
def k0_off222 (k0_t2 : Fin k0_t2_loop.trips) : Fin 2 → Nat :=
  let c0_i32_413_r0 : BitVec 32 := 0#32
  let c1_i32_269_r0 : BitVec 32 := 1#32
  let c1_i32_271_r0 : BitVec 32 := 1#32
  let arg16_r0 : BitVec 32 := Scf.iv c1_i32_269_r0 c1_i32_271_r0 k0_t2
  let c512_i32_406_r0 : BitVec 32 := 512#32
  let v431_r0 : BitVec 32 := Scalar.muli arg16_r0 c512_i32_406_r0
  ![0, v431_r0.toNat]
def k0_off223 (k0_t2 : Fin k0_t2_loop.trips) : Fin 3 → Nat :=
  let c1_i32_269_r0 : BitVec 32 := 1#32
  let c1_i32_271_r0 : BitVec 32 := 1#32
  let arg16_r0 : BitVec 32 := Scf.iv c1_i32_269_r0 c1_i32_271_r0 k0_t2
  let c2_i32_400_r0 : BitVec 32 := 2#32
  let c0_i32_401_r0 : BitVec 32 := 0#32
  let v421_r0 : BitVec 1 := Scalar.cmpi .eq c2_i32_400_r0 c0_i32_401_r0
  let c1_i32_402_r0 : BitVec 32 := 1#32
  let v422_r0 : BitVec 32 := Scalar.select v421_r0 c1_i32_402_r0 c2_i32_400_r0
  let v423_r0 : BitVec 32 := Scalar.remsi arg16_r0 v422_r0
  let c0_i32_404_r0 : BitVec 32 := 0#32
  let v425_r0 : BitVec 1 := Scalar.cmpi .slt v423_r0 c0_i32_404_r0
  let c0_i32_405_r0 : BitVec 32 := 0#32
  let v426_r0 : BitVec 1 := Scalar.cmpi .slt v422_r0 c0_i32_405_r0
  let v427_r0 : BitVec 1 := Scalar.xori v425_r0 v426_r0
  let c0_i32_403_r0 : BitVec 32 := 0#32
  let v424_r0 : BitVec 1 := Scalar.cmpi .ne v423_r0 c0_i32_403_r0
  let v428_r0 : BitVec 1 := Scalar.andi v427_r0 v424_r0
  let v429_r0 : BitVec 32 := Scalar.addi v423_r0 v422_r0
  let v430_r0 : BitVec 32 := Scalar.select v428_r0 v429_r0 v423_r0
  let c0_i32_414_r0 : BitVec 32 := 0#32
  let c0_i32_415_r0 : BitVec 32 := 0#32
  ![v430_r0.toNat, 0, 0]
-- ==== KernelIdeal.lean ====
abbrev S128x1x27648 : Shape := ⟨3, ![128, 1, 27648]⟩
abbrev S13824x2560 : Shape := ⟨2, ![13824, 2560]⟩
abbrev S216x2560 : Shape := ⟨2, ![216, 2560]⟩
abbrev S128x27648 : Shape := ⟨2, ![128, 27648]⟩
abbrev S128x2560 : Shape := ⟨2, ![128, 2560]⟩
abbrev S2x9x128x1536 : Shape := ⟨4, ![2, 9, 128, 1536]⟩
abbrev S9x128x3072 : Shape := ⟨3, ![9, 128, 3072]⟩
abbrev S6x2x1536x512 : Shape := ⟨4, ![6, 2, 1536, 512]⟩
abbrev S2x2x216x512 : Shape := ⟨4, ![2, 2, 216, 512]⟩
abbrev S2x2x54x512 : Shape := ⟨4, ![2, 2, 54, 512]⟩
abbrev S2x2x54x2x512 : Shape := ⟨5, ![2, 2, 54, 2, 512]⟩
abbrev S2x2x54x1x512 : Shape := ⟨5, ![2, 2, 54, 1, 512]⟩
abbrev S2x128x512 : Shape := ⟨3, ![2, 128, 512]⟩
abbrev S9 : Shape := ⟨1, ![9]⟩
abbrev S6 : Shape := ⟨1, ![6]⟩
abbrev S2 : Shape := ⟨1, ![2]⟩
abbrev S1 : Shape := ⟨1, ![1]⟩
abbrev S_ : Shape := ⟨0, ![]⟩
abbrev S1x1x216x512 : Shape := ⟨4, ![1, 1, 216, 512]⟩
abbrev S216x512 : Shape := ⟨2, ![216, 512]⟩
abbrev S1x1x128x1536 : Shape := ⟨4, ![1, 1, 128, 1536]⟩
abbrev S128x1536 : Shape := ⟨2, ![128, 1536]⟩
abbrev S1x1x1536x512 : Shape := ⟨4, ![1, 1, 1536, 512]⟩
abbrev S1536x512 : Shape := ⟨2, ![1536, 512]⟩
abbrev S108x512 : Shape := ⟨2, ![108, 512]⟩
abbrev S54x512 : Shape := ⟨2, ![54, 512]⟩
abbrev S1x1x108x512 : Shape := ⟨4, ![1, 1, 108, 512]⟩
abbrev S1x1x54x512 : Shape := ⟨4, ![1, 1, 54, 512]⟩
abbrev S1x1x54x2x512 : Shape := ⟨5, ![1, 1, 54, 2, 512]⟩
abbrev S1x1x54x1x512 : Shape := ⟨5, ![1, 1, 54, 1, 512]⟩
abbrev S128x128 : Shape := ⟨2, ![128, 128]⟩
abbrev S1x1x128x128 : Shape := ⟨4, ![1, 1, 128, 128]⟩
abbrev S128x128x1 : Shape := ⟨3, ![128, 128, 1]⟩
abbrev S1x128x128 : Shape := ⟨3, ![1, 128, 128]⟩
abbrev S1x128x256 : Shape := ⟨3, ![1, 128, 256]⟩
abbrev S128x256 : Shape := ⟨2, ![128, 256]⟩
abbrev S1x1x128x256 : Shape := ⟨4, ![1, 1, 128, 256]⟩
abbrev S32x256 : Shape := ⟨2, ![32, 256]⟩
abbrev S256x256 : Shape := ⟨2, ![256, 256]⟩
abbrev S1x1x1x256 : Shape := ⟨4, ![1, 1, 1, 256]⟩
abbrev S1x1x1x2x256 : Shape := ⟨5, ![1, 1, 1, 2, 256]⟩
abbrev S1x1x1x1x256 : Shape := ⟨5, ![1, 1, 1, 1, 256]⟩
abbrev S1x256 : Shape := ⟨2, ![1, 256]⟩
abbrev S2x256 : Shape := ⟨2, ![2, 256]⟩
abbrev S128x512 : Shape := ⟨2, ![128, 512]⟩
abbrev S1x128x512 : Shape := ⟨3, ![1, 128, 512]⟩

abbrev nBuf : Space → Nat
  | .hbm => 7
  | .vmem => 6
  | .smem => 0
  | _ => 0

abbrev bufTy : (tb : Table) → Fin (tcTables nBuf tb) → BufTy
  | .hbm, ⟨0, _⟩ => ⟨S128x1x27648, .bf16⟩
  | .hbm, ⟨1, _⟩ => ⟨S13824x2560, .i8⟩
  | .hbm, ⟨2, _⟩ => ⟨S216x2560, .bf16⟩
  | .hbm, ⟨3, _⟩ => ⟨S13824x2560, .i8⟩
  | .hbm, ⟨4, _⟩ => ⟨S216x2560, .bf16⟩
  | .hbm, ⟨5, _⟩ => ⟨S128x27648, .bf16⟩
  | .hbm, ⟨6, _⟩ => ⟨S128x2560, .bf16⟩
  | .local _ .vmem, ⟨0, _⟩ => ⟨S2x9x128x1536, .bf16⟩
  | .local _ .vmem, ⟨1, _⟩ => ⟨S9x128x3072, .bf16⟩
  | .local _ .vmem, ⟨2, _⟩ => ⟨S6x2x1536x512, .i8⟩
  | .local _ .vmem, ⟨3, _⟩ => ⟨S2x2x216x512, .bf16⟩
  | .local _ .vmem, ⟨4, _⟩ => ⟨S2x2x54x2x512, .bf16⟩
  | .local _ .vmem, ⟨5, _⟩ => ⟨S2x128x512, .bf16⟩
  | _, _ => ⟨S128x1x27648, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩

abbrev nD : Nat := 1
abbrev τ : Topo := Topo.v7x

variable {F : FTy → Type} [FloatOps F]

abbrev grid0 : Pipeline.Grid := .none

@[reducible] def k0_t1_loop : Scf.Loop 32 :=
  let c0_i32_254_r0 : BitVec 32 := 0#32
  let c9_i32_r0 : BitVec 32 := 9#32
  let v218_r0 : BitVec 32 := Scalar.addi c0_i32_254_r0 c9_i32_r0
  let c1_i32_255_r0 : BitVec 32 := 1#32
  ⟨c0_i32_254_r0, v218_r0, c1_i32_255_r0⟩
def k0_off1 (k0_t1 : Fin k0_t1_loop.trips) : Fin 1 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_298_r0 : BitVec 32 := 6#32
  let c0_i32_299_r0 : BitVec 32 := 0#32
  let v281_r0 : BitVec 1 := Scalar.cmpi .eq c6_i32_298_r0 c0_i32_299_r0
  let c1_i32_300_r0 : BitVec 32 := 1#32
  let v282_r0 : BitVec 32 := Scalar.select v281_r0 c1_i32_300_r0 c6_i32_298_r0
  let v283_r0 : BitVec 32 := Scalar.remsi v253_r0 v282_r0
  let c0_i32_302_r0 : BitVec 32 := 0#32
  let v285_r0 : BitVec 1 := Scalar.cmpi .slt v283_r0 c0_i32_302_r0
  let c0_i32_303_r0 : BitVec 32 := 0#32
  let v286_r0 : BitVec 1 := Scalar.cmpi .slt v282_r0 c0_i32_303_r0
  let v287_r0 : BitVec 1 := Scalar.xori v285_r0 v286_r0
  let c0_i32_301_r0 : BitVec 32 := 0#32
  let v284_r0 : BitVec 1 := Scalar.cmpi .ne v283_r0 c0_i32_301_r0
  let v288_r0 : BitVec 1 := Scalar.andi v287_r0 v284_r0
  let v289_r0 : BitVec 32 := Scalar.addi v283_r0 v282_r0
  let v290_r0 : BitVec 32 := Scalar.select v288_r0 v289_r0 v283_r0
  ![v290_r0.toNat]
def k0_off2 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_298_r0 : BitVec 32 := 6#32
  let c0_i32_299_r0 : BitVec 32 := 0#32
  let v281_r0 : BitVec 1 := Scalar.cmpi .eq c6_i32_298_r0 c0_i32_299_r0
  let c1_i32_300_r0 : BitVec 32 := 1#32
  let v282_r0 : BitVec 32 := Scalar.select v281_r0 c1_i32_300_r0 c6_i32_298_r0
  let v283_r0 : BitVec 32 := Scalar.remsi v253_r0 v282_r0
  let c0_i32_302_r0 : BitVec 32 := 0#32
  let v285_r0 : BitVec 1 := Scalar.cmpi .slt v283_r0 c0_i32_302_r0
  let c0_i32_303_r0 : BitVec 32 := 0#32
  let v286_r0 : BitVec 1 := Scalar.cmpi .slt v282_r0 c0_i32_303_r0
  let v287_r0 : BitVec 1 := Scalar.xori v285_r0 v286_r0
  let c0_i32_301_r0 : BitVec 32 := 0#32
  let v284_r0 : BitVec 1 := Scalar.cmpi .ne v283_r0 c0_i32_301_r0
  let v288_r0 : BitVec 1 := Scalar.andi v287_r0 v284_r0
  let v289_r0 : BitVec 32 := Scalar.addi v283_r0 v282_r0
  let v290_r0 : BitVec 32 := Scalar.select v288_r0 v289_r0 v283_r0
  let c0_i32_308_r0 : BitVec 32 := 0#32
  let c0_i32_309_r0 : BitVec 32 := 0#32
  let c0_i32_310_r0 : BitVec 32 := 0#32
  ![v290_r0.toNat, 0, 0, 0]
def k0_off3 (k0_t1 : Fin k0_t1_loop.trips) : Fin 2 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c9_i32_292_r0 : BitVec 32 := 9#32
  let c0_i32_293_r0 : BitVec 32 := 0#32
  let v271_r0 : BitVec 1 := Scalar.cmpi .eq c9_i32_292_r0 c0_i32_293_r0
  let c1_i32_294_r0 : BitVec 32 := 1#32
  let v272_r0 : BitVec 32 := Scalar.select v271_r0 c1_i32_294_r0 c9_i32_292_r0
  let v273_r0 : BitVec 32 := Scalar.remsi v253_r0 v272_r0
  let c0_i32_296_r0 : BitVec 32 := 0#32
  let v275_r0 : BitVec 1 := Scalar.cmpi .slt v273_r0 c0_i32_296_r0
  let c0_i32_297_r0 : BitVec 32 := 0#32
  let v276_r0 : BitVec 1 := Scalar.cmpi .slt v272_r0 c0_i32_297_r0
  let v277_r0 : BitVec 1 := Scalar.xori v275_r0 v276_r0
  let c0_i32_295_r0 : BitVec 32 := 0#32
  let v274_r0 : BitVec 1 := Scalar.cmpi .ne v273_r0 c0_i32_295_r0
  let v278_r0 : BitVec 1 := Scalar.andi v277_r0 v274_r0
  let v279_r0 : BitVec 32 := Scalar.addi v273_r0 v272_r0
  let v280_r0 : BitVec 32 := Scalar.select v278_r0 v279_r0 v273_r0
  let c1536_i32_304_r0 : BitVec 32 := 1536#32
  let v291_r0 : BitVec 32 := Scalar.muli v280_r0 c1536_i32_304_r0
  let c0_i32_286_r0 : BitVec 32 := 0#32
  let v255_r0 : BitVec 1 := Scalar.cmpi .sgt v253_r0 c0_i32_286_r0
  let v256_r0 : BitVec 32 := Scalar.extui v255_r0
  let c0_i32_287_r0 : BitVec 32 := 0#32
  let v257_r0 : BitVec 1 := Scalar.cmpi .slt v253_r0 c0_i32_287_r0
  let v258_r0 : BitVec 32 := Scalar.extui v257_r0
  let v259_r0 : BitVec 32 := Scalar.subi v256_r0 v258_r0
  let c9_i32_285_r0 : BitVec 32 := 9#32
  let c0_i32_288_r0 : BitVec 32 := 0#32
  let v260_r0 : BitVec 1 := Scalar.cmpi .sgt c9_i32_285_r0 c0_i32_288_r0
  let v261_r0 : BitVec 32 := Scalar.extui v260_r0
  let c0_i32_289_r0 : BitVec 32 := 0#32
  let v262_r0 : BitVec 1 := Scalar.cmpi .slt c9_i32_285_r0 c0_i32_289_r0
  let v263_r0 : BitVec 32 := Scalar.extui v262_r0
  let v264_r0 : BitVec 32 := Scalar.subi v261_r0 v263_r0
  let v265_r0 : BitVec 1 := Scalar.cmpi .ne v259_r0 v264_r0
  let v266_r0 : BitVec 32 := Scalar.remsi v253_r0 c9_i32_285_r0
  let c0_i32_290_r0 : BitVec 32 := 0#32
  let v267_r0 : BitVec 1 := Scalar.cmpi .ne v266_r0 c0_i32_290_r0
  let v268_r0 : BitVec 1 := Scalar.andi v265_r0 v267_r0
  let v254_r0 : BitVec 32 := Scalar.divsi v253_r0 c9_i32_285_r0
  let c1_i32_291_r0 : BitVec 32 := 1#32
  let v269_r0 : BitVec 32 := Scalar.subi v254_r0 c1_i32_291_r0
  let v270_r0 : BitVec 32 := Scalar.select v268_r0 v269_r0 v254_r0
  let c512_i32_305_r0 : BitVec 32 := 512#32
  let v292_r0 : BitVec 32 := Scalar.muli v270_r0 c512_i32_305_r0
  ![v291_r0.toNat, v292_r0.toNat]
def k0_off4 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_298_r0 : BitVec 32 := 6#32
  let c0_i32_299_r0 : BitVec 32 := 0#32
  let v281_r0 : BitVec 1 := Scalar.cmpi .eq c6_i32_298_r0 c0_i32_299_r0
  let c1_i32_300_r0 : BitVec 32 := 1#32
  let v282_r0 : BitVec 32 := Scalar.select v281_r0 c1_i32_300_r0 c6_i32_298_r0
  let v283_r0 : BitVec 32 := Scalar.remsi v253_r0 v282_r0
  let c0_i32_302_r0 : BitVec 32 := 0#32
  let v285_r0 : BitVec 1 := Scalar.cmpi .slt v283_r0 c0_i32_302_r0
  let c0_i32_303_r0 : BitVec 32 := 0#32
  let v286_r0 : BitVec 1 := Scalar.cmpi .slt v282_r0 c0_i32_303_r0
  let v287_r0 : BitVec 1 := Scalar.xori v285_r0 v286_r0
  let c0_i32_301_r0 : BitVec 32 := 0#32
  let v284_r0 : BitVec 1 := Scalar.cmpi .ne v283_r0 c0_i32_301_r0
  let v288_r0 : BitVec 1 := Scalar.andi v287_r0 v284_r0
  let v289_r0 : BitVec 32 := Scalar.addi v283_r0 v282_r0
  let v290_r0 : BitVec 32 := Scalar.select v288_r0 v289_r0 v283_r0
  let c1_i32_311_r0 : BitVec 32 := 1#32
  let c0_i32_312_r0 : BitVec 32 := 0#32
  let c0_i32_313_r0 : BitVec 32 := 0#32
  ![v290_r0.toNat, 1, 0, 0]
def k0_cond1 (k0_t1 : Fin k0_t1_loop.trips) : BitVec 1 :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_314_r0 : BitVec 32 := 6#32
  let v305_r0 : BitVec 32 := Scalar.addi v253_r0 c6_i32_314_r0
  let c1_i32_315_r0 : BitVec 32 := 1#32
  let v306_r0 : BitVec 32 := Scalar.subi v305_r0 c1_i32_315_r0
  let c45_i32_r0 : BitVec 32 := 45#32
  let v307_r0 : BitVec 1 := Scalar.cmpi .slt v306_r0 c45_i32_r0
  let v308_r0 : BitVec 32 := Scalar.extui v307_r0
  let c0_i32_316_r0 : BitVec 32 := 0#32
  let v309_r0 : BitVec 1 := Scalar.cmpi .ne v308_r0 c0_i32_316_r0
  v309_r0

def k0_off5 (k0_t1 : Fin k0_t1_loop.trips) : Fin 1 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_1367_r0 : BitVec 32 := 6#32
  let v3015_r0 : BitVec 32 := Scalar.addi v253_r0 c6_i32_1367_r0
  let c1_i32_1368_r0 : BitVec 32 := 1#32
  let v3016_r0 : BitVec 32 := Scalar.subi v3015_r0 c1_i32_1368_r0
  let c6_i32_1382_r0 : BitVec 32 := 6#32
  let c0_i32_1383_r0 : BitVec 32 := 0#32
  let v3044_r0 : BitVec 1 := Scalar.cmpi .eq c6_i32_1382_r0 c0_i32_1383_r0
  let c1_i32_1384_r0 : BitVec 32 := 1#32
  let v3045_r0 : BitVec 32 := Scalar.select v3044_r0 c1_i32_1384_r0 c6_i32_1382_r0
  let v3046_r0 : BitVec 32 := Scalar.remsi v3016_r0 v3045_r0
  let c0_i32_1386_r0 : BitVec 32 := 0#32
  let v3048_r0 : BitVec 1 := Scalar.cmpi .slt v3046_r0 c0_i32_1386_r0
  let c0_i32_1387_r0 : BitVec 32 := 0#32
  let v3049_r0 : BitVec 1 := Scalar.cmpi .slt v3045_r0 c0_i32_1387_r0
  let v3050_r0 : BitVec 1 := Scalar.xori v3048_r0 v3049_r0
  let c0_i32_1385_r0 : BitVec 32 := 0#32
  let v3047_r0 : BitVec 1 := Scalar.cmpi .ne v3046_r0 c0_i32_1385_r0
  let v3051_r0 : BitVec 1 := Scalar.andi v3050_r0 v3047_r0
  let v3052_r0 : BitVec 32 := Scalar.addi v3046_r0 v3045_r0
  let v3053_r0 : BitVec 32 := Scalar.select v3051_r0 v3052_r0 v3046_r0
  ![v3053_r0.toNat]
def k0_off6 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_1367_r0 : BitVec 32 := 6#32
  let v3015_r0 : BitVec 32 := Scalar.addi v253_r0 c6_i32_1367_r0
  let c1_i32_1368_r0 : BitVec 32 := 1#32
  let v3016_r0 : BitVec 32 := Scalar.subi v3015_r0 c1_i32_1368_r0
  let c6_i32_1382_r0 : BitVec 32 := 6#32
  let c0_i32_1383_r0 : BitVec 32 := 0#32
  let v3044_r0 : BitVec 1 := Scalar.cmpi .eq c6_i32_1382_r0 c0_i32_1383_r0
  let c1_i32_1384_r0 : BitVec 32 := 1#32
  let v3045_r0 : BitVec 32 := Scalar.select v3044_r0 c1_i32_1384_r0 c6_i32_1382_r0
  let v3046_r0 : BitVec 32 := Scalar.remsi v3016_r0 v3045_r0
  let c0_i32_1386_r0 : BitVec 32 := 0#32
  let v3048_r0 : BitVec 1 := Scalar.cmpi .slt v3046_r0 c0_i32_1386_r0
  let c0_i32_1387_r0 : BitVec 32 := 0#32
  let v3049_r0 : BitVec 1 := Scalar.cmpi .slt v3045_r0 c0_i32_1387_r0
  let v3050_r0 : BitVec 1 := Scalar.xori v3048_r0 v3049_r0
  let c0_i32_1385_r0 : BitVec 32 := 0#32
  let v3047_r0 : BitVec 1 := Scalar.cmpi .ne v3046_r0 c0_i32_1385_r0
  let v3051_r0 : BitVec 1 := Scalar.andi v3050_r0 v3047_r0
  let v3052_r0 : BitVec 32 := Scalar.addi v3046_r0 v3045_r0
  let v3053_r0 : BitVec 32 := Scalar.select v3051_r0 v3052_r0 v3046_r0
  let c0_i32_1392_r0 : BitVec 32 := 0#32
  let c0_i32_1393_r0 : BitVec 32 := 0#32
  let c0_i32_1394_r0 : BitVec 32 := 0#32
  ![v3053_r0.toNat, 0, 0, 0]
def k0_off7 (k0_t1 : Fin k0_t1_loop.trips) : Fin 2 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_1367_r0 : BitVec 32 := 6#32
  let v3015_r0 : BitVec 32 := Scalar.addi v253_r0 c6_i32_1367_r0
  let c1_i32_1368_r0 : BitVec 32 := 1#32
  let v3016_r0 : BitVec 32 := Scalar.subi v3015_r0 c1_i32_1368_r0
  let c9_i32_1376_r0 : BitVec 32 := 9#32
  let c0_i32_1377_r0 : BitVec 32 := 0#32
  let v3034_r0 : BitVec 1 := Scalar.cmpi .eq c9_i32_1376_r0 c0_i32_1377_r0
  let c1_i32_1378_r0 : BitVec 32 := 1#32
  let v3035_r0 : BitVec 32 := Scalar.select v3034_r0 c1_i32_1378_r0 c9_i32_1376_r0
  let v3036_r0 : BitVec 32 := Scalar.remsi v3016_r0 v3035_r0
  let c0_i32_1380_r0 : BitVec 32 := 0#32
  let v3038_r0 : BitVec 1 := Scalar.cmpi .slt v3036_r0 c0_i32_1380_r0
  let c0_i32_1381_r0 : BitVec 32 := 0#32
  let v3039_r0 : BitVec 1 := Scalar.cmpi .slt v3035_r0 c0_i32_1381_r0
  let v3040_r0 : BitVec 1 := Scalar.xori v3038_r0 v3039_r0
  let c0_i32_1379_r0 : BitVec 32 := 0#32
  let v3037_r0 : BitVec 1 := Scalar.cmpi .ne v3036_r0 c0_i32_1379_r0
  let v3041_r0 : BitVec 1 := Scalar.andi v3040_r0 v3037_r0
  let v3042_r0 : BitVec 32 := Scalar.addi v3036_r0 v3035_r0
  let v3043_r0 : BitVec 32 := Scalar.select v3041_r0 v3042_r0 v3036_r0
  let c1536_i32_1388_r0 : BitVec 32 := 1536#32
  let v3054_r0 : BitVec 32 := Scalar.muli v3043_r0 c1536_i32_1388_r0
  let c0_i32_1370_r0 : BitVec 32 := 0#32
  let v3018_r0 : BitVec 1 := Scalar.cmpi .sgt v3016_r0 c0_i32_1370_r0
  let v3019_r0 : BitVec 32 := Scalar.extui v3018_r0
  let c0_i32_1371_r0 : BitVec 32 := 0#32
  let v3020_r0 : BitVec 1 := Scalar.cmpi .slt v3016_r0 c0_i32_1371_r0
  let v3021_r0 : BitVec 32 := Scalar.extui v3020_r0
  let v3022_r0 : BitVec 32 := Scalar.subi v3019_r0 v3021_r0
  let c9_i32_1369_r0 : BitVec 32 := 9#32
  let c0_i32_1372_r0 : BitVec 32 := 0#32
  let v3023_r0 : BitVec 1 := Scalar.cmpi .sgt c9_i32_1369_r0 c0_i32_1372_r0
  let v3024_r0 : BitVec 32 := Scalar.extui v3023_r0
  let c0_i32_1373_r0 : BitVec 32 := 0#32
  let v3025_r0 : BitVec 1 := Scalar.cmpi .slt c9_i32_1369_r0 c0_i32_1373_r0
  let v3026_r0 : BitVec 32 := Scalar.extui v3025_r0
  let v3027_r0 : BitVec 32 := Scalar.subi v3024_r0 v3026_r0
  let v3028_r0 : BitVec 1 := Scalar.cmpi .ne v3022_r0 v3027_r0
  let v3029_r0 : BitVec 32 := Scalar.remsi v3016_r0 c9_i32_1369_r0
  let c0_i32_1374_r0 : BitVec 32 := 0#32
  let v3030_r0 : BitVec 1 := Scalar.cmpi .ne v3029_r0 c0_i32_1374_r0
  let v3031_r0 : BitVec 1 := Scalar.andi v3028_r0 v3030_r0
  let v3017_r0 : BitVec 32 := Scalar.divsi v3016_r0 c9_i32_1369_r0
  let c1_i32_1375_r0 : BitVec 32 := 1#32
  let v3032_r0 : BitVec 32 := Scalar.subi v3017_r0 c1_i32_1375_r0
  let v3033_r0 : BitVec 32 := Scalar.select v3031_r0 v3032_r0 v3017_r0
  let c512_i32_1389_r0 : BitVec 32 := 512#32
  let v3055_r0 : BitVec 32 := Scalar.muli v3033_r0 c512_i32_1389_r0
  ![v3054_r0.toNat, v3055_r0.toNat]
def k0_off8 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_1367_r0 : BitVec 32 := 6#32
  let v3015_r0 : BitVec 32 := Scalar.addi v253_r0 c6_i32_1367_r0
  let c1_i32_1368_r0 : BitVec 32 := 1#32
  let v3016_r0 : BitVec 32 := Scalar.subi v3015_r0 c1_i32_1368_r0
  let c6_i32_1382_r0 : BitVec 32 := 6#32
  let c0_i32_1383_r0 : BitVec 32 := 0#32
  let v3044_r0 : BitVec 1 := Scalar.cmpi .eq c6_i32_1382_r0 c0_i32_1383_r0
  let c1_i32_1384_r0 : BitVec 32 := 1#32
  let v3045_r0 : BitVec 32 := Scalar.select v3044_r0 c1_i32_1384_r0 c6_i32_1382_r0
  let v3046_r0 : BitVec 32 := Scalar.remsi v3016_r0 v3045_r0
  let c0_i32_1386_r0 : BitVec 32 := 0#32
  let v3048_r0 : BitVec 1 := Scalar.cmpi .slt v3046_r0 c0_i32_1386_r0
  let c0_i32_1387_r0 : BitVec 32 := 0#32
  let v3049_r0 : BitVec 1 := Scalar.cmpi .slt v3045_r0 c0_i32_1387_r0
  let v3050_r0 : BitVec 1 := Scalar.xori v3048_r0 v3049_r0
  let c0_i32_1385_r0 : BitVec 32 := 0#32
  let v3047_r0 : BitVec 1 := Scalar.cmpi .ne v3046_r0 c0_i32_1385_r0
  let v3051_r0 : BitVec 1 := Scalar.andi v3050_r0 v3047_r0
  let v3052_r0 : BitVec 32 := Scalar.addi v3046_r0 v3045_r0
  let v3053_r0 : BitVec 32 := Scalar.select v3051_r0 v3052_r0 v3046_r0
  let c1_i32_1395_r0 : BitVec 32 := 1#32
  let c0_i32_1396_r0 : BitVec 32 := 0#32
  let c0_i32_1397_r0 : BitVec 32 := 0#32
  ![v3053_r0.toNat, 1, 0, 0]
def k0_off9 (k0_t1 : Fin k0_t1_loop.trips) : Fin 1 → Nat :=
  let c0_i32_254_r0 : BitVec 32 := 0#32
  let c1_i32_255_r0 : BitVec 32 := 1#32
  let arg16_r0 : BitVec 32 := Scf.iv c0_i32_254_r0 c1_i32_255_r0 k0_t1
  ![arg16_r0.toNat]
def k0_off10 (k0_t1 : Fin k0_t1_loop.trips) : Fin 4 → Nat :=
  let c0_i32_321_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let c0_i32_322_r0 : BitVec 32 := 0#32
  let c0_i32_323_r0 : BitVec 32 := 0#32
  ![0, arg16_r0.toNat, 0, 0]
def k0_off11 (k0_t1 : Fin k0_t1_loop.trips) (c0_i32_318_r0 : BitVec 32) : Fin 2 → Nat :=
  let c0_i32_324_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let c1536_i32_317_r0 : BitVec 32 := 1536#32
  let v310_r0 : BitVec 32 := Scalar.muli arg16_r0 c1536_i32_317_r0
  let v311_r0 : BitVec 32 := Scalar.addi c0_i32_318_r0 v310_r0
  ![0, v311_r0.toNat]
def k0_off12 (k0_t1 : Fin k0_t1_loop.trips) : Fin 4 → Nat :=
  let c1_i32_325_r0 : BitVec 32 := 1#32
  let c0_i32_254_r0 : BitVec 32 := 0#32
  let c1_i32_255_r0 : BitVec 32 := 1#32
  let arg16_r0 : BitVec 32 := Scf.iv c0_i32_254_r0 c1_i32_255_r0 k0_t1
  let c0_i32_326_r0 : BitVec 32 := 0#32
  let c0_i32_327_r0 : BitVec 32 := 0#32
  ![1, arg16_r0.toNat, 0, 0]
def k0_off13 (k0_t1 : Fin k0_t1_loop.trips) : Fin 4 → Nat :=
  let c0_331_r0 : Index := 0#32
  let c0_i32_254_r0 : BitVec 32 := 0#32
  let c1_i32_255_r0 : BitVec 32 := 1#32
  let arg16_r0 : BitVec 32 := Scf.iv c0_i32_254_r0 c1_i32_255_r0 k0_t1
  let v329_r0 : Index := Scalar.indexCast arg16_r0
  let c0_332_r0 : Index := 0#32
  let c0_333_r0 : Index := 0#32
  ![0, v329_r0.toNat, 0, 0]
def k0_off14 (k0_t1 : Fin k0_t1_loop.trips) : Fin 4 → Nat :=
  let c1_334_r0 : Index := 1#32
  let c0_i32_254_r0 : BitVec 32 := 0#32
  let c1_i32_255_r0 : BitVec 32 := 1#32
  let arg16_r0 : BitVec 32 := Scf.iv c0_i32_254_r0 c1_i32_255_r0 k0_t1
  let v333_r0 : Index := Scalar.indexCast arg16_r0
  let c0_335_r0 : Index := 0#32
  let c0_336_r0 : Index := 0#32
  ![1, v333_r0.toNat, 0, 0]
def k0_off15 (k0_t1 : Fin k0_t1_loop.trips) : Fin 3 → Nat :=
  let c0_i32_254_r0 : BitVec 32 := 0#32
  let c1_i32_255_r0 : BitVec 32 := 1#32
  let arg16_r0 : BitVec 32 := Scf.iv c0_i32_254_r0 c1_i32_255_r0 k0_t1
  let v359_r0 : Index := Scalar.indexCast arg16_r0
  let c0_342_r0 : Index := 0#32
  let c0_343_r0 : Index := 0#32
  ![v359_r0.toNat, 0, 0]
def k0_off16 (k0_t1 : Fin k0_t1_loop.trips) : Fin 3 → Nat :=
  let c0_i32_254_r0 : BitVec 32 := 0#32
  let c1_i32_255_r0 : BitVec 32 := 1#32
  let arg16_r0 : BitVec 32 := Scf.iv c0_i32_254_r0 c1_i32_255_r0 k0_t1
  let v385_r0 : Index := Scalar.indexCast arg16_r0
  let c0_349_r0 : Index := 0#32
  let c128_r0 : Index := 128#32
  ![v385_r0.toNat, 0, 128]
def k0_off17 (k0_t1 : Fin k0_t1_loop.trips) : Fin 4 → Nat :=
  let c0_350_r0 : Index := 0#32
  let c0_i32_254_r0 : BitVec 32 := 0#32
  let c1_i32_255_r0 : BitVec 32 := 1#32
  let arg16_r0 : BitVec 32 := Scf.iv c0_i32_254_r0 c1_i32_255_r0 k0_t1
  let v389_r0 : Index := Scalar.indexCast arg16_r0
  let c0_351_r0 : Index := 0#32
  let c128_352_r0 : Index := 128#32
  ![0, v389_r0.toNat, 0, 128]
def k0_off18 (k0_t1 : Fin k0_t1_loop.trips) : Fin 4 → Nat :=
  let c1_353_r0 : Index := 1#32
  let c0_i32_254_r0 : BitVec 32 := 0#32
  let c1_i32_255_r0 : BitVec 32 := 1#32
  let arg16_r0 : BitVec 32 := Scf.iv c0_i32_254_r0 c1_i32_255_r0 k0_t1
  let v393_r0 : Index := Scalar.indexCast arg16_r0
  let c0_354_r0 : Index := 0#32
  let c128_355_r0 : Index := 128#32
  ![1, v393_r0.toNat, 0, 128]
def k0_off19 (k0_t1 : Fin k0_t1_loop.trips) : Fin 3 → Nat :=
  let c0_i32_254_r0 : BitVec 32 := 0#32
  let c1_i32_255_r0 : BitVec 32 := 1#32
  let arg16_r0 : BitVec 32 := Scf.iv c0_i32_254_r0 c1_i32_255_r0 k0_t1
  let v419_r0 : Index := Scalar.indexCast arg16_r0
  let c0_362_r0 : Index := 0#32
  let c256_363_r0 : Index := 256#32
  ![v419_r0.toNat, 0, 256]
def k0_off20 (k0_t1 : Fin k0_t1_loop.trips) : Fin 3 → Nat :=
  let c0_i32_254_r0 : BitVec 32 := 0#32
  let c1_i32_255_r0 : BitVec 32 := 1#32
  let arg16_r0 : BitVec 32 := Scf.iv c0_i32_254_r0 c1_i32_255_r0 k0_t1
  let v445_r0 : Index := Scalar.indexCast arg16_r0
  let c0_370_r0 : Index := 0#32
  let c384_r0 : Index := 384#32
  ![v445_r0.toNat, 0, 384]
def k0_off21 (k0_t1 : Fin k0_t1_loop.trips) : Fin 4 → Nat :=
  let c0_371_r0 : Index := 0#32
  let c0_i32_254_r0 : BitVec 32 := 0#32
  let c1_i32_255_r0 : BitVec 32 := 1#32
  let arg16_r0 : BitVec 32 := Scf.iv c0_i32_254_r0 c1_i32_255_r0 k0_t1
  let v449_r0 : Index := Scalar.indexCast arg16_r0
  let c0_372_r0 : Index := 0#32
  let c256_373_r0 : Index := 256#32
  ![0, v449_r0.toNat, 0, 256]
def k0_off22 (k0_t1 : Fin k0_t1_loop.trips) : Fin 4 → Nat :=
  let c1_374_r0 : Index := 1#32
  let c0_i32_254_r0 : BitVec 32 := 0#32
  let c1_i32_255_r0 : BitVec 32 := 1#32
  let arg16_r0 : BitVec 32 := Scf.iv c0_i32_254_r0 c1_i32_255_r0 k0_t1
  let v453_r0 : Index := Scalar.indexCast arg16_r0
  let c0_375_r0 : Index := 0#32
  let c256_376_r0 : Index := 256#32
  ![1, v453_r0.toNat, 0, 256]
def k0_off23 (k0_t1 : Fin k0_t1_loop.trips) : Fin 3 → Nat :=
  let c0_i32_254_r0 : BitVec 32 := 0#32
  let c1_i32_255_r0 : BitVec 32 := 1#32
  let arg16_r0 : BitVec 32 := Scf.iv c0_i32_254_r0 c1_i32_255_r0 k0_t1
  let v479_r0 : Index := Scalar.indexCast arg16_r0
  let c0_383_r0 : Index := 0#32
  let c512_r0 : Index := 512#32
  ![v479_r0.toNat, 0, 512]
def k0_off24 (k0_t1 : Fin k0_t1_loop.trips) : Fin 3 → Nat :=
  let c0_i32_254_r0 : BitVec 32 := 0#32
  let c1_i32_255_r0 : BitVec 32 := 1#32
  let arg16_r0 : BitVec 32 := Scf.iv c0_i32_254_r0 c1_i32_255_r0 k0_t1
  let v505_r0 : Index := Scalar.indexCast arg16_r0
  let c0_390_r0 : Index := 0#32
  let c640_r0 : Index := 640#32
  ![v505_r0.toNat, 0, 640]
def k0_off25 (k0_t1 : Fin k0_t1_loop.trips) : Fin 4 → Nat :=
  let c0_391_r0 : Index := 0#32
  let c0_i32_254_r0 : BitVec 32 := 0#32
  let c1_i32_255_r0 : BitVec 32 := 1#32
  let arg16_r0 : BitVec 32 := Scf.iv c0_i32_254_r0 c1_i32_255_r0 k0_t1
  let v509_r0 : Index := Scalar.indexCast arg16_r0
  let c0_392_r0 : Index := 0#32
  let c384_393_r0 : Index := 384#32
  ![0, v509_r0.toNat, 0, 384]
def k0_off26 (k0_t1 : Fin k0_t1_loop.trips) : Fin 4 → Nat :=
  let c1_394_r0 : Index := 1#32
  let c0_i32_254_r0 : BitVec 32 := 0#32
  let c1_i32_255_r0 : BitVec 32 := 1#32
  let arg16_r0 : BitVec 32 := Scf.iv c0_i32_254_r0 c1_i32_255_r0 k0_t1
  let v513_r0 : Index := Scalar.indexCast arg16_r0
  let c0_395_r0 : Index := 0#32
  let c384_396_r0 : Index := 384#32
  ![1, v513_r0.toNat, 0, 384]
def k0_off27 (k0_t1 : Fin k0_t1_loop.trips) : Fin 3 → Nat :=
  let c0_i32_254_r0 : BitVec 32 := 0#32
  let c1_i32_255_r0 : BitVec 32 := 1#32
  let arg16_r0 : BitVec 32 := Scf.iv c0_i32_254_r0 c1_i32_255_r0 k0_t1
  let v539_r0 : Index := Scalar.indexCast arg16_r0
  let c0_403_r0 : Index := 0#32
  let c768_r0 : Index := 768#32
  ![v539_r0.toNat, 0, 768]
def k0_off28 (k0_t1 : Fin k0_t1_loop.trips) : Fin 3 → Nat :=
  let c0_i32_254_r0 : BitVec 32 := 0#32
  let c1_i32_255_r0 : BitVec 32 := 1#32
  let arg16_r0 : BitVec 32 := Scf.iv c0_i32_254_r0 c1_i32_255_r0 k0_t1
  let v565_r0 : Index := Scalar.indexCast arg16_r0
  let c0_410_r0 : Index := 0#32
  let c896_r0 : Index := 896#32
  ![v565_r0.toNat, 0, 896]
def k0_off29 (k0_t1 : Fin k0_t1_loop.trips) : Fin 4 → Nat :=
  let c0_411_r0 : Index := 0#32
  let c0_i32_254_r0 : BitVec 32 := 0#32
  let c1_i32_255_r0 : BitVec 32 := 1#32
  let arg16_r0 : BitVec 32 := Scf.iv c0_i32_254_r0 c1_i32_255_r0 k0_t1
  let v569_r0 : Index := Scalar.indexCast arg16_r0
  let c0_412_r0 : Index := 0#32
  let c512_413_r0 : Index := 512#32
  ![0, v569_r0.toNat, 0, 512]
def k0_off30 (k0_t1 : Fin k0_t1_loop.trips) : Fin 4 → Nat :=
  let c1_414_r0 : Index := 1#32
  let c0_i32_254_r0 : BitVec 32 := 0#32
  let c1_i32_255_r0 : BitVec 32 := 1#32
  let arg16_r0 : BitVec 32 := Scf.iv c0_i32_254_r0 c1_i32_255_r0 k0_t1
  let v573_r0 : Index := Scalar.indexCast arg16_r0
  let c0_415_r0 : Index := 0#32
  let c512_416_r0 : Index := 512#32
  ![1, v573_r0.toNat, 0, 512]
def k0_off31 (k0_t1 : Fin k0_t1_loop.trips) : Fin 3 → Nat :=
  let c0_i32_254_r0 : BitVec 32 := 0#32
  let c1_i32_255_r0 : BitVec 32 := 1#32
  let arg16_r0 : BitVec 32 := Scf.iv c0_i32_254_r0 c1_i32_255_r0 k0_t1
  let v599_r0 : Index := Scalar.indexCast arg16_r0
  let c0_423_r0 : Index := 0#32
  let c1024_r0 : Index := 1024#32
  ![v599_r0.toNat, 0, 1024]
def k0_off32 (k0_t1 : Fin k0_t1_loop.trips) : Fin 3 → Nat :=
  let c0_i32_254_r0 : BitVec 32 := 0#32
  let c1_i32_255_r0 : BitVec 32 := 1#32
  let arg16_r0 : BitVec 32 := Scf.iv c0_i32_254_r0 c1_i32_255_r0 k0_t1
  let v625_r0 : Index := Scalar.indexCast arg16_r0
  let c0_430_r0 : Index := 0#32
  let c1152_r0 : Index := 1152#32
  ![v625_r0.toNat, 0, 1152]
def k0_off33 (k0_t1 : Fin k0_t1_loop.trips) : Fin 4 → Nat :=
  let c0_431_r0 : Index := 0#32
  let c0_i32_254_r0 : BitVec 32 := 0#32
  let c1_i32_255_r0 : BitVec 32 := 1#32
  let arg16_r0 : BitVec 32 := Scf.iv c0_i32_254_r0 c1_i32_255_r0 k0_t1
  let v629_r0 : Index := Scalar.indexCast arg16_r0
  let c0_432_r0 : Index := 0#32
  let c640_433_r0 : Index := 640#32
  ![0, v629_r0.toNat, 0, 640]
def k0_off34 (k0_t1 : Fin k0_t1_loop.trips) : Fin 4 → Nat :=
  let c1_434_r0 : Index := 1#32
  let c0_i32_254_r0 : BitVec 32 := 0#32
  let c1_i32_255_r0 : BitVec 32 := 1#32
  let arg16_r0 : BitVec 32 := Scf.iv c0_i32_254_r0 c1_i32_255_r0 k0_t1
  let v633_r0 : Index := Scalar.indexCast arg16_r0
  let c0_435_r0 : Index := 0#32
  let c640_436_r0 : Index := 640#32
  ![1, v633_r0.toNat, 0, 640]
def k0_off35 (k0_t1 : Fin k0_t1_loop.trips) : Fin 3 → Nat :=
  let c0_i32_254_r0 : BitVec 32 := 0#32
  let c1_i32_255_r0 : BitVec 32 := 1#32
  let arg16_r0 : BitVec 32 := Scf.iv c0_i32_254_r0 c1_i32_255_r0 k0_t1
  let v659_r0 : Index := Scalar.indexCast arg16_r0
  let c0_443_r0 : Index := 0#32
  let c1280_r0 : Index := 1280#32
  ![v659_r0.toNat, 0, 1280]
def k0_off36 (k0_t1 : Fin k0_t1_loop.trips) : Fin 3 → Nat :=
  let c0_i32_254_r0 : BitVec 32 := 0#32
  let c1_i32_255_r0 : BitVec 32 := 1#32
  let arg16_r0 : BitVec 32 := Scf.iv c0_i32_254_r0 c1_i32_255_r0 k0_t1
  let v685_r0 : Index := Scalar.indexCast arg16_r0
  let c0_450_r0 : Index := 0#32
  let c1408_r0 : Index := 1408#32
  ![v685_r0.toNat, 0, 1408]
def k0_off37 (k0_t1 : Fin k0_t1_loop.trips) : Fin 4 → Nat :=
  let c0_451_r0 : Index := 0#32
  let c0_i32_254_r0 : BitVec 32 := 0#32
  let c1_i32_255_r0 : BitVec 32 := 1#32
  let arg16_r0 : BitVec 32 := Scf.iv c0_i32_254_r0 c1_i32_255_r0 k0_t1
  let v689_r0 : Index := Scalar.indexCast arg16_r0
  let c0_452_r0 : Index := 0#32
  let c768_453_r0 : Index := 768#32
  ![0, v689_r0.toNat, 0, 768]
def k0_off38 (k0_t1 : Fin k0_t1_loop.trips) : Fin 4 → Nat :=
  let c1_454_r0 : Index := 1#32
  let c0_i32_254_r0 : BitVec 32 := 0#32
  let c1_i32_255_r0 : BitVec 32 := 1#32
  let arg16_r0 : BitVec 32 := Scf.iv c0_i32_254_r0 c1_i32_255_r0 k0_t1
  let v693_r0 : Index := Scalar.indexCast arg16_r0
  let c0_455_r0 : Index := 0#32
  let c768_456_r0 : Index := 768#32
  ![1, v693_r0.toNat, 0, 768]
def k0_off39 (k0_t1 : Fin k0_t1_loop.trips) : Fin 3 → Nat :=
  let c0_i32_254_r0 : BitVec 32 := 0#32
  let c1_i32_255_r0 : BitVec 32 := 1#32
  let arg16_r0 : BitVec 32 := Scf.iv c0_i32_254_r0 c1_i32_255_r0 k0_t1
  let v719_r0 : Index := Scalar.indexCast arg16_r0
  let c0_463_r0 : Index := 0#32
  let c1536_r0 : Index := 1536#32
  ![v719_r0.toNat, 0, 1536]
def k0_off40 (k0_t1 : Fin k0_t1_loop.trips) : Fin 3 → Nat :=
  let c0_i32_254_r0 : BitVec 32 := 0#32
  let c1_i32_255_r0 : BitVec 32 := 1#32
  let arg16_r0 : BitVec 32 := Scf.iv c0_i32_254_r0 c1_i32_255_r0 k0_t1
  let v745_r0 : Index := Scalar.indexCast arg16_r0
  let c0_470_r0 : Index := 0#32
  let c1664_r0 : Index := 1664#32
  ![v745_r0.toNat, 0, 1664]
def k0_off41 (k0_t1 : Fin k0_t1_loop.trips) : Fin 4 → Nat :=
  let c0_471_r0 : Index := 0#32
  let c0_i32_254_r0 : BitVec 32 := 0#32
  let c1_i32_255_r0 : BitVec 32 := 1#32
  let arg16_r0 : BitVec 32 := Scf.iv c0_i32_254_r0 c1_i32_255_r0 k0_t1
  let v749_r0 : Index := Scalar.indexCast arg16_r0
  let c0_472_r0 : Index := 0#32
  let c896_473_r0 : Index := 896#32
  ![0, v749_r0.toNat, 0, 896]
def k0_off42 (k0_t1 : Fin k0_t1_loop.trips) : Fin 4 → Nat :=
  let c1_474_r0 : Index := 1#32
  let c0_i32_254_r0 : BitVec 32 := 0#32
  let c1_i32_255_r0 : BitVec 32 := 1#32
  let arg16_r0 : BitVec 32 := Scf.iv c0_i32_254_r0 c1_i32_255_r0 k0_t1
  let v753_r0 : Index := Scalar.indexCast arg16_r0
  let c0_475_r0 : Index := 0#32
  let c896_476_r0 : Index := 896#32
  ![1, v753_r0.toNat, 0, 896]
def k0_off43 (k0_t1 : Fin k0_t1_loop.trips) : Fin 3 → Nat :=
  let c0_i32_254_r0 : BitVec 32 := 0#32
  let c1_i32_255_r0 : BitVec 32 := 1#32
  let arg16_r0 : BitVec 32 := Scf.iv c0_i32_254_r0 c1_i32_255_r0 k0_t1
  let v779_r0 : Index := Scalar.indexCast arg16_r0
  let c0_483_r0 : Index := 0#32
  let c1792_r0 : Index := 1792#32
  ![v779_r0.toNat, 0, 1792]
def k0_off44 (k0_t1 : Fin k0_t1_loop.trips) : Fin 3 → Nat :=
  let c0_i32_254_r0 : BitVec 32 := 0#32
  let c1_i32_255_r0 : BitVec 32 := 1#32
  let arg16_r0 : BitVec 32 := Scf.iv c0_i32_254_r0 c1_i32_255_r0 k0_t1
  let v805_r0 : Index := Scalar.indexCast arg16_r0
  let c0_490_r0 : Index := 0#32
  let c1920_r0 : Index := 1920#32
  ![v805_r0.toNat, 0, 1920]
def k0_off45 (k0_t1 : Fin k0_t1_loop.trips) : Fin 4 → Nat :=
  let c0_491_r0 : Index := 0#32
  let c0_i32_254_r0 : BitVec 32 := 0#32
  let c1_i32_255_r0 : BitVec 32 := 1#32
  let arg16_r0 : BitVec 32 := Scf.iv c0_i32_254_r0 c1_i32_255_r0 k0_t1
  let v809_r0 : Index := Scalar.indexCast arg16_r0
  let c0_492_r0 : Index := 0#32
  let c1024_493_r0 : Index := 1024#32
  ![0, v809_r0.toNat, 0, 1024]
def k0_off46 (k0_t1 : Fin k0_t1_loop.trips) : Fin 4 → Nat :=
  let c1_494_r0 : Index := 1#32
  let c0_i32_254_r0 : BitVec 32 := 0#32
  let c1_i32_255_r0 : BitVec 32 := 1#32
  let arg16_r0 : BitVec 32 := Scf.iv c0_i32_254_r0 c1_i32_255_r0 k0_t1
  let v813_r0 : Index := Scalar.indexCast arg16_r0
  let c0_495_r0 : Index := 0#32
  let c1024_496_r0 : Index := 1024#32
  ![1, v813_r0.toNat, 0, 1024]
def k0_off47 (k0_t1 : Fin k0_t1_loop.trips) : Fin 3 → Nat :=
  let c0_i32_254_r0 : BitVec 32 := 0#32
  let c1_i32_255_r0 : BitVec 32 := 1#32
  let arg16_r0 : BitVec 32 := Scf.iv c0_i32_254_r0 c1_i32_255_r0 k0_t1
  let v839_r0 : Index := Scalar.indexCast arg16_r0
  let c0_503_r0 : Index := 0#32
  let c2048_r0 : Index := 2048#32
  ![v839_r0.toNat, 0, 2048]
def k0_off48 (k0_t1 : Fin k0_t1_loop.trips) : Fin 3 → Nat :=
  let c0_i32_254_r0 : BitVec 32 := 0#32
  let c1_i32_255_r0 : BitVec 32 := 1#32
  let arg16_r0 : BitVec 32 := Scf.iv c0_i32_254_r0 c1_i32_255_r0 k0_t1
  let v865_r0 : Index := Scalar.indexCast arg16_r0
  let c0_510_r0 : Index := 0#32
  let c2176_r0 : Index := 2176#32
  ![v865_r0.toNat, 0, 2176]
def k0_off49 (k0_t1 : Fin k0_t1_loop.trips) : Fin 4 → Nat :=
  let c0_511_r0 : Index := 0#32
  let c0_i32_254_r0 : BitVec 32 := 0#32
  let c1_i32_255_r0 : BitVec 32 := 1#32
  let arg16_r0 : BitVec 32 := Scf.iv c0_i32_254_r0 c1_i32_255_r0 k0_t1
  let v869_r0 : Index := Scalar.indexCast arg16_r0
  let c0_512_r0 : Index := 0#32
  let c1152_513_r0 : Index := 1152#32
  ![0, v869_r0.toNat, 0, 1152]
def k0_off50 (k0_t1 : Fin k0_t1_loop.trips) : Fin 4 → Nat :=
  let c1_514_r0 : Index := 1#32
  let c0_i32_254_r0 : BitVec 32 := 0#32
  let c1_i32_255_r0 : BitVec 32 := 1#32
  let arg16_r0 : BitVec 32 := Scf.iv c0_i32_254_r0 c1_i32_255_r0 k0_t1
  let v873_r0 : Index := Scalar.indexCast arg16_r0
  let c0_515_r0 : Index := 0#32
  let c1152_516_r0 : Index := 1152#32
  ![1, v873_r0.toNat, 0, 1152]
def k0_off51 (k0_t1 : Fin k0_t1_loop.trips) : Fin 3 → Nat :=
  let c0_i32_254_r0 : BitVec 32 := 0#32
  let c1_i32_255_r0 : BitVec 32 := 1#32
  let arg16_r0 : BitVec 32 := Scf.iv c0_i32_254_r0 c1_i32_255_r0 k0_t1
  let v899_r0 : Index := Scalar.indexCast arg16_r0
  let c0_523_r0 : Index := 0#32
  let c2304_r0 : Index := 2304#32
  ![v899_r0.toNat, 0, 2304]
def k0_off52 (k0_t1 : Fin k0_t1_loop.trips) : Fin 3 → Nat :=
  let c0_i32_254_r0 : BitVec 32 := 0#32
  let c1_i32_255_r0 : BitVec 32 := 1#32
  let arg16_r0 : BitVec 32 := Scf.iv c0_i32_254_r0 c1_i32_255_r0 k0_t1
  let v925_r0 : Index := Scalar.indexCast arg16_r0
  let c0_530_r0 : Index := 0#32
  let c2432_r0 : Index := 2432#32
  ![v925_r0.toNat, 0, 2432]
def k0_off53 (k0_t1 : Fin k0_t1_loop.trips) : Fin 4 → Nat :=
  let c0_531_r0 : Index := 0#32
  let c0_i32_254_r0 : BitVec 32 := 0#32
  let c1_i32_255_r0 : BitVec 32 := 1#32
  let arg16_r0 : BitVec 32 := Scf.iv c0_i32_254_r0 c1_i32_255_r0 k0_t1
  let v929_r0 : Index := Scalar.indexCast arg16_r0
  let c0_532_r0 : Index := 0#32
  let c1280_533_r0 : Index := 1280#32
  ![0, v929_r0.toNat, 0, 1280]
def k0_off54 (k0_t1 : Fin k0_t1_loop.trips) : Fin 4 → Nat :=
  let c1_534_r0 : Index := 1#32
  let c0_i32_254_r0 : BitVec 32 := 0#32
  let c1_i32_255_r0 : BitVec 32 := 1#32
  let arg16_r0 : BitVec 32 := Scf.iv c0_i32_254_r0 c1_i32_255_r0 k0_t1
  let v933_r0 : Index := Scalar.indexCast arg16_r0
  let c0_535_r0 : Index := 0#32
  let c1280_536_r0 : Index := 1280#32
  ![1, v933_r0.toNat, 0, 1280]
def k0_off55 (k0_t1 : Fin k0_t1_loop.trips) : Fin 3 → Nat :=
  let c0_i32_254_r0 : BitVec 32 := 0#32
  let c1_i32_255_r0 : BitVec 32 := 1#32
  let arg16_r0 : BitVec 32 := Scf.iv c0_i32_254_r0 c1_i32_255_r0 k0_t1
  let v959_r0 : Index := Scalar.indexCast arg16_r0
  let c0_543_r0 : Index := 0#32
  let c2560_r0 : Index := 2560#32
  ![v959_r0.toNat, 0, 2560]
def k0_off56 (k0_t1 : Fin k0_t1_loop.trips) : Fin 3 → Nat :=
  let c0_i32_254_r0 : BitVec 32 := 0#32
  let c1_i32_255_r0 : BitVec 32 := 1#32
  let arg16_r0 : BitVec 32 := Scf.iv c0_i32_254_r0 c1_i32_255_r0 k0_t1
  let v985_r0 : Index := Scalar.indexCast arg16_r0
  let c0_550_r0 : Index := 0#32
  let c2688_r0 : Index := 2688#32
  ![v985_r0.toNat, 0, 2688]
def k0_off57 (k0_t1 : Fin k0_t1_loop.trips) : Fin 4 → Nat :=
  let c0_551_r0 : Index := 0#32
  let c0_i32_254_r0 : BitVec 32 := 0#32
  let c1_i32_255_r0 : BitVec 32 := 1#32
  let arg16_r0 : BitVec 32 := Scf.iv c0_i32_254_r0 c1_i32_255_r0 k0_t1
  let v989_r0 : Index := Scalar.indexCast arg16_r0
  let c0_552_r0 : Index := 0#32
  let c1408_553_r0 : Index := 1408#32
  ![0, v989_r0.toNat, 0, 1408]
def k0_off58 (k0_t1 : Fin k0_t1_loop.trips) : Fin 4 → Nat :=
  let c1_554_r0 : Index := 1#32
  let c0_i32_254_r0 : BitVec 32 := 0#32
  let c1_i32_255_r0 : BitVec 32 := 1#32
  let arg16_r0 : BitVec 32 := Scf.iv c0_i32_254_r0 c1_i32_255_r0 k0_t1
  let v993_r0 : Index := Scalar.indexCast arg16_r0
  let c0_555_r0 : Index := 0#32
  let c1408_556_r0 : Index := 1408#32
  ![1, v993_r0.toNat, 0, 1408]
def k0_off59 (k0_t1 : Fin k0_t1_loop.trips) : Fin 3 → Nat :=
  let c0_i32_254_r0 : BitVec 32 := 0#32
  let c1_i32_255_r0 : BitVec 32 := 1#32
  let arg16_r0 : BitVec 32 := Scf.iv c0_i32_254_r0 c1_i32_255_r0 k0_t1
  let v1019_r0 : Index := Scalar.indexCast arg16_r0
  let c0_563_r0 : Index := 0#32
  let c2816_r0 : Index := 2816#32
  ![v1019_r0.toNat, 0, 2816]
def k0_off60 (k0_t1 : Fin k0_t1_loop.trips) : Fin 3 → Nat :=
  let c0_i32_254_r0 : BitVec 32 := 0#32
  let c1_i32_255_r0 : BitVec 32 := 1#32
  let arg16_r0 : BitVec 32 := Scf.iv c0_i32_254_r0 c1_i32_255_r0 k0_t1
  let v1045_r0 : Index := Scalar.indexCast arg16_r0
  let c0_570_r0 : Index := 0#32
  let c2944_r0 : Index := 2944#32
  ![v1045_r0.toNat, 0, 2944]
def k0_off61 (k0_t1 : Fin k0_t1_loop.trips) : Fin 3 → Nat :=
  let c0_i32_254_r0 : BitVec 32 := 0#32
  let c1_i32_255_r0 : BitVec 32 := 1#32
  let arg16_r0 : BitVec 32 := Scf.iv c0_i32_254_r0 c1_i32_255_r0 k0_t1
  let v1059_r0 : Index := Scalar.indexCast arg16_r0
  let c0_577_r0 : Index := 0#32
  let c0_578_r0 : Index := 0#32
  ![v1059_r0.toNat, 0, 0]
def k0_off62 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_571_r0 : BitVec 32 := 6#32
  let c0_i32_572_r0 : BitVec 32 := 0#32
  let v1049_r0 : BitVec 1 := Scalar.cmpi .eq c6_i32_571_r0 c0_i32_572_r0
  let c1_i32_573_r0 : BitVec 32 := 1#32
  let v1050_r0 : BitVec 32 := Scalar.select v1049_r0 c1_i32_573_r0 c6_i32_571_r0
  let v1051_r0 : BitVec 32 := Scalar.remsi v253_r0 v1050_r0
  let c0_i32_575_r0 : BitVec 32 := 0#32
  let v1053_r0 : BitVec 1 := Scalar.cmpi .slt v1051_r0 c0_i32_575_r0
  let c0_i32_576_r0 : BitVec 32 := 0#32
  let v1054_r0 : BitVec 1 := Scalar.cmpi .slt v1050_r0 c0_i32_576_r0
  let v1055_r0 : BitVec 1 := Scalar.xori v1053_r0 v1054_r0
  let c0_i32_574_r0 : BitVec 32 := 0#32
  let v1052_r0 : BitVec 1 := Scalar.cmpi .ne v1051_r0 c0_i32_574_r0
  let v1056_r0 : BitVec 1 := Scalar.andi v1055_r0 v1052_r0
  let v1057_r0 : BitVec 32 := Scalar.addi v1051_r0 v1050_r0
  let v1058_r0 : BitVec 32 := Scalar.select v1056_r0 v1057_r0 v1051_r0
  let v1062_r0 : Index := Scalar.indexCast v1058_r0
  let c0_579_r0 : Index := 0#32
  let c0_580_r0 : Index := 0#32
  let c0_581_r0 : Index := 0#32
  ![v1062_r0.toNat, 0, 0, 0]
def k0_off63 (k0_t1 : Fin k0_t1_loop.trips) (c0_i32_587_r0 : BitVec 32) : Fin 5 → Nat :=
  let c0_588_r0 : Index := 0#32
  let c0_589_r0 : Index := 0#32
  let c0_i32_254_r0 : BitVec 32 := 0#32
  let c1_i32_255_r0 : BitVec 32 := 1#32
  let arg16_r0 : BitVec 32 := Scf.iv c0_i32_254_r0 c1_i32_255_r0 k0_t1
  let c6_i32_586_r0 : BitVec 32 := 6#32
  let v1082_r0 : BitVec 32 := Scalar.muli arg16_r0 c6_i32_586_r0
  let v1083_r0 : BitVec 32 := Scalar.addi v1082_r0 c0_i32_587_r0
  let v1084_r0 : Index := Scalar.indexCast v1083_r0
  let c0_590_r0 : Index := 0#32
  ![0, 0, v1084_r0.toNat, 0, 0]
def k0_off64 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_571_r0 : BitVec 32 := 6#32
  let c0_i32_572_r0 : BitVec 32 := 0#32
  let v1049_r0 : BitVec 1 := Scalar.cmpi .eq c6_i32_571_r0 c0_i32_572_r0
  let c1_i32_573_r0 : BitVec 32 := 1#32
  let v1050_r0 : BitVec 32 := Scalar.select v1049_r0 c1_i32_573_r0 c6_i32_571_r0
  let v1051_r0 : BitVec 32 := Scalar.remsi v253_r0 v1050_r0
  let c0_i32_575_r0 : BitVec 32 := 0#32
  let v1053_r0 : BitVec 1 := Scalar.cmpi .slt v1051_r0 c0_i32_575_r0
  let c0_i32_576_r0 : BitVec 32 := 0#32
  let v1054_r0 : BitVec 1 := Scalar.cmpi .slt v1050_r0 c0_i32_576_r0
  let v1055_r0 : BitVec 1 := Scalar.xori v1053_r0 v1054_r0
  let c0_i32_574_r0 : BitVec 32 := 0#32
  let v1052_r0 : BitVec 1 := Scalar.cmpi .ne v1051_r0 c0_i32_574_r0
  let v1056_r0 : BitVec 1 := Scalar.andi v1055_r0 v1052_r0
  let v1057_r0 : BitVec 32 := Scalar.addi v1051_r0 v1050_r0
  let v1058_r0 : BitVec 32 := Scalar.select v1056_r0 v1057_r0 v1051_r0
  let v1102_r0 : Index := Scalar.indexCast v1058_r0
  let c1_593_r0 : Index := 1#32
  let c0_594_r0 : Index := 0#32
  let c0_595_r0 : Index := 0#32
  ![v1102_r0.toNat, 1, 0, 0]
def k0_off65 (k0_t1 : Fin k0_t1_loop.trips) (c0_i32_603_r0 : BitVec 32) : Fin 5 → Nat :=
  let c1_604_r0 : Index := 1#32
  let c0_605_r0 : Index := 0#32
  let c0_i32_254_r0 : BitVec 32 := 0#32
  let c1_i32_255_r0 : BitVec 32 := 1#32
  let arg16_r0 : BitVec 32 := Scf.iv c0_i32_254_r0 c1_i32_255_r0 k0_t1
  let c6_i32_602_r0 : BitVec 32 := 6#32
  let v1122_r0 : BitVec 32 := Scalar.muli arg16_r0 c6_i32_602_r0
  let v1123_r0 : BitVec 32 := Scalar.addi v1122_r0 c0_i32_603_r0
  let v1124_r0 : Index := Scalar.indexCast v1123_r0
  let c0_606_r0 : Index := 0#32
  ![1, 0, v1124_r0.toNat, 0, 0]
def k0_off66 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_571_r0 : BitVec 32 := 6#32
  let c0_i32_572_r0 : BitVec 32 := 0#32
  let v1049_r0 : BitVec 1 := Scalar.cmpi .eq c6_i32_571_r0 c0_i32_572_r0
  let c1_i32_573_r0 : BitVec 32 := 1#32
  let v1050_r0 : BitVec 32 := Scalar.select v1049_r0 c1_i32_573_r0 c6_i32_571_r0
  let v1051_r0 : BitVec 32 := Scalar.remsi v253_r0 v1050_r0
  let c0_i32_575_r0 : BitVec 32 := 0#32
  let v1053_r0 : BitVec 1 := Scalar.cmpi .slt v1051_r0 c0_i32_575_r0
  let c0_i32_576_r0 : BitVec 32 := 0#32
  let v1054_r0 : BitVec 1 := Scalar.cmpi .slt v1050_r0 c0_i32_576_r0
  let v1055_r0 : BitVec 1 := Scalar.xori v1053_r0 v1054_r0
  let c0_i32_574_r0 : BitVec 32 := 0#32
  let v1052_r0 : BitVec 1 := Scalar.cmpi .ne v1051_r0 c0_i32_574_r0
  let v1056_r0 : BitVec 1 := Scalar.andi v1055_r0 v1052_r0
  let v1057_r0 : BitVec 32 := Scalar.addi v1051_r0 v1050_r0
  let v1058_r0 : BitVec 32 := Scalar.select v1056_r0 v1057_r0 v1051_r0
  let v1142_r0 : Index := Scalar.indexCast v1058_r0
  let c0_609_r0 : Index := 0#32
  let c0_610_r0 : Index := 0#32
  let c256_611_r0 : Index := 256#32
  ![v1142_r0.toNat, 0, 0, 256]
def k0_off67 (k0_t1 : Fin k0_t1_loop.trips) (c0_i32_619_r0 : BitVec 32) : Fin 5 → Nat :=
  let c0_620_r0 : Index := 0#32
  let c0_621_r0 : Index := 0#32
  let c0_i32_254_r0 : BitVec 32 := 0#32
  let c1_i32_255_r0 : BitVec 32 := 1#32
  let arg16_r0 : BitVec 32 := Scf.iv c0_i32_254_r0 c1_i32_255_r0 k0_t1
  let c6_i32_618_r0 : BitVec 32 := 6#32
  let v1162_r0 : BitVec 32 := Scalar.muli arg16_r0 c6_i32_618_r0
  let v1163_r0 : BitVec 32 := Scalar.addi v1162_r0 c0_i32_619_r0
  let v1164_r0 : Index := Scalar.indexCast v1163_r0
  let c256_622_r0 : Index := 256#32
  ![0, 0, v1164_r0.toNat, 0, 256]
def k0_off68 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_571_r0 : BitVec 32 := 6#32
  let c0_i32_572_r0 : BitVec 32 := 0#32
  let v1049_r0 : BitVec 1 := Scalar.cmpi .eq c6_i32_571_r0 c0_i32_572_r0
  let c1_i32_573_r0 : BitVec 32 := 1#32
  let v1050_r0 : BitVec 32 := Scalar.select v1049_r0 c1_i32_573_r0 c6_i32_571_r0
  let v1051_r0 : BitVec 32 := Scalar.remsi v253_r0 v1050_r0
  let c0_i32_575_r0 : BitVec 32 := 0#32
  let v1053_r0 : BitVec 1 := Scalar.cmpi .slt v1051_r0 c0_i32_575_r0
  let c0_i32_576_r0 : BitVec 32 := 0#32
  let v1054_r0 : BitVec 1 := Scalar.cmpi .slt v1050_r0 c0_i32_576_r0
  let v1055_r0 : BitVec 1 := Scalar.xori v1053_r0 v1054_r0
  let c0_i32_574_r0 : BitVec 32 := 0#32
  let v1052_r0 : BitVec 1 := Scalar.cmpi .ne v1051_r0 c0_i32_574_r0
  let v1056_r0 : BitVec 1 := Scalar.andi v1055_r0 v1052_r0
  let v1057_r0 : BitVec 32 := Scalar.addi v1051_r0 v1050_r0
  let v1058_r0 : BitVec 32 := Scalar.select v1056_r0 v1057_r0 v1051_r0
  let v1182_r0 : Index := Scalar.indexCast v1058_r0
  let c1_625_r0 : Index := 1#32
  let c0_626_r0 : Index := 0#32
  let c256_627_r0 : Index := 256#32
  ![v1182_r0.toNat, 1, 0, 256]
def k0_off69 (k0_t1 : Fin k0_t1_loop.trips) (c0_i32_635_r0 : BitVec 32) : Fin 5 → Nat :=
  let c1_636_r0 : Index := 1#32
  let c0_637_r0 : Index := 0#32
  let c0_i32_254_r0 : BitVec 32 := 0#32
  let c1_i32_255_r0 : BitVec 32 := 1#32
  let arg16_r0 : BitVec 32 := Scf.iv c0_i32_254_r0 c1_i32_255_r0 k0_t1
  let c6_i32_634_r0 : BitVec 32 := 6#32
  let v1202_r0 : BitVec 32 := Scalar.muli arg16_r0 c6_i32_634_r0
  let v1203_r0 : BitVec 32 := Scalar.addi v1202_r0 c0_i32_635_r0
  let v1204_r0 : Index := Scalar.indexCast v1203_r0
  let c256_638_r0 : Index := 256#32
  ![1, 0, v1204_r0.toNat, 0, 256]
def k0_off70 (k0_t1 : Fin k0_t1_loop.trips) : Fin 3 → Nat :=
  let c0_i32_254_r0 : BitVec 32 := 0#32
  let c1_i32_255_r0 : BitVec 32 := 1#32
  let arg16_r0 : BitVec 32 := Scf.iv c0_i32_254_r0 c1_i32_255_r0 k0_t1
  let v1222_r0 : Index := Scalar.indexCast arg16_r0
  let c0_641_r0 : Index := 0#32
  let c256_642_r0 : Index := 256#32
  ![v1222_r0.toNat, 0, 256]
def k0_off71 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_571_r0 : BitVec 32 := 6#32
  let c0_i32_572_r0 : BitVec 32 := 0#32
  let v1049_r0 : BitVec 1 := Scalar.cmpi .eq c6_i32_571_r0 c0_i32_572_r0
  let c1_i32_573_r0 : BitVec 32 := 1#32
  let v1050_r0 : BitVec 32 := Scalar.select v1049_r0 c1_i32_573_r0 c6_i32_571_r0
  let v1051_r0 : BitVec 32 := Scalar.remsi v253_r0 v1050_r0
  let c0_i32_575_r0 : BitVec 32 := 0#32
  let v1053_r0 : BitVec 1 := Scalar.cmpi .slt v1051_r0 c0_i32_575_r0
  let c0_i32_576_r0 : BitVec 32 := 0#32
  let v1054_r0 : BitVec 1 := Scalar.cmpi .slt v1050_r0 c0_i32_576_r0
  let v1055_r0 : BitVec 1 := Scalar.xori v1053_r0 v1054_r0
  let c0_i32_574_r0 : BitVec 32 := 0#32
  let v1052_r0 : BitVec 1 := Scalar.cmpi .ne v1051_r0 c0_i32_574_r0
  let v1056_r0 : BitVec 1 := Scalar.andi v1055_r0 v1052_r0
  let v1057_r0 : BitVec 32 := Scalar.addi v1051_r0 v1050_r0
  let v1058_r0 : BitVec 32 := Scalar.select v1056_r0 v1057_r0 v1051_r0
  let v1225_r0 : Index := Scalar.indexCast v1058_r0
  let c0_643_r0 : Index := 0#32
  let c128_644_r0 : Index := 128#32
  let c0_645_r0 : Index := 0#32
  ![v1225_r0.toNat, 0, 128, 0]
def k0_off72 (k0_t1 : Fin k0_t1_loop.trips) (c0_i32_653_r0 : BitVec 32) : Fin 5 → Nat :=
  let c0_654_r0 : Index := 0#32
  let c1_655_r0 : Index := 1#32
  let c0_i32_254_r0 : BitVec 32 := 0#32
  let c1_i32_255_r0 : BitVec 32 := 1#32
  let arg16_r0 : BitVec 32 := Scf.iv c0_i32_254_r0 c1_i32_255_r0 k0_t1
  let c6_i32_652_r0 : BitVec 32 := 6#32
  let v1245_r0 : BitVec 32 := Scalar.muli arg16_r0 c6_i32_652_r0
  let v1246_r0 : BitVec 32 := Scalar.addi v1245_r0 c0_i32_653_r0
  let v1247_r0 : Index := Scalar.indexCast v1246_r0
  let c0_656_r0 : Index := 0#32
  ![0, 1, v1247_r0.toNat, 0, 0]
def k0_off73 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_571_r0 : BitVec 32 := 6#32
  let c0_i32_572_r0 : BitVec 32 := 0#32
  let v1049_r0 : BitVec 1 := Scalar.cmpi .eq c6_i32_571_r0 c0_i32_572_r0
  let c1_i32_573_r0 : BitVec 32 := 1#32
  let v1050_r0 : BitVec 32 := Scalar.select v1049_r0 c1_i32_573_r0 c6_i32_571_r0
  let v1051_r0 : BitVec 32 := Scalar.remsi v253_r0 v1050_r0
  let c0_i32_575_r0 : BitVec 32 := 0#32
  let v1053_r0 : BitVec 1 := Scalar.cmpi .slt v1051_r0 c0_i32_575_r0
  let c0_i32_576_r0 : BitVec 32 := 0#32
  let v1054_r0 : BitVec 1 := Scalar.cmpi .slt v1050_r0 c0_i32_576_r0
  let v1055_r0 : BitVec 1 := Scalar.xori v1053_r0 v1054_r0
  let c0_i32_574_r0 : BitVec 32 := 0#32
  let v1052_r0 : BitVec 1 := Scalar.cmpi .ne v1051_r0 c0_i32_574_r0
  let v1056_r0 : BitVec 1 := Scalar.andi v1055_r0 v1052_r0
  let v1057_r0 : BitVec 32 := Scalar.addi v1051_r0 v1050_r0
  let v1058_r0 : BitVec 32 := Scalar.select v1056_r0 v1057_r0 v1051_r0
  let v1265_r0 : Index := Scalar.indexCast v1058_r0
  let c1_659_r0 : Index := 1#32
  let c128_660_r0 : Index := 128#32
  let c0_661_r0 : Index := 0#32
  ![v1265_r0.toNat, 1, 128, 0]
def k0_off74 (k0_t1 : Fin k0_t1_loop.trips) (c0_i32_669_r0 : BitVec 32) : Fin 5 → Nat :=
  let c1_670_r0 : Index := 1#32
  let c1_671_r0 : Index := 1#32
  let c0_i32_254_r0 : BitVec 32 := 0#32
  let c1_i32_255_r0 : BitVec 32 := 1#32
  let arg16_r0 : BitVec 32 := Scf.iv c0_i32_254_r0 c1_i32_255_r0 k0_t1
  let c6_i32_668_r0 : BitVec 32 := 6#32
  let v1285_r0 : BitVec 32 := Scalar.muli arg16_r0 c6_i32_668_r0
  let v1286_r0 : BitVec 32 := Scalar.addi v1285_r0 c0_i32_669_r0
  let v1287_r0 : Index := Scalar.indexCast v1286_r0
  let c0_672_r0 : Index := 0#32
  ![1, 1, v1287_r0.toNat, 0, 0]
def k0_off75 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_571_r0 : BitVec 32 := 6#32
  let c0_i32_572_r0 : BitVec 32 := 0#32
  let v1049_r0 : BitVec 1 := Scalar.cmpi .eq c6_i32_571_r0 c0_i32_572_r0
  let c1_i32_573_r0 : BitVec 32 := 1#32
  let v1050_r0 : BitVec 32 := Scalar.select v1049_r0 c1_i32_573_r0 c6_i32_571_r0
  let v1051_r0 : BitVec 32 := Scalar.remsi v253_r0 v1050_r0
  let c0_i32_575_r0 : BitVec 32 := 0#32
  let v1053_r0 : BitVec 1 := Scalar.cmpi .slt v1051_r0 c0_i32_575_r0
  let c0_i32_576_r0 : BitVec 32 := 0#32
  let v1054_r0 : BitVec 1 := Scalar.cmpi .slt v1050_r0 c0_i32_576_r0
  let v1055_r0 : BitVec 1 := Scalar.xori v1053_r0 v1054_r0
  let c0_i32_574_r0 : BitVec 32 := 0#32
  let v1052_r0 : BitVec 1 := Scalar.cmpi .ne v1051_r0 c0_i32_574_r0
  let v1056_r0 : BitVec 1 := Scalar.andi v1055_r0 v1052_r0
  let v1057_r0 : BitVec 32 := Scalar.addi v1051_r0 v1050_r0
  let v1058_r0 : BitVec 32 := Scalar.select v1056_r0 v1057_r0 v1051_r0
  let v1305_r0 : Index := Scalar.indexCast v1058_r0
  let c0_675_r0 : Index := 0#32
  let c128_676_r0 : Index := 128#32
  let c256_677_r0 : Index := 256#32
  ![v1305_r0.toNat, 0, 128, 256]
def k0_off76 (k0_t1 : Fin k0_t1_loop.trips) (c0_i32_685_r0 : BitVec 32) : Fin 5 → Nat :=
  let c0_686_r0 : Index := 0#32
  let c1_687_r0 : Index := 1#32
  let c0_i32_254_r0 : BitVec 32 := 0#32
  let c1_i32_255_r0 : BitVec 32 := 1#32
  let arg16_r0 : BitVec 32 := Scf.iv c0_i32_254_r0 c1_i32_255_r0 k0_t1
  let c6_i32_684_r0 : BitVec 32 := 6#32
  let v1325_r0 : BitVec 32 := Scalar.muli arg16_r0 c6_i32_684_r0
  let v1326_r0 : BitVec 32 := Scalar.addi v1325_r0 c0_i32_685_r0
  let v1327_r0 : Index := Scalar.indexCast v1326_r0
  let c256_688_r0 : Index := 256#32
  ![0, 1, v1327_r0.toNat, 0, 256]
def k0_off77 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_571_r0 : BitVec 32 := 6#32
  let c0_i32_572_r0 : BitVec 32 := 0#32
  let v1049_r0 : BitVec 1 := Scalar.cmpi .eq c6_i32_571_r0 c0_i32_572_r0
  let c1_i32_573_r0 : BitVec 32 := 1#32
  let v1050_r0 : BitVec 32 := Scalar.select v1049_r0 c1_i32_573_r0 c6_i32_571_r0
  let v1051_r0 : BitVec 32 := Scalar.remsi v253_r0 v1050_r0
  let c0_i32_575_r0 : BitVec 32 := 0#32
  let v1053_r0 : BitVec 1 := Scalar.cmpi .slt v1051_r0 c0_i32_575_r0
  let c0_i32_576_r0 : BitVec 32 := 0#32
  let v1054_r0 : BitVec 1 := Scalar.cmpi .slt v1050_r0 c0_i32_576_r0
  let v1055_r0 : BitVec 1 := Scalar.xori v1053_r0 v1054_r0
  let c0_i32_574_r0 : BitVec 32 := 0#32
  let v1052_r0 : BitVec 1 := Scalar.cmpi .ne v1051_r0 c0_i32_574_r0
  let v1056_r0 : BitVec 1 := Scalar.andi v1055_r0 v1052_r0
  let v1057_r0 : BitVec 32 := Scalar.addi v1051_r0 v1050_r0
  let v1058_r0 : BitVec 32 := Scalar.select v1056_r0 v1057_r0 v1051_r0
  let v1345_r0 : Index := Scalar.indexCast v1058_r0
  let c1_691_r0 : Index := 1#32
  let c128_692_r0 : Index := 128#32
  let c256_693_r0 : Index := 256#32
  ![v1345_r0.toNat, 1, 128, 256]
def k0_off78 (k0_t1 : Fin k0_t1_loop.trips) (c0_i32_701_r0 : BitVec 32) : Fin 5 → Nat :=
  let c1_702_r0 : Index := 1#32
  let c1_703_r0 : Index := 1#32
  let c0_i32_254_r0 : BitVec 32 := 0#32
  let c1_i32_255_r0 : BitVec 32 := 1#32
  let arg16_r0 : BitVec 32 := Scf.iv c0_i32_254_r0 c1_i32_255_r0 k0_t1
  let c6_i32_700_r0 : BitVec 32 := 6#32
  let v1365_r0 : BitVec 32 := Scalar.muli arg16_r0 c6_i32_700_r0
  let v1366_r0 : BitVec 32 := Scalar.addi v1365_r0 c0_i32_701_r0
  let v1367_r0 : Index := Scalar.indexCast v1366_r0
  let c256_704_r0 : Index := 256#32
  ![1, 1, v1367_r0.toNat, 0, 256]
def k0_off79 (k0_t1 : Fin k0_t1_loop.trips) : Fin 3 → Nat :=
  let c0_i32_254_r0 : BitVec 32 := 0#32
  let c1_i32_255_r0 : BitVec 32 := 1#32
  let arg16_r0 : BitVec 32 := Scf.iv c0_i32_254_r0 c1_i32_255_r0 k0_t1
  let v1385_r0 : Index := Scalar.indexCast arg16_r0
  let c0_707_r0 : Index := 0#32
  let c512_708_r0 : Index := 512#32
  ![v1385_r0.toNat, 0, 512]
def k0_off80 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_571_r0 : BitVec 32 := 6#32
  let c0_i32_572_r0 : BitVec 32 := 0#32
  let v1049_r0 : BitVec 1 := Scalar.cmpi .eq c6_i32_571_r0 c0_i32_572_r0
  let c1_i32_573_r0 : BitVec 32 := 1#32
  let v1050_r0 : BitVec 32 := Scalar.select v1049_r0 c1_i32_573_r0 c6_i32_571_r0
  let v1051_r0 : BitVec 32 := Scalar.remsi v253_r0 v1050_r0
  let c0_i32_575_r0 : BitVec 32 := 0#32
  let v1053_r0 : BitVec 1 := Scalar.cmpi .slt v1051_r0 c0_i32_575_r0
  let c0_i32_576_r0 : BitVec 32 := 0#32
  let v1054_r0 : BitVec 1 := Scalar.cmpi .slt v1050_r0 c0_i32_576_r0
  let v1055_r0 : BitVec 1 := Scalar.xori v1053_r0 v1054_r0
  let c0_i32_574_r0 : BitVec 32 := 0#32
  let v1052_r0 : BitVec 1 := Scalar.cmpi .ne v1051_r0 c0_i32_574_r0
  let v1056_r0 : BitVec 1 := Scalar.andi v1055_r0 v1052_r0
  let v1057_r0 : BitVec 32 := Scalar.addi v1051_r0 v1050_r0
  let v1058_r0 : BitVec 32 := Scalar.select v1056_r0 v1057_r0 v1051_r0
  let v1388_r0 : Index := Scalar.indexCast v1058_r0
  let c0_709_r0 : Index := 0#32
  let c256_710_r0 : Index := 256#32
  let c0_711_r0 : Index := 0#32
  ![v1388_r0.toNat, 0, 256, 0]
def k0_off81 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_571_r0 : BitVec 32 := 6#32
  let c0_i32_572_r0 : BitVec 32 := 0#32
  let v1049_r0 : BitVec 1 := Scalar.cmpi .eq c6_i32_571_r0 c0_i32_572_r0
  let c1_i32_573_r0 : BitVec 32 := 1#32
  let v1050_r0 : BitVec 32 := Scalar.select v1049_r0 c1_i32_573_r0 c6_i32_571_r0
  let v1051_r0 : BitVec 32 := Scalar.remsi v253_r0 v1050_r0
  let c0_i32_575_r0 : BitVec 32 := 0#32
  let v1053_r0 : BitVec 1 := Scalar.cmpi .slt v1051_r0 c0_i32_575_r0
  let c0_i32_576_r0 : BitVec 32 := 0#32
  let v1054_r0 : BitVec 1 := Scalar.cmpi .slt v1050_r0 c0_i32_576_r0
  let v1055_r0 : BitVec 1 := Scalar.xori v1053_r0 v1054_r0
  let c0_i32_574_r0 : BitVec 32 := 0#32
  let v1052_r0 : BitVec 1 := Scalar.cmpi .ne v1051_r0 c0_i32_574_r0
  let v1056_r0 : BitVec 1 := Scalar.andi v1055_r0 v1052_r0
  let v1057_r0 : BitVec 32 := Scalar.addi v1051_r0 v1050_r0
  let v1058_r0 : BitVec 32 := Scalar.select v1056_r0 v1057_r0 v1051_r0
  let v1428_r0 : Index := Scalar.indexCast v1058_r0
  let c1_725_r0 : Index := 1#32
  let c256_726_r0 : Index := 256#32
  let c0_727_r0 : Index := 0#32
  ![v1428_r0.toNat, 1, 256, 0]
def k0_off82 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_571_r0 : BitVec 32 := 6#32
  let c0_i32_572_r0 : BitVec 32 := 0#32
  let v1049_r0 : BitVec 1 := Scalar.cmpi .eq c6_i32_571_r0 c0_i32_572_r0
  let c1_i32_573_r0 : BitVec 32 := 1#32
  let v1050_r0 : BitVec 32 := Scalar.select v1049_r0 c1_i32_573_r0 c6_i32_571_r0
  let v1051_r0 : BitVec 32 := Scalar.remsi v253_r0 v1050_r0
  let c0_i32_575_r0 : BitVec 32 := 0#32
  let v1053_r0 : BitVec 1 := Scalar.cmpi .slt v1051_r0 c0_i32_575_r0
  let c0_i32_576_r0 : BitVec 32 := 0#32
  let v1054_r0 : BitVec 1 := Scalar.cmpi .slt v1050_r0 c0_i32_576_r0
  let v1055_r0 : BitVec 1 := Scalar.xori v1053_r0 v1054_r0
  let c0_i32_574_r0 : BitVec 32 := 0#32
  let v1052_r0 : BitVec 1 := Scalar.cmpi .ne v1051_r0 c0_i32_574_r0
  let v1056_r0 : BitVec 1 := Scalar.andi v1055_r0 v1052_r0
  let v1057_r0 : BitVec 32 := Scalar.addi v1051_r0 v1050_r0
  let v1058_r0 : BitVec 32 := Scalar.select v1056_r0 v1057_r0 v1051_r0
  let v1468_r0 : Index := Scalar.indexCast v1058_r0
  let c0_741_r0 : Index := 0#32
  let c256_742_r0 : Index := 256#32
  let c256_743_r0 : Index := 256#32
  ![v1468_r0.toNat, 0, 256, 256]
def k0_off83 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_571_r0 : BitVec 32 := 6#32
  let c0_i32_572_r0 : BitVec 32 := 0#32
  let v1049_r0 : BitVec 1 := Scalar.cmpi .eq c6_i32_571_r0 c0_i32_572_r0
  let c1_i32_573_r0 : BitVec 32 := 1#32
  let v1050_r0 : BitVec 32 := Scalar.select v1049_r0 c1_i32_573_r0 c6_i32_571_r0
  let v1051_r0 : BitVec 32 := Scalar.remsi v253_r0 v1050_r0
  let c0_i32_575_r0 : BitVec 32 := 0#32
  let v1053_r0 : BitVec 1 := Scalar.cmpi .slt v1051_r0 c0_i32_575_r0
  let c0_i32_576_r0 : BitVec 32 := 0#32
  let v1054_r0 : BitVec 1 := Scalar.cmpi .slt v1050_r0 c0_i32_576_r0
  let v1055_r0 : BitVec 1 := Scalar.xori v1053_r0 v1054_r0
  let c0_i32_574_r0 : BitVec 32 := 0#32
  let v1052_r0 : BitVec 1 := Scalar.cmpi .ne v1051_r0 c0_i32_574_r0
  let v1056_r0 : BitVec 1 := Scalar.andi v1055_r0 v1052_r0
  let v1057_r0 : BitVec 32 := Scalar.addi v1051_r0 v1050_r0
  let v1058_r0 : BitVec 32 := Scalar.select v1056_r0 v1057_r0 v1051_r0
  let v1508_r0 : Index := Scalar.indexCast v1058_r0
  let c1_757_r0 : Index := 1#32
  let c256_758_r0 : Index := 256#32
  let c256_759_r0 : Index := 256#32
  ![v1508_r0.toNat, 1, 256, 256]
def k0_off84 (k0_t1 : Fin k0_t1_loop.trips) : Fin 3 → Nat :=
  let c0_i32_254_r0 : BitVec 32 := 0#32
  let c1_i32_255_r0 : BitVec 32 := 1#32
  let arg16_r0 : BitVec 32 := Scf.iv c0_i32_254_r0 c1_i32_255_r0 k0_t1
  let v1548_r0 : Index := Scalar.indexCast arg16_r0
  let c0_773_r0 : Index := 0#32
  let c768_774_r0 : Index := 768#32
  ![v1548_r0.toNat, 0, 768]
def k0_off85 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_571_r0 : BitVec 32 := 6#32
  let c0_i32_572_r0 : BitVec 32 := 0#32
  let v1049_r0 : BitVec 1 := Scalar.cmpi .eq c6_i32_571_r0 c0_i32_572_r0
  let c1_i32_573_r0 : BitVec 32 := 1#32
  let v1050_r0 : BitVec 32 := Scalar.select v1049_r0 c1_i32_573_r0 c6_i32_571_r0
  let v1051_r0 : BitVec 32 := Scalar.remsi v253_r0 v1050_r0
  let c0_i32_575_r0 : BitVec 32 := 0#32
  let v1053_r0 : BitVec 1 := Scalar.cmpi .slt v1051_r0 c0_i32_575_r0
  let c0_i32_576_r0 : BitVec 32 := 0#32
  let v1054_r0 : BitVec 1 := Scalar.cmpi .slt v1050_r0 c0_i32_576_r0
  let v1055_r0 : BitVec 1 := Scalar.xori v1053_r0 v1054_r0
  let c0_i32_574_r0 : BitVec 32 := 0#32
  let v1052_r0 : BitVec 1 := Scalar.cmpi .ne v1051_r0 c0_i32_574_r0
  let v1056_r0 : BitVec 1 := Scalar.andi v1055_r0 v1052_r0
  let v1057_r0 : BitVec 32 := Scalar.addi v1051_r0 v1050_r0
  let v1058_r0 : BitVec 32 := Scalar.select v1056_r0 v1057_r0 v1051_r0
  let v1551_r0 : Index := Scalar.indexCast v1058_r0
  let c0_775_r0 : Index := 0#32
  let c384_776_r0 : Index := 384#32
  let c0_777_r0 : Index := 0#32
  ![v1551_r0.toNat, 0, 384, 0]
def k0_off86 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_571_r0 : BitVec 32 := 6#32
  let c0_i32_572_r0 : BitVec 32 := 0#32
  let v1049_r0 : BitVec 1 := Scalar.cmpi .eq c6_i32_571_r0 c0_i32_572_r0
  let c1_i32_573_r0 : BitVec 32 := 1#32
  let v1050_r0 : BitVec 32 := Scalar.select v1049_r0 c1_i32_573_r0 c6_i32_571_r0
  let v1051_r0 : BitVec 32 := Scalar.remsi v253_r0 v1050_r0
  let c0_i32_575_r0 : BitVec 32 := 0#32
  let v1053_r0 : BitVec 1 := Scalar.cmpi .slt v1051_r0 c0_i32_575_r0
  let c0_i32_576_r0 : BitVec 32 := 0#32
  let v1054_r0 : BitVec 1 := Scalar.cmpi .slt v1050_r0 c0_i32_576_r0
  let v1055_r0 : BitVec 1 := Scalar.xori v1053_r0 v1054_r0
  let c0_i32_574_r0 : BitVec 32 := 0#32
  let v1052_r0 : BitVec 1 := Scalar.cmpi .ne v1051_r0 c0_i32_574_r0
  let v1056_r0 : BitVec 1 := Scalar.andi v1055_r0 v1052_r0
  let v1057_r0 : BitVec 32 := Scalar.addi v1051_r0 v1050_r0
  let v1058_r0 : BitVec 32 := Scalar.select v1056_r0 v1057_r0 v1051_r0
  let v1591_r0 : Index := Scalar.indexCast v1058_r0
  let c1_791_r0 : Index := 1#32
  let c384_792_r0 : Index := 384#32
  let c0_793_r0 : Index := 0#32
  ![v1591_r0.toNat, 1, 384, 0]
def k0_off87 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_571_r0 : BitVec 32 := 6#32
  let c0_i32_572_r0 : BitVec 32 := 0#32
  let v1049_r0 : BitVec 1 := Scalar.cmpi .eq c6_i32_571_r0 c0_i32_572_r0
  let c1_i32_573_r0 : BitVec 32 := 1#32
  let v1050_r0 : BitVec 32 := Scalar.select v1049_r0 c1_i32_573_r0 c6_i32_571_r0
  let v1051_r0 : BitVec 32 := Scalar.remsi v253_r0 v1050_r0
  let c0_i32_575_r0 : BitVec 32 := 0#32
  let v1053_r0 : BitVec 1 := Scalar.cmpi .slt v1051_r0 c0_i32_575_r0
  let c0_i32_576_r0 : BitVec 32 := 0#32
  let v1054_r0 : BitVec 1 := Scalar.cmpi .slt v1050_r0 c0_i32_576_r0
  let v1055_r0 : BitVec 1 := Scalar.xori v1053_r0 v1054_r0
  let c0_i32_574_r0 : BitVec 32 := 0#32
  let v1052_r0 : BitVec 1 := Scalar.cmpi .ne v1051_r0 c0_i32_574_r0
  let v1056_r0 : BitVec 1 := Scalar.andi v1055_r0 v1052_r0
  let v1057_r0 : BitVec 32 := Scalar.addi v1051_r0 v1050_r0
  let v1058_r0 : BitVec 32 := Scalar.select v1056_r0 v1057_r0 v1051_r0
  let v1631_r0 : Index := Scalar.indexCast v1058_r0
  let c0_807_r0 : Index := 0#32
  let c384_808_r0 : Index := 384#32
  let c256_809_r0 : Index := 256#32
  ![v1631_r0.toNat, 0, 384, 256]
def k0_off88 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_571_r0 : BitVec 32 := 6#32
  let c0_i32_572_r0 : BitVec 32 := 0#32
  let v1049_r0 : BitVec 1 := Scalar.cmpi .eq c6_i32_571_r0 c0_i32_572_r0
  let c1_i32_573_r0 : BitVec 32 := 1#32
  let v1050_r0 : BitVec 32 := Scalar.select v1049_r0 c1_i32_573_r0 c6_i32_571_r0
  let v1051_r0 : BitVec 32 := Scalar.remsi v253_r0 v1050_r0
  let c0_i32_575_r0 : BitVec 32 := 0#32
  let v1053_r0 : BitVec 1 := Scalar.cmpi .slt v1051_r0 c0_i32_575_r0
  let c0_i32_576_r0 : BitVec 32 := 0#32
  let v1054_r0 : BitVec 1 := Scalar.cmpi .slt v1050_r0 c0_i32_576_r0
  let v1055_r0 : BitVec 1 := Scalar.xori v1053_r0 v1054_r0
  let c0_i32_574_r0 : BitVec 32 := 0#32
  let v1052_r0 : BitVec 1 := Scalar.cmpi .ne v1051_r0 c0_i32_574_r0
  let v1056_r0 : BitVec 1 := Scalar.andi v1055_r0 v1052_r0
  let v1057_r0 : BitVec 32 := Scalar.addi v1051_r0 v1050_r0
  let v1058_r0 : BitVec 32 := Scalar.select v1056_r0 v1057_r0 v1051_r0
  let v1671_r0 : Index := Scalar.indexCast v1058_r0
  let c1_823_r0 : Index := 1#32
  let c384_824_r0 : Index := 384#32
  let c256_825_r0 : Index := 256#32
  ![v1671_r0.toNat, 1, 384, 256]
def k0_off89 (k0_t1 : Fin k0_t1_loop.trips) : Fin 3 → Nat :=
  let c0_i32_254_r0 : BitVec 32 := 0#32
  let c1_i32_255_r0 : BitVec 32 := 1#32
  let arg16_r0 : BitVec 32 := Scf.iv c0_i32_254_r0 c1_i32_255_r0 k0_t1
  let v1711_r0 : Index := Scalar.indexCast arg16_r0
  let c0_839_r0 : Index := 0#32
  let c1024_840_r0 : Index := 1024#32
  ![v1711_r0.toNat, 0, 1024]
def k0_off90 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_571_r0 : BitVec 32 := 6#32
  let c0_i32_572_r0 : BitVec 32 := 0#32
  let v1049_r0 : BitVec 1 := Scalar.cmpi .eq c6_i32_571_r0 c0_i32_572_r0
  let c1_i32_573_r0 : BitVec 32 := 1#32
  let v1050_r0 : BitVec 32 := Scalar.select v1049_r0 c1_i32_573_r0 c6_i32_571_r0
  let v1051_r0 : BitVec 32 := Scalar.remsi v253_r0 v1050_r0
  let c0_i32_575_r0 : BitVec 32 := 0#32
  let v1053_r0 : BitVec 1 := Scalar.cmpi .slt v1051_r0 c0_i32_575_r0
  let c0_i32_576_r0 : BitVec 32 := 0#32
  let v1054_r0 : BitVec 1 := Scalar.cmpi .slt v1050_r0 c0_i32_576_r0
  let v1055_r0 : BitVec 1 := Scalar.xori v1053_r0 v1054_r0
  let c0_i32_574_r0 : BitVec 32 := 0#32
  let v1052_r0 : BitVec 1 := Scalar.cmpi .ne v1051_r0 c0_i32_574_r0
  let v1056_r0 : BitVec 1 := Scalar.andi v1055_r0 v1052_r0
  let v1057_r0 : BitVec 32 := Scalar.addi v1051_r0 v1050_r0
  let v1058_r0 : BitVec 32 := Scalar.select v1056_r0 v1057_r0 v1051_r0
  let v1714_r0 : Index := Scalar.indexCast v1058_r0
  let c0_841_r0 : Index := 0#32
  let c512_842_r0 : Index := 512#32
  let c0_843_r0 : Index := 0#32
  ![v1714_r0.toNat, 0, 512, 0]
def k0_off91 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_571_r0 : BitVec 32 := 6#32
  let c0_i32_572_r0 : BitVec 32 := 0#32
  let v1049_r0 : BitVec 1 := Scalar.cmpi .eq c6_i32_571_r0 c0_i32_572_r0
  let c1_i32_573_r0 : BitVec 32 := 1#32
  let v1050_r0 : BitVec 32 := Scalar.select v1049_r0 c1_i32_573_r0 c6_i32_571_r0
  let v1051_r0 : BitVec 32 := Scalar.remsi v253_r0 v1050_r0
  let c0_i32_575_r0 : BitVec 32 := 0#32
  let v1053_r0 : BitVec 1 := Scalar.cmpi .slt v1051_r0 c0_i32_575_r0
  let c0_i32_576_r0 : BitVec 32 := 0#32
  let v1054_r0 : BitVec 1 := Scalar.cmpi .slt v1050_r0 c0_i32_576_r0
  let v1055_r0 : BitVec 1 := Scalar.xori v1053_r0 v1054_r0
  let c0_i32_574_r0 : BitVec 32 := 0#32
  let v1052_r0 : BitVec 1 := Scalar.cmpi .ne v1051_r0 c0_i32_574_r0
  let v1056_r0 : BitVec 1 := Scalar.andi v1055_r0 v1052_r0
  let v1057_r0 : BitVec 32 := Scalar.addi v1051_r0 v1050_r0
  let v1058_r0 : BitVec 32 := Scalar.select v1056_r0 v1057_r0 v1051_r0
  let v1754_r0 : Index := Scalar.indexCast v1058_r0
  let c1_857_r0 : Index := 1#32
  let c512_858_r0 : Index := 512#32
  let c0_859_r0 : Index := 0#32
  ![v1754_r0.toNat, 1, 512, 0]
def k0_off92 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_571_r0 : BitVec 32 := 6#32
  let c0_i32_572_r0 : BitVec 32 := 0#32
  let v1049_r0 : BitVec 1 := Scalar.cmpi .eq c6_i32_571_r0 c0_i32_572_r0
  let c1_i32_573_r0 : BitVec 32 := 1#32
  let v1050_r0 : BitVec 32 := Scalar.select v1049_r0 c1_i32_573_r0 c6_i32_571_r0
  let v1051_r0 : BitVec 32 := Scalar.remsi v253_r0 v1050_r0
  let c0_i32_575_r0 : BitVec 32 := 0#32
  let v1053_r0 : BitVec 1 := Scalar.cmpi .slt v1051_r0 c0_i32_575_r0
  let c0_i32_576_r0 : BitVec 32 := 0#32
  let v1054_r0 : BitVec 1 := Scalar.cmpi .slt v1050_r0 c0_i32_576_r0
  let v1055_r0 : BitVec 1 := Scalar.xori v1053_r0 v1054_r0
  let c0_i32_574_r0 : BitVec 32 := 0#32
  let v1052_r0 : BitVec 1 := Scalar.cmpi .ne v1051_r0 c0_i32_574_r0
  let v1056_r0 : BitVec 1 := Scalar.andi v1055_r0 v1052_r0
  let v1057_r0 : BitVec 32 := Scalar.addi v1051_r0 v1050_r0
  let v1058_r0 : BitVec 32 := Scalar.select v1056_r0 v1057_r0 v1051_r0
  let v1794_r0 : Index := Scalar.indexCast v1058_r0
  let c0_873_r0 : Index := 0#32
  let c512_874_r0 : Index := 512#32
  let c256_875_r0 : Index := 256#32
  ![v1794_r0.toNat, 0, 512, 256]
def k0_off93 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_571_r0 : BitVec 32 := 6#32
  let c0_i32_572_r0 : BitVec 32 := 0#32
  let v1049_r0 : BitVec 1 := Scalar.cmpi .eq c6_i32_571_r0 c0_i32_572_r0
  let c1_i32_573_r0 : BitVec 32 := 1#32
  let v1050_r0 : BitVec 32 := Scalar.select v1049_r0 c1_i32_573_r0 c6_i32_571_r0
  let v1051_r0 : BitVec 32 := Scalar.remsi v253_r0 v1050_r0
  let c0_i32_575_r0 : BitVec 32 := 0#32
  let v1053_r0 : BitVec 1 := Scalar.cmpi .slt v1051_r0 c0_i32_575_r0
  let c0_i32_576_r0 : BitVec 32 := 0#32
  let v1054_r0 : BitVec 1 := Scalar.cmpi .slt v1050_r0 c0_i32_576_r0
  let v1055_r0 : BitVec 1 := Scalar.xori v1053_r0 v1054_r0
  let c0_i32_574_r0 : BitVec 32 := 0#32
  let v1052_r0 : BitVec 1 := Scalar.cmpi .ne v1051_r0 c0_i32_574_r0
  let v1056_r0 : BitVec 1 := Scalar.andi v1055_r0 v1052_r0
  let v1057_r0 : BitVec 32 := Scalar.addi v1051_r0 v1050_r0
  let v1058_r0 : BitVec 32 := Scalar.select v1056_r0 v1057_r0 v1051_r0
  let v1834_r0 : Index := Scalar.indexCast v1058_r0
  let c1_889_r0 : Index := 1#32
  let c512_890_r0 : Index := 512#32
  let c256_891_r0 : Index := 256#32
  ![v1834_r0.toNat, 1, 512, 256]
def k0_off94 (k0_t1 : Fin k0_t1_loop.trips) : Fin 3 → Nat :=
  let c0_i32_254_r0 : BitVec 32 := 0#32
  let c1_i32_255_r0 : BitVec 32 := 1#32
  let arg16_r0 : BitVec 32 := Scf.iv c0_i32_254_r0 c1_i32_255_r0 k0_t1
  let v1874_r0 : Index := Scalar.indexCast arg16_r0
  let c0_905_r0 : Index := 0#32
  let c1280_906_r0 : Index := 1280#32
  ![v1874_r0.toNat, 0, 1280]
def k0_off95 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_571_r0 : BitVec 32 := 6#32
  let c0_i32_572_r0 : BitVec 32 := 0#32
  let v1049_r0 : BitVec 1 := Scalar.cmpi .eq c6_i32_571_r0 c0_i32_572_r0
  let c1_i32_573_r0 : BitVec 32 := 1#32
  let v1050_r0 : BitVec 32 := Scalar.select v1049_r0 c1_i32_573_r0 c6_i32_571_r0
  let v1051_r0 : BitVec 32 := Scalar.remsi v253_r0 v1050_r0
  let c0_i32_575_r0 : BitVec 32 := 0#32
  let v1053_r0 : BitVec 1 := Scalar.cmpi .slt v1051_r0 c0_i32_575_r0
  let c0_i32_576_r0 : BitVec 32 := 0#32
  let v1054_r0 : BitVec 1 := Scalar.cmpi .slt v1050_r0 c0_i32_576_r0
  let v1055_r0 : BitVec 1 := Scalar.xori v1053_r0 v1054_r0
  let c0_i32_574_r0 : BitVec 32 := 0#32
  let v1052_r0 : BitVec 1 := Scalar.cmpi .ne v1051_r0 c0_i32_574_r0
  let v1056_r0 : BitVec 1 := Scalar.andi v1055_r0 v1052_r0
  let v1057_r0 : BitVec 32 := Scalar.addi v1051_r0 v1050_r0
  let v1058_r0 : BitVec 32 := Scalar.select v1056_r0 v1057_r0 v1051_r0
  let v1877_r0 : Index := Scalar.indexCast v1058_r0
  let c0_907_r0 : Index := 0#32
  let c640_908_r0 : Index := 640#32
  let c0_909_r0 : Index := 0#32
  ![v1877_r0.toNat, 0, 640, 0]
def k0_off96 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_571_r0 : BitVec 32 := 6#32
  let c0_i32_572_r0 : BitVec 32 := 0#32
  let v1049_r0 : BitVec 1 := Scalar.cmpi .eq c6_i32_571_r0 c0_i32_572_r0
  let c1_i32_573_r0 : BitVec 32 := 1#32
  let v1050_r0 : BitVec 32 := Scalar.select v1049_r0 c1_i32_573_r0 c6_i32_571_r0
  let v1051_r0 : BitVec 32 := Scalar.remsi v253_r0 v1050_r0
  let c0_i32_575_r0 : BitVec 32 := 0#32
  let v1053_r0 : BitVec 1 := Scalar.cmpi .slt v1051_r0 c0_i32_575_r0
  let c0_i32_576_r0 : BitVec 32 := 0#32
  let v1054_r0 : BitVec 1 := Scalar.cmpi .slt v1050_r0 c0_i32_576_r0
  let v1055_r0 : BitVec 1 := Scalar.xori v1053_r0 v1054_r0
  let c0_i32_574_r0 : BitVec 32 := 0#32
  let v1052_r0 : BitVec 1 := Scalar.cmpi .ne v1051_r0 c0_i32_574_r0
  let v1056_r0 : BitVec 1 := Scalar.andi v1055_r0 v1052_r0
  let v1057_r0 : BitVec 32 := Scalar.addi v1051_r0 v1050_r0
  let v1058_r0 : BitVec 32 := Scalar.select v1056_r0 v1057_r0 v1051_r0
  let v1917_r0 : Index := Scalar.indexCast v1058_r0
  let c1_923_r0 : Index := 1#32
  let c640_924_r0 : Index := 640#32
  let c0_925_r0 : Index := 0#32
  ![v1917_r0.toNat, 1, 640, 0]
def k0_off97 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_571_r0 : BitVec 32 := 6#32
  let c0_i32_572_r0 : BitVec 32 := 0#32
  let v1049_r0 : BitVec 1 := Scalar.cmpi .eq c6_i32_571_r0 c0_i32_572_r0
  let c1_i32_573_r0 : BitVec 32 := 1#32
  let v1050_r0 : BitVec 32 := Scalar.select v1049_r0 c1_i32_573_r0 c6_i32_571_r0
  let v1051_r0 : BitVec 32 := Scalar.remsi v253_r0 v1050_r0
  let c0_i32_575_r0 : BitVec 32 := 0#32
  let v1053_r0 : BitVec 1 := Scalar.cmpi .slt v1051_r0 c0_i32_575_r0
  let c0_i32_576_r0 : BitVec 32 := 0#32
  let v1054_r0 : BitVec 1 := Scalar.cmpi .slt v1050_r0 c0_i32_576_r0
  let v1055_r0 : BitVec 1 := Scalar.xori v1053_r0 v1054_r0
  let c0_i32_574_r0 : BitVec 32 := 0#32
  let v1052_r0 : BitVec 1 := Scalar.cmpi .ne v1051_r0 c0_i32_574_r0
  let v1056_r0 : BitVec 1 := Scalar.andi v1055_r0 v1052_r0
  let v1057_r0 : BitVec 32 := Scalar.addi v1051_r0 v1050_r0
  let v1058_r0 : BitVec 32 := Scalar.select v1056_r0 v1057_r0 v1051_r0
  let v1957_r0 : Index := Scalar.indexCast v1058_r0
  let c0_939_r0 : Index := 0#32
  let c640_940_r0 : Index := 640#32
  let c256_941_r0 : Index := 256#32
  ![v1957_r0.toNat, 0, 640, 256]
def k0_off98 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_571_r0 : BitVec 32 := 6#32
  let c0_i32_572_r0 : BitVec 32 := 0#32
  let v1049_r0 : BitVec 1 := Scalar.cmpi .eq c6_i32_571_r0 c0_i32_572_r0
  let c1_i32_573_r0 : BitVec 32 := 1#32
  let v1050_r0 : BitVec 32 := Scalar.select v1049_r0 c1_i32_573_r0 c6_i32_571_r0
  let v1051_r0 : BitVec 32 := Scalar.remsi v253_r0 v1050_r0
  let c0_i32_575_r0 : BitVec 32 := 0#32
  let v1053_r0 : BitVec 1 := Scalar.cmpi .slt v1051_r0 c0_i32_575_r0
  let c0_i32_576_r0 : BitVec 32 := 0#32
  let v1054_r0 : BitVec 1 := Scalar.cmpi .slt v1050_r0 c0_i32_576_r0
  let v1055_r0 : BitVec 1 := Scalar.xori v1053_r0 v1054_r0
  let c0_i32_574_r0 : BitVec 32 := 0#32
  let v1052_r0 : BitVec 1 := Scalar.cmpi .ne v1051_r0 c0_i32_574_r0
  let v1056_r0 : BitVec 1 := Scalar.andi v1055_r0 v1052_r0
  let v1057_r0 : BitVec 32 := Scalar.addi v1051_r0 v1050_r0
  let v1058_r0 : BitVec 32 := Scalar.select v1056_r0 v1057_r0 v1051_r0
  let v1997_r0 : Index := Scalar.indexCast v1058_r0
  let c1_955_r0 : Index := 1#32
  let c640_956_r0 : Index := 640#32
  let c256_957_r0 : Index := 256#32
  ![v1997_r0.toNat, 1, 640, 256]
def k0_off99 (k0_t1 : Fin k0_t1_loop.trips) : Fin 3 → Nat :=
  let c0_i32_254_r0 : BitVec 32 := 0#32
  let c1_i32_255_r0 : BitVec 32 := 1#32
  let arg16_r0 : BitVec 32 := Scf.iv c0_i32_254_r0 c1_i32_255_r0 k0_t1
  let v2037_r0 : Index := Scalar.indexCast arg16_r0
  let c0_971_r0 : Index := 0#32
  let c1536_972_r0 : Index := 1536#32
  ![v2037_r0.toNat, 0, 1536]
def k0_off100 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_571_r0 : BitVec 32 := 6#32
  let c0_i32_572_r0 : BitVec 32 := 0#32
  let v1049_r0 : BitVec 1 := Scalar.cmpi .eq c6_i32_571_r0 c0_i32_572_r0
  let c1_i32_573_r0 : BitVec 32 := 1#32
  let v1050_r0 : BitVec 32 := Scalar.select v1049_r0 c1_i32_573_r0 c6_i32_571_r0
  let v1051_r0 : BitVec 32 := Scalar.remsi v253_r0 v1050_r0
  let c0_i32_575_r0 : BitVec 32 := 0#32
  let v1053_r0 : BitVec 1 := Scalar.cmpi .slt v1051_r0 c0_i32_575_r0
  let c0_i32_576_r0 : BitVec 32 := 0#32
  let v1054_r0 : BitVec 1 := Scalar.cmpi .slt v1050_r0 c0_i32_576_r0
  let v1055_r0 : BitVec 1 := Scalar.xori v1053_r0 v1054_r0
  let c0_i32_574_r0 : BitVec 32 := 0#32
  let v1052_r0 : BitVec 1 := Scalar.cmpi .ne v1051_r0 c0_i32_574_r0
  let v1056_r0 : BitVec 1 := Scalar.andi v1055_r0 v1052_r0
  let v1057_r0 : BitVec 32 := Scalar.addi v1051_r0 v1050_r0
  let v1058_r0 : BitVec 32 := Scalar.select v1056_r0 v1057_r0 v1051_r0
  let v2040_r0 : Index := Scalar.indexCast v1058_r0
  let c0_973_r0 : Index := 0#32
  let c768_974_r0 : Index := 768#32
  let c0_975_r0 : Index := 0#32
  ![v2040_r0.toNat, 0, 768, 0]
def k0_off101 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_571_r0 : BitVec 32 := 6#32
  let c0_i32_572_r0 : BitVec 32 := 0#32
  let v1049_r0 : BitVec 1 := Scalar.cmpi .eq c6_i32_571_r0 c0_i32_572_r0
  let c1_i32_573_r0 : BitVec 32 := 1#32
  let v1050_r0 : BitVec 32 := Scalar.select v1049_r0 c1_i32_573_r0 c6_i32_571_r0
  let v1051_r0 : BitVec 32 := Scalar.remsi v253_r0 v1050_r0
  let c0_i32_575_r0 : BitVec 32 := 0#32
  let v1053_r0 : BitVec 1 := Scalar.cmpi .slt v1051_r0 c0_i32_575_r0
  let c0_i32_576_r0 : BitVec 32 := 0#32
  let v1054_r0 : BitVec 1 := Scalar.cmpi .slt v1050_r0 c0_i32_576_r0
  let v1055_r0 : BitVec 1 := Scalar.xori v1053_r0 v1054_r0
  let c0_i32_574_r0 : BitVec 32 := 0#32
  let v1052_r0 : BitVec 1 := Scalar.cmpi .ne v1051_r0 c0_i32_574_r0
  let v1056_r0 : BitVec 1 := Scalar.andi v1055_r0 v1052_r0
  let v1057_r0 : BitVec 32 := Scalar.addi v1051_r0 v1050_r0
  let v1058_r0 : BitVec 32 := Scalar.select v1056_r0 v1057_r0 v1051_r0
  let v2080_r0 : Index := Scalar.indexCast v1058_r0
  let c1_989_r0 : Index := 1#32
  let c768_990_r0 : Index := 768#32
  let c0_991_r0 : Index := 0#32
  ![v2080_r0.toNat, 1, 768, 0]
def k0_off102 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_571_r0 : BitVec 32 := 6#32
  let c0_i32_572_r0 : BitVec 32 := 0#32
  let v1049_r0 : BitVec 1 := Scalar.cmpi .eq c6_i32_571_r0 c0_i32_572_r0
  let c1_i32_573_r0 : BitVec 32 := 1#32
  let v1050_r0 : BitVec 32 := Scalar.select v1049_r0 c1_i32_573_r0 c6_i32_571_r0
  let v1051_r0 : BitVec 32 := Scalar.remsi v253_r0 v1050_r0
  let c0_i32_575_r0 : BitVec 32 := 0#32
  let v1053_r0 : BitVec 1 := Scalar.cmpi .slt v1051_r0 c0_i32_575_r0
  let c0_i32_576_r0 : BitVec 32 := 0#32
  let v1054_r0 : BitVec 1 := Scalar.cmpi .slt v1050_r0 c0_i32_576_r0
  let v1055_r0 : BitVec 1 := Scalar.xori v1053_r0 v1054_r0
  let c0_i32_574_r0 : BitVec 32 := 0#32
  let v1052_r0 : BitVec 1 := Scalar.cmpi .ne v1051_r0 c0_i32_574_r0
  let v1056_r0 : BitVec 1 := Scalar.andi v1055_r0 v1052_r0
  let v1057_r0 : BitVec 32 := Scalar.addi v1051_r0 v1050_r0
  let v1058_r0 : BitVec 32 := Scalar.select v1056_r0 v1057_r0 v1051_r0
  let v2120_r0 : Index := Scalar.indexCast v1058_r0
  let c0_1005_r0 : Index := 0#32
  let c768_1006_r0 : Index := 768#32
  let c256_1007_r0 : Index := 256#32
  ![v2120_r0.toNat, 0, 768, 256]
def k0_off103 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_571_r0 : BitVec 32 := 6#32
  let c0_i32_572_r0 : BitVec 32 := 0#32
  let v1049_r0 : BitVec 1 := Scalar.cmpi .eq c6_i32_571_r0 c0_i32_572_r0
  let c1_i32_573_r0 : BitVec 32 := 1#32
  let v1050_r0 : BitVec 32 := Scalar.select v1049_r0 c1_i32_573_r0 c6_i32_571_r0
  let v1051_r0 : BitVec 32 := Scalar.remsi v253_r0 v1050_r0
  let c0_i32_575_r0 : BitVec 32 := 0#32
  let v1053_r0 : BitVec 1 := Scalar.cmpi .slt v1051_r0 c0_i32_575_r0
  let c0_i32_576_r0 : BitVec 32 := 0#32
  let v1054_r0 : BitVec 1 := Scalar.cmpi .slt v1050_r0 c0_i32_576_r0
  let v1055_r0 : BitVec 1 := Scalar.xori v1053_r0 v1054_r0
  let c0_i32_574_r0 : BitVec 32 := 0#32
  let v1052_r0 : BitVec 1 := Scalar.cmpi .ne v1051_r0 c0_i32_574_r0
  let v1056_r0 : BitVec 1 := Scalar.andi v1055_r0 v1052_r0
  let v1057_r0 : BitVec 32 := Scalar.addi v1051_r0 v1050_r0
  let v1058_r0 : BitVec 32 := Scalar.select v1056_r0 v1057_r0 v1051_r0
  let v2160_r0 : Index := Scalar.indexCast v1058_r0
  let c1_1021_r0 : Index := 1#32
  let c768_1022_r0 : Index := 768#32
  let c256_1023_r0 : Index := 256#32
  ![v2160_r0.toNat, 1, 768, 256]
def k0_off104 (k0_t1 : Fin k0_t1_loop.trips) : Fin 3 → Nat :=
  let c0_i32_254_r0 : BitVec 32 := 0#32
  let c1_i32_255_r0 : BitVec 32 := 1#32
  let arg16_r0 : BitVec 32 := Scf.iv c0_i32_254_r0 c1_i32_255_r0 k0_t1
  let v2200_r0 : Index := Scalar.indexCast arg16_r0
  let c0_1037_r0 : Index := 0#32
  let c1792_1038_r0 : Index := 1792#32
  ![v2200_r0.toNat, 0, 1792]
def k0_off105 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_571_r0 : BitVec 32 := 6#32
  let c0_i32_572_r0 : BitVec 32 := 0#32
  let v1049_r0 : BitVec 1 := Scalar.cmpi .eq c6_i32_571_r0 c0_i32_572_r0
  let c1_i32_573_r0 : BitVec 32 := 1#32
  let v1050_r0 : BitVec 32 := Scalar.select v1049_r0 c1_i32_573_r0 c6_i32_571_r0
  let v1051_r0 : BitVec 32 := Scalar.remsi v253_r0 v1050_r0
  let c0_i32_575_r0 : BitVec 32 := 0#32
  let v1053_r0 : BitVec 1 := Scalar.cmpi .slt v1051_r0 c0_i32_575_r0
  let c0_i32_576_r0 : BitVec 32 := 0#32
  let v1054_r0 : BitVec 1 := Scalar.cmpi .slt v1050_r0 c0_i32_576_r0
  let v1055_r0 : BitVec 1 := Scalar.xori v1053_r0 v1054_r0
  let c0_i32_574_r0 : BitVec 32 := 0#32
  let v1052_r0 : BitVec 1 := Scalar.cmpi .ne v1051_r0 c0_i32_574_r0
  let v1056_r0 : BitVec 1 := Scalar.andi v1055_r0 v1052_r0
  let v1057_r0 : BitVec 32 := Scalar.addi v1051_r0 v1050_r0
  let v1058_r0 : BitVec 32 := Scalar.select v1056_r0 v1057_r0 v1051_r0
  let v2203_r0 : Index := Scalar.indexCast v1058_r0
  let c0_1039_r0 : Index := 0#32
  let c896_1040_r0 : Index := 896#32
  let c0_1041_r0 : Index := 0#32
  ![v2203_r0.toNat, 0, 896, 0]
def k0_off106 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_571_r0 : BitVec 32 := 6#32
  let c0_i32_572_r0 : BitVec 32 := 0#32
  let v1049_r0 : BitVec 1 := Scalar.cmpi .eq c6_i32_571_r0 c0_i32_572_r0
  let c1_i32_573_r0 : BitVec 32 := 1#32
  let v1050_r0 : BitVec 32 := Scalar.select v1049_r0 c1_i32_573_r0 c6_i32_571_r0
  let v1051_r0 : BitVec 32 := Scalar.remsi v253_r0 v1050_r0
  let c0_i32_575_r0 : BitVec 32 := 0#32
  let v1053_r0 : BitVec 1 := Scalar.cmpi .slt v1051_r0 c0_i32_575_r0
  let c0_i32_576_r0 : BitVec 32 := 0#32
  let v1054_r0 : BitVec 1 := Scalar.cmpi .slt v1050_r0 c0_i32_576_r0
  let v1055_r0 : BitVec 1 := Scalar.xori v1053_r0 v1054_r0
  let c0_i32_574_r0 : BitVec 32 := 0#32
  let v1052_r0 : BitVec 1 := Scalar.cmpi .ne v1051_r0 c0_i32_574_r0
  let v1056_r0 : BitVec 1 := Scalar.andi v1055_r0 v1052_r0
  let v1057_r0 : BitVec 32 := Scalar.addi v1051_r0 v1050_r0
  let v1058_r0 : BitVec 32 := Scalar.select v1056_r0 v1057_r0 v1051_r0
  let v2243_r0 : Index := Scalar.indexCast v1058_r0
  let c1_1055_r0 : Index := 1#32
  let c896_1056_r0 : Index := 896#32
  let c0_1057_r0 : Index := 0#32
  ![v2243_r0.toNat, 1, 896, 0]
def k0_off107 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_571_r0 : BitVec 32 := 6#32
  let c0_i32_572_r0 : BitVec 32 := 0#32
  let v1049_r0 : BitVec 1 := Scalar.cmpi .eq c6_i32_571_r0 c0_i32_572_r0
  let c1_i32_573_r0 : BitVec 32 := 1#32
  let v1050_r0 : BitVec 32 := Scalar.select v1049_r0 c1_i32_573_r0 c6_i32_571_r0
  let v1051_r0 : BitVec 32 := Scalar.remsi v253_r0 v1050_r0
  let c0_i32_575_r0 : BitVec 32 := 0#32
  let v1053_r0 : BitVec 1 := Scalar.cmpi .slt v1051_r0 c0_i32_575_r0
  let c0_i32_576_r0 : BitVec 32 := 0#32
  let v1054_r0 : BitVec 1 := Scalar.cmpi .slt v1050_r0 c0_i32_576_r0
  let v1055_r0 : BitVec 1 := Scalar.xori v1053_r0 v1054_r0
  let c0_i32_574_r0 : BitVec 32 := 0#32
  let v1052_r0 : BitVec 1 := Scalar.cmpi .ne v1051_r0 c0_i32_574_r0
  let v1056_r0 : BitVec 1 := Scalar.andi v1055_r0 v1052_r0
  let v1057_r0 : BitVec 32 := Scalar.addi v1051_r0 v1050_r0
  let v1058_r0 : BitVec 32 := Scalar.select v1056_r0 v1057_r0 v1051_r0
  let v2283_r0 : Index := Scalar.indexCast v1058_r0
  let c0_1071_r0 : Index := 0#32
  let c896_1072_r0 : Index := 896#32
  let c256_1073_r0 : Index := 256#32
  ![v2283_r0.toNat, 0, 896, 256]
def k0_off108 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_571_r0 : BitVec 32 := 6#32
  let c0_i32_572_r0 : BitVec 32 := 0#32
  let v1049_r0 : BitVec 1 := Scalar.cmpi .eq c6_i32_571_r0 c0_i32_572_r0
  let c1_i32_573_r0 : BitVec 32 := 1#32
  let v1050_r0 : BitVec 32 := Scalar.select v1049_r0 c1_i32_573_r0 c6_i32_571_r0
  let v1051_r0 : BitVec 32 := Scalar.remsi v253_r0 v1050_r0
  let c0_i32_575_r0 : BitVec 32 := 0#32
  let v1053_r0 : BitVec 1 := Scalar.cmpi .slt v1051_r0 c0_i32_575_r0
  let c0_i32_576_r0 : BitVec 32 := 0#32
  let v1054_r0 : BitVec 1 := Scalar.cmpi .slt v1050_r0 c0_i32_576_r0
  let v1055_r0 : BitVec 1 := Scalar.xori v1053_r0 v1054_r0
  let c0_i32_574_r0 : BitVec 32 := 0#32
  let v1052_r0 : BitVec 1 := Scalar.cmpi .ne v1051_r0 c0_i32_574_r0
  let v1056_r0 : BitVec 1 := Scalar.andi v1055_r0 v1052_r0
  let v1057_r0 : BitVec 32 := Scalar.addi v1051_r0 v1050_r0
  let v1058_r0 : BitVec 32 := Scalar.select v1056_r0 v1057_r0 v1051_r0
  let v2323_r0 : Index := Scalar.indexCast v1058_r0
  let c1_1087_r0 : Index := 1#32
  let c896_1088_r0 : Index := 896#32
  let c256_1089_r0 : Index := 256#32
  ![v2323_r0.toNat, 1, 896, 256]
def k0_off109 (k0_t1 : Fin k0_t1_loop.trips) : Fin 3 → Nat :=
  let c0_i32_254_r0 : BitVec 32 := 0#32
  let c1_i32_255_r0 : BitVec 32 := 1#32
  let arg16_r0 : BitVec 32 := Scf.iv c0_i32_254_r0 c1_i32_255_r0 k0_t1
  let v2363_r0 : Index := Scalar.indexCast arg16_r0
  let c0_1103_r0 : Index := 0#32
  let c2048_1104_r0 : Index := 2048#32
  ![v2363_r0.toNat, 0, 2048]
def k0_off110 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_571_r0 : BitVec 32 := 6#32
  let c0_i32_572_r0 : BitVec 32 := 0#32
  let v1049_r0 : BitVec 1 := Scalar.cmpi .eq c6_i32_571_r0 c0_i32_572_r0
  let c1_i32_573_r0 : BitVec 32 := 1#32
  let v1050_r0 : BitVec 32 := Scalar.select v1049_r0 c1_i32_573_r0 c6_i32_571_r0
  let v1051_r0 : BitVec 32 := Scalar.remsi v253_r0 v1050_r0
  let c0_i32_575_r0 : BitVec 32 := 0#32
  let v1053_r0 : BitVec 1 := Scalar.cmpi .slt v1051_r0 c0_i32_575_r0
  let c0_i32_576_r0 : BitVec 32 := 0#32
  let v1054_r0 : BitVec 1 := Scalar.cmpi .slt v1050_r0 c0_i32_576_r0
  let v1055_r0 : BitVec 1 := Scalar.xori v1053_r0 v1054_r0
  let c0_i32_574_r0 : BitVec 32 := 0#32
  let v1052_r0 : BitVec 1 := Scalar.cmpi .ne v1051_r0 c0_i32_574_r0
  let v1056_r0 : BitVec 1 := Scalar.andi v1055_r0 v1052_r0
  let v1057_r0 : BitVec 32 := Scalar.addi v1051_r0 v1050_r0
  let v1058_r0 : BitVec 32 := Scalar.select v1056_r0 v1057_r0 v1051_r0
  let v2366_r0 : Index := Scalar.indexCast v1058_r0
  let c0_1105_r0 : Index := 0#32
  let c1024_1106_r0 : Index := 1024#32
  let c0_1107_r0 : Index := 0#32
  ![v2366_r0.toNat, 0, 1024, 0]
def k0_off111 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_571_r0 : BitVec 32 := 6#32
  let c0_i32_572_r0 : BitVec 32 := 0#32
  let v1049_r0 : BitVec 1 := Scalar.cmpi .eq c6_i32_571_r0 c0_i32_572_r0
  let c1_i32_573_r0 : BitVec 32 := 1#32
  let v1050_r0 : BitVec 32 := Scalar.select v1049_r0 c1_i32_573_r0 c6_i32_571_r0
  let v1051_r0 : BitVec 32 := Scalar.remsi v253_r0 v1050_r0
  let c0_i32_575_r0 : BitVec 32 := 0#32
  let v1053_r0 : BitVec 1 := Scalar.cmpi .slt v1051_r0 c0_i32_575_r0
  let c0_i32_576_r0 : BitVec 32 := 0#32
  let v1054_r0 : BitVec 1 := Scalar.cmpi .slt v1050_r0 c0_i32_576_r0
  let v1055_r0 : BitVec 1 := Scalar.xori v1053_r0 v1054_r0
  let c0_i32_574_r0 : BitVec 32 := 0#32
  let v1052_r0 : BitVec 1 := Scalar.cmpi .ne v1051_r0 c0_i32_574_r0
  let v1056_r0 : BitVec 1 := Scalar.andi v1055_r0 v1052_r0
  let v1057_r0 : BitVec 32 := Scalar.addi v1051_r0 v1050_r0
  let v1058_r0 : BitVec 32 := Scalar.select v1056_r0 v1057_r0 v1051_r0
  let v2406_r0 : Index := Scalar.indexCast v1058_r0
  let c1_1121_r0 : Index := 1#32
  let c1024_1122_r0 : Index := 1024#32
  let c0_1123_r0 : Index := 0#32
  ![v2406_r0.toNat, 1, 1024, 0]
def k0_off112 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_571_r0 : BitVec 32 := 6#32
  let c0_i32_572_r0 : BitVec 32 := 0#32
  let v1049_r0 : BitVec 1 := Scalar.cmpi .eq c6_i32_571_r0 c0_i32_572_r0
  let c1_i32_573_r0 : BitVec 32 := 1#32
  let v1050_r0 : BitVec 32 := Scalar.select v1049_r0 c1_i32_573_r0 c6_i32_571_r0
  let v1051_r0 : BitVec 32 := Scalar.remsi v253_r0 v1050_r0
  let c0_i32_575_r0 : BitVec 32 := 0#32
  let v1053_r0 : BitVec 1 := Scalar.cmpi .slt v1051_r0 c0_i32_575_r0
  let c0_i32_576_r0 : BitVec 32 := 0#32
  let v1054_r0 : BitVec 1 := Scalar.cmpi .slt v1050_r0 c0_i32_576_r0
  let v1055_r0 : BitVec 1 := Scalar.xori v1053_r0 v1054_r0
  let c0_i32_574_r0 : BitVec 32 := 0#32
  let v1052_r0 : BitVec 1 := Scalar.cmpi .ne v1051_r0 c0_i32_574_r0
  let v1056_r0 : BitVec 1 := Scalar.andi v1055_r0 v1052_r0
  let v1057_r0 : BitVec 32 := Scalar.addi v1051_r0 v1050_r0
  let v1058_r0 : BitVec 32 := Scalar.select v1056_r0 v1057_r0 v1051_r0
  let v2446_r0 : Index := Scalar.indexCast v1058_r0
  let c0_1137_r0 : Index := 0#32
  let c1024_1138_r0 : Index := 1024#32
  let c256_1139_r0 : Index := 256#32
  ![v2446_r0.toNat, 0, 1024, 256]
def k0_off113 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_571_r0 : BitVec 32 := 6#32
  let c0_i32_572_r0 : BitVec 32 := 0#32
  let v1049_r0 : BitVec 1 := Scalar.cmpi .eq c6_i32_571_r0 c0_i32_572_r0
  let c1_i32_573_r0 : BitVec 32 := 1#32
  let v1050_r0 : BitVec 32 := Scalar.select v1049_r0 c1_i32_573_r0 c6_i32_571_r0
  let v1051_r0 : BitVec 32 := Scalar.remsi v253_r0 v1050_r0
  let c0_i32_575_r0 : BitVec 32 := 0#32
  let v1053_r0 : BitVec 1 := Scalar.cmpi .slt v1051_r0 c0_i32_575_r0
  let c0_i32_576_r0 : BitVec 32 := 0#32
  let v1054_r0 : BitVec 1 := Scalar.cmpi .slt v1050_r0 c0_i32_576_r0
  let v1055_r0 : BitVec 1 := Scalar.xori v1053_r0 v1054_r0
  let c0_i32_574_r0 : BitVec 32 := 0#32
  let v1052_r0 : BitVec 1 := Scalar.cmpi .ne v1051_r0 c0_i32_574_r0
  let v1056_r0 : BitVec 1 := Scalar.andi v1055_r0 v1052_r0
  let v1057_r0 : BitVec 32 := Scalar.addi v1051_r0 v1050_r0
  let v1058_r0 : BitVec 32 := Scalar.select v1056_r0 v1057_r0 v1051_r0
  let v2486_r0 : Index := Scalar.indexCast v1058_r0
  let c1_1153_r0 : Index := 1#32
  let c1024_1154_r0 : Index := 1024#32
  let c256_1155_r0 : Index := 256#32
  ![v2486_r0.toNat, 1, 1024, 256]
def k0_off114 (k0_t1 : Fin k0_t1_loop.trips) : Fin 3 → Nat :=
  let c0_i32_254_r0 : BitVec 32 := 0#32
  let c1_i32_255_r0 : BitVec 32 := 1#32
  let arg16_r0 : BitVec 32 := Scf.iv c0_i32_254_r0 c1_i32_255_r0 k0_t1
  let v2526_r0 : Index := Scalar.indexCast arg16_r0
  let c0_1169_r0 : Index := 0#32
  let c2304_1170_r0 : Index := 2304#32
  ![v2526_r0.toNat, 0, 2304]
def k0_off115 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_571_r0 : BitVec 32 := 6#32
  let c0_i32_572_r0 : BitVec 32 := 0#32
  let v1049_r0 : BitVec 1 := Scalar.cmpi .eq c6_i32_571_r0 c0_i32_572_r0
  let c1_i32_573_r0 : BitVec 32 := 1#32
  let v1050_r0 : BitVec 32 := Scalar.select v1049_r0 c1_i32_573_r0 c6_i32_571_r0
  let v1051_r0 : BitVec 32 := Scalar.remsi v253_r0 v1050_r0
  let c0_i32_575_r0 : BitVec 32 := 0#32
  let v1053_r0 : BitVec 1 := Scalar.cmpi .slt v1051_r0 c0_i32_575_r0
  let c0_i32_576_r0 : BitVec 32 := 0#32
  let v1054_r0 : BitVec 1 := Scalar.cmpi .slt v1050_r0 c0_i32_576_r0
  let v1055_r0 : BitVec 1 := Scalar.xori v1053_r0 v1054_r0
  let c0_i32_574_r0 : BitVec 32 := 0#32
  let v1052_r0 : BitVec 1 := Scalar.cmpi .ne v1051_r0 c0_i32_574_r0
  let v1056_r0 : BitVec 1 := Scalar.andi v1055_r0 v1052_r0
  let v1057_r0 : BitVec 32 := Scalar.addi v1051_r0 v1050_r0
  let v1058_r0 : BitVec 32 := Scalar.select v1056_r0 v1057_r0 v1051_r0
  let v2529_r0 : Index := Scalar.indexCast v1058_r0
  let c0_1171_r0 : Index := 0#32
  let c1152_1172_r0 : Index := 1152#32
  let c0_1173_r0 : Index := 0#32
  ![v2529_r0.toNat, 0, 1152, 0]
def k0_off116 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_571_r0 : BitVec 32 := 6#32
  let c0_i32_572_r0 : BitVec 32 := 0#32
  let v1049_r0 : BitVec 1 := Scalar.cmpi .eq c6_i32_571_r0 c0_i32_572_r0
  let c1_i32_573_r0 : BitVec 32 := 1#32
  let v1050_r0 : BitVec 32 := Scalar.select v1049_r0 c1_i32_573_r0 c6_i32_571_r0
  let v1051_r0 : BitVec 32 := Scalar.remsi v253_r0 v1050_r0
  let c0_i32_575_r0 : BitVec 32 := 0#32
  let v1053_r0 : BitVec 1 := Scalar.cmpi .slt v1051_r0 c0_i32_575_r0
  let c0_i32_576_r0 : BitVec 32 := 0#32
  let v1054_r0 : BitVec 1 := Scalar.cmpi .slt v1050_r0 c0_i32_576_r0
  let v1055_r0 : BitVec 1 := Scalar.xori v1053_r0 v1054_r0
  let c0_i32_574_r0 : BitVec 32 := 0#32
  let v1052_r0 : BitVec 1 := Scalar.cmpi .ne v1051_r0 c0_i32_574_r0
  let v1056_r0 : BitVec 1 := Scalar.andi v1055_r0 v1052_r0
  let v1057_r0 : BitVec 32 := Scalar.addi v1051_r0 v1050_r0
  let v1058_r0 : BitVec 32 := Scalar.select v1056_r0 v1057_r0 v1051_r0
  let v2569_r0 : Index := Scalar.indexCast v1058_r0
  let c1_1187_r0 : Index := 1#32
  let c1152_1188_r0 : Index := 1152#32
  let c0_1189_r0 : Index := 0#32
  ![v2569_r0.toNat, 1, 1152, 0]
def k0_off117 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_571_r0 : BitVec 32 := 6#32
  let c0_i32_572_r0 : BitVec 32 := 0#32
  let v1049_r0 : BitVec 1 := Scalar.cmpi .eq c6_i32_571_r0 c0_i32_572_r0
  let c1_i32_573_r0 : BitVec 32 := 1#32
  let v1050_r0 : BitVec 32 := Scalar.select v1049_r0 c1_i32_573_r0 c6_i32_571_r0
  let v1051_r0 : BitVec 32 := Scalar.remsi v253_r0 v1050_r0
  let c0_i32_575_r0 : BitVec 32 := 0#32
  let v1053_r0 : BitVec 1 := Scalar.cmpi .slt v1051_r0 c0_i32_575_r0
  let c0_i32_576_r0 : BitVec 32 := 0#32
  let v1054_r0 : BitVec 1 := Scalar.cmpi .slt v1050_r0 c0_i32_576_r0
  let v1055_r0 : BitVec 1 := Scalar.xori v1053_r0 v1054_r0
  let c0_i32_574_r0 : BitVec 32 := 0#32
  let v1052_r0 : BitVec 1 := Scalar.cmpi .ne v1051_r0 c0_i32_574_r0
  let v1056_r0 : BitVec 1 := Scalar.andi v1055_r0 v1052_r0
  let v1057_r0 : BitVec 32 := Scalar.addi v1051_r0 v1050_r0
  let v1058_r0 : BitVec 32 := Scalar.select v1056_r0 v1057_r0 v1051_r0
  let v2609_r0 : Index := Scalar.indexCast v1058_r0
  let c0_1203_r0 : Index := 0#32
  let c1152_1204_r0 : Index := 1152#32
  let c256_1205_r0 : Index := 256#32
  ![v2609_r0.toNat, 0, 1152, 256]
def k0_off118 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_571_r0 : BitVec 32 := 6#32
  let c0_i32_572_r0 : BitVec 32 := 0#32
  let v1049_r0 : BitVec 1 := Scalar.cmpi .eq c6_i32_571_r0 c0_i32_572_r0
  let c1_i32_573_r0 : BitVec 32 := 1#32
  let v1050_r0 : BitVec 32 := Scalar.select v1049_r0 c1_i32_573_r0 c6_i32_571_r0
  let v1051_r0 : BitVec 32 := Scalar.remsi v253_r0 v1050_r0
  let c0_i32_575_r0 : BitVec 32 := 0#32
  let v1053_r0 : BitVec 1 := Scalar.cmpi .slt v1051_r0 c0_i32_575_r0
  let c0_i32_576_r0 : BitVec 32 := 0#32
  let v1054_r0 : BitVec 1 := Scalar.cmpi .slt v1050_r0 c0_i32_576_r0
  let v1055_r0 : BitVec 1 := Scalar.xori v1053_r0 v1054_r0
  let c0_i32_574_r0 : BitVec 32 := 0#32
  let v1052_r0 : BitVec 1 := Scalar.cmpi .ne v1051_r0 c0_i32_574_r0
  let v1056_r0 : BitVec 1 := Scalar.andi v1055_r0 v1052_r0
  let v1057_r0 : BitVec 32 := Scalar.addi v1051_r0 v1050_r0
  let v1058_r0 : BitVec 32 := Scalar.select v1056_r0 v1057_r0 v1051_r0
  let v2649_r0 : Index := Scalar.indexCast v1058_r0
  let c1_1219_r0 : Index := 1#32
  let c1152_1220_r0 : Index := 1152#32
  let c256_1221_r0 : Index := 256#32
  ![v2649_r0.toNat, 1, 1152, 256]
def k0_off119 (k0_t1 : Fin k0_t1_loop.trips) : Fin 3 → Nat :=
  let c0_i32_254_r0 : BitVec 32 := 0#32
  let c1_i32_255_r0 : BitVec 32 := 1#32
  let arg16_r0 : BitVec 32 := Scf.iv c0_i32_254_r0 c1_i32_255_r0 k0_t1
  let v2689_r0 : Index := Scalar.indexCast arg16_r0
  let c0_1235_r0 : Index := 0#32
  let c2560_1236_r0 : Index := 2560#32
  ![v2689_r0.toNat, 0, 2560]
def k0_off120 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_571_r0 : BitVec 32 := 6#32
  let c0_i32_572_r0 : BitVec 32 := 0#32
  let v1049_r0 : BitVec 1 := Scalar.cmpi .eq c6_i32_571_r0 c0_i32_572_r0
  let c1_i32_573_r0 : BitVec 32 := 1#32
  let v1050_r0 : BitVec 32 := Scalar.select v1049_r0 c1_i32_573_r0 c6_i32_571_r0
  let v1051_r0 : BitVec 32 := Scalar.remsi v253_r0 v1050_r0
  let c0_i32_575_r0 : BitVec 32 := 0#32
  let v1053_r0 : BitVec 1 := Scalar.cmpi .slt v1051_r0 c0_i32_575_r0
  let c0_i32_576_r0 : BitVec 32 := 0#32
  let v1054_r0 : BitVec 1 := Scalar.cmpi .slt v1050_r0 c0_i32_576_r0
  let v1055_r0 : BitVec 1 := Scalar.xori v1053_r0 v1054_r0
  let c0_i32_574_r0 : BitVec 32 := 0#32
  let v1052_r0 : BitVec 1 := Scalar.cmpi .ne v1051_r0 c0_i32_574_r0
  let v1056_r0 : BitVec 1 := Scalar.andi v1055_r0 v1052_r0
  let v1057_r0 : BitVec 32 := Scalar.addi v1051_r0 v1050_r0
  let v1058_r0 : BitVec 32 := Scalar.select v1056_r0 v1057_r0 v1051_r0
  let v2692_r0 : Index := Scalar.indexCast v1058_r0
  let c0_1237_r0 : Index := 0#32
  let c1280_1238_r0 : Index := 1280#32
  let c0_1239_r0 : Index := 0#32
  ![v2692_r0.toNat, 0, 1280, 0]
def k0_off121 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_571_r0 : BitVec 32 := 6#32
  let c0_i32_572_r0 : BitVec 32 := 0#32
  let v1049_r0 : BitVec 1 := Scalar.cmpi .eq c6_i32_571_r0 c0_i32_572_r0
  let c1_i32_573_r0 : BitVec 32 := 1#32
  let v1050_r0 : BitVec 32 := Scalar.select v1049_r0 c1_i32_573_r0 c6_i32_571_r0
  let v1051_r0 : BitVec 32 := Scalar.remsi v253_r0 v1050_r0
  let c0_i32_575_r0 : BitVec 32 := 0#32
  let v1053_r0 : BitVec 1 := Scalar.cmpi .slt v1051_r0 c0_i32_575_r0
  let c0_i32_576_r0 : BitVec 32 := 0#32
  let v1054_r0 : BitVec 1 := Scalar.cmpi .slt v1050_r0 c0_i32_576_r0
  let v1055_r0 : BitVec 1 := Scalar.xori v1053_r0 v1054_r0
  let c0_i32_574_r0 : BitVec 32 := 0#32
  let v1052_r0 : BitVec 1 := Scalar.cmpi .ne v1051_r0 c0_i32_574_r0
  let v1056_r0 : BitVec 1 := Scalar.andi v1055_r0 v1052_r0
  let v1057_r0 : BitVec 32 := Scalar.addi v1051_r0 v1050_r0
  let v1058_r0 : BitVec 32 := Scalar.select v1056_r0 v1057_r0 v1051_r0
  let v2732_r0 : Index := Scalar.indexCast v1058_r0
  let c1_1253_r0 : Index := 1#32
  let c1280_1254_r0 : Index := 1280#32
  let c0_1255_r0 : Index := 0#32
  ![v2732_r0.toNat, 1, 1280, 0]
def k0_off122 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_571_r0 : BitVec 32 := 6#32
  let c0_i32_572_r0 : BitVec 32 := 0#32
  let v1049_r0 : BitVec 1 := Scalar.cmpi .eq c6_i32_571_r0 c0_i32_572_r0
  let c1_i32_573_r0 : BitVec 32 := 1#32
  let v1050_r0 : BitVec 32 := Scalar.select v1049_r0 c1_i32_573_r0 c6_i32_571_r0
  let v1051_r0 : BitVec 32 := Scalar.remsi v253_r0 v1050_r0
  let c0_i32_575_r0 : BitVec 32 := 0#32
  let v1053_r0 : BitVec 1 := Scalar.cmpi .slt v1051_r0 c0_i32_575_r0
  let c0_i32_576_r0 : BitVec 32 := 0#32
  let v1054_r0 : BitVec 1 := Scalar.cmpi .slt v1050_r0 c0_i32_576_r0
  let v1055_r0 : BitVec 1 := Scalar.xori v1053_r0 v1054_r0
  let c0_i32_574_r0 : BitVec 32 := 0#32
  let v1052_r0 : BitVec 1 := Scalar.cmpi .ne v1051_r0 c0_i32_574_r0
  let v1056_r0 : BitVec 1 := Scalar.andi v1055_r0 v1052_r0
  let v1057_r0 : BitVec 32 := Scalar.addi v1051_r0 v1050_r0
  let v1058_r0 : BitVec 32 := Scalar.select v1056_r0 v1057_r0 v1051_r0
  let v2772_r0 : Index := Scalar.indexCast v1058_r0
  let c0_1269_r0 : Index := 0#32
  let c1280_1270_r0 : Index := 1280#32
  let c256_1271_r0 : Index := 256#32
  ![v2772_r0.toNat, 0, 1280, 256]
def k0_off123 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_571_r0 : BitVec 32 := 6#32
  let c0_i32_572_r0 : BitVec 32 := 0#32
  let v1049_r0 : BitVec 1 := Scalar.cmpi .eq c6_i32_571_r0 c0_i32_572_r0
  let c1_i32_573_r0 : BitVec 32 := 1#32
  let v1050_r0 : BitVec 32 := Scalar.select v1049_r0 c1_i32_573_r0 c6_i32_571_r0
  let v1051_r0 : BitVec 32 := Scalar.remsi v253_r0 v1050_r0
  let c0_i32_575_r0 : BitVec 32 := 0#32
  let v1053_r0 : BitVec 1 := Scalar.cmpi .slt v1051_r0 c0_i32_575_r0
  let c0_i32_576_r0 : BitVec 32 := 0#32
  let v1054_r0 : BitVec 1 := Scalar.cmpi .slt v1050_r0 c0_i32_576_r0
  let v1055_r0 : BitVec 1 := Scalar.xori v1053_r0 v1054_r0
  let c0_i32_574_r0 : BitVec 32 := 0#32
  let v1052_r0 : BitVec 1 := Scalar.cmpi .ne v1051_r0 c0_i32_574_r0
  let v1056_r0 : BitVec 1 := Scalar.andi v1055_r0 v1052_r0
  let v1057_r0 : BitVec 32 := Scalar.addi v1051_r0 v1050_r0
  let v1058_r0 : BitVec 32 := Scalar.select v1056_r0 v1057_r0 v1051_r0
  let v2812_r0 : Index := Scalar.indexCast v1058_r0
  let c1_1285_r0 : Index := 1#32
  let c1280_1286_r0 : Index := 1280#32
  let c256_1287_r0 : Index := 256#32
  ![v2812_r0.toNat, 1, 1280, 256]
def k0_off124 (k0_t1 : Fin k0_t1_loop.trips) : Fin 3 → Nat :=
  let c0_i32_254_r0 : BitVec 32 := 0#32
  let c1_i32_255_r0 : BitVec 32 := 1#32
  let arg16_r0 : BitVec 32 := Scf.iv c0_i32_254_r0 c1_i32_255_r0 k0_t1
  let v2852_r0 : Index := Scalar.indexCast arg16_r0
  let c0_1301_r0 : Index := 0#32
  let c2816_1302_r0 : Index := 2816#32
  ![v2852_r0.toNat, 0, 2816]
def k0_off125 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_571_r0 : BitVec 32 := 6#32
  let c0_i32_572_r0 : BitVec 32 := 0#32
  let v1049_r0 : BitVec 1 := Scalar.cmpi .eq c6_i32_571_r0 c0_i32_572_r0
  let c1_i32_573_r0 : BitVec 32 := 1#32
  let v1050_r0 : BitVec 32 := Scalar.select v1049_r0 c1_i32_573_r0 c6_i32_571_r0
  let v1051_r0 : BitVec 32 := Scalar.remsi v253_r0 v1050_r0
  let c0_i32_575_r0 : BitVec 32 := 0#32
  let v1053_r0 : BitVec 1 := Scalar.cmpi .slt v1051_r0 c0_i32_575_r0
  let c0_i32_576_r0 : BitVec 32 := 0#32
  let v1054_r0 : BitVec 1 := Scalar.cmpi .slt v1050_r0 c0_i32_576_r0
  let v1055_r0 : BitVec 1 := Scalar.xori v1053_r0 v1054_r0
  let c0_i32_574_r0 : BitVec 32 := 0#32
  let v1052_r0 : BitVec 1 := Scalar.cmpi .ne v1051_r0 c0_i32_574_r0
  let v1056_r0 : BitVec 1 := Scalar.andi v1055_r0 v1052_r0
  let v1057_r0 : BitVec 32 := Scalar.addi v1051_r0 v1050_r0
  let v1058_r0 : BitVec 32 := Scalar.select v1056_r0 v1057_r0 v1051_r0
  let v2855_r0 : Index := Scalar.indexCast v1058_r0
  let c0_1303_r0 : Index := 0#32
  let c1408_1304_r0 : Index := 1408#32
  let c0_1305_r0 : Index := 0#32
  ![v2855_r0.toNat, 0, 1408, 0]
def k0_off126 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_571_r0 : BitVec 32 := 6#32
  let c0_i32_572_r0 : BitVec 32 := 0#32
  let v1049_r0 : BitVec 1 := Scalar.cmpi .eq c6_i32_571_r0 c0_i32_572_r0
  let c1_i32_573_r0 : BitVec 32 := 1#32
  let v1050_r0 : BitVec 32 := Scalar.select v1049_r0 c1_i32_573_r0 c6_i32_571_r0
  let v1051_r0 : BitVec 32 := Scalar.remsi v253_r0 v1050_r0
  let c0_i32_575_r0 : BitVec 32 := 0#32
  let v1053_r0 : BitVec 1 := Scalar.cmpi .slt v1051_r0 c0_i32_575_r0
  let c0_i32_576_r0 : BitVec 32 := 0#32
  let v1054_r0 : BitVec 1 := Scalar.cmpi .slt v1050_r0 c0_i32_576_r0
  let v1055_r0 : BitVec 1 := Scalar.xori v1053_r0 v1054_r0
  let c0_i32_574_r0 : BitVec 32 := 0#32
  let v1052_r0 : BitVec 1 := Scalar.cmpi .ne v1051_r0 c0_i32_574_r0
  let v1056_r0 : BitVec 1 := Scalar.andi v1055_r0 v1052_r0
  let v1057_r0 : BitVec 32 := Scalar.addi v1051_r0 v1050_r0
  let v1058_r0 : BitVec 32 := Scalar.select v1056_r0 v1057_r0 v1051_r0
  let v2895_r0 : Index := Scalar.indexCast v1058_r0
  let c1_1319_r0 : Index := 1#32
  let c1408_1320_r0 : Index := 1408#32
  let c0_1321_r0 : Index := 0#32
  ![v2895_r0.toNat, 1, 1408, 0]
def k0_off127 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_571_r0 : BitVec 32 := 6#32
  let c0_i32_572_r0 : BitVec 32 := 0#32
  let v1049_r0 : BitVec 1 := Scalar.cmpi .eq c6_i32_571_r0 c0_i32_572_r0
  let c1_i32_573_r0 : BitVec 32 := 1#32
  let v1050_r0 : BitVec 32 := Scalar.select v1049_r0 c1_i32_573_r0 c6_i32_571_r0
  let v1051_r0 : BitVec 32 := Scalar.remsi v253_r0 v1050_r0
  let c0_i32_575_r0 : BitVec 32 := 0#32
  let v1053_r0 : BitVec 1 := Scalar.cmpi .slt v1051_r0 c0_i32_575_r0
  let c0_i32_576_r0 : BitVec 32 := 0#32
  let v1054_r0 : BitVec 1 := Scalar.cmpi .slt v1050_r0 c0_i32_576_r0
  let v1055_r0 : BitVec 1 := Scalar.xori v1053_r0 v1054_r0
  let c0_i32_574_r0 : BitVec 32 := 0#32
  let v1052_r0 : BitVec 1 := Scalar.cmpi .ne v1051_r0 c0_i32_574_r0
  let v1056_r0 : BitVec 1 := Scalar.andi v1055_r0 v1052_r0
  let v1057_r0 : BitVec 32 := Scalar.addi v1051_r0 v1050_r0
  let v1058_r0 : BitVec 32 := Scalar.select v1056_r0 v1057_r0 v1051_r0
  let v2935_r0 : Index := Scalar.indexCast v1058_r0
  let c0_1335_r0 : Index := 0#32
  let c1408_1336_r0 : Index := 1408#32
  let c256_1337_r0 : Index := 256#32
  ![v2935_r0.toNat, 0, 1408, 256]
def k0_off128 (k0_t1 : Fin k0_t1_loop.trips) : Fin 4 → Nat :=
  let c0_i32_284_r0 : BitVec 32 := 0#32
  let c0_i32_254_r0 : BitVec 32 := 0#32
  let c1_i32_255_r0 : BitVec 32 := 1#32
  let arg16_r0 : BitVec 32 := Scf.iv c0_i32_254_r0 c1_i32_255_r0 k0_t1
  let v253_r0 : BitVec 32 := Scalar.addi c0_i32_284_r0 arg16_r0
  let c6_i32_571_r0 : BitVec 32 := 6#32
  let c0_i32_572_r0 : BitVec 32 := 0#32
  let v1049_r0 : BitVec 1 := Scalar.cmpi .eq c6_i32_571_r0 c0_i32_572_r0
  let c1_i32_573_r0 : BitVec 32 := 1#32
  let v1050_r0 : BitVec 32 := Scalar.select v1049_r0 c1_i32_573_r0 c6_i32_571_r0
  let v1051_r0 : BitVec 32 := Scalar.remsi v253_r0 v1050_r0
  let c0_i32_575_r0 : BitVec 32 := 0#32
  let v1053_r0 : BitVec 1 := Scalar.cmpi .slt v1051_r0 c0_i32_575_r0
  let c0_i32_576_r0 : BitVec 32 := 0#32
  let v1054_r0 : BitVec 1 := Scalar.cmpi .slt v1050_r0 c0_i32_576_r0
  let v1055_r0 : BitVec 1 := Scalar.xori v1053_r0 v1054_r0
  let c0_i32_574_r0 : BitVec 32 := 0#32
  let v1052_r0 : BitVec 1 := Scalar.cmpi .ne v1051_r0 c0_i32_574_r0
  let v1056_r0 : BitVec 1 := Scalar.andi v1055_r0 v1052_r0
  let v1057_r0 : BitVec 32 := Scalar.addi v1051_r0 v1050_r0
  let v1058_r0 : BitVec 32 := Scalar.select v1056_r0 v1057_r0 v1051_r0
  let v2975_r0 : Index := Scalar.indexCast v1058_r0
  let c1_1351_r0 : Index := 1#32
  let c1408_1352_r0 : Index := 1408#32
  let c256_1353_r0 : Index := 256#32
  ![v2975_r0.toNat, 1, 1408, 256]
@[reducible] def k0_t2_loop : Scf.Loop 32 :=
  let c1_i32_269_r0 : BitVec 32 := 1#32
  let c4_i32_270_r0 : BitVec 32 := 4#32
  let v242_r0 : BitVec 32 := Scalar.addi c1_i32_269_r0 c4_i32_270_r0
  let c1_i32_271_r0 : BitVec 32 := 1#32
  ⟨c1_i32_269_r0, v242_r0, c1_i32_271_r0⟩
def k0_off129 (k0_t2 : Fin k0_t2_loop.trips) : Fin 1 → Nat :=
  let c1_i32_269_r0 : BitVec 32 := 1#32
  let c1_i32_271_r0 : BitVec 32 := 1#32
  let arg16_r0 : BitVec 32 := Scf.iv c1_i32_269_r0 c1_i32_271_r0 k0_t2
  let c2_i32_291_r0 : BitVec 32 := 2#32
  let c0_i32_292_r0 : BitVec 32 := 0#32
  let v264_r0 : BitVec 1 := Scalar.cmpi .eq c2_i32_291_r0 c0_i32_292_r0
  let c1_i32_293_r0 : BitVec 32 := 1#32
  let v265_r0 : BitVec 32 := Scalar.select v264_r0 c1_i32_293_r0 c2_i32_291_r0
  let v266_r0 : BitVec 32 := Scalar.remsi arg16_r0 v265_r0
  let c0_i32_295_r0 : BitVec 32 := 0#32
  let v268_r0 : BitVec 1 := Scalar.cmpi .slt v266_r0 c0_i32_295_r0
  let c0_i32_296_r0 : BitVec 32 := 0#32
  let v269_r0 : BitVec 1 := Scalar.cmpi .slt v265_r0 c0_i32_296_r0
  let v270_r0 : BitVec 1 := Scalar.xori v268_r0 v269_r0
  let c0_i32_294_r0 : BitVec 32 := 0#32
  let v267_r0 : BitVec 1 := Scalar.cmpi .ne v266_r0 c0_i32_294_r0
  let v271_r0 : BitVec 1 := Scalar.andi v270_r0 v267_r0
  let v272_r0 : BitVec 32 := Scalar.addi v266_r0 v265_r0
  let v273_r0 : BitVec 32 := Scalar.select v271_r0 v272_r0 v266_r0
  ![v273_r0.toNat]
def k0_off130 (k0_t2 : Fin k0_t2_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c2_i32_285_r0 : BitVec 32 := 2#32
  let c0_i32_286_r0 : BitVec 32 := 0#32
  let v254_r0 : BitVec 1 := Scalar.cmpi .eq c2_i32_285_r0 c0_i32_286_r0
  let c1_i32_287_r0 : BitVec 32 := 1#32
  let v255_r0 : BitVec 32 := Scalar.select v254_r0 c1_i32_287_r0 c2_i32_285_r0
  let v256_r0 : BitVec 32 := Scalar.remsi arg16_r0 v255_r0
  let c0_i32_289_r0 : BitVec 32 := 0#32
  let v258_r0 : BitVec 1 := Scalar.cmpi .slt v256_r0 c0_i32_289_r0
  let c0_i32_290_r0 : BitVec 32 := 0#32
  let v259_r0 : BitVec 1 := Scalar.cmpi .slt v255_r0 c0_i32_290_r0
  let v260_r0 : BitVec 1 := Scalar.xori v258_r0 v259_r0
  let c0_i32_288_r0 : BitVec 32 := 0#32
  let v257_r0 : BitVec 1 := Scalar.cmpi .ne v256_r0 c0_i32_288_r0
  let v261_r0 : BitVec 1 := Scalar.andi v260_r0 v257_r0
  let v262_r0 : BitVec 32 := Scalar.addi v256_r0 v255_r0
  let v263_r0 : BitVec 32 := Scalar.select v261_r0 v262_r0 v256_r0
  let c0_i32_310_r0 : BitVec 32 := 0#32
  let c0_i32_311_r0 : BitVec 32 := 0#32
  let c0_i32_312_r0 : BitVec 32 := 0#32
  ![v263_r0.toNat, 0, 0, 0]
def k0_off131 (k0_t2 : Fin k0_t2_loop.trips) : Fin 2 → Nat :=
  let c0_i32_313_r0 : BitVec 32 := 0#32
  let c1_i32_269_r0 : BitVec 32 := 1#32
  let c1_i32_271_r0 : BitVec 32 := 1#32
  let arg16_r0 : BitVec 32 := Scf.iv c1_i32_269_r0 c1_i32_271_r0 k0_t2
  let c512_i32_284_r0 : BitVec 32 := 512#32
  let v253_r0 : BitVec 32 := Scalar.muli arg16_r0 c512_i32_284_r0
  ![0, v253_r0.toNat]
def k0_off132 (k0_t2 : Fin k0_t2_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c2_i32_298_r0 : BitVec 32 := 2#32
  let c0_i32_299_r0 : BitVec 32 := 0#32
  let v275_r0 : BitVec 1 := Scalar.cmpi .eq c2_i32_298_r0 c0_i32_299_r0
  let c1_i32_300_r0 : BitVec 32 := 1#32
  let v276_r0 : BitVec 32 := Scalar.select v275_r0 c1_i32_300_r0 c2_i32_298_r0
  let v277_r0 : BitVec 32 := Scalar.remsi arg16_r0 v276_r0
  let c0_i32_302_r0 : BitVec 32 := 0#32
  let v279_r0 : BitVec 1 := Scalar.cmpi .slt v277_r0 c0_i32_302_r0
  let c0_i32_303_r0 : BitVec 32 := 0#32
  let v280_r0 : BitVec 1 := Scalar.cmpi .slt v276_r0 c0_i32_303_r0
  let v281_r0 : BitVec 1 := Scalar.xori v279_r0 v280_r0
  let c0_i32_301_r0 : BitVec 32 := 0#32
  let v278_r0 : BitVec 1 := Scalar.cmpi .ne v277_r0 c0_i32_301_r0
  let v282_r0 : BitVec 1 := Scalar.andi v281_r0 v278_r0
  let v283_r0 : BitVec 32 := Scalar.addi v277_r0 v276_r0
  let v284_r0 : BitVec 32 := Scalar.select v282_r0 v283_r0 v277_r0
  let c1_i32_314_r0 : BitVec 32 := 1#32
  let c0_i32_315_r0 : BitVec 32 := 0#32
  let c0_i32_316_r0 : BitVec 32 := 0#32
  ![v284_r0.toNat, 1, 0, 0]
def k0_off133 (k0_t2 : Fin k0_t2_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c2_i32_318_r0 : BitVec 32 := 2#32
  let c0_i32_319_r0 : BitVec 32 := 0#32
  let v305_r0 : BitVec 1 := Scalar.cmpi .eq c2_i32_318_r0 c0_i32_319_r0
  let c1_i32_320_r0 : BitVec 32 := 1#32
  let v306_r0 : BitVec 32 := Scalar.select v305_r0 c1_i32_320_r0 c2_i32_318_r0
  let v307_r0 : BitVec 32 := Scalar.remsi arg16_r0 v306_r0
  let c0_i32_322_r0 : BitVec 32 := 0#32
  let v309_r0 : BitVec 1 := Scalar.cmpi .slt v307_r0 c0_i32_322_r0
  let c0_i32_323_r0 : BitVec 32 := 0#32
  let v310_r0 : BitVec 1 := Scalar.cmpi .slt v306_r0 c0_i32_323_r0
  let v311_r0 : BitVec 1 := Scalar.xori v309_r0 v310_r0
  let c0_i32_321_r0 : BitVec 32 := 0#32
  let v308_r0 : BitVec 1 := Scalar.cmpi .ne v307_r0 c0_i32_321_r0
  let v312_r0 : BitVec 1 := Scalar.andi v311_r0 v308_r0
  let v313_r0 : BitVec 32 := Scalar.addi v307_r0 v306_r0
  let v314_r0 : BitVec 32 := Scalar.select v312_r0 v313_r0 v307_r0
  let c0_i32_324_r0 : BitVec 32 := 0#32
  let c0_i32_325_r0 : BitVec 32 := 0#32
  let c0_i32_326_r0 : BitVec 32 := 0#32
  ![v314_r0.toNat, 0, 0, 0]
def k0_off134 (k0_t2 : Fin k0_t2_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c2_i32_318_r0 : BitVec 32 := 2#32
  let c0_i32_319_r0 : BitVec 32 := 0#32
  let v305_r0 : BitVec 1 := Scalar.cmpi .eq c2_i32_318_r0 c0_i32_319_r0
  let c1_i32_320_r0 : BitVec 32 := 1#32
  let v306_r0 : BitVec 32 := Scalar.select v305_r0 c1_i32_320_r0 c2_i32_318_r0
  let v307_r0 : BitVec 32 := Scalar.remsi arg16_r0 v306_r0
  let c0_i32_322_r0 : BitVec 32 := 0#32
  let v309_r0 : BitVec 1 := Scalar.cmpi .slt v307_r0 c0_i32_322_r0
  let c0_i32_323_r0 : BitVec 32 := 0#32
  let v310_r0 : BitVec 1 := Scalar.cmpi .slt v306_r0 c0_i32_323_r0
  let v311_r0 : BitVec 1 := Scalar.xori v309_r0 v310_r0
  let c0_i32_321_r0 : BitVec 32 := 0#32
  let v308_r0 : BitVec 1 := Scalar.cmpi .ne v307_r0 c0_i32_321_r0
  let v312_r0 : BitVec 1 := Scalar.andi v311_r0 v308_r0
  let v313_r0 : BitVec 32 := Scalar.addi v307_r0 v306_r0
  let v314_r0 : BitVec 32 := Scalar.select v312_r0 v313_r0 v307_r0
  let c0_i32_329_r0 : BitVec 32 := 0#32
  let c0_i32_331_r0 : BitVec 32 := 0#32
  ![v314_r0.toNat, 0, 108, 0]
def k0_off135 (k0_t2 : Fin k0_t2_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c2_i32_346_r0 : BitVec 32 := 2#32
  let c0_i32_347_r0 : BitVec 32 := 0#32
  let v339_r0 : BitVec 1 := Scalar.cmpi .eq c2_i32_346_r0 c0_i32_347_r0
  let c1_i32_348_r0 : BitVec 32 := 1#32
  let v340_r0 : BitVec 32 := Scalar.select v339_r0 c1_i32_348_r0 c2_i32_346_r0
  let v341_r0 : BitVec 32 := Scalar.remsi arg16_r0 v340_r0
  let c0_i32_350_r0 : BitVec 32 := 0#32
  let v343_r0 : BitVec 1 := Scalar.cmpi .slt v341_r0 c0_i32_350_r0
  let c0_i32_351_r0 : BitVec 32 := 0#32
  let v344_r0 : BitVec 1 := Scalar.cmpi .slt v340_r0 c0_i32_351_r0
  let v345_r0 : BitVec 1 := Scalar.xori v343_r0 v344_r0
  let c0_i32_349_r0 : BitVec 32 := 0#32
  let v342_r0 : BitVec 1 := Scalar.cmpi .ne v341_r0 c0_i32_349_r0
  let v346_r0 : BitVec 1 := Scalar.andi v345_r0 v342_r0
  let v347_r0 : BitVec 32 := Scalar.addi v341_r0 v340_r0
  let v348_r0 : BitVec 32 := Scalar.select v346_r0 v347_r0 v341_r0
  let c1_i32_352_r0 : BitVec 32 := 1#32
  let c0_i32_353_r0 : BitVec 32 := 0#32
  let c0_i32_354_r0 : BitVec 32 := 0#32
  ![v348_r0.toNat, 1, 0, 0]
def k0_off136 (k0_t2 : Fin k0_t2_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c2_i32_346_r0 : BitVec 32 := 2#32
  let c0_i32_347_r0 : BitVec 32 := 0#32
  let v339_r0 : BitVec 1 := Scalar.cmpi .eq c2_i32_346_r0 c0_i32_347_r0
  let c1_i32_348_r0 : BitVec 32 := 1#32
  let v340_r0 : BitVec 32 := Scalar.select v339_r0 c1_i32_348_r0 c2_i32_346_r0
  let v341_r0 : BitVec 32 := Scalar.remsi arg16_r0 v340_r0
  let c0_i32_350_r0 : BitVec 32 := 0#32
  let v343_r0 : BitVec 1 := Scalar.cmpi .slt v341_r0 c0_i32_350_r0
  let c0_i32_351_r0 : BitVec 32 := 0#32
  let v344_r0 : BitVec 1 := Scalar.cmpi .slt v340_r0 c0_i32_351_r0
  let v345_r0 : BitVec 1 := Scalar.xori v343_r0 v344_r0
  let c0_i32_349_r0 : BitVec 32 := 0#32
  let v342_r0 : BitVec 1 := Scalar.cmpi .ne v341_r0 c0_i32_349_r0
  let v346_r0 : BitVec 1 := Scalar.andi v345_r0 v342_r0
  let v347_r0 : BitVec 32 := Scalar.addi v341_r0 v340_r0
  let v348_r0 : BitVec 32 := Scalar.select v346_r0 v347_r0 v341_r0
  let c1_i32_357_r0 : BitVec 32 := 1#32
  let c0_i32_359_r0 : BitVec 32 := 0#32
  ![v348_r0.toNat, 1, 108, 0]
def k0_cond2 (k0_t2 : Fin k0_t2_loop.trips) : BitVec 1 :=
  let c1_i32_269_r0 : BitVec 32 := 1#32
  let c1_i32_271_r0 : BitVec 32 := 1#32
  let arg16_r0 : BitVec 32 := Scf.iv c1_i32_269_r0 c1_i32_271_r0 k0_t2
  let c1_i32_374_r0 : BitVec 32 := 1#32
  let v373_r0 : BitVec 32 := Scalar.addi arg16_r0 c1_i32_374_r0
  let c5_i32_375_r0 : BitVec 32 := 5#32
  let v374_r0 : BitVec 1 := Scalar.cmpi .slt v373_r0 c5_i32_375_r0
  let v375_r0 : BitVec 32 := Scalar.extui v374_r0
  let c0_i32_376_r0 : BitVec 32 := 0#32
  let v376_r0 : BitVec 1 := Scalar.cmpi .ne v375_r0 c0_i32_376_r0
  v376_r0

def k0_off137 (k0_t2 : Fin k0_t2_loop.trips) : Fin 1 → Nat :=
  let c1_i32_269_r0 : BitVec 32 := 1#32
  let c1_i32_271_r0 : BitVec 32 := 1#32
  let arg16_r0 : BitVec 32 := Scf.iv c1_i32_269_r0 c1_i32_271_r0 k0_t2
  let c1_i32_416_r0 : BitVec 32 := 1#32
  let v447_r0 : BitVec 32 := Scalar.addi arg16_r0 c1_i32_416_r0
  let c2_i32_424_r0 : BitVec 32 := 2#32
  let c0_i32_425_r0 : BitVec 32 := 0#32
  let v459_r0 : BitVec 1 := Scalar.cmpi .eq c2_i32_424_r0 c0_i32_425_r0
  let c1_i32_426_r0 : BitVec 32 := 1#32
  let v460_r0 : BitVec 32 := Scalar.select v459_r0 c1_i32_426_r0 c2_i32_424_r0
  let v461_r0 : BitVec 32 := Scalar.remsi v447_r0 v460_r0
  let c0_i32_428_r0 : BitVec 32 := 0#32
  let v463_r0 : BitVec 1 := Scalar.cmpi .slt v461_r0 c0_i32_428_r0
  let c0_i32_429_r0 : BitVec 32 := 0#32
  let v464_r0 : BitVec 1 := Scalar.cmpi .slt v460_r0 c0_i32_429_r0
  let v465_r0 : BitVec 1 := Scalar.xori v463_r0 v464_r0
  let c0_i32_427_r0 : BitVec 32 := 0#32
  let v462_r0 : BitVec 1 := Scalar.cmpi .ne v461_r0 c0_i32_427_r0
  let v466_r0 : BitVec 1 := Scalar.andi v465_r0 v462_r0
  let v467_r0 : BitVec 32 := Scalar.addi v461_r0 v460_r0
  let v468_r0 : BitVec 32 := Scalar.select v466_r0 v467_r0 v461_r0
  ![v468_r0.toNat]
def k0_off138 (k0_t2 : Fin k0_t2_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c1_i32_416_r0 : BitVec 32 := 1#32
  let v447_r0 : BitVec 32 := Scalar.addi arg16_r0 c1_i32_416_r0
  let c2_i32_418_r0 : BitVec 32 := 2#32
  let c0_i32_419_r0 : BitVec 32 := 0#32
  let v449_r0 : BitVec 1 := Scalar.cmpi .eq c2_i32_418_r0 c0_i32_419_r0
  let c1_i32_420_r0 : BitVec 32 := 1#32
  let v450_r0 : BitVec 32 := Scalar.select v449_r0 c1_i32_420_r0 c2_i32_418_r0
  let v451_r0 : BitVec 32 := Scalar.remsi v447_r0 v450_r0
  let c0_i32_422_r0 : BitVec 32 := 0#32
  let v453_r0 : BitVec 1 := Scalar.cmpi .slt v451_r0 c0_i32_422_r0
  let c0_i32_423_r0 : BitVec 32 := 0#32
  let v454_r0 : BitVec 1 := Scalar.cmpi .slt v450_r0 c0_i32_423_r0
  let v455_r0 : BitVec 1 := Scalar.xori v453_r0 v454_r0
  let c0_i32_421_r0 : BitVec 32 := 0#32
  let v452_r0 : BitVec 1 := Scalar.cmpi .ne v451_r0 c0_i32_421_r0
  let v456_r0 : BitVec 1 := Scalar.andi v455_r0 v452_r0
  let v457_r0 : BitVec 32 := Scalar.addi v451_r0 v450_r0
  let v458_r0 : BitVec 32 := Scalar.select v456_r0 v457_r0 v451_r0
  let c0_i32_443_r0 : BitVec 32 := 0#32
  let c0_i32_444_r0 : BitVec 32 := 0#32
  let c0_i32_445_r0 : BitVec 32 := 0#32
  ![v458_r0.toNat, 0, 0, 0]
def k0_off139 (k0_t2 : Fin k0_t2_loop.trips) : Fin 2 → Nat :=
  let c0_i32_446_r0 : BitVec 32 := 0#32
  let c1_i32_269_r0 : BitVec 32 := 1#32
  let c1_i32_271_r0 : BitVec 32 := 1#32
  let arg16_r0 : BitVec 32 := Scf.iv c1_i32_269_r0 c1_i32_271_r0 k0_t2
  let c1_i32_416_r0 : BitVec 32 := 1#32
  let v447_r0 : BitVec 32 := Scalar.addi arg16_r0 c1_i32_416_r0
  let c512_i32_417_r0 : BitVec 32 := 512#32
  let v448_r0 : BitVec 32 := Scalar.muli v447_r0 c512_i32_417_r0
  ![0, v448_r0.toNat]
def k0_off140 (k0_t2 : Fin k0_t2_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c1_i32_416_r0 : BitVec 32 := 1#32
  let v447_r0 : BitVec 32 := Scalar.addi arg16_r0 c1_i32_416_r0
  let c2_i32_431_r0 : BitVec 32 := 2#32
  let c0_i32_432_r0 : BitVec 32 := 0#32
  let v470_r0 : BitVec 1 := Scalar.cmpi .eq c2_i32_431_r0 c0_i32_432_r0
  let c1_i32_433_r0 : BitVec 32 := 1#32
  let v471_r0 : BitVec 32 := Scalar.select v470_r0 c1_i32_433_r0 c2_i32_431_r0
  let v472_r0 : BitVec 32 := Scalar.remsi v447_r0 v471_r0
  let c0_i32_435_r0 : BitVec 32 := 0#32
  let v474_r0 : BitVec 1 := Scalar.cmpi .slt v472_r0 c0_i32_435_r0
  let c0_i32_436_r0 : BitVec 32 := 0#32
  let v475_r0 : BitVec 1 := Scalar.cmpi .slt v471_r0 c0_i32_436_r0
  let v476_r0 : BitVec 1 := Scalar.xori v474_r0 v475_r0
  let c0_i32_434_r0 : BitVec 32 := 0#32
  let v473_r0 : BitVec 1 := Scalar.cmpi .ne v472_r0 c0_i32_434_r0
  let v477_r0 : BitVec 1 := Scalar.andi v476_r0 v473_r0
  let v478_r0 : BitVec 32 := Scalar.addi v472_r0 v471_r0
  let v479_r0 : BitVec 32 := Scalar.select v477_r0 v478_r0 v472_r0
  let c1_i32_447_r0 : BitVec 32 := 1#32
  let c0_i32_448_r0 : BitVec 32 := 0#32
  let c0_i32_449_r0 : BitVec 32 := 0#32
  ![v479_r0.toNat, 1, 0, 0]
@[reducible] def k0_t3_loop : Scf.Loop 32 :=
  let c0_i32_378_r0 : BitVec 32 := 0#32
  let c9_i32_379_r0 : BitVec 32 := 9#32
  let v377_r0 : BitVec 32 := Scalar.addi c0_i32_378_r0 c9_i32_379_r0
  let c1_i32_380_r0 : BitVec 32 := 1#32
  ⟨c0_i32_378_r0, v377_r0, c1_i32_380_r0⟩
def k0_off141 (k0_t2 : Fin k0_t2_loop.trips) (k0_t3 : Fin k0_t3_loop.trips) : Fin 1 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_430_r0 : BitVec 32 := 6#32
  let c0_i32_431_r0 : BitVec 32 := 0#32
  let v476_r0 : BitVec 1 := Scalar.cmpi .eq c6_i32_430_r0 c0_i32_431_r0
  let c1_i32_432_r0 : BitVec 32 := 1#32
  let v477_r0 : BitVec 32 := Scalar.select v476_r0 c1_i32_432_r0 c6_i32_430_r0
  let v478_r0 : BitVec 32 := Scalar.remsi v448_r0 v477_r0
  let c0_i32_434_r0 : BitVec 32 := 0#32
  let v480_r0 : BitVec 1 := Scalar.cmpi .slt v478_r0 c0_i32_434_r0
  let c0_i32_435_r0 : BitVec 32 := 0#32
  let v481_r0 : BitVec 1 := Scalar.cmpi .slt v477_r0 c0_i32_435_r0
  let v482_r0 : BitVec 1 := Scalar.xori v480_r0 v481_r0
  let c0_i32_433_r0 : BitVec 32 := 0#32
  let v479_r0 : BitVec 1 := Scalar.cmpi .ne v478_r0 c0_i32_433_r0
  let v483_r0 : BitVec 1 := Scalar.andi v482_r0 v479_r0
  let v484_r0 : BitVec 32 := Scalar.addi v478_r0 v477_r0
  let v485_r0 : BitVec 32 := Scalar.select v483_r0 v484_r0 v478_r0
  ![v485_r0.toNat]
def k0_off142 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_430_r0 : BitVec 32 := 6#32
  let c0_i32_431_r0 : BitVec 32 := 0#32
  let v476_r0 : BitVec 1 := Scalar.cmpi .eq c6_i32_430_r0 c0_i32_431_r0
  let c1_i32_432_r0 : BitVec 32 := 1#32
  let v477_r0 : BitVec 32 := Scalar.select v476_r0 c1_i32_432_r0 c6_i32_430_r0
  let v478_r0 : BitVec 32 := Scalar.remsi v448_r0 v477_r0
  let c0_i32_434_r0 : BitVec 32 := 0#32
  let v480_r0 : BitVec 1 := Scalar.cmpi .slt v478_r0 c0_i32_434_r0
  let c0_i32_435_r0 : BitVec 32 := 0#32
  let v481_r0 : BitVec 1 := Scalar.cmpi .slt v477_r0 c0_i32_435_r0
  let v482_r0 : BitVec 1 := Scalar.xori v480_r0 v481_r0
  let c0_i32_433_r0 : BitVec 32 := 0#32
  let v479_r0 : BitVec 1 := Scalar.cmpi .ne v478_r0 c0_i32_433_r0
  let v483_r0 : BitVec 1 := Scalar.andi v482_r0 v479_r0
  let v484_r0 : BitVec 32 := Scalar.addi v478_r0 v477_r0
  let v485_r0 : BitVec 32 := Scalar.select v483_r0 v484_r0 v478_r0
  let c0_i32_440_r0 : BitVec 32 := 0#32
  let c0_i32_441_r0 : BitVec 32 := 0#32
  let c0_i32_442_r0 : BitVec 32 := 0#32
  ![v485_r0.toNat, 0, 0, 0]
def k0_off143 (k0_t2 : Fin k0_t2_loop.trips) (k0_t3 : Fin k0_t3_loop.trips) : Fin 2 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c9_i32_424_r0 : BitVec 32 := 9#32
  let c0_i32_425_r0 : BitVec 32 := 0#32
  let v466_r0 : BitVec 1 := Scalar.cmpi .eq c9_i32_424_r0 c0_i32_425_r0
  let c1_i32_426_r0 : BitVec 32 := 1#32
  let v467_r0 : BitVec 32 := Scalar.select v466_r0 c1_i32_426_r0 c9_i32_424_r0
  let v468_r0 : BitVec 32 := Scalar.remsi v448_r0 v467_r0
  let c0_i32_428_r0 : BitVec 32 := 0#32
  let v470_r0 : BitVec 1 := Scalar.cmpi .slt v468_r0 c0_i32_428_r0
  let c0_i32_429_r0 : BitVec 32 := 0#32
  let v471_r0 : BitVec 1 := Scalar.cmpi .slt v467_r0 c0_i32_429_r0
  let v472_r0 : BitVec 1 := Scalar.xori v470_r0 v471_r0
  let c0_i32_427_r0 : BitVec 32 := 0#32
  let v469_r0 : BitVec 1 := Scalar.cmpi .ne v468_r0 c0_i32_427_r0
  let v473_r0 : BitVec 1 := Scalar.andi v472_r0 v469_r0
  let v474_r0 : BitVec 32 := Scalar.addi v468_r0 v467_r0
  let v475_r0 : BitVec 32 := Scalar.select v473_r0 v474_r0 v468_r0
  let c1536_i32_436_r0 : BitVec 32 := 1536#32
  let v486_r0 : BitVec 32 := Scalar.muli v475_r0 c1536_i32_436_r0
  let c0_i32_418_r0 : BitVec 32 := 0#32
  let v450_r0 : BitVec 1 := Scalar.cmpi .sgt v448_r0 c0_i32_418_r0
  let v451_r0 : BitVec 32 := Scalar.extui v450_r0
  let c0_i32_419_r0 : BitVec 32 := 0#32
  let v452_r0 : BitVec 1 := Scalar.cmpi .slt v448_r0 c0_i32_419_r0
  let v453_r0 : BitVec 32 := Scalar.extui v452_r0
  let v454_r0 : BitVec 32 := Scalar.subi v451_r0 v453_r0
  let c9_i32_417_r0 : BitVec 32 := 9#32
  let c0_i32_420_r0 : BitVec 32 := 0#32
  let v455_r0 : BitVec 1 := Scalar.cmpi .sgt c9_i32_417_r0 c0_i32_420_r0
  let v456_r0 : BitVec 32 := Scalar.extui v455_r0
  let c0_i32_421_r0 : BitVec 32 := 0#32
  let v457_r0 : BitVec 1 := Scalar.cmpi .slt c9_i32_417_r0 c0_i32_421_r0
  let v458_r0 : BitVec 32 := Scalar.extui v457_r0
  let v459_r0 : BitVec 32 := Scalar.subi v456_r0 v458_r0
  let v460_r0 : BitVec 1 := Scalar.cmpi .ne v454_r0 v459_r0
  let v461_r0 : BitVec 32 := Scalar.remsi v448_r0 c9_i32_417_r0
  let c0_i32_422_r0 : BitVec 32 := 0#32
  let v462_r0 : BitVec 1 := Scalar.cmpi .ne v461_r0 c0_i32_422_r0
  let v463_r0 : BitVec 1 := Scalar.andi v460_r0 v462_r0
  let v449_r0 : BitVec 32 := Scalar.divsi v448_r0 c9_i32_417_r0
  let c1_i32_423_r0 : BitVec 32 := 1#32
  let v464_r0 : BitVec 32 := Scalar.subi v449_r0 c1_i32_423_r0
  let v465_r0 : BitVec 32 := Scalar.select v463_r0 v464_r0 v449_r0
  let c512_i32_437_r0 : BitVec 32 := 512#32
  let v487_r0 : BitVec 32 := Scalar.muli v465_r0 c512_i32_437_r0
  ![v486_r0.toNat, v487_r0.toNat]
def k0_off144 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_430_r0 : BitVec 32 := 6#32
  let c0_i32_431_r0 : BitVec 32 := 0#32
  let v476_r0 : BitVec 1 := Scalar.cmpi .eq c6_i32_430_r0 c0_i32_431_r0
  let c1_i32_432_r0 : BitVec 32 := 1#32
  let v477_r0 : BitVec 32 := Scalar.select v476_r0 c1_i32_432_r0 c6_i32_430_r0
  let v478_r0 : BitVec 32 := Scalar.remsi v448_r0 v477_r0
  let c0_i32_434_r0 : BitVec 32 := 0#32
  let v480_r0 : BitVec 1 := Scalar.cmpi .slt v478_r0 c0_i32_434_r0
  let c0_i32_435_r0 : BitVec 32 := 0#32
  let v481_r0 : BitVec 1 := Scalar.cmpi .slt v477_r0 c0_i32_435_r0
  let v482_r0 : BitVec 1 := Scalar.xori v480_r0 v481_r0
  let c0_i32_433_r0 : BitVec 32 := 0#32
  let v479_r0 : BitVec 1 := Scalar.cmpi .ne v478_r0 c0_i32_433_r0
  let v483_r0 : BitVec 1 := Scalar.andi v482_r0 v479_r0
  let v484_r0 : BitVec 32 := Scalar.addi v478_r0 v477_r0
  let v485_r0 : BitVec 32 := Scalar.select v483_r0 v484_r0 v478_r0
  let c1_i32_443_r0 : BitVec 32 := 1#32
  let c0_i32_444_r0 : BitVec 32 := 0#32
  let c0_i32_445_r0 : BitVec 32 := 0#32
  ![v485_r0.toNat, 1, 0, 0]
def k0_cond3 (k0_t2 : Fin k0_t2_loop.trips) (k0_t3 : Fin k0_t3_loop.trips) : BitVec 1 :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_446_r0 : BitVec 32 := 6#32
  let v500_r0 : BitVec 32 := Scalar.addi v448_r0 c6_i32_446_r0
  let c1_i32_447_r0 : BitVec 32 := 1#32
  let v501_r0 : BitVec 32 := Scalar.subi v500_r0 c1_i32_447_r0
  let c45_i32_r0 : BitVec 32 := 45#32
  let v502_r0 : BitVec 1 := Scalar.cmpi .slt v501_r0 c45_i32_r0
  let v503_r0 : BitVec 32 := Scalar.extui v502_r0
  let c0_i32_448_r0 : BitVec 32 := 0#32
  let v504_r0 : BitVec 1 := Scalar.cmpi .ne v503_r0 c0_i32_448_r0
  v504_r0

def k0_off145 (k0_t2 : Fin k0_t2_loop.trips) (k0_t3 : Fin k0_t3_loop.trips) : Fin 1 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_1229_r0 : BitVec 32 := 6#32
  let v2471_r0 : BitVec 32 := Scalar.addi v448_r0 c6_i32_1229_r0
  let c1_i32_1230_r0 : BitVec 32 := 1#32
  let v2472_r0 : BitVec 32 := Scalar.subi v2471_r0 c1_i32_1230_r0
  let c6_i32_1244_r0 : BitVec 32 := 6#32
  let c0_i32_1245_r0 : BitVec 32 := 0#32
  let v2500_r0 : BitVec 1 := Scalar.cmpi .eq c6_i32_1244_r0 c0_i32_1245_r0
  let c1_i32_1246_r0 : BitVec 32 := 1#32
  let v2501_r0 : BitVec 32 := Scalar.select v2500_r0 c1_i32_1246_r0 c6_i32_1244_r0
  let v2502_r0 : BitVec 32 := Scalar.remsi v2472_r0 v2501_r0
  let c0_i32_1248_r0 : BitVec 32 := 0#32
  let v2504_r0 : BitVec 1 := Scalar.cmpi .slt v2502_r0 c0_i32_1248_r0
  let c0_i32_1249_r0 : BitVec 32 := 0#32
  let v2505_r0 : BitVec 1 := Scalar.cmpi .slt v2501_r0 c0_i32_1249_r0
  let v2506_r0 : BitVec 1 := Scalar.xori v2504_r0 v2505_r0
  let c0_i32_1247_r0 : BitVec 32 := 0#32
  let v2503_r0 : BitVec 1 := Scalar.cmpi .ne v2502_r0 c0_i32_1247_r0
  let v2507_r0 : BitVec 1 := Scalar.andi v2506_r0 v2503_r0
  let v2508_r0 : BitVec 32 := Scalar.addi v2502_r0 v2501_r0
  let v2509_r0 : BitVec 32 := Scalar.select v2507_r0 v2508_r0 v2502_r0
  ![v2509_r0.toNat]
def k0_off146 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_1229_r0 : BitVec 32 := 6#32
  let v2471_r0 : BitVec 32 := Scalar.addi v448_r0 c6_i32_1229_r0
  let c1_i32_1230_r0 : BitVec 32 := 1#32
  let v2472_r0 : BitVec 32 := Scalar.subi v2471_r0 c1_i32_1230_r0
  let c6_i32_1244_r0 : BitVec 32 := 6#32
  let c0_i32_1245_r0 : BitVec 32 := 0#32
  let v2500_r0 : BitVec 1 := Scalar.cmpi .eq c6_i32_1244_r0 c0_i32_1245_r0
  let c1_i32_1246_r0 : BitVec 32 := 1#32
  let v2501_r0 : BitVec 32 := Scalar.select v2500_r0 c1_i32_1246_r0 c6_i32_1244_r0
  let v2502_r0 : BitVec 32 := Scalar.remsi v2472_r0 v2501_r0
  let c0_i32_1248_r0 : BitVec 32 := 0#32
  let v2504_r0 : BitVec 1 := Scalar.cmpi .slt v2502_r0 c0_i32_1248_r0
  let c0_i32_1249_r0 : BitVec 32 := 0#32
  let v2505_r0 : BitVec 1 := Scalar.cmpi .slt v2501_r0 c0_i32_1249_r0
  let v2506_r0 : BitVec 1 := Scalar.xori v2504_r0 v2505_r0
  let c0_i32_1247_r0 : BitVec 32 := 0#32
  let v2503_r0 : BitVec 1 := Scalar.cmpi .ne v2502_r0 c0_i32_1247_r0
  let v2507_r0 : BitVec 1 := Scalar.andi v2506_r0 v2503_r0
  let v2508_r0 : BitVec 32 := Scalar.addi v2502_r0 v2501_r0
  let v2509_r0 : BitVec 32 := Scalar.select v2507_r0 v2508_r0 v2502_r0
  let c0_i32_1254_r0 : BitVec 32 := 0#32
  let c0_i32_1255_r0 : BitVec 32 := 0#32
  let c0_i32_1256_r0 : BitVec 32 := 0#32
  ![v2509_r0.toNat, 0, 0, 0]
def k0_off147 (k0_t2 : Fin k0_t2_loop.trips) (k0_t3 : Fin k0_t3_loop.trips) : Fin 2 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_1229_r0 : BitVec 32 := 6#32
  let v2471_r0 : BitVec 32 := Scalar.addi v448_r0 c6_i32_1229_r0
  let c1_i32_1230_r0 : BitVec 32 := 1#32
  let v2472_r0 : BitVec 32 := Scalar.subi v2471_r0 c1_i32_1230_r0
  let c9_i32_1238_r0 : BitVec 32 := 9#32
  let c0_i32_1239_r0 : BitVec 32 := 0#32
  let v2490_r0 : BitVec 1 := Scalar.cmpi .eq c9_i32_1238_r0 c0_i32_1239_r0
  let c1_i32_1240_r0 : BitVec 32 := 1#32
  let v2491_r0 : BitVec 32 := Scalar.select v2490_r0 c1_i32_1240_r0 c9_i32_1238_r0
  let v2492_r0 : BitVec 32 := Scalar.remsi v2472_r0 v2491_r0
  let c0_i32_1242_r0 : BitVec 32 := 0#32
  let v2494_r0 : BitVec 1 := Scalar.cmpi .slt v2492_r0 c0_i32_1242_r0
  let c0_i32_1243_r0 : BitVec 32 := 0#32
  let v2495_r0 : BitVec 1 := Scalar.cmpi .slt v2491_r0 c0_i32_1243_r0
  let v2496_r0 : BitVec 1 := Scalar.xori v2494_r0 v2495_r0
  let c0_i32_1241_r0 : BitVec 32 := 0#32
  let v2493_r0 : BitVec 1 := Scalar.cmpi .ne v2492_r0 c0_i32_1241_r0
  let v2497_r0 : BitVec 1 := Scalar.andi v2496_r0 v2493_r0
  let v2498_r0 : BitVec 32 := Scalar.addi v2492_r0 v2491_r0
  let v2499_r0 : BitVec 32 := Scalar.select v2497_r0 v2498_r0 v2492_r0
  let c1536_i32_1250_r0 : BitVec 32 := 1536#32
  let v2510_r0 : BitVec 32 := Scalar.muli v2499_r0 c1536_i32_1250_r0
  let c0_i32_1232_r0 : BitVec 32 := 0#32
  let v2474_r0 : BitVec 1 := Scalar.cmpi .sgt v2472_r0 c0_i32_1232_r0
  let v2475_r0 : BitVec 32 := Scalar.extui v2474_r0
  let c0_i32_1233_r0 : BitVec 32 := 0#32
  let v2476_r0 : BitVec 1 := Scalar.cmpi .slt v2472_r0 c0_i32_1233_r0
  let v2477_r0 : BitVec 32 := Scalar.extui v2476_r0
  let v2478_r0 : BitVec 32 := Scalar.subi v2475_r0 v2477_r0
  let c9_i32_1231_r0 : BitVec 32 := 9#32
  let c0_i32_1234_r0 : BitVec 32 := 0#32
  let v2479_r0 : BitVec 1 := Scalar.cmpi .sgt c9_i32_1231_r0 c0_i32_1234_r0
  let v2480_r0 : BitVec 32 := Scalar.extui v2479_r0
  let c0_i32_1235_r0 : BitVec 32 := 0#32
  let v2481_r0 : BitVec 1 := Scalar.cmpi .slt c9_i32_1231_r0 c0_i32_1235_r0
  let v2482_r0 : BitVec 32 := Scalar.extui v2481_r0
  let v2483_r0 : BitVec 32 := Scalar.subi v2480_r0 v2482_r0
  let v2484_r0 : BitVec 1 := Scalar.cmpi .ne v2478_r0 v2483_r0
  let v2485_r0 : BitVec 32 := Scalar.remsi v2472_r0 c9_i32_1231_r0
  let c0_i32_1236_r0 : BitVec 32 := 0#32
  let v2486_r0 : BitVec 1 := Scalar.cmpi .ne v2485_r0 c0_i32_1236_r0
  let v2487_r0 : BitVec 1 := Scalar.andi v2484_r0 v2486_r0
  let v2473_r0 : BitVec 32 := Scalar.divsi v2472_r0 c9_i32_1231_r0
  let c1_i32_1237_r0 : BitVec 32 := 1#32
  let v2488_r0 : BitVec 32 := Scalar.subi v2473_r0 c1_i32_1237_r0
  let v2489_r0 : BitVec 32 := Scalar.select v2487_r0 v2488_r0 v2473_r0
  let c512_i32_1251_r0 : BitVec 32 := 512#32
  let v2511_r0 : BitVec 32 := Scalar.muli v2489_r0 c512_i32_1251_r0
  ![v2510_r0.toNat, v2511_r0.toNat]
def k0_off148 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_1229_r0 : BitVec 32 := 6#32
  let v2471_r0 : BitVec 32 := Scalar.addi v448_r0 c6_i32_1229_r0
  let c1_i32_1230_r0 : BitVec 32 := 1#32
  let v2472_r0 : BitVec 32 := Scalar.subi v2471_r0 c1_i32_1230_r0
  let c6_i32_1244_r0 : BitVec 32 := 6#32
  let c0_i32_1245_r0 : BitVec 32 := 0#32
  let v2500_r0 : BitVec 1 := Scalar.cmpi .eq c6_i32_1244_r0 c0_i32_1245_r0
  let c1_i32_1246_r0 : BitVec 32 := 1#32
  let v2501_r0 : BitVec 32 := Scalar.select v2500_r0 c1_i32_1246_r0 c6_i32_1244_r0
  let v2502_r0 : BitVec 32 := Scalar.remsi v2472_r0 v2501_r0
  let c0_i32_1248_r0 : BitVec 32 := 0#32
  let v2504_r0 : BitVec 1 := Scalar.cmpi .slt v2502_r0 c0_i32_1248_r0
  let c0_i32_1249_r0 : BitVec 32 := 0#32
  let v2505_r0 : BitVec 1 := Scalar.cmpi .slt v2501_r0 c0_i32_1249_r0
  let v2506_r0 : BitVec 1 := Scalar.xori v2504_r0 v2505_r0
  let c0_i32_1247_r0 : BitVec 32 := 0#32
  let v2503_r0 : BitVec 1 := Scalar.cmpi .ne v2502_r0 c0_i32_1247_r0
  let v2507_r0 : BitVec 1 := Scalar.andi v2506_r0 v2503_r0
  let v2508_r0 : BitVec 32 := Scalar.addi v2502_r0 v2501_r0
  let v2509_r0 : BitVec 32 := Scalar.select v2507_r0 v2508_r0 v2502_r0
  let c1_i32_1257_r0 : BitVec 32 := 1#32
  let c0_i32_1258_r0 : BitVec 32 := 0#32
  let c0_i32_1259_r0 : BitVec 32 := 0#32
  ![v2509_r0.toNat, 1, 0, 0]
def k0_off149 (k0_t3 : Fin k0_t3_loop.trips) : Fin 3 → Nat :=
  let c0_i32_378_r0 : BitVec 32 := 0#32
  let c1_i32_380_r0 : BitVec 32 := 1#32
  let arg17_r0 : BitVec 32 := Scf.iv c0_i32_378_r0 c1_i32_380_r0 k0_t3
  let v515_r0 : Index := Scalar.indexCast arg17_r0
  let c0_455_r0 : Index := 0#32
  let c0_456_r0 : Index := 0#32
  ![v515_r0.toNat, 0, 0]
def k0_off150 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_449_r0 : BitVec 32 := 6#32
  let c0_i32_450_r0 : BitVec 32 := 0#32
  let v505_r0 : BitVec 1 := Scalar.cmpi .eq c6_i32_449_r0 c0_i32_450_r0
  let c1_i32_451_r0 : BitVec 32 := 1#32
  let v506_r0 : BitVec 32 := Scalar.select v505_r0 c1_i32_451_r0 c6_i32_449_r0
  let v507_r0 : BitVec 32 := Scalar.remsi v448_r0 v506_r0
  let c0_i32_453_r0 : BitVec 32 := 0#32
  let v509_r0 : BitVec 1 := Scalar.cmpi .slt v507_r0 c0_i32_453_r0
  let c0_i32_454_r0 : BitVec 32 := 0#32
  let v510_r0 : BitVec 1 := Scalar.cmpi .slt v506_r0 c0_i32_454_r0
  let v511_r0 : BitVec 1 := Scalar.xori v509_r0 v510_r0
  let c0_i32_452_r0 : BitVec 32 := 0#32
  let v508_r0 : BitVec 1 := Scalar.cmpi .ne v507_r0 c0_i32_452_r0
  let v512_r0 : BitVec 1 := Scalar.andi v511_r0 v508_r0
  let v513_r0 : BitVec 32 := Scalar.addi v507_r0 v506_r0
  let v514_r0 : BitVec 32 := Scalar.select v512_r0 v513_r0 v507_r0
  let v518_r0 : Index := Scalar.indexCast v514_r0
  let c0_457_r0 : Index := 0#32
  let c0_458_r0 : Index := 0#32
  let c0_459_r0 : Index := 0#32
  ![v518_r0.toNat, 0, 0, 0]
def k0_off151 (k0_t3 : Fin k0_t3_loop.trips) (c0_i32_465_r0 : BitVec 32) : Fin 5 → Nat :=
  let c0_466_r0 : Index := 0#32
  let c0_467_r0 : Index := 0#32
  let c0_i32_378_r0 : BitVec 32 := 0#32
  let c1_i32_380_r0 : BitVec 32 := 1#32
  let arg17_r0 : BitVec 32 := Scf.iv c0_i32_378_r0 c1_i32_380_r0 k0_t3
  let c6_i32_464_r0 : BitVec 32 := 6#32
  let v538_r0 : BitVec 32 := Scalar.muli arg17_r0 c6_i32_464_r0
  let v539_r0 : BitVec 32 := Scalar.addi v538_r0 c0_i32_465_r0
  let v540_r0 : Index := Scalar.indexCast v539_r0
  let c0_468_r0 : Index := 0#32
  ![0, 0, v540_r0.toNat, 0, 0]
def k0_off152 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_449_r0 : BitVec 32 := 6#32
  let c0_i32_450_r0 : BitVec 32 := 0#32
  let v505_r0 : BitVec 1 := Scalar.cmpi .eq c6_i32_449_r0 c0_i32_450_r0
  let c1_i32_451_r0 : BitVec 32 := 1#32
  let v506_r0 : BitVec 32 := Scalar.select v505_r0 c1_i32_451_r0 c6_i32_449_r0
  let v507_r0 : BitVec 32 := Scalar.remsi v448_r0 v506_r0
  let c0_i32_453_r0 : BitVec 32 := 0#32
  let v509_r0 : BitVec 1 := Scalar.cmpi .slt v507_r0 c0_i32_453_r0
  let c0_i32_454_r0 : BitVec 32 := 0#32
  let v510_r0 : BitVec 1 := Scalar.cmpi .slt v506_r0 c0_i32_454_r0
  let v511_r0 : BitVec 1 := Scalar.xori v509_r0 v510_r0
  let c0_i32_452_r0 : BitVec 32 := 0#32
  let v508_r0 : BitVec 1 := Scalar.cmpi .ne v507_r0 c0_i32_452_r0
  let v512_r0 : BitVec 1 := Scalar.andi v511_r0 v508_r0
  let v513_r0 : BitVec 32 := Scalar.addi v507_r0 v506_r0
  let v514_r0 : BitVec 32 := Scalar.select v512_r0 v513_r0 v507_r0
  let v558_r0 : Index := Scalar.indexCast v514_r0
  let c1_471_r0 : Index := 1#32
  let c0_472_r0 : Index := 0#32
  let c0_473_r0 : Index := 0#32
  ![v558_r0.toNat, 1, 0, 0]
def k0_off153 (k0_t3 : Fin k0_t3_loop.trips) (c0_i32_481_r0 : BitVec 32) : Fin 5 → Nat :=
  let c1_482_r0 : Index := 1#32
  let c0_483_r0 : Index := 0#32
  let c0_i32_378_r0 : BitVec 32 := 0#32
  let c1_i32_380_r0 : BitVec 32 := 1#32
  let arg17_r0 : BitVec 32 := Scf.iv c0_i32_378_r0 c1_i32_380_r0 k0_t3
  let c6_i32_480_r0 : BitVec 32 := 6#32
  let v578_r0 : BitVec 32 := Scalar.muli arg17_r0 c6_i32_480_r0
  let v579_r0 : BitVec 32 := Scalar.addi v578_r0 c0_i32_481_r0
  let v580_r0 : Index := Scalar.indexCast v579_r0
  let c0_484_r0 : Index := 0#32
  ![1, 0, v580_r0.toNat, 0, 0]
def k0_off154 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_449_r0 : BitVec 32 := 6#32
  let c0_i32_450_r0 : BitVec 32 := 0#32
  let v505_r0 : BitVec 1 := Scalar.cmpi .eq c6_i32_449_r0 c0_i32_450_r0
  let c1_i32_451_r0 : BitVec 32 := 1#32
  let v506_r0 : BitVec 32 := Scalar.select v505_r0 c1_i32_451_r0 c6_i32_449_r0
  let v507_r0 : BitVec 32 := Scalar.remsi v448_r0 v506_r0
  let c0_i32_453_r0 : BitVec 32 := 0#32
  let v509_r0 : BitVec 1 := Scalar.cmpi .slt v507_r0 c0_i32_453_r0
  let c0_i32_454_r0 : BitVec 32 := 0#32
  let v510_r0 : BitVec 1 := Scalar.cmpi .slt v506_r0 c0_i32_454_r0
  let v511_r0 : BitVec 1 := Scalar.xori v509_r0 v510_r0
  let c0_i32_452_r0 : BitVec 32 := 0#32
  let v508_r0 : BitVec 1 := Scalar.cmpi .ne v507_r0 c0_i32_452_r0
  let v512_r0 : BitVec 1 := Scalar.andi v511_r0 v508_r0
  let v513_r0 : BitVec 32 := Scalar.addi v507_r0 v506_r0
  let v514_r0 : BitVec 32 := Scalar.select v512_r0 v513_r0 v507_r0
  let v598_r0 : Index := Scalar.indexCast v514_r0
  let c0_487_r0 : Index := 0#32
  let c0_488_r0 : Index := 0#32
  let c256_489_r0 : Index := 256#32
  ![v598_r0.toNat, 0, 0, 256]
def k0_off155 (k0_t3 : Fin k0_t3_loop.trips) (c0_i32_497_r0 : BitVec 32) : Fin 5 → Nat :=
  let c0_498_r0 : Index := 0#32
  let c0_499_r0 : Index := 0#32
  let c0_i32_378_r0 : BitVec 32 := 0#32
  let c1_i32_380_r0 : BitVec 32 := 1#32
  let arg17_r0 : BitVec 32 := Scf.iv c0_i32_378_r0 c1_i32_380_r0 k0_t3
  let c6_i32_496_r0 : BitVec 32 := 6#32
  let v618_r0 : BitVec 32 := Scalar.muli arg17_r0 c6_i32_496_r0
  let v619_r0 : BitVec 32 := Scalar.addi v618_r0 c0_i32_497_r0
  let v620_r0 : Index := Scalar.indexCast v619_r0
  let c256_500_r0 : Index := 256#32
  ![0, 0, v620_r0.toNat, 0, 256]
def k0_off156 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_449_r0 : BitVec 32 := 6#32
  let c0_i32_450_r0 : BitVec 32 := 0#32
  let v505_r0 : BitVec 1 := Scalar.cmpi .eq c6_i32_449_r0 c0_i32_450_r0
  let c1_i32_451_r0 : BitVec 32 := 1#32
  let v506_r0 : BitVec 32 := Scalar.select v505_r0 c1_i32_451_r0 c6_i32_449_r0
  let v507_r0 : BitVec 32 := Scalar.remsi v448_r0 v506_r0
  let c0_i32_453_r0 : BitVec 32 := 0#32
  let v509_r0 : BitVec 1 := Scalar.cmpi .slt v507_r0 c0_i32_453_r0
  let c0_i32_454_r0 : BitVec 32 := 0#32
  let v510_r0 : BitVec 1 := Scalar.cmpi .slt v506_r0 c0_i32_454_r0
  let v511_r0 : BitVec 1 := Scalar.xori v509_r0 v510_r0
  let c0_i32_452_r0 : BitVec 32 := 0#32
  let v508_r0 : BitVec 1 := Scalar.cmpi .ne v507_r0 c0_i32_452_r0
  let v512_r0 : BitVec 1 := Scalar.andi v511_r0 v508_r0
  let v513_r0 : BitVec 32 := Scalar.addi v507_r0 v506_r0
  let v514_r0 : BitVec 32 := Scalar.select v512_r0 v513_r0 v507_r0
  let v638_r0 : Index := Scalar.indexCast v514_r0
  let c1_503_r0 : Index := 1#32
  let c0_504_r0 : Index := 0#32
  let c256_505_r0 : Index := 256#32
  ![v638_r0.toNat, 1, 0, 256]
def k0_off157 (k0_t3 : Fin k0_t3_loop.trips) (c0_i32_513_r0 : BitVec 32) : Fin 5 → Nat :=
  let c1_514_r0 : Index := 1#32
  let c0_515_r0 : Index := 0#32
  let c0_i32_378_r0 : BitVec 32 := 0#32
  let c1_i32_380_r0 : BitVec 32 := 1#32
  let arg17_r0 : BitVec 32 := Scf.iv c0_i32_378_r0 c1_i32_380_r0 k0_t3
  let c6_i32_512_r0 : BitVec 32 := 6#32
  let v658_r0 : BitVec 32 := Scalar.muli arg17_r0 c6_i32_512_r0
  let v659_r0 : BitVec 32 := Scalar.addi v658_r0 c0_i32_513_r0
  let v660_r0 : Index := Scalar.indexCast v659_r0
  let c256_516_r0 : Index := 256#32
  ![1, 0, v660_r0.toNat, 0, 256]
def k0_off158 (k0_t3 : Fin k0_t3_loop.trips) : Fin 3 → Nat :=
  let c0_i32_378_r0 : BitVec 32 := 0#32
  let c1_i32_380_r0 : BitVec 32 := 1#32
  let arg17_r0 : BitVec 32 := Scf.iv c0_i32_378_r0 c1_i32_380_r0 k0_t3
  let v678_r0 : Index := Scalar.indexCast arg17_r0
  let c0_519_r0 : Index := 0#32
  let c256_520_r0 : Index := 256#32
  ![v678_r0.toNat, 0, 256]
def k0_off159 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_449_r0 : BitVec 32 := 6#32
  let c0_i32_450_r0 : BitVec 32 := 0#32
  let v505_r0 : BitVec 1 := Scalar.cmpi .eq c6_i32_449_r0 c0_i32_450_r0
  let c1_i32_451_r0 : BitVec 32 := 1#32
  let v506_r0 : BitVec 32 := Scalar.select v505_r0 c1_i32_451_r0 c6_i32_449_r0
  let v507_r0 : BitVec 32 := Scalar.remsi v448_r0 v506_r0
  let c0_i32_453_r0 : BitVec 32 := 0#32
  let v509_r0 : BitVec 1 := Scalar.cmpi .slt v507_r0 c0_i32_453_r0
  let c0_i32_454_r0 : BitVec 32 := 0#32
  let v510_r0 : BitVec 1 := Scalar.cmpi .slt v506_r0 c0_i32_454_r0
  let v511_r0 : BitVec 1 := Scalar.xori v509_r0 v510_r0
  let c0_i32_452_r0 : BitVec 32 := 0#32
  let v508_r0 : BitVec 1 := Scalar.cmpi .ne v507_r0 c0_i32_452_r0
  let v512_r0 : BitVec 1 := Scalar.andi v511_r0 v508_r0
  let v513_r0 : BitVec 32 := Scalar.addi v507_r0 v506_r0
  let v514_r0 : BitVec 32 := Scalar.select v512_r0 v513_r0 v507_r0
  let v681_r0 : Index := Scalar.indexCast v514_r0
  let c0_521_r0 : Index := 0#32
  let c128_r0 : Index := 128#32
  let c0_522_r0 : Index := 0#32
  ![v681_r0.toNat, 0, 128, 0]
def k0_off160 (k0_t3 : Fin k0_t3_loop.trips) (c0_i32_530_r0 : BitVec 32) : Fin 5 → Nat :=
  let c0_531_r0 : Index := 0#32
  let c1_532_r0 : Index := 1#32
  let c0_i32_378_r0 : BitVec 32 := 0#32
  let c1_i32_380_r0 : BitVec 32 := 1#32
  let arg17_r0 : BitVec 32 := Scf.iv c0_i32_378_r0 c1_i32_380_r0 k0_t3
  let c6_i32_529_r0 : BitVec 32 := 6#32
  let v701_r0 : BitVec 32 := Scalar.muli arg17_r0 c6_i32_529_r0
  let v702_r0 : BitVec 32 := Scalar.addi v701_r0 c0_i32_530_r0
  let v703_r0 : Index := Scalar.indexCast v702_r0
  let c0_533_r0 : Index := 0#32
  ![0, 1, v703_r0.toNat, 0, 0]
def k0_off161 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_449_r0 : BitVec 32 := 6#32
  let c0_i32_450_r0 : BitVec 32 := 0#32
  let v505_r0 : BitVec 1 := Scalar.cmpi .eq c6_i32_449_r0 c0_i32_450_r0
  let c1_i32_451_r0 : BitVec 32 := 1#32
  let v506_r0 : BitVec 32 := Scalar.select v505_r0 c1_i32_451_r0 c6_i32_449_r0
  let v507_r0 : BitVec 32 := Scalar.remsi v448_r0 v506_r0
  let c0_i32_453_r0 : BitVec 32 := 0#32
  let v509_r0 : BitVec 1 := Scalar.cmpi .slt v507_r0 c0_i32_453_r0
  let c0_i32_454_r0 : BitVec 32 := 0#32
  let v510_r0 : BitVec 1 := Scalar.cmpi .slt v506_r0 c0_i32_454_r0
  let v511_r0 : BitVec 1 := Scalar.xori v509_r0 v510_r0
  let c0_i32_452_r0 : BitVec 32 := 0#32
  let v508_r0 : BitVec 1 := Scalar.cmpi .ne v507_r0 c0_i32_452_r0
  let v512_r0 : BitVec 1 := Scalar.andi v511_r0 v508_r0
  let v513_r0 : BitVec 32 := Scalar.addi v507_r0 v506_r0
  let v514_r0 : BitVec 32 := Scalar.select v512_r0 v513_r0 v507_r0
  let v721_r0 : Index := Scalar.indexCast v514_r0
  let c1_536_r0 : Index := 1#32
  let c128_537_r0 : Index := 128#32
  let c0_538_r0 : Index := 0#32
  ![v721_r0.toNat, 1, 128, 0]
def k0_off162 (k0_t3 : Fin k0_t3_loop.trips) (c0_i32_546_r0 : BitVec 32) : Fin 5 → Nat :=
  let c1_547_r0 : Index := 1#32
  let c1_548_r0 : Index := 1#32
  let c0_i32_378_r0 : BitVec 32 := 0#32
  let c1_i32_380_r0 : BitVec 32 := 1#32
  let arg17_r0 : BitVec 32 := Scf.iv c0_i32_378_r0 c1_i32_380_r0 k0_t3
  let c6_i32_545_r0 : BitVec 32 := 6#32
  let v741_r0 : BitVec 32 := Scalar.muli arg17_r0 c6_i32_545_r0
  let v742_r0 : BitVec 32 := Scalar.addi v741_r0 c0_i32_546_r0
  let v743_r0 : Index := Scalar.indexCast v742_r0
  let c0_549_r0 : Index := 0#32
  ![1, 1, v743_r0.toNat, 0, 0]
def k0_off163 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_449_r0 : BitVec 32 := 6#32
  let c0_i32_450_r0 : BitVec 32 := 0#32
  let v505_r0 : BitVec 1 := Scalar.cmpi .eq c6_i32_449_r0 c0_i32_450_r0
  let c1_i32_451_r0 : BitVec 32 := 1#32
  let v506_r0 : BitVec 32 := Scalar.select v505_r0 c1_i32_451_r0 c6_i32_449_r0
  let v507_r0 : BitVec 32 := Scalar.remsi v448_r0 v506_r0
  let c0_i32_453_r0 : BitVec 32 := 0#32
  let v509_r0 : BitVec 1 := Scalar.cmpi .slt v507_r0 c0_i32_453_r0
  let c0_i32_454_r0 : BitVec 32 := 0#32
  let v510_r0 : BitVec 1 := Scalar.cmpi .slt v506_r0 c0_i32_454_r0
  let v511_r0 : BitVec 1 := Scalar.xori v509_r0 v510_r0
  let c0_i32_452_r0 : BitVec 32 := 0#32
  let v508_r0 : BitVec 1 := Scalar.cmpi .ne v507_r0 c0_i32_452_r0
  let v512_r0 : BitVec 1 := Scalar.andi v511_r0 v508_r0
  let v513_r0 : BitVec 32 := Scalar.addi v507_r0 v506_r0
  let v514_r0 : BitVec 32 := Scalar.select v512_r0 v513_r0 v507_r0
  let v761_r0 : Index := Scalar.indexCast v514_r0
  let c0_552_r0 : Index := 0#32
  let c128_553_r0 : Index := 128#32
  let c256_554_r0 : Index := 256#32
  ![v761_r0.toNat, 0, 128, 256]
def k0_off164 (k0_t3 : Fin k0_t3_loop.trips) (c0_i32_562_r0 : BitVec 32) : Fin 5 → Nat :=
  let c0_563_r0 : Index := 0#32
  let c1_564_r0 : Index := 1#32
  let c0_i32_378_r0 : BitVec 32 := 0#32
  let c1_i32_380_r0 : BitVec 32 := 1#32
  let arg17_r0 : BitVec 32 := Scf.iv c0_i32_378_r0 c1_i32_380_r0 k0_t3
  let c6_i32_561_r0 : BitVec 32 := 6#32
  let v781_r0 : BitVec 32 := Scalar.muli arg17_r0 c6_i32_561_r0
  let v782_r0 : BitVec 32 := Scalar.addi v781_r0 c0_i32_562_r0
  let v783_r0 : Index := Scalar.indexCast v782_r0
  let c256_565_r0 : Index := 256#32
  ![0, 1, v783_r0.toNat, 0, 256]
def k0_off165 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_449_r0 : BitVec 32 := 6#32
  let c0_i32_450_r0 : BitVec 32 := 0#32
  let v505_r0 : BitVec 1 := Scalar.cmpi .eq c6_i32_449_r0 c0_i32_450_r0
  let c1_i32_451_r0 : BitVec 32 := 1#32
  let v506_r0 : BitVec 32 := Scalar.select v505_r0 c1_i32_451_r0 c6_i32_449_r0
  let v507_r0 : BitVec 32 := Scalar.remsi v448_r0 v506_r0
  let c0_i32_453_r0 : BitVec 32 := 0#32
  let v509_r0 : BitVec 1 := Scalar.cmpi .slt v507_r0 c0_i32_453_r0
  let c0_i32_454_r0 : BitVec 32 := 0#32
  let v510_r0 : BitVec 1 := Scalar.cmpi .slt v506_r0 c0_i32_454_r0
  let v511_r0 : BitVec 1 := Scalar.xori v509_r0 v510_r0
  let c0_i32_452_r0 : BitVec 32 := 0#32
  let v508_r0 : BitVec 1 := Scalar.cmpi .ne v507_r0 c0_i32_452_r0
  let v512_r0 : BitVec 1 := Scalar.andi v511_r0 v508_r0
  let v513_r0 : BitVec 32 := Scalar.addi v507_r0 v506_r0
  let v514_r0 : BitVec 32 := Scalar.select v512_r0 v513_r0 v507_r0
  let v801_r0 : Index := Scalar.indexCast v514_r0
  let c1_568_r0 : Index := 1#32
  let c128_569_r0 : Index := 128#32
  let c256_570_r0 : Index := 256#32
  ![v801_r0.toNat, 1, 128, 256]
def k0_off166 (k0_t3 : Fin k0_t3_loop.trips) (c0_i32_578_r0 : BitVec 32) : Fin 5 → Nat :=
  let c1_579_r0 : Index := 1#32
  let c1_580_r0 : Index := 1#32
  let c0_i32_378_r0 : BitVec 32 := 0#32
  let c1_i32_380_r0 : BitVec 32 := 1#32
  let arg17_r0 : BitVec 32 := Scf.iv c0_i32_378_r0 c1_i32_380_r0 k0_t3
  let c6_i32_577_r0 : BitVec 32 := 6#32
  let v821_r0 : BitVec 32 := Scalar.muli arg17_r0 c6_i32_577_r0
  let v822_r0 : BitVec 32 := Scalar.addi v821_r0 c0_i32_578_r0
  let v823_r0 : Index := Scalar.indexCast v822_r0
  let c256_581_r0 : Index := 256#32
  ![1, 1, v823_r0.toNat, 0, 256]
def k0_off167 (k0_t3 : Fin k0_t3_loop.trips) : Fin 3 → Nat :=
  let c0_i32_378_r0 : BitVec 32 := 0#32
  let c1_i32_380_r0 : BitVec 32 := 1#32
  let arg17_r0 : BitVec 32 := Scf.iv c0_i32_378_r0 c1_i32_380_r0 k0_t3
  let v841_r0 : Index := Scalar.indexCast arg17_r0
  let c0_584_r0 : Index := 0#32
  let c512_r0 : Index := 512#32
  ![v841_r0.toNat, 0, 512]
def k0_off168 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_449_r0 : BitVec 32 := 6#32
  let c0_i32_450_r0 : BitVec 32 := 0#32
  let v505_r0 : BitVec 1 := Scalar.cmpi .eq c6_i32_449_r0 c0_i32_450_r0
  let c1_i32_451_r0 : BitVec 32 := 1#32
  let v506_r0 : BitVec 32 := Scalar.select v505_r0 c1_i32_451_r0 c6_i32_449_r0
  let v507_r0 : BitVec 32 := Scalar.remsi v448_r0 v506_r0
  let c0_i32_453_r0 : BitVec 32 := 0#32
  let v509_r0 : BitVec 1 := Scalar.cmpi .slt v507_r0 c0_i32_453_r0
  let c0_i32_454_r0 : BitVec 32 := 0#32
  let v510_r0 : BitVec 1 := Scalar.cmpi .slt v506_r0 c0_i32_454_r0
  let v511_r0 : BitVec 1 := Scalar.xori v509_r0 v510_r0
  let c0_i32_452_r0 : BitVec 32 := 0#32
  let v508_r0 : BitVec 1 := Scalar.cmpi .ne v507_r0 c0_i32_452_r0
  let v512_r0 : BitVec 1 := Scalar.andi v511_r0 v508_r0
  let v513_r0 : BitVec 32 := Scalar.addi v507_r0 v506_r0
  let v514_r0 : BitVec 32 := Scalar.select v512_r0 v513_r0 v507_r0
  let v844_r0 : Index := Scalar.indexCast v514_r0
  let c0_585_r0 : Index := 0#32
  let c256_586_r0 : Index := 256#32
  let c0_587_r0 : Index := 0#32
  ![v844_r0.toNat, 0, 256, 0]
def k0_off169 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_449_r0 : BitVec 32 := 6#32
  let c0_i32_450_r0 : BitVec 32 := 0#32
  let v505_r0 : BitVec 1 := Scalar.cmpi .eq c6_i32_449_r0 c0_i32_450_r0
  let c1_i32_451_r0 : BitVec 32 := 1#32
  let v506_r0 : BitVec 32 := Scalar.select v505_r0 c1_i32_451_r0 c6_i32_449_r0
  let v507_r0 : BitVec 32 := Scalar.remsi v448_r0 v506_r0
  let c0_i32_453_r0 : BitVec 32 := 0#32
  let v509_r0 : BitVec 1 := Scalar.cmpi .slt v507_r0 c0_i32_453_r0
  let c0_i32_454_r0 : BitVec 32 := 0#32
  let v510_r0 : BitVec 1 := Scalar.cmpi .slt v506_r0 c0_i32_454_r0
  let v511_r0 : BitVec 1 := Scalar.xori v509_r0 v510_r0
  let c0_i32_452_r0 : BitVec 32 := 0#32
  let v508_r0 : BitVec 1 := Scalar.cmpi .ne v507_r0 c0_i32_452_r0
  let v512_r0 : BitVec 1 := Scalar.andi v511_r0 v508_r0
  let v513_r0 : BitVec 32 := Scalar.addi v507_r0 v506_r0
  let v514_r0 : BitVec 32 := Scalar.select v512_r0 v513_r0 v507_r0
  let v884_r0 : Index := Scalar.indexCast v514_r0
  let c1_601_r0 : Index := 1#32
  let c256_602_r0 : Index := 256#32
  let c0_603_r0 : Index := 0#32
  ![v884_r0.toNat, 1, 256, 0]
def k0_off170 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_449_r0 : BitVec 32 := 6#32
  let c0_i32_450_r0 : BitVec 32 := 0#32
  let v505_r0 : BitVec 1 := Scalar.cmpi .eq c6_i32_449_r0 c0_i32_450_r0
  let c1_i32_451_r0 : BitVec 32 := 1#32
  let v506_r0 : BitVec 32 := Scalar.select v505_r0 c1_i32_451_r0 c6_i32_449_r0
  let v507_r0 : BitVec 32 := Scalar.remsi v448_r0 v506_r0
  let c0_i32_453_r0 : BitVec 32 := 0#32
  let v509_r0 : BitVec 1 := Scalar.cmpi .slt v507_r0 c0_i32_453_r0
  let c0_i32_454_r0 : BitVec 32 := 0#32
  let v510_r0 : BitVec 1 := Scalar.cmpi .slt v506_r0 c0_i32_454_r0
  let v511_r0 : BitVec 1 := Scalar.xori v509_r0 v510_r0
  let c0_i32_452_r0 : BitVec 32 := 0#32
  let v508_r0 : BitVec 1 := Scalar.cmpi .ne v507_r0 c0_i32_452_r0
  let v512_r0 : BitVec 1 := Scalar.andi v511_r0 v508_r0
  let v513_r0 : BitVec 32 := Scalar.addi v507_r0 v506_r0
  let v514_r0 : BitVec 32 := Scalar.select v512_r0 v513_r0 v507_r0
  let v924_r0 : Index := Scalar.indexCast v514_r0
  let c0_617_r0 : Index := 0#32
  let c256_618_r0 : Index := 256#32
  let c256_619_r0 : Index := 256#32
  ![v924_r0.toNat, 0, 256, 256]
def k0_off171 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_449_r0 : BitVec 32 := 6#32
  let c0_i32_450_r0 : BitVec 32 := 0#32
  let v505_r0 : BitVec 1 := Scalar.cmpi .eq c6_i32_449_r0 c0_i32_450_r0
  let c1_i32_451_r0 : BitVec 32 := 1#32
  let v506_r0 : BitVec 32 := Scalar.select v505_r0 c1_i32_451_r0 c6_i32_449_r0
  let v507_r0 : BitVec 32 := Scalar.remsi v448_r0 v506_r0
  let c0_i32_453_r0 : BitVec 32 := 0#32
  let v509_r0 : BitVec 1 := Scalar.cmpi .slt v507_r0 c0_i32_453_r0
  let c0_i32_454_r0 : BitVec 32 := 0#32
  let v510_r0 : BitVec 1 := Scalar.cmpi .slt v506_r0 c0_i32_454_r0
  let v511_r0 : BitVec 1 := Scalar.xori v509_r0 v510_r0
  let c0_i32_452_r0 : BitVec 32 := 0#32
  let v508_r0 : BitVec 1 := Scalar.cmpi .ne v507_r0 c0_i32_452_r0
  let v512_r0 : BitVec 1 := Scalar.andi v511_r0 v508_r0
  let v513_r0 : BitVec 32 := Scalar.addi v507_r0 v506_r0
  let v514_r0 : BitVec 32 := Scalar.select v512_r0 v513_r0 v507_r0
  let v964_r0 : Index := Scalar.indexCast v514_r0
  let c1_633_r0 : Index := 1#32
  let c256_634_r0 : Index := 256#32
  let c256_635_r0 : Index := 256#32
  ![v964_r0.toNat, 1, 256, 256]
def k0_off172 (k0_t3 : Fin k0_t3_loop.trips) : Fin 3 → Nat :=
  let c0_i32_378_r0 : BitVec 32 := 0#32
  let c1_i32_380_r0 : BitVec 32 := 1#32
  let arg17_r0 : BitVec 32 := Scf.iv c0_i32_378_r0 c1_i32_380_r0 k0_t3
  let v1004_r0 : Index := Scalar.indexCast arg17_r0
  let c0_649_r0 : Index := 0#32
  let c768_r0 : Index := 768#32
  ![v1004_r0.toNat, 0, 768]
def k0_off173 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_449_r0 : BitVec 32 := 6#32
  let c0_i32_450_r0 : BitVec 32 := 0#32
  let v505_r0 : BitVec 1 := Scalar.cmpi .eq c6_i32_449_r0 c0_i32_450_r0
  let c1_i32_451_r0 : BitVec 32 := 1#32
  let v506_r0 : BitVec 32 := Scalar.select v505_r0 c1_i32_451_r0 c6_i32_449_r0
  let v507_r0 : BitVec 32 := Scalar.remsi v448_r0 v506_r0
  let c0_i32_453_r0 : BitVec 32 := 0#32
  let v509_r0 : BitVec 1 := Scalar.cmpi .slt v507_r0 c0_i32_453_r0
  let c0_i32_454_r0 : BitVec 32 := 0#32
  let v510_r0 : BitVec 1 := Scalar.cmpi .slt v506_r0 c0_i32_454_r0
  let v511_r0 : BitVec 1 := Scalar.xori v509_r0 v510_r0
  let c0_i32_452_r0 : BitVec 32 := 0#32
  let v508_r0 : BitVec 1 := Scalar.cmpi .ne v507_r0 c0_i32_452_r0
  let v512_r0 : BitVec 1 := Scalar.andi v511_r0 v508_r0
  let v513_r0 : BitVec 32 := Scalar.addi v507_r0 v506_r0
  let v514_r0 : BitVec 32 := Scalar.select v512_r0 v513_r0 v507_r0
  let v1007_r0 : Index := Scalar.indexCast v514_r0
  let c0_650_r0 : Index := 0#32
  let c384_r0 : Index := 384#32
  let c0_651_r0 : Index := 0#32
  ![v1007_r0.toNat, 0, 384, 0]
def k0_off174 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_449_r0 : BitVec 32 := 6#32
  let c0_i32_450_r0 : BitVec 32 := 0#32
  let v505_r0 : BitVec 1 := Scalar.cmpi .eq c6_i32_449_r0 c0_i32_450_r0
  let c1_i32_451_r0 : BitVec 32 := 1#32
  let v506_r0 : BitVec 32 := Scalar.select v505_r0 c1_i32_451_r0 c6_i32_449_r0
  let v507_r0 : BitVec 32 := Scalar.remsi v448_r0 v506_r0
  let c0_i32_453_r0 : BitVec 32 := 0#32
  let v509_r0 : BitVec 1 := Scalar.cmpi .slt v507_r0 c0_i32_453_r0
  let c0_i32_454_r0 : BitVec 32 := 0#32
  let v510_r0 : BitVec 1 := Scalar.cmpi .slt v506_r0 c0_i32_454_r0
  let v511_r0 : BitVec 1 := Scalar.xori v509_r0 v510_r0
  let c0_i32_452_r0 : BitVec 32 := 0#32
  let v508_r0 : BitVec 1 := Scalar.cmpi .ne v507_r0 c0_i32_452_r0
  let v512_r0 : BitVec 1 := Scalar.andi v511_r0 v508_r0
  let v513_r0 : BitVec 32 := Scalar.addi v507_r0 v506_r0
  let v514_r0 : BitVec 32 := Scalar.select v512_r0 v513_r0 v507_r0
  let v1047_r0 : Index := Scalar.indexCast v514_r0
  let c1_665_r0 : Index := 1#32
  let c384_666_r0 : Index := 384#32
  let c0_667_r0 : Index := 0#32
  ![v1047_r0.toNat, 1, 384, 0]
def k0_off175 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_449_r0 : BitVec 32 := 6#32
  let c0_i32_450_r0 : BitVec 32 := 0#32
  let v505_r0 : BitVec 1 := Scalar.cmpi .eq c6_i32_449_r0 c0_i32_450_r0
  let c1_i32_451_r0 : BitVec 32 := 1#32
  let v506_r0 : BitVec 32 := Scalar.select v505_r0 c1_i32_451_r0 c6_i32_449_r0
  let v507_r0 : BitVec 32 := Scalar.remsi v448_r0 v506_r0
  let c0_i32_453_r0 : BitVec 32 := 0#32
  let v509_r0 : BitVec 1 := Scalar.cmpi .slt v507_r0 c0_i32_453_r0
  let c0_i32_454_r0 : BitVec 32 := 0#32
  let v510_r0 : BitVec 1 := Scalar.cmpi .slt v506_r0 c0_i32_454_r0
  let v511_r0 : BitVec 1 := Scalar.xori v509_r0 v510_r0
  let c0_i32_452_r0 : BitVec 32 := 0#32
  let v508_r0 : BitVec 1 := Scalar.cmpi .ne v507_r0 c0_i32_452_r0
  let v512_r0 : BitVec 1 := Scalar.andi v511_r0 v508_r0
  let v513_r0 : BitVec 32 := Scalar.addi v507_r0 v506_r0
  let v514_r0 : BitVec 32 := Scalar.select v512_r0 v513_r0 v507_r0
  let v1087_r0 : Index := Scalar.indexCast v514_r0
  let c0_681_r0 : Index := 0#32
  let c384_682_r0 : Index := 384#32
  let c256_683_r0 : Index := 256#32
  ![v1087_r0.toNat, 0, 384, 256]
def k0_off176 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_449_r0 : BitVec 32 := 6#32
  let c0_i32_450_r0 : BitVec 32 := 0#32
  let v505_r0 : BitVec 1 := Scalar.cmpi .eq c6_i32_449_r0 c0_i32_450_r0
  let c1_i32_451_r0 : BitVec 32 := 1#32
  let v506_r0 : BitVec 32 := Scalar.select v505_r0 c1_i32_451_r0 c6_i32_449_r0
  let v507_r0 : BitVec 32 := Scalar.remsi v448_r0 v506_r0
  let c0_i32_453_r0 : BitVec 32 := 0#32
  let v509_r0 : BitVec 1 := Scalar.cmpi .slt v507_r0 c0_i32_453_r0
  let c0_i32_454_r0 : BitVec 32 := 0#32
  let v510_r0 : BitVec 1 := Scalar.cmpi .slt v506_r0 c0_i32_454_r0
  let v511_r0 : BitVec 1 := Scalar.xori v509_r0 v510_r0
  let c0_i32_452_r0 : BitVec 32 := 0#32
  let v508_r0 : BitVec 1 := Scalar.cmpi .ne v507_r0 c0_i32_452_r0
  let v512_r0 : BitVec 1 := Scalar.andi v511_r0 v508_r0
  let v513_r0 : BitVec 32 := Scalar.addi v507_r0 v506_r0
  let v514_r0 : BitVec 32 := Scalar.select v512_r0 v513_r0 v507_r0
  let v1127_r0 : Index := Scalar.indexCast v514_r0
  let c1_697_r0 : Index := 1#32
  let c384_698_r0 : Index := 384#32
  let c256_699_r0 : Index := 256#32
  ![v1127_r0.toNat, 1, 384, 256]
def k0_off177 (k0_t3 : Fin k0_t3_loop.trips) : Fin 3 → Nat :=
  let c0_i32_378_r0 : BitVec 32 := 0#32
  let c1_i32_380_r0 : BitVec 32 := 1#32
  let arg17_r0 : BitVec 32 := Scf.iv c0_i32_378_r0 c1_i32_380_r0 k0_t3
  let v1167_r0 : Index := Scalar.indexCast arg17_r0
  let c0_713_r0 : Index := 0#32
  let c1024_r0 : Index := 1024#32
  ![v1167_r0.toNat, 0, 1024]
def k0_off178 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_449_r0 : BitVec 32 := 6#32
  let c0_i32_450_r0 : BitVec 32 := 0#32
  let v505_r0 : BitVec 1 := Scalar.cmpi .eq c6_i32_449_r0 c0_i32_450_r0
  let c1_i32_451_r0 : BitVec 32 := 1#32
  let v506_r0 : BitVec 32 := Scalar.select v505_r0 c1_i32_451_r0 c6_i32_449_r0
  let v507_r0 : BitVec 32 := Scalar.remsi v448_r0 v506_r0
  let c0_i32_453_r0 : BitVec 32 := 0#32
  let v509_r0 : BitVec 1 := Scalar.cmpi .slt v507_r0 c0_i32_453_r0
  let c0_i32_454_r0 : BitVec 32 := 0#32
  let v510_r0 : BitVec 1 := Scalar.cmpi .slt v506_r0 c0_i32_454_r0
  let v511_r0 : BitVec 1 := Scalar.xori v509_r0 v510_r0
  let c0_i32_452_r0 : BitVec 32 := 0#32
  let v508_r0 : BitVec 1 := Scalar.cmpi .ne v507_r0 c0_i32_452_r0
  let v512_r0 : BitVec 1 := Scalar.andi v511_r0 v508_r0
  let v513_r0 : BitVec 32 := Scalar.addi v507_r0 v506_r0
  let v514_r0 : BitVec 32 := Scalar.select v512_r0 v513_r0 v507_r0
  let v1170_r0 : Index := Scalar.indexCast v514_r0
  let c0_714_r0 : Index := 0#32
  let c512_715_r0 : Index := 512#32
  let c0_716_r0 : Index := 0#32
  ![v1170_r0.toNat, 0, 512, 0]
def k0_off179 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_449_r0 : BitVec 32 := 6#32
  let c0_i32_450_r0 : BitVec 32 := 0#32
  let v505_r0 : BitVec 1 := Scalar.cmpi .eq c6_i32_449_r0 c0_i32_450_r0
  let c1_i32_451_r0 : BitVec 32 := 1#32
  let v506_r0 : BitVec 32 := Scalar.select v505_r0 c1_i32_451_r0 c6_i32_449_r0
  let v507_r0 : BitVec 32 := Scalar.remsi v448_r0 v506_r0
  let c0_i32_453_r0 : BitVec 32 := 0#32
  let v509_r0 : BitVec 1 := Scalar.cmpi .slt v507_r0 c0_i32_453_r0
  let c0_i32_454_r0 : BitVec 32 := 0#32
  let v510_r0 : BitVec 1 := Scalar.cmpi .slt v506_r0 c0_i32_454_r0
  let v511_r0 : BitVec 1 := Scalar.xori v509_r0 v510_r0
  let c0_i32_452_r0 : BitVec 32 := 0#32
  let v508_r0 : BitVec 1 := Scalar.cmpi .ne v507_r0 c0_i32_452_r0
  let v512_r0 : BitVec 1 := Scalar.andi v511_r0 v508_r0
  let v513_r0 : BitVec 32 := Scalar.addi v507_r0 v506_r0
  let v514_r0 : BitVec 32 := Scalar.select v512_r0 v513_r0 v507_r0
  let v1210_r0 : Index := Scalar.indexCast v514_r0
  let c1_730_r0 : Index := 1#32
  let c512_731_r0 : Index := 512#32
  let c0_732_r0 : Index := 0#32
  ![v1210_r0.toNat, 1, 512, 0]
def k0_off180 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_449_r0 : BitVec 32 := 6#32
  let c0_i32_450_r0 : BitVec 32 := 0#32
  let v505_r0 : BitVec 1 := Scalar.cmpi .eq c6_i32_449_r0 c0_i32_450_r0
  let c1_i32_451_r0 : BitVec 32 := 1#32
  let v506_r0 : BitVec 32 := Scalar.select v505_r0 c1_i32_451_r0 c6_i32_449_r0
  let v507_r0 : BitVec 32 := Scalar.remsi v448_r0 v506_r0
  let c0_i32_453_r0 : BitVec 32 := 0#32
  let v509_r0 : BitVec 1 := Scalar.cmpi .slt v507_r0 c0_i32_453_r0
  let c0_i32_454_r0 : BitVec 32 := 0#32
  let v510_r0 : BitVec 1 := Scalar.cmpi .slt v506_r0 c0_i32_454_r0
  let v511_r0 : BitVec 1 := Scalar.xori v509_r0 v510_r0
  let c0_i32_452_r0 : BitVec 32 := 0#32
  let v508_r0 : BitVec 1 := Scalar.cmpi .ne v507_r0 c0_i32_452_r0
  let v512_r0 : BitVec 1 := Scalar.andi v511_r0 v508_r0
  let v513_r0 : BitVec 32 := Scalar.addi v507_r0 v506_r0
  let v514_r0 : BitVec 32 := Scalar.select v512_r0 v513_r0 v507_r0
  let v1250_r0 : Index := Scalar.indexCast v514_r0
  let c0_746_r0 : Index := 0#32
  let c512_747_r0 : Index := 512#32
  let c256_748_r0 : Index := 256#32
  ![v1250_r0.toNat, 0, 512, 256]
def k0_off181 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_449_r0 : BitVec 32 := 6#32
  let c0_i32_450_r0 : BitVec 32 := 0#32
  let v505_r0 : BitVec 1 := Scalar.cmpi .eq c6_i32_449_r0 c0_i32_450_r0
  let c1_i32_451_r0 : BitVec 32 := 1#32
  let v506_r0 : BitVec 32 := Scalar.select v505_r0 c1_i32_451_r0 c6_i32_449_r0
  let v507_r0 : BitVec 32 := Scalar.remsi v448_r0 v506_r0
  let c0_i32_453_r0 : BitVec 32 := 0#32
  let v509_r0 : BitVec 1 := Scalar.cmpi .slt v507_r0 c0_i32_453_r0
  let c0_i32_454_r0 : BitVec 32 := 0#32
  let v510_r0 : BitVec 1 := Scalar.cmpi .slt v506_r0 c0_i32_454_r0
  let v511_r0 : BitVec 1 := Scalar.xori v509_r0 v510_r0
  let c0_i32_452_r0 : BitVec 32 := 0#32
  let v508_r0 : BitVec 1 := Scalar.cmpi .ne v507_r0 c0_i32_452_r0
  let v512_r0 : BitVec 1 := Scalar.andi v511_r0 v508_r0
  let v513_r0 : BitVec 32 := Scalar.addi v507_r0 v506_r0
  let v514_r0 : BitVec 32 := Scalar.select v512_r0 v513_r0 v507_r0
  let v1290_r0 : Index := Scalar.indexCast v514_r0
  let c1_762_r0 : Index := 1#32
  let c512_763_r0 : Index := 512#32
  let c256_764_r0 : Index := 256#32
  ![v1290_r0.toNat, 1, 512, 256]
def k0_off182 (k0_t3 : Fin k0_t3_loop.trips) : Fin 3 → Nat :=
  let c0_i32_378_r0 : BitVec 32 := 0#32
  let c1_i32_380_r0 : BitVec 32 := 1#32
  let arg17_r0 : BitVec 32 := Scf.iv c0_i32_378_r0 c1_i32_380_r0 k0_t3
  let v1330_r0 : Index := Scalar.indexCast arg17_r0
  let c0_778_r0 : Index := 0#32
  let c1280_r0 : Index := 1280#32
  ![v1330_r0.toNat, 0, 1280]
def k0_off183 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_449_r0 : BitVec 32 := 6#32
  let c0_i32_450_r0 : BitVec 32 := 0#32
  let v505_r0 : BitVec 1 := Scalar.cmpi .eq c6_i32_449_r0 c0_i32_450_r0
  let c1_i32_451_r0 : BitVec 32 := 1#32
  let v506_r0 : BitVec 32 := Scalar.select v505_r0 c1_i32_451_r0 c6_i32_449_r0
  let v507_r0 : BitVec 32 := Scalar.remsi v448_r0 v506_r0
  let c0_i32_453_r0 : BitVec 32 := 0#32
  let v509_r0 : BitVec 1 := Scalar.cmpi .slt v507_r0 c0_i32_453_r0
  let c0_i32_454_r0 : BitVec 32 := 0#32
  let v510_r0 : BitVec 1 := Scalar.cmpi .slt v506_r0 c0_i32_454_r0
  let v511_r0 : BitVec 1 := Scalar.xori v509_r0 v510_r0
  let c0_i32_452_r0 : BitVec 32 := 0#32
  let v508_r0 : BitVec 1 := Scalar.cmpi .ne v507_r0 c0_i32_452_r0
  let v512_r0 : BitVec 1 := Scalar.andi v511_r0 v508_r0
  let v513_r0 : BitVec 32 := Scalar.addi v507_r0 v506_r0
  let v514_r0 : BitVec 32 := Scalar.select v512_r0 v513_r0 v507_r0
  let v1333_r0 : Index := Scalar.indexCast v514_r0
  let c0_779_r0 : Index := 0#32
  let c640_r0 : Index := 640#32
  let c0_780_r0 : Index := 0#32
  ![v1333_r0.toNat, 0, 640, 0]
def k0_off184 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_449_r0 : BitVec 32 := 6#32
  let c0_i32_450_r0 : BitVec 32 := 0#32
  let v505_r0 : BitVec 1 := Scalar.cmpi .eq c6_i32_449_r0 c0_i32_450_r0
  let c1_i32_451_r0 : BitVec 32 := 1#32
  let v506_r0 : BitVec 32 := Scalar.select v505_r0 c1_i32_451_r0 c6_i32_449_r0
  let v507_r0 : BitVec 32 := Scalar.remsi v448_r0 v506_r0
  let c0_i32_453_r0 : BitVec 32 := 0#32
  let v509_r0 : BitVec 1 := Scalar.cmpi .slt v507_r0 c0_i32_453_r0
  let c0_i32_454_r0 : BitVec 32 := 0#32
  let v510_r0 : BitVec 1 := Scalar.cmpi .slt v506_r0 c0_i32_454_r0
  let v511_r0 : BitVec 1 := Scalar.xori v509_r0 v510_r0
  let c0_i32_452_r0 : BitVec 32 := 0#32
  let v508_r0 : BitVec 1 := Scalar.cmpi .ne v507_r0 c0_i32_452_r0
  let v512_r0 : BitVec 1 := Scalar.andi v511_r0 v508_r0
  let v513_r0 : BitVec 32 := Scalar.addi v507_r0 v506_r0
  let v514_r0 : BitVec 32 := Scalar.select v512_r0 v513_r0 v507_r0
  let v1373_r0 : Index := Scalar.indexCast v514_r0
  let c1_794_r0 : Index := 1#32
  let c640_795_r0 : Index := 640#32
  let c0_796_r0 : Index := 0#32
  ![v1373_r0.toNat, 1, 640, 0]
def k0_off185 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_449_r0 : BitVec 32 := 6#32
  let c0_i32_450_r0 : BitVec 32 := 0#32
  let v505_r0 : BitVec 1 := Scalar.cmpi .eq c6_i32_449_r0 c0_i32_450_r0
  let c1_i32_451_r0 : BitVec 32 := 1#32
  let v506_r0 : BitVec 32 := Scalar.select v505_r0 c1_i32_451_r0 c6_i32_449_r0
  let v507_r0 : BitVec 32 := Scalar.remsi v448_r0 v506_r0
  let c0_i32_453_r0 : BitVec 32 := 0#32
  let v509_r0 : BitVec 1 := Scalar.cmpi .slt v507_r0 c0_i32_453_r0
  let c0_i32_454_r0 : BitVec 32 := 0#32
  let v510_r0 : BitVec 1 := Scalar.cmpi .slt v506_r0 c0_i32_454_r0
  let v511_r0 : BitVec 1 := Scalar.xori v509_r0 v510_r0
  let c0_i32_452_r0 : BitVec 32 := 0#32
  let v508_r0 : BitVec 1 := Scalar.cmpi .ne v507_r0 c0_i32_452_r0
  let v512_r0 : BitVec 1 := Scalar.andi v511_r0 v508_r0
  let v513_r0 : BitVec 32 := Scalar.addi v507_r0 v506_r0
  let v514_r0 : BitVec 32 := Scalar.select v512_r0 v513_r0 v507_r0
  let v1413_r0 : Index := Scalar.indexCast v514_r0
  let c0_810_r0 : Index := 0#32
  let c640_811_r0 : Index := 640#32
  let c256_812_r0 : Index := 256#32
  ![v1413_r0.toNat, 0, 640, 256]
def k0_off186 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_449_r0 : BitVec 32 := 6#32
  let c0_i32_450_r0 : BitVec 32 := 0#32
  let v505_r0 : BitVec 1 := Scalar.cmpi .eq c6_i32_449_r0 c0_i32_450_r0
  let c1_i32_451_r0 : BitVec 32 := 1#32
  let v506_r0 : BitVec 32 := Scalar.select v505_r0 c1_i32_451_r0 c6_i32_449_r0
  let v507_r0 : BitVec 32 := Scalar.remsi v448_r0 v506_r0
  let c0_i32_453_r0 : BitVec 32 := 0#32
  let v509_r0 : BitVec 1 := Scalar.cmpi .slt v507_r0 c0_i32_453_r0
  let c0_i32_454_r0 : BitVec 32 := 0#32
  let v510_r0 : BitVec 1 := Scalar.cmpi .slt v506_r0 c0_i32_454_r0
  let v511_r0 : BitVec 1 := Scalar.xori v509_r0 v510_r0
  let c0_i32_452_r0 : BitVec 32 := 0#32
  let v508_r0 : BitVec 1 := Scalar.cmpi .ne v507_r0 c0_i32_452_r0
  let v512_r0 : BitVec 1 := Scalar.andi v511_r0 v508_r0
  let v513_r0 : BitVec 32 := Scalar.addi v507_r0 v506_r0
  let v514_r0 : BitVec 32 := Scalar.select v512_r0 v513_r0 v507_r0
  let v1453_r0 : Index := Scalar.indexCast v514_r0
  let c1_826_r0 : Index := 1#32
  let c640_827_r0 : Index := 640#32
  let c256_828_r0 : Index := 256#32
  ![v1453_r0.toNat, 1, 640, 256]
def k0_off187 (k0_t3 : Fin k0_t3_loop.trips) : Fin 3 → Nat :=
  let c0_i32_378_r0 : BitVec 32 := 0#32
  let c1_i32_380_r0 : BitVec 32 := 1#32
  let arg17_r0 : BitVec 32 := Scf.iv c0_i32_378_r0 c1_i32_380_r0 k0_t3
  let v1493_r0 : Index := Scalar.indexCast arg17_r0
  let c0_842_r0 : Index := 0#32
  let c1536_r0 : Index := 1536#32
  ![v1493_r0.toNat, 0, 1536]
def k0_off188 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_449_r0 : BitVec 32 := 6#32
  let c0_i32_450_r0 : BitVec 32 := 0#32
  let v505_r0 : BitVec 1 := Scalar.cmpi .eq c6_i32_449_r0 c0_i32_450_r0
  let c1_i32_451_r0 : BitVec 32 := 1#32
  let v506_r0 : BitVec 32 := Scalar.select v505_r0 c1_i32_451_r0 c6_i32_449_r0
  let v507_r0 : BitVec 32 := Scalar.remsi v448_r0 v506_r0
  let c0_i32_453_r0 : BitVec 32 := 0#32
  let v509_r0 : BitVec 1 := Scalar.cmpi .slt v507_r0 c0_i32_453_r0
  let c0_i32_454_r0 : BitVec 32 := 0#32
  let v510_r0 : BitVec 1 := Scalar.cmpi .slt v506_r0 c0_i32_454_r0
  let v511_r0 : BitVec 1 := Scalar.xori v509_r0 v510_r0
  let c0_i32_452_r0 : BitVec 32 := 0#32
  let v508_r0 : BitVec 1 := Scalar.cmpi .ne v507_r0 c0_i32_452_r0
  let v512_r0 : BitVec 1 := Scalar.andi v511_r0 v508_r0
  let v513_r0 : BitVec 32 := Scalar.addi v507_r0 v506_r0
  let v514_r0 : BitVec 32 := Scalar.select v512_r0 v513_r0 v507_r0
  let v1496_r0 : Index := Scalar.indexCast v514_r0
  let c0_843_r0 : Index := 0#32
  let c768_844_r0 : Index := 768#32
  let c0_845_r0 : Index := 0#32
  ![v1496_r0.toNat, 0, 768, 0]
def k0_off189 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_449_r0 : BitVec 32 := 6#32
  let c0_i32_450_r0 : BitVec 32 := 0#32
  let v505_r0 : BitVec 1 := Scalar.cmpi .eq c6_i32_449_r0 c0_i32_450_r0
  let c1_i32_451_r0 : BitVec 32 := 1#32
  let v506_r0 : BitVec 32 := Scalar.select v505_r0 c1_i32_451_r0 c6_i32_449_r0
  let v507_r0 : BitVec 32 := Scalar.remsi v448_r0 v506_r0
  let c0_i32_453_r0 : BitVec 32 := 0#32
  let v509_r0 : BitVec 1 := Scalar.cmpi .slt v507_r0 c0_i32_453_r0
  let c0_i32_454_r0 : BitVec 32 := 0#32
  let v510_r0 : BitVec 1 := Scalar.cmpi .slt v506_r0 c0_i32_454_r0
  let v511_r0 : BitVec 1 := Scalar.xori v509_r0 v510_r0
  let c0_i32_452_r0 : BitVec 32 := 0#32
  let v508_r0 : BitVec 1 := Scalar.cmpi .ne v507_r0 c0_i32_452_r0
  let v512_r0 : BitVec 1 := Scalar.andi v511_r0 v508_r0
  let v513_r0 : BitVec 32 := Scalar.addi v507_r0 v506_r0
  let v514_r0 : BitVec 32 := Scalar.select v512_r0 v513_r0 v507_r0
  let v1536_r0 : Index := Scalar.indexCast v514_r0
  let c1_859_r0 : Index := 1#32
  let c768_860_r0 : Index := 768#32
  let c0_861_r0 : Index := 0#32
  ![v1536_r0.toNat, 1, 768, 0]
def k0_off190 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_449_r0 : BitVec 32 := 6#32
  let c0_i32_450_r0 : BitVec 32 := 0#32
  let v505_r0 : BitVec 1 := Scalar.cmpi .eq c6_i32_449_r0 c0_i32_450_r0
  let c1_i32_451_r0 : BitVec 32 := 1#32
  let v506_r0 : BitVec 32 := Scalar.select v505_r0 c1_i32_451_r0 c6_i32_449_r0
  let v507_r0 : BitVec 32 := Scalar.remsi v448_r0 v506_r0
  let c0_i32_453_r0 : BitVec 32 := 0#32
  let v509_r0 : BitVec 1 := Scalar.cmpi .slt v507_r0 c0_i32_453_r0
  let c0_i32_454_r0 : BitVec 32 := 0#32
  let v510_r0 : BitVec 1 := Scalar.cmpi .slt v506_r0 c0_i32_454_r0
  let v511_r0 : BitVec 1 := Scalar.xori v509_r0 v510_r0
  let c0_i32_452_r0 : BitVec 32 := 0#32
  let v508_r0 : BitVec 1 := Scalar.cmpi .ne v507_r0 c0_i32_452_r0
  let v512_r0 : BitVec 1 := Scalar.andi v511_r0 v508_r0
  let v513_r0 : BitVec 32 := Scalar.addi v507_r0 v506_r0
  let v514_r0 : BitVec 32 := Scalar.select v512_r0 v513_r0 v507_r0
  let v1576_r0 : Index := Scalar.indexCast v514_r0
  let c0_875_r0 : Index := 0#32
  let c768_876_r0 : Index := 768#32
  let c256_877_r0 : Index := 256#32
  ![v1576_r0.toNat, 0, 768, 256]
def k0_off191 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_449_r0 : BitVec 32 := 6#32
  let c0_i32_450_r0 : BitVec 32 := 0#32
  let v505_r0 : BitVec 1 := Scalar.cmpi .eq c6_i32_449_r0 c0_i32_450_r0
  let c1_i32_451_r0 : BitVec 32 := 1#32
  let v506_r0 : BitVec 32 := Scalar.select v505_r0 c1_i32_451_r0 c6_i32_449_r0
  let v507_r0 : BitVec 32 := Scalar.remsi v448_r0 v506_r0
  let c0_i32_453_r0 : BitVec 32 := 0#32
  let v509_r0 : BitVec 1 := Scalar.cmpi .slt v507_r0 c0_i32_453_r0
  let c0_i32_454_r0 : BitVec 32 := 0#32
  let v510_r0 : BitVec 1 := Scalar.cmpi .slt v506_r0 c0_i32_454_r0
  let v511_r0 : BitVec 1 := Scalar.xori v509_r0 v510_r0
  let c0_i32_452_r0 : BitVec 32 := 0#32
  let v508_r0 : BitVec 1 := Scalar.cmpi .ne v507_r0 c0_i32_452_r0
  let v512_r0 : BitVec 1 := Scalar.andi v511_r0 v508_r0
  let v513_r0 : BitVec 32 := Scalar.addi v507_r0 v506_r0
  let v514_r0 : BitVec 32 := Scalar.select v512_r0 v513_r0 v507_r0
  let v1616_r0 : Index := Scalar.indexCast v514_r0
  let c1_891_r0 : Index := 1#32
  let c768_892_r0 : Index := 768#32
  let c256_893_r0 : Index := 256#32
  ![v1616_r0.toNat, 1, 768, 256]
def k0_off192 (k0_t3 : Fin k0_t3_loop.trips) : Fin 3 → Nat :=
  let c0_i32_378_r0 : BitVec 32 := 0#32
  let c1_i32_380_r0 : BitVec 32 := 1#32
  let arg17_r0 : BitVec 32 := Scf.iv c0_i32_378_r0 c1_i32_380_r0 k0_t3
  let v1656_r0 : Index := Scalar.indexCast arg17_r0
  let c0_907_r0 : Index := 0#32
  let c1792_r0 : Index := 1792#32
  ![v1656_r0.toNat, 0, 1792]
def k0_off193 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_449_r0 : BitVec 32 := 6#32
  let c0_i32_450_r0 : BitVec 32 := 0#32
  let v505_r0 : BitVec 1 := Scalar.cmpi .eq c6_i32_449_r0 c0_i32_450_r0
  let c1_i32_451_r0 : BitVec 32 := 1#32
  let v506_r0 : BitVec 32 := Scalar.select v505_r0 c1_i32_451_r0 c6_i32_449_r0
  let v507_r0 : BitVec 32 := Scalar.remsi v448_r0 v506_r0
  let c0_i32_453_r0 : BitVec 32 := 0#32
  let v509_r0 : BitVec 1 := Scalar.cmpi .slt v507_r0 c0_i32_453_r0
  let c0_i32_454_r0 : BitVec 32 := 0#32
  let v510_r0 : BitVec 1 := Scalar.cmpi .slt v506_r0 c0_i32_454_r0
  let v511_r0 : BitVec 1 := Scalar.xori v509_r0 v510_r0
  let c0_i32_452_r0 : BitVec 32 := 0#32
  let v508_r0 : BitVec 1 := Scalar.cmpi .ne v507_r0 c0_i32_452_r0
  let v512_r0 : BitVec 1 := Scalar.andi v511_r0 v508_r0
  let v513_r0 : BitVec 32 := Scalar.addi v507_r0 v506_r0
  let v514_r0 : BitVec 32 := Scalar.select v512_r0 v513_r0 v507_r0
  let v1659_r0 : Index := Scalar.indexCast v514_r0
  let c0_908_r0 : Index := 0#32
  let c896_r0 : Index := 896#32
  let c0_909_r0 : Index := 0#32
  ![v1659_r0.toNat, 0, 896, 0]
def k0_off194 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_449_r0 : BitVec 32 := 6#32
  let c0_i32_450_r0 : BitVec 32 := 0#32
  let v505_r0 : BitVec 1 := Scalar.cmpi .eq c6_i32_449_r0 c0_i32_450_r0
  let c1_i32_451_r0 : BitVec 32 := 1#32
  let v506_r0 : BitVec 32 := Scalar.select v505_r0 c1_i32_451_r0 c6_i32_449_r0
  let v507_r0 : BitVec 32 := Scalar.remsi v448_r0 v506_r0
  let c0_i32_453_r0 : BitVec 32 := 0#32
  let v509_r0 : BitVec 1 := Scalar.cmpi .slt v507_r0 c0_i32_453_r0
  let c0_i32_454_r0 : BitVec 32 := 0#32
  let v510_r0 : BitVec 1 := Scalar.cmpi .slt v506_r0 c0_i32_454_r0
  let v511_r0 : BitVec 1 := Scalar.xori v509_r0 v510_r0
  let c0_i32_452_r0 : BitVec 32 := 0#32
  let v508_r0 : BitVec 1 := Scalar.cmpi .ne v507_r0 c0_i32_452_r0
  let v512_r0 : BitVec 1 := Scalar.andi v511_r0 v508_r0
  let v513_r0 : BitVec 32 := Scalar.addi v507_r0 v506_r0
  let v514_r0 : BitVec 32 := Scalar.select v512_r0 v513_r0 v507_r0
  let v1699_r0 : Index := Scalar.indexCast v514_r0
  let c1_923_r0 : Index := 1#32
  let c896_924_r0 : Index := 896#32
  let c0_925_r0 : Index := 0#32
  ![v1699_r0.toNat, 1, 896, 0]
def k0_off195 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_449_r0 : BitVec 32 := 6#32
  let c0_i32_450_r0 : BitVec 32 := 0#32
  let v505_r0 : BitVec 1 := Scalar.cmpi .eq c6_i32_449_r0 c0_i32_450_r0
  let c1_i32_451_r0 : BitVec 32 := 1#32
  let v506_r0 : BitVec 32 := Scalar.select v505_r0 c1_i32_451_r0 c6_i32_449_r0
  let v507_r0 : BitVec 32 := Scalar.remsi v448_r0 v506_r0
  let c0_i32_453_r0 : BitVec 32 := 0#32
  let v509_r0 : BitVec 1 := Scalar.cmpi .slt v507_r0 c0_i32_453_r0
  let c0_i32_454_r0 : BitVec 32 := 0#32
  let v510_r0 : BitVec 1 := Scalar.cmpi .slt v506_r0 c0_i32_454_r0
  let v511_r0 : BitVec 1 := Scalar.xori v509_r0 v510_r0
  let c0_i32_452_r0 : BitVec 32 := 0#32
  let v508_r0 : BitVec 1 := Scalar.cmpi .ne v507_r0 c0_i32_452_r0
  let v512_r0 : BitVec 1 := Scalar.andi v511_r0 v508_r0
  let v513_r0 : BitVec 32 := Scalar.addi v507_r0 v506_r0
  let v514_r0 : BitVec 32 := Scalar.select v512_r0 v513_r0 v507_r0
  let v1739_r0 : Index := Scalar.indexCast v514_r0
  let c0_939_r0 : Index := 0#32
  let c896_940_r0 : Index := 896#32
  let c256_941_r0 : Index := 256#32
  ![v1739_r0.toNat, 0, 896, 256]
def k0_off196 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_449_r0 : BitVec 32 := 6#32
  let c0_i32_450_r0 : BitVec 32 := 0#32
  let v505_r0 : BitVec 1 := Scalar.cmpi .eq c6_i32_449_r0 c0_i32_450_r0
  let c1_i32_451_r0 : BitVec 32 := 1#32
  let v506_r0 : BitVec 32 := Scalar.select v505_r0 c1_i32_451_r0 c6_i32_449_r0
  let v507_r0 : BitVec 32 := Scalar.remsi v448_r0 v506_r0
  let c0_i32_453_r0 : BitVec 32 := 0#32
  let v509_r0 : BitVec 1 := Scalar.cmpi .slt v507_r0 c0_i32_453_r0
  let c0_i32_454_r0 : BitVec 32 := 0#32
  let v510_r0 : BitVec 1 := Scalar.cmpi .slt v506_r0 c0_i32_454_r0
  let v511_r0 : BitVec 1 := Scalar.xori v509_r0 v510_r0
  let c0_i32_452_r0 : BitVec 32 := 0#32
  let v508_r0 : BitVec 1 := Scalar.cmpi .ne v507_r0 c0_i32_452_r0
  let v512_r0 : BitVec 1 := Scalar.andi v511_r0 v508_r0
  let v513_r0 : BitVec 32 := Scalar.addi v507_r0 v506_r0
  let v514_r0 : BitVec 32 := Scalar.select v512_r0 v513_r0 v507_r0
  let v1779_r0 : Index := Scalar.indexCast v514_r0
  let c1_955_r0 : Index := 1#32
  let c896_956_r0 : Index := 896#32
  let c256_957_r0 : Index := 256#32
  ![v1779_r0.toNat, 1, 896, 256]
def k0_off197 (k0_t3 : Fin k0_t3_loop.trips) : Fin 3 → Nat :=
  let c0_i32_378_r0 : BitVec 32 := 0#32
  let c1_i32_380_r0 : BitVec 32 := 1#32
  let arg17_r0 : BitVec 32 := Scf.iv c0_i32_378_r0 c1_i32_380_r0 k0_t3
  let v1819_r0 : Index := Scalar.indexCast arg17_r0
  let c0_971_r0 : Index := 0#32
  let c2048_r0 : Index := 2048#32
  ![v1819_r0.toNat, 0, 2048]
def k0_off198 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_449_r0 : BitVec 32 := 6#32
  let c0_i32_450_r0 : BitVec 32 := 0#32
  let v505_r0 : BitVec 1 := Scalar.cmpi .eq c6_i32_449_r0 c0_i32_450_r0
  let c1_i32_451_r0 : BitVec 32 := 1#32
  let v506_r0 : BitVec 32 := Scalar.select v505_r0 c1_i32_451_r0 c6_i32_449_r0
  let v507_r0 : BitVec 32 := Scalar.remsi v448_r0 v506_r0
  let c0_i32_453_r0 : BitVec 32 := 0#32
  let v509_r0 : BitVec 1 := Scalar.cmpi .slt v507_r0 c0_i32_453_r0
  let c0_i32_454_r0 : BitVec 32 := 0#32
  let v510_r0 : BitVec 1 := Scalar.cmpi .slt v506_r0 c0_i32_454_r0
  let v511_r0 : BitVec 1 := Scalar.xori v509_r0 v510_r0
  let c0_i32_452_r0 : BitVec 32 := 0#32
  let v508_r0 : BitVec 1 := Scalar.cmpi .ne v507_r0 c0_i32_452_r0
  let v512_r0 : BitVec 1 := Scalar.andi v511_r0 v508_r0
  let v513_r0 : BitVec 32 := Scalar.addi v507_r0 v506_r0
  let v514_r0 : BitVec 32 := Scalar.select v512_r0 v513_r0 v507_r0
  let v1822_r0 : Index := Scalar.indexCast v514_r0
  let c0_972_r0 : Index := 0#32
  let c1024_973_r0 : Index := 1024#32
  let c0_974_r0 : Index := 0#32
  ![v1822_r0.toNat, 0, 1024, 0]
def k0_off199 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_449_r0 : BitVec 32 := 6#32
  let c0_i32_450_r0 : BitVec 32 := 0#32
  let v505_r0 : BitVec 1 := Scalar.cmpi .eq c6_i32_449_r0 c0_i32_450_r0
  let c1_i32_451_r0 : BitVec 32 := 1#32
  let v506_r0 : BitVec 32 := Scalar.select v505_r0 c1_i32_451_r0 c6_i32_449_r0
  let v507_r0 : BitVec 32 := Scalar.remsi v448_r0 v506_r0
  let c0_i32_453_r0 : BitVec 32 := 0#32
  let v509_r0 : BitVec 1 := Scalar.cmpi .slt v507_r0 c0_i32_453_r0
  let c0_i32_454_r0 : BitVec 32 := 0#32
  let v510_r0 : BitVec 1 := Scalar.cmpi .slt v506_r0 c0_i32_454_r0
  let v511_r0 : BitVec 1 := Scalar.xori v509_r0 v510_r0
  let c0_i32_452_r0 : BitVec 32 := 0#32
  let v508_r0 : BitVec 1 := Scalar.cmpi .ne v507_r0 c0_i32_452_r0
  let v512_r0 : BitVec 1 := Scalar.andi v511_r0 v508_r0
  let v513_r0 : BitVec 32 := Scalar.addi v507_r0 v506_r0
  let v514_r0 : BitVec 32 := Scalar.select v512_r0 v513_r0 v507_r0
  let v1862_r0 : Index := Scalar.indexCast v514_r0
  let c1_988_r0 : Index := 1#32
  let c1024_989_r0 : Index := 1024#32
  let c0_990_r0 : Index := 0#32
  ![v1862_r0.toNat, 1, 1024, 0]
def k0_off200 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_449_r0 : BitVec 32 := 6#32
  let c0_i32_450_r0 : BitVec 32 := 0#32
  let v505_r0 : BitVec 1 := Scalar.cmpi .eq c6_i32_449_r0 c0_i32_450_r0
  let c1_i32_451_r0 : BitVec 32 := 1#32
  let v506_r0 : BitVec 32 := Scalar.select v505_r0 c1_i32_451_r0 c6_i32_449_r0
  let v507_r0 : BitVec 32 := Scalar.remsi v448_r0 v506_r0
  let c0_i32_453_r0 : BitVec 32 := 0#32
  let v509_r0 : BitVec 1 := Scalar.cmpi .slt v507_r0 c0_i32_453_r0
  let c0_i32_454_r0 : BitVec 32 := 0#32
  let v510_r0 : BitVec 1 := Scalar.cmpi .slt v506_r0 c0_i32_454_r0
  let v511_r0 : BitVec 1 := Scalar.xori v509_r0 v510_r0
  let c0_i32_452_r0 : BitVec 32 := 0#32
  let v508_r0 : BitVec 1 := Scalar.cmpi .ne v507_r0 c0_i32_452_r0
  let v512_r0 : BitVec 1 := Scalar.andi v511_r0 v508_r0
  let v513_r0 : BitVec 32 := Scalar.addi v507_r0 v506_r0
  let v514_r0 : BitVec 32 := Scalar.select v512_r0 v513_r0 v507_r0
  let v1902_r0 : Index := Scalar.indexCast v514_r0
  let c0_1004_r0 : Index := 0#32
  let c1024_1005_r0 : Index := 1024#32
  let c256_1006_r0 : Index := 256#32
  ![v1902_r0.toNat, 0, 1024, 256]
def k0_off201 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_449_r0 : BitVec 32 := 6#32
  let c0_i32_450_r0 : BitVec 32 := 0#32
  let v505_r0 : BitVec 1 := Scalar.cmpi .eq c6_i32_449_r0 c0_i32_450_r0
  let c1_i32_451_r0 : BitVec 32 := 1#32
  let v506_r0 : BitVec 32 := Scalar.select v505_r0 c1_i32_451_r0 c6_i32_449_r0
  let v507_r0 : BitVec 32 := Scalar.remsi v448_r0 v506_r0
  let c0_i32_453_r0 : BitVec 32 := 0#32
  let v509_r0 : BitVec 1 := Scalar.cmpi .slt v507_r0 c0_i32_453_r0
  let c0_i32_454_r0 : BitVec 32 := 0#32
  let v510_r0 : BitVec 1 := Scalar.cmpi .slt v506_r0 c0_i32_454_r0
  let v511_r0 : BitVec 1 := Scalar.xori v509_r0 v510_r0
  let c0_i32_452_r0 : BitVec 32 := 0#32
  let v508_r0 : BitVec 1 := Scalar.cmpi .ne v507_r0 c0_i32_452_r0
  let v512_r0 : BitVec 1 := Scalar.andi v511_r0 v508_r0
  let v513_r0 : BitVec 32 := Scalar.addi v507_r0 v506_r0
  let v514_r0 : BitVec 32 := Scalar.select v512_r0 v513_r0 v507_r0
  let v1942_r0 : Index := Scalar.indexCast v514_r0
  let c1_1020_r0 : Index := 1#32
  let c1024_1021_r0 : Index := 1024#32
  let c256_1022_r0 : Index := 256#32
  ![v1942_r0.toNat, 1, 1024, 256]
def k0_off202 (k0_t3 : Fin k0_t3_loop.trips) : Fin 3 → Nat :=
  let c0_i32_378_r0 : BitVec 32 := 0#32
  let c1_i32_380_r0 : BitVec 32 := 1#32
  let arg17_r0 : BitVec 32 := Scf.iv c0_i32_378_r0 c1_i32_380_r0 k0_t3
  let v1982_r0 : Index := Scalar.indexCast arg17_r0
  let c0_1036_r0 : Index := 0#32
  let c2304_r0 : Index := 2304#32
  ![v1982_r0.toNat, 0, 2304]
def k0_off203 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_449_r0 : BitVec 32 := 6#32
  let c0_i32_450_r0 : BitVec 32 := 0#32
  let v505_r0 : BitVec 1 := Scalar.cmpi .eq c6_i32_449_r0 c0_i32_450_r0
  let c1_i32_451_r0 : BitVec 32 := 1#32
  let v506_r0 : BitVec 32 := Scalar.select v505_r0 c1_i32_451_r0 c6_i32_449_r0
  let v507_r0 : BitVec 32 := Scalar.remsi v448_r0 v506_r0
  let c0_i32_453_r0 : BitVec 32 := 0#32
  let v509_r0 : BitVec 1 := Scalar.cmpi .slt v507_r0 c0_i32_453_r0
  let c0_i32_454_r0 : BitVec 32 := 0#32
  let v510_r0 : BitVec 1 := Scalar.cmpi .slt v506_r0 c0_i32_454_r0
  let v511_r0 : BitVec 1 := Scalar.xori v509_r0 v510_r0
  let c0_i32_452_r0 : BitVec 32 := 0#32
  let v508_r0 : BitVec 1 := Scalar.cmpi .ne v507_r0 c0_i32_452_r0
  let v512_r0 : BitVec 1 := Scalar.andi v511_r0 v508_r0
  let v513_r0 : BitVec 32 := Scalar.addi v507_r0 v506_r0
  let v514_r0 : BitVec 32 := Scalar.select v512_r0 v513_r0 v507_r0
  let v1985_r0 : Index := Scalar.indexCast v514_r0
  let c0_1037_r0 : Index := 0#32
  let c1152_r0 : Index := 1152#32
  let c0_1038_r0 : Index := 0#32
  ![v1985_r0.toNat, 0, 1152, 0]
def k0_off204 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_449_r0 : BitVec 32 := 6#32
  let c0_i32_450_r0 : BitVec 32 := 0#32
  let v505_r0 : BitVec 1 := Scalar.cmpi .eq c6_i32_449_r0 c0_i32_450_r0
  let c1_i32_451_r0 : BitVec 32 := 1#32
  let v506_r0 : BitVec 32 := Scalar.select v505_r0 c1_i32_451_r0 c6_i32_449_r0
  let v507_r0 : BitVec 32 := Scalar.remsi v448_r0 v506_r0
  let c0_i32_453_r0 : BitVec 32 := 0#32
  let v509_r0 : BitVec 1 := Scalar.cmpi .slt v507_r0 c0_i32_453_r0
  let c0_i32_454_r0 : BitVec 32 := 0#32
  let v510_r0 : BitVec 1 := Scalar.cmpi .slt v506_r0 c0_i32_454_r0
  let v511_r0 : BitVec 1 := Scalar.xori v509_r0 v510_r0
  let c0_i32_452_r0 : BitVec 32 := 0#32
  let v508_r0 : BitVec 1 := Scalar.cmpi .ne v507_r0 c0_i32_452_r0
  let v512_r0 : BitVec 1 := Scalar.andi v511_r0 v508_r0
  let v513_r0 : BitVec 32 := Scalar.addi v507_r0 v506_r0
  let v514_r0 : BitVec 32 := Scalar.select v512_r0 v513_r0 v507_r0
  let v2025_r0 : Index := Scalar.indexCast v514_r0
  let c1_1052_r0 : Index := 1#32
  let c1152_1053_r0 : Index := 1152#32
  let c0_1054_r0 : Index := 0#32
  ![v2025_r0.toNat, 1, 1152, 0]
def k0_off205 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_449_r0 : BitVec 32 := 6#32
  let c0_i32_450_r0 : BitVec 32 := 0#32
  let v505_r0 : BitVec 1 := Scalar.cmpi .eq c6_i32_449_r0 c0_i32_450_r0
  let c1_i32_451_r0 : BitVec 32 := 1#32
  let v506_r0 : BitVec 32 := Scalar.select v505_r0 c1_i32_451_r0 c6_i32_449_r0
  let v507_r0 : BitVec 32 := Scalar.remsi v448_r0 v506_r0
  let c0_i32_453_r0 : BitVec 32 := 0#32
  let v509_r0 : BitVec 1 := Scalar.cmpi .slt v507_r0 c0_i32_453_r0
  let c0_i32_454_r0 : BitVec 32 := 0#32
  let v510_r0 : BitVec 1 := Scalar.cmpi .slt v506_r0 c0_i32_454_r0
  let v511_r0 : BitVec 1 := Scalar.xori v509_r0 v510_r0
  let c0_i32_452_r0 : BitVec 32 := 0#32
  let v508_r0 : BitVec 1 := Scalar.cmpi .ne v507_r0 c0_i32_452_r0
  let v512_r0 : BitVec 1 := Scalar.andi v511_r0 v508_r0
  let v513_r0 : BitVec 32 := Scalar.addi v507_r0 v506_r0
  let v514_r0 : BitVec 32 := Scalar.select v512_r0 v513_r0 v507_r0
  let v2065_r0 : Index := Scalar.indexCast v514_r0
  let c0_1068_r0 : Index := 0#32
  let c1152_1069_r0 : Index := 1152#32
  let c256_1070_r0 : Index := 256#32
  ![v2065_r0.toNat, 0, 1152, 256]
def k0_off206 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_449_r0 : BitVec 32 := 6#32
  let c0_i32_450_r0 : BitVec 32 := 0#32
  let v505_r0 : BitVec 1 := Scalar.cmpi .eq c6_i32_449_r0 c0_i32_450_r0
  let c1_i32_451_r0 : BitVec 32 := 1#32
  let v506_r0 : BitVec 32 := Scalar.select v505_r0 c1_i32_451_r0 c6_i32_449_r0
  let v507_r0 : BitVec 32 := Scalar.remsi v448_r0 v506_r0
  let c0_i32_453_r0 : BitVec 32 := 0#32
  let v509_r0 : BitVec 1 := Scalar.cmpi .slt v507_r0 c0_i32_453_r0
  let c0_i32_454_r0 : BitVec 32 := 0#32
  let v510_r0 : BitVec 1 := Scalar.cmpi .slt v506_r0 c0_i32_454_r0
  let v511_r0 : BitVec 1 := Scalar.xori v509_r0 v510_r0
  let c0_i32_452_r0 : BitVec 32 := 0#32
  let v508_r0 : BitVec 1 := Scalar.cmpi .ne v507_r0 c0_i32_452_r0
  let v512_r0 : BitVec 1 := Scalar.andi v511_r0 v508_r0
  let v513_r0 : BitVec 32 := Scalar.addi v507_r0 v506_r0
  let v514_r0 : BitVec 32 := Scalar.select v512_r0 v513_r0 v507_r0
  let v2105_r0 : Index := Scalar.indexCast v514_r0
  let c1_1084_r0 : Index := 1#32
  let c1152_1085_r0 : Index := 1152#32
  let c256_1086_r0 : Index := 256#32
  ![v2105_r0.toNat, 1, 1152, 256]
def k0_off207 (k0_t3 : Fin k0_t3_loop.trips) : Fin 3 → Nat :=
  let c0_i32_378_r0 : BitVec 32 := 0#32
  let c1_i32_380_r0 : BitVec 32 := 1#32
  let arg17_r0 : BitVec 32 := Scf.iv c0_i32_378_r0 c1_i32_380_r0 k0_t3
  let v2145_r0 : Index := Scalar.indexCast arg17_r0
  let c0_1100_r0 : Index := 0#32
  let c2560_r0 : Index := 2560#32
  ![v2145_r0.toNat, 0, 2560]
def k0_off208 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_449_r0 : BitVec 32 := 6#32
  let c0_i32_450_r0 : BitVec 32 := 0#32
  let v505_r0 : BitVec 1 := Scalar.cmpi .eq c6_i32_449_r0 c0_i32_450_r0
  let c1_i32_451_r0 : BitVec 32 := 1#32
  let v506_r0 : BitVec 32 := Scalar.select v505_r0 c1_i32_451_r0 c6_i32_449_r0
  let v507_r0 : BitVec 32 := Scalar.remsi v448_r0 v506_r0
  let c0_i32_453_r0 : BitVec 32 := 0#32
  let v509_r0 : BitVec 1 := Scalar.cmpi .slt v507_r0 c0_i32_453_r0
  let c0_i32_454_r0 : BitVec 32 := 0#32
  let v510_r0 : BitVec 1 := Scalar.cmpi .slt v506_r0 c0_i32_454_r0
  let v511_r0 : BitVec 1 := Scalar.xori v509_r0 v510_r0
  let c0_i32_452_r0 : BitVec 32 := 0#32
  let v508_r0 : BitVec 1 := Scalar.cmpi .ne v507_r0 c0_i32_452_r0
  let v512_r0 : BitVec 1 := Scalar.andi v511_r0 v508_r0
  let v513_r0 : BitVec 32 := Scalar.addi v507_r0 v506_r0
  let v514_r0 : BitVec 32 := Scalar.select v512_r0 v513_r0 v507_r0
  let v2148_r0 : Index := Scalar.indexCast v514_r0
  let c0_1101_r0 : Index := 0#32
  let c1280_1102_r0 : Index := 1280#32
  let c0_1103_r0 : Index := 0#32
  ![v2148_r0.toNat, 0, 1280, 0]
def k0_off209 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_449_r0 : BitVec 32 := 6#32
  let c0_i32_450_r0 : BitVec 32 := 0#32
  let v505_r0 : BitVec 1 := Scalar.cmpi .eq c6_i32_449_r0 c0_i32_450_r0
  let c1_i32_451_r0 : BitVec 32 := 1#32
  let v506_r0 : BitVec 32 := Scalar.select v505_r0 c1_i32_451_r0 c6_i32_449_r0
  let v507_r0 : BitVec 32 := Scalar.remsi v448_r0 v506_r0
  let c0_i32_453_r0 : BitVec 32 := 0#32
  let v509_r0 : BitVec 1 := Scalar.cmpi .slt v507_r0 c0_i32_453_r0
  let c0_i32_454_r0 : BitVec 32 := 0#32
  let v510_r0 : BitVec 1 := Scalar.cmpi .slt v506_r0 c0_i32_454_r0
  let v511_r0 : BitVec 1 := Scalar.xori v509_r0 v510_r0
  let c0_i32_452_r0 : BitVec 32 := 0#32
  let v508_r0 : BitVec 1 := Scalar.cmpi .ne v507_r0 c0_i32_452_r0
  let v512_r0 : BitVec 1 := Scalar.andi v511_r0 v508_r0
  let v513_r0 : BitVec 32 := Scalar.addi v507_r0 v506_r0
  let v514_r0 : BitVec 32 := Scalar.select v512_r0 v513_r0 v507_r0
  let v2188_r0 : Index := Scalar.indexCast v514_r0
  let c1_1117_r0 : Index := 1#32
  let c1280_1118_r0 : Index := 1280#32
  let c0_1119_r0 : Index := 0#32
  ![v2188_r0.toNat, 1, 1280, 0]
def k0_off210 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_449_r0 : BitVec 32 := 6#32
  let c0_i32_450_r0 : BitVec 32 := 0#32
  let v505_r0 : BitVec 1 := Scalar.cmpi .eq c6_i32_449_r0 c0_i32_450_r0
  let c1_i32_451_r0 : BitVec 32 := 1#32
  let v506_r0 : BitVec 32 := Scalar.select v505_r0 c1_i32_451_r0 c6_i32_449_r0
  let v507_r0 : BitVec 32 := Scalar.remsi v448_r0 v506_r0
  let c0_i32_453_r0 : BitVec 32 := 0#32
  let v509_r0 : BitVec 1 := Scalar.cmpi .slt v507_r0 c0_i32_453_r0
  let c0_i32_454_r0 : BitVec 32 := 0#32
  let v510_r0 : BitVec 1 := Scalar.cmpi .slt v506_r0 c0_i32_454_r0
  let v511_r0 : BitVec 1 := Scalar.xori v509_r0 v510_r0
  let c0_i32_452_r0 : BitVec 32 := 0#32
  let v508_r0 : BitVec 1 := Scalar.cmpi .ne v507_r0 c0_i32_452_r0
  let v512_r0 : BitVec 1 := Scalar.andi v511_r0 v508_r0
  let v513_r0 : BitVec 32 := Scalar.addi v507_r0 v506_r0
  let v514_r0 : BitVec 32 := Scalar.select v512_r0 v513_r0 v507_r0
  let v2228_r0 : Index := Scalar.indexCast v514_r0
  let c0_1133_r0 : Index := 0#32
  let c1280_1134_r0 : Index := 1280#32
  let c256_1135_r0 : Index := 256#32
  ![v2228_r0.toNat, 0, 1280, 256]
def k0_off211 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_449_r0 : BitVec 32 := 6#32
  let c0_i32_450_r0 : BitVec 32 := 0#32
  let v505_r0 : BitVec 1 := Scalar.cmpi .eq c6_i32_449_r0 c0_i32_450_r0
  let c1_i32_451_r0 : BitVec 32 := 1#32
  let v506_r0 : BitVec 32 := Scalar.select v505_r0 c1_i32_451_r0 c6_i32_449_r0
  let v507_r0 : BitVec 32 := Scalar.remsi v448_r0 v506_r0
  let c0_i32_453_r0 : BitVec 32 := 0#32
  let v509_r0 : BitVec 1 := Scalar.cmpi .slt v507_r0 c0_i32_453_r0
  let c0_i32_454_r0 : BitVec 32 := 0#32
  let v510_r0 : BitVec 1 := Scalar.cmpi .slt v506_r0 c0_i32_454_r0
  let v511_r0 : BitVec 1 := Scalar.xori v509_r0 v510_r0
  let c0_i32_452_r0 : BitVec 32 := 0#32
  let v508_r0 : BitVec 1 := Scalar.cmpi .ne v507_r0 c0_i32_452_r0
  let v512_r0 : BitVec 1 := Scalar.andi v511_r0 v508_r0
  let v513_r0 : BitVec 32 := Scalar.addi v507_r0 v506_r0
  let v514_r0 : BitVec 32 := Scalar.select v512_r0 v513_r0 v507_r0
  let v2268_r0 : Index := Scalar.indexCast v514_r0
  let c1_1149_r0 : Index := 1#32
  let c1280_1150_r0 : Index := 1280#32
  let c256_1151_r0 : Index := 256#32
  ![v2268_r0.toNat, 1, 1280, 256]
def k0_off212 (k0_t3 : Fin k0_t3_loop.trips) : Fin 3 → Nat :=
  let c0_i32_378_r0 : BitVec 32 := 0#32
  let c1_i32_380_r0 : BitVec 32 := 1#32
  let arg17_r0 : BitVec 32 := Scf.iv c0_i32_378_r0 c1_i32_380_r0 k0_t3
  let v2308_r0 : Index := Scalar.indexCast arg17_r0
  let c0_1165_r0 : Index := 0#32
  let c2816_r0 : Index := 2816#32
  ![v2308_r0.toNat, 0, 2816]
def k0_off213 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_449_r0 : BitVec 32 := 6#32
  let c0_i32_450_r0 : BitVec 32 := 0#32
  let v505_r0 : BitVec 1 := Scalar.cmpi .eq c6_i32_449_r0 c0_i32_450_r0
  let c1_i32_451_r0 : BitVec 32 := 1#32
  let v506_r0 : BitVec 32 := Scalar.select v505_r0 c1_i32_451_r0 c6_i32_449_r0
  let v507_r0 : BitVec 32 := Scalar.remsi v448_r0 v506_r0
  let c0_i32_453_r0 : BitVec 32 := 0#32
  let v509_r0 : BitVec 1 := Scalar.cmpi .slt v507_r0 c0_i32_453_r0
  let c0_i32_454_r0 : BitVec 32 := 0#32
  let v510_r0 : BitVec 1 := Scalar.cmpi .slt v506_r0 c0_i32_454_r0
  let v511_r0 : BitVec 1 := Scalar.xori v509_r0 v510_r0
  let c0_i32_452_r0 : BitVec 32 := 0#32
  let v508_r0 : BitVec 1 := Scalar.cmpi .ne v507_r0 c0_i32_452_r0
  let v512_r0 : BitVec 1 := Scalar.andi v511_r0 v508_r0
  let v513_r0 : BitVec 32 := Scalar.addi v507_r0 v506_r0
  let v514_r0 : BitVec 32 := Scalar.select v512_r0 v513_r0 v507_r0
  let v2311_r0 : Index := Scalar.indexCast v514_r0
  let c0_1166_r0 : Index := 0#32
  let c1408_r0 : Index := 1408#32
  let c0_1167_r0 : Index := 0#32
  ![v2311_r0.toNat, 0, 1408, 0]
def k0_off214 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_449_r0 : BitVec 32 := 6#32
  let c0_i32_450_r0 : BitVec 32 := 0#32
  let v505_r0 : BitVec 1 := Scalar.cmpi .eq c6_i32_449_r0 c0_i32_450_r0
  let c1_i32_451_r0 : BitVec 32 := 1#32
  let v506_r0 : BitVec 32 := Scalar.select v505_r0 c1_i32_451_r0 c6_i32_449_r0
  let v507_r0 : BitVec 32 := Scalar.remsi v448_r0 v506_r0
  let c0_i32_453_r0 : BitVec 32 := 0#32
  let v509_r0 : BitVec 1 := Scalar.cmpi .slt v507_r0 c0_i32_453_r0
  let c0_i32_454_r0 : BitVec 32 := 0#32
  let v510_r0 : BitVec 1 := Scalar.cmpi .slt v506_r0 c0_i32_454_r0
  let v511_r0 : BitVec 1 := Scalar.xori v509_r0 v510_r0
  let c0_i32_452_r0 : BitVec 32 := 0#32
  let v508_r0 : BitVec 1 := Scalar.cmpi .ne v507_r0 c0_i32_452_r0
  let v512_r0 : BitVec 1 := Scalar.andi v511_r0 v508_r0
  let v513_r0 : BitVec 32 := Scalar.addi v507_r0 v506_r0
  let v514_r0 : BitVec 32 := Scalar.select v512_r0 v513_r0 v507_r0
  let v2351_r0 : Index := Scalar.indexCast v514_r0
  let c1_1181_r0 : Index := 1#32
  let c1408_1182_r0 : Index := 1408#32
  let c0_1183_r0 : Index := 0#32
  ![v2351_r0.toNat, 1, 1408, 0]
def k0_off215 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_449_r0 : BitVec 32 := 6#32
  let c0_i32_450_r0 : BitVec 32 := 0#32
  let v505_r0 : BitVec 1 := Scalar.cmpi .eq c6_i32_449_r0 c0_i32_450_r0
  let c1_i32_451_r0 : BitVec 32 := 1#32
  let v506_r0 : BitVec 32 := Scalar.select v505_r0 c1_i32_451_r0 c6_i32_449_r0
  let v507_r0 : BitVec 32 := Scalar.remsi v448_r0 v506_r0
  let c0_i32_453_r0 : BitVec 32 := 0#32
  let v509_r0 : BitVec 1 := Scalar.cmpi .slt v507_r0 c0_i32_453_r0
  let c0_i32_454_r0 : BitVec 32 := 0#32
  let v510_r0 : BitVec 1 := Scalar.cmpi .slt v506_r0 c0_i32_454_r0
  let v511_r0 : BitVec 1 := Scalar.xori v509_r0 v510_r0
  let c0_i32_452_r0 : BitVec 32 := 0#32
  let v508_r0 : BitVec 1 := Scalar.cmpi .ne v507_r0 c0_i32_452_r0
  let v512_r0 : BitVec 1 := Scalar.andi v511_r0 v508_r0
  let v513_r0 : BitVec 32 := Scalar.addi v507_r0 v506_r0
  let v514_r0 : BitVec 32 := Scalar.select v512_r0 v513_r0 v507_r0
  let v2391_r0 : Index := Scalar.indexCast v514_r0
  let c0_1197_r0 : Index := 0#32
  let c1408_1198_r0 : Index := 1408#32
  let c256_1199_r0 : Index := 256#32
  ![v2391_r0.toNat, 0, 1408, 256]
def k0_off216 (k0_t2 : Fin k0_t2_loop.trips) (k0_t3 : Fin k0_t3_loop.trips) : Fin 4 → Nat :=
  let c1_i32_269_r0 : BitVec 32 := 1#32
  let c1_i32_271_r0 : BitVec 32 := 1#32
  let arg16_r0 : BitVec 32 := Scf.iv c1_i32_269_r0 c1_i32_271_r0 k0_t2
  let c9_i32_416_r0 : BitVec 32 := 9#32
  let v447_r0 : BitVec 32 := Scalar.muli arg16_r0 c9_i32_416_r0
  let c0_i32_378_r0 : BitVec 32 := 0#32
  let c1_i32_380_r0 : BitVec 32 := 1#32
  let arg17_r0 : BitVec 32 := Scf.iv c0_i32_378_r0 c1_i32_380_r0 k0_t3
  let v448_r0 : BitVec 32 := Scalar.addi v447_r0 arg17_r0
  let c6_i32_449_r0 : BitVec 32 := 6#32
  let c0_i32_450_r0 : BitVec 32 := 0#32
  let v505_r0 : BitVec 1 := Scalar.cmpi .eq c6_i32_449_r0 c0_i32_450_r0
  let c1_i32_451_r0 : BitVec 32 := 1#32
  let v506_r0 : BitVec 32 := Scalar.select v505_r0 c1_i32_451_r0 c6_i32_449_r0
  let v507_r0 : BitVec 32 := Scalar.remsi v448_r0 v506_r0
  let c0_i32_453_r0 : BitVec 32 := 0#32
  let v509_r0 : BitVec 1 := Scalar.cmpi .slt v507_r0 c0_i32_453_r0
  let c0_i32_454_r0 : BitVec 32 := 0#32
  let v510_r0 : BitVec 1 := Scalar.cmpi .slt v506_r0 c0_i32_454_r0
  let v511_r0 : BitVec 1 := Scalar.xori v509_r0 v510_r0
  let c0_i32_452_r0 : BitVec 32 := 0#32
  let v508_r0 : BitVec 1 := Scalar.cmpi .ne v507_r0 c0_i32_452_r0
  let v512_r0 : BitVec 1 := Scalar.andi v511_r0 v508_r0
  let v513_r0 : BitVec 32 := Scalar.addi v507_r0 v506_r0
  let v514_r0 : BitVec 32 := Scalar.select v512_r0 v513_r0 v507_r0
  let v2431_r0 : Index := Scalar.indexCast v514_r0
  let c1_1213_r0 : Index := 1#32
  let c1408_1214_r0 : Index := 1408#32
  let c256_1215_r0 : Index := 256#32
  ![v2431_r0.toNat, 1, 1408, 256]
def k0_cond4 (k0_t2 : Fin k0_t2_loop.trips) : BitVec 1 :=
  let c1_i32_269_r0 : BitVec 32 := 1#32
  let c1_i32_271_r0 : BitVec 32 := 1#32
  let arg16_r0 : BitVec 32 := Scf.iv c1_i32_269_r0 c1_i32_271_r0 k0_t2
  let c2_i32_382_r0 : BitVec 32 := 2#32
  let v378_r0 : BitVec 1 := Scalar.cmpi .sge arg16_r0 c2_i32_382_r0
  let v379_r0 : BitVec 32 := Scalar.extui v378_r0
  let c0_i32_383_r0 : BitVec 32 := 0#32
  let v380_r0 : BitVec 1 := Scalar.cmpi .ne v379_r0 c0_i32_383_r0
  v380_r0

def k0_off217 (k0_t2 : Fin k0_t2_loop.trips) : Fin 1 → Nat :=
  let c1_i32_269_r0 : BitVec 32 := 1#32
  let c1_i32_271_r0 : BitVec 32 := 1#32
  let arg16_r0 : BitVec 32 := Scf.iv c1_i32_269_r0 c1_i32_271_r0 k0_t2
  let c2_i32_416_r0 : BitVec 32 := 2#32
  let v447_r0 : BitVec 32 := Scalar.subi arg16_r0 c2_i32_416_r0
  let c2_i32_424_r0 : BitVec 32 := 2#32
  let c0_i32_425_r0 : BitVec 32 := 0#32
  let v459_r0 : BitVec 1 := Scalar.cmpi .eq c2_i32_424_r0 c0_i32_425_r0
  let c1_i32_426_r0 : BitVec 32 := 1#32
  let v460_r0 : BitVec 32 := Scalar.select v459_r0 c1_i32_426_r0 c2_i32_424_r0
  let v461_r0 : BitVec 32 := Scalar.remsi v447_r0 v460_r0
  let c0_i32_428_r0 : BitVec 32 := 0#32
  let v463_r0 : BitVec 1 := Scalar.cmpi .slt v461_r0 c0_i32_428_r0
  let c0_i32_429_r0 : BitVec 32 := 0#32
  let v464_r0 : BitVec 1 := Scalar.cmpi .slt v460_r0 c0_i32_429_r0
  let v465_r0 : BitVec 1 := Scalar.xori v463_r0 v464_r0
  let c0_i32_427_r0 : BitVec 32 := 0#32
  let v462_r0 : BitVec 1 := Scalar.cmpi .ne v461_r0 c0_i32_427_r0
  let v466_r0 : BitVec 1 := Scalar.andi v465_r0 v462_r0
  let v467_r0 : BitVec 32 := Scalar.addi v461_r0 v460_r0
  let v468_r0 : BitVec 32 := Scalar.select v466_r0 v467_r0 v461_r0
  ![v468_r0.toNat]
def k0_off218 (k0_t2 : Fin k0_t2_loop.trips) : Fin 2 → Nat :=
  let c0_i32_430_r0 : BitVec 32 := 0#32
  let c1_i32_269_r0 : BitVec 32 := 1#32
  let c1_i32_271_r0 : BitVec 32 := 1#32
  let arg16_r0 : BitVec 32 := Scf.iv c1_i32_269_r0 c1_i32_271_r0 k0_t2
  let c2_i32_416_r0 : BitVec 32 := 2#32
  let v447_r0 : BitVec 32 := Scalar.subi arg16_r0 c2_i32_416_r0
  let c512_i32_423_r0 : BitVec 32 := 512#32
  let v458_r0 : BitVec 32 := Scalar.muli v447_r0 c512_i32_423_r0
  ![0, v458_r0.toNat]
def k0_off219 (k0_t2 : Fin k0_t2_loop.trips) : Fin 3 → Nat :=
  let c1_i32_269_r0 : BitVec 32 := 1#32
  let c1_i32_271_r0 : BitVec 32 := 1#32
  let arg16_r0 : BitVec 32 := Scf.iv c1_i32_269_r0 c1_i32_271_r0 k0_t2
  let c2_i32_416_r0 : BitVec 32 := 2#32
  let v447_r0 : BitVec 32 := Scalar.subi arg16_r0 c2_i32_416_r0
  let c2_i32_417_r0 : BitVec 32 := 2#32
  let c0_i32_418_r0 : BitVec 32 := 0#32
  let v448_r0 : BitVec 1 := Scalar.cmpi .eq c2_i32_417_r0 c0_i32_418_r0
  let c1_i32_419_r0 : BitVec 32 := 1#32
  let v449_r0 : BitVec 32 := Scalar.select v448_r0 c1_i32_419_r0 c2_i32_417_r0
  let v450_r0 : BitVec 32 := Scalar.remsi v447_r0 v449_r0
  let c0_i32_421_r0 : BitVec 32 := 0#32
  let v452_r0 : BitVec 1 := Scalar.cmpi .slt v450_r0 c0_i32_421_r0
  let c0_i32_422_r0 : BitVec 32 := 0#32
  let v453_r0 : BitVec 1 := Scalar.cmpi .slt v449_r0 c0_i32_422_r0
  let v454_r0 : BitVec 1 := Scalar.xori v452_r0 v453_r0
  let c0_i32_420_r0 : BitVec 32 := 0#32
  let v451_r0 : BitVec 1 := Scalar.cmpi .ne v450_r0 c0_i32_420_r0
  let v455_r0 : BitVec 1 := Scalar.andi v454_r0 v451_r0
  let v456_r0 : BitVec 32 := Scalar.addi v450_r0 v449_r0
  let v457_r0 : BitVec 32 := Scalar.select v455_r0 v456_r0 v450_r0
  let c0_i32_431_r0 : BitVec 32 := 0#32
  let c0_i32_432_r0 : BitVec 32 := 0#32
  ![v457_r0.toNat, 0, 0]
def k0_off220 (k0_t2 : Fin k0_t2_loop.trips) : Fin 3 → Nat :=
  let c1_i32_269_r0 : BitVec 32 := 1#32
  let c1_i32_271_r0 : BitVec 32 := 1#32
  let arg16_r0 : BitVec 32 := Scf.iv c1_i32_269_r0 c1_i32_271_r0 k0_t2
  let c2_i32_384_r0 : BitVec 32 := 2#32
  let c0_i32_385_r0 : BitVec 32 := 0#32
  let v387_r0 : BitVec 1 := Scalar.cmpi .eq c2_i32_384_r0 c0_i32_385_r0
  let c1_i32_386_r0 : BitVec 32 := 1#32
  let v388_r0 : BitVec 32 := Scalar.select v387_r0 c1_i32_386_r0 c2_i32_384_r0
  let v389_r0 : BitVec 32 := Scalar.remsi arg16_r0 v388_r0
  let c0_i32_388_r0 : BitVec 32 := 0#32
  let v391_r0 : BitVec 1 := Scalar.cmpi .slt v389_r0 c0_i32_388_r0
  let c0_i32_389_r0 : BitVec 32 := 0#32
  let v392_r0 : BitVec 1 := Scalar.cmpi .slt v388_r0 c0_i32_389_r0
  let v393_r0 : BitVec 1 := Scalar.xori v391_r0 v392_r0
  let c0_i32_387_r0 : BitVec 32 := 0#32
  let v390_r0 : BitVec 1 := Scalar.cmpi .ne v389_r0 c0_i32_387_r0
  let v394_r0 : BitVec 1 := Scalar.andi v393_r0 v390_r0
  let v395_r0 : BitVec 32 := Scalar.addi v389_r0 v388_r0
  let v396_r0 : BitVec 32 := Scalar.select v394_r0 v395_r0 v389_r0
  let v397_r0 : Index := Scalar.indexCast v396_r0
  let c0_390_r0 : Index := 0#32
  let c0_391_r0 : Index := 0#32
  ![v397_r0.toNat, 0, 0]
def k0_off221 (k0_t2 : Fin k0_t2_loop.trips) : Fin 3 → Nat :=
  let c1_i32_269_r0 : BitVec 32 := 1#32
  let c1_i32_271_r0 : BitVec 32 := 1#32
  let arg16_r0 : BitVec 32 := Scf.iv c1_i32_269_r0 c1_i32_271_r0 k0_t2
  let c2_i32_392_r0 : BitVec 32 := 2#32
  let c0_i32_393_r0 : BitVec 32 := 0#32
  let v407_r0 : BitVec 1 := Scalar.cmpi .eq c2_i32_392_r0 c0_i32_393_r0
  let c1_i32_394_r0 : BitVec 32 := 1#32
  let v408_r0 : BitVec 32 := Scalar.select v407_r0 c1_i32_394_r0 c2_i32_392_r0
  let v409_r0 : BitVec 32 := Scalar.remsi arg16_r0 v408_r0
  let c0_i32_396_r0 : BitVec 32 := 0#32
  let v411_r0 : BitVec 1 := Scalar.cmpi .slt v409_r0 c0_i32_396_r0
  let c0_i32_397_r0 : BitVec 32 := 0#32
  let v412_r0 : BitVec 1 := Scalar.cmpi .slt v408_r0 c0_i32_397_r0
  let v413_r0 : BitVec 1 := Scalar.xori v411_r0 v412_r0
  let c0_i32_395_r0 : BitVec 32 := 0#32
  let v410_r0 : BitVec 1 := Scalar.cmpi .ne v409_r0 c0_i32_395_r0
  let v414_r0 : BitVec 1 := Scalar.andi v413_r0 v410_r0
  let v415_r0 : BitVec 32 := Scalar.addi v409_r0 v408_r0
  let v416_r0 : BitVec 32 := Scalar.select v414_r0 v415_r0 v409_r0
  let v417_r0 : Index := Scalar.indexCast v416_r0
  let c0_398_r0 : Index := 0#32
  let c256_399_r0 : Index := 256#32
  ![v417_r0.toNat, 0, 256]
def k0_off222 (k0_t2 : Fin k0_t2_loop.trips) : Fin 2 → Nat :=
  let c0_i32_413_r0 : BitVec 32 := 0#32
  let c1_i32_269_r0 : BitVec 32 := 1#32
  let c1_i32_271_r0 : BitVec 32 := 1#32
  let arg16_r0 : BitVec 32 := Scf.iv c1_i32_269_r0 c1_i32_271_r0 k0_t2
  let c512_i32_406_r0 : BitVec 32 := 512#32
  let v431_r0 : BitVec 32 := Scalar.muli arg16_r0 c512_i32_406_r0
  ![0, v431_r0.toNat]
def k0_off223 (k0_t2 : Fin k0_t2_loop.trips) : Fin 3 → Nat :=
  let c1_i32_269_r0 : BitVec 32 := 1#32
  let c1_i32_271_r0 : BitVec 32 := 1#32
  let arg16_r0 : BitVec 32 := Scf.iv c1_i32_269_r0 c1_i32_271_r0 k0_t2
  let c2_i32_400_r0 : BitVec 32 := 2#32
  let c0_i32_401_r0 : BitVec 32 := 0#32
  let v421_r0 : BitVec 1 := Scalar.cmpi .eq c2_i32_400_r0 c0_i32_401_r0
  let c1_i32_402_r0 : BitVec 32 := 1#32
  let v422_r0 : BitVec 32 := Scalar.select v421_r0 c1_i32_402_r0 c2_i32_400_r0
  let v423_r0 : BitVec 32 := Scalar.remsi arg16_r0 v422_r0
  let c0_i32_404_r0 : BitVec 32 := 0#32
  let v425_r0 : BitVec 1 := Scalar.cmpi .slt v423_r0 c0_i32_404_r0
  let c0_i32_405_r0 : BitVec 32 := 0#32
  let v426_r0 : BitVec 1 := Scalar.cmpi .slt v422_r0 c0_i32_405_r0
  let v427_r0 : BitVec 1 := Scalar.xori v425_r0 v426_r0
  let c0_i32_403_r0 : BitVec 32 := 0#32
  let v424_r0 : BitVec 1 := Scalar.cmpi .ne v423_r0 c0_i32_403_r0
  let v428_r0 : BitVec 1 := Scalar.andi v427_r0 v424_r0
  let v429_r0 : BitVec 32 := Scalar.addi v423_r0 v422_r0
  let v430_r0 : BitVec 32 := Scalar.select v428_r0 v429_r0 v423_r0
  let c0_i32_414_r0 : BitVec 32 := 0#32
  let c0_i32_415_r0 : BitVec 32 := 0#32
  ![v430_r0.toNat, 0, 0]
-- ==== ReferenceIdeal.lean ====
abbrev S128x1x27648 : Shape := ⟨3, ![128, 1, 27648]⟩
abbrev S13824x2560 : Shape := ⟨2, ![13824, 2560]⟩
abbrev S216x2560 : Shape := ⟨2, ![216, 2560]⟩
abbrev S128x27648 : Shape := ⟨2, ![128, 27648]⟩
abbrev S_ : Shape := ⟨0, ![]⟩
abbrev S108x2560 : Shape := ⟨2, ![108, 2560]⟩
abbrev S108x128x2560 : Shape := ⟨3, ![108, 128, 2560]⟩
abbrev S108x1x2560 : Shape := ⟨3, ![108, 1, 2560]⟩
abbrev S128x13824 : Shape := ⟨2, ![128, 13824]⟩
abbrev S128x2560 : Shape := ⟨2, ![128, 2560]⟩

abbrev nBuf : Space → Nat
  | .hbm => 81
  | .vmem => 0
  | .smem => 0
  | _ => 0

abbrev bufTy : (tb : Table) → Fin (tcTables nBuf tb) → BufTy
  | .hbm, ⟨0, _⟩ => ⟨S128x1x27648, .bf16⟩
  | .hbm, ⟨1, _⟩ => ⟨S13824x2560, .i8⟩
  | .hbm, ⟨2, _⟩ => ⟨S216x2560, .bf16⟩
  | .hbm, ⟨3, _⟩ => ⟨S13824x2560, .i8⟩
  | .hbm, ⟨4, _⟩ => ⟨S216x2560, .bf16⟩
  | .hbm, ⟨5, _⟩ => ⟨S128x27648, .bf16⟩
  | .hbm, ⟨6, _⟩ => ⟨S13824x2560, .i32⟩
  | .hbm, ⟨7, _⟩ => ⟨S_, .i32⟩
  | .hbm, ⟨8, _⟩ => ⟨S13824x2560, .i32⟩
  | .hbm, ⟨9, _⟩ => ⟨S13824x2560, .i32⟩
  | .hbm, ⟨10, _⟩ => ⟨S108x2560, .bf16⟩
  | .hbm, ⟨11, _⟩ => ⟨S13824x2560, .bf16⟩
  | .hbm, ⟨12, _⟩ => ⟨S_, .bf16⟩
  | .hbm, ⟨13, _⟩ => ⟨S13824x2560, .bf16⟩
  | .hbm, ⟨14, _⟩ => ⟨S13824x2560, .bf16⟩
  | .hbm, ⟨15, _⟩ => ⟨S108x128x2560, .bf16⟩
  | .hbm, ⟨16, _⟩ => ⟨S108x1x2560, .bf16⟩
  | .hbm, ⟨17, _⟩ => ⟨S108x128x2560, .bf16⟩
  | .hbm, ⟨18, _⟩ => ⟨S108x128x2560, .bf16⟩
  | .hbm, ⟨19, _⟩ => ⟨S13824x2560, .bf16⟩
  | .hbm, ⟨20, _⟩ => ⟨S_, .i32⟩
  | .hbm, ⟨21, _⟩ => ⟨S13824x2560, .i32⟩
  | .hbm, ⟨22, _⟩ => ⟨S13824x2560, .i32⟩
  | .hbm, ⟨23, _⟩ => ⟨S108x2560, .bf16⟩
  | .hbm, ⟨24, _⟩ => ⟨S13824x2560, .bf16⟩
  | .hbm, ⟨25, _⟩ => ⟨S_, .bf16⟩
  | .hbm, ⟨26, _⟩ => ⟨S13824x2560, .bf16⟩
  | .hbm, ⟨27, _⟩ => ⟨S13824x2560, .bf16⟩
  | .hbm, ⟨28, _⟩ => ⟨S108x128x2560, .bf16⟩
  | .hbm, ⟨29, _⟩ => ⟨S108x1x2560, .bf16⟩
  | .hbm, ⟨30, _⟩ => ⟨S108x128x2560, .bf16⟩
  | .hbm, ⟨31, _⟩ => ⟨S108x128x2560, .bf16⟩
  | .hbm, ⟨32, _⟩ => ⟨S13824x2560, .bf16⟩
  | .hbm, ⟨33, _⟩ => ⟨S128x13824, .bf16⟩
  | .hbm, ⟨34, _⟩ => ⟨S128x2560, .f32⟩
  | .hbm, ⟨35, _⟩ => ⟨S128x13824, .bf16⟩
  | .hbm, ⟨36, _⟩ => ⟨S128x2560, .f32⟩
  | .hbm, ⟨37, _⟩ => ⟨S128x2560, .f32⟩
  | .hbm, ⟨38, _⟩ => ⟨S13824x2560, .i32⟩
  | .hbm, ⟨39, _⟩ => ⟨S_, .i32⟩
  | .hbm, ⟨40, _⟩ => ⟨S13824x2560, .i32⟩
  | .hbm, ⟨41, _⟩ => ⟨S13824x2560, .i32⟩
  | .hbm, ⟨42, _⟩ => ⟨S108x2560, .bf16⟩
  | .hbm, ⟨43, _⟩ => ⟨S13824x2560, .bf16⟩
  | .hbm, ⟨44, _⟩ => ⟨S_, .bf16⟩
  | .hbm, ⟨45, _⟩ => ⟨S13824x2560, .bf16⟩
  | .hbm, ⟨46, _⟩ => ⟨S13824x2560, .bf16⟩
  | .hbm, ⟨47, _⟩ => ⟨S108x128x2560, .bf16⟩
  | .hbm, ⟨48, _⟩ => ⟨S108x1x2560, .bf16⟩
  | .hbm, ⟨49, _⟩ => ⟨S108x128x2560, .bf16⟩
  | .hbm, ⟨50, _⟩ => ⟨S108x128x2560, .bf16⟩
  | .hbm, ⟨51, _⟩ => ⟨S13824x2560, .bf16⟩
  | .hbm, ⟨52, _⟩ => ⟨S_, .i32⟩
  | .hbm, ⟨53, _⟩ => ⟨S13824x2560, .i32⟩
  | .hbm, ⟨54, _⟩ => ⟨S13824x2560, .i32⟩
  | .hbm, ⟨55, _⟩ => ⟨S108x2560, .bf16⟩
  | .hbm, ⟨56, _⟩ => ⟨S13824x2560, .bf16⟩
  | .hbm, ⟨57, _⟩ => ⟨S_, .bf16⟩
  | .hbm, ⟨58, _⟩ => ⟨S13824x2560, .bf16⟩
  | .hbm, ⟨59, _⟩ => ⟨S13824x2560, .bf16⟩
  | .hbm, ⟨60, _⟩ => ⟨S108x128x2560, .bf16⟩
  | .hbm, ⟨61, _⟩ => ⟨S108x1x2560, .bf16⟩
  | .hbm, ⟨62, _⟩ => ⟨S108x128x2560, .bf16⟩
  | .hbm, ⟨63, _⟩ => ⟨S108x128x2560, .bf16⟩
  | .hbm, ⟨64, _⟩ => ⟨S13824x2560, .bf16⟩
  | .hbm, ⟨65, _⟩ => ⟨S128x13824, .bf16⟩
  | .hbm, ⟨66, _⟩ => ⟨S128x2560, .f32⟩
  | .hbm, ⟨67, _⟩ => ⟨S128x13824, .bf16⟩
  | .hbm, ⟨68, _⟩ => ⟨S128x2560, .f32⟩
  | .hbm, ⟨69, _⟩ => ⟨S128x2560, .f32⟩
  | .hbm, ⟨70, _⟩ => ⟨S128x2560, .f32⟩
  | .hbm, ⟨71, _⟩ => ⟨S128x2560, .f32⟩
  | .hbm, ⟨72, _⟩ => ⟨S_, .f32⟩
  | .hbm, ⟨73, _⟩ => ⟨S128x2560, .f32⟩
  | .hbm, ⟨74, _⟩ => ⟨S128x2560, .f32⟩
  | .hbm, ⟨75, _⟩ => ⟨S_, .f32⟩
  | .hbm, ⟨76, _⟩ => ⟨S128x2560, .f32⟩
  | .hbm, ⟨77, _⟩ => ⟨S128x2560, .f32⟩
  | .hbm, ⟨78, _⟩ => ⟨S128x2560, .f32⟩
  | .hbm, ⟨79, _⟩ => ⟨S128x2560, .f32⟩
  | .hbm, ⟨80, _⟩ => ⟨S128x2560, .bf16⟩
  | _, _ => ⟨S128x1x27648, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_c_2 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_3 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_c_4 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_5 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_call0_v0 : Ref sig .tc := ⟨.hbm, 70, rfl⟩
abbrev main_call0_v1 : Ref sig .tc := ⟨.hbm, 71, rfl⟩
abbrev main_call0_cst : Ref sig .tc := ⟨.hbm, 72, rfl⟩
abbrev main_call0_v2 : Ref sig .tc := ⟨.hbm, 73, rfl⟩
abbrev main_call0_v3 : Ref sig .tc := ⟨.hbm, 74, rfl⟩
abbrev main_call0_cst_0 : Ref sig .tc := ⟨.hbm, 75, rfl⟩
abbrev main_call0_v4 : Ref sig .tc := ⟨.hbm, 76, rfl⟩
abbrev main_call0_v5 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩

abbrev nD : Nat := 1
abbrev τ : Topo := Topo.v7x

variable {F : FTy → Type} [FloatOps F]
-- ==== Proof.Bits.Prog.lean ====
module

public import proofs.«01_k».proof.Proof.Gen.Kernel.Skeleton
public import proofs.«01_k».proof.Proof.Gen.Kernel.Points

@[expose] public section

noncomputable section

namespace Cert.Kernel.Hand

open Cert.Kernel Cert.Kernel.Gen
open Idealize.ShloMosaic Idealize.ShloMosaic.TcCoe
open Idealize.SL.Sem

variable {F : FTy → Type} [BitOps F]

abbrev Pr (F : FTy → Type) [BitOps F] (α : Type) := Prog (TpuEff nD τ sig (Elt F) Λ₀ .tc) α

theorem seq_congr {α β : Type} {p p' : Pr F α} {f f' : α → Pr F β} (h : p = p') (hf : ∀ a, f a = f' a) : p >>= f = p' >>= f' := by
  rw [h, funext hf]

theorem dite_seq {α β : Type} {c : Prop} [Decidable c] {B : c → Pr F α} {R : Pr F α} {K : α → Pr F β} {A : c → Pr F PUnit} {P : Pr F β}
    (h₁ : ∀ h, B h = A h >>= fun _ => R) (h₂ : R >>= K = P) :
    (dite c B (fun _ => R)) >>= K = dite c A (fun _ => pure ⟨⟩) >>= fun _ => P := by
  by_cases h : c
  · rw [dif_pos h, dif_pos h, h₁ h, bind_assoc, h₂]
  · rw [dif_neg h, dif_neg h, h₂, pure_bind]

abbrev aX : Memref sig .tc .hbm S128x27648 .bf16 := Memref.whole main_v0
abbrev aWG : Memref sig .tc .hbm S13824x2560 .i8 := Memref.whole main_arg1
abbrev aSG : Memref sig .tc .hbm S216x2560 .bf16 := Memref.whole main_arg2
abbrev aWU : Memref sig .tc .hbm S13824x2560 .i8 := Memref.whole main_arg3
abbrev aSU : Memref sig .tc .hbm S216x2560 .bf16 := Memref.whole main_arg4
abbrev aO : Memref sig .tc .hbm S128x2560 .bf16 := Memref.whole main_v1
abbrev bXR : Memref sig .tc .vmem S2x9x128x1536 .bf16 := Memref.whole cc0_scratch0
abbrev bXP : Memref sig .tc .vmem S9x128x3072 .bf16 := Memref.whole cc0_scratch1
abbrev bW : Memref sig .tc .vmem S6x2x1536x512 .i8 := Memref.whole cc0_scratch2
abbrev bS : Memref sig .tc .vmem S2x2x216x512 .bf16 := Memref.whole cc0_scratch3
abbrev bP : Memref sig .tc .vmem S2x2x54x512 .i32 := Memref.whole cc0_scratch4
abbrev bO : Memref sig .tc .vmem S2x128x512 .bf16 := Memref.whole cc0_scratch5

/-! ## The twelve passes of a trip -/

theorem xOff_inb {ci : ℕ} (h : ci < 9) (p : Fin 12) : ∀ a, (![ci, 0, 256 * p.val] : Fin 3 → ℕ) a + S1x128x256.size a ≤ S9x128x3072.size a := by
  have := p.isLt; intro a; fin_cases a
  · show ci + 1 ≤ 9; omega
  · show 0 + 128 ≤ 128; omega
  · show 256 * p.val + 256 ≤ 3072; omega

theorem wOff_inb {sl : ℕ} (h : sl < 6) (g t : Fin 2) (p : Fin 12) :
    ∀ a, (![sl, g.val, 128 * p.val, 256 * t.val] : Fin 4 → ℕ) a + S1x1x128x256.size a ≤ S6x2x1536x512.size a := by
  have := p.isLt; have := g.isLt; have := t.isLt; intro a; fin_cases a
  · show sl + 1 ≤ 6; omega
  · show g.val + 1 ≤ 2; omega
  · show 128 * p.val + 128 ≤ 1536; omega
  · show 256 * t.val + 256 ≤ 512; omega

theorem sOff_inb {row : ℕ} (h : row < 54) (g t : Fin 2) (p : Fin 12) :
    ∀ a, (![g.val, p.val % 2, row, 256 * t.val] : Fin 4 → ℕ) a + S1x1x1x256.size a ≤ S2x2x54x512.size a := by
  have := p.isLt; have := g.isLt; have := t.isLt; intro a; fin_cases a
  · show g.val + 1 ≤ 2; omega
  · show p.val % 2 + 1 ≤ 2; omega
  · show row + 1 ≤ 54; omega
  · show 256 * t.val + 256 ≤ 512; omega

/-- The pass's left operand, as the kernel reads it. -/
abbrev lhsOf (x : Vec F S1x128x256 .bf16) : FVec F S128x256 .bf16 := k0_pay223 x
/-- A dequantized weight tile from its packed words and its row of scale pairs. -/
abbrev tileOf (w : Vec F S1x1x128x256 .i8) (s : Vec F S1x1x1x256 .i32) : FVec F S256x256 .bf16 := k0_pay224 w s

/-- Push the tile of column half `t` of matrix `g` for pass `p`. -/
def tile {sl : ℕ} (hsl : sl < 6) {row : ℕ} (hrow : row < 54) (g t : Fin 2) (p : Fin 12) (mx : Mxu F) : Pr F (Mxu F) := do
  let w : Vec F S1x1x128x256 .i8 ← Prog.lift (.load bW (Rect.unit (s := S6x2x1536x512) ![sl, g.val, 128 * p.val, 256 * t.val] S1x1x128x256.size (wOff_inb hsl g t p)).toLoadRect (View.loadsAt_vmem h_S1x1x128x256))
  let s : Vec F S1x1x1x256 .i32 ← Prog.lift (.load bP (Rect.unit (s := S2x2x54x512) ![g.val, p.val % 2, row, 256 * t.val] S1x1x1x256.size (sOff_inb hrow g t p)).toLoadRect (View.loadsAt_vmem h_S1x1x1x256))
  mx.pushRhs g t false (tileOf w s)

/-- One pass: the left operand against the four tiles. -/
def pass {sl : ℕ} (hsl : sl < 6) {ci : ℕ} (hci : ci < 9) {row : ℕ} (hrow : row < 54) (p : Fin 12) (mx : Mxu F) : Pr F (Mxu F) := do
  let x : Vec F S1x128x256 .bf16 ← Prog.lift (.load bXP (Rect.unit (s := S9x128x3072) ![ci, 0, 256 * p.val] S1x128x256.size (xOff_inb hci p)).toLoadRect (View.loadsAt_vmem h_S1x128x256))
  let mx ← tile hsl hrow 0 0 p mx
  let mx ← tile hsl hrow 1 0 p mx
  let mx := (mx.accLhs 0 0 0 (lhsOf x) fits_0_128).accLhs 1 0 0 (lhsOf x) fits_0_128
  let mx ← tile hsl hrow 0 1 p mx
  let mx ← tile hsl hrow 1 1 p mx
  pure ((mx.accLhs 0 1 32 (lhsOf x) fits_32_128).accLhs 1 1 32 (lhsOf x) fits_32_128)

/-- Passes `p … 11`, `n` of them. -/
def passes {sl : ℕ} (hsl : sl < 6) {ci : ℕ} (hci : ci < 9) (row : Fin 6 → ℕ) (hrow : ∀ r, row r < 54) : (n p : ℕ) → n + p = 12 → Mxu F → Pr F (Mxu F)
  | 0, p, h, mx => pure mx
  | n + 1, p, h, mx => do
    let mx ← pass hsl hci (hrow ⟨p / 2, by omega⟩) ⟨p, by omega⟩ mx
    passes hsl hci row hrow n (p + 1) (by omega) mx

/-! ## The transfers -/

section
variable {sp sp' : Space} {s : Shape} {e : EltTy}

/-- Start two transfers on one cell. -/
def start2 (sA sB : Memref sig .tc sp s e) (dA dB : Memref sig .tc sp' s e) (sm : DmaSem sig) (hsA : sA.view.WordExact) (hsB : sB.view.WordExact)
    (hdA : dA.view.WordExact) (hdB : dB.view.WordExact) (hsem : DmaTarget.Typed (nD := nD) (τ := τ) (p := .tc) sp (.dma sm) (.here dA)) (hsem' : DmaTarget.Typed (nD := nD) (τ := τ) (p := .tc) sp (.dma sm) (.here dB)) : Pr F PUnit := do
  Prog.lift (.enqueueDma sA (.here dA) (.dma sm) hsA hdA hsem)
  Prog.lift (.enqueueDma sB (.here dB) (.dma sm) hsB hdB hsem')

/-- Wait for the two. -/
def wait2 (sA sB : Memref sig .tc sp s e) (dA dB : Memref sig .tc sp' s e) (sm : DmaSem sig) (hsA : sA.view.WordExact) (hsB : sB.view.WordExact)
    (hdA : dA.view.WordExact) (hdB : dB.view.WordExact) : Pr F PUnit := do
  Prog.lift (.waitDma2 sm sA dA hsA hdA)
  Prog.lift (.waitDma2 sm sB dB hsB hdB)

theorem start2_congr {sA sB sA' sB' : Memref sig .tc sp s e} {dA dB dA' dB' : Memref sig .tc sp' s e} {sm sm' : DmaSem sig}
    (h1 : sA = sA') (h2 : sB = sB') (h3 : dA = dA') (h4 : dB = dB') (h5 : sm = sm')
    {a1 a2 a3 a4 a5 a6 b1 b2 b3 b4 b5 b6} : start2 (F := F) sA sB dA dB sm a1 a2 a3 a4 a5 a6 = start2 sA' sB' dA' dB' sm' b1 b2 b3 b4 b5 b6 := by
  subst h1 h2 h3 h4 h5; rfl
theorem wait2_congr {sA sB sA' sB' : Memref sig .tc sp s e} {dA dB dA' dB' : Memref sig .tc sp' s e} {sm sm' : DmaSem sig}
    (h1 : sA = sA') (h2 : sB = sB') (h3 : dA = dA') (h4 : dB = dB') (h5 : sm = sm')
    {a1 a2 a3 a4 b1 b2 b3 b4} : wait2 (F := F) sA sB dA dB sm a1 a2 a3 a4 = wait2 sA' sB' dA' dB' sm' b1 b2 b3 b4 := by
  subst h1 h2 h3 h4 h5; rfl

/-- Start one transfer. -/
def start1 (sA : Memref sig .tc sp s e) (dA : Memref sig .tc sp' s e) (sm : DmaSem sig) (hsA : sA.view.WordExact)
    (hdA : dA.view.WordExact) (hsem : DmaTarget.Typed (nD := nD) (τ := τ) (p := .tc) sp (.dma sm) (.here dA)) : Pr F PUnit :=
  Prog.lift (.enqueueDma sA (.here dA) (.dma sm) hsA hdA hsem)
/-- Wait for it. -/
def wait1 (sA : Memref sig .tc sp s e) (dA : Memref sig .tc sp' s e) (sm : DmaSem sig) (hsA : sA.view.WordExact)
    (hdA : dA.view.WordExact) : Pr F PUnit :=
  Prog.lift (.waitDma2 sm sA dA hsA hdA)
theorem start1_congr {sA sA' : Memref sig .tc sp s e} {dA dA' : Memref sig .tc sp' s e} {sm sm' : DmaSem sig}
    (h1 : sA = sA') (h3 : dA = dA') (h5 : sm = sm') {a1 a3 a5 b1 b3 b5} : start1 (F := F) sA dA sm a1 a3 a5 = start1 sA' dA' sm' b1 b3 b5 := by
  subst h1 h3 h5; rfl
theorem wait1_congr {sA sA' : Memref sig .tc sp s e} {dA dA' : Memref sig .tc sp' s e} {sm sm' : DmaSem sig}
    (h1 : sA = sA') (h3 : dA = dA') (h5 : sm = sm') {a1 a3 b1 b3} : wait1 (F := F) sA dA sm a1 a3 = wait1 sA' dA' sm' b1 b3 := by
  subst h1 h3 h5; rfl
end

/-! ### The pieces the transfers move -/

abbrev pWG (d : Fin 2 → ℕ) (h : ∀ a, d a + S1536x512.size a ≤ S13824x2560.size a) : Memref sig .tc .hbm S1536x512 .i8 := aWG.slice (Rect.unit (s := S13824x2560) d S1536x512.size h) (fun _ => rfl)
theorem pWG_congr {d d'} {h h'} (e : d = d') : pWG d h = pWG d' h' := by subst e; rfl
abbrev pWU (d : Fin 2 → ℕ) (h : ∀ a, d a + S1536x512.size a ≤ S13824x2560.size a) : Memref sig .tc .hbm S1536x512 .i8 := aWU.slice (Rect.unit (s := S13824x2560) d S1536x512.size h) (fun _ => rfl)
theorem pWU_congr {d d'} {h h'} (e : d = d') : pWU d h = pWU d' h' := by subst e; rfl
abbrev pW (d : Fin 4 → ℕ) (h : ∀ a, d a + S1x1x1536x512.size a ≤ S6x2x1536x512.size a) : Memref sig .tc .vmem S1536x512 .i8 := (bW.slice (Rect.unit (s := S6x2x1536x512) d S1x1x1536x512.size h) (fun _ => rfl)).squeeze S1536x512 squeezes_S1x1x1536x512_S1536x512
theorem pW_congr {d d'} {h h'} (e : d = d') : pW d h = pW d' h' := by subst e; rfl
abbrev pX (d : Fin 2 → ℕ) (h : ∀ a, d a + S128x1536.size a ≤ S128x27648.size a) : Memref sig .tc .hbm S128x1536 .bf16 := aX.slice (Rect.unit (s := S128x27648) d S128x1536.size h) (fun _ => rfl)
theorem pX_congr {d d'} {h h'} (e : d = d') : pX d h = pX d' h' := by subst e; rfl
abbrev pXR (d : Fin 4 → ℕ) (h : ∀ a, d a + S1x1x128x1536.size a ≤ S2x9x128x1536.size a) : Memref sig .tc .vmem S128x1536 .bf16 := (bXR.slice (Rect.unit (s := S2x9x128x1536) d S1x1x128x1536.size h) (fun _ => rfl)).squeeze S128x1536 squeezes_S1x1x128x1536_S128x1536
theorem pXR_congr {d d'} {h h'} (e : d = d') : pXR d h = pXR d' h' := by subst e; rfl
abbrev pSG (d : Fin 2 → ℕ) (h : ∀ a, d a + S216x512.size a ≤ S216x2560.size a) : Memref sig .tc .hbm S216x512 .bf16 := aSG.slice (Rect.unit (s := S216x2560) d S216x512.size h) (fun _ => rfl)
theorem pSG_congr {d d'} {h h'} (e : d = d') : pSG d h = pSG d' h' := by subst e; rfl
abbrev pSU (d : Fin 2 → ℕ) (h : ∀ a, d a + S216x512.size a ≤ S216x2560.size a) : Memref sig .tc .hbm S216x512 .bf16 := aSU.slice (Rect.unit (s := S216x2560) d S216x512.size h) (fun _ => rfl)
theorem pSU_congr {d d'} {h h'} (e : d = d') : pSU d h = pSU d' h' := by subst e; rfl
abbrev pS (d : Fin 4 → ℕ) (h : ∀ a, d a + S1x1x216x512.size a ≤ S2x2x216x512.size a) : Memref sig .tc .vmem S216x512 .bf16 := (bS.slice (Rect.unit (s := S2x2x216x512) d S1x1x216x512.size h) (fun _ => rfl)).squeeze S216x512 squeezes_S1x1x216x512_S216x512
theorem pS_congr {d d'} {h h'} (e : d = d') : pS d h = pS d' h' := by subst e; rfl
abbrev pO (d : Fin 3 → ℕ) (h : ∀ a, d a + S1x128x512.size a ≤ S2x128x512.size a) : Memref sig .tc .vmem S128x512 .bf16 := (bO.slice (Rect.unit (s := S2x128x512) d S1x128x512.size h) (fun _ => rfl)).squeeze S128x512 squeezes_S1x128x512_S128x512
theorem pO_congr {d d'} {h h'} (e : d = d') : pO d h = pO d' h' := by subst e; rfl
abbrev pOut (d : Fin 2 → ℕ) (h : ∀ a, d a + S128x512.size a ≤ S128x2560.size a) : Memref sig .tc .hbm S128x512 .bf16 := aO.slice (Rect.unit (s := S128x2560) d S128x512.size h) (fun _ => rfl)
theorem pOut_congr {d d'} {h h'} (e : d = d') : pOut d h = pOut d' h' := by subst e; rfl
abbrev semX (d : Fin 1 → ℕ) (h : ∀ a, d a + S1.size a ≤ S9.size a) : DmaSem sig := ((cc0_scratch6.slice (Rect.unit (s := S9) d S1.size h)).squeeze S_ squeezes_S1_S_).sem
theorem semX_congr {d d'} {h h'} (e : d = d') : semX d h = semX d' h' := by subst e; rfl
abbrev semW (d : Fin 1 → ℕ) (h : ∀ a, d a + S1.size a ≤ S6.size a) : DmaSem sig := ((cc0_scratch7.slice (Rect.unit (s := S6) d S1.size h)).squeeze S_ squeezes_S1_S_).sem
theorem semW_congr {d d'} {h h'} (e : d = d') : semW d h = semW d' h' := by subst e; rfl
abbrev semS (d : Fin 1 → ℕ) (h : ∀ a, d a + S1.size a ≤ S2.size a) : DmaSem sig := ((cc0_scratch8.slice (Rect.unit (s := S2) d S1.size h)).squeeze S_ squeezes_S1_S_).sem
theorem semS_congr {d d'} {h h'} (e : d = d') : semS d h = semS d' h' := by subst e; rfl
abbrev semO (d : Fin 1 → ℕ) (h : ∀ a, d a + S1.size a ≤ S2.size a) : DmaSem sig := ((cc0_scratch9.slice (Rect.unit (s := S2) d S1.size h)).squeeze S_ squeezes_S1_S_).sem
theorem semO_congr {d d'} {h h'} (e : d = d') : semO d h = semO d' h' := by subst e; rfl

theorem inbW {sl g : ℕ} (h : sl < 6) (hg : g < 2) : ∀ a, (![sl, g, 0, 0] : Fin 4 → ℕ) a + S1x1x1536x512.size a ≤ S6x2x1536x512.size a := by
  intro a; fin_cases a
  · show sl + 1 ≤ 6; omega
  · show g + 1 ≤ 2; omega
  · show 0 + 1536 ≤ 1536; omega
  · show 0 + 512 ≤ 512; omega
theorem inbWsrc {c n : ℕ} (hc : c < 9) (hn : n < 5) : ∀ a, (![c * 1536, n * 512] : Fin 2 → ℕ) a + S1536x512.size a ≤ S13824x2560.size a := by
  intro a; fin_cases a
  · show c * 1536 + 1536 ≤ 13824; omega
  · show n * 512 + 512 ≤ 2560; omega
theorem inbXR {h c : ℕ} (hh : h < 2) (hc : c < 9) : ∀ a, (![h, c, 0, 0] : Fin 4 → ℕ) a + S1x1x128x1536.size a ≤ S2x9x128x1536.size a := by
  intro a; fin_cases a
  · show h + 1 ≤ 2; omega
  · show c + 1 ≤ 9; omega
  · show 0 + 128 ≤ 128; omega
  · show 0 + 1536 ≤ 1536; omega
theorem inbX {h c : ℕ} (hh : h < 2) (hc : c < 9) : ∀ a, (![0, h * 13824 + c * 1536] : Fin 2 → ℕ) a + S128x1536.size a ≤ S128x27648.size a := by
  intro a; fin_cases a
  · show 0 + 128 ≤ 128; omega
  · show h * 13824 + c * 1536 + 1536 ≤ 27648; omega
theorem inbS {sl g : ℕ} (h : sl < 2) (hg : g < 2) : ∀ a, (![sl, g, 0, 0] : Fin 4 → ℕ) a + S1x1x216x512.size a ≤ S2x2x216x512.size a := by
  intro a; fin_cases a
  · show sl + 1 ≤ 2; omega
  · show g + 1 ≤ 2; omega
  · show 0 + 216 ≤ 216; omega
  · show 0 + 512 ≤ 512; omega
theorem inbSsrc {n : ℕ} (hn : n < 5) : ∀ a, (![0, n * 512] : Fin 2 → ℕ) a + S216x512.size a ≤ S216x2560.size a := by
  intro a; fin_cases a
  · show 0 + 216 ≤ 216; omega
  · show n * 512 + 512 ≤ 2560; omega
theorem inbO {sl : ℕ} (h : sl < 2) : ∀ a, (![sl, 0, 0] : Fin 3 → ℕ) a + S1x128x512.size a ≤ S2x128x512.size a := by
  intro a; fin_cases a
  · show sl + 1 ≤ 2; omega
  · show 0 + 128 ≤ 128; omega
  · show 0 + 512 ≤ 512; omega
theorem inbOut {n : ℕ} (hn : n < 5) : ∀ a, (![0, n * 512] : Fin 2 → ℕ) a + S128x512.size a ≤ S128x2560.size a := by
  intro a; fin_cases a
  · show 0 + 128 ≤ 128; omega
  · show n * 512 + 512 ≤ 2560; omega
theorem inb1 {n k : ℕ} (h : k < n) : ∀ a, (![k] : Fin 1 → ℕ) a + S1.size a ≤ (⟨1, ![n]⟩ : Shape).size a := by
  intro a; fin_cases a; show k + 1 ≤ n; omega

/-- The two matrices' chunk `i` (row block `i % 9`, column block `i / 9`), its two places in the ring, and the ring slot's cell. -/
abbrev wgAt (i : ℕ) (h : i < 45) := pWG ![i % 9 * 1536, i / 9 * 512] (inbWsrc (by omega) (by omega))
abbrev wuAt (i : ℕ) (h : i < 45) := pWU ![i % 9 * 1536, i / 9 * 512] (inbWsrc (by omega) (by omega))
abbrev wAt (sl : ℕ) (h : sl < 6) (g : ℕ) (hg : g < 2) := pW ![sl, g, 0, 0] (inbW h hg)
abbrev wSem (sl : ℕ) (h : sl < 6) := semW ![sl] (inb1 h)
/-- Half `h` of the activations of trip `c`, and its place. -/
abbrev xAt (h : ℕ) (hh : h < 2) (c : ℕ) (hc : c < 9) := pX ![0, h * 13824 + c * 1536] (inbX hh hc)
abbrev xrAt (h : ℕ) (hh : h < 2) (c : ℕ) (hc : c < 9) := pXR ![h, c, 0, 0] (inbXR hh hc)
abbrev xSem (c : ℕ) (h : c < 9) := semX ![c] (inb1 h)
/-- The scales of column block `n`, and their places. -/
abbrev sgAt (n : ℕ) (h : n < 5) := pSG ![0, n * 512] (inbSsrc h)
abbrev suAt (n : ℕ) (h : n < 5) := pSU ![0, n * 512] (inbSsrc h)
abbrev sAt (sl : ℕ) (h : sl < 2) (g : ℕ) (hg : g < 2) := pS ![sl, g, 0, 0] (inbS h hg)
abbrev sSem (sl : ℕ) (h : sl < 2) := semS ![sl] (inb1 h)
/-- An output buffer, a column block of the result. -/
abbrev oAt (sl : ℕ) (h : sl < 2) := pO ![sl, 0, 0] (inbO h)
abbrev outAt (n : ℕ) (h : n < 5) := pOut ![0, n * 512] (inbOut h)
abbrev oSem (sl : ℕ) (h : sl < 2) := semO ![sl] (inb1 h)

theorem wordsW {d : Fin 4 → ℕ} {h} (h0 : d 2 = 0) : (pW d h).view.WordExact :=
  ((Memref.isWhole_whole _).wordExact_slice rfl _ (.inr ⟨by decide, rfl, h0, rfl⟩)).reshape _ _
theorem wordsXR {d : Fin 4 → ℕ} {h} (h0 : d 2 = 0) : (pXR d h).view.WordExact :=
  ((Memref.isWhole_whole _).wordExact_slice rfl _ (.inr ⟨by decide, rfl, h0, rfl⟩)).reshape _ _
theorem wordsS {d : Fin 4 → ℕ} {h} (h0 : d 2 = 0) : (pS d h).view.WordExact :=
  ((Memref.isWhole_whole _).wordExact_slice rfl _ (.inr ⟨by decide, rfl, h0, rfl⟩)).reshape _ _
theorem wordsO {d : Fin 3 → ℕ} {h} (h0 : d 1 = 0) : (pO d h).view.WordExact :=
  ((Memref.isWhole_whole _).wordExact_slice rfl _ (.inr ⟨by decide, rfl, h0, rfl⟩)).reshape _ _
theorem wordsX {d : Fin 2 → ℕ} {h} (h0 : d 0 = 0) : (pX d h).view.WordExact :=
  (Memref.isWhole_whole _).wordExact_slice rfl _ (.inr ⟨by decide, rfl, h0, rfl⟩)
theorem wordsSG {d : Fin 2 → ℕ} {h} (h0 : d 0 = 0) : (pSG d h).view.WordExact :=
  (Memref.isWhole_whole _).wordExact_slice rfl _ (.inr ⟨by decide, rfl, h0, rfl⟩)
theorem wordsSU {d : Fin 2 → ℕ} {h} (h0 : d 0 = 0) : (pSU d h).view.WordExact :=
  (Memref.isWhole_whole _).wordExact_slice rfl _ (.inr ⟨by decide, rfl, h0, rfl⟩)
theorem wordsOut {d : Fin 2 → ℕ} {h} (h0 : d 0 = 0) : (pOut d h).view.WordExact :=
  (Memref.isWhole_whole _).wordExact_slice rfl _ (.inr ⟨by decide, rfl, h0, rfl⟩)
theorem wholeWords_wsrc : ∀ (c : Fin 9) (n : Fin 5), (Rect.unit (s := S13824x2560) ![c.val * 1536, n.val * 512] S1536x512.size (inbWsrc c.isLt n.isLt)).WholeWords (EltTy.packing .i8) := by decide +kernel
theorem wordsWG (i : ℕ) (h : i < 45) : (wgAt i h).view.WordExact :=
  (Memref.isWhole_whole _).wordExact_slice rfl _ (wholeWords_wsrc ⟨i % 9, by omega⟩ ⟨i / 9, by omega⟩)
theorem wordsWU (i : ℕ) (h : i < 45) : (wuAt i h).view.WordExact :=
  (Memref.isWhole_whole _).wordExact_slice rfl _ (wholeWords_wsrc ⟨i % 9, by omega⟩ ⟨i / 9, by omega⟩)

/-- Start, and wait for, weight chunk `i`; -/
def startW (i : ℕ) (h : i < 45) : Pr F PUnit :=
  start2 (wgAt i h) (wuAt i h) (wAt (i % 6) (by omega) 0 (by omega)) (wAt (i % 6) (by omega) 1 (by omega)) (wSem (i % 6) (by omega))
    (wordsWG i h) (wordsWU i h) (wordsW rfl) (wordsW rfl) ⟨Or.inl rfl, trivial⟩ ⟨Or.inl rfl, trivial⟩
def waitW (i : ℕ) (h : i < 45) : Pr F PUnit :=
  wait2 (wgAt i h) (wuAt i h) (wAt (i % 6) (by omega) 0 (by omega)) (wAt (i % 6) (by omega) 1 (by omega)) (wSem (i % 6) (by omega))
    (wordsWG i h) (wordsWU i h) (wordsW rfl) (wordsW rfl)
/-- the activations of trip `c`; -/
def startX (c : ℕ) (h : c < 9) : Pr F PUnit :=
  start2 (xAt 0 (by omega) c h) (xAt 1 (by omega) c h) (xrAt 0 (by omega) c h) (xrAt 1 (by omega) c h) (xSem c h)
    (wordsX rfl) (wordsX rfl) (wordsXR rfl) (wordsXR rfl) ⟨Or.inl rfl, trivial⟩ ⟨Or.inl rfl, trivial⟩
def waitX (c : ℕ) (h : c < 9) : Pr F PUnit :=
  wait2 (xAt 0 (by omega) c h) (xAt 1 (by omega) c h) (xrAt 0 (by omega) c h) (xrAt 1 (by omega) c h) (xSem c h)
    (wordsX rfl) (wordsX rfl) (wordsXR rfl) (wordsXR rfl)
/-- the scales of column block `n`; -/
def startS (n : ℕ) (h : n < 5) : Pr F PUnit :=
  start2 (sgAt n h) (suAt n h) (sAt (n % 2) (by omega) 0 (by omega)) (sAt (n % 2) (by omega) 1 (by omega)) (sSem (n % 2) (by omega))
    (wordsSG rfl) (wordsSU rfl) (wordsS rfl) (wordsS rfl) ⟨Or.inl rfl, trivial⟩ ⟨Or.inl rfl, trivial⟩
def waitS (n : ℕ) (h : n < 5) : Pr F PUnit :=
  wait2 (sgAt n h) (suAt n h) (sAt (n % 2) (by omega) 0 (by omega)) (sAt (n % 2) (by omega) 1 (by omega)) (sSem (n % 2) (by omega))
    (wordsSG rfl) (wordsSU rfl) (wordsS rfl) (wordsS rfl)
/-- the result's column block `n`. -/
def startO (n : ℕ) (h : n < 5) : Pr F PUnit :=
  start1 (oAt (n % 2) (by omega)) (outAt n h) (oSem (n % 2) (by omega)) (wordsO rfl) (wordsOut rfl) ⟨Or.inl rfl, trivial⟩
def waitO (n : ℕ) (h : n < 5) : Pr F PUnit :=
  wait1 (oAt (n % 2) (by omega)) (outAt n h) (oSem (n % 2) (by omega)) (wordsO rfl) (wordsOut rfl)

/-- Refill the ring after chunk `i`. -/
def refill (i : ℕ) : Pr F PUnit := if h : i + 5 < 45 then startW (i + 5) h else pure ⟨⟩

/-! ## Interleaving the activations of a trip -/

theorem xrOff_inb {c : ℕ} (h : c < 9) (k : Fin 2) (p : Fin 12) : ∀ a, (![k.val, c, 0, 128 * p.val] : Fin 4 → ℕ) a + S1x1x128x128.size a ≤ S2x9x128x1536.size a := by
  have := p.isLt; have := k.isLt; intro a; fin_cases a
  · show k.val + 1 ≤ 2; omega
  · show c + 1 ≤ 9; omega
  · show 0 + 128 ≤ 128; omega
  · show 128 * p.val + 128 ≤ 1536; omega
theorem xpOff_inb {c : ℕ} (h : c < 9) (j : Fin 2) (p : Fin 12) : ∀ a, (![c, 0, 256 * p.val + 128 * j.val] : Fin 3 → ℕ) a + S1x128x128.size a ≤ S9x128x3072.size a := by
  have := p.isLt; have := j.isLt; intro a; fin_cases a
  · show c + 1 ≤ 9; omega
  · show 0 + 128 ≤ 128; omega
  · show 256 * p.val + 128 * j.val + 128 ≤ 3072; omega

theorem xpOff_packed {c : ℕ} (h : c < 9) (j : Fin 2) (p : Fin 12) : (Rect.unit (s := S9x128x3072) ![c, 0, 256 * p.val + 128 * j.val] S1x128x128.size (xpOff_inb h j p)).PackedRows (EltTy.packing .bf16) := by
  have H : ∀ (c : Fin 9) (j : Fin 2) (p : Fin 12), (Rect.unit (s := S9x128x3072) ![c.val, 0, 256 * p.val + 128 * j.val] S1x128x128.size (xpOff_inb c.isLt j p)).PackedRows (EltTy.packing .bf16) := by decide +kernel
  exact H ⟨c, h⟩ j p

/-- What the kernel stores for pass `p`: lane halves `0` and `1` of the two halves interleaved. -/
abbrev mix0 (lo hi : Vec F S1x1x128x128 .bf16) : FVec F S1x128x128 .bf16 := k0_pay4 lo hi
abbrev mix1 (lo hi : Vec F S1x1x128x128 .bf16) : FVec F S1x128x128 .bf16 :=
  k0_pay5 (iota .tc S128x128 32 [1] iota_S128x128_d1_w32) k0_pay1 (k0_pay2 lo) (k0_pay3 hi) 1#32

/-- Pass `p`'s interleaving. -/
def inter {c : ℕ} (hc : c < 9) (p : Fin 12) : Pr F PUnit := do
  let lo : Vec F S1x1x128x128 .bf16 ← Prog.lift (.load bXR (Rect.unit (s := S2x9x128x1536) ![0, c, 0, 128 * p.val] S1x1x128x128.size (xrOff_inb hc 0 p)).toLoadRect (View.loadsAt_vmem h_S1x1x128x128))
  let hi : Vec F S1x1x128x128 .bf16 ← Prog.lift (.load bXR (Rect.unit (s := S2x9x128x1536) ![1, c, 0, 128 * p.val] S1x1x128x128.size (xrOff_inb hc 1 p)).toLoadRect (View.loadsAt_vmem h_S1x1x128x128))
  let _v : Vec F S1x128x128 .bf16 ← Prog.lift (.load bXP (Rect.unit (s := S9x128x3072) ![c, 0, 256 * p.val + 128 * (0 : Fin 2).val] S1x128x128.size (xpOff_inb hc 0 p)).toLoadRect (View.loadsAt_vmem h_S1x128x128))
  Prog.lift (.store bXP (Rect.unit (s := S9x128x3072) ![c, 0, 256 * p.val + 128 * (0 : Fin 2).val] S1x128x128.size (xpOff_inb hc 0 p)) (mix0 lo hi) Finset.univ (View.stores_vmem h_S1x128x128 ((Memref.isWhole_whole _).storeExact_slice rfl _ (xpOff_packed hc 0 p)) (fun _ => rfl)) (.inl rfl))
  let _v : Vec F S1x128x128 .bf16 ← Prog.lift (.load bXP (Rect.unit (s := S9x128x3072) ![c, 0, 256 * p.val + 128 * (1 : Fin 2).val] S1x128x128.size (xpOff_inb hc 1 p)).toLoadRect (View.loadsAt_vmem h_S1x128x128))
  Prog.lift (.store bXP (Rect.unit (s := S9x128x3072) ![c, 0, 256 * p.val + 128 * (1 : Fin 2).val] S1x128x128.size (xpOff_inb hc 1 p)) (mix1 lo hi) Finset.univ (View.stores_vmem h_S1x128x128 ((Memref.isWhole_whole _).storeExact_slice rfl _ (xpOff_packed hc 1 p)) (fun _ => rfl)) (.inl rfl))

/-- The interleaving of passes `p … 11`, `n` of them. -/
def inters {c : ℕ} (hc : c < 9) : (n p : ℕ) → n + p = 12 → Pr F PUnit
  | 0, p, h => pure ⟨⟩
  | n + 1, p, h => do
    inter hc ⟨p, by omega⟩
    inters hc n (p + 1) (by omega)

/-! ## Pairing the scales of a column block -/

theorem sLo_inb {sl g : ℕ} (h : sl < 2) (hg : g < 2) : ∀ a, (![sl, g, 0, 0] : Fin 4 → ℕ) a + S1x1x108x512.size a ≤ S2x2x216x512.size a := by
  intro a; fin_cases a
  · show sl + 1 ≤ 2; omega
  · show g + 1 ≤ 2; omega
  · show 0 + 108 ≤ 216; omega
  · show 0 + 512 ≤ 512; omega
theorem sHi_inb {sl g : ℕ} (h : sl < 2) (hg : g < 2) : ∀ a, (![sl, g, 108, 0] : Fin 4 → ℕ) a + S1x1x108x512.size a ≤ S2x2x216x512.size a := by
  intro a; fin_cases a
  · show sl + 1 ≤ 2; omega
  · show g + 1 ≤ 2; omega
  · show 108 + 108 ≤ 216; omega
  · show 0 + 512 ≤ 512; omega
theorem sp_inb {g j : ℕ} (hg : g < 2) (hj : j < 2) : ∀ a, (![g, j, 0, 0] : Fin 4 → ℕ) a + S1x1x54x512.size a ≤ S2x2x54x512.size a := by
  intro a; fin_cases a
  · show g + 1 ≤ 2; omega
  · show j + 1 ≤ 2; omega
  · show 0 + 54 ≤ 54; omega
  · show 0 + 512 ≤ 512; omega

/-- The pairs of even, and of odd, scale rows. -/
abbrev pair0 (a b : Vec F S1x1x108x512 .bf16) : Vec F S1x1x54x512 .i32 := k0_pay378 a b
abbrev pair1 (a b : Vec F S1x1x108x512 .bf16) : Vec F S1x1x54x512 .i32 := k0_pay379 a b

/-- Pair the scales of matrix `g` in slot `sl`. -/
def pairs {sl : ℕ} (hsl : sl < 2) (g : ℕ) (hg : g < 2) : Pr F PUnit := do
  let a : Vec F S1x1x108x512 .bf16 ← Prog.lift (.load bS (Rect.unit (s := S2x2x216x512) ![sl, g, 0, 0] S1x1x108x512.size (sLo_inb hsl hg)).toLoadRect (View.loadsAt_vmem h_S1x1x108x512))
  let b : Vec F S1x1x108x512 .bf16 ← Prog.lift (.load bS (Rect.unit (s := S2x2x216x512) ![sl, g, 108, 0] S1x1x108x512.size (sHi_inb hsl hg)).toLoadRect (View.loadsAt_vmem h_S1x1x108x512))
  let _v : Vec F S1x1x54x512 .i32 ← Prog.lift (.load bP (Rect.unit (s := S2x2x54x512) ![g, 0, 0, 0] S1x1x54x512.size (sp_inb hg (by omega))).toLoadRect (View.loadsAt_vmem h_S1x1x54x512))
  Prog.lift (.store bP (Rect.unit (s := S2x2x54x512) ![g, 0, 0, 0] S1x1x54x512.size (sp_inb hg (by omega))) (pair0 a b) Finset.univ (View.stores_vmem_bits_univ h_S1x1x54x512 rfl) (.inl rfl))
  let _v : Vec F S1x1x54x512 .i32 ← Prog.lift (.load bP (Rect.unit (s := S2x2x54x512) ![g, 1, 0, 0] S1x1x54x512.size (sp_inb hg (by omega))).toLoadRect (View.loadsAt_vmem h_S1x1x54x512))
  Prog.lift (.store bP (Rect.unit (s := S2x2x54x512) ![g, 1, 0, 0] S1x1x54x512.size (sp_inb hg (by omega))) (pair1 a b) Finset.univ (View.stores_vmem_bits_univ h_S1x1x54x512 rfl) (.inl rfl))

/-! ## The epilogue of a block -/

theorem oOff_inb {sl : ℕ} (h : sl < 2) (t : Fin 2) : ∀ a, (![sl, 0, 256 * t.val] : Fin 3 → ℕ) a + S1x128x256.size a ≤ S2x128x512.size a := by
  have := t.isLt; intro a; fin_cases a
  · show sl + 1 ≤ 2; omega
  · show 0 + 128 ≤ 128; omega
  · show 256 * t.val + 256 ≤ 512; omega

theorem oOff_packed {sl : ℕ} (h : sl < 2) (t : Fin 2) : (Rect.unit (s := S2x128x512) ![sl, 0, 256 * t.val] S1x128x256.size (oOff_inb h t)).PackedRows (EltTy.packing .bf16) := by
  have H : ∀ (sl : Fin 2) (t : Fin 2), (Rect.unit (s := S2x128x512) ![sl.val, 0, 256 * t.val] S1x128x256.size (oOff_inb sl.isLt t)).PackedRows (EltTy.packing .bf16) := by decide +kernel
  exact H ⟨sl, h⟩ t

/-- Half a block's result from its two sums. -/
abbrev act (g u : FVec F S128x256 .f32) : FVec F S1x128x256 .bf16 := k0_pay385 g u

def epi {sl : ℕ} (hsl : sl < 2) (mx : Mxu F) : Pr F (Mxu F) := do
  let m1 := mx.pop 0 0 128 fits_0_128
  let _v : Vec F S1x128x256 .bf16 ← Prog.lift (.load bO (Rect.unit (s := S2x128x512) ![sl, 0, 256 * (0 : Fin 2).val] S1x128x256.size (oOff_inb hsl 0)).toLoadRect (View.loadsAt_vmem h_S1x128x256))
  Prog.lift (.store bO (Rect.unit (s := S2x128x512) ![sl, 0, 256 * (0 : Fin 2).val] S1x128x256.size (oOff_inb hsl 0)) (act (mx.read 0 0 fits_0_128) (m1.read 1 0 fits_0_128)) Finset.univ (View.stores_vmem h_S1x128x256 ((Memref.isWhole_whole _).storeExact_slice rfl _ (oOff_packed hsl 0)) (fun _ => rfl)) (.inl rfl))
  let m2 := m1.pop 1 0 128 fits_0_128
  let m3 := m2.pop 0 32 128 fits_32_128
  let _v : Vec F S1x128x256 .bf16 ← Prog.lift (.load bO (Rect.unit (s := S2x128x512) ![sl, 0, 256 * (1 : Fin 2).val] S1x128x256.size (oOff_inb hsl 1)).toLoadRect (View.loadsAt_vmem h_S1x128x256))
  Prog.lift (.store bO (Rect.unit (s := S2x128x512) ![sl, 0, 256 * (1 : Fin 2).val] S1x128x256.size (oOff_inb hsl 1)) (act (m2.read 0 32 fits_32_128) (m3.read 1 32 fits_32_128)) Finset.univ (View.stores_vmem h_S1x128x256 ((Memref.isWhole_whole _).storeExact_slice rfl _ (oOff_packed hsl 1)) (fun _ => rfl)) (.inl rfl))
  pure (m3.pop 1 32 128 fits_32_128)

/-! ## The trips, the blocks, the kernel -/

theorem trips1 : k0_t1_loop.trips = 9 := by decide
theorem trips2 : k0_t2_loop.trips = 4 := by decide
theorem trips3 : k0_t3_loop.trips = 9 := by decide

/-- Trip `c` of the first block: it also prepares the trip's activations. -/
def body1 (c : ℕ) (hc : c < 9) (mx : Mxu F) : Pr F (Mxu F) := do
  waitW c (by omega)
  refill c
  waitX c hc
  inters hc 12 0 rfl
  passes (sl := c % 6) (by omega) hc (fun r => 6 * c + r.val) (fun r => by omega) 12 0 rfl mx

/-- Trip `c` of block `n`. -/
def body3 (n : ℕ) (hn : n < 5) (c : ℕ) (hc : c < 9) (mx : Mxu F) : Pr F (Mxu F) := do
  waitW (9 * n + c) (by omega)
  refill (9 * n + c)
  passes (sl := (9 * n + c) % 6) (by omega) hc (fun r => 6 * c + r.val) (fun r => by omega) 12 0 rfl mx

def trips (n : ℕ) (hn : n < 5) (mx : Mxu F) : Pr F (Mxu F) :=
  Scf.Loop.for k0_t3_loop k0_t3_ok mx (fun k mx => body3 n hn k.val (Nat.lt_of_lt_of_eq k.isLt trips3) mx)

/-- Start the next block's scales; wait for the output buffer's previous user. -/
def nextS (n : ℕ) : Pr F PUnit := if h : n + 1 < 5 then startS (n + 1) h else pure ⟨⟩
def prevO (n : ℕ) (hn : n < 5) : Pr F PUnit := if h : 2 ≤ n then waitO (n - 2) (by omega) else pure ⟨⟩

/-- Block `n`, from the second on. -/
def body2 (n : ℕ) (hn : n < 5) (mx : Mxu F) : Pr F (Mxu F) := do
  waitS n hn
  pairs (sl := n % 2) (by omega) 0 (by omega)
  pairs (sl := n % 2) (by omega) 1 (by omega)
  nextS n
  let mx ← trips n hn mx
  prevO n hn
  let mx ← epi (sl := n % 2) (by omega) mx
  startO n hn
  pure mx

def prologue : Pr F PUnit := do
  startS 0 (by omega)
  startX 0 (by omega); startW 0 (by omega)
  startX 1 (by omega); startW 1 (by omega)
  startX 2 (by omega); startW 2 (by omega)
  startX 3 (by omega); startW 3 (by omega)
  startX 4 (by omega); startW 4 (by omega)
  startX 5 (by omega); startX 6 (by omega); startX 7 (by omega); startX 8 (by omega)

/-- The kernel. -/
def kernelP : Pr F PUnit := do
  prologue
  waitS 0 (by omega)
  pairs (sl := 0) (by omega) 0 (by omega)
  pairs (sl := 0) (by omega) 1 (by omega)
  startS 1 (by omega)
  let mx ← Scf.Loop.for k0_t1_loop k0_t1_ok Mxu.init (fun k mx => body1 k.val (Nat.lt_of_lt_of_eq k.isLt trips1) mx)
  let mx ← epi (sl := 0) (by omega) mx
  startO 0 (by omega)
  let mx ← Scf.Loop.for k0_t2_loop k0_t2_ok mx (fun k mx => body2 (k.val + 1) (by have := Nat.lt_of_lt_of_eq k.isLt trips2; omega) mx)
  waitO 3 (by omega)
  waitO 4 (by omega)
  mx.exit
  pure ⟨⟩

end Cert.Kernel.Hand
end
-- ==== Proof.Bits.Dma.lean ====
/-
  The rules of the kernel's transfers: two transfers started on one cell and waited for, and one.
-/
module

public import proofs.«01_k».proof.Proof.Bits.Prog
public import proofs.«01_k».proof.Proof.Gen.Kernel.Launch
public import Idealize.ShloMosaic.Lib.Pipeline.KitQuiescent
public import Idealize.ShloMosaic.Lib.Batch

@[expose] public section

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
/-- The counters the kernel's own transfers ride on. -/
abbrev EC : UEmb Counters (MT nD τ sig Unit (Elt F) ℕ (UU nD τ) ℕ) := countersEmb
abbrev 𝒱₀ : Variants := Variants.none

/-- The kernel's programs run on core `c`. -/
abbrev run {α : Type} (c : Dev nD) (p : Pr F α) (Q : α → sProp 𝕄) : sProp 𝕄 :=
  wp frame (wpE (defs₀ (F := F)) 𝒱₀ (c : Thread nD τ) none) Set.univ p Q

theorem ret_bind {α β : Type} (a : α) (k : α → Pr F β) : (Prog.ret a).bind k = k a := rfl

section
variable {sp sp' : Space} {s : Shape} {e : EltTy} (c : Dev nD)

/-- The contents a memref's buffer has on core `c`. -/
abbrev Con (c : Dev nD) {sp : Space} {s : Shape} {e : EltTy} (M : Memref sig .tc sp s e) : Type := Buf (Elt F) (M.view.loc (c : Thread nD τ))

/-- The memref's own elements held at contents `f`; -/
abbrev own (c : Dev nD) {sp : Space} {s : Shape} {e : EltTy} (M : Memref sig .tc sp s e) (f : Con (F := F) c M) : sProp 𝕄 :=
  M.view.loc (c : Thread nD τ) ↦[M.view.set]{fullShare} f
/-- a share of its whole buffer. -/
abbrev shr (c : Dev nD) {sp : Space} {s : Shape} {e : EltTy} (M : Memref sig .tc sp s e) (q : PosShare TreeShare) (f : Con (F := F) c M) : sProp 𝕄 :=
  M.view.loc (c : Thread nD τ) ↦{q} f

/-- What two transfers deliver: each destination at its target contents, each source's elements back. -/
def deliv2 (sA sB : Memref sig .tc sp s e) (dA dB : Memref sig .tc sp' s e) (q q' : PosShare TreeShare) (fA : Con (F := F) c sA) (fB : Con (F := F) c sB)
    (TA : Con (F := F) c dA) (TB : Con (F := F) c dB) : Fin 2 → sProp 𝕄
  | ⟨0, _⟩ => iprop(own c dA TA ∗ (sA.view.loc (c : Thread nD τ) ↦[sA.view.set]{q} fA))
  | ⟨1, _⟩ => iprop(own c dB TB ∗ (sB.view.loc (c : Thread nD τ) ↦[sB.view.set]{q'} fB))

instance deliv2_storable (sA sB : Memref sig .tc sp s e) (dA dB : Memref sig .tc sp' s e) (q q' : PosShare TreeShare) (fA : Con (F := F) c sA) (fB : Con (F := F) c sB)
    (TA : Con (F := F) c dA) (TB : Con (F := F) c dB) : ∀ t, Storable (upEmb : UEmb _ 𝕄) (deliv2 c sA sB dA dB q q' fA fB TA TB t)
  | ⟨0, _⟩ => by unfold deliv2; infer_instance
  | ⟨1, _⟩ => by unfold deliv2; infer_instance

/-- Two transfers in flight: their batch, and the elements of the sources they do not read. -/
def flight2 (sA sB : Memref sig .tc sp s e) (dA dB : Memref sig .tc sp' s e) (sm : DmaSem sig) (q q' : PosShare TreeShare) (fA : Con (F := F) c sA) (fB : Con (F := F) c sB)
    (TA : Con (F := F) c dA) (TB : Con (F := F) c dB) : sProp 𝕄 :=
  iprop(Transfers.Batch EC (c : Thread nD τ) (.dma sm) () (dA.view.amount (.dma sm)) (deliv2 c sA sB dA dB q q' fA fB TA TB) 2 0
    ∗ (sA.view.loc (c : Thread nD τ) ↦[Finset.univ \ sA.view.set]{q} fA) ∗ (sB.view.loc (c : Thread nD τ) ↦[Finset.univ \ sB.view.set]{q'} fB))

/-- Before and after: the cell at zero, the shares of the sources. -/
def rest2 (sA sB : Memref sig .tc sp s e) (sm : DmaSem sig) (q q' : PosShare TreeShare) (fA : Con (F := F) c sA) (fB : Con (F := F) c sB) : sProp 𝕄 :=
  iprop(semVal ((c : Thread nD τ), SemLoc.dma sm) 0 ∗ shr c sA q fA ∗ shr c sB q' fB)

/-- The target contents hold the source's elements under the destination's view. -/
def Lands (sA : Memref sig .tc sp s e) (dA : Memref sig .tc sp' s e) (fA : Con (F := F) c sA) (TA : Con (F := F) c dA) : Prop :=
  dA.view.read (Elt F) TA = sA.view.read (Elt F) fA

theorem eq_of_read {M : Memref sig .tc sp s e} {f g : Con (F := F) c M} (h : M.view.read (Elt F) f = M.view.read (Elt F) g) : ∀ i ∈ M.view.set, f i = g i := by
  intro i hi
  obtain ⟨x, -, rfl⟩ := Finset.mem_map.mp hi
  have := congrFun h x
  rw [View.read_apply, View.read_apply] at this
  exact (cast_inj _).mp this

theorem own_landed {sA : Memref sig .tc sp s e} {dA : Memref sig .tc sp' s e} {fA : Con (F := F) c sA} {TA : Con (F := F) c dA}
    (h : Lands c sA dA fA TA) (fd : Con (F := F) c dA) :
    own c dA (dA.view.write (Elt F) fd (ReadAs.same.apply (sA.view.read (Elt F) fA)) Finset.univ) = own c dA TA :=
  pointsTo_congr (eq_of_read c (by rw [View.read_write_univ]; exact h.symm))

theorem wp_start2 {sA sB : Memref sig .tc sp s e} {dA dB : Memref sig .tc sp' s e} {sm : DmaSem sig} {q q' : PosShare TreeShare} {fA : Con (F := F) c sA} {fB : Con (F := F) c sB}
    {TA : Con (F := F) c dA} {TB : Con (F := F) c dB} (hA : Lands c sA dA fA TA) (hB : Lands c sB dB fB TB)
    (hN : dB.view.amount (.dma sm) = dA.view.amount (.dma sm)) {α : Type} {a1 a2 a3 a4 a5 a6} {k : PUnit → Pr F α} {Q : α → sProp 𝕄} :
    iprop(rest2 c sA sB sm q q' fA fB ∗ (∃ f, own c dA f) ∗ (∃ f, own c dB f))
      ⊢ iprop((flight2 c sA sB dA dB sm q q' fA fB TA TB -∗ run c (k ⟨⟩) Q) -∗ run c (start2 sA sB dA dB sm a1 a2 a3 a4 a5 a6 >>= k) Q) := by
  unfold rest2 shr run
  iintro ⟨⟨Hv, HA, HB⟩, ⟨%fd, HdA⟩, ⟨%fd', HdB⟩⟩ Hk
  ihave HA2 := ((pointsTo_split_subset (Finset.subset_univ sA.view.set)).1) $$ HA
  icases HA2 with ⟨HA, HAr⟩
  ihave HB2 := ((pointsTo_split_subset (Finset.subset_univ sB.view.set)).1) $$ HB
  icases HB2 with ⟨HB, HBr⟩
  unfold start2
  simp only [bind_assoc]
  imod (Transfers.batch_alloc' EC (c : Thread nD τ) () (dA.view.amount (.dma sm)) (deliv2 c sA sB dA dB q q' fA fB TA TB) (sm := .dma sm) (E := Set.univ)) $$ Hv with HBt
  iapply (Transfers.wp_dmaBatch EC 𝒱₀ (c : Thread nD τ) none (src := sA) (dst := dA) () (dA.view.amount (.dma sm)) rfl subset_rfl
    (D := deliv2 c sA sB dA dB q q' fA fB TA TB) (j := 0) (u := 0) (fd := fd) (by decide) (Nat.zero_le _)
    (fs := fA) (q := q) (sep_mono_left (Entails.of_eq (own_landed c hA fd)))) $$ [HA HdA HBt]
  · isplitl [HA]; · iexact HA
    isplitl [HdA]; · iexact HdA
    iexact HBt
  iintro HBt
  simp only [ret_bind]
  iapply (Transfers.wp_dmaBatch EC 𝒱₀ (c : Thread nD τ) none (src := sB) (dst := dB) () (dA.view.amount (.dma sm)) hN subset_rfl
    (D := deliv2 c sA sB dA dB q q' fA fB TA TB) (j := 1) (u := 0) (fd := fd') (by decide) (Nat.zero_le _)
    (fs := fB) (q := q') (sep_mono_left (Entails.of_eq (own_landed c hB fd')))) $$ [HB HdB HBt]
  · isplitl [HB]; · iexact HB
    isplitl [HdB]; · iexact HdB
    iexact HBt
  iintro HBt
  simp only [ret_bind]
  iapply Hk
  unfold flight2
  isplitl [HBt]; · iexact HBt
  isplitl [HAr]; · iexact HAr
  iexact HBr

theorem deliv2_split (sA sB : Memref sig .tc sp s e) (dA dB : Memref sig .tc sp' s e) (q q' : PosShare TreeShare) (fA : Con (F := F) c sA) (fB : Con (F := F) c sB)
    (TA : Con (F := F) c dA) (TB : Con (F := F) c dB) :
    bigSep Finset.univ (deliv2 c sA sB dA dB q q' fA fB TA TB)
      ⊢ iprop((own c dA TA ∗ (sA.view.loc (c : Thread nD τ) ↦[sA.view.set]{q} fA)) ∗ (own c dB TB ∗ (sB.view.loc (c : Thread nD τ) ↦[sB.view.set]{q'} fB))) := by
  rw [Idealize.SL.BI.bigSep_univ_eq_bigSepL [0, 1] (by decide) (by decide) _]
  exact .rfl

theorem wp_wait2 {sA sB : Memref sig .tc sp s e} {dA dB : Memref sig .tc sp' s e} {sm : DmaSem sig} {q q' : PosShare TreeShare} {fA : Con (F := F) c sA} {fB : Con (F := F) c sB}
    {TA : Con (F := F) c dA} {TB : Con (F := F) c dB}
    (hN : dB.view.amount (.dma sm) = dA.view.amount (.dma sm)) (h0 : 0 < s.numel) {α : Type} {a1 a2 a3 a4} {k : PUnit → Pr F α} {Q : α → sProp 𝕄} :
    iprop(flight2 c sA sB dA dB sm q q' fA fB TA TB ∗ (∃ W, owes (c : Thread nD τ) 0 W))
      ⊢ iprop((iprop((rest2 c sA sB sm q q' fA fB ∗ own c dA TA ∗ own c dB TB) ∗ (∃ W, owes (c : Thread nD τ) 0 W)) -∗ run c (k ⟨⟩) Q)
        -∗ run c (wait2 sA sB dA dB sm a1 a2 a3 a4 >>= k) Q) := by
  have hpos : 0 < dA.view.amount (.dma sm) := dA.view.amount_pos _ h0
  unfold flight2 run
  iintro ⟨⟨HBt, HAr, HBr⟩, ⟨%W, HO⟩⟩ Hk
  unfold wait2
  simp only [bind_assoc]
  iapply (Transfers.wp_waitBatch EC 𝒱₀ (c : Thread nD τ) none () (N := dA.view.amount (.dma sm)) rfl (D := deliv2 c sA sB dA dB q q' fA fB TA TB) (u := 0) (by omega)) $$ [HBt HO]
  · isplitl [HBt] <;> iassumption
  iintro ⟨HBt, HO⟩
  simp only [ret_bind]
  iapply (Transfers.wp_waitBatchLast EC 𝒱₀ (c : Thread nD τ) none () (N := dA.view.amount (.dma sm)) hN hpos (D := deliv2 c sA sB dA dB q q' fA fB TA TB) (u := 0 + dA.view.amount (.dma sm)) (by omega)) $$ [HBt HO]
  · isplitl [HBt] <;> iassumption
  iintro ⟨HD, Hv, HO⟩
  ihave HD' := (deliv2_split c sA sB dA dB q q' fA fB TA TB) $$ HD
  icases HD' with ⟨⟨HdA, HA⟩, HdB, HB⟩
  simp only [ret_bind]
  iapply Hk
  isplitr [HO]
  · unfold rest2 shr
    isplitl [Hv HA HAr HB HBr]
    · isplitl [Hv]; · iexact Hv
      isplitl [HA HAr]
      · iapply ((pointsTo_split_subset (Finset.subset_univ sA.view.set)).2)
        isplitl [HA] <;> iassumption
      · iapply ((pointsTo_split_subset (Finset.subset_univ sB.view.set)).2)
        isplitl [HB] <;> iassumption
    isplitl [HdA] <;> iassumption
  · iexists _; iexact HO

/-- One transfer, out of a buffer held by its own elements. -/
def deliv1 (sA : Memref sig .tc sp s e) (dA : Memref sig .tc sp' s e) (fA : Con (F := F) c sA)
    (TA : Con (F := F) c dA) : Fin 1 → sProp 𝕄 := fun _ => iprop(own c dA TA ∗ own c sA fA)

instance deliv1_storable (sA : Memref sig .tc sp s e) (dA : Memref sig .tc sp' s e) (fA : Con (F := F) c sA)
    (TA : Con (F := F) c dA) : ∀ t, Storable (upEmb : UEmb _ 𝕄) (deliv1 c sA dA fA TA t) := fun t => by unfold deliv1; infer_instance

def flight1 (sA : Memref sig .tc sp s e) (dA : Memref sig .tc sp' s e) (sm : DmaSem sig) (fA : Con (F := F) c sA)
    (TA : Con (F := F) c dA) : sProp 𝕄 :=
  Transfers.Batch EC (c : Thread nD τ) (.dma sm) () (dA.view.amount (.dma sm)) (deliv1 c sA dA fA TA) 1 0

theorem wp_start1 {sA : Memref sig .tc sp s e} {dA : Memref sig .tc sp' s e} {sm : DmaSem sig} {fA : Con (F := F) c sA}
    {TA : Con (F := F) c dA} (hA : Lands c sA dA fA TA) {α : Type} {a1 a2 a3} {k : PUnit → Pr F α} {Q : α → sProp 𝕄} :
    iprop(semVal ((c : Thread nD τ), SemLoc.dma sm) 0 ∗ own c sA fA ∗ (∃ f, own c dA f))
      ⊢ iprop((flight1 c sA dA sm fA TA -∗ run c (k ⟨⟩) Q) -∗ run c (start1 sA dA sm a1 a2 a3 >>= k) Q) := by
  unfold run
  iintro ⟨Hv, HA, ⟨%fd, HdA⟩⟩ Hk
  unfold start1
  imod (Transfers.batch_alloc' EC (c : Thread nD τ) () (dA.view.amount (.dma sm)) (deliv1 c sA dA fA TA) (sm := .dma sm) (E := Set.univ)) $$ Hv with HBt
  iapply (Transfers.wp_dmaBatch EC 𝒱₀ (c : Thread nD τ) none (src := sA) (dst := dA) () (dA.view.amount (.dma sm)) rfl subset_rfl
    (D := deliv1 c sA dA fA TA) (j := 0) (u := 0) (fd := fd) (by decide) (Nat.zero_le _)
    (fs := fA) (q := fullShare) (sep_mono_left (Entails.of_eq (own_landed c hA fd)))) $$ [HA HdA HBt]
  · isplitl [HA]; · iexact HA
    isplitl [HdA]; · iexact HdA
    iexact HBt
  iintro HBt
  simp only [ret_bind]
  iapply Hk
  unfold flight1
  iexact HBt

theorem deliv1_split (sA : Memref sig .tc sp s e) (dA : Memref sig .tc sp' s e) (fA : Con (F := F) c sA)
    (TA : Con (F := F) c dA) : bigSep Finset.univ (deliv1 c sA dA fA TA) ⊢ iprop(own c dA TA ∗ own c sA fA) := by
  rw [bigSep_univ_of_subsingleton (0 : Fin 1)]
  exact .rfl

theorem wp_wait1 {sA : Memref sig .tc sp s e} {dA : Memref sig .tc sp' s e} {sm : DmaSem sig} {fA : Con (F := F) c sA}
    {TA : Con (F := F) c dA} (h0 : 0 < s.numel) {α : Type} {a1 a2} {k : PUnit → Pr F α} {Q : α → sProp 𝕄} :
    iprop(flight1 c sA dA sm fA TA ∗ (∃ W, owes (c : Thread nD τ) 0 W))
      ⊢ iprop((iprop((semVal ((c : Thread nD τ), SemLoc.dma sm) 0 ∗ own c sA fA ∗ own c dA TA) ∗ (∃ W, owes (c : Thread nD τ) 0 W)) -∗ run c (k ⟨⟩) Q)
        -∗ run c (wait1 sA dA sm a1 a2 >>= k) Q) := by
  have hpos : 0 < dA.view.amount (.dma sm) := dA.view.amount_pos _ h0
  unfold flight1 run
  iintro ⟨HBt, ⟨%W, HO⟩⟩ Hk
  unfold wait1
  iapply (Transfers.wp_waitBatchLast EC 𝒱₀ (c : Thread nD τ) none () (N := dA.view.amount (.dma sm)) rfl hpos (D := deliv1 c sA dA fA TA) (u := 0) (by omega)) $$ [HBt HO]
  · isplitl [HBt] <;> iassumption
  iintro ⟨HD, Hv, HO⟩
  ihave HD' := (deliv1_split c sA dA fA TA) $$ HD
  icases HD' with ⟨HdA, HA⟩
  simp only [ret_bind]
  iapply Hk
  isplitr [HO]
  · isplitl [Hv]; · iexact Hv
    isplitl [HA] <;> iassumption
  · iexists _; iexact HO

end

end Cert.Kernel.Hand
end
-- ==== Proof.Bits.Seq.lean ====
/-
  Runs of numbered assertions, and buffers cut along a number of their elements or along shares.
-/
module

public import proofs.«01_k».proof.Proof.Bits.Dma

@[expose] public section

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [BitOps F]
local notation "𝕄" => MT nD τ sig Unit (Elt F) ℕ (UU nD τ) ℕ

/-- `P k`, `P (k + 1)`, …, `n` of them. -/
def Seq (P : ℕ → sProp 𝕄) : ℕ → ℕ → sProp 𝕄
  | 0, _ => iprop(emp)
  | n + 1, k => iprop(P k ∗ Seq P n (k + 1))

theorem Seq.mono {P Q : ℕ → sProp 𝕄} : ∀ (n k : ℕ), (∀ i, k ≤ i → i < k + n → (P i ⊢ Q i)) → (Seq P n k ⊢ Seq Q n k)
  | 0, k, h => .rfl
  | n + 1, k, h => BIClass.sep_mono (h k (Nat.le_refl k) (by omega)) (Seq.mono n (k + 1) fun i h1 h2 => h i (by omega) (by omega))

theorem Seq.sep {P Q : ℕ → sProp 𝕄} : ∀ (n k : ℕ), iprop(Seq P n k ∗ Seq Q n k) ⊢ Seq (fun i => iprop(P i ∗ Q i)) n k
  | 0, k => by iintro ⟨H, -⟩; iexact H
  | n + 1, k => by
    unfold Seq
    iintro ⟨⟨HP, HPs⟩, HQ, HQs⟩
    isplitl [HP HQ]
    · isplitl [HP] <;> iassumption
    iapply (Seq.sep n (k + 1))
    isplitl [HPs] <;> iassumption

theorem Seq.unsep {P Q : ℕ → sProp 𝕄} : ∀ (n k : ℕ), Seq (fun i => iprop(P i ∗ Q i)) n k ⊢ iprop(Seq P n k ∗ Seq Q n k)
  | 0, k => by
    unfold Seq
    iintro H
    isplitl [H]; · iexact H
    iempintro
  | n + 1, k => by
    unfold Seq
    iintro ⟨⟨HP, HQ⟩, H⟩
    ihave H' := (Seq.unsep n (k + 1)) $$ H
    icases H' with ⟨HPs, HQs⟩
    isplitl [HP HPs]
    · isplitl [HP] <;> iassumption
    isplitl [HQ] <;> iassumption

theorem Seq.snoc {P : ℕ → sProp 𝕄} : ∀ (n k : ℕ), iprop(Seq P n k ∗ P (k + n)) ⊢ Seq P (n + 1) k
  | 0, k => by
    simp only [Seq]
    iintro ⟨H, HP⟩
    isplitl [HP]; · iexact HP
    iexact H
  | n + 1, k => by
    unfold Seq
    iintro ⟨⟨HP, H⟩, HL⟩
    isplitl [HP]; · iexact HP
    iapply (Seq.snoc n (k + 1))
    isplitl [H]; · iexact H
    rw [show k + 1 + n = k + (n + 1) by omega]
    iexact HL

theorem Seq.last {P : ℕ → sProp 𝕄} : ∀ (n k : ℕ), Seq P (n + 1) k ⊢ iprop(Seq P n k ∗ P (k + n))
  | 0, k => by
    simp only [Seq]
    iintro ⟨HP, H⟩
    isplitl [H]; · iexact H
    iexact HP
  | n + 1, k => by
    unfold Seq
    iintro ⟨HP, H⟩
    ihave H' := (Seq.last n (k + 1)) $$ H
    icases H' with ⟨H, HL⟩
    isplitl [HP H]
    · isplitl [HP] <;> iassumption
    rw [show k + 1 + n = k + (n + 1) by omega]
    iexact HL

/-! ## Shares -/

/-- What is left of a whole share after `n` parts have been taken off, and the part taken off next. -/
def rq : ℕ → PosShare TreeShare
  | 0 => fullShare
  | n + 1 => (rq n).right
def lq (n : ℕ) : PosShare TreeShare := (rq n).left

theorem share_cut {ℓ : Loc nD τ sig} {S : Finset (Idx ℓ)} {f : Buf (Elt F) ℓ} : ∀ (n k : ℕ),
    (ℓ ↦[S]{rq k} f : sProp 𝕄) ⊢ iprop(Seq (fun i => ℓ ↦[S]{lq i} f) n k ∗ (ℓ ↦[S]{rq (k + n)} f))
  | 0, k => by
    unfold Seq
    iintro H
    isplitr; · iempintro
    iexact H
  | n + 1, k => by
    unfold Seq
    iintro H
    ihave H' := (pointsTo_share (PosShare.mem_left_op_right (rq k))).1 $$ H
    rw [show (rq k).right = rq (k + 1) from rfl]
    icases H' with ⟨HL, HR⟩
    ihave HR' := (share_cut n (k + 1)) $$ HR
    icases HR' with ⟨HS, HR⟩
    isplitl [HL HS]
    · isplitl [HL]
      · unfold lq; iexact HL
      iexact HS
    rw [show k + (n + 1) = k + 1 + n by omega]
    iexact HR

theorem share_glue {ℓ : Loc nD τ sig} {S : Finset (Idx ℓ)} {f : Buf (Elt F) ℓ} : ∀ (n k : ℕ),
    iprop(Seq (fun i => ℓ ↦[S]{lq i} f) n k ∗ (ℓ ↦[S]{rq (k + n)} f)) ⊢ (ℓ ↦[S]{rq k} f : sProp 𝕄)
  | 0, k => by
    unfold Seq
    iintro ⟨-, H⟩
    iexact H
  | n + 1, k => by
    unfold Seq
    iintro ⟨⟨HL, HS⟩, HR⟩
    iapply (pointsTo_share (PosShare.mem_left_op_right (rq k))).2
    isplitl [HL]
    · unfold lq; iexact HL
    iapply (share_glue n (k + 1))
    isplitl [HS]; · iexact HS
    rw [show k + 1 + n = k + (n + 1) by omega]
    iexact HR

/-! ## Elements -/

/-- The elements numbered `i`. -/
abbrev part {ℓ : Loc nD τ sig} (key : Idx ℓ → ℕ) (i : ℕ) : Finset (Idx ℓ) := Finset.univ.filter fun j => key j = i
abbrev upto {ℓ : Loc nD τ sig} (key : Idx ℓ → ℕ) (k n : ℕ) : Finset (Idx ℓ) := Finset.univ.filter fun j => k ≤ key j ∧ key j < k + n

theorem upto_succ {ℓ : Loc nD τ sig} (key : Idx ℓ → ℕ) (k n : ℕ) : upto key k (n + 1) = part key k ∪ upto key (k + 1) n := by
  ext j; simp only [Finset.mem_union, Finset.mem_filter, Finset.mem_univ, true_and]; omega
theorem upto_disj {ℓ : Loc nD τ sig} (key : Idx ℓ → ℕ) (k n : ℕ) : Disjoint (part key k) (upto key (k + 1) n) := by
  rw [Finset.disjoint_left]; intro j; simp only [Finset.mem_filter, Finset.mem_univ, true_and]; omega

theorem part_cut {ℓ : Loc nD τ sig} (key : Idx ℓ → ℕ) {f : Buf (Elt F) ℓ} : ∀ (n k : ℕ),
    (ℓ ↦[upto key k n]{fullShare} f : sProp 𝕄) ⊢ Seq (fun i => ℓ ↦[part key i]{fullShare} f) n k
  | 0, k => by
    unfold Seq
    rw [show upto key k 0 = ∅ by ext j; simp, pointsTo_empty]
  | n + 1, k => by
    unfold Seq
    rw [upto_succ]
    exact (pointsTo_union (upto_disj key k n)).1.trans (BIClass.sep_mono .rfl (part_cut key n (k + 1)))

theorem part_glue {ℓ : Loc nD τ sig} (key : Idx ℓ → ℕ) {f : Buf (Elt F) ℓ} : ∀ (n k : ℕ),
    Seq (fun i => ℓ ↦[part key i]{fullShare} f) n k ⊢ (ℓ ↦[upto key k n]{fullShare} f : sProp 𝕄)
  | 0, k => by
    unfold Seq
    rw [show upto key k 0 = ∅ by ext j; simp, pointsTo_empty]
  | n + 1, k => by
    unfold Seq
    rw [upto_succ]
    exact (BIClass.sep_mono .rfl (part_glue key n (k + 1))).trans (pointsTo_union (upto_disj key k n)).2

theorem part_join {ℓ : Loc nD τ sig} (key : Idx ℓ → ℕ) (f₀ : Buf (Elt F) ℓ) : ∀ (n k : ℕ),
    Seq (fun i => iprop(∃ f, ℓ ↦[part key i]{fullShare} f)) n k ⊢ (iprop(∃ f, ℓ ↦[upto key k n]{fullShare} f) : sProp 𝕄)
  | 0, k => by
    unfold Seq
    iintro H
    iexists f₀
    rw [show upto key k 0 = ∅ by ext j; simp, pointsTo_empty]
    iexact H
  | n + 1, k => by
    unfold Seq
    rw [upto_succ]
    iintro ⟨⟨%f, H⟩, HS⟩
    ihave HS' := (part_join key f₀ n (k + 1)) $$ HS
    icases HS' with ⟨%g, HS⟩
    iexists _
    iapply (pointsTo_join (upto_disj key k n))
    isplitl [H] <;> iassumption

theorem upto_univ {ℓ : Loc nD τ sig} (key : Idx ℓ → ℕ) (n : ℕ) (h : ∀ j, key j < n) : upto key 0 n = Finset.univ := by
  ext j; have := h j; simp only [Finset.mem_filter, Finset.mem_univ, true_and, iff_true]; omega

/-- Two disjoint sets of elements, together one. -/
theorem two_cut {ℓ : Loc nD τ sig} {S I J : Finset (Idx ℓ)} (hS : S = I ∪ J) (hd : Disjoint I J) {f : Buf (Elt F) ℓ} :
    (ℓ ↦[S]{fullShare} f : sProp 𝕄) ⊢ iprop((∃ f, ℓ ↦[I]{fullShare} f) ∗ (∃ f, ℓ ↦[J]{fullShare} f)) := by
  subst hS
  iintro H
  ihave H' := (pointsTo_union hd).1 $$ H
  icases H' with ⟨H1, H2⟩
  isplitl [H1]
  · iexists _; iexact H1
  iexists _; iexact H2
theorem two_join {ℓ : Loc nD τ sig} {S I J : Finset (Idx ℓ)} (hS : S = I ∪ J) (hd : Disjoint I J) :
    iprop((∃ f, ℓ ↦[I]{fullShare} f) ∗ (∃ f, ℓ ↦[J]{fullShare} f)) ⊢ (iprop(∃ f : Buf (Elt F) ℓ, ℓ ↦[S]{fullShare} f) : sProp 𝕄) := by
  subst hS
  iintro ⟨⟨%f, H1⟩, ⟨%g, H2⟩⟩
  iexists _
  iapply (pointsTo_join hd)
  isplitl [H1] <;> iassumption

end Cert.Kernel.Hand
end
-- ==== Proof.Bits.Sums.lean ====
/-
  What the kernel's buffers hold, as functions of its arguments, and the running sums of the matrix unit.
-/
module

public import proofs.«01_k».proof.Proof.Bits.Prog
public import Idealize.ShloMosaic.Lib.ValueIdxCore
public import Idealize.ShloMosaic.Lib.ValueLayout

@[expose] public section

noncomputable section

namespace Cert.Kernel.Hand

open Cert.Kernel Cert.Kernel.Gen
open Idealize.ShloMosaic Idealize.ShloMosaic.TcCoe Idealize.ShloMosaic.ValueIdx
open Idealize.SL.Sem

variable {F : FTy → Type} [BitOps F]

/-- The five arrays the kernel reads. -/
structure In (F : FTy → Type) where
  x : S128x27648.Idx → Elt F .bf16
  wg : S13824x2560.Idx → Elt F .i8
  sg : S216x2560.Idx → Elt F .bf16
  wu : S13824x2560.Idx → Elt F .i8
  su : S216x2560.Idx → Elt F .bf16

variable (A : In F)

/-! ## The buffers' contents -/

/-- The activations as the kernel stages them; -/
def XR : S2x9x128x1536.Idx → Elt F .bf16 := fun j =>
  A.x (ix2 (j 2) ⟨(j 0).val * 13824 + (j 1).val * 1536 + (j 3).val, by
    have h0 : (j 0).val < 2 := (j 0).isLt; have h1 : (j 1).val < 9 := (j 1).isLt; have h3 : (j 3).val < 1536 := (j 3).isLt; omega⟩)
/-- chunk `i` of the two matrices, in any slot of the ring; -/
def WT (i : ℕ) (hi : i < 45) : S6x2x1536x512.Idx → Elt F .i8 := fun j =>
  (if (j 1).val = 0 then A.wg else A.wu) (ix2 ⟨i % 9 * 1536 + (j 2).val, by have h2 : (j 2).val < 1536 := (j 2).isLt; omega⟩
    ⟨i / 9 * 512 + (j 3).val, by have h3 : (j 3).val < 512 := (j 3).isLt; omega⟩)
/-- the scales of column block `n`, in either slot. -/
def SR (n : ℕ) (hn : n < 5) : S2x2x216x512.Idx → Elt F .bf16 := fun j =>
  (if (j 1).val = 0 then A.sg else A.su) (ix2 (j 2) ⟨n * 512 + (j 3).val, by have h3 : (j 3).val < 512 := (j 3).isLt; omega⟩)

/-- Pass `p` of trip `c`'s activations, from each half; -/
def xHalf (k : Fin 2) (c : ℕ) (hc : c < 9) (p : Fin 12) : Vec F S1x1x128x128 .bf16 :=
  (bXR.access (Rect.unit (s := S2x9x128x1536) ![k.val, c, 0, 128 * p.val] S1x1x128x128.size (xrOff_inb hc k p))).read (Elt F) (XR A)
/-- the interleaved activations. -/
def XP : S9x128x3072.Idx → Elt F .bf16 := fun j =>
  let p : Fin 12 := ⟨(j 2).val / 256, by have h : (j 2).val < 3072 := (j 2).isLt; omega⟩
  let r : Fin 128 := j 1
  let l : Fin 128 := ⟨(j 2).val % 128, Nat.mod_lt _ (by decide)⟩
  if (j 2).val % 256 < 128 then mix0 (xHalf A 0 (j 0).val (j 0).isLt p) (xHalf A 1 (j 0).val (j 0).isLt p) (ix3 (0 : Fin 1) r l)
  else mix1 (xHalf A 0 (j 0).val (j 0).isLt p) (xHalf A 1 (j 0).val (j 0).isLt p) (ix3 (0 : Fin 1) r l)

/-- The scale rows of matrix `g` in column block `n`: those of the first half, -/
def sLo (n : ℕ) (hn : n < 5) (g : ℕ) (hg : g < 2) : Vec F S1x1x108x512 .bf16 :=
  (bS.access (Rect.unit (s := S2x2x216x512) ![n % 2, g, 0, 0] S1x1x108x512.size (sLo_inb (by omega) hg))).read (Elt F) (SR A n hn)
/-- and those of the second; -/
def sHi (n : ℕ) (hn : n < 5) (g : ℕ) (hg : g < 2) : Vec F S1x1x108x512 .bf16 :=
  (bS.access (Rect.unit (s := S2x2x216x512) ![n % 2, g, 108, 0] S1x1x108x512.size (sHi_inb (by omega) hg))).read (Elt F) (SR A n hn)
/-- the scale pairs of column block `n`. -/
def SP (n : ℕ) (hn : n < 5) : S2x2x54x512.Idx → Elt F .i32 := fun j =>
  if (j 1).val = 0 then pair0 (sLo A n hn (j 0).val (j 0).isLt) (sHi A n hn (j 0).val (j 0).isLt) (ix4 (0 : Fin 1) (0 : Fin 1) (j 2 : Fin 54) (j 3 : Fin 512))
  else pair1 (sLo A n hn (j 0).val (j 0).isLt) (sHi A n hn (j 0).val (j 0).isLt) (ix4 (0 : Fin 1) (0 : Fin 1) (j 2 : Fin 54) (j 3 : Fin 512))

/-! ## One pass -/

/-- The left operand of pass `p` of trip `c`; -/
def xV (c : ℕ) (hc : c < 9) (p : Fin 12) : Vec F S1x128x256 .bf16 :=
  (bXP.access (Rect.unit (s := S9x128x3072) ![c, 0, 256 * p.val] S1x128x256.size (xOff_inb hc p))).read (Elt F) (XP A)
/-- the packed words of its tile of matrix `g`, column half `t`; -/
def wV (n : ℕ) (hn : n < 5) (c : ℕ) (hc : c < 9) (g t : Fin 2) (p : Fin 12) : Vec F S1x1x128x256 .i8 :=
  (bW.access (Rect.unit (s := S6x2x1536x512) ![(9 * n + c) % 6, g.val, 128 * p.val, 256 * t.val] S1x1x128x256.size (wOff_inb (by omega) g t p))).read (Elt F) (WT A (9 * n + c) (by omega))
/-- and its scale pairs. -/
def sV (n : ℕ) (hn : n < 5) (c : ℕ) (hc : c < 9) (g t : Fin 2) (p : Fin 12) : Vec F S1x1x1x256 .i32 :=
  (bP.access (Rect.unit (s := S2x2x54x512) ![g.val, p.val % 2, 6 * c + p.val / 2, 256 * t.val] S1x1x1x256.size (sOff_inb (by omega) g t p))).read (Elt F) (SP A n hn)

/-- What pass `p` of trip `c` adds to the sum of matrix `g`, column half `t`, in column block `n`. -/
def term (n : ℕ) (hn : n < 5) (g t : Fin 2) (c : ℕ) (hc : c < 9) (p : Fin 12) : FVec F S128x256 .f32 :=
  FloatOps.mxuPass (DotDims.plain 128 256 256) (lhsOf (xV A c hc p)) (tileOf (wV A n hn c hc g t p) (sV A n hn c hc g t p))

/-- The terms in order: pass `k % 12` of trip `k / 12`. -/
def termAt (n : ℕ) (hn : n < 5) (g t : Fin 2) (k : ℕ) : FVec F S128x256 .f32 :=
  if h : k < 108 then term A n hn g t (k / 12) (by omega) ⟨k % 12, by omega⟩ else fun _ => FloatOps.ofBits .f32 0

/-- The sum of the first `k + 1` terms, added in order. -/
def accV (n : ℕ) (hn : n < 5) (g t : Fin 2) : ℕ → FVec F S128x256 .f32
  | 0 => termAt A n hn g t 0
  | k + 1 => fun i => FloatOps.addf (accV n hn g t k i) (termAt A n hn g t (k + 1) i)

/-- Column block `n` of the result. -/
def outV (n : ℕ) (hn : n < 5) (t : Fin 2) : Vec F S1x128x256 .bf16 := act (accV A n hn 0 t 107) (accV A n hn 1 t 107)
/-- In the output buffer, -/
def OB (n : ℕ) (hn : n < 5) : S2x128x512.Idx → Elt F .bf16 := fun j =>
  outV A n hn ⟨(j 2).val / 256, by have h : (j 2).val < 512 := (j 2).isLt; omega⟩ (ix3 (0 : Fin 1) (j 1 : Fin 128) (⟨(j 2).val % 256, Nat.mod_lt _ (by decide)⟩ : Fin 256))
/-- and in the result. -/
def OT : S128x2560.Idx → Elt F .bf16 := fun j =>
  outV A ((j 1).val / 512) (by have h : (j 1).val < 2560 := (j 1).isLt; omega) ⟨(j 1).val % 512 / 256, by omega⟩
    (ix3 (0 : Fin 1) (j 0 : Fin 128) (⟨(j 1).val % 256, Nat.mod_lt _ (by decide)⟩ : Fin 256))

/-! ## The matrix unit's state -/

/-- Row `r` of column half `t`'s accumulator. -/
abbrev accRow (t : Fin 2) (r : Fin 128) : Fin 1024 := ⟨128 * t.val + r.val, by have := t.isLt; have := r.isLt; omega⟩

/-- Before pass `k` of column block `n`: the registers are empty and the two halves' rows hold the sums of the first `k` terms. -/
structure St (n : ℕ) (hn : n < 5) (k : ℕ) (mx : Mxu F) : Prop where
  reg : ∀ q r, mx.reg q r = none
  off : ∀ q (R : Fin 1024), 256 ≤ R.val → mx.live q R = false
  dead : k = 0 → ∀ q t r, mx.live q (accRow t r) = false
  live : ∀ k', k = k' + 1 → ∀ q t r, mx.live q (accRow t r) = true
  acc : ∀ k', k = k' + 1 → ∀ q t r (C : Fin 256), mx.acc q (accRow t r) C = accV A n hn q t k' (ix2 r C)

theorem St.init (n : ℕ) (hn : n < 5) {mx : Mxu F} (h : mx.Drained) : St A n hn 0 mx where
  reg q r := Option.isNone_iff_eq_none.mp (h.1 q r)
  off q R _ := h.2 q R
  dead _ q t r := h.2 q _
  live k' e := absurd e (by omega)
  acc k' e := absurd e (by omega)

/-- One column half of a pass. -/
def half (mx : Mxu F) (r : Fin 2) (A : ℕ) (h : Mxu.Fits A 128) (x : FVec F S128x256 .bf16) (v0 v1 : FVec F S256x256 .bf16) : Mxu F :=
  (((mx.pushed 0 r false v0).pushed 1 r false v1).accLhs 0 r A x h).accLhs 1 r A x h

/-- One pass. -/
def passV (mx : Mxu F) (x : FVec F S128x256 .bf16) (v : Fin 2 → Fin 2 → FVec F S256x256 .bf16) : Mxu F :=
  half (half mx 0 0 fits_0_128 x (v 0 0) (v 1 0)) 1 32 fits_32_128 x (v 0 1) (v 1 1)

section
variable {mx : Mxu F} (hr : ∀ q r, mx.reg q r = none) (r : Fin 2) (B : ℕ) (h : Mxu.Fits B 128) (x : FVec F S128x256 .bf16) (v0 v1 : FVec F S256x256 .bf16)
include hr

theorem half_reg (q r' : Fin 2) : (half mx r B h x v0 v1).reg q r' = none := by
  have h01 : (1 : Fin 2) ≠ 0 := by decide
  simp only [half, Mxu.accLhs, Mxu.accBy, Mxu.pushed, hr]
  by_cases e1 : q = 1 ∧ r' = r
  · simp [e1]
  · by_cases e0 : q = 0 ∧ r' = r
    · simp [e0]
    · simp [e0, e1, hr]

theorem half_live (q : Fin 2) (R : Fin 1024) : (half mx r B h x v0 v1).live q R = if 4 * B ≤ R.val ∧ R.val < 4 * B + 128 then true else mx.live q R := by
  simp only [half, Mxu.accLhs, Mxu.accBy, Mxu.pushed, hr]
  obtain rfl | rfl : q = 0 ∨ q = 1 := by omega
  · simp [hr]
  · simp [hr]

theorem half_acc (q : Fin 2) (R : Fin 1024) (C : Fin 256) : (half mx r B h x v0 v1).acc q R C =
    if e : 4 * B ≤ R.val ∧ R.val < 4 * B + 128 then
      Mxu.deposit (mx.live q R) (mx.acc q R C) ((FloatOps.mxuPass (DotDims.plain 128 256 256) x (if q = 0 then v0 else v1) : FVec F S128x256 .f32) (Mxu.ix ⟨R.val - 4 * B, by omega⟩ C))
    else mx.acc q R C := by
  simp only [half, Mxu.accLhs, Mxu.accBy, Mxu.pushed, hr]
  obtain rfl | rfl : q = 0 ∨ q = 1 := by omega
  · simp [hr, Mxu.staged, Mxu.Staged.pass]
    split
    · rw [if_pos (⟨rfl, rfl⟩ : (0 : Fin 2) = 0 ∧ r = r)]; rfl
    · rfl
  · simp [hr, Mxu.staged, Mxu.Staged.pass]
    split
    · rw [if_pos (⟨rfl, rfl⟩ : (1 : Fin 2) = 1 ∧ r = r)]; rfl
    · rfl
end

theorem ix_eq {M : ℕ} (r : Fin M) (C : Fin 256) : Mxu.ix r C = ix2 r C := by
  funext a; fin_cases a <;> rfl

theorem St.next {n : ℕ} {hn : n < 5} {k : ℕ} {mx : Mxu F} (h : St A n hn k mx) {c : ℕ} (hc : c < 9) (p : Fin 12) (hk : k = 12 * c + p.val) :
    St A n hn (k + 1) (passV mx (lhsOf (xV A c hc p)) fun g t => tileOf (wV A n hn c hc g t p) (sV A n hn c hc g t p)) := by
  have hp := p.isLt
  have hterm : ∀ g t, termAt A n hn g t k = FloatOps.mxuPass (DotDims.plain 128 256 256) (lhsOf (xV A c hc p)) (tileOf (wV A n hn c hc g t p) (sV A n hn c hc g t p)) := by
    intro g t
    have e1 : k / 12 = c := by omega
    have e2 : (⟨k % 12, by omega⟩ : Fin 12) = p := Fin.ext (by show k % 12 = p.val; omega)
    rw [termAt, dif_pos (by omega)]
    subst e1
    rw [e2]; rfl
  have hr1 := half_reg h.reg 0 0 fits_0_128 (lhsOf (xV A c hc p)) (tileOf (wV A n hn c hc 0 0 p) (sV A n hn c hc 0 0 p)) (tileOf (wV A n hn c hc 1 0 p) (sV A n hn c hc 1 0 p))
  refine ⟨fun q r => half_reg hr1 .., fun q R hR => ?_, fun e => absurd e (by omega), fun k' e q t r => ?_, fun k' e q t r C => ?_⟩
  · rw [passV, half_live hr1, half_live h.reg, if_neg (by omega), if_neg (by omega)]; exact h.off q R hR
  · rw [passV, half_live hr1, half_live h.reg]
    have := r.isLt
    obtain rfl | rfl : t = 0 ∨ t = 1 := by omega
    · rw [if_neg (by show ¬ (4 * 32 ≤ 128 * 0 + r.val ∧ _); omega), if_pos (by show 4 * 0 ≤ 128 * 0 + r.val ∧ 128 * 0 + r.val < 4 * 0 + 128; omega)]
    · rw [if_pos (by show 4 * 32 ≤ 128 * 1 + r.val ∧ 128 * 1 + r.val < 4 * 32 + 128; omega)]
  · obtain rfl : k = k' := by omega
    have hrl := r.isLt
    have key : ∀ (q t : Fin 2), Mxu.deposit (mx.live q (accRow t r)) (mx.acc q (accRow t r) C) (termAt A n hn q t k (ix2 r C)) = accV A n hn q t k (ix2 r C) := by
      intro q t
      cases hk0 : k with
      | zero => rw [h.dead hk0 q t r]; rfl
      | succ k' => rw [h.live k' hk0 q t r, h.acc k' hk0 q t r C]; rfl
    rw [passV, half_acc hr1]
    obtain rfl | rfl : t = 0 ∨ t = 1 := by omega
    · rw [dif_neg (by show ¬ (4 * 32 ≤ 128 * 0 + r.val ∧ _); omega), half_acc h.reg, dif_pos (by show 4 * 0 ≤ 128 * 0 + r.val ∧ 128 * 0 + r.val < 4 * 0 + 128; omega)]
      rw [← key q 0, hterm]
      have e1 : (⟨(accRow 0 r).val - 4 * 0, by show 128 * 0 + r.val - 4 * 0 < 128; omega⟩ : Fin 128) = r := Fin.ext (by show 128 * 0 + r.val - 4 * 0 = r.val; omega)
      rw [e1, ix_eq]
      obtain rfl | rfl : q = 0 ∨ q = 1 := by omega
      · rfl
      · rfl
    · rw [dif_pos (by show 4 * 32 ≤ 128 * 1 + r.val ∧ 128 * 1 + r.val < 4 * 32 + 128; omega), half_live h.reg, half_acc h.reg, if_neg (by show ¬ (_ ∧ 128 * 1 + r.val < 4 * 0 + 128); omega),
        dif_neg (by show ¬ (_ ∧ 128 * 1 + r.val < 4 * 0 + 128); omega)]
      rw [← key q 1, hterm]
      have e1 : (⟨(accRow 1 r).val - 4 * 32, by show 128 * 1 + r.val - 4 * 32 < 128; omega⟩ : Fin 128) = r := Fin.ext (by show 128 * 1 + r.val - 4 * 32 = r.val; omega)
      rw [e1, ix_eq]
      obtain rfl | rfl : q = 0 ∨ q = 1 := by omega
      · rfl
      · rfl

/-- The state the epilogue leaves. -/
def popAll (mx : Mxu F) : Mxu F :=
  (((mx.pop 0 0 128 fits_0_128).pop 1 0 128 fits_0_128).pop 0 32 128 fits_32_128).pop 1 32 128 fits_32_128

theorem popAll_drained {n : ℕ} {hn : n < 5} {k : ℕ} {mx : Mxu F} (h : St A n hn k mx) : (popAll mx).Drained := by
  refine ⟨fun q r => ?_, fun q R => ?_⟩
  · show (mx.reg q r).isNone = true
    rw [h.reg]; rfl
  · by_cases hR : 256 ≤ R.val
    · have := h.off q R hR
      simp only [popAll, Mxu.pop]
      simp [this]
    · simp only [popAll, Mxu.pop]
      obtain rfl | rfl : q = 0 ∨ q = 1 := by omega
      · simp; omega
      · simp; omega

theorem St.read {n : ℕ} {hn : n < 5} {k : ℕ} {mx : Mxu F} (h : St A n hn (k + 1) mx) (q : Fin 2) :
    mx.read q 0 fits_0_128 = accV A n hn q 0 k ∧ mx.read q 32 fits_32_128 = accV A n hn q 1 k := by
  constructor
  · funext i
    rw [eq_ix2 i]
    refine Eq.trans ?_ (h.acc k rfl q 0 (i 0) (i 1))
    show mx.acc q _ _ = _
    congr 1
  · funext i
    rw [eq_ix2 i]
    refine Eq.trans ?_ (h.acc k rfl q 1 (i 0) (i 1))
    show mx.acc q _ _ = _
    congr 1

/-- The pops before a read do not reach it. -/
theorem read_pops (mx : Mxu F) :
    (mx.pop 0 0 128 fits_0_128).read 1 0 fits_0_128 = mx.read 1 0 fits_0_128
    ∧ ((mx.pop 0 0 128 fits_0_128).pop 1 0 128 fits_0_128).read 0 32 fits_32_128 = mx.read 0 32 fits_32_128
    ∧ (((mx.pop 0 0 128 fits_0_128).pop 1 0 128 fits_0_128).pop 0 32 128 fits_32_128).read 1 32 fits_32_128 = mx.read 1 32 fits_32_128 := by
  refine ⟨?_, ?_, ?_⟩ <;> funext i <;> simp only [Mxu.read, Mxu.pop, Mxu.row] <;> simp

end Cert.Kernel.Hand
end
-- ==== Proof.Bits.Geom.lean ====
/-
  Where the pieces lie in their buffers, and what the transfers put in them.
-/
module

public import proofs.«01_k».proof.Proof.Bits.Sums
public import proofs.«01_k».proof.Proof.Bits.Dma

@[expose] public section

set_option pp.maxSteps 40

noncomputable section

namespace Cert.Kernel.Hand

open Cert.Kernel Cert.Kernel.Gen
open Idealize.ShloMosaic Idealize.ShloMosaic.TcCoe Idealize.ShloMosaic.ValueIdx
open Idealize.SL.Sem

variable {F : FTy → Type} [BitOps F] (A : In F)

theorem emb_w {sl g : ℕ} (h : sl < 6) (hg : g < 2) (r : Fin 1536) (k : Fin 512) :
    (wAt sl h g hg).view.emb (ix2 r k) = ix4 (⟨sl, h⟩ : Fin 6) (⟨g, hg⟩ : Fin 2) r k := by
  refine Eq.trans (congrArg (Rect.unit (s := S6x2x1536x512) ![sl, g, 0, 0] S1x1x1536x512.size (inbW h hg)).idx (reshapeEquiv_ix2_11ab _ r k)) ?_
  funext a; fin_cases a
  · exact Fin.ext (by show sl + 1 * 0 = sl; omega)
  · exact Fin.ext (by show g + 1 * 0 = g; omega)
  · exact Fin.ext (by show 0 + 1 * r.val = r.val; omega)
  · exact Fin.ext (by show 0 + 1 * k.val = k.val; omega)

theorem mem_w {sl g : ℕ} (h : sl < 6) (hg : g < 2) (i : S6x2x1536x512.Idx) : i ∈ (wAt sl h g hg).view.set ↔ (i 0).val = sl ∧ (i 1).val = g := by
  constructor
  · intro hi
    obtain ⟨x, -, rfl⟩ := Finset.mem_map.mp hi
    rw [eq_ix2 x]
    erw [emb_w]
    exact ⟨rfl, rfl⟩
  · intro ⟨h0, h1⟩
    have : i = (wAt sl h g hg).view.emb (ix2 (i 2 : Fin 1536) (i 3 : Fin 512)) := by
      refine Eq.trans ?_ (emb_w h hg _ _).symm
      refine (eq_ix4 i).trans ?_
      subst h0 h1; rfl
    rw [this]
    exact View.emb_mem_set _ _

theorem emb_xr {sl g : ℕ} (h : sl < 2) (hg : g < 9) (r : Fin 128) (k : Fin 1536) :
    (xrAt sl h g hg).view.emb (ix2 r k) = ix4 (⟨sl, h⟩ : Fin 2) (⟨g, hg⟩ : Fin 9) r k := by
  refine Eq.trans (congrArg (Rect.unit (s := S2x9x128x1536) ![sl, g, 0, 0] S1x1x128x1536.size (inbXR h hg)).idx (reshapeEquiv_ix2_11ab _ r k)) ?_
  funext a; fin_cases a
  · exact Fin.ext (by show sl + 1 * 0 = sl; omega)
  · exact Fin.ext (by show g + 1 * 0 = g; omega)
  · exact Fin.ext (by show 0 + 1 * r.val = r.val; omega)
  · exact Fin.ext (by show 0 + 1 * k.val = k.val; omega)

theorem mem_xr {sl g : ℕ} (h : sl < 2) (hg : g < 9) (i : S2x9x128x1536.Idx) : i ∈ (xrAt sl h g hg).view.set ↔ (i 0).val = sl ∧ (i 1).val = g := by
  constructor
  · intro hi
    obtain ⟨x, -, rfl⟩ := Finset.mem_map.mp hi
    rw [eq_ix2 x]
    erw [emb_xr]
    exact ⟨rfl, rfl⟩
  · intro ⟨h0, h1⟩
    have : i = (xrAt sl h g hg).view.emb (ix2 (i 2 : Fin 128) (i 3 : Fin 1536)) := by
      refine Eq.trans ?_ (emb_xr h hg _ _).symm
      refine (eq_ix4 i).trans ?_
      subst h0 h1; rfl
    rw [this]
    exact View.emb_mem_set _ _

theorem emb_s {sl g : ℕ} (h : sl < 2) (hg : g < 2) (r : Fin 216) (k : Fin 512) :
    (sAt sl h g hg).view.emb (ix2 r k) = ix4 (⟨sl, h⟩ : Fin 2) (⟨g, hg⟩ : Fin 2) r k := by
  refine Eq.trans (congrArg (Rect.unit (s := S2x2x216x512) ![sl, g, 0, 0] S1x1x216x512.size (inbS h hg)).idx (reshapeEquiv_ix2_11ab _ r k)) ?_
  funext a; fin_cases a
  · exact Fin.ext (by show sl + 1 * 0 = sl; omega)
  · exact Fin.ext (by show g + 1 * 0 = g; omega)
  · exact Fin.ext (by show 0 + 1 * r.val = r.val; omega)
  · exact Fin.ext (by show 0 + 1 * k.val = k.val; omega)

theorem mem_s {sl g : ℕ} (h : sl < 2) (hg : g < 2) (i : S2x2x216x512.Idx) : i ∈ (sAt sl h g hg).view.set ↔ (i 0).val = sl ∧ (i 1).val = g := by
  constructor
  · intro hi
    obtain ⟨x, -, rfl⟩ := Finset.mem_map.mp hi
    rw [eq_ix2 x]
    erw [emb_s]
    exact ⟨rfl, rfl⟩
  · intro ⟨h0, h1⟩
    have : i = (sAt sl h g hg).view.emb (ix2 (i 2 : Fin 216) (i 3 : Fin 512)) := by
      refine Eq.trans ?_ (emb_s h hg _ _).symm
      refine (eq_ix4 i).trans ?_
      subst h0 h1; rfl
    rw [this]
    exact View.emb_mem_set _ _

theorem lands_wg (c : Dev nD) (i : ℕ) (hi : i < 45) {sl : ℕ} (h : sl < 6) : Lands (F := F) c (wgAt i hi) (wAt sl h 0 (by decide)) A.wg (WT A i hi) := by
  funext j
  rw [eq_ix2 j]
  refine Eq.trans (congrArg (WT A i hi) (emb_w h (by decide : 0 < 2) _ _)) ?_
  show A.wg _ = A.wg _
  congr 1
  funext a; fin_cases a
  · exact Fin.ext (congrArg (i % 9 * 1536 + ·) (Nat.one_mul _).symm)
  · exact Fin.ext (congrArg (i / 9 * 512 + ·) (Nat.one_mul _).symm)

theorem lands_wu (c : Dev nD) (i : ℕ) (hi : i < 45) {sl : ℕ} (h : sl < 6) : Lands (F := F) c (wuAt i hi) (wAt sl h 1 (by decide)) A.wu (WT A i hi) := by
  funext j
  rw [eq_ix2 j]
  refine Eq.trans (congrArg (WT A i hi) (emb_w h (by decide : 1 < 2) _ _)) ?_
  show A.wu _ = A.wu _
  congr 1
  funext a; fin_cases a
  · exact Fin.ext (congrArg (i % 9 * 1536 + ·) (Nat.one_mul _).symm)
  · exact Fin.ext (congrArg (i / 9 * 512 + ·) (Nat.one_mul _).symm)

theorem lands_x0 (c : Dev nD) (t : ℕ) (ht : t < 9) : Lands (F := F) c (xAt 0 (by decide) t ht) (xrAt 0 (by decide) t ht) A.x (XR A) := by
  funext j
  rw [eq_ix2 j]
  refine Eq.trans (congrArg (XR A) (emb_xr (by decide : 0 < 2) ht _ _)) ?_
  show A.x _ = A.x _
  congr 1
  funext a; fin_cases a
  · exact Fin.ext (((congrArg (0 + ·) (Nat.one_mul _)).trans (Nat.zero_add _)).symm)
  · exact Fin.ext (congrArg (0 * 13824 + t * 1536 + ·) (Nat.one_mul _).symm)

theorem lands_x1 (c : Dev nD) (t : ℕ) (ht : t < 9) : Lands (F := F) c (xAt 1 (by decide) t ht) (xrAt 1 (by decide) t ht) A.x (XR A) := by
  funext j
  rw [eq_ix2 j]
  refine Eq.trans (congrArg (XR A) (emb_xr (by decide : 1 < 2) ht _ _)) ?_
  show A.x _ = A.x _
  congr 1
  funext a; fin_cases a
  · exact Fin.ext (((congrArg (0 + ·) (Nat.one_mul _)).trans (Nat.zero_add _)).symm)
  · exact Fin.ext (congrArg (1 * 13824 + t * 1536 + ·) (Nat.one_mul _).symm)

theorem lands_sg (c : Dev nD) (n : ℕ) (hn : n < 5) {sl : ℕ} (h : sl < 2) : Lands (F := F) c (sgAt n hn) (sAt sl h 0 (by decide)) A.sg (SR A n hn) := by
  funext j
  rw [eq_ix2 j]
  refine Eq.trans (congrArg (SR A n hn) (emb_s h (by decide : 0 < 2) _ _)) ?_
  show A.sg _ = A.sg _
  congr 1
  funext a; fin_cases a
  · exact Fin.ext (((congrArg (0 + ·) (Nat.one_mul _)).trans (Nat.zero_add _)).symm)
  · exact Fin.ext (congrArg (n * 512 + ·) (Nat.one_mul _).symm)

theorem lands_su (c : Dev nD) (n : ℕ) (hn : n < 5) {sl : ℕ} (h : sl < 2) : Lands (F := F) c (suAt n hn) (sAt sl h 1 (by decide)) A.su (SR A n hn) := by
  funext j
  rw [eq_ix2 j]
  refine Eq.trans (congrArg (SR A n hn) (emb_s h (by decide : 1 < 2) _ _)) ?_
  show A.su _ = A.su _
  congr 1
  funext a; fin_cases a
  · exact Fin.ext (((congrArg (0 + ·) (Nat.one_mul _)).trans (Nat.zero_add _)).symm)
  · exact Fin.ext (congrArg (n * 512 + ·) (Nat.one_mul _).symm)

theorem emb_o {sl : ℕ} (h : sl < 2) (r : Fin 128) (k : Fin 512) : (oAt sl h).view.emb (ix2 r k) = ix3 (⟨sl, h⟩ : Fin 2) r k := by
  refine Eq.trans (congrArg (Rect.unit (s := S2x128x512) ![sl, 0, 0] S1x128x512.size (inbO h)).idx (reshapeEquiv_ix2_1ab _ r k)) ?_
  funext a; fin_cases a
  · exact Fin.ext (by show sl + 1 * 0 = sl; omega)
  · exact Fin.ext (by show 0 + 1 * r.val = r.val; omega)
  · exact Fin.ext (by show 0 + 1 * k.val = k.val; omega)

theorem mem_o {sl : ℕ} (h : sl < 2) (i : S2x128x512.Idx) : i ∈ (oAt sl h).view.set ↔ (i 0).val = sl := by
  constructor
  · intro hi
    obtain ⟨x, -, rfl⟩ := Finset.mem_map.mp hi
    rw [eq_ix2 x]
    erw [emb_o]
  · intro h0
    have : i = (oAt sl h).view.emb (ix2 (i 1 : Fin 128) (i 2 : Fin 512)) := by
      refine Eq.trans ?_ (emb_o h _ _).symm
      refine (eq_ix3 i).trans ?_
      subst h0; rfl
    rw [this]
    exact View.emb_mem_set _ _

theorem emb_out {n : ℕ} (hn : n < 5) (r : Fin 128) (k : Fin 512) :
    (outAt n hn).view.emb (ix2 r k) = ix2 r (⟨n * 512 + k.val, by have := k.isLt; omega⟩ : Fin 2560) := by
  funext a; fin_cases a
  · exact Fin.ext (by show 0 + 1 * r.val = r.val; omega)
  · exact Fin.ext (by show n * 512 + 1 * k.val = n * 512 + k.val; omega)

theorem mem_out {n : ℕ} (hn : n < 5) (i : S128x2560.Idx) : i ∈ (outAt n hn).view.set ↔ (i 1).val / 512 = n := by
  constructor
  · intro hi
    obtain ⟨x, -, rfl⟩ := Finset.mem_map.mp hi
    rw [eq_ix2 x]
    erw [emb_out]
    have : (x 1).val < 512 := (x 1).isLt
    show (n * 512 + (x 1).val) / 512 = n
    omega
  · intro h0
    have : i = (outAt n hn).view.emb (ix2 (i 0 : Fin 128) (⟨(i 1).val % 512, by omega⟩ : Fin 512)) := by
      refine Eq.trans ?_ (emb_out hn _ _).symm
      refine (eq_ix2 i).trans ?_
      congr 1
      exact Fin.ext (by show (i 1).val = n * 512 + (i 1).val % 512; omega)
    rw [this]
    exact View.emb_mem_set _ _

theorem lands_o (c : Dev nD) (n : ℕ) (hn : n < 5) {sl : ℕ} (h : sl < 2) : Lands (F := F) c (oAt sl h) (outAt n hn) (OB A n hn) (OT A) := by
  funext j
  rw [eq_ix2 j]
  refine Eq.trans (congrArg (OT A) (emb_out hn _ _)) (Eq.trans ?_ (congrArg (OB A n hn) (emb_o h _ _)).symm)
  have hj : (j 1).val < 512 := (j 1).isLt
  have key : ∀ (n' : ℕ) (hn' : n' < 5) (t t' : Fin 2) (k k' : Fin 256), n' = n → t = t' → k = k' →
      outV A n' hn' t (ix3 (0 : Fin 1) (j 0 : Fin 128) k) = outV A n hn t' (ix3 (0 : Fin 1) (j 0 : Fin 128) k') := by
    intro n' hn' t t' k k' e1 e2 e3; subst e1 e2 e3; rfl
  refine key _ _ _ _ _ _ ?_ (Fin.ext ?_) (Fin.ext ?_)
  · show (n * 512 + (j 1).val) / 512 = n; omega
  · show (n * 512 + (j 1).val) % 512 / 256 = (j 1).val / 256; omega
  · show (n * 512 + (j 1).val) % 256 = (j 1).val % 256; omega

/-! ## The accesses lie in their pieces -/

theorem sub_w {sl g : ℕ} (h : sl < 6) (hg : g < 2) {d : Fin 4 → ℕ} {hd : ∀ a, d a + S1x1x128x256.size a ≤ S6x2x1536x512.size a} (h0 : d 0 = sl) (h1 : d 1 = g) :
    (bW.access (Rect.unit (s := S6x2x1536x512) d S1x1x128x256.size hd)).set ⊆ (wAt sl h g hg).view.set := by
  intro i hi
  obtain ⟨x, -, rfl⟩ := Finset.mem_map.mp hi
  have e0 : (x 0).val < 1 := (x 0).isLt
  have e1 : (x 1).val < 1 := (x 1).isLt
  refine (mem_w h hg _).mpr ⟨?_, ?_⟩
  · show d 0 + 1 * (x 0).val = sl; omega
  · show d 1 + 1 * (x 1).val = g; omega
theorem sub_xr {sl g : ℕ} (h : sl < 2) (hg : g < 9) {d : Fin 4 → ℕ} {hd : ∀ a, d a + S1x1x128x128.size a ≤ S2x9x128x1536.size a} (h0 : d 0 = sl) (h1 : d 1 = g) :
    (bXR.access (Rect.unit (s := S2x9x128x1536) d S1x1x128x128.size hd)).set ⊆ (xrAt sl h g hg).view.set := by
  intro i hi
  obtain ⟨x, -, rfl⟩ := Finset.mem_map.mp hi
  have e0 : (x 0).val < 1 := (x 0).isLt
  have e1 : (x 1).val < 1 := (x 1).isLt
  refine (mem_xr h hg _).mpr ⟨?_, ?_⟩
  · show d 0 + 1 * (x 0).val = sl; omega
  · show d 1 + 1 * (x 1).val = g; omega
theorem sub_s {sl g : ℕ} (h : sl < 2) (hg : g < 2) {d : Fin 4 → ℕ} {hd : ∀ a, d a + S1x1x108x512.size a ≤ S2x2x216x512.size a} (h0 : d 0 = sl) (h1 : d 1 = g) :
    (bS.access (Rect.unit (s := S2x2x216x512) d S1x1x108x512.size hd)).set ⊆ (sAt sl h g hg).view.set := by
  intro i hi
  obtain ⟨x, -, rfl⟩ := Finset.mem_map.mp hi
  have e0 : (x 0).val < 1 := (x 0).isLt
  have e1 : (x 1).val < 1 := (x 1).isLt
  refine (mem_s h hg _).mpr ⟨?_, ?_⟩
  · show d 0 + 1 * (x 0).val = sl; omega
  · show d 1 + 1 * (x 1).val = g; omega
theorem sub_o {sl : ℕ} (h : sl < 2) {d : Fin 3 → ℕ} {hd : ∀ a, d a + S1x128x256.size a ≤ S2x128x512.size a} (h0 : d 0 = sl) :
    (bO.access (Rect.unit (s := S2x128x512) d S1x128x256.size hd)).set ⊆ (oAt sl h).view.set := by
  intro i hi
  obtain ⟨x, -, rfl⟩ := Finset.mem_map.mp hi
  have e0 : (x 0).val < 1 := (x 0).isLt
  refine (mem_o h _).mpr ?_
  show d 0 + 1 * (x 0).val = sl; omega

/-! ## What the stores leave -/

theorem write_at {sp : Space} {s : Shape} {e : EltTy} (v : View sig .tc sp s e) (f : v.ty.Contents (Elt F)) (w : s.Idx → Elt F e) (x : s.Idx) (j : v.ty.Idx) (h : j = v.emb x) :
    v.write (Elt F) f w Finset.univ j = _root_.cast (congrArg (Elt F) v.elt_eq.symm) (w x) := by
  subst h; exact View.write_emb_of_mem f w (Finset.mem_univ _)

theorem write_off {sp : Space} {s : Shape} {e : EltTy} (v : View sig .tc sp s e) (f : v.ty.Contents (Elt F)) (w : s.Idx → Elt F e) (j : v.ty.Idx) (h : ∀ x, v.emb x ≠ j) :
    v.write (Elt F) f w Finset.univ j = f j :=
  View.write_of_not_mem f w _ fun hm => by
    obtain ⟨x, -, e⟩ := Finset.mem_map.mp hm
    exact h x e

/-- The write of pass `p`'s lane half `jj`: inside, -/
theorem xp_write_in {t : ℕ} (ht : t < 9) (jj : Fin 2) (p : Fin 12) (f : S9x128x3072.Idx → Elt F .bf16) (w : Vec F S1x128x128 .bf16) (j : S9x128x3072.Idx)
    (h0 : (j 0).val = t) (h1 : 256 * p.val + 128 * jj.val ≤ (j 2).val) (h2 : (j 2).val < 256 * p.val + 128 * jj.val + 128) :
    (bXP.access (Rect.unit (s := S9x128x3072) ![t, 0, 256 * p.val + 128 * jj.val] S1x128x128.size (xpOff_inb ht jj p))).write (Elt F) f w Finset.univ j
      = w (ix3 (0 : Fin 1) (j 1 : Fin 128) (⟨(j 2).val % 128, Nat.mod_lt _ (by decide)⟩ : Fin 128)) := by
  have e : j = (bXP.access (Rect.unit (s := S9x128x3072) ![t, 0, 256 * p.val + 128 * jj.val] S1x128x128.size (xpOff_inb ht jj p))).emb
      (ix3 (0 : Fin 1) (j 1 : Fin 128) (⟨(j 2).val % 128, Nat.mod_lt _ (by decide)⟩ : Fin 128)) := by
    funext a; fin_cases a
    · exact Fin.ext (by show (j 0).val = t + 1 * 0; omega)
    · exact Fin.ext (by show (j 1).val = 0 + 1 * (j 1).val; omega)
    · exact Fin.ext (by show (j 2).val = 256 * p.val + 128 * jj.val + 1 * ((j 2).val % 128); omega)
  exact write_at (bXP.access (Rect.unit (s := S9x128x3072) ![t, 0, 256 * p.val + 128 * jj.val] S1x128x128.size (xpOff_inb ht jj p))) f w _ j e
/-- and outside. -/
theorem xp_write_out {t : ℕ} (ht : t < 9) (jj : Fin 2) (p : Fin 12) (f : S9x128x3072.Idx → Elt F .bf16) (w : Vec F S1x128x128 .bf16) (j : S9x128x3072.Idx)
    (h : (j 0).val ≠ t ∨ (j 2).val < 256 * p.val + 128 * jj.val ∨ 256 * p.val + 128 * jj.val + 128 ≤ (j 2).val) :
    (bXP.access (Rect.unit (s := S9x128x3072) ![t, 0, 256 * p.val + 128 * jj.val] S1x128x128.size (xpOff_inb ht jj p))).write (Elt F) f w Finset.univ j = f j := by
  refine write_off (bXP.access (Rect.unit (s := S9x128x3072) ![t, 0, 256 * p.val + 128 * jj.val] S1x128x128.size (xpOff_inb ht jj p))) f w j fun x hx => ?_
  subst hx
  have e0 : (x 0).val < 1 := (x 0).isLt
  have e2 : (x 2).val < 128 := (x 2).isLt
  rcases h with h | h | h
  · exact h (by show t + 1 * (x 0).val = t; omega)
  · have h : 256 * p.val + 128 * jj.val + 1 * (x 2).val < 256 * p.val + 128 * jj.val := h
    omega
  · have h : 256 * p.val + 128 * jj.val + 128 ≤ 256 * p.val + 128 * jj.val + 1 * (x 2).val := h
    omega

/-- The contents after both lane halves of pass `p` of trip `t`. -/
theorem xp_step {t : ℕ} (ht : t < 9) (p : Fin 12) (f : S9x128x3072.Idx → Elt F .bf16)
    (hf : ∀ j : S9x128x3072.Idx, ((j 0).val < t ∨ (j 0).val = t ∧ (j 2).val < 256 * p.val) → f j = XP A j) :
    ∀ j : S9x128x3072.Idx, ((j 0).val < t ∨ (j 0).val = t ∧ (j 2).val < 256 * (p.val + 1)) →
      (bXP.access (Rect.unit (s := S9x128x3072) ![t, 0, 256 * p.val + 128 * (1 : Fin 2).val] S1x128x128.size (xpOff_inb ht 1 p))).write (Elt F)
        ((bXP.access (Rect.unit (s := S9x128x3072) ![t, 0, 256 * p.val + 128 * (0 : Fin 2).val] S1x128x128.size (xpOff_inb ht 0 p))).write (Elt F) f
          (mix0 (xHalf A 0 t ht p) (xHalf A 1 t ht p)) Finset.univ) (mix1 (xHalf A 0 t ht p) (xHalf A 1 t ht p)) Finset.univ j = XP A j := by
  intro j hj
  have hp := p.isLt
  have key : ∀ p' : Fin 12, (j 0).val = t → p' = p → xHalf A 0 (j 0).val (j 0).isLt p' = xHalf A 0 t ht p ∧ xHalf A 1 (j 0).val (j 0).isLt p' = xHalf A 1 t ht p := by
    intro p' e1 e2; subst e1 e2; exact ⟨rfl, rfl⟩
  by_cases h1 : (j 0).val = t ∧ 256 * p.val + 128 ≤ (j 2).val
  · rw [xp_write_in ht 1 p _ _ j h1.1 (by show 256 * p.val + 128 * 1 ≤ _; omega) (by show _ < 256 * p.val + 128 * 1 + 128; omega)]
    have k := key ⟨(j 2).val / 256, by have h : (j 2).val < 3072 := (j 2).isLt; omega⟩ h1.1 (Fin.ext (by show (j 2).val / 256 = p.val; omega))
    unfold XP
    dsimp only
    rw [if_neg (by omega), k.1, k.2]
  · rw [xp_write_out ht 1 p _ _ j (by show _ ∨ (j 2).val < 256 * p.val + 128 * 1 ∨ _; omega)]
    by_cases h2 : (j 0).val = t ∧ 256 * p.val ≤ (j 2).val
    · rw [xp_write_in ht 0 p _ _ j h2.1 (by show 256 * p.val + 128 * 0 ≤ _; omega) (by show _ < 256 * p.val + 128 * 0 + 128; omega)]
      have k := key ⟨(j 2).val / 256, by have h : (j 2).val < 3072 := (j 2).isLt; omega⟩ h2.1 (Fin.ext (by show (j 2).val / 256 = p.val; omega))
      unfold XP
      dsimp only
      rw [if_pos (by omega), k.1, k.2]
    · rw [xp_write_out ht 0 p _ _ j (by show _ ∨ (j 2).val < 256 * p.val + 128 * 0 ∨ _; omega)]
      exact hf j (by omega)

/-- The write of matrix `g`'s pairs of parity `jj`: inside, -/
theorem sp_write_in {g : ℕ} (hg : g < 2) {jj : ℕ} (hjj : jj < 2) (f : S2x2x54x512.Idx → Elt F .i32) (w : Vec F S1x1x54x512 .i32) (j : S2x2x54x512.Idx)
    (h0 : (j 0).val = g) (h1 : (j 1).val = jj) :
    (bP.access (Rect.unit (s := S2x2x54x512) ![g, jj, 0, 0] S1x1x54x512.size (sp_inb hg hjj))).write (Elt F) f w Finset.univ j
      = w (ix4 (0 : Fin 1) (0 : Fin 1) (j 2 : Fin 54) (j 3 : Fin 512)) := by
  have e : j = (bP.access (Rect.unit (s := S2x2x54x512) ![g, jj, 0, 0] S1x1x54x512.size (sp_inb hg hjj))).emb
      (ix4 (0 : Fin 1) (0 : Fin 1) (j 2 : Fin 54) (j 3 : Fin 512)) := by
    funext a; fin_cases a
    · exact Fin.ext (by show (j 0).val = g + 1 * 0; omega)
    · exact Fin.ext (by show (j 1).val = jj + 1 * 0; omega)
    · exact Fin.ext (by show (j 2).val = 0 + 1 * (j 2).val; omega)
    · exact Fin.ext (by show (j 3).val = 0 + 1 * (j 3).val; omega)
  exact write_at (bP.access (Rect.unit (s := S2x2x54x512) ![g, jj, 0, 0] S1x1x54x512.size (sp_inb hg hjj))) f w _ j e
/-- and outside. -/
theorem sp_write_out {g : ℕ} (hg : g < 2) {jj : ℕ} (hjj : jj < 2) (f : S2x2x54x512.Idx → Elt F .i32) (w : Vec F S1x1x54x512 .i32) (j : S2x2x54x512.Idx)
    (h : (j 0).val ≠ g ∨ (j 1).val ≠ jj) :
    (bP.access (Rect.unit (s := S2x2x54x512) ![g, jj, 0, 0] S1x1x54x512.size (sp_inb hg hjj))).write (Elt F) f w Finset.univ j = f j := by
  refine write_off (bP.access (Rect.unit (s := S2x2x54x512) ![g, jj, 0, 0] S1x1x54x512.size (sp_inb hg hjj))) f w j fun x hx => ?_
  subst hx
  have e0 : (x 0).val < 1 := (x 0).isLt
  have e1 : (x 1).val < 1 := (x 1).isLt
  rcases h with h | h
  · exact h (by show g + 1 * (x 0).val = g; omega)
  · exact h (by show jj + 1 * (x 1).val = jj; omega)

abbrev wrP {g : ℕ} (hg : g < 2) {jj : ℕ} (hjj : jj < 2) (f : S2x2x54x512.Idx → Elt F .i32) (w : Vec F S1x1x54x512 .i32) : S2x2x54x512.Idx → Elt F .i32 :=
  (bP.access (Rect.unit (s := S2x2x54x512) ![g, jj, 0, 0] S1x1x54x512.size (sp_inb hg hjj))).write (Elt F) f w Finset.univ

theorem sp_step {n : ℕ} (hn : n < 5) {g : ℕ} (hg : g < 2) (f : S2x2x54x512.Idx → Elt F .i32)
    (hf : ∀ j : S2x2x54x512.Idx, (j 0).val < g → f j = SP A n hn j) (w0 w1 : Vec F S1x1x54x512 .i32)
    (h0 : w0 = pair0 (sLo A n hn g hg) (sHi A n hn g hg)) (h1 : w1 = pair1 (sLo A n hn g hg) (sHi A n hn g hg)) :
    ∀ j : S2x2x54x512.Idx, (j 0).val < g + 1 → wrP hg (jj := 1) (by omega) (wrP hg (jj := 0) (by omega) f w0) w1 j = SP A n hn j := by
  intro j hj
  have hj1 : (j 1).val < 2 := (j 1).isLt
  by_cases e0 : (j 0).val = g
  · have k0 : w0 = pair0 (sLo A n hn (j 0).val (j 0).isLt) (sHi A n hn (j 0).val (j 0).isLt) := by subst e0; exact h0
    have k1 : w1 = pair1 (sLo A n hn (j 0).val (j 0).isLt) (sHi A n hn (j 0).val (j 0).isLt) := by subst e0; exact h1
    clear h0 h1
    unfold SP
    rw [← k0, ← k1]
    by_cases e1 : (j 1).val = 1
    · refine (sp_write_in hg (by omega) _ w1 j e0 e1).trans ?_
      rw [if_neg (by omega)]
    · have a1 := sp_write_out hg (show 1 < 2 by omega) (wrP hg (show 0 < 2 by omega) f w0) w1 j (Or.inr e1)
      have a2 := sp_write_in hg (show 0 < 2 by omega) f w0 j e0 (by omega)
      rw [if_pos (by omega)]
      exact a1.trans a2
  · have a1 := sp_write_out hg (show 1 < 2 by omega) (wrP hg (show 0 < 2 by omega) f w0) w1 j (Or.inl e0)
    have a2 := sp_write_out hg (show 0 < 2 by omega) f w0 j (Or.inl e0)
    exact a1.trans (a2.trans (hf j (by omega)))

/-- The write of column half `t` in the output buffer: inside, -/
theorem o_write_in {sl : ℕ} (h : sl < 2) (t : Fin 2) (f : S2x128x512.Idx → Elt F .bf16) (w : Vec F S1x128x256 .bf16) (j : S2x128x512.Idx)
    (h0 : (j 0).val = sl) (h1 : (j 2).val / 256 = t.val) :
    (bO.access (Rect.unit (s := S2x128x512) ![sl, 0, 256 * t.val] S1x128x256.size (oOff_inb h t))).write (Elt F) f w Finset.univ j
      = w (ix3 (0 : Fin 1) (j 1 : Fin 128) (⟨(j 2).val % 256, Nat.mod_lt _ (by decide)⟩ : Fin 256)) := by
  have e : j = (bO.access (Rect.unit (s := S2x128x512) ![sl, 0, 256 * t.val] S1x128x256.size (oOff_inb h t))).emb
      (ix3 (0 : Fin 1) (j 1 : Fin 128) (⟨(j 2).val % 256, Nat.mod_lt _ (by decide)⟩ : Fin 256)) := by
    funext a; fin_cases a
    · exact Fin.ext (by show (j 0).val = sl + 1 * 0; omega)
    · exact Fin.ext (by show (j 1).val = 0 + 1 * (j 1).val; omega)
    · exact Fin.ext (by show (j 2).val = 256 * t.val + 1 * ((j 2).val % 256); omega)
  exact write_at (bO.access (Rect.unit (s := S2x128x512) ![sl, 0, 256 * t.val] S1x128x256.size (oOff_inb h t))) f w _ j e
/-- and outside. -/
theorem o_write_out {sl : ℕ} (h : sl < 2) (t : Fin 2) (f : S2x128x512.Idx → Elt F .bf16) (w : Vec F S1x128x256 .bf16) (j : S2x128x512.Idx)
    (h1 : (j 2).val / 256 ≠ t.val) :
    (bO.access (Rect.unit (s := S2x128x512) ![sl, 0, 256 * t.val] S1x128x256.size (oOff_inb h t))).write (Elt F) f w Finset.univ j = f j := by
  refine write_off (bO.access (Rect.unit (s := S2x128x512) ![sl, 0, 256 * t.val] S1x128x256.size (oOff_inb h t))) f w j fun x hx => ?_
  subst hx
  have e2 : (x 2).val < 256 := (x 2).isLt
  have h1 : (256 * t.val + 1 * (x 2).val) / 256 ≠ t.val := h1
  omega

theorem o_step {n : ℕ} (hn : n < 5) {sl : ℕ} (h : sl < 2) (f : S2x128x512.Idx → Elt F .bf16) :
    ∀ j : S2x128x512.Idx, j ∈ (oAt sl h).view.set →
      (bO.access (Rect.unit (s := S2x128x512) ![sl, 0, 256 * (1 : Fin 2).val] S1x128x256.size (oOff_inb h 1))).write (Elt F)
        ((bO.access (Rect.unit (s := S2x128x512) ![sl, 0, 256 * (0 : Fin 2).val] S1x128x256.size (oOff_inb h 0))).write (Elt F) f
          (outV A n hn 0) Finset.univ) (outV A n hn 1) Finset.univ j = OB A n hn j := by
  intro j hj
  have h0 := (mem_o h j).mp hj
  have h2 : (j 2).val < 512 := (j 2).isLt
  have key : ∀ t t' : Fin 2, t' = t → outV A n hn t' = outV A n hn t := fun t t' e => by rw [e]
  by_cases h1 : (j 2).val / 256 = 1
  · refine (o_write_in h 1 _ _ j h0 h1).trans ?_
    exact (congrFun (key 1 ⟨(j 2).val / 256, by omega⟩ (Fin.ext h1)) _).symm
  · refine (o_write_out h 1 _ _ j h1).trans ((o_write_in h 0 _ _ j h0 (by show _ = 0; omega)).trans ?_)
    exact (congrFun (key 0 ⟨(j 2).val / 256, by omega⟩ (Fin.ext (by show (j 2).val / 256 = 0; omega))) _).symm

end Cert.Kernel.Hand
end
-- ==== Proof.Bits.Steps.lean ====
/-
  What the kernel's computing steps do to its buffers.
-/
module

public import proofs.«01_k».proof.Proof.Bits.Geom

@[expose] public section

set_option pp.maxSteps 40

noncomputable section

namespace Cert.Kernel.Hand

open Cert.Kernel Cert.Kernel.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F] (A : In F) (c : Dev nD)
local notation "𝕄" => MT nD τ sig Unit (Elt F) ℕ (UU nD τ) ℕ

/-- A buffer held whole at contents `f`. -/
abbrev whole {sp : Space} {s : Shape} {e : EltTy} (M : Memref sig .tc sp s e) (f : Con (F := F) c M) : sProp 𝕄 := shr c M fullShare f

theorem ld {cs : CoreSpace} {s : Shape} {e : EltTy} (m : Memref sig .tc cs s e) (r : Rect s) {hl : m.view.LoadsAt r} (S : Finset (Idx (m.view.loc (c : Thread nD τ)))) (f : Con (F := F) c m)
    (hS : (m.access r).set ⊆ S) {α : Type} {k : (r.shape.Idx → Elt F e) → Pr F α} {Q : α → sProp 𝕄} :
    (m.view.loc (c : Thread nD τ) ↦[S]{fullShare} f)
      ⊢ iprop(((m.view.loc (c : Thread nD τ) ↦[S]{fullShare} f) -∗ run c (k ((m.access r).read (Elt F) f)) Q) -∗ run c (Prog.lift (.load m r hl) >>= k) Q) :=
  wp_load_rect (m := m) (r := r) 𝒱₀ (c : Thread nD τ) none Set.univ (S := S) (q := fullShare) (f := f) hS

theorem st {cs : CoreSpace} {s : Shape} {e : EltTy} (m : Memref sig .tc cs s e) (r : Rect s) {w : r.shape.Idx → Elt F e} {hx : (m.access r).Stores Finset.univ} {hm}
    (S : Finset (Idx (m.view.loc (c : Thread nD τ)))) (f : Con (F := F) c m)
    (hS : (m.access r).set ⊆ S) {α : Type} {k : PUnit → Pr F α} {Q : α → sProp 𝕄} :
    (m.view.loc (c : Thread nD τ) ↦[S]{fullShare} f)
      ⊢ iprop(((m.view.loc (c : Thread nD τ) ↦[S]{fullShare} ((m.access r).write (Elt F) f w Finset.univ)) -∗ run c (k ⟨⟩) Q) -∗ run c (Prog.lift (.store m r w Finset.univ hx hm) >>= k) Q) :=
  wp_store (m := m) (r := r) 𝒱₀ (c : Thread nD τ) none Set.univ (S := S) (f := f) hS

theorem wp_tile {n : ℕ} (hn : n < 5) {b : ℕ} (hb : b < 9) (hi : 9 * n + b < 45) (hsl : (9 * n + b) % 6 < 6) {g : ℕ} (hg : g < 2) (t : Fin 2) (p : Fin 12)
    (hrow : 6 * b + p.val / 2 < 54)
    (mx : Mxu F) (hreg : mx.reg ⟨g, hg⟩ t = none) {α : Type} {k : Mxu F → Pr F α} {Q : α → sProp 𝕄} :
    iprop(own c (wAt ((9 * n + b) % 6) hsl g hg) (WT A (9 * n + b) hi) ∗ whole c bP (SP A n hn))
      ⊢ iprop((iprop(own c (wAt ((9 * n + b) % 6) hsl g hg) (WT A (9 * n + b) hi) ∗ whole c bP (SP A n hn))
          -∗ run c (k (mx.pushed ⟨g, hg⟩ t false (tileOf (wV A n hn b hb ⟨g, hg⟩ t p) (sV A n hn b hb ⟨g, hg⟩ t p)))) Q)
        -∗ run c (tile hsl hrow ⟨g, hg⟩ t p mx >>= k) Q) := by
  iintro ⟨HW, HP⟩ Hk
  unfold tile
  simp only [bind_assoc]
  iapply (ld c bW (Rect.unit (s := S6x2x1536x512) ![(9 * n + b) % 6, g, 128 * p.val, 256 * t.val] S1x1x128x256.size (wOff_inb hsl ⟨g, hg⟩ t p)) (wAt ((9 * n + b) % 6) hsl g hg).view.set (WT A (9 * n + b) hi) (sub_w hsl hg rfl rfl)) $$ [HW]
  · iexact HW
  iintro HW
  iapply (ld c bP (Rect.unit (s := S2x2x54x512) ![g, p.val % 2, 6 * b + p.val / 2, 256 * t.val] S1x1x1x256.size (sOff_inb hrow ⟨g, hg⟩ t p)) Finset.univ (SP A n hn) (Finset.subset_univ _)) $$ [HP]
  · iexact HP
  iintro HP
  unfold Mxu.pushRhs run
  iapply (wp_assume 𝒱₀ (c : Thread nD τ) none Set.univ (P := mx.PushOk ⟨g, hg⟩ t false) (by rw [Mxu.PushOk, hreg]; simp))
  simp only [ret_bind]
  iapply Hk
  isplitl [HW]; · iexact HW
  iexact HP

theorem pushed_reg {mx : Mxu F} {t : Fin 2} (h : mx.reg 1 t = none) (v : FVec F S256x256 .bf16) : (mx.pushed 0 t false v).reg 1 t = none := by
  cases h0 : mx.reg 0 t <;> simp [Mxu.pushed, h0, h]

/-- What the passes of trip `b` of column block `n` read. -/
def Ops (n : ℕ) (hn : n < 5) (b : ℕ) (hi : 9 * n + b < 45) (hsl : (9 * n + b) % 6 < 6) (f : Con (F := F) c bXP) : sProp 𝕄 :=
  iprop(own c (wAt ((9 * n + b) % 6) hsl 0 (by decide)) (WT A (9 * n + b) hi) ∗ own c (wAt ((9 * n + b) % 6) hsl 1 (by decide)) (WT A (9 * n + b) hi)
    ∗ whole c bP (SP A n hn) ∗ whole c bXP f)

theorem wp_pass {n : ℕ} (hn : n < 5) {b : ℕ} (hb : b < 9) (hi : 9 * n + b < 45) (hsl : (9 * n + b) % 6 < 6) (p : Fin 12) (hrow : 6 * b + p.val / 2 < 54)
    {f : S9x128x3072.Idx → Elt F .bf16} (hf : ∀ j : S9x128x3072.Idx, (j 0).val = b → f j = XP A j)
    {mx : Mxu F} {k₀ : ℕ} (hk : k₀ = 12 * b + p.val) (hs : St A n hn k₀ mx) {α : Type} {k : Mxu F → Pr F α} {Q : α → sProp 𝕄} :
    Ops A c n hn b hi hsl f
      ⊢ iprop((∀ mx', Ops A c n hn b hi hsl f -∗ ⌜St A n hn (k₀ + 1) mx'⌝ -∗ run c (k mx') Q) -∗ run c (pass hsl hb hrow p mx >>= k) Q) := by
  have hx : (bXP.access (Rect.unit (s := S9x128x3072) ![b, 0, 256 * p.val] S1x128x256.size (xOff_inb hb p))).read (Elt F) f = xV A b hb p := by
    refine View.read_congr fun j hj => ?_
    obtain ⟨x, -, rfl⟩ := Finset.mem_map.mp hj
    have e0 : (x 0).val < 1 := (x 0).isLt
    exact hf _ (by show b + 1 * (x 0).val = b; omega)
  have hr := half_reg hs.reg 0 0 fits_0_128 (lhsOf (xV A b hb p)) (tileOf (wV A n hn b hb 0 0 p) (sV A n hn b hb 0 0 p)) (tileOf (wV A n hn b hb 1 0 p) (sV A n hn b hb 1 0 p))
  unfold Ops
  iintro ⟨HW0, HW1, HP, HX⟩ Hk
  unfold pass
  simp only [bind_assoc]
  iapply (ld c bXP (Rect.unit (s := S9x128x3072) ![b, 0, 256 * p.val] S1x128x256.size (xOff_inb hb p)) Finset.univ f (Finset.subset_univ _)) $$ [HX]
  · iexact HX
  iintro HX
  rw [hx]
  iapply (wp_tile A c hn hb hi hsl (g := 0) (by decide) 0 p hrow mx (hs.reg _ _)) $$ [HW0 HP]
  · isplitl [HW0]; · iexact HW0
    iexact HP
  iintro ⟨HW0, HP⟩
  iapply (wp_tile A c hn hb hi hsl (g := 1) (by decide) 0 p hrow _ (pushed_reg (hs.reg 1 0) _)) $$ [HW1 HP]
  · isplitl [HW1]; · iexact HW1
    iexact HP
  iintro ⟨HW1, HP⟩
  iapply (wp_tile A c hn hb hi hsl (g := 0) (by decide) 1 p hrow _ (hr 0 1)) $$ [HW0 HP]
  · isplitl [HW0]; · iexact HW0
    iexact HP
  iintro ⟨HW0, HP⟩
  iapply (wp_tile A c hn hb hi hsl (g := 1) (by decide) 1 p hrow _ (pushed_reg (hr 1 1) _)) $$ [HW1 HP]
  · isplitl [HW1]; · iexact HW1
    iexact HP
  iintro ⟨HW1, HP⟩
  simp only [pure_bind]
  iapply Hk $$ [HW0 HW1 HP HX]
  · isplitl [HW0]; · iexact HW0
    isplitl [HW1]; · iexact HW1
    isplitl [HP]; · iexact HP
    iexact HX
  ipureintro
  exact hs.next A hb p hk

theorem wp_passes {n : ℕ} (hn : n < 5) {b : ℕ} (hb : b < 9) (hi : 9 * n + b < 45) (hsl : (9 * n + b) % 6 < 6) (hrow : ∀ r : Fin 6, 6 * b + r.val < 54)
    {f : S9x128x3072.Idx → Elt F .bf16} (hf : ∀ j : S9x128x3072.Idx, (j 0).val = b → f j = XP A j) {α : Type} {k : Mxu F → Pr F α} {Q : α → sProp 𝕄} :
    ∀ (m p : ℕ) (h : m + p = 12) (mx : Mxu F), St A n hn (12 * b + p) mx →
    (Ops A c n hn b hi hsl f
      ⊢ iprop((∀ mx', Ops A c n hn b hi hsl f -∗ ⌜St A n hn (12 * b + 12) mx'⌝ -∗ run c (k mx') Q) -∗ run c (passes hsl hb (fun r => 6 * b + r.val) hrow m p h mx >>= k) Q))
  | 0, p, h, mx, hs => by
    obtain rfl : p = 12 := by omega
    iintro H Hk
    unfold passes
    simp only [pure_bind]
    iapply Hk $$ H
    ipureintro; exact hs
  | m + 1, p, h, mx, hs => by
    iintro H Hk
    unfold passes
    simp only [bind_assoc]
    have hp : p < 12 := by omega
    have hp2 : p / 2 < 6 := by omega
    have hm : m + (p + 1) = 12 := by omega
    iapply (wp_pass A c hn hb hi hsl ⟨p, hp⟩ (hrow ⟨p / 2, hp2⟩) hf (k₀ := 12 * b + p) rfl hs) $$ H
    iintro %mx' H %hs'
    iapply (wp_passes hn hb hi hsl hrow hf m (p + 1) hm mx' hs') $$ H Hk

/-- The staged activations of trip `b`. -/
def Xs (b : ℕ) (hb : b < 9) : sProp 𝕄 := iprop(own c (xrAt 0 (by decide) b hb) (XR A) ∗ own c (xrAt 1 (by decide) b hb) (XR A))

/-- The interleaved activations after `p` passes of trip `b`. -/
def Mixed (b p : ℕ) (f : S9x128x3072.Idx → Elt F .bf16) : Prop :=
  ∀ j : S9x128x3072.Idx, ((j 0).val < b ∨ (j 0).val = b ∧ (j 2).val < 256 * p) → f j = XP A j

theorem wp_inter {b : ℕ} (hb : b < 9) (p : Fin 12) {f : S9x128x3072.Idx → Elt F .bf16} (hf : Mixed A b p.val f) {α : Type} {k : PUnit → Pr F α} {Q : α → sProp 𝕄} :
    iprop(Xs A c b hb ∗ whole c bXP f)
      ⊢ iprop((∀ f' : S9x128x3072.Idx → Elt F .bf16, Xs A c b hb -∗ whole c bXP f' -∗ ⌜Mixed A b (p.val + 1) f'⌝ -∗ run c (k ⟨⟩) Q) -∗ run c (inter hb p >>= k) Q) := by
  have h0 : 0 < 2 := by decide
  have h1 : 1 < 2 := by decide
  unfold Xs
  iintro ⟨⟨H0, H1⟩, HX⟩ Hk
  unfold inter
  simp only [bind_assoc]
  iapply (ld c bXR (Rect.unit (s := S2x9x128x1536) ![0, b, 0, 128 * p.val] S1x1x128x128.size (xrOff_inb hb 0 p)) (xrAt 0 h0 b hb).view.set (XR A) (sub_xr h0 hb rfl rfl)) $$ [H0]
  · iexact H0
  iintro H0
  iapply (ld c bXR (Rect.unit (s := S2x9x128x1536) ![1, b, 0, 128 * p.val] S1x1x128x128.size (xrOff_inb hb 1 p)) (xrAt 1 h1 b hb).view.set (XR A) (sub_xr h1 hb rfl rfl)) $$ [H1]
  · iexact H1
  iintro H1
  iapply (ld c bXP (Rect.unit (s := S9x128x3072) ![b, 0, 256 * p.val + 128 * (0 : Fin 2).val] S1x128x128.size (xpOff_inb hb 0 p)) Finset.univ f (Finset.subset_univ _)) $$ [HX]
  · iexact HX
  iintro HX
  iapply (st c bXP (Rect.unit (s := S9x128x3072) ![b, 0, 256 * p.val + 128 * (0 : Fin 2).val] S1x128x128.size (xpOff_inb hb 0 p)) (w := mix0 (xHalf A 0 b hb p) (xHalf A 1 b hb p)) Finset.univ f (Finset.subset_univ _)) $$ [HX]
  · iexact HX
  iintro HX
  iapply (ld c bXP (Rect.unit (s := S9x128x3072) ![b, 0, 256 * p.val + 128 * (1 : Fin 2).val] S1x128x128.size (xpOff_inb hb 1 p)) Finset.univ _ (Finset.subset_univ _)) $$ [HX]
  · iexact HX
  iintro HX
  iapply (st c bXP (Rect.unit (s := S9x128x3072) ![b, 0, 256 * p.val + 128 * (1 : Fin 2).val] S1x128x128.size (xpOff_inb hb 1 p)) (w := mix1 (xHalf A 0 b hb p) (xHalf A 1 b hb p)) Finset.univ _ (Finset.subset_univ _)) $$ [HX]
  · iexact HX
  iintro HX
  iapply Hk $$ [H0 H1] HX
  · isplitl [H0]; · iexact H0
    iexact H1
  ipureintro
  exact xp_step A hb p f hf

theorem wp_inters {b : ℕ} (hb : b < 9) {α : Type} {k : PUnit → Pr F α} {Q : α → sProp 𝕄} :
    ∀ (m p : ℕ) (h : m + p = 12) (f : S9x128x3072.Idx → Elt F .bf16), Mixed A b p f →
    (iprop(Xs A c b hb ∗ whole c bXP f)
      ⊢ iprop((∀ f' : S9x128x3072.Idx → Elt F .bf16, Xs A c b hb -∗ whole c bXP f' -∗ ⌜Mixed A b 12 f'⌝ -∗ run c (k ⟨⟩) Q) -∗ run c (inters hb m p h >>= k) Q))
  | 0, p, h, f, hf => by
    obtain rfl : p = 12 := by omega
    iintro ⟨H, HX⟩ Hk
    unfold inters
    simp only [pure_bind]
    iapply Hk $$ H HX
    ipureintro; exact hf
  | m + 1, p, h, f, hf => by
    iintro H Hk
    unfold inters
    simp only [bind_assoc]
    have hp : p < 12 := by omega
    have hm : m + (p + 1) = 12 := by omega
    iapply (wp_inter A c hb ⟨p, hp⟩ hf) $$ H
    iintro %f' H HX %hf'
    iapply (wp_inters hb m (p + 1) hm f' hf') $$ [H HX]
    · isplitl [H]; · iexact H
      iexact HX
    iexact Hk

end Cert.Kernel.Hand
end
-- ==== Proof.Bits.Pairs.lean ====
/-
  The pairing of a block's scales and a block's epilogue.
-/
module

public import proofs.«01_k».proof.Proof.Bits.Steps

@[expose] public section

set_option pp.maxSteps 40

noncomputable section

namespace Cert.Kernel.Hand

open Cert.Kernel Cert.Kernel.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F] (A : In F) (c : Dev nD)
local notation "𝕄" => MT nD τ sig Unit (Elt F) ℕ (UU nD τ) ℕ

/-- The stores of a pairing. -/
def pairStores {g : ℕ} (hg : g < 2) (w0 w1 : Vec F S1x1x54x512 .i32) : Pr F PUnit := do
  let _v : Vec F S1x1x54x512 .i32 ← Prog.lift (.load bP (Rect.unit (s := S2x2x54x512) ![g, 0, 0, 0] S1x1x54x512.size (sp_inb hg (by omega))).toLoadRect (View.loadsAt_vmem h_S1x1x54x512))
  Prog.lift (.store bP (Rect.unit (s := S2x2x54x512) ![g, 0, 0, 0] S1x1x54x512.size (sp_inb hg (by omega))) w0 Finset.univ (View.stores_vmem_bits_univ h_S1x1x54x512 rfl) (.inl rfl))
  let _v : Vec F S1x1x54x512 .i32 ← Prog.lift (.load bP (Rect.unit (s := S2x2x54x512) ![g, 1, 0, 0] S1x1x54x512.size (sp_inb hg (by omega))).toLoadRect (View.loadsAt_vmem h_S1x1x54x512))
  Prog.lift (.store bP (Rect.unit (s := S2x2x54x512) ![g, 1, 0, 0] S1x1x54x512.size (sp_inb hg (by omega))) w1 Finset.univ (View.stores_vmem_bits_univ h_S1x1x54x512 rfl) (.inl rfl))

theorem pairs_eq {sl : ℕ} (hsl : sl < 2) (g : ℕ) (hg : g < 2) : (pairs hsl g hg : Pr F PUnit) =
    Prog.lift (.load bS (Rect.unit (s := S2x2x216x512) ![sl, g, 0, 0] S1x1x108x512.size (sLo_inb hsl hg)).toLoadRect (View.loadsAt_vmem h_S1x1x108x512)) >>= fun a =>
    Prog.lift (.load bS (Rect.unit (s := S2x2x216x512) ![sl, g, 108, 0] S1x1x108x512.size (sHi_inb hsl hg)).toLoadRect (View.loadsAt_vmem h_S1x1x108x512)) >>= fun b =>
    pairStores hg (pair0 a b) (pair1 a b) := rfl

theorem wp_pairStores {g : ℕ} (hg : g < 2) (w0 w1 : Vec F S1x1x54x512 .i32) {f : S2x2x54x512.Idx → Elt F .i32} {α : Type} {k : PUnit → Pr F α} {Q : α → sProp 𝕄} :
    whole c bP f ⊢ iprop((whole c bP (wrP hg (jj := 1) (by omega) (wrP hg (jj := 0) (by omega) f w0) w1) -∗ run c (k ⟨⟩) Q) -∗ run c (pairStores hg w0 w1 >>= k) Q) := by
  have h0 : 0 < 2 := by decide
  have h1 : 1 < 2 := by decide
  iintro HP Hk
  unfold pairStores
  simp only [bind_assoc]
  iapply (ld c bP (Rect.unit (s := S2x2x54x512) ![g, 0, 0, 0] S1x1x54x512.size (sp_inb hg h0)) Finset.univ f (Finset.subset_univ _)) $$ [HP]
  · iexact HP
  iintro HP
  iapply (st c bP (Rect.unit (s := S2x2x54x512) ![g, 0, 0, 0] S1x1x54x512.size (sp_inb hg h0)) (w := w0) Finset.univ f (Finset.subset_univ _)) $$ [HP]
  · iexact HP
  iintro HP
  iapply (ld c bP (Rect.unit (s := S2x2x54x512) ![g, 1, 0, 0] S1x1x54x512.size (sp_inb hg h1)) Finset.univ (wrP hg h0 f w0) (Finset.subset_univ _)) $$ [HP]
  · iexact HP
  iintro HP
  iapply (st c bP (Rect.unit (s := S2x2x54x512) ![g, 1, 0, 0] S1x1x54x512.size (sp_inb hg h1)) (w := w1) Finset.univ (wrP hg h0 f w0) (Finset.subset_univ _)) $$ [HP]
  · iexact HP
  iintro HP
  iapply Hk
  iexact HP

theorem wp_pairs {n : ℕ} (hn : n < 5) (hsl : n % 2 < 2) {g : ℕ} (hg : g < 2) {f : S2x2x54x512.Idx → Elt F .i32} (hf : ∀ j : S2x2x54x512.Idx, (j 0).val < g → f j = SP A n hn j)
    {α : Type} {k : PUnit → Pr F α} {Q : α → sProp 𝕄} :
    iprop(own c (sAt (n % 2) hsl g hg) (SR A n hn) ∗ whole c bP f)
      ⊢ iprop((∀ f' : S2x2x54x512.Idx → Elt F .i32, own c (sAt (n % 2) hsl g hg) (SR A n hn) -∗ whole c bP f' -∗ ⌜∀ j : S2x2x54x512.Idx, (j 0).val < g + 1 → f' j = SP A n hn j⌝ -∗ run c (k ⟨⟩) Q)
        -∗ run c (pairs hsl g hg >>= k) Q) := by
  iintro ⟨HS, HP⟩ Hk
  rw [pairs_eq]
  simp only [bind_assoc]
  iapply (ld c bS (Rect.unit (s := S2x2x216x512) ![n % 2, g, 0, 0] S1x1x108x512.size (sLo_inb hsl hg)) (sAt (n % 2) hsl g hg).view.set (SR A n hn) (sub_s hsl hg rfl rfl)) $$ [HS]
  · iexact HS
  iintro HS
  iapply (ld c bS (Rect.unit (s := S2x2x216x512) ![n % 2, g, 108, 0] S1x1x108x512.size (sHi_inb hsl hg)) (sAt (n % 2) hsl g hg).view.set (SR A n hn) (sub_s hsl hg rfl rfl)) $$ [HS]
  · iexact HS
  iintro HS
  iapply (wp_pairStores c hg _ _) $$ [HP]
  · iexact HP
  iintro HP
  iapply Hk $$ HS HP
  ipureintro
  exact sp_step A hn hg f hf _ _ rfl rfl

end Cert.Kernel.Hand
end
-- ==== Proof.Bits.Epi.lean ====
/-
  A block's epilogue.
-/
module

public import proofs.«01_k».proof.Proof.Bits.Steps

@[expose] public section

set_option pp.maxSteps 40

noncomputable section

namespace Cert.Kernel.Hand

open Cert.Kernel Cert.Kernel.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F] (A : In F) (c : Dev nD)
local notation "𝕄" => MT nD τ sig Unit (Elt F) ℕ (UU nD τ) ℕ

theorem wp_epi {n : ℕ} (hn : n < 5) {sl : ℕ} (hsl : sl < 2) {mx : Mxu F} (hs : St A n hn 108 mx) {α : Type} {k : Mxu F → Pr F α} {Q : α → sProp 𝕄} :
    (iprop(∃ f, own c (oAt sl hsl) f) : sProp 𝕄)
      ⊢ iprop((∀ mx', own c (oAt sl hsl) (OB A n hn) -∗ ⌜mx'.Drained⌝ -∗ run c (k mx') Q) -∗ run c (epi hsl mx >>= k) Q) := by
  have hd := popAll_drained A hs
  have hr0 := hs.read A 0
  have hr1 := hs.read A 1
  obtain ⟨p1, p2, p3⟩ := read_pops mx
  have e0 : act (mx.read 0 0 fits_0_128) ((mx.pop 0 0 128 fits_0_128).read 1 0 fits_0_128) = outV A n hn 0 := by rw [p1, hr0.1, hr1.1]; rfl
  have e1 : act (((mx.pop 0 0 128 fits_0_128).pop 1 0 128 fits_0_128).read 0 32 fits_32_128) ((((mx.pop 0 0 128 fits_0_128).pop 1 0 128 fits_0_128).pop 0 32 128 fits_32_128).read 1 32 fits_32_128) = outV A n hn 1 := by
    rw [p2, p3, hr0.2, hr1.2]; rfl
  iintro ⟨%f, HO⟩ Hk
  unfold epi
  simp only [bind_assoc]
  rw [e0, e1]
  iapply (ld c bO (Rect.unit (s := S2x128x512) ![sl, 0, 256 * (0 : Fin 2).val] S1x128x256.size (oOff_inb hsl 0)) (oAt sl hsl).view.set f (sub_o hsl rfl)) $$ [HO]
  · iexact HO
  iintro HO
  iapply (st c bO (Rect.unit (s := S2x128x512) ![sl, 0, 256 * (0 : Fin 2).val] S1x128x256.size (oOff_inb hsl 0)) (w := outV A n hn 0) (oAt sl hsl).view.set f (sub_o hsl rfl)) $$ [HO]
  · iexact HO
  iintro HO
  iapply (ld c bO (Rect.unit (s := S2x128x512) ![sl, 0, 256 * (1 : Fin 2).val] S1x128x256.size (oOff_inb hsl 1)) (oAt sl hsl).view.set _ (sub_o hsl rfl)) $$ [HO]
  · iexact HO
  iintro HO
  iapply (st c bO (Rect.unit (s := S2x128x512) ![sl, 0, 256 * (1 : Fin 2).val] S1x128x256.size (oOff_inb hsl 1)) (w := outV A n hn 1) (oAt sl hsl).view.set _ (sub_o hsl rfl)) $$ [HO]
  · iexact HO
  iintro HO
  simp only [pure_bind]
  iapply Hk $$ [HO]
  · iapply (Entails.of_eq (pointsTo_congr (o_step A hn hsl f))) $$ HO
  ipureintro
  exact hd

end Cert.Kernel.Hand
end
-- ==== Proof.Bits.Ring.lean ====
/-
  What the kernel's transfers hold between its steps: the ring of weight chunks, the staged activations, the scales
  and the outputs, and the triples of starting and waiting for each.
-/
module

public import proofs.«01_k».proof.Proof.Bits.Seq
public import proofs.«01_k».proof.Proof.Bits.Pairs
public import proofs.«01_k».proof.Proof.Bits.Epi

@[expose] public section

set_option pp.maxSteps 40

noncomputable section

namespace Cert.Kernel.Hand

open Cert.Kernel Cert.Kernel.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F] (A : In F) (c : Dev nD)
local notation "𝕄" => MT nD τ sig Unit (Elt F) ℕ (UU nD τ) ℕ

/-- What the core owes: nothing. -/
def Ow : sProp 𝕄 := iprop(∃ W, owes (c : Thread nD τ) 0 W)

/-- A cell at zero. -/
abbrev zero (sm : DmaSem sig) : sProp 𝕄 := semVal ((c : Thread nD τ), SemLoc.dma sm) 0

theorem six (i : ℕ) : i % 6 < 6 := Nat.mod_lt _ (by decide)
theorem two (i : ℕ) : i % 2 < 2 := Nat.mod_lt _ (by decide)
theorem z2 : 0 < 2 := by decide
theorem o2 : 1 < 2 := by decide

/-! ## Weight chunks -/

/-- Ring slot `i % 6` idle; -/
def WIdleAt (sl : ℕ) (h : sl < 6) : sProp 𝕄 :=
  iprop(zero c (wSem sl h) ∗ shr c aWG (lq sl) A.wg ∗ shr c aWU (lq sl) A.wu
    ∗ (∃ f, own c (wAt sl h 0 z2) f) ∗ (∃ f, own c (wAt sl h 1 o2) f))
def WIdle (i : ℕ) : sProp 𝕄 := WIdleAt A c (i % 6) (six i)
/-- chunk `i` on its way into it, when there is one; -/
def WFl (i : ℕ) : sProp 𝕄 :=
  if h : i < 45 then flight2 c (wgAt i h) (wuAt i h) (wAt (i % 6) (six i) 0 z2) (wAt (i % 6) (six i) 1 o2) (wSem (i % 6) (six i)) (lq (i % 6)) (lq (i % 6)) A.wg A.wu (WT A i h) (WT A i h)
  else WIdle A c i
/-- chunk `i` in it. -/
def WGot (i : ℕ) (h : i < 45) : sProp 𝕄 :=
  iprop(zero c (wSem (i % 6) (six i)) ∗ shr c aWG (lq (i % 6)) A.wg ∗ shr c aWU (lq (i % 6)) A.wu
    ∗ own c (wAt (i % 6) (six i) 0 z2) (WT A i h) ∗ own c (wAt (i % 6) (six i) 1 o2) (WT A i h))

theorem WIdle_six (i : ℕ) : WIdle A c (i + 6) = WIdle A c i := by
  have key : ∀ (a b : ℕ) (ha : a < 6) (hb : b < 6), a = b → WIdleAt A c a ha = WIdleAt A c b hb := by
    intro a b ha hb e; subst e; rfl
  exact key _ _ _ _ (Nat.add_mod_right i 6)

theorem wp_startW {i : ℕ} (h : i < 45) {α : Type} {k : PUnit → Pr F α} {Q : α → sProp 𝕄} :
    WIdle A c i ⊢ iprop((WFl A c i -∗ run c (k ⟨⟩) Q) -∗ run c (startW i h >>= k) Q) := by
  unfold WIdle WIdleAt WFl startW
  rw [dif_pos h]
  iintro ⟨Hv, HA, HB, Hd, Hd'⟩ Hk
  iapply (wp_start2 c (sA := wgAt i h) (sB := wuAt i h) (q := lq (i % 6)) (q' := lq (i % 6)) (lands_wg A c i h (six i)) (lands_wu A c i h (six i)) rfl) $$ [Hv HA HB Hd Hd']
  · isplitl [Hv HA HB]
    · unfold rest2
      isplitl [Hv]; · iexact Hv
      isplitl [HA]; · iexact HA
      iexact HB
    isplitl [Hd] <;> iassumption
  iexact Hk

theorem wp_refill (i : ℕ) {α : Type} {k : PUnit → Pr F α} {Q : α → sProp 𝕄} :
    WIdle A c (i + 5) ⊢ iprop((WFl A c (i + 5) -∗ run c (k ⟨⟩) Q) -∗ run c (refill i >>= k) Q) := by
  unfold refill
  by_cases h : i + 5 < 45
  · rw [dif_pos h]; exact wp_startW A c h
  · rw [dif_neg h, pure_bind, WFl, dif_neg h]
    iintro H Hk
    iapply Hk; iexact H

theorem wp_waitW {i : ℕ} (h : i < 45) {α : Type} {k : PUnit → Pr F α} {Q : α → sProp 𝕄} :
    iprop(WFl A c i ∗ Ow c) ⊢ iprop((WGot A c i h -∗ Ow c -∗ run c (k ⟨⟩) Q) -∗ run c (waitW i h >>= k) Q) := by
  unfold WFl Ow waitW WGot
  rw [dif_pos h]
  iintro H Hk
  iapply (wp_wait2 c (sA := wgAt i h) (sB := wuAt i h) (dA := wAt (i % 6) (six i) 0 z2) (dB := wAt (i % 6) (six i) 1 o2) rfl (by decide)) $$ H
  unfold rest2
  iintro ⟨⟨⟨Hv, HA, HB⟩, Hd, Hd'⟩, HO⟩
  iapply Hk $$ [Hv HA HB Hd Hd'] HO
  isplitl [Hv]; · iexact Hv
  isplitl [HA]; · iexact HA
  isplitl [HB]; · iexact HB
  isplitl [Hd] <;> iassumption

/-- The ring before chunk `i` is waited for, and while it is in use. -/
def Ring (i : ℕ) : sProp 𝕄 :=
  iprop(WFl A c i ∗ WFl A c (i + 1) ∗ WFl A c (i + 2) ∗ WFl A c (i + 3) ∗ WFl A c (i + 4) ∗ WIdle A c (i + 5))
def RingIn (i : ℕ) : sProp 𝕄 :=
  iprop(WFl A c (i + 1) ∗ WFl A c (i + 2) ∗ WFl A c (i + 3) ∗ WFl A c (i + 4) ∗ WFl A c (i + 5))

theorem wp_turn {i : ℕ} (h : i < 45) {α : Type} {k : PUnit → Pr F α} {Q : α → sProp 𝕄} :
    iprop(Ring A c i ∗ Ow c) ⊢ iprop((WGot A c i h -∗ RingIn A c i -∗ Ow c -∗ run c (k ⟨⟩) Q) -∗ run c (waitW i h >>= fun _ => refill i >>= k) Q) := by
  unfold Ring RingIn
  iintro ⟨⟨H0, H1, H2, H3, H4, H5⟩, HO⟩ Hk
  iapply (wp_waitW A c h) $$ [H0 HO]
  · isplitl [H0] <;> iassumption
  iintro HG HO
  iapply (wp_refill A c i) $$ H5
  iintro H5
  iapply Hk $$ HG [H1 H2 H3 H4 H5] HO
  isplitl [H1]; · iexact H1
  isplitl [H2]; · iexact H2
  isplitl [H3]; · iexact H3
  isplitl [H4]; · iexact H4
  iexact H5

theorem ring_next {i : ℕ} (h : i < 45) : iprop(WGot A c i h ∗ RingIn A c i) ⊢ Ring A c (i + 1) := by
  unfold RingIn Ring
  rw [show i + 1 + 1 = i + 2 from rfl, show i + 1 + 2 = i + 3 from rfl, show i + 1 + 3 = i + 4 from rfl, show i + 1 + 4 = i + 5 from rfl, show i + 1 + 5 = i + 6 from rfl, WIdle_six]
  unfold WGot WIdle WIdleAt
  iintro ⟨⟨Hv, HA, HB, Hd, Hd'⟩, H1, H2, H3, H4, H5⟩
  isplitl [H1]; · iexact H1
  isplitl [H2]; · iexact H2
  isplitl [H3]; · iexact H3
  isplitl [H4]; · iexact H4
  isplitl [H5]; · iexact H5
  isplitl [Hv]; · iexact Hv
  isplitl [HA]; · iexact HA
  isplitl [HB]; · iexact HB
  isplitl [Hd]
  · iexists _; iexact Hd
  iexists _; iexact Hd'

/-! ## Activations -/

def XIdle (t : ℕ) : sProp 𝕄 :=
  if h : t < 9 then iprop(zero c (xSem t h) ∗ shr c aX (lq (2 * t)) A.x ∗ shr c aX (lq (2 * t + 1)) A.x
    ∗ (∃ f, own c (xrAt 0 z2 t h) f) ∗ (∃ f, own c (xrAt 1 o2 t h) f)) else iprop(emp)
def XFl (t : ℕ) : sProp 𝕄 :=
  if h : t < 9 then flight2 c (xAt 0 z2 t h) (xAt 1 o2 t h) (xrAt 0 z2 t h) (xrAt 1 o2 t h) (xSem t h) (lq (2 * t)) (lq (2 * t + 1)) A.x A.x (XR A) (XR A) else iprop(emp)

theorem wp_startX {t : ℕ} (h : t < 9) {α : Type} {k : PUnit → Pr F α} {Q : α → sProp 𝕄} :
    XIdle A c t ⊢ iprop((XFl A c t -∗ run c (k ⟨⟩) Q) -∗ run c (startX t h >>= k) Q) := by
  unfold XIdle XFl startX
  rw [dif_pos h, dif_pos h]
  iintro ⟨Hv, HA, HB, Hd, Hd'⟩ Hk
  iapply (wp_start2 c (sA := xAt 0 z2 t h) (sB := xAt 1 o2 t h) (q := lq (2 * t)) (q' := lq (2 * t + 1)) (lands_x0 A c t h) (lands_x1 A c t h) rfl) $$ [Hv HA HB Hd Hd']
  · isplitl [Hv HA HB]
    · unfold rest2
      isplitl [Hv]; · iexact Hv
      isplitl [HA]; · iexact HA
      iexact HB
    isplitl [Hd] <;> iassumption
  iexact Hk

/-- Trip `t`'s activations staged. -/
def XGot (t : ℕ) (h : t < 9) : sProp 𝕄 :=
  iprop((zero c (xSem t h) ∗ shr c aX (lq (2 * t)) A.x ∗ shr c aX (lq (2 * t + 1)) A.x) ∗ Xs A c t h)

theorem wp_waitX {t : ℕ} (h : t < 9) {α : Type} {k : PUnit → Pr F α} {Q : α → sProp 𝕄} :
    iprop(XFl A c t ∗ Ow c) ⊢ iprop((XGot A c t h -∗ Ow c -∗ run c (k ⟨⟩) Q) -∗ run c (waitX t h >>= k) Q) := by
  unfold XFl Ow waitX XGot Xs
  rw [dif_pos h]
  iintro H Hk
  iapply (wp_wait2 c (sA := xAt 0 z2 t h) (sB := xAt 1 o2 t h) (dA := xrAt 0 z2 t h) (dB := xrAt 1 o2 t h) rfl (by decide)) $$ H
  unfold rest2
  iintro ⟨⟨⟨Hv, HA, HB⟩, Hd, Hd'⟩, HO⟩
  iapply Hk $$ [Hv HA HB Hd Hd'] HO
  isplitl [Hv HA HB]
  · isplitl [Hv]; · iexact Hv
    isplitl [HA]; · iexact HA
    iexact HB
  isplitl [Hd] <;> iassumption

theorem xgot_idle {t : ℕ} (h : t < 9) : XGot A c t h ⊢ XIdle A c t := by
  unfold XGot XIdle Xs
  rw [dif_pos h]
  iintro ⟨⟨Hv, HA, HB⟩, Hd, Hd'⟩
  isplitl [Hv]; · iexact Hv
  isplitl [HA]; · iexact HA
  isplitl [HB]; · iexact HB
  isplitl [Hd]
  · iexists _; iexact Hd
  iexists _; iexact Hd'

/-! ## Scales -/

def SIdleAt (sl : ℕ) (h : sl < 2) : sProp 𝕄 :=
  iprop(zero c (sSem sl h) ∗ shr c aSG (lq sl) A.sg ∗ shr c aSU (lq sl) A.su
    ∗ (∃ f, own c (sAt sl h 0 z2) f) ∗ (∃ f, own c (sAt sl h 1 o2) f))
def SIdle (n : ℕ) : sProp 𝕄 := SIdleAt A c (n % 2) (two n)
def SFl (n : ℕ) : sProp 𝕄 :=
  if h : n < 5 then flight2 c (sgAt n h) (suAt n h) (sAt (n % 2) (two n) 0 z2) (sAt (n % 2) (two n) 1 o2) (sSem (n % 2) (two n)) (lq (n % 2)) (lq (n % 2)) A.sg A.su (SR A n h) (SR A n h)
  else SIdle A c n
def SGot (n : ℕ) (h : n < 5) : sProp 𝕄 :=
  iprop(zero c (sSem (n % 2) (two n)) ∗ shr c aSG (lq (n % 2)) A.sg ∗ shr c aSU (lq (n % 2)) A.su
    ∗ own c (sAt (n % 2) (two n) 0 z2) (SR A n h) ∗ own c (sAt (n % 2) (two n) 1 o2) (SR A n h))

theorem SIdle_two (n : ℕ) : SIdle A c (n + 2) = SIdle A c n := by
  have key : ∀ (a b : ℕ) (ha : a < 2) (hb : b < 2), a = b → SIdleAt A c a ha = SIdleAt A c b hb := by
    intro a b ha hb e; subst e; rfl
  exact key _ _ _ _ (Nat.add_mod_right n 2)

theorem wp_startS {n : ℕ} (h : n < 5) {α : Type} {k : PUnit → Pr F α} {Q : α → sProp 𝕄} :
    SIdle A c n ⊢ iprop((SFl A c n -∗ run c (k ⟨⟩) Q) -∗ run c (startS n h >>= k) Q) := by
  unfold SIdle SIdleAt SFl startS
  rw [dif_pos h]
  iintro ⟨Hv, HA, HB, Hd, Hd'⟩ Hk
  iapply (wp_start2 c (sA := sgAt n h) (sB := suAt n h) (q := lq (n % 2)) (q' := lq (n % 2)) (lands_sg A c n h (two n)) (lands_su A c n h (two n)) rfl) $$ [Hv HA HB Hd Hd']
  · isplitl [Hv HA HB]
    · unfold rest2
      isplitl [Hv]; · iexact Hv
      isplitl [HA]; · iexact HA
      iexact HB
    isplitl [Hd] <;> iassumption
  iexact Hk

theorem wp_nextS (n : ℕ) {α : Type} {k : PUnit → Pr F α} {Q : α → sProp 𝕄} :
    SIdle A c (n + 1) ⊢ iprop((SFl A c (n + 1) -∗ run c (k ⟨⟩) Q) -∗ run c (nextS n >>= k) Q) := by
  unfold nextS
  by_cases h : n + 1 < 5
  · rw [dif_pos h]; exact wp_startS A c h
  · rw [dif_neg h, pure_bind, SFl, dif_neg h]
    iintro H Hk
    iapply Hk; iexact H

theorem wp_waitS {n : ℕ} (h : n < 5) {α : Type} {k : PUnit → Pr F α} {Q : α → sProp 𝕄} :
    iprop(SFl A c n ∗ Ow c) ⊢ iprop((SGot A c n h -∗ Ow c -∗ run c (k ⟨⟩) Q) -∗ run c (waitS n h >>= k) Q) := by
  unfold SFl Ow waitS SGot
  rw [dif_pos h]
  iintro H Hk
  iapply (wp_wait2 c (sA := sgAt n h) (sB := suAt n h) (dA := sAt (n % 2) (two n) 0 z2) (dB := sAt (n % 2) (two n) 1 o2) rfl (by decide)) $$ H
  unfold rest2
  iintro ⟨⟨⟨Hv, HA, HB⟩, Hd, Hd'⟩, HO⟩
  iapply Hk $$ [Hv HA HB Hd Hd'] HO
  isplitl [Hv]; · iexact Hv
  isplitl [HA]; · iexact HA
  isplitl [HB]; · iexact HB
  isplitl [Hd] <;> iassumption

theorem sgot_idle {n : ℕ} (h : n < 5) : SGot A c n h ⊢ SIdle A c (n + 2) := by
  rw [SIdle_two]
  unfold SGot SIdle SIdleAt
  iintro ⟨Hv, HA, HB, Hd, Hd'⟩
  isplitl [Hv]; · iexact Hv
  isplitl [HA]; · iexact HA
  isplitl [HB]; · iexact HB
  isplitl [Hd]
  · iexists _; iexact Hd
  iexists _; iexact Hd'

/-- Both matrices' pairings. -/
theorem wp_pairsAll {n : ℕ} (hn : n < 5) {α : Type} {k : PUnit → Pr F α} {Q : α → sProp 𝕄} :
    iprop(SGot A c n hn ∗ (∃ f, whole c bP f))
      ⊢ iprop((SGot A c n hn -∗ whole c bP (SP A n hn) -∗ run c (k ⟨⟩) Q) -∗ run c (pairs (two n) 0 z2 >>= fun _ => pairs (two n) 1 o2 >>= k) Q) := by
  unfold SGot
  iintro ⟨⟨Hv, HA, HB, Hd, Hd'⟩, ⟨%f, HP⟩⟩ Hk
  iapply (wp_pairs A c hn (two n) z2 (f := f) (fun j hj => absurd hj (Nat.not_lt_zero _))) $$ [Hd HP]
  · isplitl [Hd] <;> iassumption
  iintro %f1 Hd HP %h1
  iapply (wp_pairs A c hn (two n) o2 (f := f1) h1) $$ [Hd' HP]
  · isplitl [Hd'] <;> iassumption
  iintro %f2 Hd' HP %h2
  obtain rfl : f2 = SP A n hn := funext fun j => h2 j (j 0).isLt
  iapply Hk $$ [Hv HA HB Hd Hd'] HP
  isplitl [Hv]; · iexact Hv
  isplitl [HA]; · iexact HA
  isplitl [HB]; · iexact HB
  isplitl [Hd] <;> iassumption

/-! ## Outputs -/

def OIdleAt (sl : ℕ) (h : sl < 2) : sProp 𝕄 := iprop(zero c (oSem sl h) ∗ (∃ f, own c (oAt sl h) f))
def OIdle (n : ℕ) : sProp 𝕄 := OIdleAt c (n % 2) (two n)
def OFl (n : ℕ) : sProp 𝕄 :=
  if h : n < 5 then flight1 c (oAt (n % 2) (two n)) (outAt n h) (oSem (n % 2) (two n)) (OB A n h) (OT A) else iprop(emp)
/-- Output buffer `n % 2` before block `n`. -/
def OSt : ℕ → sProp 𝕄
  | 0 => OIdle c 0
  | 1 => OIdle c 1
  | n + 2 => OFl A c n
/-- Column block `n` of the result, unwritten and written. -/
def Fresh (n : ℕ) : sProp 𝕄 := if h : n < 5 then iprop(∃ f, own (F := F) c (outAt n h) f) else iprop(emp)
def Done (n : ℕ) : sProp 𝕄 := if h : n < 5 then own c (outAt n h) (OT A) else iprop(emp)

theorem OIdle_two (n : ℕ) : (OIdle (F := F) c (n + 2) : sProp 𝕄) = OIdle c n := by
  have key : ∀ (a b : ℕ) (ha : a < 2) (hb : b < 2), a = b → OIdleAt (F := F) c a ha = OIdleAt c b hb := by
    intro a b ha hb e; subst e; rfl
  exact key _ _ _ _ (Nat.add_mod_right n 2)

theorem wp_waitO {n : ℕ} (h : n < 5) {α : Type} {k : PUnit → Pr F α} {Q : α → sProp 𝕄} :
    iprop(OFl A c n ∗ Ow c) ⊢ iprop((OIdle c n -∗ Done A c n -∗ Ow c -∗ run c (k ⟨⟩) Q) -∗ run c (waitO n h >>= k) Q) := by
  unfold OFl Ow waitO OIdle OIdleAt Done
  rw [dif_pos h, dif_pos h]
  iintro H Hk
  iapply (wp_wait1 c (sA := oAt (n % 2) (two n)) (by decide)) $$ H
  iintro ⟨⟨Hv, Hs, Hd⟩, HO⟩
  iapply Hk $$ [Hv Hs] Hd HO
  isplitl [Hv]; · iexact Hv
  iexists _; iexact Hs

theorem wp_prevO {n : ℕ} (h : n < 5) {α : Type} {k : PUnit → Pr F α} {Q : α → sProp 𝕄} :
    iprop(OSt A c n ∗ Seq (Done A c) (n - 2) 0 ∗ Ow c) ⊢ iprop((OIdle c n -∗ Seq (Done A c) (n - 1) 0 -∗ Ow c -∗ run c (k ⟨⟩) Q) -∗ run c (prevO n h >>= k) Q) := by
  match n, h with
  | 0, h =>
    unfold prevO OSt
    rw [dif_neg (by omega), pure_bind]
    iintro ⟨H, HS, HO⟩ Hk
    iapply Hk $$ H HS HO
  | 1, h =>
    unfold prevO OSt
    rw [dif_neg (by omega), pure_bind]
    iintro ⟨H, HS, HO⟩ Hk
    iapply Hk $$ H HS HO
  | n + 2, h =>
    unfold prevO OSt
    rw [OIdle_two, dif_pos (show 2 ≤ n + 2 by omega)]
    simp only [Nat.add_sub_cancel]
    iintro ⟨H, HS, HO⟩ Hk
    iapply (wp_waitO A c (n := n) (Nat.lt_of_succ_lt (Nat.lt_of_succ_lt h))) $$ [H HO]
    · isplitl [H]; · iexact H
      iexact HO
    iintro HI HD HO
    iapply Hk $$ HI [HS HD] HO
    iapply (Seq.snoc n 0)
    isplitl [HS]; · iexact HS
    rw [Nat.zero_add]
    iexact HD

theorem wp_startO {n : ℕ} (h : n < 5) {α : Type} {k : PUnit → Pr F α} {Q : α → sProp 𝕄} :
    iprop(zero c (oSem (n % 2) (two n)) ∗ own c (oAt (n % 2) (two n)) (OB A n h) ∗ Fresh (F := F) c n) ⊢ iprop((OFl A c n -∗ run c (k ⟨⟩) Q) -∗ run c (startO n h >>= k) Q) := by
  unfold OFl startO Fresh
  rw [dif_pos h, dif_pos h]
  exact wp_start1 c (sA := oAt (n % 2) (two n)) (lands_o A c n h (two n))

end Cert.Kernel.Hand
end
-- ==== Proof.Bits.Whole.lean ====
/-
  The kernel's loops and the kernel.
-/
module

public import proofs.«01_k».proof.Proof.Bits.Ring

@[expose] public section

set_option pp.maxSteps 40

noncomputable section

namespace Cert.Kernel.Hand

open Cert.Kernel Cert.Kernel.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F] (A : In F) (c : Dev nD)
local notation "𝕄" => MT nD τ sig Unit (Elt F) ℕ (UU nD τ) ℕ

theorem fin {α : Type} (a : α) {Q : α → sProp 𝕄} : Q a ⊢ run c (pure a) Q := by
  show Q a ⊢ wp frame (wpE (defs₀ (F := F)) 𝒱₀ (c : Thread nD τ) none) Set.univ (Prog.ret a) Q
  rw [wp_ret]
  iintro H
  imodintro
  iexact H

theorem tail_eq {α : Type} (p : Pr F α) : p = (p >>= pure) := (bind_pure p).symm

theorem Seq.shift {P : ℕ → sProp 𝕄} {N b : ℕ} (h : b < N) : Seq P (N - b) b ⊢ iprop(P b ∗ Seq P (N - (b + 1)) (b + 1)) := by
  rw [show N - b = (N - (b + 1)) + 1 by omega]
  exact .rfl

/-! ## Trips -/

/-- The passes of a trip, from its weight chunk in the ring. -/
theorem wp_tripPasses {n : ℕ} (hn : n < 5) {b : ℕ} (hb : b < 9) (hi : 9 * n + b < 45) (hrow : ∀ r : Fin 6, 6 * b + r.val < 54)
    {f : S9x128x3072.Idx → Elt F .bf16} (hf : ∀ j : S9x128x3072.Idx, (j 0).val = b → f j = XP A j) {mx : Mxu F} (hs : St A n hn (12 * b) mx)
    {α : Type} {k : Mxu F → Pr F α} {Q : α → sProp 𝕄} :
    iprop(WGot A c (9 * n + b) hi ∗ whole c bP (SP A n hn) ∗ whole c bXP f)
      ⊢ iprop((∀ mx', WGot A c (9 * n + b) hi -∗ whole c bP (SP A n hn) -∗ whole c bXP f -∗ ⌜St A n hn (12 * (b + 1)) mx'⌝ -∗ run c (k mx') Q)
        -∗ run c (passes (six (9 * n + b)) hb (fun r => 6 * b + r.val) hrow 12 0 rfl mx >>= k) Q) := by
  unfold WGot
  iintro ⟨⟨Hv, HA, HB, Hd, Hd'⟩, HP, HX⟩ Hk
  iapply (wp_passes A c hn hb hi (six (9 * n + b)) hrow hf 12 0 rfl mx hs) $$ [Hd Hd' HP HX]
  · unfold Ops
    isplitl [Hd]; · iexact Hd
    isplitl [Hd']; · iexact Hd'
    isplitl [HP]; · iexact HP
    iexact HX
  iintro %mx' H %hs'
  unfold Ops
  icases H with ⟨Hd, Hd', HP, HX⟩
  iapply Hk $$ [Hv HA HB Hd Hd'] HP HX
  · isplitl [Hv]; · iexact Hv
    isplitl [HA]; · iexact HA
    isplitl [HB]; · iexact HB
    isplitl [Hd] <;> iassumption
  ipureintro
  exact hs'

/-- Before trip `b` of block `n`. -/
def TInv (n : ℕ) (hn : n < 5) (b : ℕ) (mx : Mxu F) : sProp 𝕄 :=
  iprop(Ring A c (9 * n + b) ∗ whole c bP (SP A n hn) ∗ whole c bXP (XP A) ∗ Ow c ∗ ⌜St A n hn (12 * b) mx⌝)

theorem body3_triple (n : ℕ) (hn : n < 5) (b : ℕ) (hb : b < 9) (mx : Mxu F) :
    TInv A c n hn b mx ⊢ run c (body3 n hn b hb mx) (TInv A c n hn (b + 1)) := by
  unfold TInv
  unfold body3
  rw [tail_eq (passes _ _ _ _ _ _ _ _)]
  iintro ⟨HR, HP, HX, HO, %hs⟩
  have hi : 9 * n + b < 45 := by omega
  iapply (wp_turn A c hi) $$ [HR HO]
  · isplitl [HR] <;> iassumption
  iintro HG HR HO
  iapply (wp_tripPasses A c hn hb hi _ (fun j _ => rfl) hs) $$ [HG HP HX]
  · isplitl [HG]; · iexact HG
    isplitl [HP]; · iexact HP
    iexact HX
  iintro %mx' HG HP HX %hs'
  iapply (fin c)
  isplitl [HG HR]
  · iapply (ring_next A c hi)
    isplitl [HG] <;> iassumption
  isplitl [HP]; · iexact HP
  isplitl [HX]; · iexact HX
  isplitl [HO]; · iexact HO
  ipureintro; exact hs'

theorem wp_trips {n : ℕ} (hn : n < 5) (mx : Mxu F) {α : Type} {k : Mxu F → Pr F α} {Q : α → sProp 𝕄} :
    TInv A c n hn 0 mx ⊢ iprop((∀ mx', TInv A c n hn 9 mx' -∗ run c (k mx') Q) -∗ run c (trips n hn mx >>= k) Q) := by
  have h := Scf.wp_for_bind frame (wpE (defs₀ (F := F)) 𝒱₀ (c : Thread nD τ) none) Set.univ k0_t3_loop.lb k0_t3_loop.ub k0_t3_loop.st k0_t3_ok mx
    (fun k mx => body3 n hn k.val (Nat.lt_of_lt_of_eq k.isLt trips3) mx) (fun b mx => TInv A c n hn b mx)
    (fun k mx => body3_triple A c n hn k.val _ mx) (kk := k) (Q := Q)
  have e : ∀ acc, TInv A c n hn (Scf.trips k0_t3_loop.lb k0_t3_loop.ub k0_t3_loop.st) acc ⊢ TInv A c n hn 9 acc := fun acc => by
    rw [show Scf.trips k0_t3_loop.lb k0_t3_loop.ub k0_t3_loop.st = 9 from trips3]
  iintro H Hk
  iapply h $$ H
  iintro %acc H
  iapply Hk
  iapply (e acc)
  iexact H

/-- Before trip `b` of the first block. -/
def T1Inv (b : ℕ) (mx : Mxu F) : sProp 𝕄 :=
  iprop(Ring A c (9 * 0 + b) ∗ whole c bP (SP A 0 (by decide)) ∗ (∃ f : S9x128x3072.Idx → Elt F .bf16, whole c bXP f ∗ ⌜Mixed A b 0 f⌝)
    ∗ Seq (XFl A c) (9 - b) b ∗ Seq (XIdle A c) b 0 ∗ Ow c ∗ ⌜St A 0 (by decide) (12 * b) mx⌝)

theorem trip1_eq (b : ℕ) (hb : b < 9) (mx : Mxu F) : ∀ (i : ℕ) (_ : i = b) (hi : i < 45),
    body1 b hb mx = (do
      waitW i hi
      refill i
      waitX b hb
      inters hb 12 0 rfl
      passes (six i) hb (fun r => 6 * b + r.val) (fun r => by omega) 12 0 rfl mx >>= pure) := by
  rintro _ rfl hi
  simp only [bind_pure]
  rfl

theorem Mixed.row {b : ℕ} {f : S9x128x3072.Idx → Elt F .bf16} (h : Mixed A b 12 f) : ∀ j : S9x128x3072.Idx, (j 0).val = b → f j = XP A j :=
  fun j e => h j (.inr ⟨e, (j 2).isLt⟩)
theorem Mixed.next {b : ℕ} {f : S9x128x3072.Idx → Elt F .bf16} (h : Mixed A b 12 f) : Mixed A (b + 1) 0 f := by
  intro j e
  rcases e with e | ⟨_, e⟩
  · rcases Nat.lt_succ_iff_lt_or_eq.mp e with e | e
    · exact h j (.inl e)
    · exact h j (.inr ⟨e, (j 2).isLt⟩)
  · exact absurd e (Nat.not_lt_zero _)
theorem Mixed.all {f : S9x128x3072.Idx → Elt F .bf16} (h : Mixed A 9 0 f) : f = XP A := funext fun j => h j (.inl (j 0).isLt)

theorem body1_triple (b : ℕ) (hb : b < 9) (mx : Mxu F) : T1Inv A c b mx ⊢ run c (body1 b hb mx) (T1Inv A c (b + 1)) := by
  have hi : 9 * 0 + b < 45 := by omega
  rw [trip1_eq b hb mx (9 * 0 + b) (by omega) hi]
  unfold T1Inv
  iintro ⟨HR, HP, ⟨%f, HX, %hf⟩, HF, HI, HO, %hs⟩
  iapply (wp_turn A c hi) $$ [HR HO]
  · isplitl [HR] <;> iassumption
  iintro HG HR HO
  ihave HF' := (Seq.shift hb) $$ HF
  icases HF' with ⟨HF0, HF⟩
  iapply (wp_waitX A c hb) $$ [HF0 HO]
  · isplitl [HF0] <;> iassumption
  unfold XGot
  iintro ⟨HX0, HXs⟩ HO
  iapply (wp_inters A c hb 12 0 rfl f hf) $$ [HXs HX]
  · isplitl [HXs] <;> iassumption
  iintro %f' HXs HX %hf'
  iapply (wp_tripPasses A c (n := 0) (Nat.le_of_ble_eq_true rfl) hb hi _ (hf'.row A) hs) $$ [HG HP HX]
  · isplitl [HG]; · iexact HG
    isplitl [HP]; · iexact HP
    iexact HX
  iintro %mx' HG HP HX %hs'
  iapply (fin c)
  isplitl [HG HR]
  · iapply (ring_next A c hi)
    isplitl [HG] <;> iassumption
  isplitl [HP]; · iexact HP
  isplitl [HX]
  · iexists f'
    isplitl [HX]; · iexact HX
    ipureintro; exact hf'.next A
  isplitl [HF]; · iexact HF
  isplitl [HI HX0 HXs]
  · iapply (Seq.snoc b 0)
    isplitl [HI]; · iexact HI
    rw [Nat.zero_add]
    iapply (xgot_idle A c hb)
    unfold XGot
    isplitl [HX0] <;> iassumption
  isplitl [HO]; · iexact HO
  ipureintro; exact hs'

theorem wp_trips1 (mx : Mxu F) {α : Type} {k : Mxu F → Pr F α} {Q : α → sProp 𝕄} :
    T1Inv A c 0 mx ⊢ iprop((∀ mx', T1Inv A c 9 mx' -∗ run c (k mx') Q)
      -∗ run c (Scf.Loop.for k0_t1_loop k0_t1_ok mx (fun k mx => body1 k.val (Nat.lt_of_lt_of_eq k.isLt trips1) mx) >>= k) Q) := by
  have h := Scf.wp_for_bind frame (wpE (defs₀ (F := F)) 𝒱₀ (c : Thread nD τ) none) Set.univ k0_t1_loop.lb k0_t1_loop.ub k0_t1_loop.st k0_t1_ok mx
    (fun k mx => body1 k.val (Nat.lt_of_lt_of_eq k.isLt trips1) mx) (fun b mx => T1Inv A c b mx)
    (fun k mx => body1_triple A c k.val _ mx) (kk := k) (Q := Q)
  have e : ∀ acc, T1Inv A c (Scf.trips k0_t1_loop.lb k0_t1_loop.ub k0_t1_loop.st) acc ⊢ T1Inv A c 9 acc := fun acc => by
    rw [show Scf.trips k0_t1_loop.lb k0_t1_loop.ub k0_t1_loop.st = 9 from trips1]
  iintro H Hk
  iapply h $$ H
  iintro %acc H
  iapply Hk
  iapply (e acc)
  iexact H

/-! ## Blocks -/

/-- Before block `n`, from the second on. -/
def BInv (n : ℕ) (mx : Mxu F) : sProp 𝕄 :=
  iprop(Ring A c (9 * n) ∗ SFl A c n ∗ SIdle A c (n + 1) ∗ OSt A c n ∗ OSt A c (n + 1) ∗ Seq (Fresh (F := F) c) (5 - n) n ∗ Seq (Done A c) (n - 2) 0
    ∗ (∃ f, whole (F := F) c bP f) ∗ whole c bXP (XP A) ∗ Ow c ∗ ⌜mx.Drained⌝)

theorem body2_triple (n : ℕ) (hn : n < 5) (mx : Mxu F) : BInv A c n mx ⊢ run c (body2 n hn mx) (BInv A c (n + 1)) := by
  unfold BInv body2
  iintro ⟨HR, HS, HS', HT, HT', HF, HD, HP, HX, HO, %hd⟩
  iapply (wp_waitS A c hn) $$ [HS HO]
  · isplitl [HS] <;> iassumption
  iintro HS HO
  iapply (wp_pairsAll A c hn) $$ [HS HP]
  · isplitl [HS] <;> iassumption
  iintro HS HP
  iapply (wp_nextS A c n) $$ HS'
  iintro HS'
  iapply (wp_trips A c hn mx) $$ [HR HP HX HO]
  · unfold TInv
    isplitl [HR]; · iexact HR
    isplitl [HP]; · iexact HP
    isplitl [HX]; · iexact HX
    isplitl [HO]; · iexact HO
    ipureintro; exact St.init A n hn hd
  unfold TInv
  iintro %mx1 ⟨HR, HP, HX, HO, %hs⟩
  iapply (wp_prevO A c hn) $$ [HT HD HO]
  · isplitl [HT]; · iexact HT
    isplitl [HD] <;> iassumption
  unfold OIdle OIdleAt
  iintro ⟨HZ, HT⟩ HD HO
  iapply (wp_epi A c hn (two n) hs) $$ HT
  iintro %mx2 HT %hd2
  ihave HF' := (Seq.shift hn) $$ HF
  icases HF' with ⟨HF0, HF⟩
  iapply (wp_startO A c hn) $$ [HZ HT HF0]
  · isplitl [HZ]; · iexact HZ
    isplitl [HT] <;> iassumption
  iintro HT
  iapply (fin c)
  isplitl [HR]; · iexact HR
  isplitl [HS']; · iexact HS'
  isplitl [HS]
  · iapply (sgot_idle A c hn); iexact HS
  isplitl [HT']; · iexact HT'
  rw [show OSt A c (n + 1 + 1) = OFl A c n from rfl]
  isplitl [HT]; · iexact HT
  isplitl [HF]; · iexact HF
  isplitl [HD]; · iexact HD
  isplitl [HP]
  · iexists _; iexact HP
  isplitl [HX]; · iexact HX
  isplitl [HO]; · iexact HO
  ipureintro; exact hd2

theorem wp_blocks (mx : Mxu F) {α : Type} {k : Mxu F → Pr F α} {Q : α → sProp 𝕄} :
    BInv A c 1 mx ⊢ iprop((∀ mx', BInv A c 5 mx' -∗ run c (k mx') Q)
      -∗ run c (Scf.Loop.for k0_t2_loop k0_t2_ok mx (fun k mx => body2 (k.val + 1) (by have := Nat.lt_of_lt_of_eq k.isLt trips2; omega) mx) >>= k) Q) := by
  have h := Scf.wp_for_bind frame (wpE (defs₀ (F := F)) 𝒱₀ (c : Thread nD τ) none) Set.univ k0_t2_loop.lb k0_t2_loop.ub k0_t2_loop.st k0_t2_ok mx
    (fun k mx => body2 (k.val + 1) (by have := Nat.lt_of_lt_of_eq k.isLt trips2; omega) mx) (fun n mx => BInv A c (n + 1) mx)
    (fun k mx => body2_triple A c (k.val + 1) _ mx) (kk := k) (Q := Q)
  have e : ∀ acc, BInv A c ((Scf.trips k0_t2_loop.lb k0_t2_loop.ub k0_t2_loop.st) + 1) acc ⊢ BInv A c 5 acc := fun acc => by
    rw [show Scf.trips k0_t2_loop.lb k0_t2_loop.ub k0_t2_loop.st = 4 from trips2]
  iintro H Hk
  iapply h $$ H
  iintro %acc H
  iapply Hk
  iapply (e acc)
  iexact H

/-! ## The kernel -/

theorem seq9 (P : ℕ → sProp 𝕄) : Seq P 9 0 = iprop(P 0 ∗ P 1 ∗ P 2 ∗ P 3 ∗ P 4 ∗ P 5 ∗ P 6 ∗ P 7 ∗ P 8 ∗ emp) := rfl
theorem seq6 (P : ℕ → sProp 𝕄) : Seq P 6 0 = iprop(P 0 ∗ P 1 ∗ P 2 ∗ P 3 ∗ P 4 ∗ P 5 ∗ emp) := rfl
theorem seq2 (P : ℕ → sProp 𝕄) : Seq P 2 0 = iprop(P 0 ∗ P 1 ∗ emp) := rfl

/-- Everything the kernel holds at rest, apart from the result. -/
def Rest : sProp 𝕄 :=
  iprop(Seq (XIdle A c) 9 0 ∗ Seq (WIdle A c) 6 0 ∗ Seq (SIdle A c) 2 0 ∗ Seq (OIdle (F := F) c) 2 0
    ∗ (∃ f, whole (F := F) c bP f) ∗ (∃ f, whole (F := F) c bXP f) ∗ Ow c)

theorem wp_prologue {α : Type} {k : PUnit → Pr F α} {Q : α → sProp 𝕄} :
    iprop(Seq (XIdle A c) 9 0 ∗ Seq (WIdle A c) 6 0 ∗ SIdle A c 0)
      ⊢ iprop((Seq (XFl A c) 9 0 -∗ Ring A c 0 -∗ SFl A c 0 -∗ run c (k ⟨⟩) Q) -∗ run c (prologue >>= k) Q) := by
  rw [seq9, seq9, seq6]
  unfold prologue Ring
  simp only [bind_assoc]
  iintro ⟨⟨X0, X1, X2, X3, X4, X5, X6, X7, X8, HE⟩, ⟨W0, W1, W2, W3, W4, W5, -⟩, HS⟩ Hk
  iapply (wp_startS A c (n := 0) (Nat.le_of_ble_eq_true rfl)) $$ HS
  iintro HS
  iapply (wp_startX A c (t := 0) (Nat.le_of_ble_eq_true rfl)) $$ X0
  iintro X0
  iapply (wp_startW A c (i := 0) (Nat.le_of_ble_eq_true rfl)) $$ W0
  iintro W0
  iapply (wp_startX A c (t := 1) (Nat.le_of_ble_eq_true rfl)) $$ X1
  iintro X1
  iapply (wp_startW A c (i := 1) (Nat.le_of_ble_eq_true rfl)) $$ W1
  iintro W1
  iapply (wp_startX A c (t := 2) (Nat.le_of_ble_eq_true rfl)) $$ X2
  iintro X2
  iapply (wp_startW A c (i := 2) (Nat.le_of_ble_eq_true rfl)) $$ W2
  iintro W2
  iapply (wp_startX A c (t := 3) (Nat.le_of_ble_eq_true rfl)) $$ X3
  iintro X3
  iapply (wp_startW A c (i := 3) (Nat.le_of_ble_eq_true rfl)) $$ W3
  iintro W3
  iapply (wp_startX A c (t := 4) (Nat.le_of_ble_eq_true rfl)) $$ X4
  iintro X4
  iapply (wp_startW A c (i := 4) (Nat.le_of_ble_eq_true rfl)) $$ W4
  iintro W4
  iapply (wp_startX A c (t := 5) (Nat.le_of_ble_eq_true rfl)) $$ X5
  iintro X5
  iapply (wp_startX A c (t := 6) (Nat.le_of_ble_eq_true rfl)) $$ X6
  iintro X6
  iapply (wp_startX A c (t := 7) (Nat.le_of_ble_eq_true rfl)) $$ X7
  iintro X7
  iapply (wp_startX A c (t := 8) (Nat.le_of_ble_eq_true rfl)) $$ X8
  iintro X8
  iapply Hk $$ [X0 X1 X2 X3 X4 X5 X6 X7 X8 HE] [W0 W1 W2 W3 W4 W5] HS
  · isplitl [X0]; · iexact X0
    isplitl [X1]; · iexact X1
    isplitl [X2]; · iexact X2
    isplitl [X3]; · iexact X3
    isplitl [X4]; · iexact X4
    isplitl [X5]; · iexact X5
    isplitl [X6]; · iexact X6
    isplitl [X7]; · iexact X7
    isplitl [X8]; · iexact X8
    iexact HE
  · isplitl [W0]; · iexact W0
    isplitl [W1]; · iexact W1
    isplitl [W2]; · iexact W2
    isplitl [W3]; · iexact W3
    isplitl [W4]; · iexact W4
    iexact W5

theorem ring_end : Ring A c (9 * 5) ⊢ Seq (WIdle A c) 6 0 := by
  rw [seq6]
  unfold Ring WFl
  rw [dif_neg (by decide), dif_neg (by decide), dif_neg (by decide), dif_neg (by decide), dif_neg (by decide)]
  iintro ⟨W3, W4, W5, W0, W1, W2⟩
  isplitl [W0]; · iexact W0
  isplitl [W1]; · iexact W1
  isplitl [W2]; · iexact W2
  isplitl [W3]; · iexact W3
  isplitl [W4]; · iexact W4
  isplitl [W5]; · iexact W5
  iempintro

theorem sfl5 : SFl A c 5 ⊢ SIdle A c 1 := by
  unfold SFl
  rw [dif_neg (by decide)]
  exact .rfl
theorem sidle6 : SIdle A c (5 + 1) ⊢ SIdle A c 0 := .rfl
theorem wp_kernelP {Q : PUnit → sProp 𝕄} :
    iprop(Rest A c ∗ Seq (Fresh (F := F) c) 5 0)
      ⊢ iprop((Rest A c -∗ Seq (Done A c) 5 0 -∗ Q ⟨⟩) -∗ run c kernelP Q) := by
  unfold Rest kernelP
  rw [seq2, seq2]
  iintro ⟨⟨HX, HW, ⟨S0, S1, -⟩, ⟨O0, O1, -⟩, HP, ⟨%f, HXP⟩, HO⟩, HF⟩ Hk
  iapply (wp_prologue A c) $$ [HX HW S0]
  · isplitl [HX]; · iexact HX
    isplitl [HW] <;> iassumption
  iintro HX HR S0
  iapply (wp_waitS A c (n := 0) (Nat.le_of_ble_eq_true rfl)) $$ [S0 HO]
  · isplitl [S0] <;> iassumption
  iintro S0 HO
  iapply (wp_pairsAll A c (n := 0) (Nat.le_of_ble_eq_true rfl)) $$ [S0 HP]
  · isplitl [S0] <;> iassumption
  iintro S0 HP
  iapply (wp_startS A c (n := 1) (Nat.le_of_ble_eq_true rfl)) $$ S1
  iintro S1
  iapply (wp_trips1 A c Mxu.init) $$ [HR HP HXP HX HO]
  · unfold T1Inv
    isplitl [HR]; · iexact HR
    isplitl [HP]; · iexact HP
    isplitl [HXP]
    · iexists f
      isplitl [HXP]; · iexact HXP
      ipureintro; intro j e; rcases e with e | ⟨_, e⟩ <;> exact absurd e (Nat.not_lt_zero _)
    isplitl [HX]; · iexact HX
    isplitr; · simp only [Seq]; iempintro
    isplitl [HO]; · iexact HO
    ipureintro; exact St.init A 0 _ Mxu.init_drained
  unfold T1Inv
  iintro %mx1 ⟨HR, HP, ⟨%f', HXP, %hf⟩, -, HX, HO, %hs⟩
  obtain rfl := hf.all A
  unfold OIdle OIdleAt
  icases O0 with ⟨HZ, HT⟩
  iapply (wp_epi A c (n := 0) (Nat.le_of_ble_eq_true rfl) (two 0) hs) $$ HT
  iintro %mx2 HT %hd
  ihave HF' := (Seq.shift (N := 5) (b := 0) (Nat.le_of_ble_eq_true rfl)) $$ HF
  icases HF' with ⟨HF0, HF⟩
  iapply (wp_startO A c (n := 0) (Nat.le_of_ble_eq_true rfl)) $$ [HZ HT HF0]
  · isplitl [HZ]; · iexact HZ
    isplitl [HT] <;> iassumption
  iintro O0
  iapply (wp_blocks A c mx2) $$ [HR S0 S1 O0 O1 HF HP HXP HO]
  · unfold BInv
    isplitl [HR]; · iexact HR
    isplitl [S1]; · iexact S1
    isplitl [S0]
    · iapply (sgot_idle A c (n := 0) (Nat.le_of_ble_eq_true rfl)); iexact S0
    isplitl [O1]
    · unfold OSt OIdle OIdleAt; iexact O1
    isplitl [O0]
    · unfold OSt; iexact O0
    isplitl [HF]; · iexact HF
    isplitr
    · rw [show Seq (Done A c) (1 - 2) 0 = iprop(emp) from rfl]; iempintro
    isplitl [HP]
    · iexists _; iexact HP
    isplitl [HXP]; · iexact HXP
    isplitl [HO]; · iexact HO
    ipureintro; exact hd
  unfold BInv
  iintro %mx3 ⟨HR, S1, S0, O1, O0, -, HD, HP, HXP, HO, %hd3⟩
  unfold OSt
  iapply (wp_waitO A c (n := 3) (Nat.le_of_ble_eq_true rfl)) $$ [O1 HO]
  · isplitl [O1] <;> iassumption
  iintro O1 HD3 HO
  iapply (wp_waitO A c (n := 4) (Nat.le_of_ble_eq_true rfl)) $$ [O0 HO]
  · isplitl [O0] <;> iassumption
  iintro O0 HD4 HO
  unfold Mxu.exit run
  iapply (wp_assume 𝒱₀ (c : Thread nD τ) none Set.univ (P := mx3.Drained) hd3)
  simp only [ret_bind]
  iapply (fin c)
  iapply Hk $$ [HX HR S1 S0 O1 O0 HP HXP HO] [HD HD3 HD4]
  · isplitl [HX]; · iexact HX
    isplitl [HR]
    · iapply (ring_end A c); iexact HR
    isplitl [S1 S0]
    · isplitl [S0]
      · iapply (sidle6 A c); iexact S0
      isplitl [S1]
      · iapply (sfl5 A c); iexact S1
      iempintro
    isplitl [O1 O0]
    · isplitl [O0]
      · unfold OIdle OIdleAt; iexact O0
      isplitl [O1]
      · unfold OIdle OIdleAt; iexact O1
      iempintro
    isplitl [HP]; · iexact HP
    isplitl [HXP]; · iexists _; iexact HXP
    iexact HO
  iapply (Seq.snoc 4 0)
  isplitl [HD HD3]
  · iapply (Seq.snoc 3 0)
    isplitl [HD]; · iexact HD
    iexact HD3
  iexact HD4

end Cert.Kernel.Hand
end
-- ==== Proof.Bits.Cut.lean ====
/-
  The kernel's buffers and argument arrays taken apart into what its transfers hold, and put together again.
-/
module

public import proofs.«01_k».proof.Proof.Bits.Whole

@[expose] public section

set_option pp.maxSteps 60

noncomputable section

namespace Cert.Kernel.Hand

open Cert.Kernel Cert.Kernel.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F] (A : In F) (c : Dev nD)
local notation "𝕄" => MT nD τ sig Unit (Elt F) ℕ (UU nD τ) ℕ

/-! ## Cells -/

def zX (t : ℕ) : sProp 𝕄 := if h : t < 9 then zero c (xSem t h) else iprop(emp)
def zW (t : ℕ) : sProp 𝕄 := if h : t < 6 then zero c (wSem t h) else iprop(emp)
def zS (t : ℕ) : sProp 𝕄 := if h : t < 2 then zero c (sSem t h) else iprop(emp)
def zO (t : ℕ) : sProp 𝕄 := if h : t < 2 then zero c (oSem t h) else iprop(emp)

/-! ## Elements -/

/-- The staged activations of trip `t`, at any contents; and the other buffers' parts. -/
def eX (t : ℕ) : sProp 𝕄 := if h : t < 9 then iprop((∃ f, own (F := F) c (xrAt 0 z2 t h) f) ∗ (∃ f, own (F := F) c (xrAt 1 o2 t h) f)) else iprop(emp)
def eW (t : ℕ) : sProp 𝕄 := if h : t < 6 then iprop((∃ f, own (F := F) c (wAt t h 0 z2) f) ∗ (∃ f, own (F := F) c (wAt t h 1 o2) f)) else iprop(emp)
def eS (t : ℕ) : sProp 𝕄 := if h : t < 2 then iprop((∃ f, own (F := F) c (sAt t h 0 z2) f) ∗ (∃ f, own (F := F) c (sAt t h 1 o2) f)) else iprop(emp)
def eO (t : ℕ) : sProp 𝕄 := if h : t < 2 then iprop(∃ f, own (F := F) c (oAt t h) f) else iprop(emp)

/-- A buffer cut by a key, each part in two; -/
theorem split2 {ℓ : Loc nD τ sig} (key : Idx ℓ → ℕ) (n : ℕ) (hk : ∀ j, key j < n) (I J : ∀ i, i < n → Finset (Idx ℓ))
    (hU : ∀ i h, part key i = I i h ∪ J i h) (hD : ∀ i h, Disjoint (I i h) (J i h)) (P : ℕ → sProp 𝕄)
    (hP : ∀ i (h : i < n), P i = iprop((∃ f : Buf (Elt F) ℓ, ℓ ↦[I i h]{fullShare} f) ∗ (∃ f : Buf (Elt F) ℓ, ℓ ↦[J i h]{fullShare} f))) :
    iprop(∃ f : Buf (Elt F) ℓ, ℓ ↦{fullShare} f) ⊢ Seq P n 0 := by
  iintro ⟨%f, H⟩
  have h : (iprop(ℓ ↦{fullShare} f) : sProp 𝕄) ⊢ Seq P n 0 := by
    have hc := part_cut (F := F) key (f := f) n 0
    rw [upto_univ key n hk] at hc
    refine hc.trans (Seq.mono n 0 fun i _ hi => ?_)
    have hi : i < n := by omega
    rw [hP i hi]
    exact two_cut (hU i hi) (hD i hi)
  iapply h; iexact H
/-- and put together again. -/
theorem join2 {ℓ : Loc nD τ sig} (key : Idx ℓ → ℕ) (n : ℕ) (hk : ∀ j, key j < n) (I J : ∀ i, i < n → Finset (Idx ℓ))
    (hU : ∀ i h, part key i = I i h ∪ J i h) (hD : ∀ i h, Disjoint (I i h) (J i h)) (P : ℕ → sProp 𝕄)
    (hP : ∀ i (h : i < n), P i = iprop((∃ f : Buf (Elt F) ℓ, ℓ ↦[I i h]{fullShare} f) ∗ (∃ f : Buf (Elt F) ℓ, ℓ ↦[J i h]{fullShare} f))) :
    Seq P n 0 ⊢ iprop(∃ f : Buf (Elt F) ℓ, ℓ ↦{fullShare} f) := by
  have hj := part_join (F := F) key (fun _ => Classical.ofNonempty) n 0
  rw [upto_univ key n hk] at hj
  refine (Seq.mono n 0 fun i _ hi => ?_).trans hj
  have hi : i < n := by omega
  rw [hP i hi]
  exact two_join (hU i hi) (hD i hi)

theorem uX (t : ℕ) (h : t < 9) : part (ℓ := bXR.view.loc (c : Thread nD τ)) (fun j : S2x9x128x1536.Idx => (j 1).val) t = (xrAt 0 z2 t h).view.set ∪ (xrAt 1 o2 t h).view.set := by
  ext j
  rw [Finset.mem_union, mem_xr, mem_xr]
  have : (j 0).val < 2 := (j 0).isLt
  simp only [Finset.mem_filter, Finset.mem_univ, true_and]
  omega
theorem dX (t : ℕ) (h : t < 9) : Disjoint (xrAt 0 z2 t h).view.set (xrAt 1 o2 t h).view.set := by
  rw [Finset.disjoint_left]
  intro j h1 h2
  rw [mem_xr] at h1 h2
  omega
theorem cut_eX : iprop(∃ f, whole (F := F) c bXR f) ⊢ Seq (eX (F := F) c) 9 0 :=
  split2 (ℓ := bXR.view.loc (c : Thread nD τ)) (fun j : S2x9x128x1536.Idx => (j 1).val) 9 (fun j => (j 1).isLt) _ _ (uX c) dX _ fun t h => by unfold eX; rw [dif_pos h]
theorem join_eX : Seq (eX (F := F) c) 9 0 ⊢ iprop(∃ f, whole (F := F) c bXR f) :=
  join2 (ℓ := bXR.view.loc (c : Thread nD τ)) (fun j : S2x9x128x1536.Idx => (j 1).val) 9 (fun j => (j 1).isLt) _ _ (uX c) dX _ fun t h => by unfold eX; rw [dif_pos h]

theorem uW (t : ℕ) (h : t < 6) : part (ℓ := bW.view.loc (c : Thread nD τ)) (fun j : S6x2x1536x512.Idx => (j 0).val) t = (wAt t h 0 z2).view.set ∪ (wAt t h 1 o2).view.set := by
  ext j
  rw [Finset.mem_union, mem_w, mem_w]
  have : (j 1).val < 2 := (j 1).isLt
  simp only [Finset.mem_filter, Finset.mem_univ, true_and]
  omega
theorem dW (t : ℕ) (h : t < 6) : Disjoint (wAt t h 0 z2).view.set (wAt t h 1 o2).view.set := by
  rw [Finset.disjoint_left]
  intro j h1 h2
  rw [mem_w] at h1 h2
  omega
theorem cut_eW : iprop(∃ f, whole (F := F) c bW f) ⊢ Seq (eW (F := F) c) 6 0 :=
  split2 (ℓ := bW.view.loc (c : Thread nD τ)) (fun j : S6x2x1536x512.Idx => (j 0).val) 6 (fun j => (j 0).isLt) _ _ (uW c) dW _ fun t h => by unfold eW; rw [dif_pos h]
theorem join_eW : Seq (eW (F := F) c) 6 0 ⊢ iprop(∃ f, whole (F := F) c bW f) :=
  join2 (ℓ := bW.view.loc (c : Thread nD τ)) (fun j : S6x2x1536x512.Idx => (j 0).val) 6 (fun j => (j 0).isLt) _ _ (uW c) dW _ fun t h => by unfold eW; rw [dif_pos h]

theorem uS (t : ℕ) (h : t < 2) : part (ℓ := bS.view.loc (c : Thread nD τ)) (fun j : S2x2x216x512.Idx => (j 0).val) t = (sAt t h 0 z2).view.set ∪ (sAt t h 1 o2).view.set := by
  ext j
  rw [Finset.mem_union, mem_s, mem_s]
  have : (j 1).val < 2 := (j 1).isLt
  simp only [Finset.mem_filter, Finset.mem_univ, true_and]
  omega
theorem dS (t : ℕ) (h : t < 2) : Disjoint (sAt t h 0 z2).view.set (sAt t h 1 o2).view.set := by
  rw [Finset.disjoint_left]
  intro j h1 h2
  rw [mem_s] at h1 h2
  omega
theorem cut_eS : iprop(∃ f, whole (F := F) c bS f) ⊢ Seq (eS (F := F) c) 2 0 :=
  split2 (ℓ := bS.view.loc (c : Thread nD τ)) (fun j : S2x2x216x512.Idx => (j 0).val) 2 (fun j => (j 0).isLt) _ _ (uS c) dS _ fun t h => by unfold eS; rw [dif_pos h]
theorem join_eS : Seq (eS (F := F) c) 2 0 ⊢ iprop(∃ f, whole (F := F) c bS f) :=
  join2 (ℓ := bS.view.loc (c : Thread nD τ)) (fun j : S2x2x216x512.Idx => (j 0).val) 2 (fun j => (j 0).isLt) _ _ (uS c) dS _ fun t h => by unfold eS; rw [dif_pos h]

theorem partO (t : ℕ) (h : t < 2) : part (ℓ := bO.view.loc (c : Thread nD τ)) (fun j : S2x128x512.Idx => (j 0).val) t = (oAt t h).view.set := by
  ext j
  rw [mem_o]
  simp only [Finset.mem_filter, Finset.mem_univ, true_and]
theorem cut_eO : iprop(∃ f, whole (F := F) c bO f) ⊢ Seq (eO (F := F) c) 2 0 := by
  iintro ⟨%f, H⟩
  have h : (whole (F := F) c bO f : sProp 𝕄) ⊢ Seq (eO (F := F) c) 2 0 := by
    have hc := part_cut (F := F) (ℓ := bO.view.loc (c : Thread nD τ)) (fun j : S2x128x512.Idx => (j 0).val) (f := f) 2 0
    rw [upto_univ (ℓ := bO.view.loc (c : Thread nD τ)) (fun j : S2x128x512.Idx => (j 0).val) 2 (fun j : S2x128x512.Idx => (j 0).isLt)] at hc
    refine hc.trans (Seq.mono 2 0 fun i _ hi => ?_)
    have hi : i < 2 := by omega
    unfold eO
    rw [dif_pos hi, partO c i hi]
    iintro H
    iexists f
    iexact H
  iapply h; iexact H
theorem join_eO : Seq (eO (F := F) c) 2 0 ⊢ iprop(∃ f, whole (F := F) c bO f) := by
  have hj := part_join (F := F) (ℓ := bO.view.loc (c : Thread nD τ)) (fun j : S2x128x512.Idx => (j 0).val) (fun _ => Classical.ofNonempty) 2 0
  rw [upto_univ (ℓ := bO.view.loc (c : Thread nD τ)) (fun j : S2x128x512.Idx => (j 0).val) 2 (fun j : S2x128x512.Idx => (j 0).isLt)] at hj
  refine (Seq.mono 2 0 fun i _ hi => ?_).trans hj
  have hi : i < 2 := by omega
  unfold eO
  rw [dif_pos hi, partO c i hi]

theorem partOut (t : ℕ) (h : t < 5) : part (ℓ := aO.view.loc (c : Thread nD τ)) (fun j : S128x2560.Idx => (j 1).val / 512) t = (outAt t h).view.set := by
  ext j
  rw [mem_out]
  simp only [Finset.mem_filter, Finset.mem_univ, true_and]
theorem kOut (j : S128x2560.Idx) : (j 1).val / 512 < 5 := by
  have : (j 1).val < 2560 := (j 1).isLt
  omega
theorem cut_out : iprop(∃ f, whole (F := F) c aO f) ⊢ Seq (Fresh (F := F) c) 5 0 := by
  iintro ⟨%f, H⟩
  have h : (whole (F := F) c aO f : sProp 𝕄) ⊢ Seq (Fresh (F := F) c) 5 0 := by
    have hc := part_cut (F := F) (ℓ := aO.view.loc (c : Thread nD τ)) (fun j : S128x2560.Idx => (j 1).val / 512) (f := f) 5 0
    rw [upto_univ (ℓ := aO.view.loc (c : Thread nD τ)) (fun j : S128x2560.Idx => (j 1).val / 512) 5 kOut] at hc
    refine hc.trans (Seq.mono 5 0 fun i _ hi => ?_)
    have hi : i < 5 := by omega
    unfold Fresh
    rw [dif_pos hi, partOut c i hi]
    iintro H
    iexists f
    iexact H
  iapply h; iexact H
theorem glue_out : Seq (Done A c) 5 0 ⊢ whole c aO (OT A) := by
  have hg := part_glue (F := F) (ℓ := aO.view.loc (c : Thread nD τ)) (fun j : S128x2560.Idx => (j 1).val / 512) (f := OT A) 5 0
  rw [upto_univ (ℓ := aO.view.loc (c : Thread nD τ)) (fun j : S128x2560.Idx => (j 1).val / 512) 5 kOut] at hg
  refine (Seq.mono 5 0 fun i _ hi => ?_).trans hg
  have hi : i < 5 := by omega
  unfold Done
  rw [dif_pos hi, partOut c i hi]

/-! ## Shares -/

theorem Seq.double {P : ℕ → sProp 𝕄} : ∀ (n k : ℕ), Seq P (2 * n) (2 * k) ⊢ Seq (fun t => iprop(P (2 * t) ∗ P (2 * t + 1))) n k
  | 0, k => .rfl
  | n + 1, k => by
    show iprop(P (2 * k) ∗ P (2 * k + 1) ∗ Seq P (2 * n) (2 * (k + 1))) ⊢ iprop((P (2 * k) ∗ P (2 * k + 1)) ∗ Seq (fun t => iprop(P (2 * t) ∗ P (2 * t + 1))) n (k + 1))
    iintro ⟨H0, H1, H⟩
    isplitl [H0 H1]
    · isplitl [H0] <;> iassumption
    iapply (Seq.double n (k + 1)); iexact H
theorem Seq.undouble {P : ℕ → sProp 𝕄} : ∀ (n k : ℕ), Seq (fun t => iprop(P (2 * t) ∗ P (2 * t + 1))) n k ⊢ Seq P (2 * n) (2 * k)
  | 0, k => .rfl
  | n + 1, k => by
    show iprop((P (2 * k) ∗ P (2 * k + 1)) ∗ Seq (fun t => iprop(P (2 * t) ∗ P (2 * t + 1))) n (k + 1)) ⊢ iprop(P (2 * k) ∗ P (2 * k + 1) ∗ Seq P (2 * n) (2 * (k + 1)))
    iintro ⟨⟨H0, H1⟩, H⟩
    isplitl [H0]; · iexact H0
    isplitl [H1]; · iexact H1
    iapply (Seq.undouble n (k + 1)); iexact H

theorem cut_X : whole c aX A.x ⊢ iprop(Seq (fun i => shr c aX (lq i) A.x) 18 0 ∗ shr c aX (rq 18) A.x) := share_cut 18 0
theorem glue_X : iprop(Seq (fun i => shr c aX (lq i) A.x) 18 0 ∗ shr c aX (rq 18) A.x) ⊢ whole c aX A.x := share_glue 18 0
theorem cut_G : whole c aWG A.wg ⊢ iprop(Seq (fun i => shr c aWG (lq i) A.wg) 6 0 ∗ shr c aWG (rq 6) A.wg) := share_cut 6 0
theorem glue_G : iprop(Seq (fun i => shr c aWG (lq i) A.wg) 6 0 ∗ shr c aWG (rq 6) A.wg) ⊢ whole c aWG A.wg := share_glue 6 0
theorem cut_U : whole c aWU A.wu ⊢ iprop(Seq (fun i => shr c aWU (lq i) A.wu) 6 0 ∗ shr c aWU (rq 6) A.wu) := share_cut 6 0
theorem glue_U : iprop(Seq (fun i => shr c aWU (lq i) A.wu) 6 0 ∗ shr c aWU (rq 6) A.wu) ⊢ whole c aWU A.wu := share_glue 6 0
theorem cut_SG : whole c aSG A.sg ⊢ iprop(Seq (fun i => shr c aSG (lq i) A.sg) 2 0 ∗ shr c aSG (rq 2) A.sg) := share_cut 2 0
theorem glue_SG : iprop(Seq (fun i => shr c aSG (lq i) A.sg) 2 0 ∗ shr c aSG (rq 2) A.sg) ⊢ whole c aSG A.sg := share_glue 2 0
theorem cut_SU : whole c aSU A.su ⊢ iprop(Seq (fun i => shr c aSU (lq i) A.su) 2 0 ∗ shr c aSU (rq 2) A.su) := share_cut 2 0
theorem glue_SU : iprop(Seq (fun i => shr c aSU (lq i) A.su) 2 0 ∗ shr c aSU (rq 2) A.su) ⊢ whole c aSU A.su := share_glue 2 0

/-! ## What rests, from cells, shares and elements -/

theorem WIdle_lt {t : ℕ} (h : t < 6) : WIdle A c t = WIdleAt A c t h := by
  have key : ∀ (a : ℕ) (ha : a < 6), a = t → WIdleAt A c a ha = WIdleAt A c t h := by rintro _ _ rfl; rfl
  exact key _ _ (Nat.mod_eq_of_lt h)
theorem SIdle_lt {t : ℕ} (h : t < 2) : SIdle A c t = SIdleAt A c t h := by
  have key : ∀ (a : ℕ) (ha : a < 2), a = t → SIdleAt A c a ha = SIdleAt A c t h := by rintro _ _ rfl; rfl
  exact key _ _ (Nat.mod_eq_of_lt h)
theorem OIdle_lt {t : ℕ} (h : t < 2) : (OIdle c t : sProp 𝕄) = OIdleAt c t h := by
  have key : ∀ (a : ℕ) (ha : a < 2), a = t → (OIdleAt c a ha : sProp 𝕄) = OIdleAt c t h := by rintro _ _ rfl; rfl
  exact key _ _ (Nat.mod_eq_of_lt h)

theorem rest_X : iprop(Seq (zX (F := F) c) 9 0 ∗ Seq (fun t => iprop(shr c aX (lq (2 * t)) A.x ∗ shr c aX (lq (2 * t + 1)) A.x)) 9 0 ∗ Seq (eX (F := F) c) 9 0) ⊢ Seq (XIdle A c) 9 0 := by
  iintro ⟨HZ, HS, HE⟩
  ihave H := (Seq.sep 9 0) $$ [HS HE]
  · isplitl [HS] <;> iassumption
  ihave H := (Seq.sep 9 0) $$ [HZ H]
  · isplitl [HZ] <;> iassumption
  have h : Seq (fun t => iprop(zX (F := F) c t ∗ (shr c aX (lq (2 * t)) A.x ∗ shr c aX (lq (2 * t + 1)) A.x) ∗ eX (F := F) c t)) 9 0 ⊢ Seq (XIdle A c) 9 0 :=
    Seq.mono 9 0 fun t _ ht => by
      have ht : t < 9 := by omega
      unfold zX eX XIdle
      rw [dif_pos ht, dif_pos ht, dif_pos ht]
      iintro ⟨HZ, ⟨H0, H1⟩, HE⟩
      isplitl [HZ]; · iexact HZ
      isplitl [H0]; · iexact H0
      isplitl [H1]; · iexact H1
      iexact HE
  iapply h; iexact H
theorem unrest_X : Seq (XIdle A c) 9 0 ⊢ iprop(Seq (zX (F := F) c) 9 0 ∗ Seq (fun t => iprop(shr c aX (lq (2 * t)) A.x ∗ shr c aX (lq (2 * t + 1)) A.x)) 9 0 ∗ Seq (eX (F := F) c) 9 0) := by
  have h : Seq (XIdle A c) 9 0 ⊢ Seq (fun t => iprop(zX (F := F) c t ∗ (shr c aX (lq (2 * t)) A.x ∗ shr c aX (lq (2 * t + 1)) A.x) ∗ eX (F := F) c t)) 9 0 :=
    Seq.mono 9 0 fun t _ ht => by
      have ht : t < 9 := by omega
      unfold zX eX XIdle
      rw [dif_pos ht, dif_pos ht, dif_pos ht]
      iintro ⟨HZ, H0, H1, HE⟩
      isplitl [HZ]; · iexact HZ
      isplitl [H0 H1]
      · isplitl [H0] <;> iassumption
      iexact HE
  refine h.trans ((Seq.unsep 9 0).trans (BIClass.sep_mono .rfl (Seq.unsep 9 0)))

theorem WIdle_parts {t : ℕ} (h : t < 6) : WIdle A c t = iprop(zW (F := F) c t ∗ shr c aWG (lq t) A.wg ∗ shr c aWU (lq t) A.wu ∗ eW (F := F) c t) := by
  rw [WIdle_lt A c h]
  unfold zW eW WIdleAt
  rw [dif_pos h, dif_pos h]
theorem rest_W : iprop(Seq (zW (F := F) c) 6 0 ∗ Seq (fun t => shr c aWG (lq t) A.wg) 6 0 ∗ Seq (fun t => shr c aWU (lq t) A.wu) 6 0 ∗ Seq (eW (F := F) c) 6 0) ⊢ Seq (WIdle A c) 6 0 := by
  refine (BIClass.sep_mono .rfl ((BIClass.sep_mono .rfl (Seq.sep 6 0)).trans (Seq.sep 6 0))).trans ((Seq.sep 6 0).trans (Seq.mono 6 0 fun t _ ht => ?_))
  rw [WIdle_parts A c (by omega : t < 6)]
theorem unrest_W : Seq (WIdle A c) 6 0 ⊢ iprop(Seq (zW (F := F) c) 6 0 ∗ Seq (fun t => shr c aWG (lq t) A.wg) 6 0 ∗ Seq (fun t => shr c aWU (lq t) A.wu) 6 0 ∗ Seq (eW (F := F) c) 6 0) := by
  refine BIBase.Entails.trans (Seq.mono (Q := fun t => iprop(zW (F := F) c t ∗ shr c aWG (lq t) A.wg ∗ shr c aWU (lq t) A.wu ∗ eW (F := F) c t)) 6 0 fun t _ ht => ?_) ((Seq.unsep 6 0).trans (BIClass.sep_mono .rfl ((Seq.unsep 6 0).trans (BIClass.sep_mono .rfl (Seq.unsep 6 0)))))
  rw [WIdle_parts A c (by omega : t < 6)]

theorem SIdle_parts {t : ℕ} (h : t < 2) : SIdle A c t = iprop(zS (F := F) c t ∗ shr c aSG (lq t) A.sg ∗ shr c aSU (lq t) A.su ∗ eS (F := F) c t) := by
  rw [SIdle_lt A c h]
  unfold zS eS SIdleAt
  rw [dif_pos h, dif_pos h]
theorem rest_S : iprop(Seq (zS (F := F) c) 2 0 ∗ Seq (fun t => shr c aSG (lq t) A.sg) 2 0 ∗ Seq (fun t => shr c aSU (lq t) A.su) 2 0 ∗ Seq (eS (F := F) c) 2 0) ⊢ Seq (SIdle A c) 2 0 := by
  refine (BIClass.sep_mono .rfl ((BIClass.sep_mono .rfl (Seq.sep 2 0)).trans (Seq.sep 2 0))).trans ((Seq.sep 2 0).trans (Seq.mono 2 0 fun t _ ht => ?_))
  rw [SIdle_parts A c (by omega : t < 2)]
theorem unrest_S : Seq (SIdle A c) 2 0 ⊢ iprop(Seq (zS (F := F) c) 2 0 ∗ Seq (fun t => shr c aSG (lq t) A.sg) 2 0 ∗ Seq (fun t => shr c aSU (lq t) A.su) 2 0 ∗ Seq (eS (F := F) c) 2 0) := by
  refine BIBase.Entails.trans (Seq.mono (Q := fun t => iprop(zS (F := F) c t ∗ shr c aSG (lq t) A.sg ∗ shr c aSU (lq t) A.su ∗ eS (F := F) c t)) 2 0 fun t _ ht => ?_) ((Seq.unsep 2 0).trans (BIClass.sep_mono .rfl ((Seq.unsep 2 0).trans (BIClass.sep_mono .rfl (Seq.unsep 2 0)))))
  rw [SIdle_parts A c (by omega : t < 2)]

theorem OIdle_parts {t : ℕ} (h : t < 2) : (OIdle c t : sProp 𝕄) = iprop(zO (F := F) c t ∗ eO (F := F) c t) := by
  rw [OIdle_lt c h]
  unfold zO eO OIdleAt
  rw [dif_pos h, dif_pos h]
theorem rest_O : iprop(Seq (zO (F := F) c) 2 0 ∗ Seq (eO (F := F) c) 2 0) ⊢ Seq (OIdle (F := F) c) 2 0 := by
  refine (Seq.sep 2 0).trans (Seq.mono 2 0 fun t _ ht => ?_)
  rw [OIdle_parts c (by omega : t < 2)]
theorem unrest_O : Seq (OIdle (F := F) c) 2 0 ⊢ iprop(Seq (zO (F := F) c) 2 0 ∗ Seq (eO (F := F) c) 2 0) := by
  refine BIBase.Entails.trans (Seq.mono (Q := fun t => iprop(zO (F := F) c t ∗ eO (F := F) c t)) 2 0 fun t _ ht => ?_) (Seq.unsep 2 0)
  rw [OIdle_parts c (by omega : t < 2)]

/-! ## The kernel, on its whole buffers -/

/-- The kernel's cells; -/
def Cells : sProp 𝕄 := iprop(Seq (zX (F := F) c) 9 0 ∗ Seq (zW (F := F) c) 6 0 ∗ Seq (zS (F := F) c) 2 0 ∗ Seq (zO (F := F) c) 2 0)
/-- its argument arrays; -/
def Args : sProp 𝕄 := iprop(whole c aX A.x ∗ whole c aWG A.wg ∗ whole c aSG A.sg ∗ whole c aWU A.wu ∗ whole c aSU A.su)
/-- its scratch buffers. -/
def Scratch : sProp 𝕄 :=
  iprop((∃ f, whole (F := F) c bXR f) ∗ (∃ f, whole (F := F) c bXP f) ∗ (∃ f, whole (F := F) c bW f) ∗ (∃ f, whole (F := F) c bS f)
    ∗ (∃ f, whole (F := F) c bP f) ∗ (∃ f, whole (F := F) c bO f))

theorem wp_kernel :
    iprop(Args A c ∗ Cells (F := F) c ∗ Scratch (F := F) c ∗ Ow c ∗ (∃ f, whole (F := F) c aO f))
      ⊢ run c kernelP fun _ => iprop(Args A c ∗ Cells (F := F) c ∗ Scratch (F := F) c ∗ Ow c ∗ whole c aO (OT A)) := by
  unfold Args Cells Scratch
  iintro ⟨⟨HX, HG, HSG, HU, HSU⟩, ⟨ZX, ZW, ZS, ZO⟩, ⟨EX, EXP, EW, ES, EP', EO⟩, HO, HF⟩
  ihave HX := (cut_X A c) $$ HX
  icases HX with ⟨HX, KX⟩
  ihave HX := (Seq.double 9 0) $$ HX
  ihave HG := (cut_G A c) $$ HG
  icases HG with ⟨HG, KG⟩
  ihave HU := (cut_U A c) $$ HU
  icases HU with ⟨HU, KU⟩
  ihave HSG := (cut_SG A c) $$ HSG
  icases HSG with ⟨HSG, KSG⟩
  ihave HSU := (cut_SU A c) $$ HSU
  icases HSU with ⟨HSU, KSU⟩
  ihave EX := (cut_eX c) $$ EX
  ihave EW := (cut_eW c) $$ EW
  ihave ES := (cut_eS c) $$ ES
  ihave EO := (cut_eO c) $$ EO
  ihave HF := (cut_out c) $$ HF
  iapply (wp_kernelP A c) $$ [HX HG HSG HU HSU ZX ZW ZS ZO EX EXP EW ES EP' EO HO HF]
  · isplitr [HF]
    · unfold Rest
      isplitl [ZX HX EX]
      · iapply (rest_X A c)
        isplitl [ZX]; · iexact ZX
        isplitl [HX] <;> iassumption
      isplitl [ZW HG HU EW]
      · iapply (rest_W A c)
        isplitl [ZW]; · iexact ZW
        isplitl [HG]; · iexact HG
        isplitl [HU] <;> iassumption
      isplitl [ZS HSG HSU ES]
      · iapply (rest_S A c)
        isplitl [ZS]; · iexact ZS
        isplitl [HSG]; · iexact HSG
        isplitl [HSU] <;> iassumption
      isplitl [ZO EO]
      · iapply (rest_O (F := F) c)
        isplitl [ZO] <;> iassumption
      isplitl [EP']; · iexact EP'
      isplitl [EXP]; · iexact EXP
      iexact HO
    iexact HF
  unfold Rest
  iintro ⟨HX, HW, HS, HOI, EP', EXP, HO⟩ HF
  ihave HX := (unrest_X A c) $$ HX
  icases HX with ⟨ZX, HX, EX⟩
  ihave HX := (Seq.undouble (P := fun i => shr c aX (lq i) A.x) 9 0) $$ HX
  ihave HX := (glue_X A c) $$ [HX KX]
  · isplitl [HX] <;> iassumption
  ihave HW := (unrest_W A c) $$ HW
  icases HW with ⟨ZW, HG, HU, EW⟩
  ihave HG := (glue_G A c) $$ [HG KG]
  · isplitl [HG] <;> iassumption
  ihave HU := (glue_U A c) $$ [HU KU]
  · isplitl [HU] <;> iassumption
  ihave HS := (unrest_S A c) $$ HS
  icases HS with ⟨ZS, HSG, HSU, ES⟩
  ihave HSG := (glue_SG A c) $$ [HSG KSG]
  · isplitl [HSG] <;> iassumption
  ihave HSU := (glue_SU A c) $$ [HSU KSU]
  · isplitl [HSU] <;> iassumption
  ihave HOI := (unrest_O (F := F) c) $$ HOI
  icases HOI with ⟨ZO, EO⟩
  ihave EX := (join_eX c) $$ EX
  ihave EW := (join_eW c) $$ EW
  ihave ES := (join_eS c) $$ ES
  ihave EO := (join_eO c) $$ EO
  ihave HF := (glue_out A c) $$ HF
  isplitl [HX HG HSG HU HSU]
  · isplitl [HX]; · iexact HX
    isplitl [HG]; · iexact HG
    isplitl [HSG]; · iexact HSG
    isplitl [HU] <;> iassumption
  isplitl [ZX ZW ZS ZO]
  · isplitl [ZX]; · iexact ZX
    isplitl [ZW]; · iexact ZW
    isplitl [ZS] <;> iassumption
  isplitl [EX EXP EW ES EP' EO]
  · isplitl [EX]; · iexact EX
    isplitl [EXP]; · iexact EXP
    isplitl [EW]; · iexact EW
    isplitl [ES]; · iexact ES
    isplitl [EP'] <;> iassumption
  isplitl [HO] <;> iassumption

end Cert.Kernel.Hand
end
-- ==== Proof.Bits.Eq3.lean ====
module

public import proofs.«01_k».proof.Proof.Bits.Prog

@[expose] public section

noncomputable section

namespace Cert.Kernel.Hand

open Cert.Kernel Cert.Kernel.Gen
open Idealize.ShloMosaic Idealize.ShloMosaic.TcCoe
open Idealize.SL.Sem

variable {F : FTy → Type} [BitOps F]

/-! ## The offsets the kernel computes, in closed form -/

theorem passes_congr {sl sl' ci ci' : ℕ} {h1 : sl < 6} {h1' : sl' < 6} {h2 : ci < 9} {h2' : ci' < 9} {row row' : Fin 6 → ℕ} {h3 h3' n p h}
    (e1 : sl = sl') (e2 : ci = ci') (e3 : row = row') (mx : Mxu F) : passes (F := F) h1 h2 row h3 n p h mx = passes h1' h2' row' h3' n p h mx := by
  subst e1 e2 e3; rfl

theorem dite_iff {α : Type 1} {c c' : Prop} [Decidable c] [Decidable c'] {A : c → α} {A' : c' → α} {B : α} (hc : c ↔ c') (h : ∀ x y, A x = A' y) :
    dite c A (fun _ => B) = dite c' A' (fun _ => B) := by
  by_cases x : c
  · rw [dif_pos x, dif_pos (hc.mp x)]; exact h _ _
  · rw [dif_neg x, dif_neg (fun y => x (hc.mpr y))]

theorem off141 : ∀ (k2 : Fin k0_t2_loop.trips) (k3 : Fin k0_t3_loop.trips), k0_off141 k2 k3 = ![(9 * (k2.val + 1) + k3.val) % 6] := by decide +kernel
theorem off142 : ∀ (k2 : Fin k0_t2_loop.trips) (k3 : Fin k0_t3_loop.trips), k0_off142 k2 k3 = ![(9 * (k2.val + 1) + k3.val) % 6, 0, 0, 0] := by decide +kernel
theorem off143 : ∀ (k2 : Fin k0_t2_loop.trips) (k3 : Fin k0_t3_loop.trips), k0_off143 k2 k3 = ![(9 * (k2.val + 1) + k3.val) % 9 * 1536, (9 * (k2.val + 1) + k3.val) / 9 * 512] := by decide +kernel
theorem off144 : ∀ (k2 : Fin k0_t2_loop.trips) (k3 : Fin k0_t3_loop.trips), k0_off144 k2 k3 = ![(9 * (k2.val + 1) + k3.val) % 6, 1, 0, 0] := by decide +kernel
theorem off145 : ∀ (k2 : Fin k0_t2_loop.trips) (k3 : Fin k0_t3_loop.trips), k0_cond3 k2 k3 = 1#1 → k0_off145 k2 k3 = ![(9 * (k2.val + 1) + k3.val + 5) % 6] := by decide +kernel
theorem off146 : ∀ (k2 : Fin k0_t2_loop.trips) (k3 : Fin k0_t3_loop.trips), k0_cond3 k2 k3 = 1#1 → k0_off146 k2 k3 = ![(9 * (k2.val + 1) + k3.val + 5) % 6, 0, 0, 0] := by decide +kernel
theorem off147 : ∀ (k2 : Fin k0_t2_loop.trips) (k3 : Fin k0_t3_loop.trips), k0_cond3 k2 k3 = 1#1 → k0_off147 k2 k3 = ![(9 * (k2.val + 1) + k3.val + 5) % 9 * 1536, (9 * (k2.val + 1) + k3.val + 5) / 9 * 512] := by decide +kernel
theorem off148 : ∀ (k2 : Fin k0_t2_loop.trips) (k3 : Fin k0_t3_loop.trips), k0_cond3 k2 k3 = 1#1 → k0_off148 k2 k3 = ![(9 * (k2.val + 1) + k3.val + 5) % 6, 1, 0, 0] := by decide +kernel
theorem cond3 : ∀ (k2 : Fin k0_t2_loop.trips) (k3 : Fin k0_t3_loop.trips), (k0_cond3 k2 k3 = 1#1 ↔ (9 * (k2.val + 1) + k3.val + 5) < 45) := by decide +kernel
theorem off150 : ∀ (k2 : Fin k0_t2_loop.trips) (k3 : Fin k0_t3_loop.trips), k0_off150 k2 k3 0 = (9 * (k2.val + 1) + k3.val) % 6 := by decide +kernel
theorem off149 : ∀ (k3 : Fin k0_t3_loop.trips), k0_off149 k3 0 = k3.val := by decide +kernel
theorem off151 : ∀ (k3 : Fin k0_t3_loop.trips) (r : Fin 6), k0_off151 k3 (BitVec.ofNat 32 r.val) 2 = 6 * k3.val + r.val := by decide +kernel

theorem lt2 (k2 : Fin k0_t2_loop.trips) : k2.val + 1 < 5 := by have := Nat.lt_of_lt_of_eq k2.isLt trips2; omega
theorem lt3 (k3 : Fin k0_t3_loop.trips) : k3.val < 9 := Nat.lt_of_lt_of_eq k3.isLt trips3
theorem row3_lt (k3 : Fin k0_t3_loop.trips) (r : Fin 6) : k0_off151 k3 (BitVec.ofNat 32 r.val) 2 < 54 := by
  rw [off151]; have := lt3 k3; omega

theorem waitW_eq3 (k2 : Fin k0_t2_loop.trips) (k3 : Fin k0_t3_loop.trips) (h : (9 * (k2.val + 1) + k3.val) < 45) : waitW (F := F) (9 * (k2.val + 1) + k3.val) h
    = wait2 (pWG (k0_off143 k2 k3) (k0_off143_inb k2 k3)) (pWU (k0_off143 k2 k3) (k0_off143_inb k2 k3)) (pW (k0_off142 k2 k3) (k0_off142_inb k2 k3))
      (pW (k0_off144 k2 k3) (k0_off144_inb k2 k3)) (semW (k0_off141 k2 k3) (k0_off141_inb k2 k3)) ((Memref.isWhole_whole _).wordExact_slice rfl _ (k0_off143_wordsi8 k2 k3)) ((Memref.isWhole_whole _).wordExact_slice rfl _ (k0_off143_wordsi8 k2 k3)) (((Memref.isWhole_whole _).wordExact_slice rfl _ (k0_off142_wordsi8 k2 k3)).reshape _ _) (((Memref.isWhole_whole _).wordExact_slice rfl _ (k0_off144_wordsi8 k2 k3)).reshape _ _) :=
  wait2_congr (pWG_congr (off143 k2 k3).symm) (pWU_congr (off143 k2 k3).symm) (pW_congr (off142 k2 k3).symm) (pW_congr (off144 k2 k3).symm) (semW_congr (off141 k2 k3).symm)

theorem refill_eq3 (k2 : Fin k0_t2_loop.trips) (k3 : Fin k0_t3_loop.trips) : refill (F := F) (9 * (k2.val + 1) + k3.val)
    = if h : k0_cond3 k2 k3 = 1#1 then start2 (pWG (k0_off147 k2 k3) (k0_off147_inb k2 k3 h)) (pWU (k0_off147 k2 k3) (k0_off147_inb k2 k3 h)) (pW (k0_off146 k2 k3) (k0_off146_inb k2 k3 h))
      (pW (k0_off148 k2 k3) (k0_off148_inb k2 k3 h)) (semW (k0_off145 k2 k3) (k0_off145_inb k2 k3 h))
      ((Memref.isWhole_whole _).wordExact_slice rfl _ (k0_off147_wordsi8 k2 k3 h)) ((Memref.isWhole_whole _).wordExact_slice rfl _ (k0_off147_wordsi8 k2 k3 h))
      (((Memref.isWhole_whole _).wordExact_slice rfl _ (k0_off146_wordsi8 k2 k3 h)).reshape _ _) (((Memref.isWhole_whole _).wordExact_slice rfl _ (k0_off148_wordsi8 k2 k3 h)).reshape _ _) ⟨Or.inl rfl, trivial⟩ ⟨Or.inl rfl, trivial⟩ else pure ⟨⟩ :=
  dite_iff (cond3 k2 k3).symm fun x y => start2_congr (pWG_congr (off147 k2 k3 y).symm) (pWU_congr (off147 k2 k3 y).symm) (pW_congr (off146 k2 k3 y).symm) (pW_congr (off148 k2 k3 y).symm) (semW_congr (off145 k2 k3 y).symm)

set_option maxRecDepth 65536 in
set_option maxHeartbeats 4000000 in
theorem body3_eq (k2 : Fin k0_t2_loop.trips) (mx0 : Mxu F) (b0 : BitVec 32) (b1 : IVec S54x512 32) (k3 : Fin k0_t3_loop.trips) (mx : Mxu F) :
    k0_t3_body aX (Memref.isWhole_whole _) aWG (Memref.isWhole_whole _) aSG (Memref.isWhole_whole _) aWU (Memref.isWhole_whole _) aSU (Memref.isWhole_whole _) aO (Memref.isWhole_whole _) bXR (Memref.isWhole_whole _) bXP (Memref.isWhole_whole _) bW (Memref.isWhole_whole _) bS (Memref.isWhole_whole _) bP (Memref.isWhole_whole _) bO (Memref.isWhole_whole _) cc0_scratch6 cc0_scratch7 cc0_scratch8 cc0_scratch9 k2 mx0 b0 b1 k3 mx = body3 (k2.val + 1) (lt2 k2) k3.val (lt3 k3) mx := by
  unfold k0_t3_body
  rw [k0_part120_eq_skeleton]; unfold k0_part120_skel
  rw [k0_part71_eq_skeleton]; unfold k0_part71_skel
  rw [k0_part72_eq_skeleton]; unfold k0_part72_skel
  unfold body3
  rw [waitW_eq3 k2 k3, refill_eq3 k2 k3, passes_congr (off150 k2 k3).symm (off149 k3).symm (funext fun r => (off151 k3 r).symm) (h1' := Nat.lt_of_succ_le (k0_off150_inb k2 k3 0)) (h2' := Nat.lt_of_succ_le (k0_off149_inb k3 0)) (h3' := row3_lt k3)]
  unfold wait2
  simp only [bind_assoc, pure_bind]
  refine seq_congr rfl fun _ => seq_congr rfl fun _ => dite_seq (fun h => ?_) ?_
  · rfl
  · simp only [k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton,
      k0_part73_skel, k0_part74_skel, k0_part75_skel, k0_part76_skel, k0_part77_skel, k0_part78_skel, k0_part79_skel, k0_part80_skel, k0_part81_skel, k0_part82_skel, k0_part83_skel, k0_part84_skel, k0_part85_skel, k0_part86_skel, k0_part87_skel, k0_part88_skel, k0_part89_skel, k0_part90_skel, k0_part91_skel, k0_part92_skel, k0_part93_skel, k0_part94_skel, k0_part95_skel, k0_part96_skel, k0_part97_skel, k0_part98_skel, k0_part99_skel, k0_part100_skel, k0_part101_skel, k0_part102_skel, k0_part103_skel, k0_part104_skel, k0_part105_skel, k0_part106_skel, k0_part107_skel, k0_part108_skel, k0_part109_skel, k0_part110_skel, k0_part111_skel, k0_part112_skel, k0_part113_skel, k0_part114_skel, k0_part115_skel, k0_part116_skel, k0_part117_skel, k0_part118_skel, k0_part119_skel, bind_assoc, pure_bind]
    simp only [passes, pass, tile, bind_assoc, pure_bind]
    repeat' refine seq_congr (by rfl) fun _ => ?_
    rfl

end Cert.Kernel.Hand
end
-- ==== Proof.Bits.Eq1.lean ====
module

public import proofs.«01_k».proof.Proof.Bits.Eq3

@[expose] public section

noncomputable section

namespace Cert.Kernel.Hand

open Cert.Kernel Cert.Kernel.Gen
open Idealize.ShloMosaic Idealize.ShloMosaic.TcCoe
open Idealize.SL.Sem

variable {F : FTy → Type} [BitOps F]

/-! ## The first block's trip -/

theorem off1 : ∀ (k1 : Fin k0_t1_loop.trips), k0_off1 k1 = ![k1.val % 6] := by decide +kernel
theorem off2 : ∀ (k1 : Fin k0_t1_loop.trips), k0_off2 k1 = ![k1.val % 6, 0, 0, 0] := by decide +kernel
theorem off3 : ∀ (k1 : Fin k0_t1_loop.trips), k0_off3 k1 = ![k1.val % 9 * 1536, k1.val / 9 * 512] := by decide +kernel
theorem off4 : ∀ (k1 : Fin k0_t1_loop.trips), k0_off4 k1 = ![k1.val % 6, 1, 0, 0] := by decide +kernel
theorem off5 : ∀ (k1 : Fin k0_t1_loop.trips), k0_cond1 k1 = 1#1 → k0_off5 k1 = ![(k1.val + 5) % 6] := by decide +kernel
theorem off6 : ∀ (k1 : Fin k0_t1_loop.trips), k0_cond1 k1 = 1#1 → k0_off6 k1 = ![(k1.val + 5) % 6, 0, 0, 0] := by decide +kernel
theorem off7 : ∀ (k1 : Fin k0_t1_loop.trips), k0_cond1 k1 = 1#1 → k0_off7 k1 = ![(k1.val + 5) % 9 * 1536, (k1.val + 5) / 9 * 512] := by decide +kernel
theorem off8 : ∀ (k1 : Fin k0_t1_loop.trips), k0_cond1 k1 = 1#1 → k0_off8 k1 = ![(k1.val + 5) % 6, 1, 0, 0] := by decide +kernel
theorem cond1 : ∀ (k1 : Fin k0_t1_loop.trips), (k0_cond1 k1 = 1#1 ↔ k1.val + 5 < 45) := by decide +kernel
theorem off9 : ∀ (k1 : Fin k0_t1_loop.trips), k0_off9 k1 = ![k1.val] := by decide +kernel
theorem off10 : ∀ (k1 : Fin k0_t1_loop.trips), k0_off10 k1 = ![0, k1.val, 0, 0] := by decide +kernel
theorem off12 : ∀ (k1 : Fin k0_t1_loop.trips), k0_off12 k1 = ![1, k1.val, 0, 0] := by decide +kernel
theorem off11a : ∀ (k1 : Fin k0_t1_loop.trips), k0_off11 k1 0#32 = ![0, 0 * 13824 + k1.val * 1536] := by decide +kernel
theorem off11b : ∀ (k1 : Fin k0_t1_loop.trips), k0_off11 k1 13824#32 = ![0, 1 * 13824 + k1.val * 1536] := by decide +kernel
theorem off66 : ∀ (k1 : Fin k0_t1_loop.trips), k0_off66 k1 0 = k1.val % 6 := by decide +kernel
theorem off15 : ∀ (k1 : Fin k0_t1_loop.trips), k0_off15 k1 0 = k1.val := by decide +kernel
theorem off70 : ∀ (k1 : Fin k0_t1_loop.trips), k0_off70 k1 0 = k1.val := by decide +kernel
theorem off67 : ∀ (k1 : Fin k0_t1_loop.trips) (r : Fin 6), k0_off67 k1 (BitVec.ofNat 32 r.val) 2 = 6 * k1.val + r.val := by decide +kernel

theorem lt1 (k1 : Fin k0_t1_loop.trips) : k1.val < 9 := Nat.lt_of_lt_of_eq k1.isLt trips1

theorem inters_congr {c c' : ℕ} {h h'} {n p e} (ec : c = c') : inters (F := F) (c := c) h n p e = inters (c := c') h' n p e := by subst ec; rfl
theorem row1_lt (k1 : Fin k0_t1_loop.trips) (r : Fin 6) : k0_off67 k1 (BitVec.ofNat 32 r.val) 2 < 54 := by
  rw [off67]; have := lt1 k1; omega
theorem sl1_lt (k1 : Fin k0_t1_loop.trips) : k0_off66 k1 0 < 6 := by rw [off66]; omega
theorem xp1_lt (k1 : Fin k0_t1_loop.trips) : k0_off15 k1 0 < 9 := by rw [off15]; exact lt1 k1
theorem ci1_lt (k1 : Fin k0_t1_loop.trips) : k0_off70 k1 0 < 9 := by rw [off70]; exact lt1 k1

theorem waitW_eq1 (k1 : Fin k0_t1_loop.trips) (h : k1.val < 45) : waitW (F := F) k1.val h
    = wait2 (pWG (k0_off3 k1) (k0_off3_inb k1)) (pWU (k0_off3 k1) (k0_off3_inb k1)) (pW (k0_off2 k1) (k0_off2_inb k1))
      (pW (k0_off4 k1) (k0_off4_inb k1)) (semW (k0_off1 k1) (k0_off1_inb k1)) ((Memref.isWhole_whole _).wordExact_slice rfl _ (k0_off3_wordsi8 k1)) ((Memref.isWhole_whole _).wordExact_slice rfl _ (k0_off3_wordsi8 k1)) (((Memref.isWhole_whole _).wordExact_slice rfl _ (k0_off2_wordsi8 k1)).reshape _ _) (((Memref.isWhole_whole _).wordExact_slice rfl _ (k0_off4_wordsi8 k1)).reshape _ _) :=
  wait2_congr (pWG_congr (off3 k1).symm) (pWU_congr (off3 k1).symm) (pW_congr (off2 k1).symm) (pW_congr (off4 k1).symm) (semW_congr (off1 k1).symm)

theorem waitX_eq1 (k1 : Fin k0_t1_loop.trips) (h : k1.val < 9) : waitX (F := F) k1.val h
    = wait2 (pX (k0_off11 k1 0#32) (k0_off11_inb k1 0)) (pX (k0_off11 k1 13824#32) (k0_off11_inb k1 1)) (pXR (k0_off10 k1) (k0_off10_inb k1))
      (pXR (k0_off12 k1) (k0_off12_inb k1)) (semX (k0_off9 k1) (k0_off9_inb k1)) ((Memref.isWhole_whole _).wordExact_slice rfl _ (k0_off11_wordsbf16 k1 0)) ((Memref.isWhole_whole _).wordExact_slice rfl _ (k0_off11_wordsbf16 k1 1)) (((Memref.isWhole_whole _).wordExact_slice rfl _ (k0_off10_wordsbf16 k1)).reshape _ _) (((Memref.isWhole_whole _).wordExact_slice rfl _ (k0_off12_wordsbf16 k1)).reshape _ _) :=
  wait2_congr (pX_congr (off11a k1).symm) (pX_congr (off11b k1).symm) (pXR_congr (off10 k1).symm) (pXR_congr (off12 k1).symm) (semX_congr (off9 k1).symm)

theorem refill_eq1 (k1 : Fin k0_t1_loop.trips) : refill (F := F) k1.val
    = if h : k0_cond1 k1 = 1#1 then start2 (pWG (k0_off7 k1) (k0_off7_inb k1 h)) (pWU (k0_off7 k1) (k0_off7_inb k1 h)) (pW (k0_off6 k1) (k0_off6_inb k1 h))
      (pW (k0_off8 k1) (k0_off8_inb k1 h)) (semW (k0_off5 k1) (k0_off5_inb k1 h))
      ((Memref.isWhole_whole _).wordExact_slice rfl _ (k0_off7_wordsi8 k1 h)) ((Memref.isWhole_whole _).wordExact_slice rfl _ (k0_off7_wordsi8 k1 h))
      (((Memref.isWhole_whole _).wordExact_slice rfl _ (k0_off6_wordsi8 k1 h)).reshape _ _) (((Memref.isWhole_whole _).wordExact_slice rfl _ (k0_off8_wordsi8 k1 h)).reshape _ _) ⟨Or.inl rfl, trivial⟩ ⟨Or.inl rfl, trivial⟩ else pure ⟨⟩ :=
  dite_iff (cond1 k1).symm fun x y => start2_congr (pWG_congr (off7 k1 y).symm) (pWU_congr (off7 k1 y).symm) (pW_congr (off6 k1 y).symm) (pW_congr (off8 k1 y).symm) (semW_congr (off5 k1 y).symm)

set_option maxRecDepth 65536 in
set_option maxHeartbeats 8000000 in
theorem body1_eq (mx0 : Mxu F) (k1 : Fin k0_t1_loop.trips) (mx : Mxu F) :
    k0_t1_body aX (Memref.isWhole_whole _) aWG (Memref.isWhole_whole _) aSG (Memref.isWhole_whole _) aWU (Memref.isWhole_whole _) aSU (Memref.isWhole_whole _) aO (Memref.isWhole_whole _) bXR (Memref.isWhole_whole _) bXP (Memref.isWhole_whole _) bW (Memref.isWhole_whole _) bS (Memref.isWhole_whole _) bP (Memref.isWhole_whole _) bO (Memref.isWhole_whole _) cc0_scratch6 cc0_scratch7 cc0_scratch8 cc0_scratch9 mx0 k1 mx = body1 k1.val (lt1 k1) mx := by
  unfold k0_t1_body
  rw [k0_part68_eq_skeleton]; unfold k0_part68_skel
  rw [k0_part2_eq_skeleton]; unfold k0_part2_skel
  rw [k0_part3_eq_skeleton]; unfold k0_part3_skel
  unfold body1
  rw [waitW_eq1 k1, refill_eq1 k1, waitX_eq1 k1, inters_congr (off15 k1).symm (h' := xp1_lt k1),
    passes_congr (off66 k1).symm (off70 k1).symm (funext fun r => (off67 k1 r).symm) (h1' := sl1_lt k1) (h2' := ci1_lt k1) (h3' := row1_lt k1)]
  unfold wait2
  simp only [bind_assoc, pure_bind]
  refine seq_congr rfl fun _ => seq_congr rfl fun _ => dite_seq (fun h => ?_) ?_
  · rfl
  · simp only [bind_assoc, pure_bind]
    refine seq_congr rfl fun _ => ?_
    simp only [k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton,
      k0_part4_skel, k0_part5_skel, k0_part6_skel, k0_part7_skel, k0_part8_skel, k0_part9_skel, k0_part10_skel, k0_part11_skel, k0_part12_skel, k0_part13_skel, k0_part14_skel, k0_part15_skel, k0_part16_skel, k0_part17_skel, k0_part18_skel, k0_part19_skel, k0_part20_skel, k0_part21_skel, k0_part22_skel, k0_part23_skel, k0_part24_skel, k0_part25_skel, k0_part26_skel, k0_part27_skel, k0_part28_skel, k0_part29_skel, k0_part30_skel, k0_part31_skel, k0_part32_skel, k0_part33_skel, k0_part34_skel, k0_part35_skel, k0_part36_skel, k0_part37_skel, k0_part38_skel, k0_part39_skel, k0_part40_skel, k0_part41_skel, k0_part42_skel, k0_part43_skel, k0_part44_skel, k0_part45_skel, k0_part46_skel, k0_part47_skel, k0_part48_skel, k0_part49_skel, k0_part50_skel, k0_part51_skel, k0_part52_skel, k0_part53_skel, k0_part54_skel, k0_part55_skel, k0_part56_skel, k0_part57_skel, k0_part58_skel, k0_part59_skel, k0_part60_skel, k0_part61_skel, k0_part62_skel, k0_part63_skel, k0_part64_skel, k0_part65_skel, k0_part66_skel, k0_part67_skel, bind_assoc, pure_bind]
    simp only [inters, inter, bind_assoc, pure_bind]
    simp only [passes, pass, tile, bind_assoc, pure_bind]
    repeat' refine seq_congr (by rfl) fun _ => ?_
    rfl

end Cert.Kernel.Hand
end
-- ==== Proof.Bits.Eq2.lean ====
module

public import proofs.«01_k».proof.Proof.Bits.Eq1

@[expose] public section

set_option pp.maxSteps 40

noncomputable section

namespace Cert.Kernel.Hand

open Cert.Kernel Cert.Kernel.Gen
open Idealize.ShloMosaic Idealize.ShloMosaic.TcCoe
open Idealize.SL.Sem

variable {F : FTy → Type} [BitOps F]

/-! ## A block, and the kernel -/

theorem off129 : ∀ (k2 : Fin k0_t2_loop.trips), k0_off129 k2 = ![(k2.val + 1) % 2] := by decide +kernel
theorem off130 : ∀ (k2 : Fin k0_t2_loop.trips), k0_off130 k2 = ![(k2.val + 1) % 2, 0, 0, 0] := by decide +kernel
theorem off131 : ∀ (k2 : Fin k0_t2_loop.trips), k0_off131 k2 = ![0, (k2.val + 1) * 512] := by decide +kernel
theorem off132 : ∀ (k2 : Fin k0_t2_loop.trips), k0_off132 k2 = ![(k2.val + 1) % 2, 1, 0, 0] := by decide +kernel
theorem off133 : ∀ (k2 : Fin k0_t2_loop.trips), k0_off133 k2 0 = (k2.val + 1) % 2 := by decide +kernel
theorem off137 : ∀ (k2 : Fin k0_t2_loop.trips), k0_cond2 k2 = 1#1 → k0_off137 k2 = ![(k2.val + 1 + 1) % 2] := by decide +kernel
theorem off138 : ∀ (k2 : Fin k0_t2_loop.trips), k0_cond2 k2 = 1#1 → k0_off138 k2 = ![(k2.val + 1 + 1) % 2, 0, 0, 0] := by decide +kernel
theorem off139 : ∀ (k2 : Fin k0_t2_loop.trips), k0_cond2 k2 = 1#1 → k0_off139 k2 = ![0, (k2.val + 1 + 1) * 512] := by decide +kernel
theorem off140 : ∀ (k2 : Fin k0_t2_loop.trips), k0_cond2 k2 = 1#1 → k0_off140 k2 = ![(k2.val + 1 + 1) % 2, 1, 0, 0] := by decide +kernel
theorem cond2 : ∀ (k2 : Fin k0_t2_loop.trips), (k0_cond2 k2 = 1#1 ↔ (k2.val + 1) + 1 < 5) := by decide +kernel
theorem cond4 : ∀ (k2 : Fin k0_t2_loop.trips), (k0_cond4 k2 = 1#1 ↔ 2 ≤ (k2.val + 1)) := by decide +kernel
theorem off217 : ∀ (k2 : Fin k0_t2_loop.trips), k0_cond4 k2 = 1#1 → k0_off217 k2 = ![((k2.val + 1) - 2) % 2] := by decide +kernel
theorem off218 : ∀ (k2 : Fin k0_t2_loop.trips), k0_cond4 k2 = 1#1 → k0_off218 k2 = ![0, ((k2.val + 1) - 2) * 512] := by decide +kernel
theorem off219 : ∀ (k2 : Fin k0_t2_loop.trips), k0_cond4 k2 = 1#1 → k0_off219 k2 = ![((k2.val + 1) - 2) % 2, 0, 0] := by decide +kernel
theorem off220 : ∀ (k2 : Fin k0_t2_loop.trips), k0_off220 k2 0 = (k2.val + 1) % 2 := by decide +kernel
theorem off222 : ∀ (k2 : Fin k0_t2_loop.trips), k0_off222 k2 = ![0, (k2.val + 1) * 512] := by decide +kernel
theorem off223 : ∀ (k2 : Fin k0_t2_loop.trips), k0_off223 k2 = ![(k2.val + 1) % 2, 0, 0] := by decide +kernel

theorem pairs_congr {sl sl' : ℕ} {h h'} {g hg} (e : sl = sl') : pairs (F := F) (sl := sl) h g hg = pairs (sl := sl') h' g hg := by subst e; rfl
theorem epi_congr {sl sl' : ℕ} {h h'} (e : sl = sl') (mx : Mxu F) : epi (F := F) (sl := sl) h mx = epi (sl := sl') h' mx := by subst e; rfl
theorem s2_lt (k2 : Fin k0_t2_loop.trips) : k0_off133 k2 0 < 2 := by rw [off133]; omega
theorem o2_lt (k2 : Fin k0_t2_loop.trips) : k0_off220 k2 0 < 2 := by rw [off220]; omega

theorem waitS_eq2 (k2 : Fin k0_t2_loop.trips) : waitS (F := F) (k2.val + 1) (lt2 k2)
    = wait2 (pSG (k0_off131 k2) (k0_off131_inb k2)) (pSU (k0_off131 k2) (k0_off131_inb k2)) (pS (k0_off130 k2) (k0_off130_inb k2))
      (pS (k0_off132 k2) (k0_off132_inb k2)) (semS (k0_off129 k2) (k0_off129_inb k2)) ((Memref.isWhole_whole _).wordExact_slice rfl _ (k0_off131_wordsbf16 k2)) ((Memref.isWhole_whole _).wordExact_slice rfl _ (k0_off131_wordsbf16 k2)) (((Memref.isWhole_whole _).wordExact_slice rfl _ (k0_off130_wordsbf16 k2)).reshape _ _) (((Memref.isWhole_whole _).wordExact_slice rfl _ (k0_off132_wordsbf16 k2)).reshape _ _) :=
  wait2_congr (pSG_congr (off131 k2).symm) (pSU_congr (off131 k2).symm) (pS_congr (off130 k2).symm) (pS_congr (off132 k2).symm) (semS_congr (off129 k2).symm)

theorem startS_eq2 (k2 : Fin k0_t2_loop.trips) : nextS (F := F) (k2.val + 1)
    = if h : k0_cond2 k2 = 1#1 then start2 (pSG (k0_off139 k2) (k0_off139_inb k2 h)) (pSU (k0_off139 k2) (k0_off139_inb k2 h)) (pS (k0_off138 k2) (k0_off138_inb k2 h))
      (pS (k0_off140 k2) (k0_off140_inb k2 h)) (semS (k0_off137 k2) (k0_off137_inb k2 h)) ((Memref.isWhole_whole _).wordExact_slice rfl _ (k0_off139_wordsbf16 k2 h)) ((Memref.isWhole_whole _).wordExact_slice rfl _ (k0_off139_wordsbf16 k2 h)) (((Memref.isWhole_whole _).wordExact_slice rfl _ (k0_off138_wordsbf16 k2 h)).reshape _ _) (((Memref.isWhole_whole _).wordExact_slice rfl _ (k0_off140_wordsbf16 k2 h)).reshape _ _) ⟨Or.inl rfl, trivial⟩ ⟨Or.inl rfl, trivial⟩ else pure ⟨⟩ :=
  dite_iff (cond2 k2).symm fun x y => start2_congr (pSG_congr (off139 k2 y).symm) (pSU_congr (off139 k2 y).symm) (pS_congr (off138 k2 y).symm) (pS_congr (off140 k2 y).symm) (semS_congr (off137 k2 y).symm)

theorem waitO_eq2 (k2 : Fin k0_t2_loop.trips) : prevO (F := F) (k2.val + 1) (lt2 k2)
    = if h : k0_cond4 k2 = 1#1 then wait1 (pO (k0_off219 k2) (k0_off219_inb k2 h)) (pOut (k0_off218 k2) (k0_off218_inb k2 h))
      (semO (k0_off217 k2) (k0_off217_inb k2 h)) (((Memref.isWhole_whole _).wordExact_slice rfl _ (k0_off219_wordsbf16 k2 h)).reshape _ _) ((Memref.isWhole_whole _).wordExact_slice rfl _ (k0_off218_wordsbf16 k2 h)) else pure ⟨⟩ :=
  dite_iff (cond4 k2).symm fun x y => wait1_congr (pO_congr (off219 k2 y).symm) (pOut_congr (off218 k2 y).symm) (semO_congr (off217 k2 y).symm)

theorem startO_eq2 (k2 : Fin k0_t2_loop.trips) : startO (F := F) (k2.val + 1) (lt2 k2)
    = start1 (pO (k0_off223 k2) (k0_off223_inb k2)) (pOut (k0_off222 k2) (k0_off222_inb k2))
      (semO (k0_off129 k2) (k0_off129_inb k2)) (((Memref.isWhole_whole _).wordExact_slice rfl _ (k0_off223_wordsbf16 k2)).reshape _ _) ((Memref.isWhole_whole _).wordExact_slice rfl _ (k0_off222_wordsbf16 k2)) ⟨Or.inl rfl, trivial⟩ :=
  start1_congr (pO_congr (off223 k2).symm) (pOut_congr (off222 k2).symm) (semO_congr (off129 k2).symm)

theorem trips_eq (k2 : Fin k0_t2_loop.trips) (mx0 : Mxu F) (b0 : BitVec 32) (b1 : IVec S54x512 32) (mx : Mxu F) :
    trips (k2.val + 1) (lt2 k2) mx = Scf.Loop.for k0_t3_loop k0_t3_ok mx (k0_t3_body aX (Memref.isWhole_whole _) aWG (Memref.isWhole_whole _) aSG (Memref.isWhole_whole _) aWU (Memref.isWhole_whole _) aSU (Memref.isWhole_whole _) aO (Memref.isWhole_whole _) bXR (Memref.isWhole_whole _) bXP (Memref.isWhole_whole _) bW (Memref.isWhole_whole _) bS (Memref.isWhole_whole _) bP (Memref.isWhole_whole _) bO (Memref.isWhole_whole _) cc0_scratch6 cc0_scratch7 cc0_scratch8 cc0_scratch9 k2 mx0 b0 b1) := by
  unfold trips
  exact congrArg _ (funext fun k3 => funext fun m => (body3_eq k2 mx0 b0 b1 k3 m).symm)

set_option maxRecDepth 65536 in
set_option maxHeartbeats 4000000 in
theorem body2_eq (mx0 : Mxu F) (k2 : Fin k0_t2_loop.trips) (mx : Mxu F) :
    k0_t2_body aX (Memref.isWhole_whole _) aWG (Memref.isWhole_whole _) aSG (Memref.isWhole_whole _) aWU (Memref.isWhole_whole _) aSU (Memref.isWhole_whole _) aO (Memref.isWhole_whole _) bXR (Memref.isWhole_whole _) bXP (Memref.isWhole_whole _) bW (Memref.isWhole_whole _) bS (Memref.isWhole_whole _) bP (Memref.isWhole_whole _) bO (Memref.isWhole_whole _) cc0_scratch6 cc0_scratch7 cc0_scratch8 cc0_scratch9 mx0 k2 mx = body2 (k2.val + 1) (lt2 k2) mx := by
  unfold k0_t2_body
  simp only [k0_part121_eq_skeleton, k0_part122_eq_skeleton, k0_part123_eq_skeleton, k0_part124_eq_skeleton, k0_part125_eq_skeleton,
      k0_part121_skel, k0_part122_skel, k0_part123_skel, k0_part124_skel, k0_part125_skel, bind_assoc, pure_bind]
  unfold body2
  rw [waitS_eq2, startS_eq2, waitO_eq2, startO_eq2, pairs_congr (off133 k2).symm (h' := s2_lt k2), pairs_congr (off133 k2).symm (h' := s2_lt k2)]
  unfold wait2 pairs
  simp only [bind_assoc, pure_bind]
  iterate 14 refine seq_congr (by rfl) fun _ => ?_
  refine dite_seq (fun h => ?_) ?_
  · rfl
  simp only [bind_assoc, pure_bind]
  rw [trips_eq k2 mx]
  refine seq_congr (by rfl) fun mx' => ?_
  refine dite_seq (fun h => ?_) ?_
  · rfl
  simp only [epi_congr (off220 k2).symm (h' := o2_lt k2)]
  unfold epi
  simp only [bind_assoc, pure_bind]
  repeat' refine seq_congr (by rfl) fun _ => ?_
  rfl

set_option maxRecDepth 65536 in
set_option maxHeartbeats 4000000 in
/-- The kernel is the compact program. -/
theorem kernel_eq : cc0_int4_swiglu (F := F) aX (Memref.isWhole_whole _) aWG (Memref.isWhole_whole _) aSG (Memref.isWhole_whole _) aWU (Memref.isWhole_whole _) aSU (Memref.isWhole_whole _) aO (Memref.isWhole_whole _) bXR (Memref.isWhole_whole _) bXP (Memref.isWhole_whole _) bW (Memref.isWhole_whole _) bS (Memref.isWhole_whole _) bP (Memref.isWhole_whole _) bO (Memref.isWhole_whole _) cc0_scratch6 cc0_scratch7 cc0_scratch8 cc0_scratch9 = kernelP := by
  rw [cc0_int4_swiglu_eq_skeleton]; unfold cc0_int4_swiglu_skel
  simp only [k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton,
      k0_part126_skel, k0_part127_skel, k0_part128_skel, k0_part129_skel, k0_part130_skel, k0_part131_skel, k0_part132_skel, k0_part133_skel, k0_part134_skel, k0_part135_skel, bind_assoc, pure_bind]
  have h1 : ∀ mx0 : Mxu F, k0_t1_body aX (Memref.isWhole_whole _) aWG (Memref.isWhole_whole _) aSG (Memref.isWhole_whole _) aWU (Memref.isWhole_whole _) aSU (Memref.isWhole_whole _) aO (Memref.isWhole_whole _) bXR (Memref.isWhole_whole _) bXP (Memref.isWhole_whole _) bW (Memref.isWhole_whole _) bS (Memref.isWhole_whole _) bP (Memref.isWhole_whole _) bO (Memref.isWhole_whole _) cc0_scratch6 cc0_scratch7 cc0_scratch8 cc0_scratch9 mx0 = fun k mx => body1 k.val (Nat.lt_of_lt_of_eq k.isLt trips1) mx := fun mx0 => funext fun k => funext fun m => body1_eq mx0 k m
  have h2 : ∀ mx0 : Mxu F, k0_t2_body (F := F) aX (Memref.isWhole_whole _) aWG (Memref.isWhole_whole _) aSG (Memref.isWhole_whole _) aWU (Memref.isWhole_whole _) aSU (Memref.isWhole_whole _) aO (Memref.isWhole_whole _) bXR (Memref.isWhole_whole _) bXP (Memref.isWhole_whole _) bW (Memref.isWhole_whole _) bS (Memref.isWhole_whole _) bP (Memref.isWhole_whole _) bO (Memref.isWhole_whole _) cc0_scratch6 cc0_scratch7 cc0_scratch8 cc0_scratch9 mx0 = fun k mx => body2 (k.val + 1) (lt2 k) mx := fun mx0 => funext fun k => funext fun m => body2_eq mx0 k m
  simp only [h1, h2]
  unfold kernelP prologue startS startX startW startO waitS waitO start2 start1 wait2 wait1 pairs epi
  simp only [bind_assoc, pure_bind]
  repeat' refine seq_congr (by rfl) fun _ => ?_
  rfl

end Cert.Kernel.Hand
end
-- ==== Proof.Bits.Run.lean ====
/-
  The run of the program: every array it takes is left as it was, its result is `OT`, every cell reads zero.
-/
module

public import proofs.«01_k».proof.Proof.Bits.Cut
public import proofs.«01_k».proof.Proof.Bits.Eq2
public import proofs.«01_k».proof.Proof.Gen.Kernel.Frame
public import Idealize.ShloMosaic.Lib.Pipeline.KitQuiescent

@[expose] public section

set_option pp.maxSteps 60

noncomputable section

namespace Cert.Kernel.Hand

open Cert.Kernel Cert.Kernel.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]
local notation "𝕄" => MT nD τ sig Unit (Elt F) ℕ (UU nD τ) ℕ

variable (m : (ℓ : Loc nD τ sig) → Buf (Elt F) ℓ) (ρ : Dev nD → PrngReg)

theorem hmain' : Pipeline.HMain (Ix := Unit) (Name := ℕ) (U := UU nD τ) (Lvl := ℕ) cfgs 0 defs₀ 𝒱₀ m (main (F := F)) (V m) :=
  Pipeline.hmain_prefix cfgs 0 defs₀ 𝒱₀ m main hostOps0 hostOps0_sub hostOps0_fresh main_chain

/-- What the kernel finds in its argument arrays. -/
def inOf (c : Dev nD) : In F where
  x := V m c main_v0
  wg := V m c main_arg1
  sg := V m c main_arg2
  wu := V m c main_arg3
  su := V m c main_arg4

abbrev osem0 : Fin 19 → SemLoc sig := fun j => SemLoc.dma j
theorem ownSemFacts0 : Pipeline.OwnSemFacts cfg0.spec osem0 := by decide

theorem ownSems_eq (c : Dev nD) :
    (Pipeline.ownSems0 (Ix := Unit) (Name := ℕ) (U := UU nD τ) (Lvl := ℕ) (Val := Elt F) (τ := τ) osem0 c : sProp 𝕄)
      = iprop(zero c 0 ∗ zero c 1 ∗ zero c 2 ∗ zero c 3 ∗ zero c 4 ∗ zero c 5 ∗ zero c 6 ∗ zero c 7 ∗ zero c 8
          ∗ zero c 9 ∗ zero c 10 ∗ zero c 11 ∗ zero c 12 ∗ zero c 13 ∗ zero c 14 ∗ zero c 15 ∗ zero c 16 ∗ zero c 17 ∗ zero c 18) := by
  rw [Pipeline.ownSems0_eq_of_list c osem0 [0, 1, 2, 3, 4, 5, 6, 7, 8, 9, 10, 11, 12, 13, 14, 15, 16, 17, 18] (by decide) (by decide)]; rfl

theorem zX_eq (c : Dev nD) : (Seq (zX (F := F) c) 9 0 : sProp 𝕄) = iprop(zero c 0 ∗ zero c 1 ∗ zero c 2 ∗ zero c 3 ∗ zero c 4 ∗ zero c 5 ∗ zero c 6 ∗ zero c 7 ∗ zero c 8 ∗ emp) := rfl
theorem zW_eq (c : Dev nD) : (Seq (zW (F := F) c) 6 0 : sProp 𝕄) = iprop(zero c 9 ∗ zero c 10 ∗ zero c 11 ∗ zero c 12 ∗ zero c 13 ∗ zero c 14 ∗ emp) := rfl
theorem zS_eq (c : Dev nD) : (Seq (zS (F := F) c) 2 0 : sProp 𝕄) = iprop(zero c 15 ∗ zero c 16 ∗ emp) := rfl
theorem zO_eq (c : Dev nD) : (Seq (zO (F := F) c) 2 0 : sProp 𝕄) = iprop(zero c 17 ∗ zero c 18 ∗ emp) := rfl

theorem cells_of (c : Dev nD) : (Pipeline.ownSems0 (Ix := Unit) (Name := ℕ) (U := UU nD τ) (Lvl := ℕ) (Val := Elt F) (τ := τ) osem0 c : sProp 𝕄) ⊢ Cells (F := F) c := by
  rw [ownSems_eq]
  unfold Cells
  rw [zX_eq, zW_eq, zS_eq, zO_eq]
  iintro ⟨H0, H1, H2, H3, H4, H5, H6, H7, H8, H9, H10, H11, H12, H13, H14, H15, H16, H17, H18⟩
  isplitl [H0 H1 H2 H3 H4 H5 H6 H7 H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iempintro
  isplitl [H9 H10 H11 H12 H13 H14]
  · isplitl [H9]; · iexact H9
    isplitl [H10]; · iexact H10
    isplitl [H11]; · iexact H11
    isplitl [H12]; · iexact H12
    isplitl [H13]; · iexact H13
    isplitl [H14]; · iexact H14
    iempintro
  isplitl [H15 H16]
  · isplitl [H15]; · iexact H15
    isplitl [H16]; · iexact H16
    iempintro
  isplitl [H17]; · iexact H17
  isplitl [H18]; · iexact H18
  iempintro
theorem cells_to (c : Dev nD) : Cells (F := F) c ⊢ (Pipeline.ownSems0 (Ix := Unit) (Name := ℕ) (U := UU nD τ) (Lvl := ℕ) (Val := Elt F) (τ := τ) osem0 c : sProp 𝕄) := by
  rw [ownSems_eq]
  unfold Cells
  rw [zX_eq, zW_eq, zS_eq, zO_eq]
  iintro ⟨⟨H0, H1, H2, H3, H4, H5, H6, H7, H8, -⟩, ⟨H9, H10, H11, H12, H13, H14, -⟩, ⟨H15, H16, -⟩, ⟨H17, H18, -⟩⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

theorem wp_mono' (c : Dev nD) {P : sProp 𝕄} {p : Pr F PUnit} {Q R : PUnit → sProp 𝕄} (h : P ⊢ run c p Q) :
    iprop(P ∗ (∀ a, Q a -∗ R a)) ⊢ run c p R := by
  refine (BIClass.sep_mono h .rfl).trans ?_
  exact wp_wand_r frame (wpE defs₀ 𝒱₀ (c : Thread nD τ) none) Set.univ

/-- Before the one point, and after it. -/
def ΦK (c : Dev nD) : ℕ → sProp 𝕄
  | 0 => iprop(Args (inOf m c) c ∗ Cells (F := F) c ∗ Scratch (F := F) c ∗ (∃ f, whole (F := F) c aO f))
  | _ + 1 => iprop(Args (inOf m c) c ∗ Cells (F := F) c ∗ Scratch (F := F) c ∗ whole c aO (OT (inOf m c)))

def dats (_ : Fin 1) (c : Dev nD) : Dat τ (Elt F) Unit ℕ (UU nD τ) ℕ cfg0 c where
  A w := V m c (Pipeline.arrRef cfg0.spec w)
  after w t := w.elim0
  Φ t := ΦK m c t.val
  q _ := fullShare
  owed _ := 0

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) 𝒱₀ () Set.univ := fun t => by
  have hw : ∀ P : Fin cfg0.W → sProp 𝕄, bigSep Finset.univ P = iprop(emp) := fun P => by
    rw [show (Finset.univ : Finset (Fin cfg0.W)) = ∅ from rfl, BI.bigSep_empty]; rfl
  rw [hw, defs₀_row]
  simp only [hw]
  have ht : t.val = 0 := congrArg Fin.val (fin_N0 t)
  rw [show (dats m 0 c).Φ t.castSucc = ΦK m c 0 from congrArg (ΦK m c) ht, show (dats m 0 c).Φ t.succ = ΦK m c 1 from congrArg (fun n => ΦK m c (n + 1)) ht]
  unfold bodyAt0
  rw [kernel_eq]
  unfold Dat.owesAt Pipeline.owesWithin
  rw [show (dats m 0 c).owed t.castSucc = 0 from rfl, show (dats m 0 c).owed t.succ = 0 from rfl]
  have h := wp_kernel (F := F) (inOf m c) c
  unfold ΦK
  iintro ⟨⟨HA, HC, HS, HF⟩, ⟨%W, -, HW⟩, -⟩
  iapply (wp_mono' c h)
  isplitl [HA HC HS HF HW]
  · isplitl [HA]; · iexact HA
    isplitl [HC]; · iexact HC
    isplitl [HS]; · iexact HS
    isplitl [HW]
    · unfold Ow; iexists W; iexact HW
    iexact HF
  unfold Ow
  iintro %_ ⟨HA, HC, HS, ⟨%W', HW⟩, HF⟩
  isplitl [HA HC HS HF]
  · isplitl [HA]; · iexact HA
    isplitl [HC]; · iexact HC
    isplitl [HS] <;> iassumption
  isplitl [HW]
  · iexists W'; isplitr; · ipureintro; exact fun _ _ => Or.inl trivial
    iexact HW
  iempintro

/-- What is known of the memory at the end. -/
def QY (c : Dev nD) (s : MemSt nD τ sig (Elt F)) : Prop :=
  s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_v1) = OT (inOf m c)

theorem run_main : θ_run defs (onTc (τ := τ) (main (F := F))) ⟨m, fun _ => 0, ρ⟩ (fun r => (∀ c : Dev nD, QY m c r.2) ∧ r.2.sem = fun _ => 0) := by
  classical
  exact Pipeline.θ_run_region_kit_quiescent cfgs (dats m) () 0 launch0 ownSemFacts0 EP defs₀ 𝒱₀ m ρ main
    (fun c => (body_obligation m c).loose) (fun c w => w.elim0) (fun _ _ => rfl)
    (G := fun _ => iprop(emp)) (u₀ := (Rounds.initOf (Pipeline.cells cfgs launch0.cellOf_inj) (Pipeline.launchToks cfgs launch0.cellOf_inj), 1))
    (hu₀ := by
      iintro Hu
      ihave H' := (ownU_pair _ _) $$ Hu
      icases H' with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m) (hmain := hmain' m) (hA := fun _ _ => rfl)
    (X := fun c => iprop(Args (inOf m c) c ∗ Cells (F := F) c ∗ (∃ f, whole (F := F) c aO f)))
    (Y := fun c => iprop(Args (inOf m c) c ∗ whole c aO (OT (inOf m c))))
    (Z := fun c => iprop(((c : Thread nD τ).loc main_arg0) ↦{fullShare} V m c main_arg0))
    (hX := fun c => by
      rw [unscopedRest0_eq]
      iintro ⟨⟨H0, H1, H2, H3, H4, HX, HO⟩, HC, -⟩
      imodintro
      isplitr [H0]
      · isplitl [H1 H2 H3 H4 HX]
        · unfold Args
          isplitl [HX]; · iexact HX
          isplitl [H1]; · iexact H1
          isplitl [H2]; · iexact H2
          isplitl [H3]; · iexact H3
          iexact H4
        isplitl [HC]
        · iapply (cells_of (F := F) c); iexact HC
        iexists _; iexact HO
      iexact H0)
    (hin := fun c => by
      rw [scopedRest0_eq]
      rw [show (dats m 0 c).Φ 0 = ΦK m c 0 from rfl]
      unfold ΦK
      iintro ⟨⟨HA, HC, HF⟩, HS⟩
      isplitl [HA]; · iexact HA
      isplitl [HC]; · iexact HC
      isplitl [HS]
      · unfold Scratch; iexact HS
      iexact HF)
    (hout := fun c => by
      rw [scopedRest0_eq]
      rw [show (dats m 0 c).Φ (Fin.last cfg0.N) = ΦK m c 1 from congrArg (ΦK m c) N_0]
      unfold ΦK
      iintro ⟨HA, HC, HS, HF⟩
      isplitl [HA HF]
      · isplitl [HA] <;> iassumption
      isplitl [HC]
      · iapply (cells_to (F := F) c); iexact HC
      unfold Scratch; iexact HS)
    (QY := QY m)
    (hY := fun c s' => by
      unfold Args
      iintro ⟨⟨⟨HX, H1, H2, H3, H4⟩, HO⟩, H0, HSI⟩
      icombine HSI H0 gives %h0
      icombine HSI H1 gives %h1
      icombine HSI H2 gives %h2
      icombine HSI H3 gives %h3
      icombine HSI H4 gives %h4
      icombine HSI HO gives %h5
      imodintro
      isplitr
      · ipureintro
        exact ⟨(funext fun i => h0 i (Finset.mem_univ i)).trans (V_main_arg0 m c), (funext fun i => h1 i (Finset.mem_univ i)).trans (V_main_arg1 m c),
          (funext fun i => h2 i (Finset.mem_univ i)).trans (V_main_arg2 m c), (funext fun i => h3 i (Finset.mem_univ i)).trans (V_main_arg3 m c),
          (funext fun i => h4 i (Finset.mem_univ i)).trans (V_main_arg4 m c), funext fun i => h5 i (Finset.mem_univ i)⟩
      iexact HSI)
    (hQ := fun s h hz => ⟨fun c => (h c).2, hz⟩)

end Cert.Kernel.Hand
end
-- ==== Proof.Ideal.Prog.lean ====
module

public import proofs.«01_k».proof.Proof.Gen.KernelIdeal.Skeleton
public import proofs.«01_k».proof.Proof.Gen.KernelIdeal.Points

@[expose] public section

noncomputable section

namespace Cert.KernelIdeal.Hand

open Cert.KernelIdeal Cert.KernelIdeal.Gen
open Idealize.ShloMosaic Idealize.ShloMosaic.TcCoe
open Idealize.SL.Sem

variable {F : FTy → Type} [FloatOps F]

abbrev Pr (F : FTy → Type) [FloatOps F] (α : Type) := Prog (TpuEff nD τ sig (Elt F) Λ₀ .tc) α

theorem seq_congr {α β : Type} {p p' : Pr F α} {f f' : α → Pr F β} (h : p = p') (hf : ∀ a, f a = f' a) : p >>= f = p' >>= f' := by
  rw [h, funext hf]

theorem dite_seq {α β : Type} {c : Prop} [Decidable c] {B : c → Pr F α} {R : Pr F α} {K : α → Pr F β} {A : c → Pr F PUnit} {P : Pr F β}
    (h₁ : ∀ h, B h = A h >>= fun _ => R) (h₂ : R >>= K = P) :
    (dite c B (fun _ => R)) >>= K = dite c A (fun _ => pure ⟨⟩) >>= fun _ => P := by
  by_cases h : c
  · rw [dif_pos h, dif_pos h, h₁ h, bind_assoc, h₂]
  · rw [dif_neg h, dif_neg h, h₂, pure_bind]

abbrev aX : Memref sig .tc .hbm S128x27648 .bf16 := Memref.whole main_v0
abbrev aWG : Memref sig .tc .hbm S13824x2560 .i8 := Memref.whole main_arg1
abbrev aSG : Memref sig .tc .hbm S216x2560 .bf16 := Memref.whole main_arg2
abbrev aWU : Memref sig .tc .hbm S13824x2560 .i8 := Memref.whole main_arg3
abbrev aSU : Memref sig .tc .hbm S216x2560 .bf16 := Memref.whole main_arg4
abbrev aO : Memref sig .tc .hbm S128x2560 .bf16 := Memref.whole main_v1
abbrev bXR : Memref sig .tc .vmem S2x9x128x1536 .bf16 := Memref.whole cc0_scratch0
abbrev bXP : Memref sig .tc .vmem S9x128x3072 .bf16 := Memref.whole cc0_scratch1
abbrev bW : Memref sig .tc .vmem S6x2x1536x512 .i8 := Memref.whole cc0_scratch2
abbrev bS : Memref sig .tc .vmem S2x2x216x512 .bf16 := Memref.whole cc0_scratch3
abbrev bP : Memref sig .tc .vmem S2x2x54x2x512 .bf16 := Memref.whole cc0_scratch4
abbrev bO : Memref sig .tc .vmem S2x128x512 .bf16 := Memref.whole cc0_scratch5

/-! ## The twelve passes of a trip -/

theorem xOff_inb {ci : ℕ} (h : ci < 9) (p : Fin 12) : ∀ a, (![ci, 0, 256 * p.val] : Fin 3 → ℕ) a + S1x128x256.size a ≤ S9x128x3072.size a := by
  have := p.isLt; intro a; fin_cases a
  · show ci + 1 ≤ 9; omega
  · show 0 + 128 ≤ 128; omega
  · show 256 * p.val + 256 ≤ 3072; omega

theorem wOff_inb {sl : ℕ} (h : sl < 6) (g t : Fin 2) (p : Fin 12) :
    ∀ a, (![sl, g.val, 128 * p.val, 256 * t.val] : Fin 4 → ℕ) a + S1x1x128x256.size a ≤ S6x2x1536x512.size a := by
  have := p.isLt; have := g.isLt; have := t.isLt; intro a; fin_cases a
  · show sl + 1 ≤ 6; omega
  · show g.val + 1 ≤ 2; omega
  · show 128 * p.val + 128 ≤ 1536; omega
  · show 256 * t.val + 256 ≤ 512; omega

theorem sOff_inb {row : ℕ} (h : row < 54) (g t : Fin 2) (p : Fin 12) :
    ∀ a, (![g.val, p.val % 2, row, 0, 256 * t.val] : Fin 5 → ℕ) a + S1x1x1x2x256.size a ≤ S2x2x54x2x512.size a := by
  have := p.isLt; have := g.isLt; have := t.isLt; intro a; fin_cases a
  · show g.val + 1 ≤ 2; omega
  · show p.val % 2 + 1 ≤ 2; omega
  · show row + 1 ≤ 54; omega
  · show 0 + 2 ≤ 2; omega
  · show 256 * t.val + 256 ≤ 512; omega

/-- The pass's left operand, as the kernel reads it. -/
abbrev lhsOf (x : Vec F S1x128x256 .bf16) : FVec F S128x256 .bf16 := k0_pay227 x
/-- A dequantized weight tile from its packed words and its row of scale pairs. -/
abbrev tileOf (w : Vec F S1x1x128x256 .i8) (s : Vec F S1x1x1x2x256 .bf16) : FVec F S256x256 .bf16 := k0_pay228 w s

/-- Push the tile of column half `t` of matrix `g` for pass `p`. -/
def tile {sl : ℕ} (hsl : sl < 6) {row : ℕ} (hrow : row < 54) (g t : Fin 2) (p : Fin 12) (mx : Mxu F) : Pr F (Mxu F) := do
  let w : Vec F S1x1x128x256 .i8 ← Prog.lift (.load bW (Rect.unit (s := S6x2x1536x512) ![sl, g.val, 128 * p.val, 256 * t.val] S1x1x128x256.size (wOff_inb hsl g t p)).toLoadRect (View.loadsAt_vmem h_S1x1x128x256))
  let s : Vec F S1x1x1x2x256 .bf16 ← Prog.lift (.load bP (Rect.unit (s := S2x2x54x2x512) ![g.val, p.val % 2, row, 0, 256 * t.val] S1x1x1x2x256.size (sOff_inb hrow g t p)).toLoadRect (View.loadsAt_vmem h_S1x1x1x2x256))
  mx.pushRhs g t false (tileOf w s)

/-- One pass: the left operand against the four tiles. -/
def pass {sl : ℕ} (hsl : sl < 6) {ci : ℕ} (hci : ci < 9) {row : ℕ} (hrow : row < 54) (p : Fin 12) (mx : Mxu F) : Pr F (Mxu F) := do
  let x : Vec F S1x128x256 .bf16 ← Prog.lift (.load bXP (Rect.unit (s := S9x128x3072) ![ci, 0, 256 * p.val] S1x128x256.size (xOff_inb hci p)).toLoadRect (View.loadsAt_vmem h_S1x128x256))
  let mx ← tile hsl hrow 0 0 p mx
  let mx ← tile hsl hrow 1 0 p mx
  let mx := (mx.accLhs 0 0 0 (lhsOf x) fits_0_128).accLhs 1 0 0 (lhsOf x) fits_0_128
  let mx ← tile hsl hrow 0 1 p mx
  let mx ← tile hsl hrow 1 1 p mx
  pure ((mx.accLhs 0 1 32 (lhsOf x) fits_32_128).accLhs 1 1 32 (lhsOf x) fits_32_128)

/-- Passes `p … 11`, `n` of them. -/
def passes {sl : ℕ} (hsl : sl < 6) {ci : ℕ} (hci : ci < 9) (row : Fin 6 → ℕ) (hrow : ∀ r, row r < 54) : (n p : ℕ) → n + p = 12 → Mxu F → Pr F (Mxu F)
  | 0, p, h, mx => pure mx
  | n + 1, p, h, mx => do
    let mx ← pass hsl hci (hrow ⟨p / 2, by omega⟩) ⟨p, by omega⟩ mx
    passes hsl hci row hrow n (p + 1) (by omega) mx

/-! ## The transfers -/

section
variable {sp sp' : Space} {s : Shape} {e : EltTy}

/-- Start two transfers on one cell. -/
def start2 (sA sB : Memref sig .tc sp s e) (dA dB : Memref sig .tc sp' s e) (sm : DmaSem sig) (hsA : sA.view.WordExact) (hsB : sB.view.WordExact)
    (hdA : dA.view.WordExact) (hdB : dB.view.WordExact) (hsem : DmaTarget.Typed (nD := nD) (τ := τ) (p := .tc) sp (.dma sm) (.here dA)) (hsem' : DmaTarget.Typed (nD := nD) (τ := τ) (p := .tc) sp (.dma sm) (.here dB)) : Pr F PUnit := do
  Prog.lift (.enqueueDma sA (.here dA) (.dma sm) hsA hdA hsem)
  Prog.lift (.enqueueDma sB (.here dB) (.dma sm) hsB hdB hsem')

/-- Wait for the two. -/
def wait2 (sA sB : Memref sig .tc sp s e) (dA dB : Memref sig .tc sp' s e) (sm : DmaSem sig) (hsA : sA.view.WordExact) (hsB : sB.view.WordExact)
    (hdA : dA.view.WordExact) (hdB : dB.view.WordExact) : Pr F PUnit := do
  Prog.lift (.waitDma2 sm sA dA hsA hdA)
  Prog.lift (.waitDma2 sm sB dB hsB hdB)

theorem start2_congr {sA sB sA' sB' : Memref sig .tc sp s e} {dA dB dA' dB' : Memref sig .tc sp' s e} {sm sm' : DmaSem sig}
    (h1 : sA = sA') (h2 : sB = sB') (h3 : dA = dA') (h4 : dB = dB') (h5 : sm = sm')
    {a1 a2 a3 a4 a5 a6 b1 b2 b3 b4 b5 b6} : start2 (F := F) sA sB dA dB sm a1 a2 a3 a4 a5 a6 = start2 sA' sB' dA' dB' sm' b1 b2 b3 b4 b5 b6 := by
  subst h1 h2 h3 h4 h5; rfl
theorem wait2_congr {sA sB sA' sB' : Memref sig .tc sp s e} {dA dB dA' dB' : Memref sig .tc sp' s e} {sm sm' : DmaSem sig}
    (h1 : sA = sA') (h2 : sB = sB') (h3 : dA = dA') (h4 : dB = dB') (h5 : sm = sm')
    {a1 a2 a3 a4 b1 b2 b3 b4} : wait2 (F := F) sA sB dA dB sm a1 a2 a3 a4 = wait2 sA' sB' dA' dB' sm' b1 b2 b3 b4 := by
  subst h1 h2 h3 h4 h5; rfl

/-- Start one transfer. -/
def start1 (sA : Memref sig .tc sp s e) (dA : Memref sig .tc sp' s e) (sm : DmaSem sig) (hsA : sA.view.WordExact)
    (hdA : dA.view.WordExact) (hsem : DmaTarget.Typed (nD := nD) (τ := τ) (p := .tc) sp (.dma sm) (.here dA)) : Pr F PUnit :=
  Prog.lift (.enqueueDma sA (.here dA) (.dma sm) hsA hdA hsem)
/-- Wait for it. -/
def wait1 (sA : Memref sig .tc sp s e) (dA : Memref sig .tc sp' s e) (sm : DmaSem sig) (hsA : sA.view.WordExact)
    (hdA : dA.view.WordExact) : Pr F PUnit :=
  Prog.lift (.waitDma2 sm sA dA hsA hdA)
theorem start1_congr {sA sA' : Memref sig .tc sp s e} {dA dA' : Memref sig .tc sp' s e} {sm sm' : DmaSem sig}
    (h1 : sA = sA') (h3 : dA = dA') (h5 : sm = sm') {a1 a3 a5 b1 b3 b5} : start1 (F := F) sA dA sm a1 a3 a5 = start1 sA' dA' sm' b1 b3 b5 := by
  subst h1 h3 h5; rfl
theorem wait1_congr {sA sA' : Memref sig .tc sp s e} {dA dA' : Memref sig .tc sp' s e} {sm sm' : DmaSem sig}
    (h1 : sA = sA') (h3 : dA = dA') (h5 : sm = sm') {a1 a3 b1 b3} : wait1 (F := F) sA dA sm a1 a3 = wait1 sA' dA' sm' b1 b3 := by
  subst h1 h3 h5; rfl
end

/-! ### The pieces the transfers move -/

abbrev pWG (d : Fin 2 → ℕ) (h : ∀ a, d a + S1536x512.size a ≤ S13824x2560.size a) : Memref sig .tc .hbm S1536x512 .i8 := aWG.slice (Rect.unit (s := S13824x2560) d S1536x512.size h) (fun _ => rfl)
theorem pWG_congr {d d'} {h h'} (e : d = d') : pWG d h = pWG d' h' := by subst e; rfl
abbrev pWU (d : Fin 2 → ℕ) (h : ∀ a, d a + S1536x512.size a ≤ S13824x2560.size a) : Memref sig .tc .hbm S1536x512 .i8 := aWU.slice (Rect.unit (s := S13824x2560) d S1536x512.size h) (fun _ => rfl)
theorem pWU_congr {d d'} {h h'} (e : d = d') : pWU d h = pWU d' h' := by subst e; rfl
abbrev pW (d : Fin 4 → ℕ) (h : ∀ a, d a + S1x1x1536x512.size a ≤ S6x2x1536x512.size a) : Memref sig .tc .vmem S1536x512 .i8 := (bW.slice (Rect.unit (s := S6x2x1536x512) d S1x1x1536x512.size h) (fun _ => rfl)).squeeze S1536x512 squeezes_S1x1x1536x512_S1536x512
theorem pW_congr {d d'} {h h'} (e : d = d') : pW d h = pW d' h' := by subst e; rfl
abbrev pX (d : Fin 2 → ℕ) (h : ∀ a, d a + S128x1536.size a ≤ S128x27648.size a) : Memref sig .tc .hbm S128x1536 .bf16 := aX.slice (Rect.unit (s := S128x27648) d S128x1536.size h) (fun _ => rfl)
theorem pX_congr {d d'} {h h'} (e : d = d') : pX d h = pX d' h' := by subst e; rfl
abbrev pXR (d : Fin 4 → ℕ) (h : ∀ a, d a + S1x1x128x1536.size a ≤ S2x9x128x1536.size a) : Memref sig .tc .vmem S128x1536 .bf16 := (bXR.slice (Rect.unit (s := S2x9x128x1536) d S1x1x128x1536.size h) (fun _ => rfl)).squeeze S128x1536 squeezes_S1x1x128x1536_S128x1536
theorem pXR_congr {d d'} {h h'} (e : d = d') : pXR d h = pXR d' h' := by subst e; rfl
abbrev pSG (d : Fin 2 → ℕ) (h : ∀ a, d a + S216x512.size a ≤ S216x2560.size a) : Memref sig .tc .hbm S216x512 .bf16 := aSG.slice (Rect.unit (s := S216x2560) d S216x512.size h) (fun _ => rfl)
theorem pSG_congr {d d'} {h h'} (e : d = d') : pSG d h = pSG d' h' := by subst e; rfl
abbrev pSU (d : Fin 2 → ℕ) (h : ∀ a, d a + S216x512.size a ≤ S216x2560.size a) : Memref sig .tc .hbm S216x512 .bf16 := aSU.slice (Rect.unit (s := S216x2560) d S216x512.size h) (fun _ => rfl)
theorem pSU_congr {d d'} {h h'} (e : d = d') : pSU d h = pSU d' h' := by subst e; rfl
abbrev pS (d : Fin 4 → ℕ) (h : ∀ a, d a + S1x1x216x512.size a ≤ S2x2x216x512.size a) : Memref sig .tc .vmem S216x512 .bf16 := (bS.slice (Rect.unit (s := S2x2x216x512) d S1x1x216x512.size h) (fun _ => rfl)).squeeze S216x512 squeezes_S1x1x216x512_S216x512
theorem pS_congr {d d'} {h h'} (e : d = d') : pS d h = pS d' h' := by subst e; rfl
abbrev pO (d : Fin 3 → ℕ) (h : ∀ a, d a + S1x128x512.size a ≤ S2x128x512.size a) : Memref sig .tc .vmem S128x512 .bf16 := (bO.slice (Rect.unit (s := S2x128x512) d S1x128x512.size h) (fun _ => rfl)).squeeze S128x512 squeezes_S1x128x512_S128x512
theorem pO_congr {d d'} {h h'} (e : d = d') : pO d h = pO d' h' := by subst e; rfl
abbrev pOut (d : Fin 2 → ℕ) (h : ∀ a, d a + S128x512.size a ≤ S128x2560.size a) : Memref sig .tc .hbm S128x512 .bf16 := aO.slice (Rect.unit (s := S128x2560) d S128x512.size h) (fun _ => rfl)
theorem pOut_congr {d d'} {h h'} (e : d = d') : pOut d h = pOut d' h' := by subst e; rfl
abbrev semX (d : Fin 1 → ℕ) (h : ∀ a, d a + S1.size a ≤ S9.size a) : DmaSem sig := ((cc0_scratch6.slice (Rect.unit (s := S9) d S1.size h)).squeeze S_ squeezes_S1_S_).sem
theorem semX_congr {d d'} {h h'} (e : d = d') : semX d h = semX d' h' := by subst e; rfl
abbrev semW (d : Fin 1 → ℕ) (h : ∀ a, d a + S1.size a ≤ S6.size a) : DmaSem sig := ((cc0_scratch7.slice (Rect.unit (s := S6) d S1.size h)).squeeze S_ squeezes_S1_S_).sem
theorem semW_congr {d d'} {h h'} (e : d = d') : semW d h = semW d' h' := by subst e; rfl
abbrev semS (d : Fin 1 → ℕ) (h : ∀ a, d a + S1.size a ≤ S2.size a) : DmaSem sig := ((cc0_scratch8.slice (Rect.unit (s := S2) d S1.size h)).squeeze S_ squeezes_S1_S_).sem
theorem semS_congr {d d'} {h h'} (e : d = d') : semS d h = semS d' h' := by subst e; rfl
abbrev semO (d : Fin 1 → ℕ) (h : ∀ a, d a + S1.size a ≤ S2.size a) : DmaSem sig := ((cc0_scratch9.slice (Rect.unit (s := S2) d S1.size h)).squeeze S_ squeezes_S1_S_).sem
theorem semO_congr {d d'} {h h'} (e : d = d') : semO d h = semO d' h' := by subst e; rfl

theorem inbW {sl g : ℕ} (h : sl < 6) (hg : g < 2) : ∀ a, (![sl, g, 0, 0] : Fin 4 → ℕ) a + S1x1x1536x512.size a ≤ S6x2x1536x512.size a := by
  intro a; fin_cases a
  · show sl + 1 ≤ 6; omega
  · show g + 1 ≤ 2; omega
  · show 0 + 1536 ≤ 1536; omega
  · show 0 + 512 ≤ 512; omega
theorem inbWsrc {c n : ℕ} (hc : c < 9) (hn : n < 5) : ∀ a, (![c * 1536, n * 512] : Fin 2 → ℕ) a + S1536x512.size a ≤ S13824x2560.size a := by
  intro a; fin_cases a
  · show c * 1536 + 1536 ≤ 13824; omega
  · show n * 512 + 512 ≤ 2560; omega
theorem inbXR {h c : ℕ} (hh : h < 2) (hc : c < 9) : ∀ a, (![h, c, 0, 0] : Fin 4 → ℕ) a + S1x1x128x1536.size a ≤ S2x9x128x1536.size a := by
  intro a; fin_cases a
  · show h + 1 ≤ 2; omega
  · show c + 1 ≤ 9; omega
  · show 0 + 128 ≤ 128; omega
  · show 0 + 1536 ≤ 1536; omega
theorem inbX {h c : ℕ} (hh : h < 2) (hc : c < 9) : ∀ a, (![0, h * 13824 + c * 1536] : Fin 2 → ℕ) a + S128x1536.size a ≤ S128x27648.size a := by
  intro a; fin_cases a
  · show 0 + 128 ≤ 128; omega
  · show h * 13824 + c * 1536 + 1536 ≤ 27648; omega
theorem inbS {sl g : ℕ} (h : sl < 2) (hg : g < 2) : ∀ a, (![sl, g, 0, 0] : Fin 4 → ℕ) a + S1x1x216x512.size a ≤ S2x2x216x512.size a := by
  intro a; fin_cases a
  · show sl + 1 ≤ 2; omega
  · show g + 1 ≤ 2; omega
  · show 0 + 216 ≤ 216; omega
  · show 0 + 512 ≤ 512; omega
theorem inbSsrc {n : ℕ} (hn : n < 5) : ∀ a, (![0, n * 512] : Fin 2 → ℕ) a + S216x512.size a ≤ S216x2560.size a := by
  intro a; fin_cases a
  · show 0 + 216 ≤ 216; omega
  · show n * 512 + 512 ≤ 2560; omega
theorem inbO {sl : ℕ} (h : sl < 2) : ∀ a, (![sl, 0, 0] : Fin 3 → ℕ) a + S1x128x512.size a ≤ S2x128x512.size a := by
  intro a; fin_cases a
  · show sl + 1 ≤ 2; omega
  · show 0 + 128 ≤ 128; omega
  · show 0 + 512 ≤ 512; omega
theorem inbOut {n : ℕ} (hn : n < 5) : ∀ a, (![0, n * 512] : Fin 2 → ℕ) a + S128x512.size a ≤ S128x2560.size a := by
  intro a; fin_cases a
  · show 0 + 128 ≤ 128; omega
  · show n * 512 + 512 ≤ 2560; omega
theorem inb1 {n k : ℕ} (h : k < n) : ∀ a, (![k] : Fin 1 → ℕ) a + S1.size a ≤ (⟨1, ![n]⟩ : Shape).size a := by
  intro a; fin_cases a; show k + 1 ≤ n; omega

/-- The two matrices' chunk `i` (row block `i % 9`, column block `i / 9`), its two places in the ring, and the ring slot's cell. -/
abbrev wgAt (i : ℕ) (h : i < 45) := pWG ![i % 9 * 1536, i / 9 * 512] (inbWsrc (by omega) (by omega))
abbrev wuAt (i : ℕ) (h : i < 45) := pWU ![i % 9 * 1536, i / 9 * 512] (inbWsrc (by omega) (by omega))
abbrev wAt (sl : ℕ) (h : sl < 6) (g : ℕ) (hg : g < 2) := pW ![sl, g, 0, 0] (inbW h hg)
abbrev wSem (sl : ℕ) (h : sl < 6) := semW ![sl] (inb1 h)
/-- Half `h` of the activations of trip `c`, and its place. -/
abbrev xAt (h : ℕ) (hh : h < 2) (c : ℕ) (hc : c < 9) := pX ![0, h * 13824 + c * 1536] (inbX hh hc)
abbrev xrAt (h : ℕ) (hh : h < 2) (c : ℕ) (hc : c < 9) := pXR ![h, c, 0, 0] (inbXR hh hc)
abbrev xSem (c : ℕ) (h : c < 9) := semX ![c] (inb1 h)
/-- The scales of column block `n`, and their places. -/
abbrev sgAt (n : ℕ) (h : n < 5) := pSG ![0, n * 512] (inbSsrc h)
abbrev suAt (n : ℕ) (h : n < 5) := pSU ![0, n * 512] (inbSsrc h)
abbrev sAt (sl : ℕ) (h : sl < 2) (g : ℕ) (hg : g < 2) := pS ![sl, g, 0, 0] (inbS h hg)
abbrev sSem (sl : ℕ) (h : sl < 2) := semS ![sl] (inb1 h)
/-- An output buffer, a column block of the result. -/
abbrev oAt (sl : ℕ) (h : sl < 2) := pO ![sl, 0, 0] (inbO h)
abbrev outAt (n : ℕ) (h : n < 5) := pOut ![0, n * 512] (inbOut h)
abbrev oSem (sl : ℕ) (h : sl < 2) := semO ![sl] (inb1 h)

theorem wordsW {d : Fin 4 → ℕ} {h} (h0 : d 2 = 0) : (pW d h).view.WordExact :=
  ((Memref.isWhole_whole _).wordExact_slice rfl _ (.inr ⟨by decide, rfl, h0, rfl⟩)).reshape _ _
theorem wordsXR {d : Fin 4 → ℕ} {h} (h0 : d 2 = 0) : (pXR d h).view.WordExact :=
  ((Memref.isWhole_whole _).wordExact_slice rfl _ (.inr ⟨by decide, rfl, h0, rfl⟩)).reshape _ _
theorem wordsS {d : Fin 4 → ℕ} {h} (h0 : d 2 = 0) : (pS d h).view.WordExact :=
  ((Memref.isWhole_whole _).wordExact_slice rfl _ (.inr ⟨by decide, rfl, h0, rfl⟩)).reshape _ _
theorem wordsO {d : Fin 3 → ℕ} {h} (h0 : d 1 = 0) : (pO d h).view.WordExact :=
  ((Memref.isWhole_whole _).wordExact_slice rfl _ (.inr ⟨by decide, rfl, h0, rfl⟩)).reshape _ _
theorem wordsX {d : Fin 2 → ℕ} {h} (h0 : d 0 = 0) : (pX d h).view.WordExact :=
  (Memref.isWhole_whole _).wordExact_slice rfl _ (.inr ⟨by decide, rfl, h0, rfl⟩)
theorem wordsSG {d : Fin 2 → ℕ} {h} (h0 : d 0 = 0) : (pSG d h).view.WordExact :=
  (Memref.isWhole_whole _).wordExact_slice rfl _ (.inr ⟨by decide, rfl, h0, rfl⟩)
theorem wordsSU {d : Fin 2 → ℕ} {h} (h0 : d 0 = 0) : (pSU d h).view.WordExact :=
  (Memref.isWhole_whole _).wordExact_slice rfl _ (.inr ⟨by decide, rfl, h0, rfl⟩)
theorem wordsOut {d : Fin 2 → ℕ} {h} (h0 : d 0 = 0) : (pOut d h).view.WordExact :=
  (Memref.isWhole_whole _).wordExact_slice rfl _ (.inr ⟨by decide, rfl, h0, rfl⟩)
theorem wholeWords_wsrc : ∀ (c : Fin 9) (n : Fin 5), (Rect.unit (s := S13824x2560) ![c.val * 1536, n.val * 512] S1536x512.size (inbWsrc c.isLt n.isLt)).WholeWords (EltTy.packing .i8) := by decide +kernel
theorem wordsWG (i : ℕ) (h : i < 45) : (wgAt i h).view.WordExact :=
  (Memref.isWhole_whole _).wordExact_slice rfl _ (wholeWords_wsrc ⟨i % 9, by omega⟩ ⟨i / 9, by omega⟩)
theorem wordsWU (i : ℕ) (h : i < 45) : (wuAt i h).view.WordExact :=
  (Memref.isWhole_whole _).wordExact_slice rfl _ (wholeWords_wsrc ⟨i % 9, by omega⟩ ⟨i / 9, by omega⟩)

/-- Start, and wait for, weight chunk `i`; -/
def startW (i : ℕ) (h : i < 45) : Pr F PUnit :=
  start2 (wgAt i h) (wuAt i h) (wAt (i % 6) (by omega) 0 (by omega)) (wAt (i % 6) (by omega) 1 (by omega)) (wSem (i % 6) (by omega))
    (wordsWG i h) (wordsWU i h) (wordsW rfl) (wordsW rfl) ⟨Or.inl rfl, trivial⟩ ⟨Or.inl rfl, trivial⟩
def waitW (i : ℕ) (h : i < 45) : Pr F PUnit :=
  wait2 (wgAt i h) (wuAt i h) (wAt (i % 6) (by omega) 0 (by omega)) (wAt (i % 6) (by omega) 1 (by omega)) (wSem (i % 6) (by omega))
    (wordsWG i h) (wordsWU i h) (wordsW rfl) (wordsW rfl)
/-- the activations of trip `c`; -/
def startX (c : ℕ) (h : c < 9) : Pr F PUnit :=
  start2 (xAt 0 (by omega) c h) (xAt 1 (by omega) c h) (xrAt 0 (by omega) c h) (xrAt 1 (by omega) c h) (xSem c h)
    (wordsX rfl) (wordsX rfl) (wordsXR rfl) (wordsXR rfl) ⟨Or.inl rfl, trivial⟩ ⟨Or.inl rfl, trivial⟩
def waitX (c : ℕ) (h : c < 9) : Pr F PUnit :=
  wait2 (xAt 0 (by omega) c h) (xAt 1 (by omega) c h) (xrAt 0 (by omega) c h) (xrAt 1 (by omega) c h) (xSem c h)
    (wordsX rfl) (wordsX rfl) (wordsXR rfl) (wordsXR rfl)
/-- the scales of column block `n`; -/
def startS (n : ℕ) (h : n < 5) : Pr F PUnit :=
  start2 (sgAt n h) (suAt n h) (sAt (n % 2) (by omega) 0 (by omega)) (sAt (n % 2) (by omega) 1 (by omega)) (sSem (n % 2) (by omega))
    (wordsSG rfl) (wordsSU rfl) (wordsS rfl) (wordsS rfl) ⟨Or.inl rfl, trivial⟩ ⟨Or.inl rfl, trivial⟩
def waitS (n : ℕ) (h : n < 5) : Pr F PUnit :=
  wait2 (sgAt n h) (suAt n h) (sAt (n % 2) (by omega) 0 (by omega)) (sAt (n % 2) (by omega) 1 (by omega)) (sSem (n % 2) (by omega))
    (wordsSG rfl) (wordsSU rfl) (wordsS rfl) (wordsS rfl)
/-- the result's column block `n`. -/
def startO (n : ℕ) (h : n < 5) : Pr F PUnit :=
  start1 (oAt (n % 2) (by omega)) (outAt n h) (oSem (n % 2) (by omega)) (wordsO rfl) (wordsOut rfl) ⟨Or.inl rfl, trivial⟩
def waitO (n : ℕ) (h : n < 5) : Pr F PUnit :=
  wait1 (oAt (n % 2) (by omega)) (outAt n h) (oSem (n % 2) (by omega)) (wordsO rfl) (wordsOut rfl)

/-- Refill the ring after chunk `i`. -/
def refill (i : ℕ) : Pr F PUnit := if h : i + 5 < 45 then startW (i + 5) h else pure ⟨⟩

/-! ## Interleaving the activations of a trip -/

theorem xrOff_inb {c : ℕ} (h : c < 9) (k : Fin 2) (p : Fin 12) : ∀ a, (![k.val, c, 0, 128 * p.val] : Fin 4 → ℕ) a + S1x1x128x128.size a ≤ S2x9x128x1536.size a := by
  have := p.isLt; have := k.isLt; intro a; fin_cases a
  · show k.val + 1 ≤ 2; omega
  · show c + 1 ≤ 9; omega
  · show 0 + 128 ≤ 128; omega
  · show 128 * p.val + 128 ≤ 1536; omega
theorem xpOff_inb {c : ℕ} (h : c < 9) (j : Fin 2) (p : Fin 12) : ∀ a, (![c, 0, 256 * p.val + 128 * j.val] : Fin 3 → ℕ) a + S1x128x128.size a ≤ S9x128x3072.size a := by
  have := p.isLt; have := j.isLt; intro a; fin_cases a
  · show c + 1 ≤ 9; omega
  · show 0 + 128 ≤ 128; omega
  · show 256 * p.val + 128 * j.val + 128 ≤ 3072; omega

theorem xpOff_packed {c : ℕ} (h : c < 9) (j : Fin 2) (p : Fin 12) : (Rect.unit (s := S9x128x3072) ![c, 0, 256 * p.val + 128 * j.val] S1x128x128.size (xpOff_inb h j p)).PackedRows (EltTy.packing .bf16) := by
  have H : ∀ (c : Fin 9) (j : Fin 2) (p : Fin 12), (Rect.unit (s := S9x128x3072) ![c.val, 0, 256 * p.val + 128 * j.val] S1x128x128.size (xpOff_inb c.isLt j p)).PackedRows (EltTy.packing .bf16) := by decide +kernel
  exact H ⟨c, h⟩ j p

/-- What the kernel stores for pass `p`: lane halves `0` and `1` of the two halves interleaved. -/
abbrev mix0 (lo hi : Vec F S1x1x128x128 .bf16) : FVec F S1x128x128 .bf16 := k0_pay4 lo hi
abbrev mix1 (lo hi : Vec F S1x1x128x128 .bf16) : FVec F S1x128x128 .bf16 :=
  k0_pay5 (iota .tc S128x128 32 [1] iota_S128x128_d1_w32) k0_pay1 (k0_pay2 lo) (k0_pay3 hi) 1#32

/-- Pass `p`'s interleaving. -/
def inter {c : ℕ} (hc : c < 9) (p : Fin 12) : Pr F PUnit := do
  let lo : Vec F S1x1x128x128 .bf16 ← Prog.lift (.load bXR (Rect.unit (s := S2x9x128x1536) ![0, c, 0, 128 * p.val] S1x1x128x128.size (xrOff_inb hc 0 p)).toLoadRect (View.loadsAt_vmem h_S1x1x128x128))
  let hi : Vec F S1x1x128x128 .bf16 ← Prog.lift (.load bXR (Rect.unit (s := S2x9x128x1536) ![1, c, 0, 128 * p.val] S1x1x128x128.size (xrOff_inb hc 1 p)).toLoadRect (View.loadsAt_vmem h_S1x1x128x128))
  let _v : Vec F S1x128x128 .bf16 ← Prog.lift (.load bXP (Rect.unit (s := S9x128x3072) ![c, 0, 256 * p.val + 128 * (0 : Fin 2).val] S1x128x128.size (xpOff_inb hc 0 p)).toLoadRect (View.loadsAt_vmem h_S1x128x128))
  Prog.lift (.store bXP (Rect.unit (s := S9x128x3072) ![c, 0, 256 * p.val + 128 * (0 : Fin 2).val] S1x128x128.size (xpOff_inb hc 0 p)) (mix0 lo hi) Finset.univ (View.stores_vmem h_S1x128x128 ((Memref.isWhole_whole _).storeExact_slice rfl _ (xpOff_packed hc 0 p)) (fun _ => rfl)) (.inl rfl))
  let _v : Vec F S1x128x128 .bf16 ← Prog.lift (.load bXP (Rect.unit (s := S9x128x3072) ![c, 0, 256 * p.val + 128 * (1 : Fin 2).val] S1x128x128.size (xpOff_inb hc 1 p)).toLoadRect (View.loadsAt_vmem h_S1x128x128))
  Prog.lift (.store bXP (Rect.unit (s := S9x128x3072) ![c, 0, 256 * p.val + 128 * (1 : Fin 2).val] S1x128x128.size (xpOff_inb hc 1 p)) (mix1 lo hi) Finset.univ (View.stores_vmem h_S1x128x128 ((Memref.isWhole_whole _).storeExact_slice rfl _ (xpOff_packed hc 1 p)) (fun _ => rfl)) (.inl rfl))

/-- The interleaving of passes `p … 11`, `n` of them. -/
def inters {c : ℕ} (hc : c < 9) : (n p : ℕ) → n + p = 12 → Pr F PUnit
  | 0, p, h => pure ⟨⟩
  | n + 1, p, h => do
    inter hc ⟨p, by omega⟩
    inters hc n (p + 1) (by omega)

/-! ## Pairing the scales of a column block -/

theorem sLo_inb {sl g : ℕ} (h : sl < 2) (hg : g < 2) : ∀ a, (![sl, g, 0, 0] : Fin 4 → ℕ) a + S1x1x108x512.size a ≤ S2x2x216x512.size a := by
  intro a; fin_cases a
  · show sl + 1 ≤ 2; omega
  · show g + 1 ≤ 2; omega
  · show 0 + 108 ≤ 216; omega
  · show 0 + 512 ≤ 512; omega
theorem sHi_inb {sl g : ℕ} (h : sl < 2) (hg : g < 2) : ∀ a, (![sl, g, 108, 0] : Fin 4 → ℕ) a + S1x1x108x512.size a ≤ S2x2x216x512.size a := by
  intro a; fin_cases a
  · show sl + 1 ≤ 2; omega
  · show g + 1 ≤ 2; omega
  · show 108 + 108 ≤ 216; omega
  · show 0 + 512 ≤ 512; omega
theorem sp_inb {g j : ℕ} (hg : g < 2) (hj : j < 2) : ∀ a, (![g, j, 0, 0, 0] : Fin 5 → ℕ) a + S1x1x54x2x512.size a ≤ S2x2x54x2x512.size a := by
  intro a; fin_cases a
  · show g + 1 ≤ 2; omega
  · show j + 1 ≤ 2; omega
  · show 0 + 54 ≤ 54; omega
  · show 0 + 2 ≤ 2; omega
  · show 0 + 512 ≤ 512; omega

/-- The pairs of even, and of odd, scale rows. -/
abbrev pair0 (a b : Vec F S1x1x108x512 .bf16) : Vec F S1x1x54x2x512 .bf16 := k0_pay397 a b
abbrev pair1 (a b : Vec F S1x1x108x512 .bf16) : Vec F S1x1x54x2x512 .bf16 := k0_pay398 a b

/-- Pair the scales of matrix `g` in slot `sl`. -/
def pairs {sl : ℕ} (hsl : sl < 2) (g : ℕ) (hg : g < 2) : Pr F PUnit := do
  let a : Vec F S1x1x108x512 .bf16 ← Prog.lift (.load bS (Rect.unit (s := S2x2x216x512) ![sl, g, 0, 0] S1x1x108x512.size (sLo_inb hsl hg)).toLoadRect (View.loadsAt_vmem h_S1x1x108x512))
  let b : Vec F S1x1x108x512 .bf16 ← Prog.lift (.load bS (Rect.unit (s := S2x2x216x512) ![sl, g, 108, 0] S1x1x108x512.size (sHi_inb hsl hg)).toLoadRect (View.loadsAt_vmem h_S1x1x108x512))
  let _v : Vec F S1x1x54x2x512 .bf16 ← Prog.lift (.load bP (Rect.unit (s := S2x2x54x2x512) ![g, 0, 0, 0, 0] S1x1x54x2x512.size (sp_inb hg (by omega))).toLoadRect (View.loadsAt_vmem h_S1x1x54x2x512))
  Prog.lift (.store bP (Rect.unit (s := S2x2x54x2x512) ![g, 0, 0, 0, 0] S1x1x54x2x512.size (sp_inb hg (by omega))) (pair0 a b) Finset.univ (View.stores_vmem h_S1x1x54x2x512 (((Memref.isWhole_whole _).pairWhole rank2_S2x2x54x2x512).storeExact_slice rfl _ (Rect.wholeRows_unit rank2_S2x2x54x2x512 rfl rfl) pairs_S2x2x54x2x512_bf16) (fun _ => rfl)) (.inl rfl))
  let _v : Vec F S1x1x54x2x512 .bf16 ← Prog.lift (.load bP (Rect.unit (s := S2x2x54x2x512) ![g, 1, 0, 0, 0] S1x1x54x2x512.size (sp_inb hg (by omega))).toLoadRect (View.loadsAt_vmem h_S1x1x54x2x512))
  Prog.lift (.store bP (Rect.unit (s := S2x2x54x2x512) ![g, 1, 0, 0, 0] S1x1x54x2x512.size (sp_inb hg (by omega))) (pair1 a b) Finset.univ (View.stores_vmem h_S1x1x54x2x512 (((Memref.isWhole_whole _).pairWhole rank2_S2x2x54x2x512).storeExact_slice rfl _ (Rect.wholeRows_unit rank2_S2x2x54x2x512 rfl rfl) pairs_S2x2x54x2x512_bf16) (fun _ => rfl)) (.inl rfl))

/-! ## The epilogue of a block -/

theorem oOff_inb {sl : ℕ} (h : sl < 2) (t : Fin 2) : ∀ a, (![sl, 0, 256 * t.val] : Fin 3 → ℕ) a + S1x128x256.size a ≤ S2x128x512.size a := by
  have := t.isLt; intro a; fin_cases a
  · show sl + 1 ≤ 2; omega
  · show 0 + 128 ≤ 128; omega
  · show 256 * t.val + 256 ≤ 512; omega

theorem oOff_packed {sl : ℕ} (h : sl < 2) (t : Fin 2) : (Rect.unit (s := S2x128x512) ![sl, 0, 256 * t.val] S1x128x256.size (oOff_inb h t)).PackedRows (EltTy.packing .bf16) := by
  have H : ∀ (sl : Fin 2) (t : Fin 2), (Rect.unit (s := S2x128x512) ![sl.val, 0, 256 * t.val] S1x128x256.size (oOff_inb sl.isLt t)).PackedRows (EltTy.packing .bf16) := by decide +kernel
  exact H ⟨sl, h⟩ t

/-- Half a block's result from its two sums. -/
abbrev act (g u : FVec F S128x256 .f32) : FVec F S1x128x256 .bf16 := k0_pay400 g u

def epi {sl : ℕ} (hsl : sl < 2) (mx : Mxu F) : Pr F (Mxu F) := do
  let m1 := mx.pop 0 0 128 fits_0_128
  let _v : Vec F S1x128x256 .bf16 ← Prog.lift (.load bO (Rect.unit (s := S2x128x512) ![sl, 0, 256 * (0 : Fin 2).val] S1x128x256.size (oOff_inb hsl 0)).toLoadRect (View.loadsAt_vmem h_S1x128x256))
  Prog.lift (.store bO (Rect.unit (s := S2x128x512) ![sl, 0, 256 * (0 : Fin 2).val] S1x128x256.size (oOff_inb hsl 0)) (act (mx.read 0 0 fits_0_128) (m1.read 1 0 fits_0_128)) Finset.univ (View.stores_vmem h_S1x128x256 ((Memref.isWhole_whole _).storeExact_slice rfl _ (oOff_packed hsl 0)) (fun _ => rfl)) (.inl rfl))
  let m2 := m1.pop 1 0 128 fits_0_128
  let m3 := m2.pop 0 32 128 fits_32_128
  let _v : Vec F S1x128x256 .bf16 ← Prog.lift (.load bO (Rect.unit (s := S2x128x512) ![sl, 0, 256 * (1 : Fin 2).val] S1x128x256.size (oOff_inb hsl 1)).toLoadRect (View.loadsAt_vmem h_S1x128x256))
  Prog.lift (.store bO (Rect.unit (s := S2x128x512) ![sl, 0, 256 * (1 : Fin 2).val] S1x128x256.size (oOff_inb hsl 1)) (act (m2.read 0 32 fits_32_128) (m3.read 1 32 fits_32_128)) Finset.univ (View.stores_vmem h_S1x128x256 ((Memref.isWhole_whole _).storeExact_slice rfl _ (oOff_packed hsl 1)) (fun _ => rfl)) (.inl rfl))
  pure (m3.pop 1 32 128 fits_32_128)

/-! ## The trips, the blocks, the kernel -/

theorem trips1 : k0_t1_loop.trips = 9 := by decide
theorem trips2 : k0_t2_loop.trips = 4 := by decide
theorem trips3 : k0_t3_loop.trips = 9 := by decide

/-- Trip `c` of the first block: it also prepares the trip's activations. -/
def body1 (c : ℕ) (hc : c < 9) (mx : Mxu F) : Pr F (Mxu F) := do
  waitW c (by omega)
  refill c
  waitX c hc
  inters hc 12 0 rfl
  passes (sl := c % 6) (by omega) hc (fun r => 6 * c + r.val) (fun r => by omega) 12 0 rfl mx

/-- Trip `c` of block `n`. -/
def body3 (n : ℕ) (hn : n < 5) (c : ℕ) (hc : c < 9) (mx : Mxu F) : Pr F (Mxu F) := do
  waitW (9 * n + c) (by omega)
  refill (9 * n + c)
  passes (sl := (9 * n + c) % 6) (by omega) hc (fun r => 6 * c + r.val) (fun r => by omega) 12 0 rfl mx

def trips (n : ℕ) (hn : n < 5) (mx : Mxu F) : Pr F (Mxu F) :=
  Scf.Loop.for k0_t3_loop k0_t3_ok mx (fun k mx => body3 n hn k.val (Nat.lt_of_lt_of_eq k.isLt trips3) mx)

/-- Start the next block's scales; wait for the output buffer's previous user. -/
def nextS (n : ℕ) : Pr F PUnit := if h : n + 1 < 5 then startS (n + 1) h else pure ⟨⟩
def prevO (n : ℕ) (hn : n < 5) : Pr F PUnit := if h : 2 ≤ n then waitO (n - 2) (by omega) else pure ⟨⟩

/-- Block `n`, from the second on. -/
def body2 (n : ℕ) (hn : n < 5) (mx : Mxu F) : Pr F (Mxu F) := do
  waitS n hn
  pairs (sl := n % 2) (by omega) 0 (by omega)
  pairs (sl := n % 2) (by omega) 1 (by omega)
  nextS n
  let mx ← trips n hn mx
  prevO n hn
  let mx ← epi (sl := n % 2) (by omega) mx
  startO n hn
  pure mx

def prologue : Pr F PUnit := do
  startS 0 (by omega)
  startX 0 (by omega); startW 0 (by omega)
  startX 1 (by omega); startW 1 (by omega)
  startX 2 (by omega); startW 2 (by omega)
  startX 3 (by omega); startW 3 (by omega)
  startX 4 (by omega); startW 4 (by omega)
  startX 5 (by omega); startX 6 (by omega); startX 7 (by omega); startX 8 (by omega)

/-- The kernel. -/
def kernelP : Pr F PUnit := do
  prologue
  waitS 0 (by omega)
  pairs (sl := 0) (by omega) 0 (by omega)
  pairs (sl := 0) (by omega) 1 (by omega)
  startS 1 (by omega)
  let mx ← Scf.Loop.for k0_t1_loop k0_t1_ok Mxu.init (fun k mx => body1 k.val (Nat.lt_of_lt_of_eq k.isLt trips1) mx)
  let mx ← epi (sl := 0) (by omega) mx
  startO 0 (by omega)
  let mx ← Scf.Loop.for k0_t2_loop k0_t2_ok mx (fun k mx => body2 (k.val + 1) (by have := Nat.lt_of_lt_of_eq k.isLt trips2; omega) mx)
  waitO 3 (by omega)
  waitO 4 (by omega)
  mx.exit
  pure ⟨⟩

end Cert.KernelIdeal.Hand
end
-- ==== Proof.Ideal.Dma.lean ====
/-
  The rules of the kernel's transfers: two transfers started on one cell and waited for, and one.
-/
module

public import proofs.«01_k».proof.Proof.Ideal.Prog
public import proofs.«01_k».proof.Proof.Gen.KernelIdeal.Launch
public import Idealize.ShloMosaic.Lib.Pipeline.KitQuiescent
public import Idealize.ShloMosaic.Lib.Batch

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
/-- The counters the kernel's own transfers ride on. -/
abbrev EC : UEmb Counters (MT nD τ sig Unit (Elt F) ℕ (UU nD τ) ℕ) := countersEmb
abbrev 𝒱₀ : Variants := Variants.none

/-- The kernel's programs run on core `c`. -/
abbrev run {α : Type} (c : Dev nD) (p : Pr F α) (Q : α → sProp 𝕄) : sProp 𝕄 :=
  wp frame (wpE (defs₀ (F := F)) 𝒱₀ (c : Thread nD τ) none) Set.univ p Q

theorem ret_bind {α β : Type} (a : α) (k : α → Pr F β) : (Prog.ret a).bind k = k a := rfl

section
variable {sp sp' : Space} {s : Shape} {e : EltTy} (c : Dev nD)

/-- The contents a memref's buffer has on core `c`. -/
abbrev Con (c : Dev nD) {sp : Space} {s : Shape} {e : EltTy} (M : Memref sig .tc sp s e) : Type := Buf (Elt F) (M.view.loc (c : Thread nD τ))

/-- The memref's own elements held at contents `f`; -/
abbrev own (c : Dev nD) {sp : Space} {s : Shape} {e : EltTy} (M : Memref sig .tc sp s e) (f : Con (F := F) c M) : sProp 𝕄 :=
  M.view.loc (c : Thread nD τ) ↦[M.view.set]{fullShare} f
/-- a share of its whole buffer. -/
abbrev shr (c : Dev nD) {sp : Space} {s : Shape} {e : EltTy} (M : Memref sig .tc sp s e) (q : PosShare TreeShare) (f : Con (F := F) c M) : sProp 𝕄 :=
  M.view.loc (c : Thread nD τ) ↦{q} f

/-- What two transfers deliver: each destination at its target contents, each source's elements back. -/
def deliv2 (sA sB : Memref sig .tc sp s e) (dA dB : Memref sig .tc sp' s e) (q q' : PosShare TreeShare) (fA : Con (F := F) c sA) (fB : Con (F := F) c sB)
    (TA : Con (F := F) c dA) (TB : Con (F := F) c dB) : Fin 2 → sProp 𝕄
  | ⟨0, _⟩ => iprop(own c dA TA ∗ (sA.view.loc (c : Thread nD τ) ↦[sA.view.set]{q} fA))
  | ⟨1, _⟩ => iprop(own c dB TB ∗ (sB.view.loc (c : Thread nD τ) ↦[sB.view.set]{q'} fB))

instance deliv2_storable (sA sB : Memref sig .tc sp s e) (dA dB : Memref sig .tc sp' s e) (q q' : PosShare TreeShare) (fA : Con (F := F) c sA) (fB : Con (F := F) c sB)
    (TA : Con (F := F) c dA) (TB : Con (F := F) c dB) : ∀ t, Storable (upEmb : UEmb _ 𝕄) (deliv2 c sA sB dA dB q q' fA fB TA TB t)
  | ⟨0, _⟩ => by unfold deliv2; infer_instance
  | ⟨1, _⟩ => by unfold deliv2; infer_instance

/-- Two transfers in flight: their batch, and the elements of the sources they do not read. -/
def flight2 (sA sB : Memref sig .tc sp s e) (dA dB : Memref sig .tc sp' s e) (sm : DmaSem sig) (q q' : PosShare TreeShare) (fA : Con (F := F) c sA) (fB : Con (F := F) c sB)
    (TA : Con (F := F) c dA) (TB : Con (F := F) c dB) : sProp 𝕄 :=
  iprop(Transfers.Batch EC (c : Thread nD τ) (.dma sm) () (dA.view.amount (.dma sm)) (deliv2 c sA sB dA dB q q' fA fB TA TB) 2 0
    ∗ (sA.view.loc (c : Thread nD τ) ↦[Finset.univ \ sA.view.set]{q} fA) ∗ (sB.view.loc (c : Thread nD τ) ↦[Finset.univ \ sB.view.set]{q'} fB))

/-- Before and after: the cell at zero, the shares of the sources. -/
def rest2 (sA sB : Memref sig .tc sp s e) (sm : DmaSem sig) (q q' : PosShare TreeShare) (fA : Con (F := F) c sA) (fB : Con (F := F) c sB) : sProp 𝕄 :=
  iprop(semVal ((c : Thread nD τ), SemLoc.dma sm) 0 ∗ shr c sA q fA ∗ shr c sB q' fB)

/-- The target contents hold the source's elements under the destination's view. -/
def Lands (sA : Memref sig .tc sp s e) (dA : Memref sig .tc sp' s e) (fA : Con (F := F) c sA) (TA : Con (F := F) c dA) : Prop :=
  dA.view.read (Elt F) TA = sA.view.read (Elt F) fA

theorem eq_of_read {M : Memref sig .tc sp s e} {f g : Con (F := F) c M} (h : M.view.read (Elt F) f = M.view.read (Elt F) g) : ∀ i ∈ M.view.set, f i = g i := by
  intro i hi
  obtain ⟨x, -, rfl⟩ := Finset.mem_map.mp hi
  have := congrFun h x
  rw [View.read_apply, View.read_apply] at this
  exact (cast_inj _).mp this

theorem own_landed {sA : Memref sig .tc sp s e} {dA : Memref sig .tc sp' s e} {fA : Con (F := F) c sA} {TA : Con (F := F) c dA}
    (h : Lands c sA dA fA TA) (fd : Con (F := F) c dA) :
    own c dA (dA.view.write (Elt F) fd (ReadAs.same.apply (sA.view.read (Elt F) fA)) Finset.univ) = own c dA TA :=
  pointsTo_congr (eq_of_read c (by rw [View.read_write_univ]; exact h.symm))

theorem wp_start2 {sA sB : Memref sig .tc sp s e} {dA dB : Memref sig .tc sp' s e} {sm : DmaSem sig} {q q' : PosShare TreeShare} {fA : Con (F := F) c sA} {fB : Con (F := F) c sB}
    {TA : Con (F := F) c dA} {TB : Con (F := F) c dB} (hA : Lands c sA dA fA TA) (hB : Lands c sB dB fB TB)
    (hN : dB.view.amount (.dma sm) = dA.view.amount (.dma sm)) {α : Type} {a1 a2 a3 a4 a5 a6} {k : PUnit → Pr F α} {Q : α → sProp 𝕄} :
    iprop(rest2 c sA sB sm q q' fA fB ∗ (∃ f, own c dA f) ∗ (∃ f, own c dB f))
      ⊢ iprop((flight2 c sA sB dA dB sm q q' fA fB TA TB -∗ run c (k ⟨⟩) Q) -∗ run c (start2 sA sB dA dB sm a1 a2 a3 a4 a5 a6 >>= k) Q) := by
  unfold rest2 shr run
  iintro ⟨⟨Hv, HA, HB⟩, ⟨%fd, HdA⟩, ⟨%fd', HdB⟩⟩ Hk
  ihave HA2 := ((pointsTo_split_subset (Finset.subset_univ sA.view.set)).1) $$ HA
  icases HA2 with ⟨HA, HAr⟩
  ihave HB2 := ((pointsTo_split_subset (Finset.subset_univ sB.view.set)).1) $$ HB
  icases HB2 with ⟨HB, HBr⟩
  unfold start2
  simp only [bind_assoc]
  imod (Transfers.batch_alloc' EC (c : Thread nD τ) () (dA.view.amount (.dma sm)) (deliv2 c sA sB dA dB q q' fA fB TA TB) (sm := .dma sm) (E := Set.univ)) $$ Hv with HBt
  iapply (Transfers.wp_dmaBatch EC 𝒱₀ (c : Thread nD τ) none (src := sA) (dst := dA) () (dA.view.amount (.dma sm)) rfl subset_rfl
    (D := deliv2 c sA sB dA dB q q' fA fB TA TB) (j := 0) (u := 0) (fd := fd) (by decide) (Nat.zero_le _)
    (fs := fA) (q := q) (sep_mono_left (Entails.of_eq (own_landed c hA fd)))) $$ [HA HdA HBt]
  · isplitl [HA]; · iexact HA
    isplitl [HdA]; · iexact HdA
    iexact HBt
  iintro HBt
  simp only [ret_bind]
  iapply (Transfers.wp_dmaBatch EC 𝒱₀ (c : Thread nD τ) none (src := sB) (dst := dB) () (dA.view.amount (.dma sm)) hN subset_rfl
    (D := deliv2 c sA sB dA dB q q' fA fB TA TB) (j := 1) (u := 0) (fd := fd') (by decide) (Nat.zero_le _)
    (fs := fB) (q := q') (sep_mono_left (Entails.of_eq (own_landed c hB fd')))) $$ [HB HdB HBt]
  · isplitl [HB]; · iexact HB
    isplitl [HdB]; · iexact HdB
    iexact HBt
  iintro HBt
  simp only [ret_bind]
  iapply Hk
  unfold flight2
  isplitl [HBt]; · iexact HBt
  isplitl [HAr]; · iexact HAr
  iexact HBr

theorem deliv2_split (sA sB : Memref sig .tc sp s e) (dA dB : Memref sig .tc sp' s e) (q q' : PosShare TreeShare) (fA : Con (F := F) c sA) (fB : Con (F := F) c sB)
    (TA : Con (F := F) c dA) (TB : Con (F := F) c dB) :
    bigSep Finset.univ (deliv2 c sA sB dA dB q q' fA fB TA TB)
      ⊢ iprop((own c dA TA ∗ (sA.view.loc (c : Thread nD τ) ↦[sA.view.set]{q} fA)) ∗ (own c dB TB ∗ (sB.view.loc (c : Thread nD τ) ↦[sB.view.set]{q'} fB))) := by
  rw [Idealize.SL.BI.bigSep_univ_eq_bigSepL [0, 1] (by decide) (by decide) _]
  exact .rfl

theorem wp_wait2 {sA sB : Memref sig .tc sp s e} {dA dB : Memref sig .tc sp' s e} {sm : DmaSem sig} {q q' : PosShare TreeShare} {fA : Con (F := F) c sA} {fB : Con (F := F) c sB}
    {TA : Con (F := F) c dA} {TB : Con (F := F) c dB}
    (hN : dB.view.amount (.dma sm) = dA.view.amount (.dma sm)) (h0 : 0 < s.numel) {α : Type} {a1 a2 a3 a4} {k : PUnit → Pr F α} {Q : α → sProp 𝕄} :
    iprop(flight2 c sA sB dA dB sm q q' fA fB TA TB ∗ (∃ W, owes (c : Thread nD τ) 0 W))
      ⊢ iprop((iprop((rest2 c sA sB sm q q' fA fB ∗ own c dA TA ∗ own c dB TB) ∗ (∃ W, owes (c : Thread nD τ) 0 W)) -∗ run c (k ⟨⟩) Q)
        -∗ run c (wait2 sA sB dA dB sm a1 a2 a3 a4 >>= k) Q) := by
  have hpos : 0 < dA.view.amount (.dma sm) := dA.view.amount_pos _ h0
  unfold flight2 run
  iintro ⟨⟨HBt, HAr, HBr⟩, ⟨%W, HO⟩⟩ Hk
  unfold wait2
  simp only [bind_assoc]
  iapply (Transfers.wp_waitBatch EC 𝒱₀ (c : Thread nD τ) none () (N := dA.view.amount (.dma sm)) rfl (D := deliv2 c sA sB dA dB q q' fA fB TA TB) (u := 0) (by omega)) $$ [HBt HO]
  · isplitl [HBt] <;> iassumption
  iintro ⟨HBt, HO⟩
  simp only [ret_bind]
  iapply (Transfers.wp_waitBatchLast EC 𝒱₀ (c : Thread nD τ) none () (N := dA.view.amount (.dma sm)) hN hpos (D := deliv2 c sA sB dA dB q q' fA fB TA TB) (u := 0 + dA.view.amount (.dma sm)) (by omega)) $$ [HBt HO]
  · isplitl [HBt] <;> iassumption
  iintro ⟨HD, Hv, HO⟩
  ihave HD' := (deliv2_split c sA sB dA dB q q' fA fB TA TB) $$ HD
  icases HD' with ⟨⟨HdA, HA⟩, HdB, HB⟩
  simp only [ret_bind]
  iapply Hk
  isplitr [HO]
  · unfold rest2 shr
    isplitl [Hv HA HAr HB HBr]
    · isplitl [Hv]; · iexact Hv
      isplitl [HA HAr]
      · iapply ((pointsTo_split_subset (Finset.subset_univ sA.view.set)).2)
        isplitl [HA] <;> iassumption
      · iapply ((pointsTo_split_subset (Finset.subset_univ sB.view.set)).2)
        isplitl [HB] <;> iassumption
    isplitl [HdA] <;> iassumption
  · iexists _; iexact HO

/-- One transfer, out of a buffer held by its own elements. -/
def deliv1 (sA : Memref sig .tc sp s e) (dA : Memref sig .tc sp' s e) (fA : Con (F := F) c sA)
    (TA : Con (F := F) c dA) : Fin 1 → sProp 𝕄 := fun _ => iprop(own c dA TA ∗ own c sA fA)

instance deliv1_storable (sA : Memref sig .tc sp s e) (dA : Memref sig .tc sp' s e) (fA : Con (F := F) c sA)
    (TA : Con (F := F) c dA) : ∀ t, Storable (upEmb : UEmb _ 𝕄) (deliv1 c sA dA fA TA t) := fun t => by unfold deliv1; infer_instance

def flight1 (sA : Memref sig .tc sp s e) (dA : Memref sig .tc sp' s e) (sm : DmaSem sig) (fA : Con (F := F) c sA)
    (TA : Con (F := F) c dA) : sProp 𝕄 :=
  Transfers.Batch EC (c : Thread nD τ) (.dma sm) () (dA.view.amount (.dma sm)) (deliv1 c sA dA fA TA) 1 0

theorem wp_start1 {sA : Memref sig .tc sp s e} {dA : Memref sig .tc sp' s e} {sm : DmaSem sig} {fA : Con (F := F) c sA}
    {TA : Con (F := F) c dA} (hA : Lands c sA dA fA TA) {α : Type} {a1 a2 a3} {k : PUnit → Pr F α} {Q : α → sProp 𝕄} :
    iprop(semVal ((c : Thread nD τ), SemLoc.dma sm) 0 ∗ own c sA fA ∗ (∃ f, own c dA f))
      ⊢ iprop((flight1 c sA dA sm fA TA -∗ run c (k ⟨⟩) Q) -∗ run c (start1 sA dA sm a1 a2 a3 >>= k) Q) := by
  unfold run
  iintro ⟨Hv, HA, ⟨%fd, HdA⟩⟩ Hk
  unfold start1
  imod (Transfers.batch_alloc' EC (c : Thread nD τ) () (dA.view.amount (.dma sm)) (deliv1 c sA dA fA TA) (sm := .dma sm) (E := Set.univ)) $$ Hv with HBt
  iapply (Transfers.wp_dmaBatch EC 𝒱₀ (c : Thread nD τ) none (src := sA) (dst := dA) () (dA.view.amount (.dma sm)) rfl subset_rfl
    (D := deliv1 c sA dA fA TA) (j := 0) (u := 0) (fd := fd) (by decide) (Nat.zero_le _)
    (fs := fA) (q := fullShare) (sep_mono_left (Entails.of_eq (own_landed c hA fd)))) $$ [HA HdA HBt]
  · isplitl [HA]; · iexact HA
    isplitl [HdA]; · iexact HdA
    iexact HBt
  iintro HBt
  simp only [ret_bind]
  iapply Hk
  unfold flight1
  iexact HBt

theorem deliv1_split (sA : Memref sig .tc sp s e) (dA : Memref sig .tc sp' s e) (fA : Con (F := F) c sA)
    (TA : Con (F := F) c dA) : bigSep Finset.univ (deliv1 c sA dA fA TA) ⊢ iprop(own c dA TA ∗ own c sA fA) := by
  rw [bigSep_univ_of_subsingleton (0 : Fin 1)]
  exact .rfl

theorem wp_wait1 {sA : Memref sig .tc sp s e} {dA : Memref sig .tc sp' s e} {sm : DmaSem sig} {fA : Con (F := F) c sA}
    {TA : Con (F := F) c dA} (h0 : 0 < s.numel) {α : Type} {a1 a2} {k : PUnit → Pr F α} {Q : α → sProp 𝕄} :
    iprop(flight1 c sA dA sm fA TA ∗ (∃ W, owes (c : Thread nD τ) 0 W))
      ⊢ iprop((iprop((semVal ((c : Thread nD τ), SemLoc.dma sm) 0 ∗ own c sA fA ∗ own c dA TA) ∗ (∃ W, owes (c : Thread nD τ) 0 W)) -∗ run c (k ⟨⟩) Q)
        -∗ run c (wait1 sA dA sm a1 a2 >>= k) Q) := by
  have hpos : 0 < dA.view.amount (.dma sm) := dA.view.amount_pos _ h0
  unfold flight1 run
  iintro ⟨HBt, ⟨%W, HO⟩⟩ Hk
  unfold wait1
  iapply (Transfers.wp_waitBatchLast EC 𝒱₀ (c : Thread nD τ) none () (N := dA.view.amount (.dma sm)) rfl hpos (D := deliv1 c sA dA fA TA) (u := 0) (by omega)) $$ [HBt HO]
  · isplitl [HBt] <;> iassumption
  iintro ⟨HD, Hv, HO⟩
  ihave HD' := (deliv1_split c sA dA fA TA) $$ HD
  icases HD' with ⟨HdA, HA⟩
  simp only [ret_bind]
  iapply Hk
  isplitr [HO]
  · isplitl [Hv]; · iexact Hv
    isplitl [HA] <;> iassumption
  · iexists _; iexact HO

end

end Cert.KernelIdeal.Hand
end
-- ==== Proof.Ideal.Seq.lean ====
/-
  Runs of numbered assertions, and buffers cut along a number of their elements or along shares.
-/
module

public import proofs.«01_k».proof.Proof.Ideal.Dma

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

/-- `P k`, `P (k + 1)`, …, `n` of them. -/
def Seq (P : ℕ → sProp 𝕄) : ℕ → ℕ → sProp 𝕄
  | 0, _ => iprop(emp)
  | n + 1, k => iprop(P k ∗ Seq P n (k + 1))

theorem Seq.mono {P Q : ℕ → sProp 𝕄} : ∀ (n k : ℕ), (∀ i, k ≤ i → i < k + n → (P i ⊢ Q i)) → (Seq P n k ⊢ Seq Q n k)
  | 0, k, h => .rfl
  | n + 1, k, h => BIClass.sep_mono (h k (Nat.le_refl k) (by omega)) (Seq.mono n (k + 1) fun i h1 h2 => h i (by omega) (by omega))

theorem Seq.sep {P Q : ℕ → sProp 𝕄} : ∀ (n k : ℕ), iprop(Seq P n k ∗ Seq Q n k) ⊢ Seq (fun i => iprop(P i ∗ Q i)) n k
  | 0, k => by iintro ⟨H, -⟩; iexact H
  | n + 1, k => by
    unfold Seq
    iintro ⟨⟨HP, HPs⟩, HQ, HQs⟩
    isplitl [HP HQ]
    · isplitl [HP] <;> iassumption
    iapply (Seq.sep n (k + 1))
    isplitl [HPs] <;> iassumption

theorem Seq.unsep {P Q : ℕ → sProp 𝕄} : ∀ (n k : ℕ), Seq (fun i => iprop(P i ∗ Q i)) n k ⊢ iprop(Seq P n k ∗ Seq Q n k)
  | 0, k => by
    unfold Seq
    iintro H
    isplitl [H]; · iexact H
    iempintro
  | n + 1, k => by
    unfold Seq
    iintro ⟨⟨HP, HQ⟩, H⟩
    ihave H' := (Seq.unsep n (k + 1)) $$ H
    icases H' with ⟨HPs, HQs⟩
    isplitl [HP HPs]
    · isplitl [HP] <;> iassumption
    isplitl [HQ] <;> iassumption

theorem Seq.snoc {P : ℕ → sProp 𝕄} : ∀ (n k : ℕ), iprop(Seq P n k ∗ P (k + n)) ⊢ Seq P (n + 1) k
  | 0, k => by
    simp only [Seq]
    iintro ⟨H, HP⟩
    isplitl [HP]; · iexact HP
    iexact H
  | n + 1, k => by
    unfold Seq
    iintro ⟨⟨HP, H⟩, HL⟩
    isplitl [HP]; · iexact HP
    iapply (Seq.snoc n (k + 1))
    isplitl [H]; · iexact H
    rw [show k + 1 + n = k + (n + 1) by omega]
    iexact HL

theorem Seq.last {P : ℕ → sProp 𝕄} : ∀ (n k : ℕ), Seq P (n + 1) k ⊢ iprop(Seq P n k ∗ P (k + n))
  | 0, k => by
    simp only [Seq]
    iintro ⟨HP, H⟩
    isplitl [H]; · iexact H
    iexact HP
  | n + 1, k => by
    unfold Seq
    iintro ⟨HP, H⟩
    ihave H' := (Seq.last n (k + 1)) $$ H
    icases H' with ⟨H, HL⟩
    isplitl [HP H]
    · isplitl [HP] <;> iassumption
    rw [show k + 1 + n = k + (n + 1) by omega]
    iexact HL

/-! ## Shares -/

/-- What is left of a whole share after `n` parts have been taken off, and the part taken off next. -/
def rq : ℕ → PosShare TreeShare
  | 0 => fullShare
  | n + 1 => (rq n).right
def lq (n : ℕ) : PosShare TreeShare := (rq n).left

theorem share_cut {ℓ : Loc nD τ sig} {S : Finset (Idx ℓ)} {f : Buf (Elt F) ℓ} : ∀ (n k : ℕ),
    (ℓ ↦[S]{rq k} f : sProp 𝕄) ⊢ iprop(Seq (fun i => ℓ ↦[S]{lq i} f) n k ∗ (ℓ ↦[S]{rq (k + n)} f))
  | 0, k => by
    unfold Seq
    iintro H
    isplitr; · iempintro
    iexact H
  | n + 1, k => by
    unfold Seq
    iintro H
    ihave H' := (pointsTo_share (PosShare.mem_left_op_right (rq k))).1 $$ H
    rw [show (rq k).right = rq (k + 1) from rfl]
    icases H' with ⟨HL, HR⟩
    ihave HR' := (share_cut n (k + 1)) $$ HR
    icases HR' with ⟨HS, HR⟩
    isplitl [HL HS]
    · isplitl [HL]
      · unfold lq; iexact HL
      iexact HS
    rw [show k + (n + 1) = k + 1 + n by omega]
    iexact HR

theorem share_glue {ℓ : Loc nD τ sig} {S : Finset (Idx ℓ)} {f : Buf (Elt F) ℓ} : ∀ (n k : ℕ),
    iprop(Seq (fun i => ℓ ↦[S]{lq i} f) n k ∗ (ℓ ↦[S]{rq (k + n)} f)) ⊢ (ℓ ↦[S]{rq k} f : sProp 𝕄)
  | 0, k => by
    unfold Seq
    iintro ⟨-, H⟩
    iexact H
  | n + 1, k => by
    unfold Seq
    iintro ⟨⟨HL, HS⟩, HR⟩
    iapply (pointsTo_share (PosShare.mem_left_op_right (rq k))).2
    isplitl [HL]
    · unfold lq; iexact HL
    iapply (share_glue n (k + 1))
    isplitl [HS]; · iexact HS
    rw [show k + 1 + n = k + (n + 1) by omega]
    iexact HR

/-! ## Elements -/

/-- The elements numbered `i`. -/
abbrev part {ℓ : Loc nD τ sig} (key : Idx ℓ → ℕ) (i : ℕ) : Finset (Idx ℓ) := Finset.univ.filter fun j => key j = i
abbrev upto {ℓ : Loc nD τ sig} (key : Idx ℓ → ℕ) (k n : ℕ) : Finset (Idx ℓ) := Finset.univ.filter fun j => k ≤ key j ∧ key j < k + n

theorem upto_succ {ℓ : Loc nD τ sig} (key : Idx ℓ → ℕ) (k n : ℕ) : upto key k (n + 1) = part key k ∪ upto key (k + 1) n := by
  ext j; simp only [Finset.mem_union, Finset.mem_filter, Finset.mem_univ, true_and]; omega
theorem upto_disj {ℓ : Loc nD τ sig} (key : Idx ℓ → ℕ) (k n : ℕ) : Disjoint (part key k) (upto key (k + 1) n) := by
  rw [Finset.disjoint_left]; intro j; simp only [Finset.mem_filter, Finset.mem_univ, true_and]; omega

theorem part_cut {ℓ : Loc nD τ sig} (key : Idx ℓ → ℕ) {f : Buf (Elt F) ℓ} : ∀ (n k : ℕ),
    (ℓ ↦[upto key k n]{fullShare} f : sProp 𝕄) ⊢ Seq (fun i => ℓ ↦[part key i]{fullShare} f) n k
  | 0, k => by
    unfold Seq
    rw [show upto key k 0 = ∅ by ext j; simp, pointsTo_empty]
  | n + 1, k => by
    unfold Seq
    rw [upto_succ]
    exact (pointsTo_union (upto_disj key k n)).1.trans (BIClass.sep_mono .rfl (part_cut key n (k + 1)))

theorem part_glue {ℓ : Loc nD τ sig} (key : Idx ℓ → ℕ) {f : Buf (Elt F) ℓ} : ∀ (n k : ℕ),
    Seq (fun i => ℓ ↦[part key i]{fullShare} f) n k ⊢ (ℓ ↦[upto key k n]{fullShare} f : sProp 𝕄)
  | 0, k => by
    unfold Seq
    rw [show upto key k 0 = ∅ by ext j; simp, pointsTo_empty]
  | n + 1, k => by
    unfold Seq
    rw [upto_succ]
    exact (BIClass.sep_mono .rfl (part_glue key n (k + 1))).trans (pointsTo_union (upto_disj key k n)).2

theorem part_join {ℓ : Loc nD τ sig} (key : Idx ℓ → ℕ) (f₀ : Buf (Elt F) ℓ) : ∀ (n k : ℕ),
    Seq (fun i => iprop(∃ f, ℓ ↦[part key i]{fullShare} f)) n k ⊢ (iprop(∃ f, ℓ ↦[upto key k n]{fullShare} f) : sProp 𝕄)
  | 0, k => by
    unfold Seq
    iintro H
    iexists f₀
    rw [show upto key k 0 = ∅ by ext j; simp, pointsTo_empty]
    iexact H
  | n + 1, k => by
    unfold Seq
    rw [upto_succ]
    iintro ⟨⟨%f, H⟩, HS⟩
    ihave HS' := (part_join key f₀ n (k + 1)) $$ HS
    icases HS' with ⟨%g, HS⟩
    iexists _
    iapply (pointsTo_join (upto_disj key k n))
    isplitl [H] <;> iassumption

theorem upto_univ {ℓ : Loc nD τ sig} (key : Idx ℓ → ℕ) (n : ℕ) (h : ∀ j, key j < n) : upto key 0 n = Finset.univ := by
  ext j; have := h j; simp only [Finset.mem_filter, Finset.mem_univ, true_and, iff_true]; omega

/-- Two disjoint sets of elements, together one. -/
theorem two_cut {ℓ : Loc nD τ sig} {S I J : Finset (Idx ℓ)} (hS : S = I ∪ J) (hd : Disjoint I J) {f : Buf (Elt F) ℓ} :
    (ℓ ↦[S]{fullShare} f : sProp 𝕄) ⊢ iprop((∃ f, ℓ ↦[I]{fullShare} f) ∗ (∃ f, ℓ ↦[J]{fullShare} f)) := by
  subst hS
  iintro H
  ihave H' := (pointsTo_union hd).1 $$ H
  icases H' with ⟨H1, H2⟩
  isplitl [H1]
  · iexists _; iexact H1
  iexists _; iexact H2
theorem two_join {ℓ : Loc nD τ sig} {S I J : Finset (Idx ℓ)} (hS : S = I ∪ J) (hd : Disjoint I J) :
    iprop((∃ f, ℓ ↦[I]{fullShare} f) ∗ (∃ f, ℓ ↦[J]{fullShare} f)) ⊢ (iprop(∃ f : Buf (Elt F) ℓ, ℓ ↦[S]{fullShare} f) : sProp 𝕄) := by
  subst hS
  iintro ⟨⟨%f, H1⟩, ⟨%g, H2⟩⟩
  iexists _
  iapply (pointsTo_join hd)
  isplitl [H1] <;> iassumption

end Cert.KernelIdeal.Hand
end
-- ==== Proof.Ideal.Sums.lean ====
/-
  What the kernel's buffers hold, as functions of its arguments, and the running sums of the matrix unit.
-/
module

public import proofs.«01_k».proof.Proof.Ideal.Prog
public import Idealize.ShloMosaic.Lib.ValueIdxCore
public import Idealize.ShloMosaic.Lib.ValueLayout

@[expose] public section

noncomputable section

namespace Cert.KernelIdeal.Hand

open Cert.KernelIdeal Cert.KernelIdeal.Gen
open Idealize.ShloMosaic Idealize.ShloMosaic.TcCoe Idealize.ShloMosaic.ValueIdx
open Idealize.SL.Sem

variable {F : FTy → Type} [FloatOps F]

/-- The five arrays the kernel reads. -/
structure In (F : FTy → Type) where
  x : S128x27648.Idx → Elt F .bf16
  wg : S13824x2560.Idx → Elt F .i8
  sg : S216x2560.Idx → Elt F .bf16
  wu : S13824x2560.Idx → Elt F .i8
  su : S216x2560.Idx → Elt F .bf16

variable (A : In F)

/-! ## The buffers' contents -/

/-- The activations as the kernel stages them; -/
def XR : S2x9x128x1536.Idx → Elt F .bf16 := fun j =>
  A.x (ix2 (j 2) ⟨(j 0).val * 13824 + (j 1).val * 1536 + (j 3).val, by
    have h0 : (j 0).val < 2 := (j 0).isLt; have h1 : (j 1).val < 9 := (j 1).isLt; have h3 : (j 3).val < 1536 := (j 3).isLt; omega⟩)
/-- chunk `i` of the two matrices, in any slot of the ring; -/
def WT (i : ℕ) (hi : i < 45) : S6x2x1536x512.Idx → Elt F .i8 := fun j =>
  (if (j 1).val = 0 then A.wg else A.wu) (ix2 ⟨i % 9 * 1536 + (j 2).val, by have h2 : (j 2).val < 1536 := (j 2).isLt; omega⟩
    ⟨i / 9 * 512 + (j 3).val, by have h3 : (j 3).val < 512 := (j 3).isLt; omega⟩)
/-- the scales of column block `n`, in either slot. -/
def SR (n : ℕ) (hn : n < 5) : S2x2x216x512.Idx → Elt F .bf16 := fun j =>
  (if (j 1).val = 0 then A.sg else A.su) (ix2 (j 2) ⟨n * 512 + (j 3).val, by have h3 : (j 3).val < 512 := (j 3).isLt; omega⟩)

/-- Pass `p` of trip `c`'s activations, from each half; -/
def xHalf (k : Fin 2) (c : ℕ) (hc : c < 9) (p : Fin 12) : Vec F S1x1x128x128 .bf16 :=
  (bXR.access (Rect.unit (s := S2x9x128x1536) ![k.val, c, 0, 128 * p.val] S1x1x128x128.size (xrOff_inb hc k p))).read (Elt F) (XR A)
/-- the interleaved activations. -/
def XP : S9x128x3072.Idx → Elt F .bf16 := fun j =>
  let p : Fin 12 := ⟨(j 2).val / 256, by have h : (j 2).val < 3072 := (j 2).isLt; omega⟩
  let r : Fin 128 := j 1
  let l : Fin 128 := ⟨(j 2).val % 128, Nat.mod_lt _ (by decide)⟩
  if (j 2).val % 256 < 128 then mix0 (xHalf A 0 (j 0).val (j 0).isLt p) (xHalf A 1 (j 0).val (j 0).isLt p) (ix3 (0 : Fin 1) r l)
  else mix1 (xHalf A 0 (j 0).val (j 0).isLt p) (xHalf A 1 (j 0).val (j 0).isLt p) (ix3 (0 : Fin 1) r l)

/-- The scale rows of matrix `g` in column block `n`: those of the first half, -/
def sLo (n : ℕ) (hn : n < 5) (g : ℕ) (hg : g < 2) : Vec F S1x1x108x512 .bf16 :=
  (bS.access (Rect.unit (s := S2x2x216x512) ![n % 2, g, 0, 0] S1x1x108x512.size (sLo_inb (by omega) hg))).read (Elt F) (SR A n hn)
/-- and those of the second; -/
def sHi (n : ℕ) (hn : n < 5) (g : ℕ) (hg : g < 2) : Vec F S1x1x108x512 .bf16 :=
  (bS.access (Rect.unit (s := S2x2x216x512) ![n % 2, g, 108, 0] S1x1x108x512.size (sHi_inb (by omega) hg))).read (Elt F) (SR A n hn)
/-- the scale pairs of column block `n`. -/
def SP (n : ℕ) (hn : n < 5) : S2x2x54x2x512.Idx → Elt F .bf16 := fun j =>
  if (j 1).val = 0 then pair0 (sLo A n hn (j 0).val (j 0).isLt) (sHi A n hn (j 0).val (j 0).isLt) (ix5 (0 : Fin 1) (0 : Fin 1) (j 2 : Fin 54) (j 3 : Fin 2) (j 4 : Fin 512))
  else pair1 (sLo A n hn (j 0).val (j 0).isLt) (sHi A n hn (j 0).val (j 0).isLt) (ix5 (0 : Fin 1) (0 : Fin 1) (j 2 : Fin 54) (j 3 : Fin 2) (j 4 : Fin 512))

/-! ## One pass -/

/-- The left operand of pass `p` of trip `c`; -/
def xV (c : ℕ) (hc : c < 9) (p : Fin 12) : Vec F S1x128x256 .bf16 :=
  (bXP.access (Rect.unit (s := S9x128x3072) ![c, 0, 256 * p.val] S1x128x256.size (xOff_inb hc p))).read (Elt F) (XP A)
/-- the packed words of its tile of matrix `g`, column half `t`; -/
def wV (n : ℕ) (hn : n < 5) (c : ℕ) (hc : c < 9) (g t : Fin 2) (p : Fin 12) : Vec F S1x1x128x256 .i8 :=
  (bW.access (Rect.unit (s := S6x2x1536x512) ![(9 * n + c) % 6, g.val, 128 * p.val, 256 * t.val] S1x1x128x256.size (wOff_inb (by omega) g t p))).read (Elt F) (WT A (9 * n + c) (by omega))
/-- and its scale pairs. -/
def sV (n : ℕ) (hn : n < 5) (c : ℕ) (hc : c < 9) (g t : Fin 2) (p : Fin 12) : Vec F S1x1x1x2x256 .bf16 :=
  (bP.access (Rect.unit (s := S2x2x54x2x512) ![g.val, p.val % 2, 6 * c + p.val / 2, 0, 256 * t.val] S1x1x1x2x256.size (sOff_inb (by omega) g t p))).read (Elt F) (SP A n hn)

/-- What pass `p` of trip `c` adds to the sum of matrix `g`, column half `t`, in column block `n`. -/
def term (n : ℕ) (hn : n < 5) (g t : Fin 2) (c : ℕ) (hc : c < 9) (p : Fin 12) : FVec F S128x256 .f32 :=
  FloatOps.mxuPass (DotDims.plain 128 256 256) (lhsOf (xV A c hc p)) (tileOf (wV A n hn c hc g t p) (sV A n hn c hc g t p))

/-- The terms in order: pass `k % 12` of trip `k / 12`. -/
def termAt (n : ℕ) (hn : n < 5) (g t : Fin 2) (k : ℕ) : FVec F S128x256 .f32 :=
  if h : k < 108 then term A n hn g t (k / 12) (by omega) ⟨k % 12, by omega⟩ else fun _ => FloatOps.ofBits .f32 0

/-- The sum of the first `k + 1` terms, added in order. -/
def accV (n : ℕ) (hn : n < 5) (g t : Fin 2) : ℕ → FVec F S128x256 .f32
  | 0 => termAt A n hn g t 0
  | k + 1 => fun i => FloatOps.addf (accV n hn g t k i) (termAt A n hn g t (k + 1) i)

/-- Column block `n` of the result. -/
def outV (n : ℕ) (hn : n < 5) (t : Fin 2) : Vec F S1x128x256 .bf16 := act (accV A n hn 0 t 107) (accV A n hn 1 t 107)
/-- In the output buffer, -/
def OB (n : ℕ) (hn : n < 5) : S2x128x512.Idx → Elt F .bf16 := fun j =>
  outV A n hn ⟨(j 2).val / 256, by have h : (j 2).val < 512 := (j 2).isLt; omega⟩ (ix3 (0 : Fin 1) (j 1 : Fin 128) (⟨(j 2).val % 256, Nat.mod_lt _ (by decide)⟩ : Fin 256))
/-- and in the result. -/
def OT : S128x2560.Idx → Elt F .bf16 := fun j =>
  outV A ((j 1).val / 512) (by have h : (j 1).val < 2560 := (j 1).isLt; omega) ⟨(j 1).val % 512 / 256, by omega⟩
    (ix3 (0 : Fin 1) (j 0 : Fin 128) (⟨(j 1).val % 256, Nat.mod_lt _ (by decide)⟩ : Fin 256))

/-! ## The matrix unit's state -/

/-- Row `r` of column half `t`'s accumulator. -/
abbrev accRow (t : Fin 2) (r : Fin 128) : Fin 1024 := ⟨128 * t.val + r.val, by have := t.isLt; have := r.isLt; omega⟩

/-- Before pass `k` of column block `n`: the registers are empty and the two halves' rows hold the sums of the first `k` terms. -/
structure St (n : ℕ) (hn : n < 5) (k : ℕ) (mx : Mxu F) : Prop where
  reg : ∀ q r, mx.reg q r = none
  off : ∀ q (R : Fin 1024), 256 ≤ R.val → mx.live q R = false
  dead : k = 0 → ∀ q t r, mx.live q (accRow t r) = false
  live : ∀ k', k = k' + 1 → ∀ q t r, mx.live q (accRow t r) = true
  acc : ∀ k', k = k' + 1 → ∀ q t r (C : Fin 256), mx.acc q (accRow t r) C = accV A n hn q t k' (ix2 r C)

theorem St.init (n : ℕ) (hn : n < 5) {mx : Mxu F} (h : mx.Drained) : St A n hn 0 mx where
  reg q r := Option.isNone_iff_eq_none.mp (h.1 q r)
  off q R _ := h.2 q R
  dead _ q t r := h.2 q _
  live k' e := absurd e (by omega)
  acc k' e := absurd e (by omega)

/-- One column half of a pass. -/
def half (mx : Mxu F) (r : Fin 2) (A : ℕ) (h : Mxu.Fits A 128) (x : FVec F S128x256 .bf16) (v0 v1 : FVec F S256x256 .bf16) : Mxu F :=
  (((mx.pushed 0 r false v0).pushed 1 r false v1).accLhs 0 r A x h).accLhs 1 r A x h

/-- One pass. -/
def passV (mx : Mxu F) (x : FVec F S128x256 .bf16) (v : Fin 2 → Fin 2 → FVec F S256x256 .bf16) : Mxu F :=
  half (half mx 0 0 fits_0_128 x (v 0 0) (v 1 0)) 1 32 fits_32_128 x (v 0 1) (v 1 1)

section
variable {mx : Mxu F} (hr : ∀ q r, mx.reg q r = none) (r : Fin 2) (B : ℕ) (h : Mxu.Fits B 128) (x : FVec F S128x256 .bf16) (v0 v1 : FVec F S256x256 .bf16)
include hr

theorem half_reg (q r' : Fin 2) : (half mx r B h x v0 v1).reg q r' = none := by
  have h01 : (1 : Fin 2) ≠ 0 := by decide
  simp only [half, Mxu.accLhs, Mxu.accBy, Mxu.pushed, hr]
  by_cases e1 : q = 1 ∧ r' = r
  · simp [e1]
  · by_cases e0 : q = 0 ∧ r' = r
    · simp [e0]
    · simp [e0, e1, hr]

theorem half_live (q : Fin 2) (R : Fin 1024) : (half mx r B h x v0 v1).live q R = if 4 * B ≤ R.val ∧ R.val < 4 * B + 128 then true else mx.live q R := by
  simp only [half, Mxu.accLhs, Mxu.accBy, Mxu.pushed, hr]
  obtain rfl | rfl : q = 0 ∨ q = 1 := by omega
  · simp [hr]
  · simp [hr]

theorem half_acc (q : Fin 2) (R : Fin 1024) (C : Fin 256) : (half mx r B h x v0 v1).acc q R C =
    if e : 4 * B ≤ R.val ∧ R.val < 4 * B + 128 then
      Mxu.deposit (mx.live q R) (mx.acc q R C) ((FloatOps.mxuPass (DotDims.plain 128 256 256) x (if q = 0 then v0 else v1) : FVec F S128x256 .f32) (Mxu.ix ⟨R.val - 4 * B, by omega⟩ C))
    else mx.acc q R C := by
  simp only [half, Mxu.accLhs, Mxu.accBy, Mxu.pushed, hr]
  obtain rfl | rfl : q = 0 ∨ q = 1 := by omega
  · simp [hr, Mxu.staged, Mxu.Staged.pass]
    split
    · rw [if_pos (⟨rfl, rfl⟩ : (0 : Fin 2) = 0 ∧ r = r)]; rfl
    · rfl
  · simp [hr, Mxu.staged, Mxu.Staged.pass]
    split
    · rw [if_pos (⟨rfl, rfl⟩ : (1 : Fin 2) = 1 ∧ r = r)]; rfl
    · rfl
end

theorem ix_eq {M : ℕ} (r : Fin M) (C : Fin 256) : Mxu.ix r C = ix2 r C := by
  funext a; fin_cases a <;> rfl

theorem St.next {n : ℕ} {hn : n < 5} {k : ℕ} {mx : Mxu F} (h : St A n hn k mx) {c : ℕ} (hc : c < 9) (p : Fin 12) (hk : k = 12 * c + p.val) :
    St A n hn (k + 1) (passV mx (lhsOf (xV A c hc p)) fun g t => tileOf (wV A n hn c hc g t p) (sV A n hn c hc g t p)) := by
  have hp := p.isLt
  have hterm : ∀ g t, termAt A n hn g t k = FloatOps.mxuPass (DotDims.plain 128 256 256) (lhsOf (xV A c hc p)) (tileOf (wV A n hn c hc g t p) (sV A n hn c hc g t p)) := by
    intro g t
    have e1 : k / 12 = c := by omega
    have e2 : (⟨k % 12, by omega⟩ : Fin 12) = p := Fin.ext (by show k % 12 = p.val; omega)
    rw [termAt, dif_pos (by omega)]
    subst e1
    rw [e2]; rfl
  have hr1 := half_reg h.reg 0 0 fits_0_128 (lhsOf (xV A c hc p)) (tileOf (wV A n hn c hc 0 0 p) (sV A n hn c hc 0 0 p)) (tileOf (wV A n hn c hc 1 0 p) (sV A n hn c hc 1 0 p))
  refine ⟨fun q r => half_reg hr1 .., fun q R hR => ?_, fun e => absurd e (by omega), fun k' e q t r => ?_, fun k' e q t r C => ?_⟩
  · rw [passV, half_live hr1, half_live h.reg, if_neg (by omega), if_neg (by omega)]; exact h.off q R hR
  · rw [passV, half_live hr1, half_live h.reg]
    have := r.isLt
    obtain rfl | rfl : t = 0 ∨ t = 1 := by omega
    · rw [if_neg (by show ¬ (4 * 32 ≤ 128 * 0 + r.val ∧ _); omega), if_pos (by show 4 * 0 ≤ 128 * 0 + r.val ∧ 128 * 0 + r.val < 4 * 0 + 128; omega)]
    · rw [if_pos (by show 4 * 32 ≤ 128 * 1 + r.val ∧ 128 * 1 + r.val < 4 * 32 + 128; omega)]
  · obtain rfl : k = k' := by omega
    have hrl := r.isLt
    have key : ∀ (q t : Fin 2), Mxu.deposit (mx.live q (accRow t r)) (mx.acc q (accRow t r) C) (termAt A n hn q t k (ix2 r C)) = accV A n hn q t k (ix2 r C) := by
      intro q t
      cases hk0 : k with
      | zero => rw [h.dead hk0 q t r]; rfl
      | succ k' => rw [h.live k' hk0 q t r, h.acc k' hk0 q t r C]; rfl
    rw [passV, half_acc hr1]
    obtain rfl | rfl : t = 0 ∨ t = 1 := by omega
    · rw [dif_neg (by show ¬ (4 * 32 ≤ 128 * 0 + r.val ∧ _); omega), half_acc h.reg, dif_pos (by show 4 * 0 ≤ 128 * 0 + r.val ∧ 128 * 0 + r.val < 4 * 0 + 128; omega)]
      rw [← key q 0, hterm]
      have e1 : (⟨(accRow 0 r).val - 4 * 0, by show 128 * 0 + r.val - 4 * 0 < 128; omega⟩ : Fin 128) = r := Fin.ext (by show 128 * 0 + r.val - 4 * 0 = r.val; omega)
      rw [e1, ix_eq]
      obtain rfl | rfl : q = 0 ∨ q = 1 := by omega
      · rfl
      · rfl
    · rw [dif_pos (by show 4 * 32 ≤ 128 * 1 + r.val ∧ 128 * 1 + r.val < 4 * 32 + 128; omega), half_live h.reg, half_acc h.reg, if_neg (by show ¬ (_ ∧ 128 * 1 + r.val < 4 * 0 + 128); omega),
        dif_neg (by show ¬ (_ ∧ 128 * 1 + r.val < 4 * 0 + 128); omega)]
      rw [← key q 1, hterm]
      have e1 : (⟨(accRow 1 r).val - 4 * 32, by show 128 * 1 + r.val - 4 * 32 < 128; omega⟩ : Fin 128) = r := Fin.ext (by show 128 * 1 + r.val - 4 * 32 = r.val; omega)
      rw [e1, ix_eq]
      obtain rfl | rfl : q = 0 ∨ q = 1 := by omega
      · rfl
      · rfl

/-- The state the epilogue leaves. -/
def popAll (mx : Mxu F) : Mxu F :=
  (((mx.pop 0 0 128 fits_0_128).pop 1 0 128 fits_0_128).pop 0 32 128 fits_32_128).pop 1 32 128 fits_32_128

theorem popAll_drained {n : ℕ} {hn : n < 5} {k : ℕ} {mx : Mxu F} (h : St A n hn k mx) : (popAll mx).Drained := by
  refine ⟨fun q r => ?_, fun q R => ?_⟩
  · show (mx.reg q r).isNone = true
    rw [h.reg]; rfl
  · by_cases hR : 256 ≤ R.val
    · have := h.off q R hR
      simp only [popAll, Mxu.pop]
      simp [this]
    · simp only [popAll, Mxu.pop]
      obtain rfl | rfl : q = 0 ∨ q = 1 := by omega
      · simp; omega
      · simp; omega

theorem St.read {n : ℕ} {hn : n < 5} {k : ℕ} {mx : Mxu F} (h : St A n hn (k + 1) mx) (q : Fin 2) :
    mx.read q 0 fits_0_128 = accV A n hn q 0 k ∧ mx.read q 32 fits_32_128 = accV A n hn q 1 k := by
  constructor
  · funext i
    rw [eq_ix2 i]
    refine Eq.trans ?_ (h.acc k rfl q 0 (i 0) (i 1))
    show mx.acc q _ _ = _
    congr 1
  · funext i
    rw [eq_ix2 i]
    refine Eq.trans ?_ (h.acc k rfl q 1 (i 0) (i 1))
    show mx.acc q _ _ = _
    congr 1

/-- The pops before a read do not reach it. -/
theorem read_pops (mx : Mxu F) :
    (mx.pop 0 0 128 fits_0_128).read 1 0 fits_0_128 = mx.read 1 0 fits_0_128
    ∧ ((mx.pop 0 0 128 fits_0_128).pop 1 0 128 fits_0_128).read 0 32 fits_32_128 = mx.read 0 32 fits_32_128
    ∧ (((mx.pop 0 0 128 fits_0_128).pop 1 0 128 fits_0_128).pop 0 32 128 fits_32_128).read 1 32 fits_32_128 = mx.read 1 32 fits_32_128 := by
  refine ⟨?_, ?_, ?_⟩ <;> funext i <;> simp only [Mxu.read, Mxu.pop, Mxu.row] <;> simp

end Cert.KernelIdeal.Hand
end
-- ==== Proof.Ideal.Geom.lean ====
/-
  Where the pieces lie in their buffers, and what the transfers put in them.
-/
module

public import proofs.«01_k».proof.Proof.Ideal.Sums
public import proofs.«01_k».proof.Proof.Ideal.Dma

@[expose] public section

set_option pp.maxSteps 40

noncomputable section

namespace Cert.KernelIdeal.Hand

open Cert.KernelIdeal Cert.KernelIdeal.Gen
open Idealize.ShloMosaic Idealize.ShloMosaic.TcCoe Idealize.ShloMosaic.ValueIdx
open Idealize.SL.Sem

variable {F : FTy → Type} [FloatOps F] (A : In F)

theorem emb_w {sl g : ℕ} (h : sl < 6) (hg : g < 2) (r : Fin 1536) (k : Fin 512) :
    (wAt sl h g hg).view.emb (ix2 r k) = ix4 (⟨sl, h⟩ : Fin 6) (⟨g, hg⟩ : Fin 2) r k := by
  refine Eq.trans (congrArg (Rect.unit (s := S6x2x1536x512) ![sl, g, 0, 0] S1x1x1536x512.size (inbW h hg)).idx (reshapeEquiv_ix2_11ab _ r k)) ?_
  funext a; fin_cases a
  · exact Fin.ext (by show sl + 1 * 0 = sl; omega)
  · exact Fin.ext (by show g + 1 * 0 = g; omega)
  · exact Fin.ext (by show 0 + 1 * r.val = r.val; omega)
  · exact Fin.ext (by show 0 + 1 * k.val = k.val; omega)

theorem mem_w {sl g : ℕ} (h : sl < 6) (hg : g < 2) (i : S6x2x1536x512.Idx) : i ∈ (wAt sl h g hg).view.set ↔ (i 0).val = sl ∧ (i 1).val = g := by
  constructor
  · intro hi
    obtain ⟨x, -, rfl⟩ := Finset.mem_map.mp hi
    rw [eq_ix2 x]
    erw [emb_w]
    exact ⟨rfl, rfl⟩
  · intro ⟨h0, h1⟩
    have : i = (wAt sl h g hg).view.emb (ix2 (i 2 : Fin 1536) (i 3 : Fin 512)) := by
      refine Eq.trans ?_ (emb_w h hg _ _).symm
      refine (eq_ix4 i).trans ?_
      subst h0 h1; rfl
    rw [this]
    exact View.emb_mem_set _ _

theorem emb_xr {sl g : ℕ} (h : sl < 2) (hg : g < 9) (r : Fin 128) (k : Fin 1536) :
    (xrAt sl h g hg).view.emb (ix2 r k) = ix4 (⟨sl, h⟩ : Fin 2) (⟨g, hg⟩ : Fin 9) r k := by
  refine Eq.trans (congrArg (Rect.unit (s := S2x9x128x1536) ![sl, g, 0, 0] S1x1x128x1536.size (inbXR h hg)).idx (reshapeEquiv_ix2_11ab _ r k)) ?_
  funext a; fin_cases a
  · exact Fin.ext (by show sl + 1 * 0 = sl; omega)
  · exact Fin.ext (by show g + 1 * 0 = g; omega)
  · exact Fin.ext (by show 0 + 1 * r.val = r.val; omega)
  · exact Fin.ext (by show 0 + 1 * k.val = k.val; omega)

theorem mem_xr {sl g : ℕ} (h : sl < 2) (hg : g < 9) (i : S2x9x128x1536.Idx) : i ∈ (xrAt sl h g hg).view.set ↔ (i 0).val = sl ∧ (i 1).val = g := by
  constructor
  · intro hi
    obtain ⟨x, -, rfl⟩ := Finset.mem_map.mp hi
    rw [eq_ix2 x]
    erw [emb_xr]
    exact ⟨rfl, rfl⟩
  · intro ⟨h0, h1⟩
    have : i = (xrAt sl h g hg).view.emb (ix2 (i 2 : Fin 128) (i 3 : Fin 1536)) := by
      refine Eq.trans ?_ (emb_xr h hg _ _).symm
      refine (eq_ix4 i).trans ?_
      subst h0 h1; rfl
    rw [this]
    exact View.emb_mem_set _ _

theorem emb_s {sl g : ℕ} (h : sl < 2) (hg : g < 2) (r : Fin 216) (k : Fin 512) :
    (sAt sl h g hg).view.emb (ix2 r k) = ix4 (⟨sl, h⟩ : Fin 2) (⟨g, hg⟩ : Fin 2) r k := by
  refine Eq.trans (congrArg (Rect.unit (s := S2x2x216x512) ![sl, g, 0, 0] S1x1x216x512.size (inbS h hg)).idx (reshapeEquiv_ix2_11ab _ r k)) ?_
  funext a; fin_cases a
  · exact Fin.ext (by show sl + 1 * 0 = sl; omega)
  · exact Fin.ext (by show g + 1 * 0 = g; omega)
  · exact Fin.ext (by show 0 + 1 * r.val = r.val; omega)
  · exact Fin.ext (by show 0 + 1 * k.val = k.val; omega)

theorem mem_s {sl g : ℕ} (h : sl < 2) (hg : g < 2) (i : S2x2x216x512.Idx) : i ∈ (sAt sl h g hg).view.set ↔ (i 0).val = sl ∧ (i 1).val = g := by
  constructor
  · intro hi
    obtain ⟨x, -, rfl⟩ := Finset.mem_map.mp hi
    rw [eq_ix2 x]
    erw [emb_s]
    exact ⟨rfl, rfl⟩
  · intro ⟨h0, h1⟩
    have : i = (sAt sl h g hg).view.emb (ix2 (i 2 : Fin 216) (i 3 : Fin 512)) := by
      refine Eq.trans ?_ (emb_s h hg _ _).symm
      refine (eq_ix4 i).trans ?_
      subst h0 h1; rfl
    rw [this]
    exact View.emb_mem_set _ _

theorem lands_wg (c : Dev nD) (i : ℕ) (hi : i < 45) {sl : ℕ} (h : sl < 6) : Lands (F := F) c (wgAt i hi) (wAt sl h 0 (by decide)) A.wg (WT A i hi) := by
  funext j
  rw [eq_ix2 j]
  refine Eq.trans (congrArg (WT A i hi) (emb_w h (by decide : 0 < 2) _ _)) ?_
  show A.wg _ = A.wg _
  congr 1
  funext a; fin_cases a
  · exact Fin.ext (congrArg (i % 9 * 1536 + ·) (Nat.one_mul _).symm)
  · exact Fin.ext (congrArg (i / 9 * 512 + ·) (Nat.one_mul _).symm)

theorem lands_wu (c : Dev nD) (i : ℕ) (hi : i < 45) {sl : ℕ} (h : sl < 6) : Lands (F := F) c (wuAt i hi) (wAt sl h 1 (by decide)) A.wu (WT A i hi) := by
  funext j
  rw [eq_ix2 j]
  refine Eq.trans (congrArg (WT A i hi) (emb_w h (by decide : 1 < 2) _ _)) ?_
  show A.wu _ = A.wu _
  congr 1
  funext a; fin_cases a
  · exact Fin.ext (congrArg (i % 9 * 1536 + ·) (Nat.one_mul _).symm)
  · exact Fin.ext (congrArg (i / 9 * 512 + ·) (Nat.one_mul _).symm)

theorem lands_x0 (c : Dev nD) (t : ℕ) (ht : t < 9) : Lands (F := F) c (xAt 0 (by decide) t ht) (xrAt 0 (by decide) t ht) A.x (XR A) := by
  funext j
  rw [eq_ix2 j]
  refine Eq.trans (congrArg (XR A) (emb_xr (by decide : 0 < 2) ht _ _)) ?_
  show A.x _ = A.x _
  congr 1
  funext a; fin_cases a
  · exact Fin.ext (((congrArg (0 + ·) (Nat.one_mul _)).trans (Nat.zero_add _)).symm)
  · exact Fin.ext (congrArg (0 * 13824 + t * 1536 + ·) (Nat.one_mul _).symm)

theorem lands_x1 (c : Dev nD) (t : ℕ) (ht : t < 9) : Lands (F := F) c (xAt 1 (by decide) t ht) (xrAt 1 (by decide) t ht) A.x (XR A) := by
  funext j
  rw [eq_ix2 j]
  refine Eq.trans (congrArg (XR A) (emb_xr (by decide : 1 < 2) ht _ _)) ?_
  show A.x _ = A.x _
  congr 1
  funext a; fin_cases a
  · exact Fin.ext (((congrArg (0 + ·) (Nat.one_mul _)).trans (Nat.zero_add _)).symm)
  · exact Fin.ext (congrArg (1 * 13824 + t * 1536 + ·) (Nat.one_mul _).symm)

theorem lands_sg (c : Dev nD) (n : ℕ) (hn : n < 5) {sl : ℕ} (h : sl < 2) : Lands (F := F) c (sgAt n hn) (sAt sl h 0 (by decide)) A.sg (SR A n hn) := by
  funext j
  rw [eq_ix2 j]
  refine Eq.trans (congrArg (SR A n hn) (emb_s h (by decide : 0 < 2) _ _)) ?_
  show A.sg _ = A.sg _
  congr 1
  funext a; fin_cases a
  · exact Fin.ext (((congrArg (0 + ·) (Nat.one_mul _)).trans (Nat.zero_add _)).symm)
  · exact Fin.ext (congrArg (n * 512 + ·) (Nat.one_mul _).symm)

theorem lands_su (c : Dev nD) (n : ℕ) (hn : n < 5) {sl : ℕ} (h : sl < 2) : Lands (F := F) c (suAt n hn) (sAt sl h 1 (by decide)) A.su (SR A n hn) := by
  funext j
  rw [eq_ix2 j]
  refine Eq.trans (congrArg (SR A n hn) (emb_s h (by decide : 1 < 2) _ _)) ?_
  show A.su _ = A.su _
  congr 1
  funext a; fin_cases a
  · exact Fin.ext (((congrArg (0 + ·) (Nat.one_mul _)).trans (Nat.zero_add _)).symm)
  · exact Fin.ext (congrArg (n * 512 + ·) (Nat.one_mul _).symm)

theorem emb_o {sl : ℕ} (h : sl < 2) (r : Fin 128) (k : Fin 512) : (oAt sl h).view.emb (ix2 r k) = ix3 (⟨sl, h⟩ : Fin 2) r k := by
  refine Eq.trans (congrArg (Rect.unit (s := S2x128x512) ![sl, 0, 0] S1x128x512.size (inbO h)).idx (reshapeEquiv_ix2_1ab _ r k)) ?_
  funext a; fin_cases a
  · exact Fin.ext (by show sl + 1 * 0 = sl; omega)
  · exact Fin.ext (by show 0 + 1 * r.val = r.val; omega)
  · exact Fin.ext (by show 0 + 1 * k.val = k.val; omega)

theorem mem_o {sl : ℕ} (h : sl < 2) (i : S2x128x512.Idx) : i ∈ (oAt sl h).view.set ↔ (i 0).val = sl := by
  constructor
  · intro hi
    obtain ⟨x, -, rfl⟩ := Finset.mem_map.mp hi
    rw [eq_ix2 x]
    erw [emb_o]
  · intro h0
    have : i = (oAt sl h).view.emb (ix2 (i 1 : Fin 128) (i 2 : Fin 512)) := by
      refine Eq.trans ?_ (emb_o h _ _).symm
      refine (eq_ix3 i).trans ?_
      subst h0; rfl
    rw [this]
    exact View.emb_mem_set _ _

theorem emb_out {n : ℕ} (hn : n < 5) (r : Fin 128) (k : Fin 512) :
    (outAt n hn).view.emb (ix2 r k) = ix2 r (⟨n * 512 + k.val, by have := k.isLt; omega⟩ : Fin 2560) := by
  funext a; fin_cases a
  · exact Fin.ext (by show 0 + 1 * r.val = r.val; omega)
  · exact Fin.ext (by show n * 512 + 1 * k.val = n * 512 + k.val; omega)

theorem mem_out {n : ℕ} (hn : n < 5) (i : S128x2560.Idx) : i ∈ (outAt n hn).view.set ↔ (i 1).val / 512 = n := by
  constructor
  · intro hi
    obtain ⟨x, -, rfl⟩ := Finset.mem_map.mp hi
    rw [eq_ix2 x]
    erw [emb_out]
    have : (x 1).val < 512 := (x 1).isLt
    show (n * 512 + (x 1).val) / 512 = n
    omega
  · intro h0
    have : i = (outAt n hn).view.emb (ix2 (i 0 : Fin 128) (⟨(i 1).val % 512, by omega⟩ : Fin 512)) := by
      refine Eq.trans ?_ (emb_out hn _ _).symm
      refine (eq_ix2 i).trans ?_
      congr 1
      exact Fin.ext (by show (i 1).val = n * 512 + (i 1).val % 512; omega)
    rw [this]
    exact View.emb_mem_set _ _

theorem lands_o (c : Dev nD) (n : ℕ) (hn : n < 5) {sl : ℕ} (h : sl < 2) : Lands (F := F) c (oAt sl h) (outAt n hn) (OB A n hn) (OT A) := by
  funext j
  rw [eq_ix2 j]
  refine Eq.trans (congrArg (OT A) (emb_out hn _ _)) (Eq.trans ?_ (congrArg (OB A n hn) (emb_o h _ _)).symm)
  have hj : (j 1).val < 512 := (j 1).isLt
  have key : ∀ (n' : ℕ) (hn' : n' < 5) (t t' : Fin 2) (k k' : Fin 256), n' = n → t = t' → k = k' →
      outV A n' hn' t (ix3 (0 : Fin 1) (j 0 : Fin 128) k) = outV A n hn t' (ix3 (0 : Fin 1) (j 0 : Fin 128) k') := by
    intro n' hn' t t' k k' e1 e2 e3; subst e1 e2 e3; rfl
  refine key _ _ _ _ _ _ ?_ (Fin.ext ?_) (Fin.ext ?_)
  · show (n * 512 + (j 1).val) / 512 = n; omega
  · show (n * 512 + (j 1).val) % 512 / 256 = (j 1).val / 256; omega
  · show (n * 512 + (j 1).val) % 256 = (j 1).val % 256; omega

/-! ## The accesses lie in their pieces -/

theorem sub_w {sl g : ℕ} (h : sl < 6) (hg : g < 2) {d : Fin 4 → ℕ} {hd : ∀ a, d a + S1x1x128x256.size a ≤ S6x2x1536x512.size a} (h0 : d 0 = sl) (h1 : d 1 = g) :
    (bW.access (Rect.unit (s := S6x2x1536x512) d S1x1x128x256.size hd)).set ⊆ (wAt sl h g hg).view.set := by
  intro i hi
  obtain ⟨x, -, rfl⟩ := Finset.mem_map.mp hi
  have e0 : (x 0).val < 1 := (x 0).isLt
  have e1 : (x 1).val < 1 := (x 1).isLt
  refine (mem_w h hg _).mpr ⟨?_, ?_⟩
  · show d 0 + 1 * (x 0).val = sl; omega
  · show d 1 + 1 * (x 1).val = g; omega
theorem sub_xr {sl g : ℕ} (h : sl < 2) (hg : g < 9) {d : Fin 4 → ℕ} {hd : ∀ a, d a + S1x1x128x128.size a ≤ S2x9x128x1536.size a} (h0 : d 0 = sl) (h1 : d 1 = g) :
    (bXR.access (Rect.unit (s := S2x9x128x1536) d S1x1x128x128.size hd)).set ⊆ (xrAt sl h g hg).view.set := by
  intro i hi
  obtain ⟨x, -, rfl⟩ := Finset.mem_map.mp hi
  have e0 : (x 0).val < 1 := (x 0).isLt
  have e1 : (x 1).val < 1 := (x 1).isLt
  refine (mem_xr h hg _).mpr ⟨?_, ?_⟩
  · show d 0 + 1 * (x 0).val = sl; omega
  · show d 1 + 1 * (x 1).val = g; omega
theorem sub_s {sl g : ℕ} (h : sl < 2) (hg : g < 2) {d : Fin 4 → ℕ} {hd : ∀ a, d a + S1x1x108x512.size a ≤ S2x2x216x512.size a} (h0 : d 0 = sl) (h1 : d 1 = g) :
    (bS.access (Rect.unit (s := S2x2x216x512) d S1x1x108x512.size hd)).set ⊆ (sAt sl h g hg).view.set := by
  intro i hi
  obtain ⟨x, -, rfl⟩ := Finset.mem_map.mp hi
  have e0 : (x 0).val < 1 := (x 0).isLt
  have e1 : (x 1).val < 1 := (x 1).isLt
  refine (mem_s h hg _).mpr ⟨?_, ?_⟩
  · show d 0 + 1 * (x 0).val = sl; omega
  · show d 1 + 1 * (x 1).val = g; omega
theorem sub_o {sl : ℕ} (h : sl < 2) {d : Fin 3 → ℕ} {hd : ∀ a, d a + S1x128x256.size a ≤ S2x128x512.size a} (h0 : d 0 = sl) :
    (bO.access (Rect.unit (s := S2x128x512) d S1x128x256.size hd)).set ⊆ (oAt sl h).view.set := by
  intro i hi
  obtain ⟨x, -, rfl⟩ := Finset.mem_map.mp hi
  have e0 : (x 0).val < 1 := (x 0).isLt
  refine (mem_o h _).mpr ?_
  show d 0 + 1 * (x 0).val = sl; omega

/-! ## What the stores leave -/

theorem write_at {sp : Space} {s : Shape} {e : EltTy} (v : View sig .tc sp s e) (f : v.ty.Contents (Elt F)) (w : s.Idx → Elt F e) (x : s.Idx) (j : v.ty.Idx) (h : j = v.emb x) :
    v.write (Elt F) f w Finset.univ j = _root_.cast (congrArg (Elt F) v.elt_eq.symm) (w x) := by
  subst h; exact View.write_emb_of_mem f w (Finset.mem_univ _)

theorem write_off {sp : Space} {s : Shape} {e : EltTy} (v : View sig .tc sp s e) (f : v.ty.Contents (Elt F)) (w : s.Idx → Elt F e) (j : v.ty.Idx) (h : ∀ x, v.emb x ≠ j) :
    v.write (Elt F) f w Finset.univ j = f j :=
  View.write_of_not_mem f w _ fun hm => by
    obtain ⟨x, -, e⟩ := Finset.mem_map.mp hm
    exact h x e

/-- The write of pass `p`'s lane half `jj`: inside, -/
theorem xp_write_in {t : ℕ} (ht : t < 9) (jj : Fin 2) (p : Fin 12) (f : S9x128x3072.Idx → Elt F .bf16) (w : Vec F S1x128x128 .bf16) (j : S9x128x3072.Idx)
    (h0 : (j 0).val = t) (h1 : 256 * p.val + 128 * jj.val ≤ (j 2).val) (h2 : (j 2).val < 256 * p.val + 128 * jj.val + 128) :
    (bXP.access (Rect.unit (s := S9x128x3072) ![t, 0, 256 * p.val + 128 * jj.val] S1x128x128.size (xpOff_inb ht jj p))).write (Elt F) f w Finset.univ j
      = w (ix3 (0 : Fin 1) (j 1 : Fin 128) (⟨(j 2).val % 128, Nat.mod_lt _ (by decide)⟩ : Fin 128)) := by
  have e : j = (bXP.access (Rect.unit (s := S9x128x3072) ![t, 0, 256 * p.val + 128 * jj.val] S1x128x128.size (xpOff_inb ht jj p))).emb
      (ix3 (0 : Fin 1) (j 1 : Fin 128) (⟨(j 2).val % 128, Nat.mod_lt _ (by decide)⟩ : Fin 128)) := by
    funext a; fin_cases a
    · exact Fin.ext (by show (j 0).val = t + 1 * 0; omega)
    · exact Fin.ext (by show (j 1).val = 0 + 1 * (j 1).val; omega)
    · exact Fin.ext (by show (j 2).val = 256 * p.val + 128 * jj.val + 1 * ((j 2).val % 128); omega)
  exact write_at (bXP.access (Rect.unit (s := S9x128x3072) ![t, 0, 256 * p.val + 128 * jj.val] S1x128x128.size (xpOff_inb ht jj p))) f w _ j e
/-- and outside. -/
theorem xp_write_out {t : ℕ} (ht : t < 9) (jj : Fin 2) (p : Fin 12) (f : S9x128x3072.Idx → Elt F .bf16) (w : Vec F S1x128x128 .bf16) (j : S9x128x3072.Idx)
    (h : (j 0).val ≠ t ∨ (j 2).val < 256 * p.val + 128 * jj.val ∨ 256 * p.val + 128 * jj.val + 128 ≤ (j 2).val) :
    (bXP.access (Rect.unit (s := S9x128x3072) ![t, 0, 256 * p.val + 128 * jj.val] S1x128x128.size (xpOff_inb ht jj p))).write (Elt F) f w Finset.univ j = f j := by
  refine write_off (bXP.access (Rect.unit (s := S9x128x3072) ![t, 0, 256 * p.val + 128 * jj.val] S1x128x128.size (xpOff_inb ht jj p))) f w j fun x hx => ?_
  subst hx
  have e0 : (x 0).val < 1 := (x 0).isLt
  have e2 : (x 2).val < 128 := (x 2).isLt
  rcases h with h | h | h
  · exact h (by show t + 1 * (x 0).val = t; omega)
  · have h : 256 * p.val + 128 * jj.val + 1 * (x 2).val < 256 * p.val + 128 * jj.val := h
    omega
  · have h : 256 * p.val + 128 * jj.val + 128 ≤ 256 * p.val + 128 * jj.val + 1 * (x 2).val := h
    omega

/-- The contents after both lane halves of pass `p` of trip `t`. -/
theorem xp_step {t : ℕ} (ht : t < 9) (p : Fin 12) (f : S9x128x3072.Idx → Elt F .bf16)
    (hf : ∀ j : S9x128x3072.Idx, ((j 0).val < t ∨ (j 0).val = t ∧ (j 2).val < 256 * p.val) → f j = XP A j) :
    ∀ j : S9x128x3072.Idx, ((j 0).val < t ∨ (j 0).val = t ∧ (j 2).val < 256 * (p.val + 1)) →
      (bXP.access (Rect.unit (s := S9x128x3072) ![t, 0, 256 * p.val + 128 * (1 : Fin 2).val] S1x128x128.size (xpOff_inb ht 1 p))).write (Elt F)
        ((bXP.access (Rect.unit (s := S9x128x3072) ![t, 0, 256 * p.val + 128 * (0 : Fin 2).val] S1x128x128.size (xpOff_inb ht 0 p))).write (Elt F) f
          (mix0 (xHalf A 0 t ht p) (xHalf A 1 t ht p)) Finset.univ) (mix1 (xHalf A 0 t ht p) (xHalf A 1 t ht p)) Finset.univ j = XP A j := by
  intro j hj
  have hp := p.isLt
  have key : ∀ p' : Fin 12, (j 0).val = t → p' = p → xHalf A 0 (j 0).val (j 0).isLt p' = xHalf A 0 t ht p ∧ xHalf A 1 (j 0).val (j 0).isLt p' = xHalf A 1 t ht p := by
    intro p' e1 e2; subst e1 e2; exact ⟨rfl, rfl⟩
  by_cases h1 : (j 0).val = t ∧ 256 * p.val + 128 ≤ (j 2).val
  · rw [xp_write_in ht 1 p _ _ j h1.1 (by show 256 * p.val + 128 * 1 ≤ _; omega) (by show _ < 256 * p.val + 128 * 1 + 128; omega)]
    have k := key ⟨(j 2).val / 256, by have h : (j 2).val < 3072 := (j 2).isLt; omega⟩ h1.1 (Fin.ext (by show (j 2).val / 256 = p.val; omega))
    unfold XP
    dsimp only
    rw [if_neg (by omega), k.1, k.2]
  · rw [xp_write_out ht 1 p _ _ j (by show _ ∨ (j 2).val < 256 * p.val + 128 * 1 ∨ _; omega)]
    by_cases h2 : (j 0).val = t ∧ 256 * p.val ≤ (j 2).val
    · rw [xp_write_in ht 0 p _ _ j h2.1 (by show 256 * p.val + 128 * 0 ≤ _; omega) (by show _ < 256 * p.val + 128 * 0 + 128; omega)]
      have k := key ⟨(j 2).val / 256, by have h : (j 2).val < 3072 := (j 2).isLt; omega⟩ h2.1 (Fin.ext (by show (j 2).val / 256 = p.val; omega))
      unfold XP
      dsimp only
      rw [if_pos (by omega), k.1, k.2]
    · rw [xp_write_out ht 0 p _ _ j (by show _ ∨ (j 2).val < 256 * p.val + 128 * 0 ∨ _; omega)]
      exact hf j (by omega)

/-- The write of matrix `g`'s pairs of parity `jj`: inside, -/
theorem sp_write_in {g : ℕ} (hg : g < 2) {jj : ℕ} (hjj : jj < 2) (f : S2x2x54x2x512.Idx → Elt F .bf16) (w : Vec F S1x1x54x2x512 .bf16) (j : S2x2x54x2x512.Idx)
    (h0 : (j 0).val = g) (h1 : (j 1).val = jj) :
    (bP.access (Rect.unit (s := S2x2x54x2x512) ![g, jj, 0, 0, 0] S1x1x54x2x512.size (sp_inb hg hjj))).write (Elt F) f w Finset.univ j
      = w (ix5 (0 : Fin 1) (0 : Fin 1) (j 2 : Fin 54) (j 3 : Fin 2) (j 4 : Fin 512)) := by
  have e : j = (bP.access (Rect.unit (s := S2x2x54x2x512) ![g, jj, 0, 0, 0] S1x1x54x2x512.size (sp_inb hg hjj))).emb
      (ix5 (0 : Fin 1) (0 : Fin 1) (j 2 : Fin 54) (j 3 : Fin 2) (j 4 : Fin 512)) := by
    funext a; fin_cases a
    · exact Fin.ext (by show (j 0).val = g + 1 * 0; omega)
    · exact Fin.ext (by show (j 1).val = jj + 1 * 0; omega)
    · exact Fin.ext (by show (j 2).val = 0 + 1 * (j 2).val; omega)
    · exact Fin.ext (by show (j 3).val = 0 + 1 * (j 3).val; omega)
    · exact Fin.ext (by show (j 4).val = 0 + 1 * (j 4).val; omega)
  exact write_at (bP.access (Rect.unit (s := S2x2x54x2x512) ![g, jj, 0, 0, 0] S1x1x54x2x512.size (sp_inb hg hjj))) f w _ j e
/-- and outside. -/
theorem sp_write_out {g : ℕ} (hg : g < 2) {jj : ℕ} (hjj : jj < 2) (f : S2x2x54x2x512.Idx → Elt F .bf16) (w : Vec F S1x1x54x2x512 .bf16) (j : S2x2x54x2x512.Idx)
    (h : (j 0).val ≠ g ∨ (j 1).val ≠ jj) :
    (bP.access (Rect.unit (s := S2x2x54x2x512) ![g, jj, 0, 0, 0] S1x1x54x2x512.size (sp_inb hg hjj))).write (Elt F) f w Finset.univ j = f j := by
  refine write_off (bP.access (Rect.unit (s := S2x2x54x2x512) ![g, jj, 0, 0, 0] S1x1x54x2x512.size (sp_inb hg hjj))) f w j fun x hx => ?_
  subst hx
  have e0 : (x 0).val < 1 := (x 0).isLt
  have e1 : (x 1).val < 1 := (x 1).isLt
  rcases h with h | h
  · exact h (by show g + 1 * (x 0).val = g; omega)
  · exact h (by show jj + 1 * (x 1).val = jj; omega)

abbrev wrP {g : ℕ} (hg : g < 2) {jj : ℕ} (hjj : jj < 2) (f : S2x2x54x2x512.Idx → Elt F .bf16) (w : Vec F S1x1x54x2x512 .bf16) : S2x2x54x2x512.Idx → Elt F .bf16 :=
  (bP.access (Rect.unit (s := S2x2x54x2x512) ![g, jj, 0, 0, 0] S1x1x54x2x512.size (sp_inb hg hjj))).write (Elt F) f w Finset.univ

theorem sp_step {n : ℕ} (hn : n < 5) {g : ℕ} (hg : g < 2) (f : S2x2x54x2x512.Idx → Elt F .bf16)
    (hf : ∀ j : S2x2x54x2x512.Idx, (j 0).val < g → f j = SP A n hn j) (w0 w1 : Vec F S1x1x54x2x512 .bf16)
    (h0 : w0 = pair0 (sLo A n hn g hg) (sHi A n hn g hg)) (h1 : w1 = pair1 (sLo A n hn g hg) (sHi A n hn g hg)) :
    ∀ j : S2x2x54x2x512.Idx, (j 0).val < g + 1 → wrP hg (jj := 1) (by omega) (wrP hg (jj := 0) (by omega) f w0) w1 j = SP A n hn j := by
  intro j hj
  have hj1 : (j 1).val < 2 := (j 1).isLt
  by_cases e0 : (j 0).val = g
  · have k0 : w0 = pair0 (sLo A n hn (j 0).val (j 0).isLt) (sHi A n hn (j 0).val (j 0).isLt) := by subst e0; exact h0
    have k1 : w1 = pair1 (sLo A n hn (j 0).val (j 0).isLt) (sHi A n hn (j 0).val (j 0).isLt) := by subst e0; exact h1
    clear h0 h1
    unfold SP
    rw [← k0, ← k1]
    by_cases e1 : (j 1).val = 1
    · refine (sp_write_in hg (by omega) _ w1 j e0 e1).trans ?_
      rw [if_neg (by omega)]
    · have a1 := sp_write_out hg (show 1 < 2 by omega) (wrP hg (show 0 < 2 by omega) f w0) w1 j (Or.inr e1)
      have a2 := sp_write_in hg (show 0 < 2 by omega) f w0 j e0 (by omega)
      rw [if_pos (by omega)]
      exact a1.trans a2
  · have a1 := sp_write_out hg (show 1 < 2 by omega) (wrP hg (show 0 < 2 by omega) f w0) w1 j (Or.inl e0)
    have a2 := sp_write_out hg (show 0 < 2 by omega) f w0 j (Or.inl e0)
    exact a1.trans (a2.trans (hf j (by omega)))

/-- The write of column half `t` in the output buffer: inside, -/
theorem o_write_in {sl : ℕ} (h : sl < 2) (t : Fin 2) (f : S2x128x512.Idx → Elt F .bf16) (w : Vec F S1x128x256 .bf16) (j : S2x128x512.Idx)
    (h0 : (j 0).val = sl) (h1 : (j 2).val / 256 = t.val) :
    (bO.access (Rect.unit (s := S2x128x512) ![sl, 0, 256 * t.val] S1x128x256.size (oOff_inb h t))).write (Elt F) f w Finset.univ j
      = w (ix3 (0 : Fin 1) (j 1 : Fin 128) (⟨(j 2).val % 256, Nat.mod_lt _ (by decide)⟩ : Fin 256)) := by
  have e : j = (bO.access (Rect.unit (s := S2x128x512) ![sl, 0, 256 * t.val] S1x128x256.size (oOff_inb h t))).emb
      (ix3 (0 : Fin 1) (j 1 : Fin 128) (⟨(j 2).val % 256, Nat.mod_lt _ (by decide)⟩ : Fin 256)) := by
    funext a; fin_cases a
    · exact Fin.ext (by show (j 0).val = sl + 1 * 0; omega)
    · exact Fin.ext (by show (j 1).val = 0 + 1 * (j 1).val; omega)
    · exact Fin.ext (by show (j 2).val = 256 * t.val + 1 * ((j 2).val % 256); omega)
  exact write_at (bO.access (Rect.unit (s := S2x128x512) ![sl, 0, 256 * t.val] S1x128x256.size (oOff_inb h t))) f w _ j e
/-- and outside. -/
theorem o_write_out {sl : ℕ} (h : sl < 2) (t : Fin 2) (f : S2x128x512.Idx → Elt F .bf16) (w : Vec F S1x128x256 .bf16) (j : S2x128x512.Idx)
    (h1 : (j 2).val / 256 ≠ t.val) :
    (bO.access (Rect.unit (s := S2x128x512) ![sl, 0, 256 * t.val] S1x128x256.size (oOff_inb h t))).write (Elt F) f w Finset.univ j = f j := by
  refine write_off (bO.access (Rect.unit (s := S2x128x512) ![sl, 0, 256 * t.val] S1x128x256.size (oOff_inb h t))) f w j fun x hx => ?_
  subst hx
  have e2 : (x 2).val < 256 := (x 2).isLt
  have h1 : (256 * t.val + 1 * (x 2).val) / 256 ≠ t.val := h1
  omega

theorem o_step {n : ℕ} (hn : n < 5) {sl : ℕ} (h : sl < 2) (f : S2x128x512.Idx → Elt F .bf16) :
    ∀ j : S2x128x512.Idx, j ∈ (oAt sl h).view.set →
      (bO.access (Rect.unit (s := S2x128x512) ![sl, 0, 256 * (1 : Fin 2).val] S1x128x256.size (oOff_inb h 1))).write (Elt F)
        ((bO.access (Rect.unit (s := S2x128x512) ![sl, 0, 256 * (0 : Fin 2).val] S1x128x256.size (oOff_inb h 0))).write (Elt F) f
          (outV A n hn 0) Finset.univ) (outV A n hn 1) Finset.univ j = OB A n hn j := by
  intro j hj
  have h0 := (mem_o h j).mp hj
  have h2 : (j 2).val < 512 := (j 2).isLt
  have key : ∀ t t' : Fin 2, t' = t → outV A n hn t' = outV A n hn t := fun t t' e => by rw [e]
  by_cases h1 : (j 2).val / 256 = 1
  · refine (o_write_in h 1 _ _ j h0 h1).trans ?_
    exact (congrFun (key 1 ⟨(j 2).val / 256, by omega⟩ (Fin.ext h1)) _).symm
  · refine (o_write_out h 1 _ _ j h1).trans ((o_write_in h 0 _ _ j h0 (by show _ = 0; omega)).trans ?_)
    exact (congrFun (key 0 ⟨(j 2).val / 256, by omega⟩ (Fin.ext (by show (j 2).val / 256 = 0; omega))) _).symm

end Cert.KernelIdeal.Hand
end
-- ==== Proof.Ideal.Steps.lean ====
/-
  What the kernel's computing steps do to its buffers.
-/
module

public import proofs.«01_k».proof.Proof.Ideal.Geom

@[expose] public section

set_option pp.maxSteps 40

noncomputable section

namespace Cert.KernelIdeal.Hand

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (A : In F) (c : Dev nD)
local notation "𝕄" => MT nD τ sig Unit (Elt F) ℕ (UU nD τ) ℕ

/-- A buffer held whole at contents `f`. -/
abbrev whole {sp : Space} {s : Shape} {e : EltTy} (M : Memref sig .tc sp s e) (f : Con (F := F) c M) : sProp 𝕄 := shr c M fullShare f

theorem ld {cs : CoreSpace} {s : Shape} {e : EltTy} (m : Memref sig .tc cs s e) (r : Rect s) {hl : m.view.LoadsAt r} (S : Finset (Idx (m.view.loc (c : Thread nD τ)))) (f : Con (F := F) c m)
    (hS : (m.access r).set ⊆ S) {α : Type} {k : (r.shape.Idx → Elt F e) → Pr F α} {Q : α → sProp 𝕄} :
    (m.view.loc (c : Thread nD τ) ↦[S]{fullShare} f)
      ⊢ iprop(((m.view.loc (c : Thread nD τ) ↦[S]{fullShare} f) -∗ run c (k ((m.access r).read (Elt F) f)) Q) -∗ run c (Prog.lift (.load m r hl) >>= k) Q) :=
  wp_load_rect (m := m) (r := r) 𝒱₀ (c : Thread nD τ) none Set.univ (S := S) (q := fullShare) (f := f) hS

theorem st {cs : CoreSpace} {s : Shape} {e : EltTy} (m : Memref sig .tc cs s e) (r : Rect s) {w : r.shape.Idx → Elt F e} {hx : (m.access r).Stores Finset.univ} {hm}
    (S : Finset (Idx (m.view.loc (c : Thread nD τ)))) (f : Con (F := F) c m)
    (hS : (m.access r).set ⊆ S) {α : Type} {k : PUnit → Pr F α} {Q : α → sProp 𝕄} :
    (m.view.loc (c : Thread nD τ) ↦[S]{fullShare} f)
      ⊢ iprop(((m.view.loc (c : Thread nD τ) ↦[S]{fullShare} ((m.access r).write (Elt F) f w Finset.univ)) -∗ run c (k ⟨⟩) Q) -∗ run c (Prog.lift (.store m r w Finset.univ hx hm) >>= k) Q) :=
  wp_store (m := m) (r := r) 𝒱₀ (c : Thread nD τ) none Set.univ (S := S) (f := f) hS

theorem wp_tile {n : ℕ} (hn : n < 5) {b : ℕ} (hb : b < 9) (hi : 9 * n + b < 45) (hsl : (9 * n + b) % 6 < 6) {g : ℕ} (hg : g < 2) (t : Fin 2) (p : Fin 12)
    (hrow : 6 * b + p.val / 2 < 54)
    (mx : Mxu F) (hreg : mx.reg ⟨g, hg⟩ t = none) {α : Type} {k : Mxu F → Pr F α} {Q : α → sProp 𝕄} :
    iprop(own c (wAt ((9 * n + b) % 6) hsl g hg) (WT A (9 * n + b) hi) ∗ whole c bP (SP A n hn))
      ⊢ iprop((iprop(own c (wAt ((9 * n + b) % 6) hsl g hg) (WT A (9 * n + b) hi) ∗ whole c bP (SP A n hn))
          -∗ run c (k (mx.pushed ⟨g, hg⟩ t false (tileOf (wV A n hn b hb ⟨g, hg⟩ t p) (sV A n hn b hb ⟨g, hg⟩ t p)))) Q)
        -∗ run c (tile hsl hrow ⟨g, hg⟩ t p mx >>= k) Q) := by
  iintro ⟨HW, HP⟩ Hk
  unfold tile
  simp only [bind_assoc]
  iapply (ld c bW (Rect.unit (s := S6x2x1536x512) ![(9 * n + b) % 6, g, 128 * p.val, 256 * t.val] S1x1x128x256.size (wOff_inb hsl ⟨g, hg⟩ t p)) (wAt ((9 * n + b) % 6) hsl g hg).view.set (WT A (9 * n + b) hi) (sub_w hsl hg rfl rfl)) $$ [HW]
  · iexact HW
  iintro HW
  iapply (ld c bP (Rect.unit (s := S2x2x54x2x512) ![g, p.val % 2, 6 * b + p.val / 2, 0, 256 * t.val] S1x1x1x2x256.size (sOff_inb hrow ⟨g, hg⟩ t p)) Finset.univ (SP A n hn) (Finset.subset_univ _)) $$ [HP]
  · iexact HP
  iintro HP
  unfold Mxu.pushRhs run
  iapply (wp_assume 𝒱₀ (c : Thread nD τ) none Set.univ (P := mx.PushOk ⟨g, hg⟩ t false) (by rw [Mxu.PushOk, hreg]; simp))
  simp only [ret_bind]
  iapply Hk
  isplitl [HW]; · iexact HW
  iexact HP

theorem pushed_reg {mx : Mxu F} {t : Fin 2} (h : mx.reg 1 t = none) (v : FVec F S256x256 .bf16) : (mx.pushed 0 t false v).reg 1 t = none := by
  cases h0 : mx.reg 0 t <;> simp [Mxu.pushed, h0, h]

/-- What the passes of trip `b` of column block `n` read. -/
def Ops (n : ℕ) (hn : n < 5) (b : ℕ) (hi : 9 * n + b < 45) (hsl : (9 * n + b) % 6 < 6) (f : Con (F := F) c bXP) : sProp 𝕄 :=
  iprop(own c (wAt ((9 * n + b) % 6) hsl 0 (by decide)) (WT A (9 * n + b) hi) ∗ own c (wAt ((9 * n + b) % 6) hsl 1 (by decide)) (WT A (9 * n + b) hi)
    ∗ whole c bP (SP A n hn) ∗ whole c bXP f)

theorem wp_pass {n : ℕ} (hn : n < 5) {b : ℕ} (hb : b < 9) (hi : 9 * n + b < 45) (hsl : (9 * n + b) % 6 < 6) (p : Fin 12) (hrow : 6 * b + p.val / 2 < 54)
    {f : S9x128x3072.Idx → Elt F .bf16} (hf : ∀ j : S9x128x3072.Idx, (j 0).val = b → f j = XP A j)
    {mx : Mxu F} {k₀ : ℕ} (hk : k₀ = 12 * b + p.val) (hs : St A n hn k₀ mx) {α : Type} {k : Mxu F → Pr F α} {Q : α → sProp 𝕄} :
    Ops A c n hn b hi hsl f
      ⊢ iprop((∀ mx', Ops A c n hn b hi hsl f -∗ ⌜St A n hn (k₀ + 1) mx'⌝ -∗ run c (k mx') Q) -∗ run c (pass hsl hb hrow p mx >>= k) Q) := by
  have hx : (bXP.access (Rect.unit (s := S9x128x3072) ![b, 0, 256 * p.val] S1x128x256.size (xOff_inb hb p))).read (Elt F) f = xV A b hb p := by
    refine View.read_congr fun j hj => ?_
    obtain ⟨x, -, rfl⟩ := Finset.mem_map.mp hj
    have e0 : (x 0).val < 1 := (x 0).isLt
    exact hf _ (by show b + 1 * (x 0).val = b; omega)
  have hr := half_reg hs.reg 0 0 fits_0_128 (lhsOf (xV A b hb p)) (tileOf (wV A n hn b hb 0 0 p) (sV A n hn b hb 0 0 p)) (tileOf (wV A n hn b hb 1 0 p) (sV A n hn b hb 1 0 p))
  unfold Ops
  iintro ⟨HW0, HW1, HP, HX⟩ Hk
  unfold pass
  simp only [bind_assoc]
  iapply (ld c bXP (Rect.unit (s := S9x128x3072) ![b, 0, 256 * p.val] S1x128x256.size (xOff_inb hb p)) Finset.univ f (Finset.subset_univ _)) $$ [HX]
  · iexact HX
  iintro HX
  rw [hx]
  iapply (wp_tile A c hn hb hi hsl (g := 0) (by decide) 0 p hrow mx (hs.reg _ _)) $$ [HW0 HP]
  · isplitl [HW0]; · iexact HW0
    iexact HP
  iintro ⟨HW0, HP⟩
  iapply (wp_tile A c hn hb hi hsl (g := 1) (by decide) 0 p hrow _ (pushed_reg (hs.reg 1 0) _)) $$ [HW1 HP]
  · isplitl [HW1]; · iexact HW1
    iexact HP
  iintro ⟨HW1, HP⟩
  iapply (wp_tile A c hn hb hi hsl (g := 0) (by decide) 1 p hrow _ (hr 0 1)) $$ [HW0 HP]
  · isplitl [HW0]; · iexact HW0
    iexact HP
  iintro ⟨HW0, HP⟩
  iapply (wp_tile A c hn hb hi hsl (g := 1) (by decide) 1 p hrow _ (pushed_reg (hr 1 1) _)) $$ [HW1 HP]
  · isplitl [HW1]; · iexact HW1
    iexact HP
  iintro ⟨HW1, HP⟩
  simp only [pure_bind]
  iapply Hk $$ [HW0 HW1 HP HX]
  · isplitl [HW0]; · iexact HW0
    isplitl [HW1]; · iexact HW1
    isplitl [HP]; · iexact HP
    iexact HX
  ipureintro
  exact hs.next A hb p hk

theorem wp_passes {n : ℕ} (hn : n < 5) {b : ℕ} (hb : b < 9) (hi : 9 * n + b < 45) (hsl : (9 * n + b) % 6 < 6) (hrow : ∀ r : Fin 6, 6 * b + r.val < 54)
    {f : S9x128x3072.Idx → Elt F .bf16} (hf : ∀ j : S9x128x3072.Idx, (j 0).val = b → f j = XP A j) {α : Type} {k : Mxu F → Pr F α} {Q : α → sProp 𝕄} :
    ∀ (m p : ℕ) (h : m + p = 12) (mx : Mxu F), St A n hn (12 * b + p) mx →
    (Ops A c n hn b hi hsl f
      ⊢ iprop((∀ mx', Ops A c n hn b hi hsl f -∗ ⌜St A n hn (12 * b + 12) mx'⌝ -∗ run c (k mx') Q) -∗ run c (passes hsl hb (fun r => 6 * b + r.val) hrow m p h mx >>= k) Q))
  | 0, p, h, mx, hs => by
    obtain rfl : p = 12 := by omega
    iintro H Hk
    unfold passes
    simp only [pure_bind]
    iapply Hk $$ H
    ipureintro; exact hs
  | m + 1, p, h, mx, hs => by
    iintro H Hk
    unfold passes
    simp only [bind_assoc]
    have hp : p < 12 := by omega
    have hp2 : p / 2 < 6 := by omega
    have hm : m + (p + 1) = 12 := by omega
    iapply (wp_pass A c hn hb hi hsl ⟨p, hp⟩ (hrow ⟨p / 2, hp2⟩) hf (k₀ := 12 * b + p) rfl hs) $$ H
    iintro %mx' H %hs'
    iapply (wp_passes hn hb hi hsl hrow hf m (p + 1) hm mx' hs') $$ H Hk

/-- The staged activations of trip `b`. -/
def Xs (b : ℕ) (hb : b < 9) : sProp 𝕄 := iprop(own c (xrAt 0 (by decide) b hb) (XR A) ∗ own c (xrAt 1 (by decide) b hb) (XR A))

/-- The interleaved activations after `p` passes of trip `b`. -/
def Mixed (b p : ℕ) (f : S9x128x3072.Idx → Elt F .bf16) : Prop :=
  ∀ j : S9x128x3072.Idx, ((j 0).val < b ∨ (j 0).val = b ∧ (j 2).val < 256 * p) → f j = XP A j

theorem wp_inter {b : ℕ} (hb : b < 9) (p : Fin 12) {f : S9x128x3072.Idx → Elt F .bf16} (hf : Mixed A b p.val f) {α : Type} {k : PUnit → Pr F α} {Q : α → sProp 𝕄} :
    iprop(Xs A c b hb ∗ whole c bXP f)
      ⊢ iprop((∀ f' : S9x128x3072.Idx → Elt F .bf16, Xs A c b hb -∗ whole c bXP f' -∗ ⌜Mixed A b (p.val + 1) f'⌝ -∗ run c (k ⟨⟩) Q) -∗ run c (inter hb p >>= k) Q) := by
  have h0 : 0 < 2 := by decide
  have h1 : 1 < 2 := by decide
  unfold Xs
  iintro ⟨⟨H0, H1⟩, HX⟩ Hk
  unfold inter
  simp only [bind_assoc]
  iapply (ld c bXR (Rect.unit (s := S2x9x128x1536) ![0, b, 0, 128 * p.val] S1x1x128x128.size (xrOff_inb hb 0 p)) (xrAt 0 h0 b hb).view.set (XR A) (sub_xr h0 hb rfl rfl)) $$ [H0]
  · iexact H0
  iintro H0
  iapply (ld c bXR (Rect.unit (s := S2x9x128x1536) ![1, b, 0, 128 * p.val] S1x1x128x128.size (xrOff_inb hb 1 p)) (xrAt 1 h1 b hb).view.set (XR A) (sub_xr h1 hb rfl rfl)) $$ [H1]
  · iexact H1
  iintro H1
  iapply (ld c bXP (Rect.unit (s := S9x128x3072) ![b, 0, 256 * p.val + 128 * (0 : Fin 2).val] S1x128x128.size (xpOff_inb hb 0 p)) Finset.univ f (Finset.subset_univ _)) $$ [HX]
  · iexact HX
  iintro HX
  iapply (st c bXP (Rect.unit (s := S9x128x3072) ![b, 0, 256 * p.val + 128 * (0 : Fin 2).val] S1x128x128.size (xpOff_inb hb 0 p)) (w := mix0 (xHalf A 0 b hb p) (xHalf A 1 b hb p)) Finset.univ f (Finset.subset_univ _)) $$ [HX]
  · iexact HX
  iintro HX
  iapply (ld c bXP (Rect.unit (s := S9x128x3072) ![b, 0, 256 * p.val + 128 * (1 : Fin 2).val] S1x128x128.size (xpOff_inb hb 1 p)) Finset.univ _ (Finset.subset_univ _)) $$ [HX]
  · iexact HX
  iintro HX
  iapply (st c bXP (Rect.unit (s := S9x128x3072) ![b, 0, 256 * p.val + 128 * (1 : Fin 2).val] S1x128x128.size (xpOff_inb hb 1 p)) (w := mix1 (xHalf A 0 b hb p) (xHalf A 1 b hb p)) Finset.univ _ (Finset.subset_univ _)) $$ [HX]
  · iexact HX
  iintro HX
  iapply Hk $$ [H0 H1] HX
  · isplitl [H0]; · iexact H0
    iexact H1
  ipureintro
  exact xp_step A hb p f hf

theorem wp_inters {b : ℕ} (hb : b < 9) {α : Type} {k : PUnit → Pr F α} {Q : α → sProp 𝕄} :
    ∀ (m p : ℕ) (h : m + p = 12) (f : S9x128x3072.Idx → Elt F .bf16), Mixed A b p f →
    (iprop(Xs A c b hb ∗ whole c bXP f)
      ⊢ iprop((∀ f' : S9x128x3072.Idx → Elt F .bf16, Xs A c b hb -∗ whole c bXP f' -∗ ⌜Mixed A b 12 f'⌝ -∗ run c (k ⟨⟩) Q) -∗ run c (inters hb m p h >>= k) Q))
  | 0, p, h, f, hf => by
    obtain rfl : p = 12 := by omega
    iintro ⟨H, HX⟩ Hk
    unfold inters
    simp only [pure_bind]
    iapply Hk $$ H HX
    ipureintro; exact hf
  | m + 1, p, h, f, hf => by
    iintro H Hk
    unfold inters
    simp only [bind_assoc]
    have hp : p < 12 := by omega
    have hm : m + (p + 1) = 12 := by omega
    iapply (wp_inter A c hb ⟨p, hp⟩ hf) $$ H
    iintro %f' H HX %hf'
    iapply (wp_inters hb m (p + 1) hm f' hf') $$ [H HX]
    · isplitl [H]; · iexact H
      iexact HX
    iexact Hk

end Cert.KernelIdeal.Hand
end
-- ==== Proof.Ideal.Pairs.lean ====
/-
  The pairing of a block's scales and a block's epilogue.
-/
module

public import proofs.«01_k».proof.Proof.Ideal.Steps

@[expose] public section

set_option pp.maxSteps 40

noncomputable section

namespace Cert.KernelIdeal.Hand

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (A : In F) (c : Dev nD)
local notation "𝕄" => MT nD τ sig Unit (Elt F) ℕ (UU nD τ) ℕ

/-- The stores of a pairing. -/
def pairStores {g : ℕ} (hg : g < 2) (w0 w1 : Vec F S1x1x54x2x512 .bf16) : Pr F PUnit := do
  let _v : Vec F S1x1x54x2x512 .bf16 ← Prog.lift (.load bP (Rect.unit (s := S2x2x54x2x512) ![g, 0, 0, 0, 0] S1x1x54x2x512.size (sp_inb hg (by omega))).toLoadRect (View.loadsAt_vmem h_S1x1x54x2x512))
  Prog.lift (.store bP (Rect.unit (s := S2x2x54x2x512) ![g, 0, 0, 0, 0] S1x1x54x2x512.size (sp_inb hg (by omega))) w0 Finset.univ (View.stores_vmem h_S1x1x54x2x512 (((Memref.isWhole_whole _).pairWhole rank2_S2x2x54x2x512).storeExact_slice rfl _ (Rect.wholeRows_unit rank2_S2x2x54x2x512 rfl rfl) pairs_S2x2x54x2x512_bf16) (fun _ => rfl)) (.inl rfl))
  let _v : Vec F S1x1x54x2x512 .bf16 ← Prog.lift (.load bP (Rect.unit (s := S2x2x54x2x512) ![g, 1, 0, 0, 0] S1x1x54x2x512.size (sp_inb hg (by omega))).toLoadRect (View.loadsAt_vmem h_S1x1x54x2x512))
  Prog.lift (.store bP (Rect.unit (s := S2x2x54x2x512) ![g, 1, 0, 0, 0] S1x1x54x2x512.size (sp_inb hg (by omega))) w1 Finset.univ (View.stores_vmem h_S1x1x54x2x512 (((Memref.isWhole_whole _).pairWhole rank2_S2x2x54x2x512).storeExact_slice rfl _ (Rect.wholeRows_unit rank2_S2x2x54x2x512 rfl rfl) pairs_S2x2x54x2x512_bf16) (fun _ => rfl)) (.inl rfl))

theorem pairs_eq {sl : ℕ} (hsl : sl < 2) (g : ℕ) (hg : g < 2) : (pairs hsl g hg : Pr F PUnit) =
    Prog.lift (.load bS (Rect.unit (s := S2x2x216x512) ![sl, g, 0, 0] S1x1x108x512.size (sLo_inb hsl hg)).toLoadRect (View.loadsAt_vmem h_S1x1x108x512)) >>= fun a =>
    Prog.lift (.load bS (Rect.unit (s := S2x2x216x512) ![sl, g, 108, 0] S1x1x108x512.size (sHi_inb hsl hg)).toLoadRect (View.loadsAt_vmem h_S1x1x108x512)) >>= fun b =>
    pairStores hg (pair0 a b) (pair1 a b) := rfl

theorem wp_pairStores {g : ℕ} (hg : g < 2) (w0 w1 : Vec F S1x1x54x2x512 .bf16) {f : S2x2x54x2x512.Idx → Elt F .bf16} {α : Type} {k : PUnit → Pr F α} {Q : α → sProp 𝕄} :
    whole c bP f ⊢ iprop((whole c bP (wrP hg (jj := 1) (by omega) (wrP hg (jj := 0) (by omega) f w0) w1) -∗ run c (k ⟨⟩) Q) -∗ run c (pairStores hg w0 w1 >>= k) Q) := by
  have h0 : 0 < 2 := by decide
  have h1 : 1 < 2 := by decide
  iintro HP Hk
  unfold pairStores
  simp only [bind_assoc]
  iapply (ld c bP (Rect.unit (s := S2x2x54x2x512) ![g, 0, 0, 0, 0] S1x1x54x2x512.size (sp_inb hg h0)) Finset.univ f (Finset.subset_univ _)) $$ [HP]
  · iexact HP
  iintro HP
  iapply (st c bP (Rect.unit (s := S2x2x54x2x512) ![g, 0, 0, 0, 0] S1x1x54x2x512.size (sp_inb hg h0)) (w := w0) Finset.univ f (Finset.subset_univ _)) $$ [HP]
  · iexact HP
  iintro HP
  iapply (ld c bP (Rect.unit (s := S2x2x54x2x512) ![g, 1, 0, 0, 0] S1x1x54x2x512.size (sp_inb hg h1)) Finset.univ (wrP hg h0 f w0) (Finset.subset_univ _)) $$ [HP]
  · iexact HP
  iintro HP
  iapply (st c bP (Rect.unit (s := S2x2x54x2x512) ![g, 1, 0, 0, 0] S1x1x54x2x512.size (sp_inb hg h1)) (w := w1) Finset.univ (wrP hg h0 f w0) (Finset.subset_univ _)) $$ [HP]
  · iexact HP
  iintro HP
  iapply Hk
  iexact HP

theorem wp_pairs {n : ℕ} (hn : n < 5) (hsl : n % 2 < 2) {g : ℕ} (hg : g < 2) {f : S2x2x54x2x512.Idx → Elt F .bf16} (hf : ∀ j : S2x2x54x2x512.Idx, (j 0).val < g → f j = SP A n hn j)
    {α : Type} {k : PUnit → Pr F α} {Q : α → sProp 𝕄} :
    iprop(own c (sAt (n % 2) hsl g hg) (SR A n hn) ∗ whole c bP f)
      ⊢ iprop((∀ f' : S2x2x54x2x512.Idx → Elt F .bf16, own c (sAt (n % 2) hsl g hg) (SR A n hn) -∗ whole c bP f' -∗ ⌜∀ j : S2x2x54x2x512.Idx, (j 0).val < g + 1 → f' j = SP A n hn j⌝ -∗ run c (k ⟨⟩) Q)
        -∗ run c (pairs hsl g hg >>= k) Q) := by
  iintro ⟨HS, HP⟩ Hk
  rw [pairs_eq]
  simp only [bind_assoc]
  iapply (ld c bS (Rect.unit (s := S2x2x216x512) ![n % 2, g, 0, 0] S1x1x108x512.size (sLo_inb hsl hg)) (sAt (n % 2) hsl g hg).view.set (SR A n hn) (sub_s hsl hg rfl rfl)) $$ [HS]
  · iexact HS
  iintro HS
  iapply (ld c bS (Rect.unit (s := S2x2x216x512) ![n % 2, g, 108, 0] S1x1x108x512.size (sHi_inb hsl hg)) (sAt (n % 2) hsl g hg).view.set (SR A n hn) (sub_s hsl hg rfl rfl)) $$ [HS]
  · iexact HS
  iintro HS
  iapply (wp_pairStores c hg _ _) $$ [HP]
  · iexact HP
  iintro HP
  iapply Hk $$ HS HP
  ipureintro
  exact sp_step A hn hg f hf _ _ rfl rfl

end Cert.KernelIdeal.Hand
end
-- ==== Proof.Ideal.Epi.lean ====
/-
  A block's epilogue.
-/
module

public import proofs.«01_k».proof.Proof.Ideal.Steps

@[expose] public section

set_option pp.maxSteps 40

noncomputable section

namespace Cert.KernelIdeal.Hand

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (A : In F) (c : Dev nD)
local notation "𝕄" => MT nD τ sig Unit (Elt F) ℕ (UU nD τ) ℕ

theorem wp_epi {n : ℕ} (hn : n < 5) {sl : ℕ} (hsl : sl < 2) {mx : Mxu F} (hs : St A n hn 108 mx) {α : Type} {k : Mxu F → Pr F α} {Q : α → sProp 𝕄} :
    (iprop(∃ f, own c (oAt sl hsl) f) : sProp 𝕄)
      ⊢ iprop((∀ mx', own c (oAt sl hsl) (OB A n hn) -∗ ⌜mx'.Drained⌝ -∗ run c (k mx') Q) -∗ run c (epi hsl mx >>= k) Q) := by
  have hd := popAll_drained A hs
  have hr0 := hs.read A 0
  have hr1 := hs.read A 1
  obtain ⟨p1, p2, p3⟩ := read_pops mx
  have e0 : act (mx.read 0 0 fits_0_128) ((mx.pop 0 0 128 fits_0_128).read 1 0 fits_0_128) = outV A n hn 0 := by rw [p1, hr0.1, hr1.1]; rfl
  have e1 : act (((mx.pop 0 0 128 fits_0_128).pop 1 0 128 fits_0_128).read 0 32 fits_32_128) ((((mx.pop 0 0 128 fits_0_128).pop 1 0 128 fits_0_128).pop 0 32 128 fits_32_128).read 1 32 fits_32_128) = outV A n hn 1 := by
    rw [p2, p3, hr0.2, hr1.2]; rfl
  iintro ⟨%f, HO⟩ Hk
  unfold epi
  simp only [bind_assoc]
  rw [e0, e1]
  iapply (ld c bO (Rect.unit (s := S2x128x512) ![sl, 0, 256 * (0 : Fin 2).val] S1x128x256.size (oOff_inb hsl 0)) (oAt sl hsl).view.set f (sub_o hsl rfl)) $$ [HO]
  · iexact HO
  iintro HO
  iapply (st c bO (Rect.unit (s := S2x128x512) ![sl, 0, 256 * (0 : Fin 2).val] S1x128x256.size (oOff_inb hsl 0)) (w := outV A n hn 0) (oAt sl hsl).view.set f (sub_o hsl rfl)) $$ [HO]
  · iexact HO
  iintro HO
  iapply (ld c bO (Rect.unit (s := S2x128x512) ![sl, 0, 256 * (1 : Fin 2).val] S1x128x256.size (oOff_inb hsl 1)) (oAt sl hsl).view.set _ (sub_o hsl rfl)) $$ [HO]
  · iexact HO
  iintro HO
  iapply (st c bO (Rect.unit (s := S2x128x512) ![sl, 0, 256 * (1 : Fin 2).val] S1x128x256.size (oOff_inb hsl 1)) (w := outV A n hn 1) (oAt sl hsl).view.set _ (sub_o hsl rfl)) $$ [HO]
  · iexact HO
  iintro HO
  simp only [pure_bind]
  iapply Hk $$ [HO]
  · iapply (Entails.of_eq (pointsTo_congr (o_step A hn hsl f))) $$ HO
  ipureintro
  exact hd

end Cert.KernelIdeal.Hand
end
-- ==== Proof.Ideal.Ring.lean ====
/-
  What the kernel's transfers hold between its steps: the ring of weight chunks, the staged activations, the scales
  and the outputs, and the triples of starting and waiting for each.
-/
module

public import proofs.«01_k».proof.Proof.Ideal.Seq
public import proofs.«01_k».proof.Proof.Ideal.Pairs
public import proofs.«01_k».proof.Proof.Ideal.Epi

@[expose] public section

set_option pp.maxSteps 40

noncomputable section

namespace Cert.KernelIdeal.Hand

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (A : In F) (c : Dev nD)
local notation "𝕄" => MT nD τ sig Unit (Elt F) ℕ (UU nD τ) ℕ

/-- What the core owes: nothing. -/
def Ow : sProp 𝕄 := iprop(∃ W, owes (c : Thread nD τ) 0 W)

/-- A cell at zero. -/
abbrev zero (sm : DmaSem sig) : sProp 𝕄 := semVal ((c : Thread nD τ), SemLoc.dma sm) 0

theorem six (i : ℕ) : i % 6 < 6 := Nat.mod_lt _ (by decide)
theorem two (i : ℕ) : i % 2 < 2 := Nat.mod_lt _ (by decide)
theorem z2 : 0 < 2 := by decide
theorem o2 : 1 < 2 := by decide

/-! ## Weight chunks -/

/-- Ring slot `i % 6` idle; -/
def WIdleAt (sl : ℕ) (h : sl < 6) : sProp 𝕄 :=
  iprop(zero c (wSem sl h) ∗ shr c aWG (lq sl) A.wg ∗ shr c aWU (lq sl) A.wu
    ∗ (∃ f, own c (wAt sl h 0 z2) f) ∗ (∃ f, own c (wAt sl h 1 o2) f))
def WIdle (i : ℕ) : sProp 𝕄 := WIdleAt A c (i % 6) (six i)
/-- chunk `i` on its way into it, when there is one; -/
def WFl (i : ℕ) : sProp 𝕄 :=
  if h : i < 45 then flight2 c (wgAt i h) (wuAt i h) (wAt (i % 6) (six i) 0 z2) (wAt (i % 6) (six i) 1 o2) (wSem (i % 6) (six i)) (lq (i % 6)) (lq (i % 6)) A.wg A.wu (WT A i h) (WT A i h)
  else WIdle A c i
/-- chunk `i` in it. -/
def WGot (i : ℕ) (h : i < 45) : sProp 𝕄 :=
  iprop(zero c (wSem (i % 6) (six i)) ∗ shr c aWG (lq (i % 6)) A.wg ∗ shr c aWU (lq (i % 6)) A.wu
    ∗ own c (wAt (i % 6) (six i) 0 z2) (WT A i h) ∗ own c (wAt (i % 6) (six i) 1 o2) (WT A i h))

theorem WIdle_six (i : ℕ) : WIdle A c (i + 6) = WIdle A c i := by
  have key : ∀ (a b : ℕ) (ha : a < 6) (hb : b < 6), a = b → WIdleAt A c a ha = WIdleAt A c b hb := by
    intro a b ha hb e; subst e; rfl
  exact key _ _ _ _ (Nat.add_mod_right i 6)

theorem wp_startW {i : ℕ} (h : i < 45) {α : Type} {k : PUnit → Pr F α} {Q : α → sProp 𝕄} :
    WIdle A c i ⊢ iprop((WFl A c i -∗ run c (k ⟨⟩) Q) -∗ run c (startW i h >>= k) Q) := by
  unfold WIdle WIdleAt WFl startW
  rw [dif_pos h]
  iintro ⟨Hv, HA, HB, Hd, Hd'⟩ Hk
  iapply (wp_start2 c (sA := wgAt i h) (sB := wuAt i h) (q := lq (i % 6)) (q' := lq (i % 6)) (lands_wg A c i h (six i)) (lands_wu A c i h (six i)) rfl) $$ [Hv HA HB Hd Hd']
  · isplitl [Hv HA HB]
    · unfold rest2
      isplitl [Hv]; · iexact Hv
      isplitl [HA]; · iexact HA
      iexact HB
    isplitl [Hd] <;> iassumption
  iexact Hk

theorem wp_refill (i : ℕ) {α : Type} {k : PUnit → Pr F α} {Q : α → sProp 𝕄} :
    WIdle A c (i + 5) ⊢ iprop((WFl A c (i + 5) -∗ run c (k ⟨⟩) Q) -∗ run c (refill i >>= k) Q) := by
  unfold refill
  by_cases h : i + 5 < 45
  · rw [dif_pos h]; exact wp_startW A c h
  · rw [dif_neg h, pure_bind, WFl, dif_neg h]
    iintro H Hk
    iapply Hk; iexact H

theorem wp_waitW {i : ℕ} (h : i < 45) {α : Type} {k : PUnit → Pr F α} {Q : α → sProp 𝕄} :
    iprop(WFl A c i ∗ Ow c) ⊢ iprop((WGot A c i h -∗ Ow c -∗ run c (k ⟨⟩) Q) -∗ run c (waitW i h >>= k) Q) := by
  unfold WFl Ow waitW WGot
  rw [dif_pos h]
  iintro H Hk
  iapply (wp_wait2 c (sA := wgAt i h) (sB := wuAt i h) (dA := wAt (i % 6) (six i) 0 z2) (dB := wAt (i % 6) (six i) 1 o2) rfl (by decide)) $$ H
  unfold rest2
  iintro ⟨⟨⟨Hv, HA, HB⟩, Hd, Hd'⟩, HO⟩
  iapply Hk $$ [Hv HA HB Hd Hd'] HO
  isplitl [Hv]; · iexact Hv
  isplitl [HA]; · iexact HA
  isplitl [HB]; · iexact HB
  isplitl [Hd] <;> iassumption

/-- The ring before chunk `i` is waited for, and while it is in use. -/
def Ring (i : ℕ) : sProp 𝕄 :=
  iprop(WFl A c i ∗ WFl A c (i + 1) ∗ WFl A c (i + 2) ∗ WFl A c (i + 3) ∗ WFl A c (i + 4) ∗ WIdle A c (i + 5))
def RingIn (i : ℕ) : sProp 𝕄 :=
  iprop(WFl A c (i + 1) ∗ WFl A c (i + 2) ∗ WFl A c (i + 3) ∗ WFl A c (i + 4) ∗ WFl A c (i + 5))

theorem wp_turn {i : ℕ} (h : i < 45) {α : Type} {k : PUnit → Pr F α} {Q : α → sProp 𝕄} :
    iprop(Ring A c i ∗ Ow c) ⊢ iprop((WGot A c i h -∗ RingIn A c i -∗ Ow c -∗ run c (k ⟨⟩) Q) -∗ run c (waitW i h >>= fun _ => refill i >>= k) Q) := by
  unfold Ring RingIn
  iintro ⟨⟨H0, H1, H2, H3, H4, H5⟩, HO⟩ Hk
  iapply (wp_waitW A c h) $$ [H0 HO]
  · isplitl [H0] <;> iassumption
  iintro HG HO
  iapply (wp_refill A c i) $$ H5
  iintro H5
  iapply Hk $$ HG [H1 H2 H3 H4 H5] HO
  isplitl [H1]; · iexact H1
  isplitl [H2]; · iexact H2
  isplitl [H3]; · iexact H3
  isplitl [H4]; · iexact H4
  iexact H5

theorem ring_next {i : ℕ} (h : i < 45) : iprop(WGot A c i h ∗ RingIn A c i) ⊢ Ring A c (i + 1) := by
  unfold RingIn Ring
  rw [show i + 1 + 1 = i + 2 from rfl, show i + 1 + 2 = i + 3 from rfl, show i + 1 + 3 = i + 4 from rfl, show i + 1 + 4 = i + 5 from rfl, show i + 1 + 5 = i + 6 from rfl, WIdle_six]
  unfold WGot WIdle WIdleAt
  iintro ⟨⟨Hv, HA, HB, Hd, Hd'⟩, H1, H2, H3, H4, H5⟩
  isplitl [H1]; · iexact H1
  isplitl [H2]; · iexact H2
  isplitl [H3]; · iexact H3
  isplitl [H4]; · iexact H4
  isplitl [H5]; · iexact H5
  isplitl [Hv]; · iexact Hv
  isplitl [HA]; · iexact HA
  isplitl [HB]; · iexact HB
  isplitl [Hd]
  · iexists _; iexact Hd
  iexists _; iexact Hd'

/-! ## Activations -/

def XIdle (t : ℕ) : sProp 𝕄 :=
  if h : t < 9 then iprop(zero c (xSem t h) ∗ shr c aX (lq (2 * t)) A.x ∗ shr c aX (lq (2 * t + 1)) A.x
    ∗ (∃ f, own c (xrAt 0 z2 t h) f) ∗ (∃ f, own c (xrAt 1 o2 t h) f)) else iprop(emp)
def XFl (t : ℕ) : sProp 𝕄 :=
  if h : t < 9 then flight2 c (xAt 0 z2 t h) (xAt 1 o2 t h) (xrAt 0 z2 t h) (xrAt 1 o2 t h) (xSem t h) (lq (2 * t)) (lq (2 * t + 1)) A.x A.x (XR A) (XR A) else iprop(emp)

theorem wp_startX {t : ℕ} (h : t < 9) {α : Type} {k : PUnit → Pr F α} {Q : α → sProp 𝕄} :
    XIdle A c t ⊢ iprop((XFl A c t -∗ run c (k ⟨⟩) Q) -∗ run c (startX t h >>= k) Q) := by
  unfold XIdle XFl startX
  rw [dif_pos h, dif_pos h]
  iintro ⟨Hv, HA, HB, Hd, Hd'⟩ Hk
  iapply (wp_start2 c (sA := xAt 0 z2 t h) (sB := xAt 1 o2 t h) (q := lq (2 * t)) (q' := lq (2 * t + 1)) (lands_x0 A c t h) (lands_x1 A c t h) rfl) $$ [Hv HA HB Hd Hd']
  · isplitl [Hv HA HB]
    · unfold rest2
      isplitl [Hv]; · iexact Hv
      isplitl [HA]; · iexact HA
      iexact HB
    isplitl [Hd] <;> iassumption
  iexact Hk

/-- Trip `t`'s activations staged. -/
def XGot (t : ℕ) (h : t < 9) : sProp 𝕄 :=
  iprop((zero c (xSem t h) ∗ shr c aX (lq (2 * t)) A.x ∗ shr c aX (lq (2 * t + 1)) A.x) ∗ Xs A c t h)

theorem wp_waitX {t : ℕ} (h : t < 9) {α : Type} {k : PUnit → Pr F α} {Q : α → sProp 𝕄} :
    iprop(XFl A c t ∗ Ow c) ⊢ iprop((XGot A c t h -∗ Ow c -∗ run c (k ⟨⟩) Q) -∗ run c (waitX t h >>= k) Q) := by
  unfold XFl Ow waitX XGot Xs
  rw [dif_pos h]
  iintro H Hk
  iapply (wp_wait2 c (sA := xAt 0 z2 t h) (sB := xAt 1 o2 t h) (dA := xrAt 0 z2 t h) (dB := xrAt 1 o2 t h) rfl (by decide)) $$ H
  unfold rest2
  iintro ⟨⟨⟨Hv, HA, HB⟩, Hd, Hd'⟩, HO⟩
  iapply Hk $$ [Hv HA HB Hd Hd'] HO
  isplitl [Hv HA HB]
  · isplitl [Hv]; · iexact Hv
    isplitl [HA]; · iexact HA
    iexact HB
  isplitl [Hd] <;> iassumption

theorem xgot_idle {t : ℕ} (h : t < 9) : XGot A c t h ⊢ XIdle A c t := by
  unfold XGot XIdle Xs
  rw [dif_pos h]
  iintro ⟨⟨Hv, HA, HB⟩, Hd, Hd'⟩
  isplitl [Hv]; · iexact Hv
  isplitl [HA]; · iexact HA
  isplitl [HB]; · iexact HB
  isplitl [Hd]
  · iexists _; iexact Hd
  iexists _; iexact Hd'

/-! ## Scales -/

def SIdleAt (sl : ℕ) (h : sl < 2) : sProp 𝕄 :=
  iprop(zero c (sSem sl h) ∗ shr c aSG (lq sl) A.sg ∗ shr c aSU (lq sl) A.su
    ∗ (∃ f, own c (sAt sl h 0 z2) f) ∗ (∃ f, own c (sAt sl h 1 o2) f))
def SIdle (n : ℕ) : sProp 𝕄 := SIdleAt A c (n % 2) (two n)
def SFl (n : ℕ) : sProp 𝕄 :=
  if h : n < 5 then flight2 c (sgAt n h) (suAt n h) (sAt (n % 2) (two n) 0 z2) (sAt (n % 2) (two n) 1 o2) (sSem (n % 2) (two n)) (lq (n % 2)) (lq (n % 2)) A.sg A.su (SR A n h) (SR A n h)
  else SIdle A c n
def SGot (n : ℕ) (h : n < 5) : sProp 𝕄 :=
  iprop(zero c (sSem (n % 2) (two n)) ∗ shr c aSG (lq (n % 2)) A.sg ∗ shr c aSU (lq (n % 2)) A.su
    ∗ own c (sAt (n % 2) (two n) 0 z2) (SR A n h) ∗ own c (sAt (n % 2) (two n) 1 o2) (SR A n h))

theorem SIdle_two (n : ℕ) : SIdle A c (n + 2) = SIdle A c n := by
  have key : ∀ (a b : ℕ) (ha : a < 2) (hb : b < 2), a = b → SIdleAt A c a ha = SIdleAt A c b hb := by
    intro a b ha hb e; subst e; rfl
  exact key _ _ _ _ (Nat.add_mod_right n 2)

theorem wp_startS {n : ℕ} (h : n < 5) {α : Type} {k : PUnit → Pr F α} {Q : α → sProp 𝕄} :
    SIdle A c n ⊢ iprop((SFl A c n -∗ run c (k ⟨⟩) Q) -∗ run c (startS n h >>= k) Q) := by
  unfold SIdle SIdleAt SFl startS
  rw [dif_pos h]
  iintro ⟨Hv, HA, HB, Hd, Hd'⟩ Hk
  iapply (wp_start2 c (sA := sgAt n h) (sB := suAt n h) (q := lq (n % 2)) (q' := lq (n % 2)) (lands_sg A c n h (two n)) (lands_su A c n h (two n)) rfl) $$ [Hv HA HB Hd Hd']
  · isplitl [Hv HA HB]
    · unfold rest2
      isplitl [Hv]; · iexact Hv
      isplitl [HA]; · iexact HA
      iexact HB
    isplitl [Hd] <;> iassumption
  iexact Hk

theorem wp_nextS (n : ℕ) {α : Type} {k : PUnit → Pr F α} {Q : α → sProp 𝕄} :
    SIdle A c (n + 1) ⊢ iprop((SFl A c (n + 1) -∗ run c (k ⟨⟩) Q) -∗ run c (nextS n >>= k) Q) := by
  unfold nextS
  by_cases h : n + 1 < 5
  · rw [dif_pos h]; exact wp_startS A c h
  · rw [dif_neg h, pure_bind, SFl, dif_neg h]
    iintro H Hk
    iapply Hk; iexact H

theorem wp_waitS {n : ℕ} (h : n < 5) {α : Type} {k : PUnit → Pr F α} {Q : α → sProp 𝕄} :
    iprop(SFl A c n ∗ Ow c) ⊢ iprop((SGot A c n h -∗ Ow c -∗ run c (k ⟨⟩) Q) -∗ run c (waitS n h >>= k) Q) := by
  unfold SFl Ow waitS SGot
  rw [dif_pos h]
  iintro H Hk
  iapply (wp_wait2 c (sA := sgAt n h) (sB := suAt n h) (dA := sAt (n % 2) (two n) 0 z2) (dB := sAt (n % 2) (two n) 1 o2) rfl (by decide)) $$ H
  unfold rest2
  iintro ⟨⟨⟨Hv, HA, HB⟩, Hd, Hd'⟩, HO⟩
  iapply Hk $$ [Hv HA HB Hd Hd'] HO
  isplitl [Hv]; · iexact Hv
  isplitl [HA]; · iexact HA
  isplitl [HB]; · iexact HB
  isplitl [Hd] <;> iassumption

theorem sgot_idle {n : ℕ} (h : n < 5) : SGot A c n h ⊢ SIdle A c (n + 2) := by
  rw [SIdle_two]
  unfold SGot SIdle SIdleAt
  iintro ⟨Hv, HA, HB, Hd, Hd'⟩
  isplitl [Hv]; · iexact Hv
  isplitl [HA]; · iexact HA
  isplitl [HB]; · iexact HB
  isplitl [Hd]
  · iexists _; iexact Hd
  iexists _; iexact Hd'

/-- Both matrices' pairings. -/
theorem wp_pairsAll {n : ℕ} (hn : n < 5) {α : Type} {k : PUnit → Pr F α} {Q : α → sProp 𝕄} :
    iprop(SGot A c n hn ∗ (∃ f, whole c bP f))
      ⊢ iprop((SGot A c n hn -∗ whole c bP (SP A n hn) -∗ run c (k ⟨⟩) Q) -∗ run c (pairs (two n) 0 z2 >>= fun _ => pairs (two n) 1 o2 >>= k) Q) := by
  unfold SGot
  iintro ⟨⟨Hv, HA, HB, Hd, Hd'⟩, ⟨%f, HP⟩⟩ Hk
  iapply (wp_pairs A c hn (two n) z2 (f := f) (fun j hj => absurd hj (Nat.not_lt_zero _))) $$ [Hd HP]
  · isplitl [Hd] <;> iassumption
  iintro %f1 Hd HP %h1
  iapply (wp_pairs A c hn (two n) o2 (f := f1) h1) $$ [Hd' HP]
  · isplitl [Hd'] <;> iassumption
  iintro %f2 Hd' HP %h2
  obtain rfl : f2 = SP A n hn := funext fun j => h2 j (j 0).isLt
  iapply Hk $$ [Hv HA HB Hd Hd'] HP
  isplitl [Hv]; · iexact Hv
  isplitl [HA]; · iexact HA
  isplitl [HB]; · iexact HB
  isplitl [Hd] <;> iassumption

/-! ## Outputs -/

def OIdleAt (sl : ℕ) (h : sl < 2) : sProp 𝕄 := iprop(zero c (oSem sl h) ∗ (∃ f, own c (oAt sl h) f))
def OIdle (n : ℕ) : sProp 𝕄 := OIdleAt c (n % 2) (two n)
def OFl (n : ℕ) : sProp 𝕄 :=
  if h : n < 5 then flight1 c (oAt (n % 2) (two n)) (outAt n h) (oSem (n % 2) (two n)) (OB A n h) (OT A) else iprop(emp)
/-- Output buffer `n % 2` before block `n`. -/
def OSt : ℕ → sProp 𝕄
  | 0 => OIdle c 0
  | 1 => OIdle c 1
  | n + 2 => OFl A c n
/-- Column block `n` of the result, unwritten and written. -/
def Fresh (n : ℕ) : sProp 𝕄 := if h : n < 5 then iprop(∃ f, own (F := F) c (outAt n h) f) else iprop(emp)
def Done (n : ℕ) : sProp 𝕄 := if h : n < 5 then own c (outAt n h) (OT A) else iprop(emp)

theorem OIdle_two (n : ℕ) : (OIdle (F := F) c (n + 2) : sProp 𝕄) = OIdle c n := by
  have key : ∀ (a b : ℕ) (ha : a < 2) (hb : b < 2), a = b → OIdleAt (F := F) c a ha = OIdleAt c b hb := by
    intro a b ha hb e; subst e; rfl
  exact key _ _ _ _ (Nat.add_mod_right n 2)

theorem wp_waitO {n : ℕ} (h : n < 5) {α : Type} {k : PUnit → Pr F α} {Q : α → sProp 𝕄} :
    iprop(OFl A c n ∗ Ow c) ⊢ iprop((OIdle c n -∗ Done A c n -∗ Ow c -∗ run c (k ⟨⟩) Q) -∗ run c (waitO n h >>= k) Q) := by
  unfold OFl Ow waitO OIdle OIdleAt Done
  rw [dif_pos h, dif_pos h]
  iintro H Hk
  iapply (wp_wait1 c (sA := oAt (n % 2) (two n)) (by decide)) $$ H
  iintro ⟨⟨Hv, Hs, Hd⟩, HO⟩
  iapply Hk $$ [Hv Hs] Hd HO
  isplitl [Hv]; · iexact Hv
  iexists _; iexact Hs

theorem wp_prevO {n : ℕ} (h : n < 5) {α : Type} {k : PUnit → Pr F α} {Q : α → sProp 𝕄} :
    iprop(OSt A c n ∗ Seq (Done A c) (n - 2) 0 ∗ Ow c) ⊢ iprop((OIdle c n -∗ Seq (Done A c) (n - 1) 0 -∗ Ow c -∗ run c (k ⟨⟩) Q) -∗ run c (prevO n h >>= k) Q) := by
  match n, h with
  | 0, h =>
    unfold prevO OSt
    rw [dif_neg (by omega), pure_bind]
    iintro ⟨H, HS, HO⟩ Hk
    iapply Hk $$ H HS HO
  | 1, h =>
    unfold prevO OSt
    rw [dif_neg (by omega), pure_bind]
    iintro ⟨H, HS, HO⟩ Hk
    iapply Hk $$ H HS HO
  | n + 2, h =>
    unfold prevO OSt
    rw [OIdle_two, dif_pos (show 2 ≤ n + 2 by omega)]
    simp only [Nat.add_sub_cancel]
    iintro ⟨H, HS, HO⟩ Hk
    iapply (wp_waitO A c (n := n) (Nat.lt_of_succ_lt (Nat.lt_of_succ_lt h))) $$ [H HO]
    · isplitl [H]; · iexact H
      iexact HO
    iintro HI HD HO
    iapply Hk $$ HI [HS HD] HO
    iapply (Seq.snoc n 0)
    isplitl [HS]; · iexact HS
    rw [Nat.zero_add]
    iexact HD

theorem wp_startO {n : ℕ} (h : n < 5) {α : Type} {k : PUnit → Pr F α} {Q : α → sProp 𝕄} :
    iprop(zero c (oSem (n % 2) (two n)) ∗ own c (oAt (n % 2) (two n)) (OB A n h) ∗ Fresh (F := F) c n) ⊢ iprop((OFl A c n -∗ run c (k ⟨⟩) Q) -∗ run c (startO n h >>= k) Q) := by
  unfold OFl startO Fresh
  rw [dif_pos h, dif_pos h]
  exact wp_start1 c (sA := oAt (n % 2) (two n)) (lands_o A c n h (two n))

end Cert.KernelIdeal.Hand
end
-- ==== Proof.Ideal.Whole.lean ====
/-
  The kernel's loops and the kernel.
-/
module

public import proofs.«01_k».proof.Proof.Ideal.Ring

@[expose] public section

set_option pp.maxSteps 40

noncomputable section

namespace Cert.KernelIdeal.Hand

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (A : In F) (c : Dev nD)
local notation "𝕄" => MT nD τ sig Unit (Elt F) ℕ (UU nD τ) ℕ

theorem fin {α : Type} (a : α) {Q : α → sProp 𝕄} : Q a ⊢ run c (pure a) Q := by
  show Q a ⊢ wp frame (wpE (defs₀ (F := F)) 𝒱₀ (c : Thread nD τ) none) Set.univ (Prog.ret a) Q
  rw [wp_ret]
  iintro H
  imodintro
  iexact H

theorem tail_eq {α : Type} (p : Pr F α) : p = (p >>= pure) := (bind_pure p).symm

theorem Seq.shift {P : ℕ → sProp 𝕄} {N b : ℕ} (h : b < N) : Seq P (N - b) b ⊢ iprop(P b ∗ Seq P (N - (b + 1)) (b + 1)) := by
  rw [show N - b = (N - (b + 1)) + 1 by omega]
  exact .rfl

/-! ## Trips -/

/-- The passes of a trip, from its weight chunk in the ring. -/
theorem wp_tripPasses {n : ℕ} (hn : n < 5) {b : ℕ} (hb : b < 9) (hi : 9 * n + b < 45) (hrow : ∀ r : Fin 6, 6 * b + r.val < 54)
    {f : S9x128x3072.Idx → Elt F .bf16} (hf : ∀ j : S9x128x3072.Idx, (j 0).val = b → f j = XP A j) {mx : Mxu F} (hs : St A n hn (12 * b) mx)
    {α : Type} {k : Mxu F → Pr F α} {Q : α → sProp 𝕄} :
    iprop(WGot A c (9 * n + b) hi ∗ whole c bP (SP A n hn) ∗ whole c bXP f)
      ⊢ iprop((∀ mx', WGot A c (9 * n + b) hi -∗ whole c bP (SP A n hn) -∗ whole c bXP f -∗ ⌜St A n hn (12 * (b + 1)) mx'⌝ -∗ run c (k mx') Q)
        -∗ run c (passes (six (9 * n + b)) hb (fun r => 6 * b + r.val) hrow 12 0 rfl mx >>= k) Q) := by
  unfold WGot
  iintro ⟨⟨Hv, HA, HB, Hd, Hd'⟩, HP, HX⟩ Hk
  iapply (wp_passes A c hn hb hi (six (9 * n + b)) hrow hf 12 0 rfl mx hs) $$ [Hd Hd' HP HX]
  · unfold Ops
    isplitl [Hd]; · iexact Hd
    isplitl [Hd']; · iexact Hd'
    isplitl [HP]; · iexact HP
    iexact HX
  iintro %mx' H %hs'
  unfold Ops
  icases H with ⟨Hd, Hd', HP, HX⟩
  iapply Hk $$ [Hv HA HB Hd Hd'] HP HX
  · isplitl [Hv]; · iexact Hv
    isplitl [HA]; · iexact HA
    isplitl [HB]; · iexact HB
    isplitl [Hd] <;> iassumption
  ipureintro
  exact hs'

/-- Before trip `b` of block `n`. -/
def TInv (n : ℕ) (hn : n < 5) (b : ℕ) (mx : Mxu F) : sProp 𝕄 :=
  iprop(Ring A c (9 * n + b) ∗ whole c bP (SP A n hn) ∗ whole c bXP (XP A) ∗ Ow c ∗ ⌜St A n hn (12 * b) mx⌝)

theorem body3_triple (n : ℕ) (hn : n < 5) (b : ℕ) (hb : b < 9) (mx : Mxu F) :
    TInv A c n hn b mx ⊢ run c (body3 n hn b hb mx) (TInv A c n hn (b + 1)) := by
  unfold TInv
  unfold body3
  rw [tail_eq (passes _ _ _ _ _ _ _ _)]
  iintro ⟨HR, HP, HX, HO, %hs⟩
  have hi : 9 * n + b < 45 := by omega
  iapply (wp_turn A c hi) $$ [HR HO]
  · isplitl [HR] <;> iassumption
  iintro HG HR HO
  iapply (wp_tripPasses A c hn hb hi _ (fun j _ => rfl) hs) $$ [HG HP HX]
  · isplitl [HG]; · iexact HG
    isplitl [HP]; · iexact HP
    iexact HX
  iintro %mx' HG HP HX %hs'
  iapply (fin c)
  isplitl [HG HR]
  · iapply (ring_next A c hi)
    isplitl [HG] <;> iassumption
  isplitl [HP]; · iexact HP
  isplitl [HX]; · iexact HX
  isplitl [HO]; · iexact HO
  ipureintro; exact hs'

theorem wp_trips {n : ℕ} (hn : n < 5) (mx : Mxu F) {α : Type} {k : Mxu F → Pr F α} {Q : α → sProp 𝕄} :
    TInv A c n hn 0 mx ⊢ iprop((∀ mx', TInv A c n hn 9 mx' -∗ run c (k mx') Q) -∗ run c (trips n hn mx >>= k) Q) := by
  have h := Scf.wp_for_bind frame (wpE (defs₀ (F := F)) 𝒱₀ (c : Thread nD τ) none) Set.univ k0_t3_loop.lb k0_t3_loop.ub k0_t3_loop.st k0_t3_ok mx
    (fun k mx => body3 n hn k.val (Nat.lt_of_lt_of_eq k.isLt trips3) mx) (fun b mx => TInv A c n hn b mx)
    (fun k mx => body3_triple A c n hn k.val _ mx) (kk := k) (Q := Q)
  have e : ∀ acc, TInv A c n hn (Scf.trips k0_t3_loop.lb k0_t3_loop.ub k0_t3_loop.st) acc ⊢ TInv A c n hn 9 acc := fun acc => by
    rw [show Scf.trips k0_t3_loop.lb k0_t3_loop.ub k0_t3_loop.st = 9 from trips3]
  iintro H Hk
  iapply h $$ H
  iintro %acc H
  iapply Hk
  iapply (e acc)
  iexact H

/-- Before trip `b` of the first block. -/
def T1Inv (b : ℕ) (mx : Mxu F) : sProp 𝕄 :=
  iprop(Ring A c (9 * 0 + b) ∗ whole c bP (SP A 0 (by decide)) ∗ (∃ f : S9x128x3072.Idx → Elt F .bf16, whole c bXP f ∗ ⌜Mixed A b 0 f⌝)
    ∗ Seq (XFl A c) (9 - b) b ∗ Seq (XIdle A c) b 0 ∗ Ow c ∗ ⌜St A 0 (by decide) (12 * b) mx⌝)

theorem trip1_eq (b : ℕ) (hb : b < 9) (mx : Mxu F) : ∀ (i : ℕ) (_ : i = b) (hi : i < 45),
    body1 b hb mx = (do
      waitW i hi
      refill i
      waitX b hb
      inters hb 12 0 rfl
      passes (six i) hb (fun r => 6 * b + r.val) (fun r => by omega) 12 0 rfl mx >>= pure) := by
  rintro _ rfl hi
  simp only [bind_pure]
  rfl

theorem Mixed.row {b : ℕ} {f : S9x128x3072.Idx → Elt F .bf16} (h : Mixed A b 12 f) : ∀ j : S9x128x3072.Idx, (j 0).val = b → f j = XP A j :=
  fun j e => h j (.inr ⟨e, (j 2).isLt⟩)
theorem Mixed.next {b : ℕ} {f : S9x128x3072.Idx → Elt F .bf16} (h : Mixed A b 12 f) : Mixed A (b + 1) 0 f := by
  intro j e
  rcases e with e | ⟨_, e⟩
  · rcases Nat.lt_succ_iff_lt_or_eq.mp e with e | e
    · exact h j (.inl e)
    · exact h j (.inr ⟨e, (j 2).isLt⟩)
  · exact absurd e (Nat.not_lt_zero _)
theorem Mixed.all {f : S9x128x3072.Idx → Elt F .bf16} (h : Mixed A 9 0 f) : f = XP A := funext fun j => h j (.inl (j 0).isLt)

theorem body1_triple (b : ℕ) (hb : b < 9) (mx : Mxu F) : T1Inv A c b mx ⊢ run c (body1 b hb mx) (T1Inv A c (b + 1)) := by
  have hi : 9 * 0 + b < 45 := by omega
  rw [trip1_eq b hb mx (9 * 0 + b) (by omega) hi]
  unfold T1Inv
  iintro ⟨HR, HP, ⟨%f, HX, %hf⟩, HF, HI, HO, %hs⟩
  iapply (wp_turn A c hi) $$ [HR HO]
  · isplitl [HR] <;> iassumption
  iintro HG HR HO
  ihave HF' := (Seq.shift hb) $$ HF
  icases HF' with ⟨HF0, HF⟩
  iapply (wp_waitX A c hb) $$ [HF0 HO]
  · isplitl [HF0] <;> iassumption
  unfold XGot
  iintro ⟨HX0, HXs⟩ HO
  iapply (wp_inters A c hb 12 0 rfl f hf) $$ [HXs HX]
  · isplitl [HXs] <;> iassumption
  iintro %f' HXs HX %hf'
  iapply (wp_tripPasses A c (n := 0) (Nat.le_of_ble_eq_true rfl) hb hi _ (hf'.row A) hs) $$ [HG HP HX]
  · isplitl [HG]; · iexact HG
    isplitl [HP]; · iexact HP
    iexact HX
  iintro %mx' HG HP HX %hs'
  iapply (fin c)
  isplitl [HG HR]
  · iapply (ring_next A c hi)
    isplitl [HG] <;> iassumption
  isplitl [HP]; · iexact HP
  isplitl [HX]
  · iexists f'
    isplitl [HX]; · iexact HX
    ipureintro; exact hf'.next A
  isplitl [HF]; · iexact HF
  isplitl [HI HX0 HXs]
  · iapply (Seq.snoc b 0)
    isplitl [HI]; · iexact HI
    rw [Nat.zero_add]
    iapply (xgot_idle A c hb)
    unfold XGot
    isplitl [HX0] <;> iassumption
  isplitl [HO]; · iexact HO
  ipureintro; exact hs'

theorem wp_trips1 (mx : Mxu F) {α : Type} {k : Mxu F → Pr F α} {Q : α → sProp 𝕄} :
    T1Inv A c 0 mx ⊢ iprop((∀ mx', T1Inv A c 9 mx' -∗ run c (k mx') Q)
      -∗ run c (Scf.Loop.for k0_t1_loop k0_t1_ok mx (fun k mx => body1 k.val (Nat.lt_of_lt_of_eq k.isLt trips1) mx) >>= k) Q) := by
  have h := Scf.wp_for_bind frame (wpE (defs₀ (F := F)) 𝒱₀ (c : Thread nD τ) none) Set.univ k0_t1_loop.lb k0_t1_loop.ub k0_t1_loop.st k0_t1_ok mx
    (fun k mx => body1 k.val (Nat.lt_of_lt_of_eq k.isLt trips1) mx) (fun b mx => T1Inv A c b mx)
    (fun k mx => body1_triple A c k.val _ mx) (kk := k) (Q := Q)
  have e : ∀ acc, T1Inv A c (Scf.trips k0_t1_loop.lb k0_t1_loop.ub k0_t1_loop.st) acc ⊢ T1Inv A c 9 acc := fun acc => by
    rw [show Scf.trips k0_t1_loop.lb k0_t1_loop.ub k0_t1_loop.st = 9 from trips1]
  iintro H Hk
  iapply h $$ H
  iintro %acc H
  iapply Hk
  iapply (e acc)
  iexact H

/-! ## Blocks -/

/-- Before block `n`, from the second on. -/
def BInv (n : ℕ) (mx : Mxu F) : sProp 𝕄 :=
  iprop(Ring A c (9 * n) ∗ SFl A c n ∗ SIdle A c (n + 1) ∗ OSt A c n ∗ OSt A c (n + 1) ∗ Seq (Fresh (F := F) c) (5 - n) n ∗ Seq (Done A c) (n - 2) 0
    ∗ (∃ f, whole (F := F) c bP f) ∗ whole c bXP (XP A) ∗ Ow c ∗ ⌜mx.Drained⌝)

theorem body2_triple (n : ℕ) (hn : n < 5) (mx : Mxu F) : BInv A c n mx ⊢ run c (body2 n hn mx) (BInv A c (n + 1)) := by
  unfold BInv body2
  iintro ⟨HR, HS, HS', HT, HT', HF, HD, HP, HX, HO, %hd⟩
  iapply (wp_waitS A c hn) $$ [HS HO]
  · isplitl [HS] <;> iassumption
  iintro HS HO
  iapply (wp_pairsAll A c hn) $$ [HS HP]
  · isplitl [HS] <;> iassumption
  iintro HS HP
  iapply (wp_nextS A c n) $$ HS'
  iintro HS'
  iapply (wp_trips A c hn mx) $$ [HR HP HX HO]
  · unfold TInv
    isplitl [HR]; · iexact HR
    isplitl [HP]; · iexact HP
    isplitl [HX]; · iexact HX
    isplitl [HO]; · iexact HO
    ipureintro; exact St.init A n hn hd
  unfold TInv
  iintro %mx1 ⟨HR, HP, HX, HO, %hs⟩
  iapply (wp_prevO A c hn) $$ [HT HD HO]
  · isplitl [HT]; · iexact HT
    isplitl [HD] <;> iassumption
  unfold OIdle OIdleAt
  iintro ⟨HZ, HT⟩ HD HO
  iapply (wp_epi A c hn (two n) hs) $$ HT
  iintro %mx2 HT %hd2
  ihave HF' := (Seq.shift hn) $$ HF
  icases HF' with ⟨HF0, HF⟩
  iapply (wp_startO A c hn) $$ [HZ HT HF0]
  · isplitl [HZ]; · iexact HZ
    isplitl [HT] <;> iassumption
  iintro HT
  iapply (fin c)
  isplitl [HR]; · iexact HR
  isplitl [HS']; · iexact HS'
  isplitl [HS]
  · iapply (sgot_idle A c hn); iexact HS
  isplitl [HT']; · iexact HT'
  rw [show OSt A c (n + 1 + 1) = OFl A c n from rfl]
  isplitl [HT]; · iexact HT
  isplitl [HF]; · iexact HF
  isplitl [HD]; · iexact HD
  isplitl [HP]
  · iexists _; iexact HP
  isplitl [HX]; · iexact HX
  isplitl [HO]; · iexact HO
  ipureintro; exact hd2

theorem wp_blocks (mx : Mxu F) {α : Type} {k : Mxu F → Pr F α} {Q : α → sProp 𝕄} :
    BInv A c 1 mx ⊢ iprop((∀ mx', BInv A c 5 mx' -∗ run c (k mx') Q)
      -∗ run c (Scf.Loop.for k0_t2_loop k0_t2_ok mx (fun k mx => body2 (k.val + 1) (by have := Nat.lt_of_lt_of_eq k.isLt trips2; omega) mx) >>= k) Q) := by
  have h := Scf.wp_for_bind frame (wpE (defs₀ (F := F)) 𝒱₀ (c : Thread nD τ) none) Set.univ k0_t2_loop.lb k0_t2_loop.ub k0_t2_loop.st k0_t2_ok mx
    (fun k mx => body2 (k.val + 1) (by have := Nat.lt_of_lt_of_eq k.isLt trips2; omega) mx) (fun n mx => BInv A c (n + 1) mx)
    (fun k mx => body2_triple A c (k.val + 1) _ mx) (kk := k) (Q := Q)
  have e : ∀ acc, BInv A c ((Scf.trips k0_t2_loop.lb k0_t2_loop.ub k0_t2_loop.st) + 1) acc ⊢ BInv A c 5 acc := fun acc => by
    rw [show Scf.trips k0_t2_loop.lb k0_t2_loop.ub k0_t2_loop.st = 4 from trips2]
  iintro H Hk
  iapply h $$ H
  iintro %acc H
  iapply Hk
  iapply (e acc)
  iexact H

/-! ## The kernel -/

theorem seq9 (P : ℕ → sProp 𝕄) : Seq P 9 0 = iprop(P 0 ∗ P 1 ∗ P 2 ∗ P 3 ∗ P 4 ∗ P 5 ∗ P 6 ∗ P 7 ∗ P 8 ∗ emp) := rfl
theorem seq6 (P : ℕ → sProp 𝕄) : Seq P 6 0 = iprop(P 0 ∗ P 1 ∗ P 2 ∗ P 3 ∗ P 4 ∗ P 5 ∗ emp) := rfl
theorem seq2 (P : ℕ → sProp 𝕄) : Seq P 2 0 = iprop(P 0 ∗ P 1 ∗ emp) := rfl

/-- Everything the kernel holds at rest, apart from the result. -/
def Rest : sProp 𝕄 :=
  iprop(Seq (XIdle A c) 9 0 ∗ Seq (WIdle A c) 6 0 ∗ Seq (SIdle A c) 2 0 ∗ Seq (OIdle (F := F) c) 2 0
    ∗ (∃ f, whole (F := F) c bP f) ∗ (∃ f, whole (F := F) c bXP f) ∗ Ow c)

theorem wp_prologue {α : Type} {k : PUnit → Pr F α} {Q : α → sProp 𝕄} :
    iprop(Seq (XIdle A c) 9 0 ∗ Seq (WIdle A c) 6 0 ∗ SIdle A c 0)
      ⊢ iprop((Seq (XFl A c) 9 0 -∗ Ring A c 0 -∗ SFl A c 0 -∗ run c (k ⟨⟩) Q) -∗ run c (prologue >>= k) Q) := by
  rw [seq9, seq9, seq6]
  unfold prologue Ring
  simp only [bind_assoc]
  iintro ⟨⟨X0, X1, X2, X3, X4, X5, X6, X7, X8, HE⟩, ⟨W0, W1, W2, W3, W4, W5, -⟩, HS⟩ Hk
  iapply (wp_startS A c (n := 0) (Nat.le_of_ble_eq_true rfl)) $$ HS
  iintro HS
  iapply (wp_startX A c (t := 0) (Nat.le_of_ble_eq_true rfl)) $$ X0
  iintro X0
  iapply (wp_startW A c (i := 0) (Nat.le_of_ble_eq_true rfl)) $$ W0
  iintro W0
  iapply (wp_startX A c (t := 1) (Nat.le_of_ble_eq_true rfl)) $$ X1
  iintro X1
  iapply (wp_startW A c (i := 1) (Nat.le_of_ble_eq_true rfl)) $$ W1
  iintro W1
  iapply (wp_startX A c (t := 2) (Nat.le_of_ble_eq_true rfl)) $$ X2
  iintro X2
  iapply (wp_startW A c (i := 2) (Nat.le_of_ble_eq_true rfl)) $$ W2
  iintro W2
  iapply (wp_startX A c (t := 3) (Nat.le_of_ble_eq_true rfl)) $$ X3
  iintro X3
  iapply (wp_startW A c (i := 3) (Nat.le_of_ble_eq_true rfl)) $$ W3
  iintro W3
  iapply (wp_startX A c (t := 4) (Nat.le_of_ble_eq_true rfl)) $$ X4
  iintro X4
  iapply (wp_startW A c (i := 4) (Nat.le_of_ble_eq_true rfl)) $$ W4
  iintro W4
  iapply (wp_startX A c (t := 5) (Nat.le_of_ble_eq_true rfl)) $$ X5
  iintro X5
  iapply (wp_startX A c (t := 6) (Nat.le_of_ble_eq_true rfl)) $$ X6
  iintro X6
  iapply (wp_startX A c (t := 7) (Nat.le_of_ble_eq_true rfl)) $$ X7
  iintro X7
  iapply (wp_startX A c (t := 8) (Nat.le_of_ble_eq_true rfl)) $$ X8
  iintro X8
  iapply Hk $$ [X0 X1 X2 X3 X4 X5 X6 X7 X8 HE] [W0 W1 W2 W3 W4 W5] HS
  · isplitl [X0]; · iexact X0
    isplitl [X1]; · iexact X1
    isplitl [X2]; · iexact X2
    isplitl [X3]; · iexact X3
    isplitl [X4]; · iexact X4
    isplitl [X5]; · iexact X5
    isplitl [X6]; · iexact X6
    isplitl [X7]; · iexact X7
    isplitl [X8]; · iexact X8
    iexact HE
  · isplitl [W0]; · iexact W0
    isplitl [W1]; · iexact W1
    isplitl [W2]; · iexact W2
    isplitl [W3]; · iexact W3
    isplitl [W4]; · iexact W4
    iexact W5

theorem ring_end : Ring A c (9 * 5) ⊢ Seq (WIdle A c) 6 0 := by
  rw [seq6]
  unfold Ring WFl
  rw [dif_neg (by decide), dif_neg (by decide), dif_neg (by decide), dif_neg (by decide), dif_neg (by decide)]
  iintro ⟨W3, W4, W5, W0, W1, W2⟩
  isplitl [W0]; · iexact W0
  isplitl [W1]; · iexact W1
  isplitl [W2]; · iexact W2
  isplitl [W3]; · iexact W3
  isplitl [W4]; · iexact W4
  isplitl [W5]; · iexact W5
  iempintro

theorem sfl5 : SFl A c 5 ⊢ SIdle A c 1 := by
  unfold SFl
  rw [dif_neg (by decide)]
  exact .rfl
theorem sidle6 : SIdle A c (5 + 1) ⊢ SIdle A c 0 := .rfl
theorem wp_kernelP {Q : PUnit → sProp 𝕄} :
    iprop(Rest A c ∗ Seq (Fresh (F := F) c) 5 0)
      ⊢ iprop((Rest A c -∗ Seq (Done A c) 5 0 -∗ Q ⟨⟩) -∗ run c kernelP Q) := by
  unfold Rest kernelP
  rw [seq2, seq2]
  iintro ⟨⟨HX, HW, ⟨S0, S1, -⟩, ⟨O0, O1, -⟩, HP, ⟨%f, HXP⟩, HO⟩, HF⟩ Hk
  iapply (wp_prologue A c) $$ [HX HW S0]
  · isplitl [HX]; · iexact HX
    isplitl [HW] <;> iassumption
  iintro HX HR S0
  iapply (wp_waitS A c (n := 0) (Nat.le_of_ble_eq_true rfl)) $$ [S0 HO]
  · isplitl [S0] <;> iassumption
  iintro S0 HO
  iapply (wp_pairsAll A c (n := 0) (Nat.le_of_ble_eq_true rfl)) $$ [S0 HP]
  · isplitl [S0] <;> iassumption
  iintro S0 HP
  iapply (wp_startS A c (n := 1) (Nat.le_of_ble_eq_true rfl)) $$ S1
  iintro S1
  iapply (wp_trips1 A c Mxu.init) $$ [HR HP HXP HX HO]
  · unfold T1Inv
    isplitl [HR]; · iexact HR
    isplitl [HP]; · iexact HP
    isplitl [HXP]
    · iexists f
      isplitl [HXP]; · iexact HXP
      ipureintro; intro j e; rcases e with e | ⟨_, e⟩ <;> exact absurd e (Nat.not_lt_zero _)
    isplitl [HX]; · iexact HX
    isplitr; · simp only [Seq]; iempintro
    isplitl [HO]; · iexact HO
    ipureintro; exact St.init A 0 _ Mxu.init_drained
  unfold T1Inv
  iintro %mx1 ⟨HR, HP, ⟨%f', HXP, %hf⟩, -, HX, HO, %hs⟩
  obtain rfl := hf.all A
  unfold OIdle OIdleAt
  icases O0 with ⟨HZ, HT⟩
  iapply (wp_epi A c (n := 0) (Nat.le_of_ble_eq_true rfl) (two 0) hs) $$ HT
  iintro %mx2 HT %hd
  ihave HF' := (Seq.shift (N := 5) (b := 0) (Nat.le_of_ble_eq_true rfl)) $$ HF
  icases HF' with ⟨HF0, HF⟩
  iapply (wp_startO A c (n := 0) (Nat.le_of_ble_eq_true rfl)) $$ [HZ HT HF0]
  · isplitl [HZ]; · iexact HZ
    isplitl [HT] <;> iassumption
  iintro O0
  iapply (wp_blocks A c mx2) $$ [HR S0 S1 O0 O1 HF HP HXP HO]
  · unfold BInv
    isplitl [HR]; · iexact HR
    isplitl [S1]; · iexact S1
    isplitl [S0]
    · iapply (sgot_idle A c (n := 0) (Nat.le_of_ble_eq_true rfl)); iexact S0
    isplitl [O1]
    · unfold OSt OIdle OIdleAt; iexact O1
    isplitl [O0]
    · unfold OSt; iexact O0
    isplitl [HF]; · iexact HF
    isplitr
    · rw [show Seq (Done A c) (1 - 2) 0 = iprop(emp) from rfl]; iempintro
    isplitl [HP]
    · iexists _; iexact HP
    isplitl [HXP]; · iexact HXP
    isplitl [HO]; · iexact HO
    ipureintro; exact hd
  unfold BInv
  iintro %mx3 ⟨HR, S1, S0, O1, O0, -, HD, HP, HXP, HO, %hd3⟩
  unfold OSt
  iapply (wp_waitO A c (n := 3) (Nat.le_of_ble_eq_true rfl)) $$ [O1 HO]
  · isplitl [O1] <;> iassumption
  iintro O1 HD3 HO
  iapply (wp_waitO A c (n := 4) (Nat.le_of_ble_eq_true rfl)) $$ [O0 HO]
  · isplitl [O0] <;> iassumption
  iintro O0 HD4 HO
  unfold Mxu.exit run
  iapply (wp_assume 𝒱₀ (c : Thread nD τ) none Set.univ (P := mx3.Drained) hd3)
  simp only [ret_bind]
  iapply (fin c)
  iapply Hk $$ [HX HR S1 S0 O1 O0 HP HXP HO] [HD HD3 HD4]
  · isplitl [HX]; · iexact HX
    isplitl [HR]
    · iapply (ring_end A c); iexact HR
    isplitl [S1 S0]
    · isplitl [S0]
      · iapply (sidle6 A c); iexact S0
      isplitl [S1]
      · iapply (sfl5 A c); iexact S1
      iempintro
    isplitl [O1 O0]
    · isplitl [O0]
      · unfold OIdle OIdleAt; iexact O0
      isplitl [O1]
      · unfold OIdle OIdleAt; iexact O1
      iempintro
    isplitl [HP]; · iexact HP
    isplitl [HXP]; · iexists _; iexact HXP
    iexact HO
  iapply (Seq.snoc 4 0)
  isplitl [HD HD3]
  · iapply (Seq.snoc 3 0)
    isplitl [HD]; · iexact HD
    iexact HD3
  iexact HD4

end Cert.KernelIdeal.Hand
end
-- ==== Proof.Ideal.Cut.lean ====
/-
  The kernel's buffers and argument arrays taken apart into what its transfers hold, and put together again.
-/
module

public import proofs.«01_k».proof.Proof.Ideal.Whole

@[expose] public section

set_option pp.maxSteps 60

noncomputable section

namespace Cert.KernelIdeal.Hand

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (A : In F) (c : Dev nD)
local notation "𝕄" => MT nD τ sig Unit (Elt F) ℕ (UU nD τ) ℕ

/-! ## Cells -/

def zX (t : ℕ) : sProp 𝕄 := if h : t < 9 then zero c (xSem t h) else iprop(emp)
def zW (t : ℕ) : sProp 𝕄 := if h : t < 6 then zero c (wSem t h) else iprop(emp)
def zS (t : ℕ) : sProp 𝕄 := if h : t < 2 then zero c (sSem t h) else iprop(emp)
def zO (t : ℕ) : sProp 𝕄 := if h : t < 2 then zero c (oSem t h) else iprop(emp)

/-! ## Elements -/

/-- The staged activations of trip `t`, at any contents; and the other buffers' parts. -/
def eX (t : ℕ) : sProp 𝕄 := if h : t < 9 then iprop((∃ f, own (F := F) c (xrAt 0 z2 t h) f) ∗ (∃ f, own (F := F) c (xrAt 1 o2 t h) f)) else iprop(emp)
def eW (t : ℕ) : sProp 𝕄 := if h : t < 6 then iprop((∃ f, own (F := F) c (wAt t h 0 z2) f) ∗ (∃ f, own (F := F) c (wAt t h 1 o2) f)) else iprop(emp)
def eS (t : ℕ) : sProp 𝕄 := if h : t < 2 then iprop((∃ f, own (F := F) c (sAt t h 0 z2) f) ∗ (∃ f, own (F := F) c (sAt t h 1 o2) f)) else iprop(emp)
def eO (t : ℕ) : sProp 𝕄 := if h : t < 2 then iprop(∃ f, own (F := F) c (oAt t h) f) else iprop(emp)

/-- A buffer cut by a key, each part in two; -/
theorem split2 {ℓ : Loc nD τ sig} (key : Idx ℓ → ℕ) (n : ℕ) (hk : ∀ j, key j < n) (I J : ∀ i, i < n → Finset (Idx ℓ))
    (hU : ∀ i h, part key i = I i h ∪ J i h) (hD : ∀ i h, Disjoint (I i h) (J i h)) (P : ℕ → sProp 𝕄)
    (hP : ∀ i (h : i < n), P i = iprop((∃ f : Buf (Elt F) ℓ, ℓ ↦[I i h]{fullShare} f) ∗ (∃ f : Buf (Elt F) ℓ, ℓ ↦[J i h]{fullShare} f))) :
    iprop(∃ f : Buf (Elt F) ℓ, ℓ ↦{fullShare} f) ⊢ Seq P n 0 := by
  iintro ⟨%f, H⟩
  have h : (iprop(ℓ ↦{fullShare} f) : sProp 𝕄) ⊢ Seq P n 0 := by
    have hc := part_cut (F := F) key (f := f) n 0
    rw [upto_univ key n hk] at hc
    refine hc.trans (Seq.mono n 0 fun i _ hi => ?_)
    have hi : i < n := by omega
    rw [hP i hi]
    exact two_cut (hU i hi) (hD i hi)
  iapply h; iexact H
/-- and put together again. -/
theorem join2 {ℓ : Loc nD τ sig} (key : Idx ℓ → ℕ) (n : ℕ) (hk : ∀ j, key j < n) (I J : ∀ i, i < n → Finset (Idx ℓ))
    (hU : ∀ i h, part key i = I i h ∪ J i h) (hD : ∀ i h, Disjoint (I i h) (J i h)) (P : ℕ → sProp 𝕄)
    (hP : ∀ i (h : i < n), P i = iprop((∃ f : Buf (Elt F) ℓ, ℓ ↦[I i h]{fullShare} f) ∗ (∃ f : Buf (Elt F) ℓ, ℓ ↦[J i h]{fullShare} f))) :
    Seq P n 0 ⊢ iprop(∃ f : Buf (Elt F) ℓ, ℓ ↦{fullShare} f) := by
  have hj := part_join (F := F) key (fun _ => Classical.ofNonempty) n 0
  rw [upto_univ key n hk] at hj
  refine (Seq.mono n 0 fun i _ hi => ?_).trans hj
  have hi : i < n := by omega
  rw [hP i hi]
  exact two_join (hU i hi) (hD i hi)

theorem uX (t : ℕ) (h : t < 9) : part (ℓ := bXR.view.loc (c : Thread nD τ)) (fun j : S2x9x128x1536.Idx => (j 1).val) t = (xrAt 0 z2 t h).view.set ∪ (xrAt 1 o2 t h).view.set := by
  ext j
  rw [Finset.mem_union, mem_xr, mem_xr]
  have : (j 0).val < 2 := (j 0).isLt
  simp only [Finset.mem_filter, Finset.mem_univ, true_and]
  omega
theorem dX (t : ℕ) (h : t < 9) : Disjoint (xrAt 0 z2 t h).view.set (xrAt 1 o2 t h).view.set := by
  rw [Finset.disjoint_left]
  intro j h1 h2
  rw [mem_xr] at h1 h2
  omega
theorem cut_eX : iprop(∃ f, whole (F := F) c bXR f) ⊢ Seq (eX (F := F) c) 9 0 :=
  split2 (ℓ := bXR.view.loc (c : Thread nD τ)) (fun j : S2x9x128x1536.Idx => (j 1).val) 9 (fun j => (j 1).isLt) _ _ (uX c) dX _ fun t h => by unfold eX; rw [dif_pos h]
theorem join_eX : Seq (eX (F := F) c) 9 0 ⊢ iprop(∃ f, whole (F := F) c bXR f) :=
  join2 (ℓ := bXR.view.loc (c : Thread nD τ)) (fun j : S2x9x128x1536.Idx => (j 1).val) 9 (fun j => (j 1).isLt) _ _ (uX c) dX _ fun t h => by unfold eX; rw [dif_pos h]

theorem uW (t : ℕ) (h : t < 6) : part (ℓ := bW.view.loc (c : Thread nD τ)) (fun j : S6x2x1536x512.Idx => (j 0).val) t = (wAt t h 0 z2).view.set ∪ (wAt t h 1 o2).view.set := by
  ext j
  rw [Finset.mem_union, mem_w, mem_w]
  have : (j 1).val < 2 := (j 1).isLt
  simp only [Finset.mem_filter, Finset.mem_univ, true_and]
  omega
theorem dW (t : ℕ) (h : t < 6) : Disjoint (wAt t h 0 z2).view.set (wAt t h 1 o2).view.set := by
  rw [Finset.disjoint_left]
  intro j h1 h2
  rw [mem_w] at h1 h2
  omega
theorem cut_eW : iprop(∃ f, whole (F := F) c bW f) ⊢ Seq (eW (F := F) c) 6 0 :=
  split2 (ℓ := bW.view.loc (c : Thread nD τ)) (fun j : S6x2x1536x512.Idx => (j 0).val) 6 (fun j => (j 0).isLt) _ _ (uW c) dW _ fun t h => by unfold eW; rw [dif_pos h]
theorem join_eW : Seq (eW (F := F) c) 6 0 ⊢ iprop(∃ f, whole (F := F) c bW f) :=
  join2 (ℓ := bW.view.loc (c : Thread nD τ)) (fun j : S6x2x1536x512.Idx => (j 0).val) 6 (fun j => (j 0).isLt) _ _ (uW c) dW _ fun t h => by unfold eW; rw [dif_pos h]

theorem uS (t : ℕ) (h : t < 2) : part (ℓ := bS.view.loc (c : Thread nD τ)) (fun j : S2x2x216x512.Idx => (j 0).val) t = (sAt t h 0 z2).view.set ∪ (sAt t h 1 o2).view.set := by
  ext j
  rw [Finset.mem_union, mem_s, mem_s]
  have : (j 1).val < 2 := (j 1).isLt
  simp only [Finset.mem_filter, Finset.mem_univ, true_and]
  omega
theorem dS (t : ℕ) (h : t < 2) : Disjoint (sAt t h 0 z2).view.set (sAt t h 1 o2).view.set := by
  rw [Finset.disjoint_left]
  intro j h1 h2
  rw [mem_s] at h1 h2
  omega
theorem cut_eS : iprop(∃ f, whole (F := F) c bS f) ⊢ Seq (eS (F := F) c) 2 0 :=
  split2 (ℓ := bS.view.loc (c : Thread nD τ)) (fun j : S2x2x216x512.Idx => (j 0).val) 2 (fun j => (j 0).isLt) _ _ (uS c) dS _ fun t h => by unfold eS; rw [dif_pos h]
theorem join_eS : Seq (eS (F := F) c) 2 0 ⊢ iprop(∃ f, whole (F := F) c bS f) :=
  join2 (ℓ := bS.view.loc (c : Thread nD τ)) (fun j : S2x2x216x512.Idx => (j 0).val) 2 (fun j => (j 0).isLt) _ _ (uS c) dS _ fun t h => by unfold eS; rw [dif_pos h]

theorem partO (t : ℕ) (h : t < 2) : part (ℓ := bO.view.loc (c : Thread nD τ)) (fun j : S2x128x512.Idx => (j 0).val) t = (oAt t h).view.set := by
  ext j
  rw [mem_o]
  simp only [Finset.mem_filter, Finset.mem_univ, true_and]
theorem cut_eO : iprop(∃ f, whole (F := F) c bO f) ⊢ Seq (eO (F := F) c) 2 0 := by
  iintro ⟨%f, H⟩
  have h : (whole (F := F) c bO f : sProp 𝕄) ⊢ Seq (eO (F := F) c) 2 0 := by
    have hc := part_cut (F := F) (ℓ := bO.view.loc (c : Thread nD τ)) (fun j : S2x128x512.Idx => (j 0).val) (f := f) 2 0
    rw [upto_univ (ℓ := bO.view.loc (c : Thread nD τ)) (fun j : S2x128x512.Idx => (j 0).val) 2 (fun j : S2x128x512.Idx => (j 0).isLt)] at hc
    refine hc.trans (Seq.mono 2 0 fun i _ hi => ?_)
    have hi : i < 2 := by omega
    unfold eO
    rw [dif_pos hi, partO c i hi]
    iintro H
    iexists f
    iexact H
  iapply h; iexact H
theorem join_eO : Seq (eO (F := F) c) 2 0 ⊢ iprop(∃ f, whole (F := F) c bO f) := by
  have hj := part_join (F := F) (ℓ := bO.view.loc (c : Thread nD τ)) (fun j : S2x128x512.Idx => (j 0).val) (fun _ => Classical.ofNonempty) 2 0
  rw [upto_univ (ℓ := bO.view.loc (c : Thread nD τ)) (fun j : S2x128x512.Idx => (j 0).val) 2 (fun j : S2x128x512.Idx => (j 0).isLt)] at hj
  refine (Seq.mono 2 0 fun i _ hi => ?_).trans hj
  have hi : i < 2 := by omega
  unfold eO
  rw [dif_pos hi, partO c i hi]

theorem partOut (t : ℕ) (h : t < 5) : part (ℓ := aO.view.loc (c : Thread nD τ)) (fun j : S128x2560.Idx => (j 1).val / 512) t = (outAt t h).view.set := by
  ext j
  rw [mem_out]
  simp only [Finset.mem_filter, Finset.mem_univ, true_and]
theorem kOut (j : S128x2560.Idx) : (j 1).val / 512 < 5 := by
  have : (j 1).val < 2560 := (j 1).isLt
  omega
theorem cut_out : iprop(∃ f, whole (F := F) c aO f) ⊢ Seq (Fresh (F := F) c) 5 0 := by
  iintro ⟨%f, H⟩
  have h : (whole (F := F) c aO f : sProp 𝕄) ⊢ Seq (Fresh (F := F) c) 5 0 := by
    have hc := part_cut (F := F) (ℓ := aO.view.loc (c : Thread nD τ)) (fun j : S128x2560.Idx => (j 1).val / 512) (f := f) 5 0
    rw [upto_univ (ℓ := aO.view.loc (c : Thread nD τ)) (fun j : S128x2560.Idx => (j 1).val / 512) 5 kOut] at hc
    refine hc.trans (Seq.mono 5 0 fun i _ hi => ?_)
    have hi : i < 5 := by omega
    unfold Fresh
    rw [dif_pos hi, partOut c i hi]
    iintro H
    iexists f
    iexact H
  iapply h; iexact H
theorem glue_out : Seq (Done A c) 5 0 ⊢ whole c aO (OT A) := by
  have hg := part_glue (F := F) (ℓ := aO.view.loc (c : Thread nD τ)) (fun j : S128x2560.Idx => (j 1).val / 512) (f := OT A) 5 0
  rw [upto_univ (ℓ := aO.view.loc (c : Thread nD τ)) (fun j : S128x2560.Idx => (j 1).val / 512) 5 kOut] at hg
  refine (Seq.mono 5 0 fun i _ hi => ?_).trans hg
  have hi : i < 5 := by omega
  unfold Done
  rw [dif_pos hi, partOut c i hi]

/-! ## Shares -/

theorem Seq.double {P : ℕ → sProp 𝕄} : ∀ (n k : ℕ), Seq P (2 * n) (2 * k) ⊢ Seq (fun t => iprop(P (2 * t) ∗ P (2 * t + 1))) n k
  | 0, k => .rfl
  | n + 1, k => by
    show iprop(P (2 * k) ∗ P (2 * k + 1) ∗ Seq P (2 * n) (2 * (k + 1))) ⊢ iprop((P (2 * k) ∗ P (2 * k + 1)) ∗ Seq (fun t => iprop(P (2 * t) ∗ P (2 * t + 1))) n (k + 1))
    iintro ⟨H0, H1, H⟩
    isplitl [H0 H1]
    · isplitl [H0] <;> iassumption
    iapply (Seq.double n (k + 1)); iexact H
theorem Seq.undouble {P : ℕ → sProp 𝕄} : ∀ (n k : ℕ), Seq (fun t => iprop(P (2 * t) ∗ P (2 * t + 1))) n k ⊢ Seq P (2 * n) (2 * k)
  | 0, k => .rfl
  | n + 1, k => by
    show iprop((P (2 * k) ∗ P (2 * k + 1)) ∗ Seq (fun t => iprop(P (2 * t) ∗ P (2 * t + 1))) n (k + 1)) ⊢ iprop(P (2 * k) ∗ P (2 * k + 1) ∗ Seq P (2 * n) (2 * (k + 1)))
    iintro ⟨⟨H0, H1⟩, H⟩
    isplitl [H0]; · iexact H0
    isplitl [H1]; · iexact H1
    iapply (Seq.undouble n (k + 1)); iexact H

theorem cut_X : whole c aX A.x ⊢ iprop(Seq (fun i => shr c aX (lq i) A.x) 18 0 ∗ shr c aX (rq 18) A.x) := share_cut 18 0
theorem glue_X : iprop(Seq (fun i => shr c aX (lq i) A.x) 18 0 ∗ shr c aX (rq 18) A.x) ⊢ whole c aX A.x := share_glue 18 0
theorem cut_G : whole c aWG A.wg ⊢ iprop(Seq (fun i => shr c aWG (lq i) A.wg) 6 0 ∗ shr c aWG (rq 6) A.wg) := share_cut 6 0
theorem glue_G : iprop(Seq (fun i => shr c aWG (lq i) A.wg) 6 0 ∗ shr c aWG (rq 6) A.wg) ⊢ whole c aWG A.wg := share_glue 6 0
theorem cut_U : whole c aWU A.wu ⊢ iprop(Seq (fun i => shr c aWU (lq i) A.wu) 6 0 ∗ shr c aWU (rq 6) A.wu) := share_cut 6 0
theorem glue_U : iprop(Seq (fun i => shr c aWU (lq i) A.wu) 6 0 ∗ shr c aWU (rq 6) A.wu) ⊢ whole c aWU A.wu := share_glue 6 0
theorem cut_SG : whole c aSG A.sg ⊢ iprop(Seq (fun i => shr c aSG (lq i) A.sg) 2 0 ∗ shr c aSG (rq 2) A.sg) := share_cut 2 0
theorem glue_SG : iprop(Seq (fun i => shr c aSG (lq i) A.sg) 2 0 ∗ shr c aSG (rq 2) A.sg) ⊢ whole c aSG A.sg := share_glue 2 0
theorem cut_SU : whole c aSU A.su ⊢ iprop(Seq (fun i => shr c aSU (lq i) A.su) 2 0 ∗ shr c aSU (rq 2) A.su) := share_cut 2 0
theorem glue_SU : iprop(Seq (fun i => shr c aSU (lq i) A.su) 2 0 ∗ shr c aSU (rq 2) A.su) ⊢ whole c aSU A.su := share_glue 2 0

/-! ## What rests, from cells, shares and elements -/

theorem WIdle_lt {t : ℕ} (h : t < 6) : WIdle A c t = WIdleAt A c t h := by
  have key : ∀ (a : ℕ) (ha : a < 6), a = t → WIdleAt A c a ha = WIdleAt A c t h := by rintro _ _ rfl; rfl
  exact key _ _ (Nat.mod_eq_of_lt h)
theorem SIdle_lt {t : ℕ} (h : t < 2) : SIdle A c t = SIdleAt A c t h := by
  have key : ∀ (a : ℕ) (ha : a < 2), a = t → SIdleAt A c a ha = SIdleAt A c t h := by rintro _ _ rfl; rfl
  exact key _ _ (Nat.mod_eq_of_lt h)
theorem OIdle_lt {t : ℕ} (h : t < 2) : (OIdle c t : sProp 𝕄) = OIdleAt c t h := by
  have key : ∀ (a : ℕ) (ha : a < 2), a = t → (OIdleAt c a ha : sProp 𝕄) = OIdleAt c t h := by rintro _ _ rfl; rfl
  exact key _ _ (Nat.mod_eq_of_lt h)

theorem rest_X : iprop(Seq (zX (F := F) c) 9 0 ∗ Seq (fun t => iprop(shr c aX (lq (2 * t)) A.x ∗ shr c aX (lq (2 * t + 1)) A.x)) 9 0 ∗ Seq (eX (F := F) c) 9 0) ⊢ Seq (XIdle A c) 9 0 := by
  iintro ⟨HZ, HS, HE⟩
  ihave H := (Seq.sep 9 0) $$ [HS HE]
  · isplitl [HS] <;> iassumption
  ihave H := (Seq.sep 9 0) $$ [HZ H]
  · isplitl [HZ] <;> iassumption
  have h : Seq (fun t => iprop(zX (F := F) c t ∗ (shr c aX (lq (2 * t)) A.x ∗ shr c aX (lq (2 * t + 1)) A.x) ∗ eX (F := F) c t)) 9 0 ⊢ Seq (XIdle A c) 9 0 :=
    Seq.mono 9 0 fun t _ ht => by
      have ht : t < 9 := by omega
      unfold zX eX XIdle
      rw [dif_pos ht, dif_pos ht, dif_pos ht]
      iintro ⟨HZ, ⟨H0, H1⟩, HE⟩
      isplitl [HZ]; · iexact HZ
      isplitl [H0]; · iexact H0
      isplitl [H1]; · iexact H1
      iexact HE
  iapply h; iexact H
theorem unrest_X : Seq (XIdle A c) 9 0 ⊢ iprop(Seq (zX (F := F) c) 9 0 ∗ Seq (fun t => iprop(shr c aX (lq (2 * t)) A.x ∗ shr c aX (lq (2 * t + 1)) A.x)) 9 0 ∗ Seq (eX (F := F) c) 9 0) := by
  have h : Seq (XIdle A c) 9 0 ⊢ Seq (fun t => iprop(zX (F := F) c t ∗ (shr c aX (lq (2 * t)) A.x ∗ shr c aX (lq (2 * t + 1)) A.x) ∗ eX (F := F) c t)) 9 0 :=
    Seq.mono 9 0 fun t _ ht => by
      have ht : t < 9 := by omega
      unfold zX eX XIdle
      rw [dif_pos ht, dif_pos ht, dif_pos ht]
      iintro ⟨HZ, H0, H1, HE⟩
      isplitl [HZ]; · iexact HZ
      isplitl [H0 H1]
      · isplitl [H0] <;> iassumption
      iexact HE
  refine h.trans ((Seq.unsep 9 0).trans (BIClass.sep_mono .rfl (Seq.unsep 9 0)))

theorem WIdle_parts {t : ℕ} (h : t < 6) : WIdle A c t = iprop(zW (F := F) c t ∗ shr c aWG (lq t) A.wg ∗ shr c aWU (lq t) A.wu ∗ eW (F := F) c t) := by
  rw [WIdle_lt A c h]
  unfold zW eW WIdleAt
  rw [dif_pos h, dif_pos h]
theorem rest_W : iprop(Seq (zW (F := F) c) 6 0 ∗ Seq (fun t => shr c aWG (lq t) A.wg) 6 0 ∗ Seq (fun t => shr c aWU (lq t) A.wu) 6 0 ∗ Seq (eW (F := F) c) 6 0) ⊢ Seq (WIdle A c) 6 0 := by
  refine (BIClass.sep_mono .rfl ((BIClass.sep_mono .rfl (Seq.sep 6 0)).trans (Seq.sep 6 0))).trans ((Seq.sep 6 0).trans (Seq.mono 6 0 fun t _ ht => ?_))
  rw [WIdle_parts A c (by omega : t < 6)]
theorem unrest_W : Seq (WIdle A c) 6 0 ⊢ iprop(Seq (zW (F := F) c) 6 0 ∗ Seq (fun t => shr c aWG (lq t) A.wg) 6 0 ∗ Seq (fun t => shr c aWU (lq t) A.wu) 6 0 ∗ Seq (eW (F := F) c) 6 0) := by
  refine BIBase.Entails.trans (Seq.mono (Q := fun t => iprop(zW (F := F) c t ∗ shr c aWG (lq t) A.wg ∗ shr c aWU (lq t) A.wu ∗ eW (F := F) c t)) 6 0 fun t _ ht => ?_) ((Seq.unsep 6 0).trans (BIClass.sep_mono .rfl ((Seq.unsep 6 0).trans (BIClass.sep_mono .rfl (Seq.unsep 6 0)))))
  rw [WIdle_parts A c (by omega : t < 6)]

theorem SIdle_parts {t : ℕ} (h : t < 2) : SIdle A c t = iprop(zS (F := F) c t ∗ shr c aSG (lq t) A.sg ∗ shr c aSU (lq t) A.su ∗ eS (F := F) c t) := by
  rw [SIdle_lt A c h]
  unfold zS eS SIdleAt
  rw [dif_pos h, dif_pos h]
theorem rest_S : iprop(Seq (zS (F := F) c) 2 0 ∗ Seq (fun t => shr c aSG (lq t) A.sg) 2 0 ∗ Seq (fun t => shr c aSU (lq t) A.su) 2 0 ∗ Seq (eS (F := F) c) 2 0) ⊢ Seq (SIdle A c) 2 0 := by
  refine (BIClass.sep_mono .rfl ((BIClass.sep_mono .rfl (Seq.sep 2 0)).trans (Seq.sep 2 0))).trans ((Seq.sep 2 0).trans (Seq.mono 2 0 fun t _ ht => ?_))
  rw [SIdle_parts A c (by omega : t < 2)]
theorem unrest_S : Seq (SIdle A c) 2 0 ⊢ iprop(Seq (zS (F := F) c) 2 0 ∗ Seq (fun t => shr c aSG (lq t) A.sg) 2 0 ∗ Seq (fun t => shr c aSU (lq t) A.su) 2 0 ∗ Seq (eS (F := F) c) 2 0) := by
  refine BIBase.Entails.trans (Seq.mono (Q := fun t => iprop(zS (F := F) c t ∗ shr c aSG (lq t) A.sg ∗ shr c aSU (lq t) A.su ∗ eS (F := F) c t)) 2 0 fun t _ ht => ?_) ((Seq.unsep 2 0).trans (BIClass.sep_mono .rfl ((Seq.unsep 2 0).trans (BIClass.sep_mono .rfl (Seq.unsep 2 0)))))
  rw [SIdle_parts A c (by omega : t < 2)]

theorem OIdle_parts {t : ℕ} (h : t < 2) : (OIdle c t : sProp 𝕄) = iprop(zO (F := F) c t ∗ eO (F := F) c t) := by
  rw [OIdle_lt c h]
  unfold zO eO OIdleAt
  rw [dif_pos h, dif_pos h]
theorem rest_O : iprop(Seq (zO (F := F) c) 2 0 ∗ Seq (eO (F := F) c) 2 0) ⊢ Seq (OIdle (F := F) c) 2 0 := by
  refine (Seq.sep 2 0).trans (Seq.mono 2 0 fun t _ ht => ?_)
  rw [OIdle_parts c (by omega : t < 2)]
theorem unrest_O : Seq (OIdle (F := F) c) 2 0 ⊢ iprop(Seq (zO (F := F) c) 2 0 ∗ Seq (eO (F := F) c) 2 0) := by
  refine BIBase.Entails.trans (Seq.mono (Q := fun t => iprop(zO (F := F) c t ∗ eO (F := F) c t)) 2 0 fun t _ ht => ?_) (Seq.unsep 2 0)
  rw [OIdle_parts c (by omega : t < 2)]

/-! ## The kernel, on its whole buffers -/

/-- The kernel's cells; -/
def Cells : sProp 𝕄 := iprop(Seq (zX (F := F) c) 9 0 ∗ Seq (zW (F := F) c) 6 0 ∗ Seq (zS (F := F) c) 2 0 ∗ Seq (zO (F := F) c) 2 0)
/-- its argument arrays; -/
def Args : sProp 𝕄 := iprop(whole c aX A.x ∗ whole c aWG A.wg ∗ whole c aSG A.sg ∗ whole c aWU A.wu ∗ whole c aSU A.su)
/-- its scratch buffers. -/
def Scratch : sProp 𝕄 :=
  iprop((∃ f, whole (F := F) c bXR f) ∗ (∃ f, whole (F := F) c bXP f) ∗ (∃ f, whole (F := F) c bW f) ∗ (∃ f, whole (F := F) c bS f)
    ∗ (∃ f, whole (F := F) c bP f) ∗ (∃ f, whole (F := F) c bO f))

theorem wp_kernel :
    iprop(Args A c ∗ Cells (F := F) c ∗ Scratch (F := F) c ∗ Ow c ∗ (∃ f, whole (F := F) c aO f))
      ⊢ run c kernelP fun _ => iprop(Args A c ∗ Cells (F := F) c ∗ Scratch (F := F) c ∗ Ow c ∗ whole c aO (OT A)) := by
  unfold Args Cells Scratch
  iintro ⟨⟨HX, HG, HSG, HU, HSU⟩, ⟨ZX, ZW, ZS, ZO⟩, ⟨EX, EXP, EW, ES, EP', EO⟩, HO, HF⟩
  ihave HX := (cut_X A c) $$ HX
  icases HX with ⟨HX, KX⟩
  ihave HX := (Seq.double 9 0) $$ HX
  ihave HG := (cut_G A c) $$ HG
  icases HG with ⟨HG, KG⟩
  ihave HU := (cut_U A c) $$ HU
  icases HU with ⟨HU, KU⟩
  ihave HSG := (cut_SG A c) $$ HSG
  icases HSG with ⟨HSG, KSG⟩
  ihave HSU := (cut_SU A c) $$ HSU
  icases HSU with ⟨HSU, KSU⟩
  ihave EX := (cut_eX c) $$ EX
  ihave EW := (cut_eW c) $$ EW
  ihave ES := (cut_eS c) $$ ES
  ihave EO := (cut_eO c) $$ EO
  ihave HF := (cut_out c) $$ HF
  iapply (wp_kernelP A c) $$ [HX HG HSG HU HSU ZX ZW ZS ZO EX EXP EW ES EP' EO HO HF]
  · isplitr [HF]
    · unfold Rest
      isplitl [ZX HX EX]
      · iapply (rest_X A c)
        isplitl [ZX]; · iexact ZX
        isplitl [HX] <;> iassumption
      isplitl [ZW HG HU EW]
      · iapply (rest_W A c)
        isplitl [ZW]; · iexact ZW
        isplitl [HG]; · iexact HG
        isplitl [HU] <;> iassumption
      isplitl [ZS HSG HSU ES]
      · iapply (rest_S A c)
        isplitl [ZS]; · iexact ZS
        isplitl [HSG]; · iexact HSG
        isplitl [HSU] <;> iassumption
      isplitl [ZO EO]
      · iapply (rest_O (F := F) c)
        isplitl [ZO] <;> iassumption
      isplitl [EP']; · iexact EP'
      isplitl [EXP]; · iexact EXP
      iexact HO
    iexact HF
  unfold Rest
  iintro ⟨HX, HW, HS, HOI, EP', EXP, HO⟩ HF
  ihave HX := (unrest_X A c) $$ HX
  icases HX with ⟨ZX, HX, EX⟩
  ihave HX := (Seq.undouble (P := fun i => shr c aX (lq i) A.x) 9 0) $$ HX
  ihave HX := (glue_X A c) $$ [HX KX]
  · isplitl [HX] <;> iassumption
  ihave HW := (unrest_W A c) $$ HW
  icases HW with ⟨ZW, HG, HU, EW⟩
  ihave HG := (glue_G A c) $$ [HG KG]
  · isplitl [HG] <;> iassumption
  ihave HU := (glue_U A c) $$ [HU KU]
  · isplitl [HU] <;> iassumption
  ihave HS := (unrest_S A c) $$ HS
  icases HS with ⟨ZS, HSG, HSU, ES⟩
  ihave HSG := (glue_SG A c) $$ [HSG KSG]
  · isplitl [HSG] <;> iassumption
  ihave HSU := (glue_SU A c) $$ [HSU KSU]
  · isplitl [HSU] <;> iassumption
  ihave HOI := (unrest_O (F := F) c) $$ HOI
  icases HOI with ⟨ZO, EO⟩
  ihave EX := (join_eX c) $$ EX
  ihave EW := (join_eW c) $$ EW
  ihave ES := (join_eS c) $$ ES
  ihave EO := (join_eO c) $$ EO
  ihave HF := (glue_out A c) $$ HF
  isplitl [HX HG HSG HU HSU]
  · isplitl [HX]; · iexact HX
    isplitl [HG]; · iexact HG
    isplitl [HSG]; · iexact HSG
    isplitl [HU] <;> iassumption
  isplitl [ZX ZW ZS ZO]
  · isplitl [ZX]; · iexact ZX
    isplitl [ZW]; · iexact ZW
    isplitl [ZS] <;> iassumption
  isplitl [EX EXP EW ES EP' EO]
  · isplitl [EX]; · iexact EX
    isplitl [EXP]; · iexact EXP
    isplitl [EW]; · iexact EW
    isplitl [ES]; · iexact ES
    isplitl [EP'] <;> iassumption
  isplitl [HO] <;> iassumption

end Cert.KernelIdeal.Hand
end
-- ==== Proof.Ideal.Eq3.lean ====
module

public import proofs.«01_k».proof.Proof.Ideal.Prog

@[expose] public section

noncomputable section

namespace Cert.KernelIdeal.Hand

open Cert.KernelIdeal Cert.KernelIdeal.Gen
open Idealize.ShloMosaic Idealize.ShloMosaic.TcCoe
open Idealize.SL.Sem

variable {F : FTy → Type} [FloatOps F]

/-! ## The offsets the kernel computes, in closed form -/

theorem passes_congr {sl sl' ci ci' : ℕ} {h1 : sl < 6} {h1' : sl' < 6} {h2 : ci < 9} {h2' : ci' < 9} {row row' : Fin 6 → ℕ} {h3 h3' n p h}
    (e1 : sl = sl') (e2 : ci = ci') (e3 : row = row') (mx : Mxu F) : passes (F := F) h1 h2 row h3 n p h mx = passes h1' h2' row' h3' n p h mx := by
  subst e1 e2 e3; rfl

theorem dite_iff {α : Type 1} {c c' : Prop} [Decidable c] [Decidable c'] {A : c → α} {A' : c' → α} {B : α} (hc : c ↔ c') (h : ∀ x y, A x = A' y) :
    dite c A (fun _ => B) = dite c' A' (fun _ => B) := by
  by_cases x : c
  · rw [dif_pos x, dif_pos (hc.mp x)]; exact h _ _
  · rw [dif_neg x, dif_neg (fun y => x (hc.mpr y))]

theorem off141 : ∀ (k2 : Fin k0_t2_loop.trips) (k3 : Fin k0_t3_loop.trips), k0_off141 k2 k3 = ![(9 * (k2.val + 1) + k3.val) % 6] := by decide +kernel
theorem off142 : ∀ (k2 : Fin k0_t2_loop.trips) (k3 : Fin k0_t3_loop.trips), k0_off142 k2 k3 = ![(9 * (k2.val + 1) + k3.val) % 6, 0, 0, 0] := by decide +kernel
theorem off143 : ∀ (k2 : Fin k0_t2_loop.trips) (k3 : Fin k0_t3_loop.trips), k0_off143 k2 k3 = ![(9 * (k2.val + 1) + k3.val) % 9 * 1536, (9 * (k2.val + 1) + k3.val) / 9 * 512] := by decide +kernel
theorem off144 : ∀ (k2 : Fin k0_t2_loop.trips) (k3 : Fin k0_t3_loop.trips), k0_off144 k2 k3 = ![(9 * (k2.val + 1) + k3.val) % 6, 1, 0, 0] := by decide +kernel
theorem off145 : ∀ (k2 : Fin k0_t2_loop.trips) (k3 : Fin k0_t3_loop.trips), k0_cond3 k2 k3 = 1#1 → k0_off145 k2 k3 = ![(9 * (k2.val + 1) + k3.val + 5) % 6] := by decide +kernel
theorem off146 : ∀ (k2 : Fin k0_t2_loop.trips) (k3 : Fin k0_t3_loop.trips), k0_cond3 k2 k3 = 1#1 → k0_off146 k2 k3 = ![(9 * (k2.val + 1) + k3.val + 5) % 6, 0, 0, 0] := by decide +kernel
theorem off147 : ∀ (k2 : Fin k0_t2_loop.trips) (k3 : Fin k0_t3_loop.trips), k0_cond3 k2 k3 = 1#1 → k0_off147 k2 k3 = ![(9 * (k2.val + 1) + k3.val + 5) % 9 * 1536, (9 * (k2.val + 1) + k3.val + 5) / 9 * 512] := by decide +kernel
theorem off148 : ∀ (k2 : Fin k0_t2_loop.trips) (k3 : Fin k0_t3_loop.trips), k0_cond3 k2 k3 = 1#1 → k0_off148 k2 k3 = ![(9 * (k2.val + 1) + k3.val + 5) % 6, 1, 0, 0] := by decide +kernel
theorem cond3 : ∀ (k2 : Fin k0_t2_loop.trips) (k3 : Fin k0_t3_loop.trips), (k0_cond3 k2 k3 = 1#1 ↔ (9 * (k2.val + 1) + k3.val + 5) < 45) := by decide +kernel
theorem off150 : ∀ (k2 : Fin k0_t2_loop.trips) (k3 : Fin k0_t3_loop.trips), k0_off150 k2 k3 0 = (9 * (k2.val + 1) + k3.val) % 6 := by decide +kernel
theorem off149 : ∀ (k3 : Fin k0_t3_loop.trips), k0_off149 k3 0 = k3.val := by decide +kernel
theorem off151 : ∀ (k3 : Fin k0_t3_loop.trips) (r : Fin 6), k0_off151 k3 (BitVec.ofNat 32 r.val) 2 = 6 * k3.val + r.val := by decide +kernel

theorem lt2 (k2 : Fin k0_t2_loop.trips) : k2.val + 1 < 5 := by have := Nat.lt_of_lt_of_eq k2.isLt trips2; omega
theorem lt3 (k3 : Fin k0_t3_loop.trips) : k3.val < 9 := Nat.lt_of_lt_of_eq k3.isLt trips3
theorem row3_lt (k3 : Fin k0_t3_loop.trips) (r : Fin 6) : k0_off151 k3 (BitVec.ofNat 32 r.val) 2 < 54 := by
  rw [off151]; have := lt3 k3; omega

theorem waitW_eq3 (k2 : Fin k0_t2_loop.trips) (k3 : Fin k0_t3_loop.trips) (h : (9 * (k2.val + 1) + k3.val) < 45) : waitW (F := F) (9 * (k2.val + 1) + k3.val) h
    = wait2 (pWG (k0_off143 k2 k3) (k0_off143_inb k2 k3)) (pWU (k0_off143 k2 k3) (k0_off143_inb k2 k3)) (pW (k0_off142 k2 k3) (k0_off142_inb k2 k3))
      (pW (k0_off144 k2 k3) (k0_off144_inb k2 k3)) (semW (k0_off141 k2 k3) (k0_off141_inb k2 k3)) ((Memref.isWhole_whole _).wordExact_slice rfl _ (k0_off143_wordsi8 k2 k3)) ((Memref.isWhole_whole _).wordExact_slice rfl _ (k0_off143_wordsi8 k2 k3)) (((Memref.isWhole_whole _).wordExact_slice rfl _ (k0_off142_wordsi8 k2 k3)).reshape _ _) (((Memref.isWhole_whole _).wordExact_slice rfl _ (k0_off144_wordsi8 k2 k3)).reshape _ _) :=
  wait2_congr (pWG_congr (off143 k2 k3).symm) (pWU_congr (off143 k2 k3).symm) (pW_congr (off142 k2 k3).symm) (pW_congr (off144 k2 k3).symm) (semW_congr (off141 k2 k3).symm)

theorem refill_eq3 (k2 : Fin k0_t2_loop.trips) (k3 : Fin k0_t3_loop.trips) : refill (F := F) (9 * (k2.val + 1) + k3.val)
    = if h : k0_cond3 k2 k3 = 1#1 then start2 (pWG (k0_off147 k2 k3) (k0_off147_inb k2 k3 h)) (pWU (k0_off147 k2 k3) (k0_off147_inb k2 k3 h)) (pW (k0_off146 k2 k3) (k0_off146_inb k2 k3 h))
      (pW (k0_off148 k2 k3) (k0_off148_inb k2 k3 h)) (semW (k0_off145 k2 k3) (k0_off145_inb k2 k3 h))
      ((Memref.isWhole_whole _).wordExact_slice rfl _ (k0_off147_wordsi8 k2 k3 h)) ((Memref.isWhole_whole _).wordExact_slice rfl _ (k0_off147_wordsi8 k2 k3 h))
      (((Memref.isWhole_whole _).wordExact_slice rfl _ (k0_off146_wordsi8 k2 k3 h)).reshape _ _) (((Memref.isWhole_whole _).wordExact_slice rfl _ (k0_off148_wordsi8 k2 k3 h)).reshape _ _) ⟨Or.inl rfl, trivial⟩ ⟨Or.inl rfl, trivial⟩ else pure ⟨⟩ :=
  dite_iff (cond3 k2 k3).symm fun x y => start2_congr (pWG_congr (off147 k2 k3 y).symm) (pWU_congr (off147 k2 k3 y).symm) (pW_congr (off146 k2 k3 y).symm) (pW_congr (off148 k2 k3 y).symm) (semW_congr (off145 k2 k3 y).symm)

set_option maxRecDepth 65536 in
set_option maxHeartbeats 4000000 in
theorem body3_eq (k2 : Fin k0_t2_loop.trips) (mx0 : Mxu F) (b0 b1 b2 : BitVec 32) (k3 : Fin k0_t3_loop.trips) (mx : Mxu F) :
    k0_t3_body aX (Memref.isWhole_whole _) aWG (Memref.isWhole_whole _) aSG (Memref.isWhole_whole _) aWU (Memref.isWhole_whole _) aSU (Memref.isWhole_whole _) aO (Memref.isWhole_whole _) bXR (Memref.isWhole_whole _) bXP (Memref.isWhole_whole _) bW (Memref.isWhole_whole _) bS (Memref.isWhole_whole _) bP (Memref.isWhole_whole _) bO (Memref.isWhole_whole _) cc0_scratch6 cc0_scratch7 cc0_scratch8 cc0_scratch9 k2 mx0 b0 b1 b2 k3 mx = body3 (k2.val + 1) (lt2 k2) k3.val (lt3 k3) mx := by
  unfold k0_t3_body
  rw [k0_part125_eq_skeleton]; unfold k0_part125_skel
  rw [k0_part74_eq_skeleton]; unfold k0_part74_skel
  rw [k0_part75_eq_skeleton]; unfold k0_part75_skel
  unfold body3
  rw [waitW_eq3 k2 k3, refill_eq3 k2 k3, passes_congr (off150 k2 k3).symm (off149 k3).symm (funext fun r => (off151 k3 r).symm) (h1' := Nat.lt_of_succ_le (k0_off150_inb k2 k3 0)) (h2' := Nat.lt_of_succ_le (k0_off149_inb k3 0)) (h3' := row3_lt k3)]
  unfold wait2
  simp only [bind_assoc, pure_bind]
  refine seq_congr rfl fun _ => seq_congr rfl fun _ => dite_seq (fun h => ?_) ?_
  · rfl
  · simp only [k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton,
      k0_part76_skel, k0_part77_skel, k0_part78_skel, k0_part79_skel, k0_part80_skel, k0_part81_skel, k0_part82_skel, k0_part83_skel, k0_part84_skel, k0_part85_skel, k0_part86_skel, k0_part87_skel, k0_part88_skel, k0_part89_skel, k0_part90_skel, k0_part91_skel, k0_part92_skel, k0_part93_skel, k0_part94_skel, k0_part95_skel, k0_part96_skel, k0_part97_skel, k0_part98_skel, k0_part99_skel, k0_part100_skel, k0_part101_skel, k0_part102_skel, k0_part103_skel, k0_part104_skel, k0_part105_skel, k0_part106_skel, k0_part107_skel, k0_part108_skel, k0_part109_skel, k0_part110_skel, k0_part111_skel, k0_part112_skel, k0_part113_skel, k0_part114_skel, k0_part115_skel, k0_part116_skel, k0_part117_skel, k0_part118_skel, k0_part119_skel, k0_part120_skel, k0_part121_skel, k0_part122_skel, k0_part123_skel, k0_part124_skel, bind_assoc, pure_bind]
    simp only [passes, pass, tile, bind_assoc, pure_bind]
    repeat' refine seq_congr (by rfl) fun _ => ?_
    rfl

end Cert.KernelIdeal.Hand
end
-- ==== Proof.Ideal.Eq1.lean ====
module

public import proofs.«01_k».proof.Proof.Ideal.Eq3

@[expose] public section

noncomputable section

namespace Cert.KernelIdeal.Hand

open Cert.KernelIdeal Cert.KernelIdeal.Gen
open Idealize.ShloMosaic Idealize.ShloMosaic.TcCoe
open Idealize.SL.Sem

variable {F : FTy → Type} [FloatOps F]

/-! ## The first block's trip -/

theorem off1 : ∀ (k1 : Fin k0_t1_loop.trips), k0_off1 k1 = ![k1.val % 6] := by decide +kernel
theorem off2 : ∀ (k1 : Fin k0_t1_loop.trips), k0_off2 k1 = ![k1.val % 6, 0, 0, 0] := by decide +kernel
theorem off3 : ∀ (k1 : Fin k0_t1_loop.trips), k0_off3 k1 = ![k1.val % 9 * 1536, k1.val / 9 * 512] := by decide +kernel
theorem off4 : ∀ (k1 : Fin k0_t1_loop.trips), k0_off4 k1 = ![k1.val % 6, 1, 0, 0] := by decide +kernel
theorem off5 : ∀ (k1 : Fin k0_t1_loop.trips), k0_cond1 k1 = 1#1 → k0_off5 k1 = ![(k1.val + 5) % 6] := by decide +kernel
theorem off6 : ∀ (k1 : Fin k0_t1_loop.trips), k0_cond1 k1 = 1#1 → k0_off6 k1 = ![(k1.val + 5) % 6, 0, 0, 0] := by decide +kernel
theorem off7 : ∀ (k1 : Fin k0_t1_loop.trips), k0_cond1 k1 = 1#1 → k0_off7 k1 = ![(k1.val + 5) % 9 * 1536, (k1.val + 5) / 9 * 512] := by decide +kernel
theorem off8 : ∀ (k1 : Fin k0_t1_loop.trips), k0_cond1 k1 = 1#1 → k0_off8 k1 = ![(k1.val + 5) % 6, 1, 0, 0] := by decide +kernel
theorem cond1 : ∀ (k1 : Fin k0_t1_loop.trips), (k0_cond1 k1 = 1#1 ↔ k1.val + 5 < 45) := by decide +kernel
theorem off9 : ∀ (k1 : Fin k0_t1_loop.trips), k0_off9 k1 = ![k1.val] := by decide +kernel
theorem off10 : ∀ (k1 : Fin k0_t1_loop.trips), k0_off10 k1 = ![0, k1.val, 0, 0] := by decide +kernel
theorem off12 : ∀ (k1 : Fin k0_t1_loop.trips), k0_off12 k1 = ![1, k1.val, 0, 0] := by decide +kernel
theorem off11a : ∀ (k1 : Fin k0_t1_loop.trips), k0_off11 k1 0#32 = ![0, 0 * 13824 + k1.val * 1536] := by decide +kernel
theorem off11b : ∀ (k1 : Fin k0_t1_loop.trips), k0_off11 k1 13824#32 = ![0, 1 * 13824 + k1.val * 1536] := by decide +kernel
theorem off66 : ∀ (k1 : Fin k0_t1_loop.trips), k0_off66 k1 0 = k1.val % 6 := by decide +kernel
theorem off15 : ∀ (k1 : Fin k0_t1_loop.trips), k0_off15 k1 0 = k1.val := by decide +kernel
theorem off70 : ∀ (k1 : Fin k0_t1_loop.trips), k0_off70 k1 0 = k1.val := by decide +kernel
theorem off67 : ∀ (k1 : Fin k0_t1_loop.trips) (r : Fin 6), k0_off67 k1 (BitVec.ofNat 32 r.val) 2 = 6 * k1.val + r.val := by decide +kernel

theorem lt1 (k1 : Fin k0_t1_loop.trips) : k1.val < 9 := Nat.lt_of_lt_of_eq k1.isLt trips1

theorem inters_congr {c c' : ℕ} {h h'} {n p e} (ec : c = c') : inters (F := F) (c := c) h n p e = inters (c := c') h' n p e := by subst ec; rfl
theorem row1_lt (k1 : Fin k0_t1_loop.trips) (r : Fin 6) : k0_off67 k1 (BitVec.ofNat 32 r.val) 2 < 54 := by
  rw [off67]; have := lt1 k1; omega
theorem sl1_lt (k1 : Fin k0_t1_loop.trips) : k0_off66 k1 0 < 6 := by rw [off66]; omega
theorem xp1_lt (k1 : Fin k0_t1_loop.trips) : k0_off15 k1 0 < 9 := by rw [off15]; exact lt1 k1
theorem ci1_lt (k1 : Fin k0_t1_loop.trips) : k0_off70 k1 0 < 9 := by rw [off70]; exact lt1 k1

theorem waitW_eq1 (k1 : Fin k0_t1_loop.trips) (h : k1.val < 45) : waitW (F := F) k1.val h
    = wait2 (pWG (k0_off3 k1) (k0_off3_inb k1)) (pWU (k0_off3 k1) (k0_off3_inb k1)) (pW (k0_off2 k1) (k0_off2_inb k1))
      (pW (k0_off4 k1) (k0_off4_inb k1)) (semW (k0_off1 k1) (k0_off1_inb k1)) ((Memref.isWhole_whole _).wordExact_slice rfl _ (k0_off3_wordsi8 k1)) ((Memref.isWhole_whole _).wordExact_slice rfl _ (k0_off3_wordsi8 k1)) (((Memref.isWhole_whole _).wordExact_slice rfl _ (k0_off2_wordsi8 k1)).reshape _ _) (((Memref.isWhole_whole _).wordExact_slice rfl _ (k0_off4_wordsi8 k1)).reshape _ _) :=
  wait2_congr (pWG_congr (off3 k1).symm) (pWU_congr (off3 k1).symm) (pW_congr (off2 k1).symm) (pW_congr (off4 k1).symm) (semW_congr (off1 k1).symm)

theorem waitX_eq1 (k1 : Fin k0_t1_loop.trips) (h : k1.val < 9) : waitX (F := F) k1.val h
    = wait2 (pX (k0_off11 k1 0#32) (k0_off11_inb k1 0)) (pX (k0_off11 k1 13824#32) (k0_off11_inb k1 1)) (pXR (k0_off10 k1) (k0_off10_inb k1))
      (pXR (k0_off12 k1) (k0_off12_inb k1)) (semX (k0_off9 k1) (k0_off9_inb k1)) ((Memref.isWhole_whole _).wordExact_slice rfl _ (k0_off11_wordsbf16 k1 0)) ((Memref.isWhole_whole _).wordExact_slice rfl _ (k0_off11_wordsbf16 k1 1)) (((Memref.isWhole_whole _).wordExact_slice rfl _ (k0_off10_wordsbf16 k1)).reshape _ _) (((Memref.isWhole_whole _).wordExact_slice rfl _ (k0_off12_wordsbf16 k1)).reshape _ _) :=
  wait2_congr (pX_congr (off11a k1).symm) (pX_congr (off11b k1).symm) (pXR_congr (off10 k1).symm) (pXR_congr (off12 k1).symm) (semX_congr (off9 k1).symm)

theorem refill_eq1 (k1 : Fin k0_t1_loop.trips) : refill (F := F) k1.val
    = if h : k0_cond1 k1 = 1#1 then start2 (pWG (k0_off7 k1) (k0_off7_inb k1 h)) (pWU (k0_off7 k1) (k0_off7_inb k1 h)) (pW (k0_off6 k1) (k0_off6_inb k1 h))
      (pW (k0_off8 k1) (k0_off8_inb k1 h)) (semW (k0_off5 k1) (k0_off5_inb k1 h))
      ((Memref.isWhole_whole _).wordExact_slice rfl _ (k0_off7_wordsi8 k1 h)) ((Memref.isWhole_whole _).wordExact_slice rfl _ (k0_off7_wordsi8 k1 h))
      (((Memref.isWhole_whole _).wordExact_slice rfl _ (k0_off6_wordsi8 k1 h)).reshape _ _) (((Memref.isWhole_whole _).wordExact_slice rfl _ (k0_off8_wordsi8 k1 h)).reshape _ _) ⟨Or.inl rfl, trivial⟩ ⟨Or.inl rfl, trivial⟩ else pure ⟨⟩ :=
  dite_iff (cond1 k1).symm fun x y => start2_congr (pWG_congr (off7 k1 y).symm) (pWU_congr (off7 k1 y).symm) (pW_congr (off6 k1 y).symm) (pW_congr (off8 k1 y).symm) (semW_congr (off5 k1 y).symm)

set_option maxRecDepth 65536 in
set_option maxHeartbeats 8000000 in
theorem body1_eq (mx0 : Mxu F) (k1 : Fin k0_t1_loop.trips) (mx : Mxu F) :
    k0_t1_body aX (Memref.isWhole_whole _) aWG (Memref.isWhole_whole _) aSG (Memref.isWhole_whole _) aWU (Memref.isWhole_whole _) aSU (Memref.isWhole_whole _) aO (Memref.isWhole_whole _) bXR (Memref.isWhole_whole _) bXP (Memref.isWhole_whole _) bW (Memref.isWhole_whole _) bS (Memref.isWhole_whole _) bP (Memref.isWhole_whole _) bO (Memref.isWhole_whole _) cc0_scratch6 cc0_scratch7 cc0_scratch8 cc0_scratch9 mx0 k1 mx = body1 k1.val (lt1 k1) mx := by
  unfold k0_t1_body
  rw [k0_part71_eq_skeleton]; unfold k0_part71_skel
  rw [k0_part2_eq_skeleton]; unfold k0_part2_skel
  rw [k0_part3_eq_skeleton]; unfold k0_part3_skel
  unfold body1
  rw [waitW_eq1 k1, refill_eq1 k1, waitX_eq1 k1, inters_congr (off15 k1).symm (h' := xp1_lt k1),
    passes_congr (off66 k1).symm (off70 k1).symm (funext fun r => (off67 k1 r).symm) (h1' := sl1_lt k1) (h2' := ci1_lt k1) (h3' := row1_lt k1)]
  unfold wait2
  simp only [bind_assoc, pure_bind]
  refine seq_congr rfl fun _ => seq_congr rfl fun _ => dite_seq (fun h => ?_) ?_
  · rfl
  · simp only [bind_assoc, pure_bind]
    refine seq_congr rfl fun _ => ?_
    simp only [k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton,
      k0_part4_skel, k0_part5_skel, k0_part6_skel, k0_part7_skel, k0_part8_skel, k0_part9_skel, k0_part10_skel, k0_part11_skel, k0_part12_skel, k0_part13_skel, k0_part14_skel, k0_part15_skel, k0_part16_skel, k0_part17_skel, k0_part18_skel, k0_part19_skel, k0_part20_skel, k0_part21_skel, k0_part22_skel, k0_part23_skel, k0_part24_skel, k0_part25_skel, k0_part26_skel, k0_part27_skel, k0_part28_skel, k0_part29_skel, k0_part30_skel, k0_part31_skel, k0_part32_skel, k0_part33_skel, k0_part34_skel, k0_part35_skel, k0_part36_skel, k0_part37_skel, k0_part38_skel, k0_part39_skel, k0_part40_skel, k0_part41_skel, k0_part42_skel, k0_part43_skel, k0_part44_skel, k0_part45_skel, k0_part46_skel, k0_part47_skel, k0_part48_skel, k0_part49_skel, k0_part50_skel, k0_part51_skel, k0_part52_skel, k0_part53_skel, k0_part54_skel, k0_part55_skel, k0_part56_skel, k0_part57_skel, k0_part58_skel, k0_part59_skel, k0_part60_skel, k0_part61_skel, k0_part62_skel, k0_part63_skel, k0_part64_skel, k0_part65_skel, k0_part66_skel, k0_part67_skel, k0_part68_skel, k0_part69_skel, k0_part70_skel, bind_assoc, pure_bind]
    simp only [inters, inter, bind_assoc, pure_bind]
    simp only [passes, pass, tile, bind_assoc, pure_bind]
    repeat' refine seq_congr (by rfl) fun _ => ?_
    rfl

end Cert.KernelIdeal.Hand
end
-- ==== Proof.Ideal.Eq2.lean ====
module

public import proofs.«01_k».proof.Proof.Ideal.Eq1

@[expose] public section

set_option pp.maxSteps 40

noncomputable section

namespace Cert.KernelIdeal.Hand

open Cert.KernelIdeal Cert.KernelIdeal.Gen
open Idealize.ShloMosaic Idealize.ShloMosaic.TcCoe
open Idealize.SL.Sem

variable {F : FTy → Type} [FloatOps F]

/-! ## A block, and the kernel -/

theorem off129 : ∀ (k2 : Fin k0_t2_loop.trips), k0_off129 k2 = ![(k2.val + 1) % 2] := by decide +kernel
theorem off130 : ∀ (k2 : Fin k0_t2_loop.trips), k0_off130 k2 = ![(k2.val + 1) % 2, 0, 0, 0] := by decide +kernel
theorem off131 : ∀ (k2 : Fin k0_t2_loop.trips), k0_off131 k2 = ![0, (k2.val + 1) * 512] := by decide +kernel
theorem off132 : ∀ (k2 : Fin k0_t2_loop.trips), k0_off132 k2 = ![(k2.val + 1) % 2, 1, 0, 0] := by decide +kernel
theorem off133 : ∀ (k2 : Fin k0_t2_loop.trips), k0_off133 k2 0 = (k2.val + 1) % 2 := by decide +kernel
theorem off137 : ∀ (k2 : Fin k0_t2_loop.trips), k0_cond2 k2 = 1#1 → k0_off137 k2 = ![(k2.val + 1 + 1) % 2] := by decide +kernel
theorem off138 : ∀ (k2 : Fin k0_t2_loop.trips), k0_cond2 k2 = 1#1 → k0_off138 k2 = ![(k2.val + 1 + 1) % 2, 0, 0, 0] := by decide +kernel
theorem off139 : ∀ (k2 : Fin k0_t2_loop.trips), k0_cond2 k2 = 1#1 → k0_off139 k2 = ![0, (k2.val + 1 + 1) * 512] := by decide +kernel
theorem off140 : ∀ (k2 : Fin k0_t2_loop.trips), k0_cond2 k2 = 1#1 → k0_off140 k2 = ![(k2.val + 1 + 1) % 2, 1, 0, 0] := by decide +kernel
theorem cond2 : ∀ (k2 : Fin k0_t2_loop.trips), (k0_cond2 k2 = 1#1 ↔ (k2.val + 1) + 1 < 5) := by decide +kernel
theorem cond4 : ∀ (k2 : Fin k0_t2_loop.trips), (k0_cond4 k2 = 1#1 ↔ 2 ≤ (k2.val + 1)) := by decide +kernel
theorem off217 : ∀ (k2 : Fin k0_t2_loop.trips), k0_cond4 k2 = 1#1 → k0_off217 k2 = ![((k2.val + 1) - 2) % 2] := by decide +kernel
theorem off218 : ∀ (k2 : Fin k0_t2_loop.trips), k0_cond4 k2 = 1#1 → k0_off218 k2 = ![0, ((k2.val + 1) - 2) * 512] := by decide +kernel
theorem off219 : ∀ (k2 : Fin k0_t2_loop.trips), k0_cond4 k2 = 1#1 → k0_off219 k2 = ![((k2.val + 1) - 2) % 2, 0, 0] := by decide +kernel
theorem off220 : ∀ (k2 : Fin k0_t2_loop.trips), k0_off220 k2 0 = (k2.val + 1) % 2 := by decide +kernel
theorem off222 : ∀ (k2 : Fin k0_t2_loop.trips), k0_off222 k2 = ![0, (k2.val + 1) * 512] := by decide +kernel
theorem off223 : ∀ (k2 : Fin k0_t2_loop.trips), k0_off223 k2 = ![(k2.val + 1) % 2, 0, 0] := by decide +kernel

theorem pairs_congr {sl sl' : ℕ} {h h'} {g hg} (e : sl = sl') : pairs (F := F) (sl := sl) h g hg = pairs (sl := sl') h' g hg := by subst e; rfl
theorem epi_congr {sl sl' : ℕ} {h h'} (e : sl = sl') (mx : Mxu F) : epi (F := F) (sl := sl) h mx = epi (sl := sl') h' mx := by subst e; rfl
theorem s2_lt (k2 : Fin k0_t2_loop.trips) : k0_off133 k2 0 < 2 := by rw [off133]; omega
theorem o2_lt (k2 : Fin k0_t2_loop.trips) : k0_off220 k2 0 < 2 := by rw [off220]; omega

theorem waitS_eq2 (k2 : Fin k0_t2_loop.trips) : waitS (F := F) (k2.val + 1) (lt2 k2)
    = wait2 (pSG (k0_off131 k2) (k0_off131_inb k2)) (pSU (k0_off131 k2) (k0_off131_inb k2)) (pS (k0_off130 k2) (k0_off130_inb k2))
      (pS (k0_off132 k2) (k0_off132_inb k2)) (semS (k0_off129 k2) (k0_off129_inb k2)) ((Memref.isWhole_whole _).wordExact_slice rfl _ (k0_off131_wordsbf16 k2)) ((Memref.isWhole_whole _).wordExact_slice rfl _ (k0_off131_wordsbf16 k2)) (((Memref.isWhole_whole _).wordExact_slice rfl _ (k0_off130_wordsbf16 k2)).reshape _ _) (((Memref.isWhole_whole _).wordExact_slice rfl _ (k0_off132_wordsbf16 k2)).reshape _ _) :=
  wait2_congr (pSG_congr (off131 k2).symm) (pSU_congr (off131 k2).symm) (pS_congr (off130 k2).symm) (pS_congr (off132 k2).symm) (semS_congr (off129 k2).symm)

theorem startS_eq2 (k2 : Fin k0_t2_loop.trips) : nextS (F := F) (k2.val + 1)
    = if h : k0_cond2 k2 = 1#1 then start2 (pSG (k0_off139 k2) (k0_off139_inb k2 h)) (pSU (k0_off139 k2) (k0_off139_inb k2 h)) (pS (k0_off138 k2) (k0_off138_inb k2 h))
      (pS (k0_off140 k2) (k0_off140_inb k2 h)) (semS (k0_off137 k2) (k0_off137_inb k2 h)) ((Memref.isWhole_whole _).wordExact_slice rfl _ (k0_off139_wordsbf16 k2 h)) ((Memref.isWhole_whole _).wordExact_slice rfl _ (k0_off139_wordsbf16 k2 h)) (((Memref.isWhole_whole _).wordExact_slice rfl _ (k0_off138_wordsbf16 k2 h)).reshape _ _) (((Memref.isWhole_whole _).wordExact_slice rfl _ (k0_off140_wordsbf16 k2 h)).reshape _ _) ⟨Or.inl rfl, trivial⟩ ⟨Or.inl rfl, trivial⟩ else pure ⟨⟩ :=
  dite_iff (cond2 k2).symm fun x y => start2_congr (pSG_congr (off139 k2 y).symm) (pSU_congr (off139 k2 y).symm) (pS_congr (off138 k2 y).symm) (pS_congr (off140 k2 y).symm) (semS_congr (off137 k2 y).symm)

theorem waitO_eq2 (k2 : Fin k0_t2_loop.trips) : prevO (F := F) (k2.val + 1) (lt2 k2)
    = if h : k0_cond4 k2 = 1#1 then wait1 (pO (k0_off219 k2) (k0_off219_inb k2 h)) (pOut (k0_off218 k2) (k0_off218_inb k2 h))
      (semO (k0_off217 k2) (k0_off217_inb k2 h)) (((Memref.isWhole_whole _).wordExact_slice rfl _ (k0_off219_wordsbf16 k2 h)).reshape _ _) ((Memref.isWhole_whole _).wordExact_slice rfl _ (k0_off218_wordsbf16 k2 h)) else pure ⟨⟩ :=
  dite_iff (cond4 k2).symm fun x y => wait1_congr (pO_congr (off219 k2 y).symm) (pOut_congr (off218 k2 y).symm) (semO_congr (off217 k2 y).symm)

theorem startO_eq2 (k2 : Fin k0_t2_loop.trips) : startO (F := F) (k2.val + 1) (lt2 k2)
    = start1 (pO (k0_off223 k2) (k0_off223_inb k2)) (pOut (k0_off222 k2) (k0_off222_inb k2))
      (semO (k0_off129 k2) (k0_off129_inb k2)) (((Memref.isWhole_whole _).wordExact_slice rfl _ (k0_off223_wordsbf16 k2)).reshape _ _) ((Memref.isWhole_whole _).wordExact_slice rfl _ (k0_off222_wordsbf16 k2)) ⟨Or.inl rfl, trivial⟩ :=
  start1_congr (pO_congr (off223 k2).symm) (pOut_congr (off222 k2).symm) (semO_congr (off129 k2).symm)

theorem trips_eq (k2 : Fin k0_t2_loop.trips) (mx0 : Mxu F) (b0 b1 b2 : BitVec 32) (mx : Mxu F) :
    trips (k2.val + 1) (lt2 k2) mx = Scf.Loop.for k0_t3_loop k0_t3_ok mx (k0_t3_body aX (Memref.isWhole_whole _) aWG (Memref.isWhole_whole _) aSG (Memref.isWhole_whole _) aWU (Memref.isWhole_whole _) aSU (Memref.isWhole_whole _) aO (Memref.isWhole_whole _) bXR (Memref.isWhole_whole _) bXP (Memref.isWhole_whole _) bW (Memref.isWhole_whole _) bS (Memref.isWhole_whole _) bP (Memref.isWhole_whole _) bO (Memref.isWhole_whole _) cc0_scratch6 cc0_scratch7 cc0_scratch8 cc0_scratch9 k2 mx0 b0 b1 b2) := by
  unfold trips
  exact congrArg _ (funext fun k3 => funext fun m => (body3_eq k2 mx0 b0 b1 b2 k3 m).symm)

set_option maxRecDepth 65536 in
set_option maxHeartbeats 4000000 in
theorem body2_eq (k2 : Fin k0_t2_loop.trips) (mx : Mxu F) :
    k0_t2_body aX (Memref.isWhole_whole _) aWG (Memref.isWhole_whole _) aSG (Memref.isWhole_whole _) aWU (Memref.isWhole_whole _) aSU (Memref.isWhole_whole _) aO (Memref.isWhole_whole _) bXR (Memref.isWhole_whole _) bXP (Memref.isWhole_whole _) bW (Memref.isWhole_whole _) bS (Memref.isWhole_whole _) bP (Memref.isWhole_whole _) bO (Memref.isWhole_whole _) cc0_scratch6 cc0_scratch7 cc0_scratch8 cc0_scratch9 k2 mx = body2 (k2.val + 1) (lt2 k2) mx := by
  unfold k0_t2_body
  rw [k0_part131_eq_skeleton]; unfold k0_part131_skel
  simp only [k0_part126_eq_skeleton, k0_part126_skel, k0_part127_eq_skeleton, k0_part127_skel, k0_part128_eq_skeleton, k0_part128_skel,
    k0_part129_eq_skeleton, k0_part129_skel, k0_part130_eq_skeleton, k0_part130_skel, bind_assoc, pure_bind]
  unfold body2
  rw [waitS_eq2, startS_eq2, waitO_eq2, startO_eq2, pairs_congr (off133 k2).symm (h' := s2_lt k2), pairs_congr (off133 k2).symm (h' := s2_lt k2)]
  unfold wait2 pairs
  simp only [bind_assoc, pure_bind]
  iterate 14 refine seq_congr (by rfl) fun _ => ?_
  refine dite_seq (fun h => ?_) ?_
  · rfl
  simp only [pure_bind]
  rw [trips_eq k2 mx]
  refine seq_congr (by rfl) fun mx' => ?_
  refine dite_seq (fun h => ?_) ?_
  · rfl
  simp only [epi_congr (off220 k2).symm (h' := o2_lt k2)]
  unfold epi
  simp only [bind_assoc, pure_bind]
  repeat' refine seq_congr (by rfl) fun _ => ?_
  rfl

set_option maxRecDepth 65536 in
set_option maxHeartbeats 4000000 in
/-- The kernel is the compact program. -/
theorem kernel_eq : cc0_int4_swiglu (F := F) aX (Memref.isWhole_whole _) aWG (Memref.isWhole_whole _) aSG (Memref.isWhole_whole _) aWU (Memref.isWhole_whole _) aSU (Memref.isWhole_whole _) aO (Memref.isWhole_whole _) bXR (Memref.isWhole_whole _) bXP (Memref.isWhole_whole _) bW (Memref.isWhole_whole _) bS (Memref.isWhole_whole _) bP (Memref.isWhole_whole _) bO (Memref.isWhole_whole _) cc0_scratch6 cc0_scratch7 cc0_scratch8 cc0_scratch9 = kernelP := by
  rw [cc0_int4_swiglu_eq_skeleton]; unfold cc0_int4_swiglu_skel
  simp only [k0_part132_eq_skeleton, k0_part132_skel, k0_part133_eq_skeleton, k0_part133_skel, k0_part134_eq_skeleton, k0_part134_skel, k0_part135_eq_skeleton, k0_part135_skel, k0_part136_eq_skeleton, k0_part136_skel, k0_part137_eq_skeleton, k0_part137_skel, k0_part138_eq_skeleton, k0_part138_skel, k0_part139_eq_skeleton, k0_part139_skel, k0_part140_eq_skeleton, k0_part140_skel, k0_part141_eq_skeleton, k0_part141_skel, bind_assoc, pure_bind]
  have h1 : ∀ mx0 : Mxu F, k0_t1_body aX (Memref.isWhole_whole _) aWG (Memref.isWhole_whole _) aSG (Memref.isWhole_whole _) aWU (Memref.isWhole_whole _) aSU (Memref.isWhole_whole _) aO (Memref.isWhole_whole _) bXR (Memref.isWhole_whole _) bXP (Memref.isWhole_whole _) bW (Memref.isWhole_whole _) bS (Memref.isWhole_whole _) bP (Memref.isWhole_whole _) bO (Memref.isWhole_whole _) cc0_scratch6 cc0_scratch7 cc0_scratch8 cc0_scratch9 mx0 = fun k mx => body1 k.val (Nat.lt_of_lt_of_eq k.isLt trips1) mx := fun mx0 => funext fun k => funext fun m => body1_eq mx0 k m
  have h2 : k0_t2_body (F := F) aX (Memref.isWhole_whole _) aWG (Memref.isWhole_whole _) aSG (Memref.isWhole_whole _) aWU (Memref.isWhole_whole _) aSU (Memref.isWhole_whole _) aO (Memref.isWhole_whole _) bXR (Memref.isWhole_whole _) bXP (Memref.isWhole_whole _) bW (Memref.isWhole_whole _) bS (Memref.isWhole_whole _) bP (Memref.isWhole_whole _) bO (Memref.isWhole_whole _) cc0_scratch6 cc0_scratch7 cc0_scratch8 cc0_scratch9 = fun k mx => body2 (k.val + 1) (lt2 k) mx := funext fun k => funext fun m => body2_eq k m
  simp only [h1, h2]
  unfold kernelP prologue startS startX startW startO waitS waitO start2 start1 wait2 wait1 pairs epi
  simp only [bind_assoc, pure_bind]
  repeat' refine seq_congr (by rfl) fun _ => ?_
  rfl

end Cert.KernelIdeal.Hand
end
-- ==== Proof.Ideal.Run.lean ====
/-
  The run of the program: every array it takes is left as it was, its result is `OT`, every cell reads zero.
-/
module

public import proofs.«01_k».proof.Proof.Ideal.Cut
public import proofs.«01_k».proof.Proof.Ideal.Eq2
public import proofs.«01_k».proof.Proof.Gen.KernelIdeal.Frame
public import Idealize.ShloMosaic.Lib.Pipeline.KitQuiescent

@[expose] public section

set_option pp.maxSteps 60

noncomputable section

namespace Cert.KernelIdeal.Hand

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

variable (m : (ℓ : Loc nD τ sig) → Buf (Elt F) ℓ) (ρ : Dev nD → PrngReg)

theorem hmain' : Pipeline.HMain (Ix := Unit) (Name := ℕ) (U := UU nD τ) (Lvl := ℕ) cfgs 0 defs₀ 𝒱₀ m (main (F := F)) (V m) :=
  Pipeline.hmain_prefix cfgs 0 defs₀ 𝒱₀ m main hostOps0 hostOps0_sub hostOps0_fresh main_chain

/-- What the kernel finds in its argument arrays. -/
def inOf (c : Dev nD) : In F where
  x := V m c main_v0
  wg := V m c main_arg1
  sg := V m c main_arg2
  wu := V m c main_arg3
  su := V m c main_arg4

abbrev osem0 : Fin 19 → SemLoc sig := fun j => SemLoc.dma j
theorem ownSemFacts0 : Pipeline.OwnSemFacts cfg0.spec osem0 := by decide

theorem ownSems_eq (c : Dev nD) :
    (Pipeline.ownSems0 (Ix := Unit) (Name := ℕ) (U := UU nD τ) (Lvl := ℕ) (Val := Elt F) (τ := τ) osem0 c : sProp 𝕄)
      = iprop(zero c 0 ∗ zero c 1 ∗ zero c 2 ∗ zero c 3 ∗ zero c 4 ∗ zero c 5 ∗ zero c 6 ∗ zero c 7 ∗ zero c 8
          ∗ zero c 9 ∗ zero c 10 ∗ zero c 11 ∗ zero c 12 ∗ zero c 13 ∗ zero c 14 ∗ zero c 15 ∗ zero c 16 ∗ zero c 17 ∗ zero c 18) := by
  rw [Pipeline.ownSems0_eq_of_list c osem0 [0, 1, 2, 3, 4, 5, 6, 7, 8, 9, 10, 11, 12, 13, 14, 15, 16, 17, 18] (by decide) (by decide)]; rfl

theorem zX_eq (c : Dev nD) : (Seq (zX (F := F) c) 9 0 : sProp 𝕄) = iprop(zero c 0 ∗ zero c 1 ∗ zero c 2 ∗ zero c 3 ∗ zero c 4 ∗ zero c 5 ∗ zero c 6 ∗ zero c 7 ∗ zero c 8 ∗ emp) := rfl
theorem zW_eq (c : Dev nD) : (Seq (zW (F := F) c) 6 0 : sProp 𝕄) = iprop(zero c 9 ∗ zero c 10 ∗ zero c 11 ∗ zero c 12 ∗ zero c 13 ∗ zero c 14 ∗ emp) := rfl
theorem zS_eq (c : Dev nD) : (Seq (zS (F := F) c) 2 0 : sProp 𝕄) = iprop(zero c 15 ∗ zero c 16 ∗ emp) := rfl
theorem zO_eq (c : Dev nD) : (Seq (zO (F := F) c) 2 0 : sProp 𝕄) = iprop(zero c 17 ∗ zero c 18 ∗ emp) := rfl

theorem cells_of (c : Dev nD) : (Pipeline.ownSems0 (Ix := Unit) (Name := ℕ) (U := UU nD τ) (Lvl := ℕ) (Val := Elt F) (τ := τ) osem0 c : sProp 𝕄) ⊢ Cells (F := F) c := by
  rw [ownSems_eq]
  unfold Cells
  rw [zX_eq, zW_eq, zS_eq, zO_eq]
  iintro ⟨H0, H1, H2, H3, H4, H5, H6, H7, H8, H9, H10, H11, H12, H13, H14, H15, H16, H17, H18⟩
  isplitl [H0 H1 H2 H3 H4 H5 H6 H7 H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iempintro
  isplitl [H9 H10 H11 H12 H13 H14]
  · isplitl [H9]; · iexact H9
    isplitl [H10]; · iexact H10
    isplitl [H11]; · iexact H11
    isplitl [H12]; · iexact H12
    isplitl [H13]; · iexact H13
    isplitl [H14]; · iexact H14
    iempintro
  isplitl [H15 H16]
  · isplitl [H15]; · iexact H15
    isplitl [H16]; · iexact H16
    iempintro
  isplitl [H17]; · iexact H17
  isplitl [H18]; · iexact H18
  iempintro
theorem cells_to (c : Dev nD) : Cells (F := F) c ⊢ (Pipeline.ownSems0 (Ix := Unit) (Name := ℕ) (U := UU nD τ) (Lvl := ℕ) (Val := Elt F) (τ := τ) osem0 c : sProp 𝕄) := by
  rw [ownSems_eq]
  unfold Cells
  rw [zX_eq, zW_eq, zS_eq, zO_eq]
  iintro ⟨⟨H0, H1, H2, H3, H4, H5, H6, H7, H8, -⟩, ⟨H9, H10, H11, H12, H13, H14, -⟩, ⟨H15, H16, -⟩, ⟨H17, H18, -⟩⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

theorem wp_mono' (c : Dev nD) {P : sProp 𝕄} {p : Pr F PUnit} {Q R : PUnit → sProp 𝕄} (h : P ⊢ run c p Q) :
    iprop(P ∗ (∀ a, Q a -∗ R a)) ⊢ run c p R := by
  refine (BIClass.sep_mono h .rfl).trans ?_
  exact wp_wand_r frame (wpE defs₀ 𝒱₀ (c : Thread nD τ) none) Set.univ

/-- Before the one point, and after it. -/
def ΦK (c : Dev nD) : ℕ → sProp 𝕄
  | 0 => iprop(Args (inOf m c) c ∗ Cells (F := F) c ∗ Scratch (F := F) c ∗ (∃ f, whole (F := F) c aO f))
  | _ + 1 => iprop(Args (inOf m c) c ∗ Cells (F := F) c ∗ Scratch (F := F) c ∗ whole c aO (OT (inOf m c)))

def dats (_ : Fin 1) (c : Dev nD) : Dat τ (Elt F) Unit ℕ (UU nD τ) ℕ cfg0 c where
  A w := V m c (Pipeline.arrRef cfg0.spec w)
  after w t := w.elim0
  Φ t := ΦK m c t.val
  q _ := fullShare
  owed _ := 0

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) 𝒱₀ () Set.univ := fun t => by
  have hw : ∀ P : Fin cfg0.W → sProp 𝕄, bigSep Finset.univ P = iprop(emp) := fun P => by
    rw [show (Finset.univ : Finset (Fin cfg0.W)) = ∅ from rfl, BI.bigSep_empty]; rfl
  rw [hw, defs₀_row]
  simp only [hw]
  have ht : t.val = 0 := congrArg Fin.val (fin_N0 t)
  rw [show (dats m 0 c).Φ t.castSucc = ΦK m c 0 from congrArg (ΦK m c) ht, show (dats m 0 c).Φ t.succ = ΦK m c 1 from congrArg (fun n => ΦK m c (n + 1)) ht]
  unfold bodyAt0
  rw [kernel_eq]
  unfold Dat.owesAt Pipeline.owesWithin
  rw [show (dats m 0 c).owed t.castSucc = 0 from rfl, show (dats m 0 c).owed t.succ = 0 from rfl]
  have h := wp_kernel (F := F) (inOf m c) c
  unfold ΦK
  iintro ⟨⟨HA, HC, HS, HF⟩, ⟨%W, -, HW⟩, -⟩
  iapply (wp_mono' c h)
  isplitl [HA HC HS HF HW]
  · isplitl [HA]; · iexact HA
    isplitl [HC]; · iexact HC
    isplitl [HS]; · iexact HS
    isplitl [HW]
    · unfold Ow; iexists W; iexact HW
    iexact HF
  unfold Ow
  iintro %_ ⟨HA, HC, HS, ⟨%W', HW⟩, HF⟩
  isplitl [HA HC HS HF]
  · isplitl [HA]; · iexact HA
    isplitl [HC]; · iexact HC
    isplitl [HS] <;> iassumption
  isplitl [HW]
  · iexists W'; isplitr; · ipureintro; exact fun _ _ => Or.inl trivial
    iexact HW
  iempintro

/-- What is known of the memory at the end. -/
def QY (c : Dev nD) (s : MemSt nD τ sig (Elt F)) : Prop :=
  s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_v1) = OT (inOf m c)

theorem run_main : θ_run defs (onTc (τ := τ) (main (F := F))) ⟨m, fun _ => 0, ρ⟩ (fun r => (∀ c : Dev nD, QY m c r.2) ∧ r.2.sem = fun _ => 0) := by
  classical
  exact Pipeline.θ_run_region_kit_quiescent cfgs (dats m) () 0 launch0 ownSemFacts0 EP defs₀ 𝒱₀ m ρ main
    (fun c => (body_obligation m c).loose) (fun c w => w.elim0) (fun _ _ => rfl)
    (G := fun _ => iprop(emp)) (u₀ := (Rounds.initOf (Pipeline.cells cfgs launch0.cellOf_inj) (Pipeline.launchToks cfgs launch0.cellOf_inj), 1))
    (hu₀ := by
      iintro Hu
      ihave H' := (ownU_pair _ _) $$ Hu
      icases H' with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m) (hmain := hmain' m) (hA := fun _ _ => rfl)
    (X := fun c => iprop(Args (inOf m c) c ∗ Cells (F := F) c ∗ (∃ f, whole (F := F) c aO f)))
    (Y := fun c => iprop(Args (inOf m c) c ∗ whole c aO (OT (inOf m c))))
    (Z := fun c => iprop(((c : Thread nD τ).loc main_arg0) ↦{fullShare} V m c main_arg0))
    (hX := fun c => by
      rw [unscopedRest0_eq]
      iintro ⟨⟨H0, H1, H2, H3, H4, HX, HO⟩, HC, -⟩
      imodintro
      isplitr [H0]
      · isplitl [H1 H2 H3 H4 HX]
        · unfold Args
          isplitl [HX]; · iexact HX
          isplitl [H1]; · iexact H1
          isplitl [H2]; · iexact H2
          isplitl [H3]; · iexact H3
          iexact H4
        isplitl [HC]
        · iapply (cells_of (F := F) c); iexact HC
        iexists _; iexact HO
      iexact H0)
    (hin := fun c => by
      rw [scopedRest0_eq]
      rw [show (dats m 0 c).Φ 0 = ΦK m c 0 from rfl]
      unfold ΦK
      iintro ⟨⟨HA, HC, HF⟩, HS⟩
      isplitl [HA]; · iexact HA
      isplitl [HC]; · iexact HC
      isplitl [HS]
      · unfold Scratch; iexact HS
      iexact HF)
    (hout := fun c => by
      rw [scopedRest0_eq]
      rw [show (dats m 0 c).Φ (Fin.last cfg0.N) = ΦK m c 1 from congrArg (ΦK m c) N_0]
      unfold ΦK
      iintro ⟨HA, HC, HS, HF⟩
      isplitl [HA HF]
      · isplitl [HA] <;> iassumption
      isplitl [HC]
      · iapply (cells_to (F := F) c); iexact HC
      unfold Scratch; iexact HS)
    (QY := QY m)
    (hY := fun c s' => by
      unfold Args
      iintro ⟨⟨⟨HX, H1, H2, H3, H4⟩, HO⟩, H0, HSI⟩
      icombine HSI H0 gives %h0
      icombine HSI H1 gives %h1
      icombine HSI H2 gives %h2
      icombine HSI H3 gives %h3
      icombine HSI H4 gives %h4
      icombine HSI HO gives %h5
      imodintro
      isplitr
      · ipureintro
        exact ⟨(funext fun i => h0 i (Finset.mem_univ i)).trans (V_main_arg0 m c), (funext fun i => h1 i (Finset.mem_univ i)).trans (V_main_arg1 m c),
          (funext fun i => h2 i (Finset.mem_univ i)).trans (V_main_arg2 m c), (funext fun i => h3 i (Finset.mem_univ i)).trans (V_main_arg3 m c),
          (funext fun i => h4 i (Finset.mem_univ i)).trans (V_main_arg4 m c), funext fun i => h5 i (Finset.mem_univ i)⟩
      iexact HSI)
    (hQ := fun s h hz => ⟨fun c => (h c).2, hz⟩)

end Cert.KernelIdeal.Hand
end
-- ==== Proof.Ideal.Lhs.lean ====
/-
  The left operand of a pass, element by element: the two halves of the activations interleaved.
-/
module

public import proofs.«01_k».proof.Proof.Ideal.Geom
public import Idealize.ShloMosaic.Lib.Pointwise
public import Idealize.ShloMosaic.Lib.Pipeline.Value

@[expose] public section

noncomputable section

namespace Cert.KernelIdeal.Hand

open Cert.KernelIdeal Cert.KernelIdeal.Gen
open Idealize.ShloMosaic hiding ix0 ix1 ix2 ix3 ix4 ix5
open Idealize.ShloMosaic.TcCoe Idealize.ShloMosaic.ValueIdx
open Idealize.SL.Sem

variable (A : In Ideal)

/-! ## The interleaving -/

/-- A leading pair of unit axes dropped. -/
theorem cast_11ab {α : Type} {a b : ℕ} (x : (⟨4, ![1, 1, a, b]⟩ : Shape).Idx → α) (h : (⟨4, ![1, 1, a, b]⟩ : Shape).ShapeCasts ⟨2, ![a, b]⟩)
    (i : Fin a) (j : Fin b) : shapeCast ⟨2, ![a, b]⟩ x h (ix2 i j) = x (ix4 (0 : Fin 1) (0 : Fin 1) i j) :=
  congrArg x (reshapeEquiv_ix2_11ab _ i j)

theorem pay2_apply (lo : Vec Ideal S1x1x128x128 .bf16) (r l : Fin 128) : k0_pay2 (F := Ideal) lo (ix2 r l) = lo (ix4 (0 : Fin 1) (0 : Fin 1) r l) :=
  cast_11ab lo _ r l
theorem pay3_apply (lo : Vec Ideal S1x1x128x128 .bf16) (r l : Fin 128) : k0_pay3 (F := Ideal) lo (ix2 r l) = lo (ix4 (0 : Fin 1) (0 : Fin 1) r l) :=
  cast_11ab lo _ r l

/-- The lane gathered from, for a lane word `w` and the half that starts at `b`. -/
def lane (b w : BitVec 32) : BitVec 32 :=
  Scalar.select (IntOp.cmpi .slt (IntOp.addi (IntOp.shrsi .vector w 1#32) b) 0#32)
    (IntOp.addi (IntOp.addi (IntOp.shrsi .vector w 1#32) b) 128#32) (IntOp.addi (IntOp.shrsi .vector w 1#32) b)

theorem lane0 : ∀ l : Fin 128, (lane 0#32 (BitVec.ofNat 32 l.val)).toNat % 128 = l.val / 2 := by decide +kernel
theorem lane64 : ∀ l : Fin 128, (lane 64#32 (BitVec.ofNat 32 l.val)).toNat % 128 = 64 + l.val / 2 := by decide +kernel
theorem evenLane : ∀ l : Fin 128, IntOp.cmpi .eq (IntOp.andi (BitVec.ofNat 32 l.val) 1#32) 0#32 = if l.val % 2 = 0 then 1#1 else 0#1 := by decide +kernel

/-- The lane number at a lane. -/
theorem lanes_apply (r l : Fin 128) : iota .tc S128x128 32 [1] iota_S128x128_d1_w32 (ix2 r l) = BitVec.ofNat 32 l.val := iota_single_apply _ _ _ _ _ _

theorem pay1_apply (r l : Fin 128) : k0_pay1 (ix2 r l) = if l.val % 2 = 0 then 1#1 else 0#1 := by
  show IntOp.cmpi .eq (IntOp.andi (iota .tc S128x128 32 [1] iota_S128x128_d1_w32 (ix2 r l)) 1#32) 0#32 = _
  rw [lanes_apply]; exact evenLane l

/-- A gather along the lanes at a known lane. -/
theorem gather_apply (x : S128x128.Idx → EReal) (idx : IVec S128x128 32) (r l k : Fin 128) (h : (idx (ix2 r l)).toNat % 128 = k.val) :
    dynamicGather 1 x idx (ix2 r l) = x (ix2 r k) := by
  rw [dynamicGather_apply]
  congr 1
  funext b; fin_cases b
  · rfl
  · exact Fin.ext h

theorem select_parity (n : ℕ) (a b : EReal) : Scalar.select (if n % 2 = 0 then 1#1 else 0#1) a b = if n % 2 = 0 then a else b := by
  split <;> rfl

theorem mix0_apply (lo hi : Vec Ideal S1x1x128x128 .bf16) (r l k : Fin 128) (hk : k.val = l.val / 2) :
    mix0 (F := Ideal) lo hi (ix3 (0 : Fin 1) r l) = if l.val % 2 = 0 then lo (ix4 (0 : Fin 1) (0 : Fin 1) r k) else hi (ix4 (0 : Fin 1) (0 : Fin 1) r k) := by
  unfold mix0 k0_pay4
  rw [shapeCast_ab_1ab_apply]
  simp only [shapeCast_comp, shapeCast_id]
  rw [truncf_apply, select_apply, pay1_apply, select_parity, gather_apply _ _ r l k ?_, gather_apply _ _ r l k ?_, pay2_apply, pay3_apply]
  · rw [hk, ← lane0 l, ← lanes_apply r l]; rfl
  · rw [hk, ← lane0 l, ← lanes_apply r l]; rfl

theorem mix1_apply (lo hi : Vec Ideal S1x1x128x128 .bf16) (r l k : Fin 128) (hk : k.val = 64 + l.val / 2) :
    mix1 (F := Ideal) lo hi (ix3 (0 : Fin 1) r l) = if l.val % 2 = 0 then lo (ix4 (0 : Fin 1) (0 : Fin 1) r k) else hi (ix4 (0 : Fin 1) (0 : Fin 1) r k) := by
  unfold mix1 k0_pay5
  rw [shapeCast_ab_1ab_apply]
  simp only [shapeCast_comp, shapeCast_id]
  rw [truncf_apply, select_apply, pay1_apply, select_parity, gather_apply _ _ r l k ?_, gather_apply _ _ r l k ?_, pay2_apply, pay3_apply]
  · rw [hk, ← lane64 l, ← lanes_apply r l]; rfl
  · rw [hk, ← lane64 l, ← lanes_apply r l]; rfl

/-! ## The operand -/

theorem xHalf_apply (k : Fin 2) (kv : ℕ) (hk : k.val = kv) {c : ℕ} (hc : c < 9) (p : Fin 12) (r l : Fin 128) (i : Fin 27648) (hi : i.val = kv * 13824 + (c * 1536 + 128 * p.val + l.val)) :
    xHalf A k c hc p (ix4 (0 : Fin 1) (0 : Fin 1) r l) = A.x (ix2 r i) := by
  subst hk
  have hp := p.isLt
  have hl := l.isLt
  refine Eq.trans (b := XR A (ix4 k (⟨c, hc⟩ : Fin 9) r (⟨128 * p.val + l.val, by omega⟩ : Fin 1536))) (congrArg (XR A) (funext fun a => ?_)) ?_
  · fin_cases a
    · exact Fin.ext (by show k.val + 1 * 0 = k.val; omega)
    · exact Fin.ext (by show c + 1 * 0 = c; omega)
    · exact Fin.ext (by show 0 + 1 * r.val = r.val; omega)
    · exact Fin.ext (by show 128 * p.val + 1 * l.val = 128 * p.val + l.val; omega)
  · unfold XR
    exact congrArg (fun i => A.x (ix2 r i)) (Fin.ext (by show k.val * 13824 + c * 1536 + (128 * p.val + l.val) = i.val; omega))

/-- A column of the interleaved activations. -/
theorem xp_apply {c : ℕ} (hc : c < 9) (p : Fin 12) (r : Fin 128) (J : Fin 3072) (hJ : J.val / 256 = p.val) (i : Fin 27648)
    (hi : i.val = J.val % 2 * 13824 + (c * 1536 + 128 * p.val + J.val % 256 / 2)) : XP A (ix3 (⟨c, hc⟩ : Fin 9) r J) = A.x (ix2 r i) := by
  have hJ' := J.isLt
  have ep : (⟨J.val / 256, by omega⟩ : Fin 12) = p := Fin.ext hJ
  obtain ⟨k, hk⟩ : ∃ k : Fin 128, k.val = J.val % 256 / 2 := ⟨⟨J.val % 256 / 2, by omega⟩, rfl⟩
  obtain ⟨l, hl⟩ : ∃ l : Fin 128, l.val = J.val % 128 := ⟨⟨J.val % 128, by omega⟩, rfl⟩
  have el : (⟨J.val % 128, Nat.mod_lt _ (by decide)⟩ : Fin 128) = l := Fin.ext hl.symm
  show (if J.val % 256 < 128 then
      mix0 (xHalf A 0 c hc ⟨J.val / 256, by omega⟩) (xHalf A 1 c hc ⟨J.val / 256, by omega⟩) (ix3 (0 : Fin 1) r (⟨J.val % 128, Nat.mod_lt _ (by decide)⟩ : Fin 128))
    else mix1 (xHalf A 0 c hc ⟨J.val / 256, by omega⟩) (xHalf A 1 c hc ⟨J.val / 256, by omega⟩) (ix3 (0 : Fin 1) r (⟨J.val % 128, Nat.mod_lt _ (by decide)⟩ : Fin 128))) = _
  rw [ep, el]
  have key : (if l.val % 2 = 0 then xHalf A 0 c hc p (ix4 (0 : Fin 1) (0 : Fin 1) r k) else xHalf A 1 c hc p (ix4 (0 : Fin 1) (0 : Fin 1) r k)) = A.x (ix2 r i) := by
    by_cases he : J.val % 2 = 0
    · rw [if_pos (by omega)]; exact xHalf_apply A 0 0 rfl hc p r k i (by rw [hi, hk, he])
    · have he : J.val % 2 = 1 := by omega
      rw [if_neg (by omega)]; exact xHalf_apply A 1 1 rfl hc p r k i (by rw [hi, hk, he])
  by_cases h : J.val % 256 < 128
  · rw [if_pos h, mix0_apply _ _ r l k (by omega)]
    exact key
  · rw [if_neg h, mix1_apply _ _ r l k (by omega)]
    exact key

/-- Column `j` of the left operand of pass `p` of trip `c`. -/
theorem lhs_apply {c : ℕ} (hc : c < 9) (p : Fin 12) (r : Fin 128) (j : Fin 256) (i : Fin 27648)
    (hi : i.val = j.val % 2 * 13824 + (c * 1536 + 128 * p.val + j.val / 2)) :
    lhsOf (xV A c hc p) (ix2 r j) = A.x (ix2 r i) := by
  have hp := p.isLt
  have hj := j.isLt
  obtain ⟨J, hJ⟩ : ∃ J : Fin 3072, J.val = 256 * p.val + j.val := ⟨⟨256 * p.val + j.val, by omega⟩, rfl⟩
  unfold lhsOf k0_pay227
  refine (shapeCast_1ab_ab_apply _ _ r j).trans ?_
  refine Eq.trans (b := XP A (ix3 (⟨c, hc⟩ : Fin 9) r J)) (congrArg (XP A) (funext fun a => ?_)) ?_
  · fin_cases a
    · exact Fin.ext (by show c + 1 * 0 = c; omega)
    · exact Fin.ext (by show 0 + 1 * r.val = r.val; omega)
    · exact Fin.ext (by show 256 * p.val + 1 * j.val = J.val; omega)
  have e1 : J.val % 2 = j.val % 2 := by omega
  have e2 : J.val % 256 = j.val := by omega
  exact xp_apply A hc p r J (by omega) i (by rw [hi, e1, e2])

end Cert.KernelIdeal.Hand
end
-- ==== Proof.Ideal.Tile.lean ====
/-
  The right operand of a pass, element by element: the signed nibbles of the packed weights times their scales.
-/
module

public import proofs.«01_k».proof.Proof.Ideal.Lhs
public import Idealize.ShloMosaic.Lib.BitcastFour
public import Idealize.ShloMosaic.Lib.BitcastPair

@[expose] public section

noncomputable section

namespace Cert.KernelIdeal.Hand

open Cert.KernelIdeal Cert.KernelIdeal.Gen
open Idealize.ShloMosaic hiding ix0 ix1 ix2 ix3 ix4 ix5
open Idealize.ShloMosaic.TcCoe Idealize.ShloMosaic.ValueIdx
open Idealize.SL.Sem

variable (A : In Ideal)

/-! ## The nibbles -/

/-- The integer a nibble of a packed byte stands for: `0` the low nibble, `1` the high. -/
def nib (k : ℕ) (b : BitVec 8) : ℤ := (if k = 0 then (b.toNat % 16 : ℤ) else (b.toNat / 16 : ℤ)) - 8

/-- The two nibbles of a byte, sign-extended, in the halves of a word. -/
def nibWord (b : BitVec 8) : BitVec 32 :=
  IntOp.ori (IntOp.andi (IntOp.shrsi .vector (IntOp.shli .vector (b.signExtend 32) 28#32) 28#32) 65535#32)
    (IntOp.shli .vector (IntOp.shrsi .vector (b.signExtend 32) 4#32) 16#32)

theorem nibWord_lo : ∀ b : BitVec 8, ((nibWord (b ^^^ 136#8)).extractLsb' 0 16).toInt = nib 0 b := by
  have H : ∀ n : Fin 256, ((nibWord (BitVec.ofFin n ^^^ 136#8)).extractLsb' 0 16).toInt = nib 0 (BitVec.ofFin (w := 8) n) := by decide +kernel
  exact fun b => H b.toFin
theorem nibWord_hi : ∀ b : BitVec 8, ((nibWord (b ^^^ 136#8)).extractLsb' 16 16).toInt = nib 1 b := by
  have H : ∀ n : Fin 256, ((nibWord (BitVec.ofFin n ^^^ 136#8)).extractLsb' 16 16).toInt = nib 1 (BitVec.ofFin (w := 8) n) := by decide +kernel
  exact fun b => H b.toFin

/-- Words read as bytes: byte row `a` is in word row `a / 4`. -/
theorem bitcast_32_8_getLsbD {R r n : ℕ} (x : (⟨2, ![r, n]⟩ : Shape).Idx → BitVec 32)
    (h : (⟨2, ![r, n]⟩ : Shape).Bitcasts 32 ⟨2, ![R, n]⟩ 8) (a : Fin R) (l : Fin n) (q : ℕ) (hq : q < 8) (p : Fin r) (hp : p.val = a.val / 4) :
    (bitcast ⟨2, ![R, n]⟩ 8 x h (ix2 a l)).getLsbD q = (x (ix2 p l)).getLsbD (8 * (a.val % 4) + q) := by
  rw [bitcast_getLsbD x h _ q hq (by decide)]
  have er : (⟨2, ![R, n]⟩ : Shape).row (ix2 a l) = a.val := rfl
  have e1 : ((⟨2, ![R, n]⟩ : Shape).row (ix2 a l) * 8 + q) / 32 = p.val := by rw [er]; omega
  have e2 : ((⟨2, ![R, n]⟩ : Shape).row (ix2 a l) * 8 + q) % 32 = 8 * (a.val % 4) + q := by rw [er]; omega
  rw [e2]
  congr 2
  funext c
  match c with
  | ⟨0, _⟩ => exact Fin.ext ((h.srcIdx_row _ _ _ ⟨0, Nat.zero_lt_two⟩ rfl).trans e1)
  | ⟨1, _⟩ => exact Fin.ext (h.srcIdx_other _ _ _ ⟨1, Nat.one_lt_two⟩ (by show ¬ 1 + 2 = 2; omega))

theorem flip_bit : ∀ q : Fin 8, ∀ k : Fin 4, (2290649224#32 : BitVec 32).getLsbD (8 * k.val + q.val) = (136#8 : BitVec 8).getLsbD q.val := by decide +kernel

/-- Bytes read as words, each word's sign bits flipped, read as bytes again: each byte's two sign bits are flipped. -/
theorem flip_bytes {R r n : ℕ} (x : (⟨2, ![R, n]⟩ : Shape).Idx → BitVec 8) (h : (⟨2, ![R, n]⟩ : Shape).Bitcasts 8 ⟨2, ![r, n]⟩ 32)
    (h' : (⟨2, ![r, n]⟩ : Shape).Bitcasts 32 ⟨2, ![R, n]⟩ 8) (a : Fin R) (l : Fin n) (p : Fin r) (hp : p.val = a.val / 4) :
    bitcast ⟨2, ![R, n]⟩ 8 (xori (bitcast ⟨2, ![r, n]⟩ 32 x h) (broadcast ⟨2, ![r, n]⟩ 2290649224#32)) h' (ix2 a l) = x (ix2 a l) ^^^ 136#8 := by
  apply BitVec.eq_of_getLsbD_eq
  intro q hq
  rw [bitcast_32_8_getLsbD _ h' a l q hq p hp, BitVec.getLsbD_xor, ← flip_bit ⟨q, hq⟩ ⟨a.val % 4, by omega⟩]
  show BitVec.getLsbD (bitcast ⟨2, ![r, n]⟩ 32 x h (ix2 p l) ^^^ 2290649224#32) _ = _
  rw [BitVec.getLsbD_xor, bitcast_8_32_getLsbD_ix2 x h p l (8 * (a.val % 4) + q) (by omega) a (by omega)]
  have e : (8 * (a.val % 4) + q) % 8 = q := by omega
  rw [e]

/-- Words read as pairs of half words. -/
theorem bitcast_32_16_ix2 {R r n : ℕ} (x : (⟨2, ![r, n]⟩ : Shape).Idx → BitVec 32)
    (h : (⟨2, ![r, n]⟩ : Shape).Bitcasts 32 ⟨2, ![R, n]⟩ 16) (a : Fin R) (l : Fin n) (p : Fin r) (hp : p.val = a.val / 2) :
    bitcast ⟨2, ![R, n]⟩ 16 x h (ix2 a l) = (x (ix2 p l)).extractLsb' (16 * (a.val % 2)) 16 := by
  rw [bitcast_32_16]
  have er : (⟨2, ![R, n]⟩ : Shape).row (ix2 a l) = a.val := rfl
  congr 2
  funext c
  match c with
  | ⟨0, _⟩ => exact Fin.ext ((h.srcIdx_row _ _ _ ⟨0, Nat.zero_lt_two⟩ rfl).trans hp.symm)
  | ⟨1, _⟩ => exact Fin.ext (h.srcIdx_other _ _ _ ⟨1, Nat.one_lt_two⟩ (by show ¬ 1 + 2 = 2; omega))

/-! ## The scale pairs -/

/-- Two rows interleaved and the row of one parity read back. -/
theorem pairRow (lo hi : FVec Ideal S1x256 .bf16) (h : S2x256.Bitcasts 16 S1x256 32) (c : Fin 256) :
    interleaveRows S2x256 lo hi h (ix2 (0 : Fin 2) c) = lo (ix2 (0 : Fin 1) c) ∧ interleaveRows S2x256 lo hi h (ix2 (1 : Fin 2) c) = hi (ix2 (0 : Fin 1) c) := by
  constructor
  · rw [interleaveRows_apply, if_pos (by rfl)]
    exact congrArg _ (funext fun a => match a with | ⟨0, _⟩ => Subsingleton.elim (α := Fin 1) _ _ | ⟨1, _⟩ => rfl)
  · rw [interleaveRows_apply, if_neg (by show ¬ (1 % 2 = 0); decide)]
    exact congrArg _ (funext fun a => match a with | ⟨0, _⟩ => Subsingleton.elim (α := Fin 1) _ _ | ⟨1, _⟩ => rfl)

/-- A row of one parity of a pair of rows. -/
theorem rowOf (k : Fin 2) (s : Vec Ideal S1x1x1x2x256 .bf16) (h) (h1 : S1x1x1x1x256.ShapeCasts S1x1x1x256) (h2 : S1x1x1x256.ShapeCasts S1x256) (c : Fin 256) :
    shapeCast S1x256 (shapeCast S1x1x1x256 (rowsOfParity k S1x1x1x1x256 s h) h1) h2 (ix2 (0 : Fin 1) c)
      = s (ix5 (0 : Fin 1) (0 : Fin 1) (0 : Fin 1) k c) := by
  rw [shapeCast_comp]
  refine (shapeCast_apply _ _ (ix2 (0 : Fin 1) c) (ix5 (0 : Fin 1) (0 : Fin 1) (0 : Fin 1) (0 : Fin 1) c) (by
    rw [Shape.rowMajor_val_five, Shape.rowMajor_val_two]; show (((0 * 1 + 0) * 1 + 0) * 1 + 0) * 256 + c.val = 0 * 256 + c.val; omega)).trans ?_
  rw [rowsOfParity_apply]
  congr 1; funext a; fin_cases a
  · rfl
  · rfl
  · rfl
  · exact Fin.ext (by show 2 * 0 + k.val = k.val; omega)
  · rfl

theorem evenRow : ∀ l : Fin 256, IntOp.cmpi .eq (IntOp.andi (BitVec.ofNat 32 l.val) 1#32) 0#32 = if l.val % 2 = 0 then 1#1 else 0#1 := by decide +kernel

/-- The row number at a row. -/
theorem rows_apply (j c : Fin 256) : iota .tc S256x256 32 [0] iota_S256x256_d0_w32 (ix2 j c) = BitVec.ofNat 32 j.val := iota_single_apply _ _ _ _ _ _

theorem bcast_row (x : S1x256.Idx → EReal) (h : S1x256.Broadcasts S256x256) (j c : Fin 256) : broadcastTo S256x256 x h (ix2 j c) = x (ix2 (0 : Fin 1) c) :=
  broadcastTo_apply x h _ _ fun a => match a with | ⟨0, _⟩ => rfl | ⟨1, _⟩ => rfl
theorem slice0 (x : S2x256.Idx → EReal) (h : S2x256.Slices ![0, 0] S1x256) (c : Fin 256) : extractStridedSlice S1x256 ![0, 0] x h (ix2 (0 : Fin 1) c) = x (ix2 (0 : Fin 2) c) :=
  congrArg x (funext fun a => match a with | ⟨0, _⟩ => rfl | ⟨1, _⟩ => Fin.ext (Nat.zero_add _))
theorem slice1 (x : S2x256.Idx → EReal) (h : S2x256.Slices ![1, 0] S1x256) (c : Fin 256) : extractStridedSlice S1x256 ![1, 0] x h (ix2 (0 : Fin 1) c) = x (ix2 (1 : Fin 2) c) :=
  congrArg x (funext fun a => match a with | ⟨0, _⟩ => rfl | ⟨1, _⟩ => Fin.ext (Nat.zero_add _))

/-! ## The tile -/

theorem tile_apply (w : Vec Ideal S1x1x128x256 .i8) (s : Vec Ideal S1x1x1x2x256 .bf16) (j c : Fin 256) (i : Fin 128) (k : Fin 2)
    (hi : i.val = j.val / 2) (hk : k.val = j.val % 2) :
    tileOf (F := Ideal) w s (ix2 j c) = (((nib k.val (w (ix4 (0 : Fin 1) (0 : Fin 1) i c)) : ℤ) : ℝ) : EReal) * s (ix5 (0 : Fin 1) (0 : Fin 1) (0 : Fin 1) k c) := by
  have hscale : (if j.val % 2 = 0 then s (ix5 (0 : Fin 1) (0 : Fin 1) (0 : Fin 1) (0 : Fin 2) c) else s (ix5 (0 : Fin 1) (0 : Fin 1) (0 : Fin 1) (1 : Fin 2) c))
      = s (ix5 (0 : Fin 1) (0 : Fin 1) (0 : Fin 1) k c) := by
    by_cases he : j.val % 2 = 0
    · rw [if_pos he]; obtain rfl : k = 0 := Fin.ext (hk.trans he); rfl
    · rw [if_neg he]; obtain rfl : k = 1 := Fin.ext (hk.trans (by show j.val % 2 = 1; omega)); rfl
  unfold tileOf k0_pay228
  rw [mulf_apply]
  refine congrArg₂ (· * ·) ?_ ?_
  · refine (congrArg (fun b : BitVec 16 => (((b.toInt : ℤ) : ℝ) : EReal)) (bitcast_32_16_ix2 _ bitcasts_S128x256_w32_S256x256_w16 j c i hi)).trans ?_
    show (((BitVec.toInt (BitVec.extractLsb' (16 * (j.val % 2)) 16 (nibWord (bitcast S128x256 8 (xori (bitcast S32x256 32 (shapeCast S128x256 w shapeCasts_S1x1x128x256_S128x256)
      bitcasts_S128x256_w8_S32x256_w32) (broadcast S32x256 2290649224#32)) bitcasts_S32x256_w32_S128x256_w8 (ix2 i c)))) : ℤ) : ℝ) : EReal) = _
    have fl := (flip_bytes (shapeCast S128x256 w shapeCasts_S1x1x128x256_S128x256) bitcasts_S128x256_w8_S32x256_w32 bitcasts_S32x256_w32_S128x256_w8 i c
      ⟨i.val / 4, by have := i.isLt; omega⟩ rfl).trans (congrArg (· ^^^ 136#8) (cast_11ab w shapeCasts_S1x1x128x256_S128x256 i c))
    refine (congrArg (fun b : BitVec 8 => (((BitVec.toInt (BitVec.extractLsb' (16 * (j.val % 2)) 16 (nibWord b)) : ℤ) : ℝ) : EReal)) fl).trans ?_
    congr 2
    by_cases he : j.val % 2 = 0
    · rw [hk, he]; exact nibWord_lo _
    · rw [hk, show j.val % 2 = 1 by omega]; exact nibWord_hi _
  · rw [← hscale, select_apply, ← select_parity, ← evenRow j, ← rows_apply j c]
    refine congrArg₂ (Scalar.select _) ?_ ?_
    · refine (bcast_row _ broadcasts_S1x256_S256x256 j c).trans ?_
      rw [shapeCast_id]
      refine (slice0 _ slices_S2x256_o0_0_S1x256 c).trans ?_
      exact (pairRow _ _ bitcasts_S2x256_w16_S1x256_w32 c).1.trans (rowOf 0 s _ _ _ c)
    · refine (bcast_row _ broadcasts_S1x256_S256x256 j c).trans ?_
      rw [shapeCast_id]
      refine (slice1 _ slices_S2x256_o1_0_S1x256 c).trans ?_
      exact (pairRow _ _ bitcasts_S2x256_w16_S1x256_w32 c).2.trans (rowOf 1 s _ _ _ c)

end Cert.KernelIdeal.Hand
end
-- ==== Proof.Ideal.Terms.lean ====
/-
  A pass, element by element, and the sum of the passes: one projection of the activations through one packed matrix.
-/
module

public import proofs.«01_k».proof.Proof.Ideal.Tile
public import Idealize.ShloMosaic.Lib.MatmulPlain

@[expose] public section

noncomputable section

namespace Cert.KernelIdeal.Hand

open Cert.KernelIdeal Cert.KernelIdeal.Gen
open Idealize.ShloMosaic hiding ix0 ix1 ix2 ix3 ix4 ix5
open Idealize.ShloMosaic.TcCoe Idealize.ShloMosaic.ValueIdx
open Idealize.SL.Sem

variable (A : In Ideal)

/-! ## The operands of a pass -/

theorem parity_rows (par : Fin 2) (x : Vec Ideal S1x1x108x512 .bf16) (h : S1x1x108x512.Bitcasts 16 S1x1x54x512 32) (w : Fin 54) (l : Fin 512) (R : Fin 108)
    (hR : R.val = 2 * w.val + par.val) : rowsOfParity par S1x1x54x512 x h (ix4 (0 : Fin 1) (0 : Fin 1) w l) = x (ix4 (0 : Fin 1) (0 : Fin 1) R l) := by
  rw [rowsOfParity_apply]
  exact congrArg x (funext fun a => match a with
    | ⟨0, _⟩ => rfl
    | ⟨1, _⟩ => rfl
    | ⟨2, _⟩ => Fin.ext hR.symm
    | ⟨3, _⟩ => rfl)

theorem addUnit (x : S1x1x54x512.Idx → EReal) (h : S1x1x54x512.ShapeCasts S1x1x54x1x512) (w : Fin 54) (l : Fin 512) :
    shapeCast S1x1x54x1x512 x h (ix5 (0 : Fin 1) (0 : Fin 1) w (0 : Fin 1) l) = x (ix4 (0 : Fin 1) (0 : Fin 1) w l) :=
  shapeCast_apply x h _ _ (by
    rw [Shape.rowMajor_val_five, Shape.rowMajor_val_four]
    show ((0 * 1 + 0) * 54 + w.val) * 512 + l.val = (((0 * 1 + 0) * 54 + w.val) * 1 + 0) * 512 + l.val
    omega)

theorem interleave5 (lo hi : S1x1x54x1x512.Idx → EReal) (h : S1x1x54x2x512.Bitcasts 16 S1x1x54x1x512 32) (w : Fin 54) (l : Fin 512) (k : Fin 2) :
    interleaveRows S1x1x54x2x512 lo hi h (ix5 (0 : Fin 1) (0 : Fin 1) w k l) = (if k.val = 0 then lo else hi) (ix5 (0 : Fin 1) (0 : Fin 1) w (0 : Fin 1) l) := by
  rw [interleaveRows_apply]
  obtain rfl | rfl : k = 0 ∨ k = 1 := by omega
  · rw [if_pos (by rfl), if_pos (by rfl)]
    exact congrArg lo (funext fun a => match a with
      | ⟨0, _⟩ => rfl | ⟨1, _⟩ => rfl | ⟨2, _⟩ => rfl | ⟨3, _⟩ => Subsingleton.elim (α := Fin 1) _ _ | ⟨4, _⟩ => rfl)
  · rw [if_neg (by show ¬ (1 % 2 = 0); decide), if_neg (by decide)]
    exact congrArg hi (funext fun a => match a with
      | ⟨0, _⟩ => rfl | ⟨1, _⟩ => rfl | ⟨2, _⟩ => rfl | ⟨3, _⟩ => Subsingleton.elim (α := Fin 1) _ _ | ⟨4, _⟩ => rfl)

theorem pair0_apply (a b : Vec Ideal S1x1x108x512 .bf16) (w : Fin 54) (k : Fin 2) (l : Fin 512) (R : Fin 108) (hR : R.val = 2 * w.val) :
    pair0 (F := Ideal) a b (ix5 (0 : Fin 1) (0 : Fin 1) w k l) = (if k.val = 0 then a else b) (ix4 (0 : Fin 1) (0 : Fin 1) R l) := by
  unfold pair0 k0_pay397
  refine (interleave5 _ _ _ w l k).trans ?_
  split
  · refine (addUnit _ _ w l).trans ?_
    rw [shapeCast_comp, shapeCast_id]
    exact parity_rows 0 a _ w l R hR
  · refine (addUnit _ _ w l).trans ?_
    rw [shapeCast_comp, shapeCast_id]
    exact parity_rows 0 b _ w l R hR

theorem pair1_apply (a b : Vec Ideal S1x1x108x512 .bf16) (w : Fin 54) (k : Fin 2) (l : Fin 512) (R : Fin 108) (hR : R.val = 2 * w.val + 1) :
    pair1 (F := Ideal) a b (ix5 (0 : Fin 1) (0 : Fin 1) w k l) = (if k.val = 0 then a else b) (ix4 (0 : Fin 1) (0 : Fin 1) R l) := by
  unfold pair1 k0_pay398
  refine (interleave5 _ _ _ w l k).trans ?_
  split
  · refine (addUnit _ _ w l).trans ?_
    rw [shapeCast_comp, shapeCast_id]
    exact parity_rows 1 a _ w l R hR
  · refine (addUnit _ _ w l).trans ?_
    rw [shapeCast_comp, shapeCast_id]
    exact parity_rows 1 b _ w l R hR

section
variable {n : ℕ} (hn : n < 5) {c : ℕ} (hc : c < 9) (g t : Fin 2) (p : Fin 12)

/-- The packed matrix `g`, -/
def matOf (g : Fin 2) : S13824x2560.Idx → BitVec 8 := if g.val = 0 then A.wg else A.wu
/-- and its scales. -/
def sclOf (g : Fin 2) : S216x2560.Idx → EReal := if g.val = 0 then A.sg else A.su

theorem sr_apply (sl : Fin 2) (R : Fin 216) (l : Fin 512) (C : Fin 2560) (hC : C.val = n * 512 + l.val) : SR A n hn (ix4 sl g R l) = sclOf A g (ix2 R C) :=
  congrArg (fun C : Fin 2560 => sclOf A g (ix2 R C)) (Fin.ext hC.symm)

theorem sLo_apply (R : Fin 108) (l : Fin 512) (R' : Fin 216) (hR : R'.val = R.val) (C : Fin 2560) (hC : C.val = n * 512 + l.val) :
    sLo A n hn g.val g.isLt (ix4 (0 : Fin 1) (0 : Fin 1) R l) = sclOf A g (ix2 R' C) := by
  refine Eq.trans (b := SR A n hn (ix4 (⟨n % 2, by omega⟩ : Fin 2) g R' l)) (congrArg (SR A n hn) (funext fun a => ?_)) (sr_apply A hn g _ R' l C hC)
  fin_cases a
  · exact Fin.ext (by show n % 2 + 1 * 0 = n % 2; omega)
  · exact Fin.ext (by show g.val + 1 * 0 = g.val; omega)
  · exact Fin.ext (by show 0 + 1 * R.val = R'.val; omega)
  · exact Fin.ext (by show 0 + 1 * l.val = l.val; omega)

theorem sHi_apply (R : Fin 108) (l : Fin 512) (R' : Fin 216) (hR : R'.val = 108 + R.val) (C : Fin 2560) (hC : C.val = n * 512 + l.val) :
    sHi A n hn g.val g.isLt (ix4 (0 : Fin 1) (0 : Fin 1) R l) = sclOf A g (ix2 R' C) := by
  refine Eq.trans (b := SR A n hn (ix4 (⟨n % 2, by omega⟩ : Fin 2) g R' l)) (congrArg (SR A n hn) (funext fun a => ?_)) (sr_apply A hn g _ R' l C hC)
  fin_cases a
  · exact Fin.ext (by show n % 2 + 1 * 0 = n % 2; omega)
  · exact Fin.ext (by show g.val + 1 * 0 = g.val; omega)
  · exact Fin.ext (by show 108 + 1 * R.val = R'.val; omega)
  · exact Fin.ext (by show 0 + 1 * l.val = l.val; omega)

theorem loHi_apply (k : Fin 2) (R : Fin 108) (l : Fin 512) (R' : Fin 216) (hR : R'.val = 108 * k.val + R.val) (C : Fin 2560) (hC : C.val = n * 512 + l.val) :
    (if k.val = 0 then sLo A n hn g.val g.isLt else sHi A n hn g.val g.isLt) (ix4 (0 : Fin 1) (0 : Fin 1) R l) = sclOf A g (ix2 R' C) := by
  split
  · exact sLo_apply A hn g R l R' (by omega) C hC
  · exact sHi_apply A hn g R l R' (by omega) C hC

/-- The scale of a pass's tile, per half and column. -/
theorem sV_apply (k : Fin 2) (l : Fin 256) (R : Fin 216) (hR : R.val = 108 * k.val + (12 * c + p.val)) (C : Fin 2560) (hC : C.val = n * 512 + 256 * t.val + l.val) :
    sV A n hn c hc g t p (ix5 (0 : Fin 1) (0 : Fin 1) (0 : Fin 1) k l) = sclOf A g (ix2 R C) := by
  have hp := p.isLt
  have ht := t.isLt
  have hl := l.isLt
  obtain ⟨w, hw⟩ : ∃ w : Fin 54, w.val = 6 * c + p.val / 2 := ⟨⟨6 * c + p.val / 2, by omega⟩, rfl⟩
  obtain ⟨L, hL⟩ : ∃ L : Fin 512, L.val = 256 * t.val + l.val := ⟨⟨256 * t.val + l.val, by omega⟩, rfl⟩
  obtain ⟨Q, hQ⟩ : ∃ Q : Fin 108, Q.val = 12 * c + p.val := ⟨⟨12 * c + p.val, by omega⟩, rfl⟩
  obtain ⟨b, hb⟩ : ∃ b : Fin 2, b.val = p.val % 2 := ⟨⟨p.val % 2, by omega⟩, rfl⟩
  refine Eq.trans (b := SP A n hn (ix5 g b w k L)) (congrArg (SP A n hn) (funext fun a => ?_)) ?_
  · fin_cases a
    · exact Fin.ext (by show g.val + 1 * 0 = g.val; omega)
    · exact Fin.ext (by show p.val % 2 + 1 * 0 = b.val; omega)
    · exact Fin.ext (by show 6 * c + p.val / 2 + 1 * 0 = w.val; omega)
    · exact Fin.ext (by show 0 + 1 * k.val = k.val; omega)
    · exact Fin.ext (by show 256 * t.val + 1 * l.val = L.val; omega)
  show (if b.val = 0 then pair0 (sLo A n hn g.val g.isLt) (sHi A n hn g.val g.isLt) (ix5 (0 : Fin 1) (0 : Fin 1) w k L)
    else pair1 (sLo A n hn g.val g.isLt) (sHi A n hn g.val g.isLt) (ix5 (0 : Fin 1) (0 : Fin 1) w k L)) = _
  split
  · exact (pair0_apply _ _ w k L Q (by omega)).trans (loHi_apply A hn g k Q L R (by omega) C (by omega))
  · exact (pair1_apply _ _ w k L Q (by omega)).trans (loHi_apply A hn g k Q L R (by omega) C (by omega))

/-- The packed bytes of a pass's tile. -/
theorem wV_apply (i : Fin 128) (l : Fin 256) (R : Fin 13824) (hR : R.val = c * 1536 + 128 * p.val + i.val) (C : Fin 2560) (hC : C.val = n * 512 + 256 * t.val + l.val) :
    wV A n hn c hc g t p (ix4 (0 : Fin 1) (0 : Fin 1) i l) = matOf A g (ix2 R C) := by
  have hp := p.isLt
  have ht := t.isLt
  have hl := l.isLt
  have hi := i.isLt
  obtain ⟨L, hL⟩ : ∃ L : Fin 512, L.val = 256 * t.val + l.val := ⟨⟨256 * t.val + l.val, by omega⟩, rfl⟩
  obtain ⟨I, hI⟩ : ∃ I : Fin 1536, I.val = 128 * p.val + i.val := ⟨⟨128 * p.val + i.val, by omega⟩, rfl⟩
  refine Eq.trans (b := WT A (9 * n + c) (by omega) (ix4 (⟨(9 * n + c) % 6, by omega⟩ : Fin 6) g I L)) (congrArg (WT A (9 * n + c) (by omega)) (funext fun a => ?_)) ?_
  · fin_cases a
    · exact Fin.ext (by show (9 * n + c) % 6 + 1 * 0 = (9 * n + c) % 6; omega)
    · exact Fin.ext (by show g.val + 1 * 0 = g.val; omega)
    · exact Fin.ext (by show 128 * p.val + 1 * i.val = I.val; omega)
    · exact Fin.ext (by show 256 * t.val + 1 * l.val = L.val; omega)
  have e1 : (9 * n + c) % 9 * 1536 + I.val = R.val := by
    have e : (9 * n + c) % 9 = c := by omega
    rw [e, hR, hI]; omega
  have e2 : (9 * n + c) / 9 * 512 + L.val = C.val := by
    have e : (9 * n + c) / 9 = n := by omega
    rw [e, hC, hL]; omega
  unfold WT matOf
  exact congrArg₂ (fun (R : Fin 13824) (C : Fin 2560) => (if g.val = 0 then A.wg else A.wu) (ix2 R C)) (Fin.ext e1) (Fin.ext e2)
end

/-! ## The projection -/

/-- One product of the projection of row `r` onto column `C`: activation `i` of half `k` times the weight it meets. -/
def prod (x : (⟨2, ![128, 27648]⟩ : Shape).Idx → EReal) (w : (⟨2, ![13824, 2560]⟩ : Shape).Idx → BitVec 8) (s : (⟨2, ![216, 2560]⟩ : Shape).Idx → EReal)
    (r : Fin 128) (C : Fin 2560) (k i : ℕ) : EReal :=
  if h : k < 2 ∧ i < 13824 then
    x (ix2 r (⟨k * 13824 + i, by omega⟩ : Fin 27648)) *
      ((((nib k (w (ix2 (⟨i, h.2⟩ : Fin 13824) C)) : ℤ) : ℝ) : EReal) * s (ix2 (⟨108 * k + i / 128, by omega⟩ : Fin 216) C))
  else 0

/-- The projection of row `r` onto column `C`: the low nibbles meet the first half of the activations, the high nibbles the second. -/
def proj (x : (⟨2, ![128, 27648]⟩ : Shape).Idx → EReal) (w : (⟨2, ![13824, 2560]⟩ : Shape).Idx → BitVec 8) (s : (⟨2, ![216, 2560]⟩ : Shape).Idx → EReal)
    (r : Fin 128) (C : Fin 2560) : EReal :=
  (∑ i ∈ Finset.range 13824, prod x w s r C 0 i) + ∑ i ∈ Finset.range 13824, prod x w s r C 1 i

theorem sum_pairs (f : ℕ → ℕ → EReal) (b m : ℕ) :
    ∑ j ∈ Finset.range (2 * m), f (j % 2) (b + j / 2) = (∑ i ∈ Finset.range m, f 0 (b + i)) + ∑ i ∈ Finset.range m, f 1 (b + i) := by
  induction m with
  | zero => simp
  | succ m ih =>
    rw [show 2 * (m + 1) = 2 * m + 1 + 1 by omega, Finset.sum_range_succ, Finset.sum_range_succ, ih, Finset.sum_range_succ, Finset.sum_range_succ,
      show 2 * m % 2 = 0 by omega, show 2 * m / 2 = m by omega, show (2 * m + 1) % 2 = 1 by omega, show (2 * m + 1) / 2 = m by omega]
    abel

theorem sum_groups (f : ℕ → ℕ → EReal) (N : ℕ) :
    ∑ q ∈ Finset.range N, ∑ j ∈ Finset.range 256, f (j % 2) (128 * q + j / 2) = (∑ i ∈ Finset.range (128 * N), f 0 i) + ∑ i ∈ Finset.range (128 * N), f 1 i := by
  induction N with
  | zero => simp
  | succ N ih =>
    rw [Finset.sum_range_succ, ih, show 128 * (N + 1) = 128 * N + 128 by omega, Finset.sum_range_add, Finset.sum_range_add, sum_pairs f (128 * N) 128]
    abel

/-- A pass of the matrix unit. -/
theorem pass_apply (lhs : FVec Ideal S128x256 .bf16) (rhs : FVec Ideal S256x256 .bf16) (r : Fin 128) (c : Fin 256) :
    (FloatOps.mxuPass (DotDims.plain 128 256 256) lhs rhs : FVec Ideal S128x256 .f32) (ix2 r c) = ∑ k : Fin 256, lhs (ix2 r k) * rhs (ix2 k c) := by
  refine Eq.trans ?_ ((Ideal.matmul_plain_apply (M := 128) (K := 256) (N := 256) none lhs rhs (fun _ => 0) r c).trans (zero_add _))
  rw [Ideal.matmul_apply]
  exact (zero_add _).symm

section
variable {n : ℕ} (hn : n < 5) (g t : Fin 2) (r : Fin 128) (l : Fin 256) (C : Fin 2560) (hC : C.val = n * 512 + 256 * t.val + l.val)
include hC

/-- The terms of one pass. -/
theorem term_apply {c : ℕ} (hc : c < 9) (p : Fin 12) : term A n hn g t c hc p (ix2 r l)
    = ∑ j ∈ Finset.range 256, prod A.x (matOf A g) (sclOf A g) r C (j % 2) (128 * (12 * c + p.val) + j / 2) := by
  unfold term
  rw [pass_apply, ← Fin.sum_univ_eq_sum_range (fun j => prod A.x (matOf A g) (sclOf A g) r C (j % 2) (128 * (12 * c + p.val) + j / 2)) 256]
  refine Finset.sum_congr rfl fun j _ => ?_
  have hp := p.isLt
  have hj := j.isLt
  have hb : j.val % 2 < 2 ∧ 128 * (12 * c + p.val) + j.val / 2 < 13824 := by omega
  unfold prod
  rw [dif_pos hb, lhs_apply A hc p r j ⟨j.val % 2 * 13824 + (128 * (12 * c + p.val) + j.val / 2), by omega⟩ (by
      show j.val % 2 * 13824 + (128 * (12 * c + p.val) + j.val / 2) = j.val % 2 * 13824 + (c * 1536 + 128 * p.val + j.val / 2); omega),
    tile_apply _ _ j l ⟨j.val / 2, by omega⟩ ⟨j.val % 2, by omega⟩ rfl rfl,
    wV_apply A hn hc g t p _ l ⟨128 * (12 * c + p.val) + j.val / 2, hb.2⟩ (by show 128 * (12 * c + p.val) + j.val / 2 = c * 1536 + 128 * p.val + j.val / 2; omega) C hC,
    sV_apply A hn hc g t p _ l ⟨108 * (j.val % 2) + (128 * (12 * c + p.val) + j.val / 2) / 128, by omega⟩ (by
      show 108 * (j.val % 2) + (128 * (12 * c + p.val) + j.val / 2) / 128 = 108 * (j.val % 2) + (12 * c + p.val); omega) C hC]

theorem termAt_apply (q : ℕ) (hq : q < 108) : termAt A n hn g t q (ix2 r l)
    = ∑ j ∈ Finset.range 256, prod A.x (matOf A g) (sclOf A g) r C (j % 2) (128 * q + j / 2) := by
  unfold termAt
  rw [dif_pos hq, term_apply A hn g t r l C hC]
  have e : 12 * (q / 12) + (⟨q % 12, by omega⟩ : Fin 12).val = q := by show 12 * (q / 12) + q % 12 = q; omega
  rw [e]

theorem accV_apply (k : ℕ) (hk : k < 108) : accV A n hn g t k (ix2 r l)
    = ∑ q ∈ Finset.range (k + 1), ∑ j ∈ Finset.range 256, prod A.x (matOf A g) (sclOf A g) r C (j % 2) (128 * q + j / 2) := by
  induction k with
  | zero => rw [Finset.sum_range_one]; exact termAt_apply A hn g t r l C hC 0 hk
  | succ k ih =>
    rw [Finset.sum_range_succ, ← ih (by omega), ← termAt_apply A hn g t r l C hC (k + 1) hk]
    rfl

/-- The finished sums are the projection. -/
theorem acc_proj : accV A n hn g t 107 (ix2 r l) = proj A.x (matOf A g) (sclOf A g) r C := by
  rw [accV_apply A hn g t r l C hC 107 (by decide), sum_groups]
  rfl
end

/-! ## The result -/

/-- The gated product of two projections. -/
def gated (g u : EReal) : EReal := g * Ideal.logistic g * u

theorem act_apply (g u : FVec Ideal S128x256 .f32) (r : Fin 128) (l : Fin 256) : act (F := Ideal) g u (ix3 (0 : Fin 1) r l) = gated (g (ix2 r l)) (u (ix2 r l)) := by
  unfold act k0_pay400
  exact shapeCast_ab_1ab_apply _ _ (0 : Fin 1) r l

/-- **The kernel's result**, element by element. -/
theorem ot_apply (r : Fin 128) (C : Fin 2560) : OT A (ix2 r C) = gated (proj A.x A.wg A.sg r C) (proj A.x A.wu A.su r C) := by
  have hC := C.isLt
  have hn : C.val / 512 < 5 := by omega
  obtain ⟨t, ht⟩ : ∃ t : Fin 2, t.val = C.val % 512 / 256 := ⟨⟨C.val % 512 / 256, by omega⟩, rfl⟩
  obtain ⟨l, hl⟩ : ∃ l : Fin 256, l.val = C.val % 256 := ⟨⟨C.val % 256, by omega⟩, rfl⟩
  have e : C.val = C.val / 512 * 512 + 256 * t.val + l.val := by omega
  have et : (⟨C.val % 512 / 256, by omega⟩ : Fin 2) = t := Fin.ext ht.symm
  have el : (⟨C.val % 256, Nat.mod_lt _ (by decide)⟩ : Fin 256) = l := Fin.ext hl.symm
  show outV A (C.val / 512) hn ⟨C.val % 512 / 256, by omega⟩ (ix3 (0 : Fin 1) r (⟨C.val % 256, Nat.mod_lt _ (by decide)⟩ : Fin 256)) = _
  rw [et, el]
  unfold outV
  rw [act_apply, acc_proj A hn 0 t r l C e, acc_proj A hn 1 t r l C e]
  rfl

end Cert.KernelIdeal.Hand
end
-- ==== Proof.Ideal.Refer.lean ====
/-
  The reference's result, element by element.
-/
module

public import proofs.«01_k».proof.Proof.Ideal.Terms
public import proofs.«01_k».proof.Proof.Gen.ReferenceIdeal.Run
public import Idealize.ShloMosaic.Lib.StackMember
public import Idealize.ShloMosaic.Lib.IdealHost

@[expose] public section

noncomputable section

namespace Cert.ReferenceIdeal.Hand

open Cert.ReferenceIdeal Cert.ReferenceIdeal.Gen Cert.KernelIdeal.Hand
open Idealize.ShloMosaic hiding ix0 ix1 ix2 ix3 ix4 ix5
open Idealize.ShloMosaic.TcCoe Idealize.ShloMosaic.ValueIdx
open Idealize.SL.Sem
open Cert.ReferenceIdeal.Value (res_main_v59)

/-! ## The weights -/

/-- The nibbles as floats: the low ones, -/
def nibs0 (w : S13824x2560.Idx → BitVec 8) : FVec Ideal S13824x2560 .bf16 :=
  subf (sitofp .bf16 (andi (extui 32 w natLt_8_32) (broadcastInDim S13824x2560 ![] bcast_S_S13824x2560 (constantI S_ 32 15#32)))) (broadcastInDim S13824x2560 ![] bcast_S_S13824x2560 (constant S_ .bf16 0x4100#16))
/-- the high ones. -/
def nibs1 (w : S13824x2560.Idx → BitVec 8) : FVec Ideal S13824x2560 .bf16 :=
  subf (sitofp .bf16 (Host.shrsi (extui 32 w natLt_8_32) (broadcastInDim S13824x2560 ![] bcast_S_S13824x2560 (constantI S_ 32 4#32)))) (broadcastInDim S13824x2560 ![] bcast_S_S13824x2560 (constant S_ .bf16 0x4100#16))

/-- Nibbles times the scales of their groups. -/
def scaled (a : FVec Ideal S13824x2560 .bf16) (s : FVec Ideal S108x2560 .bf16) : FVec Ideal S13824x2560 .bf16 :=
  shapeCast _ (mulf (shapeCast _ a shapeCasts_S13824x2560_S108x128x2560) (broadcastInDim S108x128x2560 ![0, 1, 2] bcast_S108x1x2560_S108x128x2560_0_1_2 (broadcastInDim S108x1x2560 ![0, 2] bcast_S108x2560_S108x1x2560_0_2 s))) shapeCasts_S108x128x2560_S13824x2560

/-- A projection, as the reference writes it. -/
def projV (x : FVec Ideal S128x27648 .bf16) (w : S13824x2560.Idx → BitVec 8) (s : FVec Ideal S216x2560 .bf16) : FVec Ideal S128x2560 .f32 :=
  addf (Host.dotGeneral dot_S128x13824_S13824x2560_S128x2560_1_0_0_1_n_n none (extractStridedSlice S128x13824 ![0, 0] x slices_S128x27648_S128x13824_0_0)
      (scaled (nibs0 w) (extractStridedSlice S108x2560 ![0, 0] s slices_S216x2560_S108x2560_0_0)))
    (Host.dotGeneral dot_S128x13824_S13824x2560_S128x2560_1_0_0_1_n_n none (extractStridedSlice S128x13824 ![0, 13824] x slices_S128x27648_S128x13824_0_13824)
      (scaled (nibs1 w) (extractStridedSlice S108x2560 ![108, 0] s slices_S216x2560_S108x2560_108_0)))

/-- The gated product, as the reference writes it. -/
def gatedV (G U : FVec Ideal S128x2560 .f32) : FVec Ideal S128x2560 .bf16 :=
  truncf .bf16 (mulf (mulf G (Host.divf (broadcastInDim S128x2560 ![] bcast_S_S128x2560 (constant S_ .f32 0x3F800000#32)) (addf (broadcastInDim S128x2560 ![] bcast_S_S128x2560 (constant S_ .f32 0x3F800000#32)) (Host.exp (Host.negf G))))) U) bitsLt_bf16_f32

set_option maxRecDepth 8192 in
theorem res_eq (m : (ℓ : Loc nD τ sig) → Buf (Elt Ideal) ℓ) (c : Dev nD) : res_main_v59 (F := Ideal) m c =
    gatedV (projV (shapeCast _ (m ((c.tc : Thread nD τ).loc main_arg0)) shapeCasts_S128x1x27648_S128x27648) (m ((c.tc : Thread nD τ).loc main_arg1)) (m ((c.tc : Thread nD τ).loc main_arg2)))
      (projV (shapeCast _ (m ((c.tc : Thread nD τ).loc main_arg0)) shapeCasts_S128x1x27648_S128x27648) (m ((c.tc : Thread nD τ).loc main_arg3)) (m ((c.tc : Thread nD τ).loc main_arg4))) := rfl

/-! ## Read at an index -/

theorem ofBits_eight : Ideal.ofBits .bf16 0x4100#16 = ((8 : ℝ) : EReal) := by
  simp [Ideal.ofBits, Ideal.ieee, -EReal.coe_mul]; norm_num

theorem low_nib : ∀ b : BitVec 8, ((IntOp.andi (b.setWidth 32) 15#32).toInt : ℤ) - 8 = nib 0 b := by
  have H : ∀ n : Fin 256, ((IntOp.andi ((BitVec.ofFin (w := 8) n).setWidth 32) 15#32).toInt : ℤ) - 8 = nib 0 (BitVec.ofFin (w := 8) n) := by decide +kernel
  exact fun b => H b.toFin
theorem high_nib : ∀ b : BitVec 8, ((IntOp.shrsi .host (b.setWidth 32) 4#32).toInt : ℤ) - 8 = nib 1 b := by
  have H : ∀ n : Fin 256, ((IntOp.shrsi .host ((BitVec.ofFin (w := 8) n).setWidth 32) 4#32).toInt : ℤ) - 8 = nib 1 (BitVec.ofFin (w := 8) n) := by decide +kernel
  exact fun b => H b.toFin

theorem sub_eight (z y : ℤ) (h : z - 8 = y) : (((z : ℝ) : EReal)) - Ideal.ofBits .bf16 0x4100#16 = (((y : ℤ) : ℝ) : EReal) := by
  rw [ofBits_eight, ← h, ← EReal.coe_sub]; push_cast; rfl

theorem nibs0_apply (w : S13824x2560.Idx → BitVec 8) (j : S13824x2560.Idx) : nibs0 w j = (((nib 0 (w j) : ℤ) : ℝ) : EReal) := sub_eight _ _ (low_nib (w j))
theorem nibs1_apply (w : S13824x2560.Idx → BitVec 8) (j : S13824x2560.Idx) : nibs1 w j = (((nib 1 (w j) : ℤ) : ℝ) : EReal) := sub_eight _ _ (high_nib (w j))

theorem scaled_apply (a : FVec Ideal S13824x2560 .bf16) (s : FVec Ideal S108x2560 .bf16) (i : Fin 13824) (C : Fin 2560) (q : Fin 108) (hq : q.val = i.val / 128) :
    scaled a s (ix2 i C) = a (ix2 i C) * s (ix2 q C) := by
  have hi := i.isLt
  obtain ⟨l, hl⟩ : ∃ l : Fin 128, l.val = i.val % 128 := ⟨⟨i.val % 128, by omega⟩, rfl⟩
  have e : (S108x128x2560.rowMajor (ix3 q l C)).val = (S13824x2560.rowMajor (ix2 i C)).val := by
    rw [Shape.rowMajor_val_three, Shape.rowMajor_val_two]
    show (q.val * 128 + l.val) * 2560 + C.val = i.val * 2560 + C.val
    have : q.val * 128 + l.val = i.val := by omega
    rw [this]
  unfold scaled
  refine (shapeCast_apply _ _ (ix2 i C) (ix3 q l C) e).trans ?_
  rw [mulf_apply]
  refine congrArg₂ (· * ·) (shapeCast_apply _ _ (ix3 q l C) (ix2 i C) e.symm) ?_
  show s _ = _
  exact congrArg s (funext fun b => match b with | ⟨0, _⟩ => rfl | ⟨1, _⟩ => rfl)

theorem dot_apply (x : FVec Ideal S128x13824 .bf16) (w : FVec Ideal S13824x2560 .bf16) (r : Fin 128) (C : Fin 2560) :
    Host.dotGeneral (F := Ideal) dot_S128x13824_S13824x2560_S128x2560_1_0_0_1_n_n none x w (ix2 r C) = ∑ i : Fin 13824, x (ix2 r i) * w (ix2 i C) :=
  StackMember.dotGeneral_plain_apply (m := 128) (k := 13824) (n := 2560) none x w r C

theorem projV_apply (x : FVec Ideal S128x27648 .bf16) (w : S13824x2560.Idx → BitVec 8) (s : FVec Ideal S216x2560 .bf16) (r : Fin 128) (C : Fin 2560) :
    projV x w s (ix2 r C) = proj x w s r C := by
  unfold projV proj
  rw [addf_apply, dot_apply, dot_apply, ← Fin.sum_univ_eq_sum_range (fun i => prod x w s r C 0 i) 13824, ← Fin.sum_univ_eq_sum_range (fun i => prod x w s r C 1 i) 13824]
  refine congrArg₂ (· + ·) (Finset.sum_congr rfl fun i _ => ?_) (Finset.sum_congr rfl fun i _ => ?_)
  · have hi := i.isLt
    unfold prod
    rw [dif_pos ⟨by decide, i.isLt⟩, scaled_apply _ _ i C ⟨i.val / 128, by omega⟩ rfl, nibs0_apply]
    refine congrArg₂ (· * ·) (congrArg x (funext fun b => ?_)) (congrArg₂ (· * ·) rfl (congrArg s (funext fun b => ?_)))
    · match b with
      | ⟨0, _⟩ => exact Fin.ext (by show 0 + r.val = r.val; omega)
      | ⟨1, _⟩ => exact Fin.ext (by show 0 + i.val = 0 * 13824 + i.val; omega)
    · match b with
      | ⟨0, _⟩ => exact Fin.ext (by show 0 + i.val / 128 = 108 * 0 + i.val / 128; omega)
      | ⟨1, _⟩ => exact Fin.ext (by show 0 + C.val = C.val; omega)
  · have hi := i.isLt
    unfold prod
    rw [dif_pos ⟨by decide, i.isLt⟩, scaled_apply _ _ i C ⟨i.val / 128, by omega⟩ rfl, nibs1_apply]
    refine congrArg₂ (· * ·) (congrArg x (funext fun b => ?_)) (congrArg₂ (· * ·) rfl (congrArg s (funext fun b => ?_)))
    · match b with
      | ⟨0, _⟩ => exact Fin.ext (by show 0 + r.val = r.val; omega)
      | ⟨1, _⟩ => exact Fin.ext (by show 13824 + i.val = 1 * 13824 + i.val; omega)
    · match b with
      | ⟨0, _⟩ => exact Fin.ext (by show 108 + i.val / 128 = 108 * 1 + i.val / 128; omega)
      | ⟨1, _⟩ => exact Fin.ext (by show 0 + C.val = C.val; omega)

theorem gatedV_apply (G U : FVec Ideal S128x2560 .f32) (j : S128x2560.Idx) : gatedV G U j = gated (G j) (U j) := by
  show G j * Ideal.div (Ideal.ofBits .f32 0x3F800000#32) (Ideal.ofBits .f32 0x3F800000#32 + Ideal.exp (-(G j))) * U j = _
  rw [Ideal.ofBits_one_f32]
  rfl

/-- **The reference's result** is the kernel's, of the same arrays. -/
theorem res_ot (A : In Ideal) : gatedV (projV A.x A.wg A.sg) (projV A.x A.wu A.su) = OT A := by
  funext j
  obtain ⟨r, hr⟩ : ∃ r : Fin 128, r = j 0 := ⟨_, rfl⟩
  obtain ⟨C, hC⟩ : ∃ C : Fin 2560, C = j 1 := ⟨_, rfl⟩
  obtain rfl : j = ix2 r C := funext fun a => match a with | ⟨0, _⟩ => hr.symm | ⟨1, _⟩ => hC.symm
  rw [gatedV_apply, projV_apply, projV_apply]
  exact (ot_apply A r C).symm

end Cert.ReferenceIdeal.Hand
end
-- ==== Proof.lean ====
/-
  The proof of the certificate's claim: the runs of the two kernels and of the reference, the rewrites that led from
  the first kernel to the second, and the equation between the second and the reference.
-/
module

public import proofs.«01_k».proof.Defs
public import proofs.«01_k».proof.Proof.Gen.ReferenceIdeal.Run
public import proofs.«01_k».proof.Proof.Bits.Run
public import proofs.«01_k».proof.Proof.Ideal.Run
public import proofs.«01_k».proof.Proof.Ideal.Refer
public import Idealize.ShloMosaic.Lib.Bf16PairInverse

@[expose] public section

noncomputable section

open Idealize.ShloMosaic Idealize.SL.Sem

namespace Cert.Proof

/-- The kernel ends with its arguments unchanged and every counter at zero. -/
theorem frame_p : Cert.quiescent_Kernel := fun m ρ _ =>
  (θ_run Cert.Kernel.defs _ _).mono (fun _ h => ⟨fun c => ⟨(h.1 c).1, (h.1 c).2.1, (h.1 c).2.2.1, (h.1 c).2.2.2.1, (h.1 c).2.2.2.2.1⟩, h.2⟩)
    (Cert.Kernel.Hand.run_main (F := Bits) m ρ)

/-- So does its idealization. -/
theorem frame_pi : Cert.quiescent_KernelIdeal := fun m ρ _ =>
  (θ_run Cert.KernelIdeal.defs _ _).mono (fun _ h => ⟨fun c => ⟨(h.1 c).1, (h.1 c).2.1, (h.1 c).2.2.1, (h.1 c).2.2.2.1, (h.1 c).2.2.2.2.1⟩, h.2⟩)
    (Cert.KernelIdeal.Hand.run_main (F := Ideal) m ρ)

/-- The reference ends with its arguments unchanged; it has no counter. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The rewrites from the kernel to its idealization: each is its rule's statement at its shapes. -/
theorem preserves : Cert.preserves_Kernel_KernelIdeal :=
  ⟨IdealRules.bf16_pair.bufferStatement _ _, IdealRules.bf16_pair.statement _ _, IdealRules.bf16_pair.statement _ _,
    IdealRules.bf16_pair.statement _ _, IdealRules.bf16_pair.statement _ _⟩

/-- The kernel finds the activations with their unit axis dropped. -/
theorem entry_x (m : (ℓ : Loc Cert.KernelIdeal.nD Cert.KernelIdeal.τ Cert.KernelIdeal.sig) → Buf (Elt Ideal) ℓ) (c : Dev Cert.KernelIdeal.nD) :
    Cert.KernelIdeal.Gen.V m c Cert.KernelIdeal.main_v0
      = shapeCast Cert.ReferenceIdeal.S128x27648 (m ((c.tc : Thread Cert.KernelIdeal.nD Cert.KernelIdeal.τ).loc Cert.KernelIdeal.main_arg0)) Cert.ReferenceIdeal.Gen.shapeCasts_S128x1x27648_S128x27648 := by
  show StableHlo.after Cert.KernelIdeal.Gen.hostOps0 _ _ = _
  simp only [Cert.KernelIdeal.Gen.hostOps0, List.flatten_cons, List.flatten_nil, List.append_nil, List.cons_append, List.nil_append]
  rfl

/-- From the same arguments the reference's result is the kernel's. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Value.res_main_v59 (F := Ideal) m' c = Cert.KernelIdeal.Hand.OT (Cert.KernelIdeal.Hand.inOf (F := Ideal) m c) := by
  rw [Cert.ReferenceIdeal.Hand.res_eq, h0, h1, h2, h3, h4, ← Cert.ReferenceIdeal.Hand.res_ot]
  unfold Cert.KernelIdeal.Hand.inOf
  dsimp only
  rw [entry_x, Cert.KernelIdeal.Gen.V_main_arg1, Cert.KernelIdeal.Gen.V_main_arg2, Cert.KernelIdeal.Gen.V_main_arg3, Cert.KernelIdeal.Gen.V_main_arg4]

/-- The idealized kernel and the reference end with the same result. -/
theorem algebraic : Cert.algebraic_KernelIdeal_ReferenceIdeal := fun m g m' g' _ hag =>
  ⟨fun c => Cert.KernelIdeal.Hand.OT (Cert.KernelIdeal.Hand.inOf (F := Ideal) m c),
    (θ_run Cert.KernelIdeal.defs _ _).mono (fun _ h c => ⟨(h.1 c).2.2.2.2.2, (h.1 c).1, (h.1 c).2.1, (h.1 c).2.2.1, (h.1 c).2.2.2.1, (h.1 c).2.2.2.2.1⟩)
      (Cert.KernelIdeal.Hand.run_main (F := Ideal) m g),
    (θ_run Cert.ReferenceIdeal.defs _ _).mono
      (fun _ h c => ⟨(h c).1.trans (results_eq m m' c (hag c).1 (hag c).2.1 (hag c).2.2.1 (hag c).2.2.2.1 (hag c).2.2.2.2), (h c).2⟩)
      (Cert.ReferenceIdeal.Value.run (F := Ideal) m' g')⟩

theorem claim : Cert.Claim := ⟨Cert.Kernel.Gen.facts, Cert.KernelIdeal.Gen.facts, Cert.ReferenceIdeal.Gen.facts,
  frame_p, frame_pi, frame_ri, preserves, algebraic⟩

end Cert.Proof

end
